-- ==== Defs.lean ====
def Pre_Kernel [hPre_symbols_in_range : Cert.Pre_symbols_in_range.Facts] (m : (ℓ : Loc Cert.Kernel.nD Cert.Kernel.τ Cert.Kernel.sig) → Buf (Elt Bits) ℓ) : Prop :=
  ∀ c : Dev Cert.Kernel.nD,
    (Cert.Pre_symbols_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_symbols_in_range : Cert.Pre_symbols_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_symbols_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_symbols_in_range : Cert.Pre_symbols_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_symbols_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_symbols_in_range : Cert.Pre_symbols_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_symbols_in_range : Cert.Pre_symbols_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] [hPre_symbols_in_range : Cert.Pre_symbols_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_symbols_in_range : Cert.Pre_symbols_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v101)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v101) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_symbols_in_range : Cert.Pre_symbols_in_range.Facts),
    quiescent_Kernel (hKernel := hKernel) (hPre_symbols_in_range := hPre_symbols_in_range)
    ∧ quiescent_KernelIdeal (hKernelIdeal := hKernelIdeal) (hPre_symbols_in_range := hPre_symbols_in_range)
    ∧ quiescent_ReferenceIdeal (hReferenceIdeal := hReferenceIdeal) (hPre_symbols_in_range := hPre_symbols_in_range)
    ∧ preserves_Kernel_KernelIdeal
    ∧ algebraic_KernelIdeal_ReferenceIdeal (hKernelIdeal := hKernelIdeal) (hReferenceIdeal := hReferenceIdeal) (hPre_symbols_in_range := hPre_symbols_in_range)
-- ==== Pre_symbols_in_range.lean ====
abbrev S2048 : Shape := ⟨1, ![2048]⟩
abbrev S8192x8192 : Shape := ⟨2, ![8192, 8192]⟩
abbrev S8192 : Shape := ⟨1, ![8192]⟩
abbrev S2048x8192 : Shape := ⟨2, ![2048, 8192]⟩
abbrev S_ : Shape := ⟨0, ![]⟩

class Facts : Prop where
  bcast_S_S2048 : S_.BroadcastsInDim S2048 (![] : Fin 0 → Fin S2048.rank)
  reducesTo_S2048_S_d0 : S2048.ReducesTo [0] S_
  h_S_ : 0 < S_.numel

variable [Facts]

def fn {F : FTy → Type} [FloatOps F] (main_arg0 : IVec S2048 32) (main_arg1 : IVec S2048 1) (main_arg2 : FVec F S8192x8192 .f32) (main_arg3 : FVec F S8192 .f32) (main_arg4 : FVec F S2048x8192 .f32) (main_arg5 : FVec F S2048x8192 .f32) : IVec S_ 1 :=
  let main_c : IVec S_ 32 := constantI S_ 32 0#32
  let main_v0 : IVec S2048 32 := broadcastInDim S2048 ![] bcast_S_S2048 main_c
  let main_v1 : IVec S2048 1 := cmpi .sge main_arg0 main_v0
  let main_c_0 : IVec S_ 32 := constantI S_ 32 8192#32
  let main_v2 : IVec S2048 32 := broadcastInDim S2048 ![] bcast_S_S2048 main_c_0
  let main_v3 : IVec S2048 1 := cmpi .slt main_arg0 main_v2
  let main_v4 : IVec S2048 1 := andi main_v1 main_v3
  let main_c_1 : IVec S_ 1 := constantI S_ 1 1#1
  let main_v5 : IVec S_ 1 := (fun x v => Host.reduce IntOp.andi x v reducesTo_S2048_S_d0 h_S_) main_v4 main_c_1
  main_v5
-- ==== Kernel.lean ====
abbrev S2048 : Shape := ⟨1, ![2048]⟩
abbrev S8192x8192 : Shape := ⟨2, ![8192, 8192]⟩
abbrev S8192 : Shape := ⟨1, ![8192]⟩
abbrev S2048x8192 : Shape := ⟨2, ![2048, 8192]⟩
abbrev S1 : Shape := ⟨1, ![1]⟩
abbrev S2048x8x1024 : Shape := ⟨3, ![2048, 8, 1024]⟩
abbrev S_ : Shape := ⟨0, ![]⟩
abbrev S2047 : Shape := ⟨1, ![2047]⟩
abbrev S2048x1 : Shape := ⟨2, ![2048, 1]⟩
abbrev S1024 : Shape := ⟨1, ![1024]⟩
abbrev S1024x1 : Shape := ⟨2, ![1024, 1]⟩
abbrev S67108864 : Shape := ⟨1, ![67108864]⟩
abbrev S1x8192 : Shape := ⟨2, ![1, 8192]⟩
abbrev S1024x8192 : Shape := ⟨2, ![1024, 8192]⟩
abbrev S8388608 : Shape := ⟨1, ![8388608]⟩
abbrev S1x8x1024 : Shape := ⟨3, ![1, 8, 1024]⟩
abbrev S1024x8x1024 : Shape := ⟨3, ![1024, 8, 1024]⟩
abbrev S8192x1x8192 : Shape := ⟨3, ![8192, 1, 8192]⟩
abbrev S2048x128 : Shape := ⟨2, ![2048, 128]⟩
abbrev S1x1x8192 : Shape := ⟨3, ![1, 1, 8192]⟩
abbrev S8x128 : Shape := ⟨2, ![8, 128]⟩
abbrev S8x1024 : Shape := ⟨2, ![8, 1024]⟩
abbrev S1x1x1 : Shape := ⟨3, ![1, 1, 1]⟩
abbrev S128 : Shape := ⟨1, ![128]⟩
abbrev S1x128 : Shape := ⟨2, ![1, 128]⟩
abbrev S1024x128 : Shape := ⟨2, ![1024, 128]⟩
abbrev S8x8x1024 : Shape := ⟨3, ![8, 8, 1024]⟩
abbrev S1x1 : Shape := ⟨2, ![1, 1]⟩

abbrev nBuf : Table → Nat
  | .hbm => 175
  | .local .tc .vmem => 71
  | .local .tc .smem => 7
  | .local .scVector .vmem => 2
  | _ => 0

abbrev hbmTy0_0 (i : Nat) : BufTy := match i % 128 with
  | 0 => ⟨S2048, .i32⟩
  | 1 => ⟨S2048, .i1⟩
  | 2 => ⟨S8192x8192, .f32⟩
  | 3 => ⟨S8192, .f32⟩
  | 4 => ⟨S2048x8192, .f32⟩
  | 5 => ⟨S2048x8192, .f32⟩
  | 6 => ⟨S1, .i1⟩
  | 7 => ⟨S1, .i1⟩
  | 8 => ⟨S2048x8x1024, .f32⟩
  | 9 => ⟨S2048x8x1024, .f32⟩
  | 10 => ⟨S_, .i32⟩
  | 11 => ⟨S1, .i32⟩
  | 12 => ⟨S2047, .i32⟩
  | 13 => ⟨S2048, .i32⟩
  | 14 => ⟨S2047, .i1⟩
  | 15 => ⟨S2047, .i1⟩
  | 16 => ⟨S2048, .i1⟩
  | 17 => ⟨S2047, .i32⟩
  | 18 => ⟨S_, .i32⟩
  | 19 => ⟨S1, .i32⟩
  | 20 => ⟨S2048, .i32⟩
  | 21 => ⟨S2047, .i1⟩
  | 22 => ⟨S2047, .i1⟩
  | 23 => ⟨S2048, .i1⟩
  | 24 => ⟨S2048, .i1⟩
  | 25 => ⟨S2048, .i1⟩
  | 26 => ⟨S2048, .i1⟩
  | 27 => ⟨S2048, .i32⟩
  | 28 => ⟨S2048, .i1⟩
  | 29 => ⟨S2048, .i32⟩
  | 30 => ⟨S2048, .i32⟩
  | 31 => ⟨S_, .i32⟩
  | 32 => ⟨S_, .i32⟩
  | 33 => ⟨S2048, .i32⟩
  | 34 => ⟨S2048, .i32⟩
  | 35 => ⟨S2048, .i1⟩
  | 36 => ⟨S1, .i32⟩
  | 37 => ⟨S_, .i32⟩
  | 38 => ⟨S2048, .i32⟩
  | 39 => ⟨S_, .i32⟩
  | 40 => ⟨S2048, .i32⟩
  | 41 => ⟨S2048, .i1⟩
  | 42 => ⟨S_, .i32⟩
  | 43 => ⟨S2048, .i32⟩
  | 44 => ⟨S2048, .i32⟩
  | 45 => ⟨S2048, .i32⟩
  | 46 => ⟨S2048x1, .i32⟩
  | 47 => ⟨S2048, .i1⟩
  | 48 => ⟨S_, .i32⟩
  | 49 => ⟨S2048, .i32⟩
  | 50 => ⟨S2048, .i1⟩
  | 51 => ⟨S_, .i32⟩
  | 52 => ⟨S2048, .i32⟩
  | 53 => ⟨S2048, .i1⟩
  | 54 => ⟨S_, .i32⟩
  | 55 => ⟨S2048, .i32⟩
  | 56 => ⟨S2048, .i32⟩
  | 57 => ⟨S2048, .i32⟩
  | 58 => ⟨S2048x1, .i32⟩
  | 59 => ⟨S2048, .i32⟩
  | 60 => ⟨S_, .i32⟩
  | 61 => ⟨S_, .i32⟩
  | 62 => ⟨S2048, .i32⟩
  | 63 => ⟨S2048, .i32⟩
  | 64 => ⟨S2048, .i32⟩
  | 65 => ⟨S2048, .i32⟩
  | 66 => ⟨S2048, .i1⟩
  | 67 => ⟨S2048, .i32⟩
  | 68 => ⟨S2048, .i1⟩
  | 69 => ⟨S2048, .i32⟩
  | 70 => ⟨S2048, .i32⟩
  | 71 => ⟨S_, .i32⟩
  | 72 => ⟨S_, .i32⟩
  | 73 => ⟨S1024, .i32⟩
  | 74 => ⟨S1024, .i32⟩
  | 75 => ⟨S1024, .i32⟩
  | 76 => ⟨S1024, .i1⟩
  | 77 => ⟨S1, .i32⟩
  | 78 => ⟨S_, .i32⟩
  | 79 => ⟨S1024, .i32⟩
  | 80 => ⟨S_, .i32⟩
  | 81 => ⟨S1024, .i32⟩
  | 82 => ⟨S1024, .i1⟩
  | 83 => ⟨S_, .i32⟩
  | 84 => ⟨S1024, .i32⟩
  | 85 => ⟨S1024, .i32⟩
  | 86 => ⟨S1024, .i32⟩
  | 87 => ⟨S1024x1, .i32⟩
  | 88 => ⟨S_, .i32⟩
  | 89 => ⟨S1024, .i32⟩
  | 90 => ⟨S1024, .i1⟩
  | 91 => ⟨S_, .i32⟩
  | 92 => ⟨S1024, .i32⟩
  | 93 => ⟨S1024, .i32⟩
  | 94 => ⟨S1024, .i32⟩
  | 95 => ⟨S1024x1, .i32⟩
  | 96 => ⟨S1024, .i32⟩
  | 97 => ⟨S2048, .i32⟩
  | 98 => ⟨S2048, .i32⟩
  | 99 => ⟨S2048, .i32⟩
  | 100 => ⟨S67108864, .f32⟩
  | 101 => ⟨S8192, .i32⟩
  | 102 => ⟨S1024x1, .i1⟩
  | 103 => ⟨S1024x1, .i32⟩
  | 104 => ⟨S_, .i32⟩
  | 105 => ⟨S8192, .i32⟩
  | 106 => ⟨S8192, .i32⟩
  | 107 => ⟨S1x8192, .i32⟩
  | 108 => ⟨S1024x8192, .i32⟩
  | 109 => ⟨S1024x8192, .i32⟩
  | 110 => ⟨S1024x8192, .i32⟩
  | 111 => ⟨S1x8192, .i32⟩
  | 112 => ⟨S1024x8192, .i1⟩
  | 113 => ⟨S1024x8192, .i32⟩
  | 114 => ⟨S1024x8192, .i32⟩
  | 115 => ⟨S8388608, .i32⟩
  | 116 => ⟨S8388608, .f32⟩
  | 117 => ⟨S1x8x1024, .f32⟩
  | 118 => ⟨S1024x8x1024, .f32⟩
  | 119 => ⟨S8192x1x8192, .f32⟩
  | 120 => ⟨S2048x128, .i32⟩
  | 121 => ⟨S2048x1, .i32⟩
  | 122 => ⟨S2048, .i32⟩
  | 123 => ⟨S1024x128, .i32⟩
  | 124 => ⟨S1024x1, .i32⟩
  | 125 => ⟨S1024, .i32⟩
  | 126 => ⟨S_, .i32⟩
  | 127 => ⟨S2048, .i32⟩
  | _ => ⟨S2048, .i32⟩

abbrev hbmTy0_1 (i : Nat) : BufTy := match i % 128 with
  | 0 => ⟨S2048, .i1⟩
  | 1 => ⟨S_, .i32⟩
  | 2 => ⟨S2048, .i32⟩
  | 3 => ⟨S2048, .i32⟩
  | 4 => ⟨S2048, .i32⟩
  | 5 => ⟨S2048x1, .i32⟩
  | 6 => ⟨S1, .i32⟩
  | 7 => ⟨S_, .i32⟩
  | 8 => ⟨S2048x1, .i32⟩
  | 9 => ⟨S2048x1, .i1⟩
  | 10 => ⟨S1x1, .i32⟩
  | 11 => ⟨S2048x1, .i32⟩
  | 12 => ⟨S2048x1, .i1⟩
  | 13 => ⟨S2048x1, .i1⟩
  | 14 => ⟨S_, .i1⟩
  | 15 => ⟨S2048, .i1⟩
  | 16 => ⟨S2048, .i32⟩
  | 17 => ⟨S_, .i32⟩
  | 18 => ⟨S2048, .i32⟩
  | 19 => ⟨S2048, .i32⟩
  | 20 => ⟨S_, .i32⟩
  | 21 => ⟨S2048, .i32⟩
  | 22 => ⟨S2048, .i32⟩
  | 23 => ⟨S_, .i32⟩
  | 24 => ⟨S2048, .i32⟩
  | 25 => ⟨S2048, .i1⟩
  | 26 => ⟨S_, .i32⟩
  | 27 => ⟨S2048, .i32⟩
  | 28 => ⟨S2048, .i32⟩
  | 29 => ⟨S2048, .i32⟩
  | 30 => ⟨S2048x1, .i32⟩
  | 31 => ⟨S1, .i32⟩
  | 32 => ⟨S_, .i32⟩
  | 33 => ⟨S2048x1, .i32⟩
  | 34 => ⟨S2048x1, .i1⟩
  | 35 => ⟨S1x1, .i32⟩
  | 36 => ⟨S2048x1, .i32⟩
  | 37 => ⟨S2048x1, .i1⟩
  | 38 => ⟨S2048x1, .i1⟩
  | 39 => ⟨S_, .i1⟩
  | 40 => ⟨S2048, .i1⟩
  | 41 => ⟨S2048, .i32⟩
  | 42 => ⟨S_, .i32⟩
  | 43 => ⟨S2048, .i32⟩
  | 44 => ⟨S2048, .i32⟩
  | 45 => ⟨S2048, .i32⟩
  | 46 => ⟨S2048, .i32⟩
  | _ => ⟨S2048, .i32⟩

abbrev hbmTy (i : Nat) : BufTy := match i / 128 with
  | 0 => hbmTy0_0 i
  | 1 => hbmTy0_1 i
  | _ => ⟨S2048, .i32⟩

abbrev bufTy : (tb : Table) → Fin (nBuf tb) → BufTy
  | .hbm, ⟨i, _⟩ => hbmTy i
  | .local .tc .vmem, ⟨0, _⟩ => ⟨S1x1x8192, .f32⟩
  | .local .tc .vmem, ⟨1, _⟩ => ⟨S1x1x8192, .f32⟩
  | .local .tc .vmem, ⟨2, _⟩ => ⟨S1x1x8192, .f32⟩
  | .local .tc .vmem, ⟨3, _⟩ => ⟨S1x1x8192, .f32⟩
  | .local .tc .vmem, ⟨4, _⟩ => ⟨S1x1x8192, .f32⟩
  | .local .tc .vmem, ⟨5, _⟩ => ⟨S1x1x8192, .f32⟩
  | .local .tc .vmem, ⟨6, _⟩ => ⟨S1x1x8192, .f32⟩
  | .local .tc .vmem, ⟨7, _⟩ => ⟨S1x1x8192, .f32⟩
  | .local .tc .vmem, ⟨8, _⟩ => ⟨S1x1x8192, .f32⟩
  | .local .tc .vmem, ⟨9, _⟩ => ⟨S1x1x8192, .f32⟩
  | .local .tc .vmem, ⟨10, _⟩ => ⟨S1x1x8192, .f32⟩
  | .local .tc .vmem, ⟨11, _⟩ => ⟨S1x1x8192, .f32⟩
  | .local .tc .vmem, ⟨12, _⟩ => ⟨S1x1x8192, .f32⟩
  | .local .tc .vmem, ⟨13, _⟩ => ⟨S1x1x8192, .f32⟩
  | .local .tc .vmem, ⟨14, _⟩ => ⟨S1x1x8192, .f32⟩
  | .local .tc .vmem, ⟨15, _⟩ => ⟨S1x1x8192, .f32⟩
  | .local .tc .vmem, ⟨16, _⟩ => ⟨S1x8x1024, .f32⟩
  | .local .tc .vmem, ⟨17, _⟩ => ⟨S1x8x1024, .f32⟩
  | .local .tc .vmem, ⟨18, _⟩ => ⟨S1x8x1024, .f32⟩
  | .local .tc .vmem, ⟨19, _⟩ => ⟨S1x8x1024, .f32⟩
  | .local .tc .vmem, ⟨20, _⟩ => ⟨S1x8x1024, .f32⟩
  | .local .tc .vmem, ⟨21, _⟩ => ⟨S1x8x1024, .f32⟩
  | .local .tc .vmem, ⟨22, _⟩ => ⟨S1x8x1024, .f32⟩
  | .local .tc .vmem, ⟨23, _⟩ => ⟨S1x8x1024, .f32⟩
  | .local .tc .vmem, ⟨24, _⟩ => ⟨S1x8x1024, .f32⟩
  | .local .tc .vmem, ⟨25, _⟩ => ⟨S1x8x1024, .f32⟩
  | .local .tc .vmem, ⟨26, _⟩ => ⟨S1x8x1024, .f32⟩
  | .local .tc .vmem, ⟨27, _⟩ => ⟨S1x8x1024, .f32⟩
  | .local .tc .vmem, ⟨28, _⟩ => ⟨S1x8x1024, .f32⟩
  | .local .tc .vmem, ⟨29, _⟩ => ⟨S1x8x1024, .f32⟩
  | .local .tc .vmem, ⟨30, _⟩ => ⟨S1x8x1024, .f32⟩
  | .local .tc .vmem, ⟨31, _⟩ => ⟨S1x8x1024, .f32⟩
  | .local .tc .vmem, ⟨32, _⟩ => ⟨S1x8x1024, .f32⟩
  | .local .tc .vmem, ⟨33, _⟩ => ⟨S8x128, .i32⟩
  | .local .tc .vmem, ⟨34, _⟩ => ⟨S8x128, .i32⟩
  | .local .tc .vmem, ⟨35, _⟩ => ⟨S1x1x8192, .f32⟩
  | .local .tc .vmem, ⟨36, _⟩ => ⟨S1x1x8192, .f32⟩
  | .local .tc .vmem, ⟨37, _⟩ => ⟨S1x1x8192, .f32⟩
  | .local .tc .vmem, ⟨38, _⟩ => ⟨S1x1x8192, .f32⟩
  | .local .tc .vmem, ⟨39, _⟩ => ⟨S1x1x8192, .f32⟩
  | .local .tc .vmem, ⟨40, _⟩ => ⟨S1x1x8192, .f32⟩
  | .local .tc .vmem, ⟨41, _⟩ => ⟨S1x1x8192, .f32⟩
  | .local .tc .vmem, ⟨42, _⟩ => ⟨S1x1x8192, .f32⟩
  | .local .tc .vmem, ⟨43, _⟩ => ⟨S1x1x8192, .f32⟩
  | .local .tc .vmem, ⟨44, _⟩ => ⟨S1x1x8192, .f32⟩
  | .local .tc .vmem, ⟨45, _⟩ => ⟨S1x1x8192, .f32⟩
  | .local .tc .vmem, ⟨46, _⟩ => ⟨S1x1x8192, .f32⟩
  | .local .tc .vmem, ⟨47, _⟩ => ⟨S1x1x8192, .f32⟩
  | .local .tc .vmem, ⟨48, _⟩ => ⟨S1x1x8192, .f32⟩
  | .local .tc .vmem, ⟨49, _⟩ => ⟨S1x1x8192, .f32⟩
  | .local .tc .vmem, ⟨50, _⟩ => ⟨S1x1x8192, .f32⟩
  | .local .tc .vmem, ⟨51, _⟩ => ⟨S8x8x1024, .f32⟩
  | .local .tc .vmem, ⟨52, _⟩ => ⟨S8x8x1024, .f32⟩
  | .local .tc .vmem, ⟨53, _⟩ => ⟨S1x8x1024, .f32⟩
  | .local .tc .vmem, ⟨54, _⟩ => ⟨S1x8x1024, .f32⟩
  | .local .tc .vmem, ⟨55, _⟩ => ⟨S1x8x1024, .f32⟩
  | .local .tc .vmem, ⟨56, _⟩ => ⟨S1x8x1024, .f32⟩
  | .local .tc .vmem, ⟨57, _⟩ => ⟨S1x8x1024, .f32⟩
  | .local .tc .vmem, ⟨58, _⟩ => ⟨S1x8x1024, .f32⟩
  | .local .tc .vmem, ⟨59, _⟩ => ⟨S1x8x1024, .f32⟩
  | .local .tc .vmem, ⟨60, _⟩ => ⟨S1x8x1024, .f32⟩
  | .local .tc .vmem, ⟨61, _⟩ => ⟨S1x8x1024, .f32⟩
  | .local .tc .vmem, ⟨62, _⟩ => ⟨S1x8x1024, .f32⟩
  | .local .tc .vmem, ⟨63, _⟩ => ⟨S1x8x1024, .f32⟩
  | .local .tc .vmem, ⟨64, _⟩ => ⟨S1x8x1024, .f32⟩
  | .local .tc .vmem, ⟨65, _⟩ => ⟨S1x8x1024, .f32⟩
  | .local .tc .vmem, ⟨66, _⟩ => ⟨S1x8x1024, .f32⟩
  | .local .tc .vmem, ⟨67, _⟩ => ⟨S1x8x1024, .f32⟩
  | .local .tc .vmem, ⟨68, _⟩ => ⟨S1x8x1024, .f32⟩
  | .local .tc .vmem, ⟨69, _⟩ => ⟨S8x128, .i32⟩
  | .local .tc .vmem, ⟨70, _⟩ => ⟨S8x128, .i32⟩
  | .local .tc .smem, ⟨0, _⟩ => ⟨S2048, .i32⟩
  | .local .tc .smem, ⟨1, _⟩ => ⟨S2048, .i32⟩
  | .local .tc .smem, ⟨2, _⟩ => ⟨S2048, .i32⟩
  | .local .tc .smem, ⟨3, _⟩ => ⟨S1, .i32⟩
  | .local .tc .smem, ⟨4, _⟩ => ⟨S1024, .i32⟩
  | .local .tc .smem, ⟨5, _⟩ => ⟨S1024, .i32⟩
  | .local .tc .smem, ⟨6, _⟩ => ⟨S1, .i32⟩
  | .local .scVector .vmem, ⟨0, _⟩ => ⟨S8192, .i32⟩
  | .local .scVector .vmem, ⟨1, _⟩ => ⟨S8192, .f32⟩
  | _, _ => ⟨S2048, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 74 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | _ => false

abbrev sig : RefSig :=
  ofTables nBuf rfl bufTy 4 74 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_v0 : Ref sig .tc := ⟨.hbm, 8, rfl⟩
abbrev main_v1 : Ref sig .tc := ⟨.hbm, 9, rfl⟩
abbrev main_c_1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_v0 : Ref sig .tc := ⟨.hbm, 27, rfl⟩
abbrev main_call0_v1_0 : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_call1_v0 : Ref sig .tc := ⟨.hbm, 38, rfl⟩
abbrev main_c_4 : Ref sig .tc := ⟨.hbm, 39, rfl⟩
abbrev main_v26 : Ref sig .tc := ⟨.hbm, 40, rfl⟩
abbrev main_v27 : Ref sig .tc := ⟨.hbm, 41, rfl⟩
abbrev main_c_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_6 : Ref sig .tc := ⟨.hbm, 48, rfl⟩
abbrev main_v34 : Ref sig .tc := ⟨.hbm, 49, rfl⟩
abbrev main_v35 : Ref sig .tc := ⟨.hbm, 50, rfl⟩
abbrev main_c_7 : Ref sig .tc := ⟨.hbm, 51, rfl⟩
abbrev main_v36 : Ref sig .tc := ⟨.hbm, 52, rfl⟩
abbrev main_v37 : Ref sig .tc := ⟨.hbm, 53, rfl⟩
abbrev main_c_8 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_c_9 : Ref sig .tc := ⟨.hbm, 60, rfl⟩
abbrev main_call2_v0 : Ref sig .tc := ⟨.hbm, 61, rfl⟩
abbrev main_call2_v1 : Ref sig .tc := ⟨.hbm, 62, rfl⟩
abbrev main_call3_v0 : Ref sig .tc := ⟨.hbm, 63, rfl⟩
abbrev main_call3_v1_0 : Ref sig .tc := ⟨.hbm, 64, rfl⟩
abbrev main_v44 : Ref sig .tc := ⟨.hbm, 65, rfl⟩
abbrev main_v45 : Ref sig .tc := ⟨.hbm, 66, rfl⟩
abbrev main_call4_v0 : Ref sig .tc := ⟨.hbm, 67, rfl⟩
abbrev main_call4_v1_0 : Ref sig .tc := ⟨.hbm, 68, rfl⟩
abbrev main_v46 : Ref sig .tc := ⟨.hbm, 69, rfl⟩
abbrev main_v47 : Ref sig .tc := ⟨.hbm, 70, rfl⟩
abbrev main_c_10 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_call5_v0 : Ref sig .tc := ⟨.hbm, 79, rfl⟩
abbrev main_c_11 : Ref sig .tc := ⟨.hbm, 80, rfl⟩
abbrev main_v56 : Ref sig .tc := ⟨.hbm, 81, rfl⟩
abbrev main_v57 : Ref sig .tc := ⟨.hbm, 82, rfl⟩
abbrev main_c_12 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_c_13 : Ref sig .tc := ⟨.hbm, 88, rfl⟩
abbrev main_v63 : Ref sig .tc := ⟨.hbm, 89, rfl⟩
abbrev main_v64 : Ref sig .tc := ⟨.hbm, 90, rfl⟩
abbrev main_c_14 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_call6_v0 : Ref sig .tc := ⟨.hbm, 97, rfl⟩
abbrev main_call6_v1_0 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_c_15 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_call7_v0 : Ref sig .tc := ⟨.hbm, 112, rfl⟩
abbrev main_call7_v1 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_call8_c : Ref sig .tc := ⟨.hbm, 126, rfl⟩
abbrev main_call8_v0 : Ref sig .tc := ⟨.hbm, 127, rfl⟩
abbrev main_call8_v1 : Ref sig .tc := ⟨.hbm, 128, rfl⟩
abbrev main_call8_c_0 : Ref sig .tc := ⟨.hbm, 129, rfl⟩
abbrev main_call8_v2 : Ref sig .tc := ⟨.hbm, 130, rfl⟩
abbrev main_call8_v3 : Ref sig .tc := ⟨.hbm, 131, rfl⟩
abbrev main_call8_v4 : Ref sig .tc := ⟨.hbm, 132, rfl⟩
abbrev main_call8_v5 : Ref sig .tc := ⟨.hbm, 133, rfl⟩
abbrev main_call8_c_1 : Ref sig .tc := ⟨.hbm, 134, rfl⟩
abbrev main_call8_c_2 : Ref sig .tc := ⟨.hbm, 135, rfl⟩
abbrev main_call8_v6 : Ref sig .tc := ⟨.hbm, 136, rfl⟩
abbrev main_call8_v7 : Ref sig .tc := ⟨.hbm, 137, rfl⟩
abbrev main_call8_v8 : Ref sig .tc := ⟨.hbm, 138, rfl⟩
abbrev main_call8_v9 : Ref sig .tc := ⟨.hbm, 139, rfl⟩
abbrev main_call8_v10 : Ref sig .tc := ⟨.hbm, 140, rfl⟩
abbrev main_call8_v11 : Ref sig .tc := ⟨.hbm, 141, rfl⟩
abbrev main_call8_c_3 : Ref sig .tc := ⟨.hbm, 142, rfl⟩
abbrev main_call8_v12 : Ref sig .tc := ⟨.hbm, 143, rfl⟩
abbrev main_call8_v13 : Ref sig .tc := ⟨.hbm, 144, rfl⟩
abbrev main_call8_c_4 : Ref sig .tc := ⟨.hbm, 145, rfl⟩
abbrev main_call8_v14 : Ref sig .tc := ⟨.hbm, 146, rfl⟩
abbrev main_v96 : Ref sig .tc := ⟨.hbm, 147, rfl⟩
abbrev main_c_16 : Ref sig .tc := ⟨.hbm, 148, rfl⟩
abbrev main_v97 : Ref sig .tc := ⟨.hbm, 149, rfl⟩
abbrev main_v98 : Ref sig .tc := ⟨.hbm, 150, rfl⟩
abbrev main_call9_c : Ref sig .tc := ⟨.hbm, 151, rfl⟩
abbrev main_call9_v0 : Ref sig .tc := ⟨.hbm, 152, rfl⟩
abbrev main_call9_v1 : Ref sig .tc := ⟨.hbm, 153, rfl⟩
abbrev main_call9_c_0 : Ref sig .tc := ⟨.hbm, 154, rfl⟩
abbrev main_call9_v2 : Ref sig .tc := ⟨.hbm, 155, rfl⟩
abbrev main_call9_v3 : Ref sig .tc := ⟨.hbm, 156, rfl⟩
abbrev main_call9_v4 : Ref sig .tc := ⟨.hbm, 157, rfl⟩
abbrev main_call9_v5 : Ref sig .tc := ⟨.hbm, 158, rfl⟩
abbrev main_call9_c_1 : Ref sig .tc := ⟨.hbm, 159, rfl⟩
abbrev main_call9_c_2 : Ref sig .tc := ⟨.hbm, 160, rfl⟩
abbrev main_call9_v6 : Ref sig .tc := ⟨.hbm, 161, rfl⟩
abbrev main_call9_v7 : Ref sig .tc := ⟨.hbm, 162, rfl⟩
abbrev main_call9_v8 : Ref sig .tc := ⟨.hbm, 163, rfl⟩
abbrev main_call9_v9 : Ref sig .tc := ⟨.hbm, 164, rfl⟩
abbrev main_call9_v10 : Ref sig .tc := ⟨.hbm, 165, rfl⟩
abbrev main_call9_v11 : Ref sig .tc := ⟨.hbm, 166, rfl⟩
abbrev main_call9_c_3 : Ref sig .tc := ⟨.hbm, 167, rfl⟩
abbrev main_call9_v12 : Ref sig .tc := ⟨.hbm, 168, rfl⟩
abbrev main_call9_v13 : Ref sig .tc := ⟨.hbm, 169, rfl⟩
abbrev main_call9_c_4 : Ref sig .tc := ⟨.hbm, 170, rfl⟩
abbrev main_call9_v14 : Ref sig .tc := ⟨.hbm, 171, rfl⟩
abbrev main_v99 : Ref sig .tc := ⟨.hbm, 172, rfl⟩
abbrev main_v100 : Ref sig .tc := ⟨.hbm, 173, rfl⟩
abbrev main_v101 : Ref sig .tc := ⟨.hbm, 174, rfl⟩
abbrev main_v25 : Ref sig .tc := ⟨.smem, 0, rfl⟩
abbrev main_v43 : Ref sig .tc := ⟨.smem, 1, rfl⟩
abbrev main_v33 : Ref sig .tc := ⟨.smem, 2, rfl⟩
abbrev main_v88 : Ref sig .tc := ⟨.smem, 3, rfl⟩
abbrev main_v55 : Ref sig .tc := ⟨.smem, 4, rfl⟩
abbrev main_v62 : Ref sig .tc := ⟨.smem, 5, rfl⟩
abbrev main_v92 : Ref sig .tc := ⟨.smem, 6, rfl⟩
abbrev main_v71_scv : Ref sig .scVector := ⟨.hbm, 100, rfl⟩
abbrev main_v83_scv : Ref sig .scVector := ⟨.hbm, 115, rfl⟩
abbrev main_v84_scv : Ref sig .scVector := ⟨.hbm, 116, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc1_stg4_0 : Ref sig .tc := ⟨.vmem, 8, rfl⟩
abbrev cc1_stg4_1 : Ref sig .tc := ⟨.vmem, 9, rfl⟩
abbrev cc1_stg5_0 : Ref sig .tc := ⟨.vmem, 10, rfl⟩
abbrev cc1_stg5_1 : Ref sig .tc := ⟨.vmem, 11, rfl⟩
abbrev cc1_stg6_0 : Ref sig .tc := ⟨.vmem, 12, rfl⟩
abbrev cc1_stg6_1 : Ref sig .tc := ⟨.vmem, 13, rfl⟩
abbrev cc1_stg7_0 : Ref sig .tc := ⟨.vmem, 14, rfl⟩
abbrev cc1_stg7_1 : Ref sig .tc := ⟨.vmem, 15, rfl⟩
abbrev cc1_stg8_0 : Ref sig .tc := ⟨.vmem, 16, rfl⟩
abbrev cc1_stg8_1 : Ref sig .tc := ⟨.vmem, 17, rfl⟩
abbrev cc1_stg9_0 : Ref sig .tc := ⟨.vmem, 18, rfl⟩
abbrev cc1_stg9_1 : Ref sig .tc := ⟨.vmem, 19, rfl⟩
abbrev cc1_stg10_0 : Ref sig .tc := ⟨.vmem, 20, rfl⟩
abbrev cc1_stg10_1 : Ref sig .tc := ⟨.vmem, 21, rfl⟩
abbrev cc1_stg11_0 : Ref sig .tc := ⟨.vmem, 22, rfl⟩
abbrev cc1_stg11_1 : Ref sig .tc := ⟨.vmem, 23, rfl⟩
abbrev cc1_stg12_0 : Ref sig .tc := ⟨.vmem, 24, rfl⟩
abbrev cc1_stg12_1 : Ref sig .tc := ⟨.vmem, 25, rfl⟩
abbrev cc1_stg13_0 : Ref sig .tc := ⟨.vmem, 26, rfl⟩
abbrev cc1_stg13_1 : Ref sig .tc := ⟨.vmem, 27, rfl⟩
abbrev cc1_stg14_0 : Ref sig .tc := ⟨.vmem, 28, rfl⟩
abbrev cc1_stg14_1 : Ref sig .tc := ⟨.vmem, 29, rfl⟩
abbrev cc1_stg15_0 : Ref sig .tc := ⟨.vmem, 30, rfl⟩
abbrev cc1_stg15_1 : Ref sig .tc := ⟨.vmem, 31, rfl⟩
abbrev cc1_stg16_0 : Ref sig .tc := ⟨.vmem, 32, rfl⟩
abbrev cc1_stg17_0 : Ref sig .tc := ⟨.vmem, 33, rfl⟩
abbrev cc1_stg17_1 : Ref sig .tc := ⟨.vmem, 34, rfl⟩
abbrev cc2_stg0_0 : Ref sig .tc := ⟨.vmem, 35, rfl⟩
abbrev cc2_stg0_1 : Ref sig .tc := ⟨.vmem, 36, rfl⟩
abbrev cc2_stg1_0 : Ref sig .tc := ⟨.vmem, 37, rfl⟩
abbrev cc2_stg1_1 : Ref sig .tc := ⟨.vmem, 38, rfl⟩
abbrev cc2_stg2_0 : Ref sig .tc := ⟨.vmem, 39, rfl⟩
abbrev cc2_stg2_1 : Ref sig .tc := ⟨.vmem, 40, rfl⟩
abbrev cc2_stg3_0 : Ref sig .tc := ⟨.vmem, 41, rfl⟩
abbrev cc2_stg3_1 : Ref sig .tc := ⟨.vmem, 42, rfl⟩
abbrev cc2_stg4_0 : Ref sig .tc := ⟨.vmem, 43, rfl⟩
abbrev cc2_stg4_1 : Ref sig .tc := ⟨.vmem, 44, rfl⟩
abbrev cc2_stg5_0 : Ref sig .tc := ⟨.vmem, 45, rfl⟩
abbrev cc2_stg5_1 : Ref sig .tc := ⟨.vmem, 46, rfl⟩
abbrev cc2_stg6_0 : Ref sig .tc := ⟨.vmem, 47, rfl⟩
abbrev cc2_stg6_1 : Ref sig .tc := ⟨.vmem, 48, rfl⟩
abbrev cc2_stg7_0 : Ref sig .tc := ⟨.vmem, 49, rfl⟩
abbrev cc2_stg7_1 : Ref sig .tc := ⟨.vmem, 50, rfl⟩
abbrev cc2_stg8_0 : Ref sig .tc := ⟨.vmem, 51, rfl⟩
abbrev cc2_stg8_1 : Ref sig .tc := ⟨.vmem, 52, rfl⟩
abbrev cc2_stg9_0 : Ref sig .tc := ⟨.vmem, 53, rfl⟩
abbrev cc2_stg9_1 : Ref sig .tc := ⟨.vmem, 54, rfl⟩
abbrev cc2_stg10_0 : Ref sig .tc := ⟨.vmem, 55, rfl⟩
abbrev cc2_stg10_1 : Ref sig .tc := ⟨.vmem, 56, rfl⟩
abbrev cc2_stg11_0 : Ref sig .tc := ⟨.vmem, 57, rfl⟩
abbrev cc2_stg11_1 : Ref sig .tc := ⟨.vmem, 58, rfl⟩
abbrev cc2_stg12_0 : Ref sig .tc := ⟨.vmem, 59, rfl⟩
abbrev cc2_stg12_1 : Ref sig .tc := ⟨.vmem, 60, rfl⟩
abbrev cc2_stg13_0 : Ref sig .tc := ⟨.vmem, 61, rfl⟩
abbrev cc2_stg13_1 : Ref sig .tc := ⟨.vmem, 62, rfl⟩
abbrev cc2_stg14_0 : Ref sig .tc := ⟨.vmem, 63, rfl⟩
abbrev cc2_stg14_1 : Ref sig .tc := ⟨.vmem, 64, rfl⟩
abbrev cc2_stg15_0 : Ref sig .tc := ⟨.vmem, 65, rfl⟩
abbrev cc2_stg15_1 : Ref sig .tc := ⟨.vmem, 66, rfl⟩
abbrev cc2_stg16_0 : Ref sig .tc := ⟨.vmem, 67, rfl⟩
abbrev cc2_stg16_1 : Ref sig .tc := ⟨.vmem, 68, rfl⟩
abbrev cc2_stg17_0 : Ref sig .tc := ⟨.vmem, 69, rfl⟩
abbrev cc2_stg17_1 : Ref sig .tc := ⟨.vmem, 70, rfl⟩
abbrev cc0_scratch0 : Ref sig .scVector := ⟨.vmem, 0, rfl⟩
abbrev cc0_scratch1 : Ref sig .scVector := ⟨.vmem, 1, rfl⟩
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem2_1 : DmaSem sig := 8
abbrev cc1_sem3_0 : DmaSem sig := 9
abbrev cc1_sem3_1 : DmaSem sig := 10
abbrev cc1_sem4_0 : DmaSem sig := 11
abbrev cc1_sem4_1 : DmaSem sig := 12
abbrev cc1_sem5_0 : DmaSem sig := 13
abbrev cc1_sem5_1 : DmaSem sig := 14
abbrev cc1_sem6_0 : DmaSem sig := 15
abbrev cc1_sem6_1 : DmaSem sig := 16
abbrev cc1_sem7_0 : DmaSem sig := 17
abbrev cc1_sem7_1 : DmaSem sig := 18
abbrev cc1_sem8_0 : DmaSem sig := 19
abbrev cc1_sem8_1 : DmaSem sig := 20
abbrev cc1_sem9_0 : DmaSem sig := 21
abbrev cc1_sem9_1 : DmaSem sig := 22
abbrev cc1_sem10_0 : DmaSem sig := 23
abbrev cc1_sem10_1 : DmaSem sig := 24
abbrev cc1_sem11_0 : DmaSem sig := 25
abbrev cc1_sem11_1 : DmaSem sig := 26
abbrev cc1_sem12_0 : DmaSem sig := 27
abbrev cc1_sem12_1 : DmaSem sig := 28
abbrev cc1_sem13_0 : DmaSem sig := 29
abbrev cc1_sem13_1 : DmaSem sig := 30
abbrev cc1_sem14_0 : DmaSem sig := 31
abbrev cc1_sem14_1 : DmaSem sig := 32
abbrev cc1_sem15_0 : DmaSem sig := 33
abbrev cc1_sem15_1 : DmaSem sig := 34
abbrev cc1_sem16_0 : DmaSem sig := 35
abbrev cc1_sem17_0 : DmaSem sig := 36
abbrev cc1_sem17_1 : DmaSem sig := 37
abbrev cc2_sem0_0 : DmaSem sig := 38
abbrev cc2_sem0_1 : DmaSem sig := 39
abbrev cc2_sem1_0 : DmaSem sig := 40
abbrev cc2_sem1_1 : DmaSem sig := 41
abbrev cc2_sem2_0 : DmaSem sig := 42
abbrev cc2_sem2_1 : DmaSem sig := 43
abbrev cc2_sem3_0 : DmaSem sig := 44
abbrev cc2_sem3_1 : DmaSem sig := 45
abbrev cc2_sem4_0 : DmaSem sig := 46
abbrev cc2_sem4_1 : DmaSem sig := 47
abbrev cc2_sem5_0 : DmaSem sig := 48
abbrev cc2_sem5_1 : DmaSem sig := 49
abbrev cc2_sem6_0 : DmaSem sig := 50
abbrev cc2_sem6_1 : DmaSem sig := 51
abbrev cc2_sem7_0 : DmaSem sig := 52
abbrev cc2_sem7_1 : DmaSem sig := 53
abbrev cc2_sem8_0 : DmaSem sig := 54
abbrev cc2_sem8_1 : DmaSem sig := 55
abbrev cc2_sem9_0 : DmaSem sig := 56
abbrev cc2_sem9_1 : DmaSem sig := 57
abbrev cc2_sem10_0 : DmaSem sig := 58
abbrev cc2_sem10_1 : DmaSem sig := 59
abbrev cc2_sem11_0 : DmaSem sig := 60
abbrev cc2_sem11_1 : DmaSem sig := 61
abbrev cc2_sem12_0 : DmaSem sig := 62
abbrev cc2_sem12_1 : DmaSem sig := 63
abbrev cc2_sem13_0 : DmaSem sig := 64
abbrev cc2_sem13_1 : DmaSem sig := 65
abbrev cc2_sem14_0 : DmaSem sig := 66
abbrev cc2_sem14_1 : DmaSem sig := 67
abbrev cc2_sem15_0 : DmaSem sig := 68
abbrev cc2_sem15_1 : DmaSem sig := 69
abbrev cc2_sem16_0 : DmaSem sig := 70
abbrev cc2_sem16_1 : DmaSem sig := 71
abbrev cc2_sem17_0 : DmaSem sig := 72
abbrev cc2_sem17_1 : DmaSem sig := 73
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c32_i32 : BitVec 32 := 32#32
  let v2 : BitVec 32 := Scalar.addi c0_i32_0 c32_i32
  let c1_i32 : BitVec 32 := 1#32
  ⟨c0_i32_0, v2, c1_i32⟩
def k0_off1 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_2 : BitVec 32 := 32#32
  let v3 : BitVec 32 := Scalar.muli v1 c32_i32_2
  let c0_i32_0 : BitVec 32 := 0#32
  let c1_i32 : BitVec 32 := 1#32
  let arg8 : BitVec 32 := Scf.iv c0_i32_0 c1_i32 k0_t1
  let v4 : BitVec 32 := Scalar.addi v3 arg8
  let c1023_i32 : BitVec 32 := 1023#32
  let v5 : BitVec 32 := Scalar.minsi v4 c1023_i32
  let c8192_i32 : BitVec 32 := 8192#32
  let v6 : BitVec 32 := Scalar.muli v5 c8192_i32
  ![v6.toNat]
abbrev grid1 : Pipeline.Grid := ⟨1, ![256], ![false]⟩

abbrev pre1 : Pipeline.Prefetch sig := ⟨4, ![main_v25.idx, main_v43.idx, main_v33.idx, main_v88.idx], fun | 0 => main_v25.names | 1 => main_v43.names | 2 => main_v33.names | 3 => main_v88.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k1_off1 (i : grid1.Coords) (c0_i32 : BitVec 32) : Fin 1 → Nat :=
  let arg0 : BitVec 32 := BitVec.ofNat 32 (i 0).val
  let c8_i32 : BitVec 32 := 8#32
  let v0 : BitVec 32 := Scalar.muli arg0 c8_i32
  let v1 : BitVec 32 := Scalar.addi v0 c0_i32
  let v2 : Index := Scalar.indexCast v1
  ![v2.toNat]
def k1_off2 (i : grid1.Coords) : Fin 1 → Nat :=
  let arg0 : BitVec 32 := BitVec.ofNat 32 (i 0).val
  let c8_i32_25 : BitVec 32 := 8#32
  let v50 : BitVec 32 := Scalar.muli arg0 c8_i32_25
  let c0_i32_26 : BitVec 32 := 0#32
  let v51 : BitVec 32 := Scalar.addi v50 c0_i32_26
  let v52 : Index := Scalar.indexCast v51
  ![v52.toNat]
def k1_off3 (i : grid1.Coords) : Fin 1 → Nat :=
  let arg0 : BitVec 32 := BitVec.ofNat 32 (i 0).val
  let c8_i32_25 : BitVec 32 := 8#32
  let v50 : BitVec 32 := Scalar.muli arg0 c8_i32_25
  let c1_i32_26 : BitVec 32 := 1#32
  let v51 : BitVec 32 := Scalar.addi v50 c1_i32_26
  let v52 : Index := Scalar.indexCast v51
  ![v52.toNat]
def k1_off4 (i : grid1.Coords) : Fin 1 → Nat :=
  let arg0 : BitVec 32 := BitVec.ofNat 32 (i 0).val
  let c8_i32_25 : BitVec 32 := 8#32
  let v50 : BitVec 32 := Scalar.muli arg0 c8_i32_25
  let c2_i32_26 : BitVec 32 := 2#32
  let v51 : BitVec 32 := Scalar.addi v50 c2_i32_26
  let v52 : Index := Scalar.indexCast v51
  ![v52.toNat]
def k1_off5 (i : grid1.Coords) : Fin 1 → Nat :=
  let arg0 : BitVec 32 := BitVec.ofNat 32 (i 0).val
  let c8_i32_25 : BitVec 32 := 8#32
  let v50 : BitVec 32 := Scalar.muli arg0 c8_i32_25
  let c3_i32_26 : BitVec 32 := 3#32
  let v51 : BitVec 32 := Scalar.addi v50 c3_i32_26
  let v52 : Index := Scalar.indexCast v51
  ![v52.toNat]
def k1_off6 (i : grid1.Coords) : Fin 1 → Nat :=
  let arg0 : BitVec 32 := BitVec.ofNat 32 (i 0).val
  let c8_i32_25 : BitVec 32 := 8#32
  let v50 : BitVec 32 := Scalar.muli arg0 c8_i32_25
  let c4_i32_26 : BitVec 32 := 4#32
  let v51 : BitVec 32 := Scalar.addi v50 c4_i32_26
  let v52 : Index := Scalar.indexCast v51
  ![v52.toNat]
def k1_off7 (i : grid1.Coords) : Fin 1 → Nat :=
  let arg0 : BitVec 32 := BitVec.ofNat 32 (i 0).val
  let c8_i32_25 : BitVec 32 := 8#32
  let v50 : BitVec 32 := Scalar.muli arg0 c8_i32_25
  let c5_i32_26 : BitVec 32 := 5#32
  let v51 : BitVec 32 := Scalar.addi v50 c5_i32_26
  let v52 : Index := Scalar.indexCast v51
  ![v52.toNat]
def k1_off8 (i : grid1.Coords) : Fin 1 → Nat :=
  let arg0 : BitVec 32 := BitVec.ofNat 32 (i 0).val
  let c8_i32_25 : BitVec 32 := 8#32
  let v50 : BitVec 32 := Scalar.muli arg0 c8_i32_25
  let c6_i32_26 : BitVec 32 := 6#32
  let v51 : BitVec 32 := Scalar.addi v50 c6_i32_26
  let v52 : Index := Scalar.indexCast v51
  ![v52.toNat]
def k1_off9 (i : grid1.Coords) : Fin 1 → Nat :=
  let arg0 : BitVec 32 := BitVec.ofNat 32 (i 0).val
  let c8_i32_25 : BitVec 32 := 8#32
  let v50 : BitVec 32 := Scalar.muli arg0 c8_i32_25
  let c7_i32_26 : BitVec 32 := 7#32
  let v51 : BitVec 32 := Scalar.addi v50 c7_i32_26
  let v52 : Index := Scalar.indexCast v51
  ![v52.toNat]
def k1_cond1 (i : grid1.Coords) (v4 : BitVec 32) : BitVec 1 :=
  let arg0 : BitVec 32 := BitVec.ofNat 32 (i 0).val
  let c8_i32 : BitVec 32 := 8#32
  let v2 : BitVec 32 := Scalar.muli arg0 c8_i32
  let c0_i32 : BitVec 32 := 0#32
  let v3 : BitVec 32 := Scalar.addi v2 c0_i32
  let v5 : BitVec 1 := Scalar.cmpi .slt v3 v4
  let v6 : BitVec 32 := Scalar.extui v5
  let c0_i32_3 : BitVec 32 := 0#32
  let v7 : BitVec 1 := Scalar.cmpi .ne v6 c0_i32_3
  v7

def k1_cond2 (i : grid1.Coords) (v10 : BitVec 32) : BitVec 1 :=
  let arg0 : BitVec 32 := BitVec.ofNat 32 (i 0).val
  let c8_i32_4 : BitVec 32 := 8#32
  let v8 : BitVec 32 := Scalar.muli arg0 c8_i32_4
  let c1_i32 : BitVec 32 := 1#32
  let v9 : BitVec 32 := Scalar.addi v8 c1_i32
  let v11 : BitVec 1 := Scalar.cmpi .slt v9 v10
  let v12 : BitVec 32 := Scalar.extui v11
  let c0_i32_6 : BitVec 32 := 0#32
  let v13 : BitVec 1 := Scalar.cmpi .ne v12 c0_i32_6
  v13

def k1_cond3 (i : grid1.Coords) (v16 : BitVec 32) : BitVec 1 :=
  let arg0 : BitVec 32 := BitVec.ofNat 32 (i 0).val
  let c8_i32_7 : BitVec 32 := 8#32
  let v14 : BitVec 32 := Scalar.muli arg0 c8_i32_7
  let c2_i32 : BitVec 32 := 2#32
  let v15 : BitVec 32 := Scalar.addi v14 c2_i32
  let v17 : BitVec 1 := Scalar.cmpi .slt v15 v16
  let v18 : BitVec 32 := Scalar.extui v17
  let c0_i32_9 : BitVec 32 := 0#32
  let v19 : BitVec 1 := Scalar.cmpi .ne v18 c0_i32_9
  v19

def k1_cond4 (i : grid1.Coords) (v22 : BitVec 32) : BitVec 1 :=
  let arg0 : BitVec 32 := BitVec.ofNat 32 (i 0).val
  let c8_i32_10 : BitVec 32 := 8#32
  let v20 : BitVec 32 := Scalar.muli arg0 c8_i32_10
  let c3_i32 : BitVec 32 := 3#32
  let v21 : BitVec 32 := Scalar.addi v20 c3_i32
  let v23 : BitVec 1 := Scalar.cmpi .slt v21 v22
  let v24 : BitVec 32 := Scalar.extui v23
  let c0_i32_12 : BitVec 32 := 0#32
  let v25 : BitVec 1 := Scalar.cmpi .ne v24 c0_i32_12
  v25

def k1_cond5 (i : grid1.Coords) (v28 : BitVec 32) : BitVec 1 :=
  let arg0 : BitVec 32 := BitVec.ofNat 32 (i 0).val
  let c8_i32_13 : BitVec 32 := 8#32
  let v26 : BitVec 32 := Scalar.muli arg0 c8_i32_13
  let c4_i32 : BitVec 32 := 4#32
  let v27 : BitVec 32 := Scalar.addi v26 c4_i32
  let v29 : BitVec 1 := Scalar.cmpi .slt v27 v28
  let v30 : BitVec 32 := Scalar.extui v29
  let c0_i32_15 : BitVec 32 := 0#32
  let v31 : BitVec 1 := Scalar.cmpi .ne v30 c0_i32_15
  v31

def k1_cond6 (i : grid1.Coords) (v34 : BitVec 32) : BitVec 1 :=
  let arg0 : BitVec 32 := BitVec.ofNat 32 (i 0).val
  let c8_i32_16 : BitVec 32 := 8#32
  let v32 : BitVec 32 := Scalar.muli arg0 c8_i32_16
  let c5_i32 : BitVec 32 := 5#32
  let v33 : BitVec 32 := Scalar.addi v32 c5_i32
  let v35 : BitVec 1 := Scalar.cmpi .slt v33 v34
  let v36 : BitVec 32 := Scalar.extui v35
  let c0_i32_18 : BitVec 32 := 0#32
  let v37 : BitVec 1 := Scalar.cmpi .ne v36 c0_i32_18
  v37

def k1_cond7 (i : grid1.Coords) (v40 : BitVec 32) : BitVec 1 :=
  let arg0 : BitVec 32 := BitVec.ofNat 32 (i 0).val
  let c8_i32_19 : BitVec 32 := 8#32
  let v38 : BitVec 32 := Scalar.muli arg0 c8_i32_19
  let c6_i32 : BitVec 32 := 6#32
  let v39 : BitVec 32 := Scalar.addi v38 c6_i32
  let v41 : BitVec 1 := Scalar.cmpi .slt v39 v40
  let v42 : BitVec 32 := Scalar.extui v41
  let c0_i32_21 : BitVec 32 := 0#32
  let v43 : BitVec 1 := Scalar.cmpi .ne v42 c0_i32_21
  v43

def k1_cond8 (i : grid1.Coords) (v46 : BitVec 32) : BitVec 1 :=
  let arg0 : BitVec 32 := BitVec.ofNat 32 (i 0).val
  let c8_i32_22 : BitVec 32 := 8#32
  let v44 : BitVec 32 := Scalar.muli arg0 c8_i32_22
  let c7_i32 : BitVec 32 := 7#32
  let v45 : BitVec 32 := Scalar.addi v44 c7_i32
  let v47 : BitVec 1 := Scalar.cmpi .slt v45 v46
  let v48 : BitVec 32 := Scalar.extui v47
  let c0_i32_24 : BitVec 32 := 0#32
  let v49 : BitVec 1 := Scalar.cmpi .ne v48 c0_i32_24
  v49

def cc1_transform_0 (k1_off1_inb : ∀ i : grid1.Coords, ∀ (r : Fin 8), ∀ a, (k1_off1 i (BitVec.ofNat 32 r.val)) a + S1.size a ≤ S2048.size a) (numel1_S1 : S1.numel = 1) (pf : pre1.Contents (Elt F)) (i : grid1.Coords) : Fin 3 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  let v3 : BitVec 32 := pf.at 1 (Rect.unit (s := S2048) ![v2.toNat] S1.size (k1_off1_inb i 0)) numel1_S1
  let c0_i32_0 : BitVec 32 := 0#32
  let c0_i32_1 : BitVec 32 := 0#32
  let c0_i32_2 : BitVec 32 := 0#32
  ![v3.toNat, c0_i32_0.toNat, c0_i32_1.toNat]

def cc1_transform_1 (k1_off1_inb : ∀ i : grid1.Coords, ∀ (r : Fin 8), ∀ a, (k1_off1 i (BitVec.ofNat 32 r.val)) a + S1.size a ≤ S2048.size a) (numel1_S1 : S1.numel = 1) (pf : pre1.Contents (Elt F)) (i : grid1.Coords) : Fin 3 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.addi v0 c1_i32
  let v2 : Index := Scalar.indexCast v1
  let v3 : BitVec 32 := pf.at 1 (Rect.unit (s := S2048) ![v2.toNat] S1.size (k1_off1_inb i 1)) numel1_S1
  let c0_i32 : BitVec 32 := 0#32
  let c0_i32_0 : BitVec 32 := 0#32
  let c0_i32_1 : BitVec 32 := 0#32
  ![v3.toNat, c0_i32.toNat, c0_i32_0.toNat]

def cc1_transform_2 (k1_off1_inb : ∀ i : grid1.Coords, ∀ (r : Fin 8), ∀ a, (k1_off1 i (BitVec.ofNat 32 r.val)) a + S1.size a ≤ S2048.size a) (numel1_S1 : S1.numel = 1) (pf : pre1.Contents (Elt F)) (i : grid1.Coords) : Fin 3 → Nat :=
  let arg0 : BitVec 32 := BitVec.ofNat 32 (i 0).val
  let c8_i32 : BitVec 32 := 8#32
  let v0 : BitVec 32 := Scalar.muli arg0 c8_i32
  let c2_i32 : BitVec 32 := 2#32
  let v1 : BitVec 32 := Scalar.addi v0 c2_i32
  let v2 : Index := Scalar.indexCast v1
  let v3 : BitVec 32 := pf.at 1 (Rect.unit (s := S2048) ![v2.toNat] S1.size (k1_off1_inb i 2)) numel1_S1
  let c0_i32 : BitVec 32 := 0#32
  let c0_i32_0 : BitVec 32 := 0#32
  let c0_i32_1 : BitVec 32 := 0#32
  ![v3.toNat, c0_i32.toNat, c0_i32_0.toNat]

def cc1_transform_3 (k1_off1_inb : ∀ i : grid1.Coords, ∀ (r : Fin 8), ∀ a, (k1_off1 i (BitVec.ofNat 32 r.val)) a + S1.size a ≤ S2048.size a) (numel1_S1 : S1.numel = 1) (pf : pre1.Contents (Elt F)) (i : grid1.Coords) : Fin 3 → Nat :=
  let arg0 : BitVec 32 := BitVec.ofNat 32 (i 0).val
  let c8_i32 : BitVec 32 := 8#32
  let v0 : BitVec 32 := Scalar.muli arg0 c8_i32
  let c3_i32 : BitVec 32 := 3#32
  let v1 : BitVec 32 := Scalar.addi v0 c3_i32
  let v2 : Index := Scalar.indexCast v1
  let v3 : BitVec 32 := pf.at 1 (Rect.unit (s := S2048) ![v2.toNat] S1.size (k1_off1_inb i 3)) numel1_S1
  let c0_i32 : BitVec 32 := 0#32
  let c0_i32_0 : BitVec 32 := 0#32
  let c0_i32_1 : BitVec 32 := 0#32
  ![v3.toNat, c0_i32.toNat, c0_i32_0.toNat]

def cc1_transform_4 (k1_off1_inb : ∀ i : grid1.Coords, ∀ (r : Fin 8), ∀ a, (k1_off1 i (BitVec.ofNat 32 r.val)) a + S1.size a ≤ S2048.size a) (numel1_S1 : S1.numel = 1) (pf : pre1.Contents (Elt F)) (i : grid1.Coords) : Fin 3 → Nat :=
  let arg0 : BitVec 32 := BitVec.ofNat 32 (i 0).val
  let c8_i32 : BitVec 32 := 8#32
  let v0 : BitVec 32 := Scalar.muli arg0 c8_i32
  let c4_i32 : BitVec 32 := 4#32
  let v1 : BitVec 32 := Scalar.addi v0 c4_i32
  let v2 : Index := Scalar.indexCast v1
  let v3 : BitVec 32 := pf.at 1 (Rect.unit (s := S2048) ![v2.toNat] S1.size (k1_off1_inb i 4)) numel1_S1
  let c0_i32 : BitVec 32 := 0#32
  let c0_i32_0 : BitVec 32 := 0#32
  let c0_i32_1 : BitVec 32 := 0#32
  ![v3.toNat, c0_i32.toNat, c0_i32_0.toNat]

def cc1_transform_5 (k1_off1_inb : ∀ i : grid1.Coords, ∀ (r : Fin 8), ∀ a, (k1_off1 i (BitVec.ofNat 32 r.val)) a + S1.size a ≤ S2048.size a) (numel1_S1 : S1.numel = 1) (pf : pre1.Contents (Elt F)) (i : grid1.Coords) : Fin 3 → Nat :=
  let arg0 : BitVec 32 := BitVec.ofNat 32 (i 0).val
  let c8_i32 : BitVec 32 := 8#32
  let v0 : BitVec 32 := Scalar.muli arg0 c8_i32
  let c5_i32 : BitVec 32 := 5#32
  let v1 : BitVec 32 := Scalar.addi v0 c5_i32
  let v2 : Index := Scalar.indexCast v1
  let v3 : BitVec 32 := pf.at 1 (Rect.unit (s := S2048) ![v2.toNat] S1.size (k1_off1_inb i 5)) numel1_S1
  let c0_i32 : BitVec 32 := 0#32
  let c0_i32_0 : BitVec 32 := 0#32
  let c0_i32_1 : BitVec 32 := 0#32
  ![v3.toNat, c0_i32.toNat, c0_i32_0.toNat]

def cc1_transform_6 (k1_off1_inb : ∀ i : grid1.Coords, ∀ (r : Fin 8), ∀ a, (k1_off1 i (BitVec.ofNat 32 r.val)) a + S1.size a ≤ S2048.size a) (numel1_S1 : S1.numel = 1) (pf : pre1.Contents (Elt F)) (i : grid1.Coords) : Fin 3 → Nat :=
  let arg0 : BitVec 32 := BitVec.ofNat 32 (i 0).val
  let c8_i32 : BitVec 32 := 8#32
  let v0 : BitVec 32 := Scalar.muli arg0 c8_i32
  let c6_i32 : BitVec 32 := 6#32
  let v1 : BitVec 32 := Scalar.addi v0 c6_i32
  let v2 : Index := Scalar.indexCast v1
  let v3 : BitVec 32 := pf.at 1 (Rect.unit (s := S2048) ![v2.toNat] S1.size (k1_off1_inb i 6)) numel1_S1
  let c0_i32 : BitVec 32 := 0#32
  let c0_i32_0 : BitVec 32 := 0#32
  let c0_i32_1 : BitVec 32 := 0#32
  ![v3.toNat, c0_i32.toNat, c0_i32_0.toNat]

def cc1_transform_7 (k1_off1_inb : ∀ i : grid1.Coords, ∀ (r : Fin 8), ∀ a, (k1_off1 i (BitVec.ofNat 32 r.val)) a + S1.size a ≤ S2048.size a) (numel1_S1 : S1.numel = 1) (pf : pre1.Contents (Elt F)) (i : grid1.Coords) : Fin 3 → Nat :=
  let arg0 : BitVec 32 := BitVec.ofNat 32 (i 0).val
  let c8_i32 : BitVec 32 := 8#32
  let v0 : BitVec 32 := Scalar.muli arg0 c8_i32
  let c7_i32 : BitVec 32 := 7#32
  let v1 : BitVec 32 := Scalar.addi v0 c7_i32
  let v2 : Index := Scalar.indexCast v1
  let v3 : BitVec 32 := pf.at 1 (Rect.unit (s := S2048) ![v2.toNat] S1.size (k1_off1_inb i 7)) numel1_S1
  let c0_i32 : BitVec 32 := 0#32
  let c0_i32_0 : BitVec 32 := 0#32
  let c0_i32_1 : BitVec 32 := 0#32
  ![v3.toNat, c0_i32.toNat, c0_i32_0.toNat]

def cc1_transform_8 (k1_off1_inb : ∀ i : grid1.Coords, ∀ (r : Fin 8), ∀ a, (k1_off1 i (BitVec.ofNat 32 r.val)) a + S1.size a ≤ S2048.size a) (numel1_S1 : S1.numel = 1) (pf : pre1.Contents (Elt F)) (i : grid1.Coords) : Fin 3 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  let v3 : BitVec 32 := pf.at 0 (Rect.unit (s := S2048) ![v2.toNat] S1.size (k1_off1_inb i 0)) numel1_S1
  let c0_i32_0 : BitVec 32 := 0#32
  let c0_i32_1 : BitVec 32 := 0#32
  let c0_i32_2 : BitVec 32 := 0#32
  ![v3.toNat, c0_i32_0.toNat, c0_i32_1.toNat]

def cc1_transform_9 (k1_off1_inb : ∀ i : grid1.Coords, ∀ (r : Fin 8), ∀ a, (k1_off1 i (BitVec.ofNat 32 r.val)) a + S1.size a ≤ S2048.size a) (numel1_S1 : S1.numel = 1) (pf : pre1.Contents (Elt F)) (i : grid1.Coords) : Fin 3 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.addi v0 c1_i32
  let v2 : Index := Scalar.indexCast v1
  let v3 : BitVec 32 := pf.at 0 (Rect.unit (s := S2048) ![v2.toNat] S1.size (k1_off1_inb i 1)) numel1_S1
  let c0_i32 : BitVec 32 := 0#32
  let c0_i32_0 : BitVec 32 := 0#32
  let c0_i32_1 : BitVec 32 := 0#32
  ![v3.toNat, c0_i32.toNat, c0_i32_0.toNat]

def cc1_transform_10 (k1_off1_inb : ∀ i : grid1.Coords, ∀ (r : Fin 8), ∀ a, (k1_off1 i (BitVec.ofNat 32 r.val)) a + S1.size a ≤ S2048.size a) (numel1_S1 : S1.numel = 1) (pf : pre1.Contents (Elt F)) (i : grid1.Coords) : Fin 3 → Nat :=
  let arg0 : BitVec 32 := BitVec.ofNat 32 (i 0).val
  let c8_i32 : BitVec 32 := 8#32
  let v0 : BitVec 32 := Scalar.muli arg0 c8_i32
  let c2_i32 : BitVec 32 := 2#32
  let v1 : BitVec 32 := Scalar.addi v0 c2_i32
  let v2 : Index := Scalar.indexCast v1
  let v3 : BitVec 32 := pf.at 0 (Rect.unit (s := S2048) ![v2.toNat] S1.size (k1_off1_inb i 2)) numel1_S1
  let c0_i32 : BitVec 32 := 0#32
  let c0_i32_0 : BitVec 32 := 0#32
  let c0_i32_1 : BitVec 32 := 0#32
  ![v3.toNat, c0_i32.toNat, c0_i32_0.toNat]

def cc1_transform_11 (k1_off1_inb : ∀ i : grid1.Coords, ∀ (r : Fin 8), ∀ a, (k1_off1 i (BitVec.ofNat 32 r.val)) a + S1.size a ≤ S2048.size a) (numel1_S1 : S1.numel = 1) (pf : pre1.Contents (Elt F)) (i : grid1.Coords) : Fin 3 → Nat :=
  let arg0 : BitVec 32 := BitVec.ofNat 32 (i 0).val
  let c8_i32 : BitVec 32 := 8#32
  let v0 : BitVec 32 := Scalar.muli arg0 c8_i32
  let c3_i32 : BitVec 32 := 3#32
  let v1 : BitVec 32 := Scalar.addi v0 c3_i32
  let v2 : Index := Scalar.indexCast v1
  let v3 : BitVec 32 := pf.at 0 (Rect.unit (s := S2048) ![v2.toNat] S1.size (k1_off1_inb i 3)) numel1_S1
  let c0_i32 : BitVec 32 := 0#32
  let c0_i32_0 : BitVec 32 := 0#32
  let c0_i32_1 : BitVec 32 := 0#32
  ![v3.toNat, c0_i32.toNat, c0_i32_0.toNat]

def cc1_transform_12 (k1_off1_inb : ∀ i : grid1.Coords, ∀ (r : Fin 8), ∀ a, (k1_off1 i (BitVec.ofNat 32 r.val)) a + S1.size a ≤ S2048.size a) (numel1_S1 : S1.numel = 1) (pf : pre1.Contents (Elt F)) (i : grid1.Coords) : Fin 3 → Nat :=
  let arg0 : BitVec 32 := BitVec.ofNat 32 (i 0).val
  let c8_i32 : BitVec 32 := 8#32
  let v0 : BitVec 32 := Scalar.muli arg0 c8_i32
  let c4_i32 : BitVec 32 := 4#32
  let v1 : BitVec 32 := Scalar.addi v0 c4_i32
  let v2 : Index := Scalar.indexCast v1
  let v3 : BitVec 32 := pf.at 0 (Rect.unit (s := S2048) ![v2.toNat] S1.size (k1_off1_inb i 4)) numel1_S1
  let c0_i32 : BitVec 32 := 0#32
  let c0_i32_0 : BitVec 32 := 0#32
  let c0_i32_1 : BitVec 32 := 0#32
  ![v3.toNat, c0_i32.toNat, c0_i32_0.toNat]

def cc1_transform_13 (k1_off1_inb : ∀ i : grid1.Coords, ∀ (r : Fin 8), ∀ a, (k1_off1 i (BitVec.ofNat 32 r.val)) a + S1.size a ≤ S2048.size a) (numel1_S1 : S1.numel = 1) (pf : pre1.Contents (Elt F)) (i : grid1.Coords) : Fin 3 → Nat :=
  let arg0 : BitVec 32 := BitVec.ofNat 32 (i 0).val
  let c8_i32 : BitVec 32 := 8#32
  let v0 : BitVec 32 := Scalar.muli arg0 c8_i32
  let c5_i32 : BitVec 32 := 5#32
  let v1 : BitVec 32 := Scalar.addi v0 c5_i32
  let v2 : Index := Scalar.indexCast v1
  let v3 : BitVec 32 := pf.at 0 (Rect.unit (s := S2048) ![v2.toNat] S1.size (k1_off1_inb i 5)) numel1_S1
  let c0_i32 : BitVec 32 := 0#32
  let c0_i32_0 : BitVec 32 := 0#32
  let c0_i32_1 : BitVec 32 := 0#32
  ![v3.toNat, c0_i32.toNat, c0_i32_0.toNat]

def cc1_transform_14 (k1_off1_inb : ∀ i : grid1.Coords, ∀ (r : Fin 8), ∀ a, (k1_off1 i (BitVec.ofNat 32 r.val)) a + S1.size a ≤ S2048.size a) (numel1_S1 : S1.numel = 1) (pf : pre1.Contents (Elt F)) (i : grid1.Coords) : Fin 3 → Nat :=
  let arg0 : BitVec 32 := BitVec.ofNat 32 (i 0).val
  let c8_i32 : BitVec 32 := 8#32
  let v0 : BitVec 32 := Scalar.muli arg0 c8_i32
  let c6_i32 : BitVec 32 := 6#32
  let v1 : BitVec 32 := Scalar.addi v0 c6_i32
  let v2 : Index := Scalar.indexCast v1
  let v3 : BitVec 32 := pf.at 0 (Rect.unit (s := S2048) ![v2.toNat] S1.size (k1_off1_inb i 6)) numel1_S1
  let c0_i32 : BitVec 32 := 0#32
  let c0_i32_0 : BitVec 32 := 0#32
  let c0_i32_1 : BitVec 32 := 0#32
  ![v3.toNat, c0_i32.toNat, c0_i32_0.toNat]

def cc1_transform_15 (k1_off1_inb : ∀ i : grid1.Coords, ∀ (r : Fin 8), ∀ a, (k1_off1 i (BitVec.ofNat 32 r.val)) a + S1.size a ≤ S2048.size a) (numel1_S1 : S1.numel = 1) (pf : pre1.Contents (Elt F)) (i : grid1.Coords) : Fin 3 → Nat :=
  let arg0 : BitVec 32 := BitVec.ofNat 32 (i 0).val
  let c8_i32 : BitVec 32 := 8#32
  let v0 : BitVec 32 := Scalar.muli arg0 c8_i32
  let c7_i32 : BitVec 32 := 7#32
  let v1 : BitVec 32 := Scalar.addi v0 c7_i32
  let v2 : Index := Scalar.indexCast v1
  let v3 : BitVec 32 := pf.at 0 (Rect.unit (s := S2048) ![v2.toNat] S1.size (k1_off1_inb i 7)) numel1_S1
  let c0_i32 : BitVec 32 := 0#32
  let c0_i32_0 : BitVec 32 := 0#32
  let c0_i32_1 : BitVec 32 := 0#32
  ![v3.toNat, c0_i32.toNat, c0_i32_0.toNat]

def cc1_transform_16 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_17 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1x1x8192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x8192 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x8192 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1x8192 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x1x8192 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x1x8192 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x1x8192 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x1x8192 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x8x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S1x8x1024 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S1x8x1024 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S1x8x1024 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S1x8x1024 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S1x8x1024 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 2 → Memref sig .tc .vmem S1x8x1024 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev stage1_15 : Fin 2 → Memref sig .tc .vmem S1x8x1024 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]

abbrev stage1_16 : Fin 1 → Memref sig .tc .vmem S1x8x1024 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false]

abbrev stage1_17 : Fin 2 → Memref sig .tc .vmem S8x128 .i32 := fun | 0 => Memref.whole cc1_stg17_0 | 1 => Memref.whole cc1_stg17_1 | ⟨_ + 2, h⟩ => absurd h (Nat.not_lt.2 (Nat.le_add_left _ _))
abbrev sem1_17 : Fin 2 → DmaSem sig := fun | 0 => cc1_sem17_0 | 1 => cc1_sem17_1 | ⟨_ + 2, h⟩ => absurd h (Nat.not_lt.2 (Nat.le_add_left _ _))
abbrev reads1_17 : Fin grid1.rank → Bool := ![true]

abbrev grid2 : Pipeline.Grid := ⟨1, ![128], ![false]⟩

abbrev pre2 : Pipeline.Prefetch sig := ⟨3, ![main_v55.idx, main_v62.idx, main_v92.idx], fun | 0 => main_v55.names | 1 => main_v62.names | 2 => main_v92.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k2_off1 (i : grid2.Coords) (c0_i32 : BitVec 32) : Fin 1 → Nat :=
  let arg0 : BitVec 32 := BitVec.ofNat 32 (i 0).val
  let c8_i32 : BitVec 32 := 8#32
  let v0 : BitVec 32 := Scalar.muli arg0 c8_i32
  let v1 : BitVec 32 := Scalar.addi v0 c0_i32
  let v2 : Index := Scalar.indexCast v1
  ![v2.toNat]
def k2_cond1 (i : grid2.Coords) (v2 : BitVec 32) : BitVec 1 :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v3 : BitVec 1 := Scalar.cmpi .slt v1 v2
  let v4 : BitVec 32 := Scalar.extui v3
  let c0_i32_0 : BitVec 32 := 0#32
  let v5 : BitVec 1 := Scalar.cmpi .ne v4 c0_i32_0
  v5

def k2_cond2 (i : grid2.Coords) (v8 : BitVec 32) : BitVec 1 :=
  let arg0 : BitVec 32 := BitVec.ofNat 32 (i 0).val
  let c8_i32_1 : BitVec 32 := 8#32
  let v6 : BitVec 32 := Scalar.muli arg0 c8_i32_1
  let c1_i32 : BitVec 32 := 1#32
  let v7 : BitVec 32 := Scalar.addi v6 c1_i32
  let v9 : BitVec 1 := Scalar.cmpi .slt v7 v8
  let v10 : BitVec 32 := Scalar.extui v9
  let c0_i32_3 : BitVec 32 := 0#32
  let v11 : BitVec 1 := Scalar.cmpi .ne v10 c0_i32_3
  v11

def k2_cond3 (i : grid2.Coords) (v14 : BitVec 32) : BitVec 1 :=
  let arg0 : BitVec 32 := BitVec.ofNat 32 (i 0).val
  let c8_i32_4 : BitVec 32 := 8#32
  let v12 : BitVec 32 := Scalar.muli arg0 c8_i32_4
  let c2_i32 : BitVec 32 := 2#32
  let v13 : BitVec 32 := Scalar.addi v12 c2_i32
  let v15 : BitVec 1 := Scalar.cmpi .slt v13 v14
  let v16 : BitVec 32 := Scalar.extui v15
  let c0_i32_6 : BitVec 32 := 0#32
  let v17 : BitVec 1 := Scalar.cmpi .ne v16 c0_i32_6
  v17

def k2_cond4 (i : grid2.Coords) (v20 : BitVec 32) : BitVec 1 :=
  let arg0 : BitVec 32 := BitVec.ofNat 32 (i 0).val
  let c8_i32_7 : BitVec 32 := 8#32
  let v18 : BitVec 32 := Scalar.muli arg0 c8_i32_7
  let c3_i32 : BitVec 32 := 3#32
  let v19 : BitVec 32 := Scalar.addi v18 c3_i32
  let v21 : BitVec 1 := Scalar.cmpi .slt v19 v20
  let v22 : BitVec 32 := Scalar.extui v21
  let c0_i32_9 : BitVec 32 := 0#32
  let v23 : BitVec 1 := Scalar.cmpi .ne v22 c0_i32_9
  v23

def k2_cond5 (i : grid2.Coords) (v26 : BitVec 32) : BitVec 1 :=
  let arg0 : BitVec 32 := BitVec.ofNat 32 (i 0).val
  let c8_i32_10 : BitVec 32 := 8#32
  let v24 : BitVec 32 := Scalar.muli arg0 c8_i32_10
  let c4_i32 : BitVec 32 := 4#32
  let v25 : BitVec 32 := Scalar.addi v24 c4_i32
  let v27 : BitVec 1 := Scalar.cmpi .slt v25 v26
  let v28 : BitVec 32 := Scalar.extui v27
  let c0_i32_12 : BitVec 32 := 0#32
  let v29 : BitVec 1 := Scalar.cmpi .ne v28 c0_i32_12
  v29

def k2_cond6 (i : grid2.Coords) (v32 : BitVec 32) : BitVec 1 :=
  let arg0 : BitVec 32 := BitVec.ofNat 32 (i 0).val
  let c8_i32_13 : BitVec 32 := 8#32
  let v30 : BitVec 32 := Scalar.muli arg0 c8_i32_13
  let c5_i32 : BitVec 32 := 5#32
  let v31 : BitVec 32 := Scalar.addi v30 c5_i32
  let v33 : BitVec 1 := Scalar.cmpi .slt v31 v32
  let v34 : BitVec 32 := Scalar.extui v33
  let c0_i32_15 : BitVec 32 := 0#32
  let v35 : BitVec 1 := Scalar.cmpi .ne v34 c0_i32_15
  v35

def k2_cond7 (i : grid2.Coords) (v38 : BitVec 32) : BitVec 1 :=
  let arg0 : BitVec 32 := BitVec.ofNat 32 (i 0).val
  let c8_i32_16 : BitVec 32 := 8#32
  let v36 : BitVec 32 := Scalar.muli arg0 c8_i32_16
  let c6_i32 : BitVec 32 := 6#32
  let v37 : BitVec 32 := Scalar.addi v36 c6_i32
  let v39 : BitVec 1 := Scalar.cmpi .slt v37 v38
  let v40 : BitVec 32 := Scalar.extui v39
  let c0_i32_18 : BitVec 32 := 0#32
  let v41 : BitVec 1 := Scalar.cmpi .ne v40 c0_i32_18
  v41

def k2_cond8 (i : grid2.Coords) (v44 : BitVec 32) : BitVec 1 :=
  let arg0 : BitVec 32 := BitVec.ofNat 32 (i 0).val
  let c8_i32_19 : BitVec 32 := 8#32
  let v42 : BitVec 32 := Scalar.muli arg0 c8_i32_19
  let c7_i32 : BitVec 32 := 7#32
  let v43 : BitVec 32 := Scalar.addi v42 c7_i32
  let v45 : BitVec 1 := Scalar.cmpi .slt v43 v44
  let v46 : BitVec 32 := Scalar.extui v45
  let c0_i32_21 : BitVec 32 := 0#32
  let v47 : BitVec 1 := Scalar.cmpi .ne v46 c0_i32_21
  v47

def cc2_transform_0 (k2_off1_inb : ∀ i : grid2.Coords, ∀ (r : Fin 8), ∀ a, (k2_off1 i (BitVec.ofNat 32 r.val)) a + S1.size a ≤ S1024.size a) (numel1_S1 : S1.numel = 1) (pf : pre2.Contents (Elt F)) (i : grid2.Coords) : Fin 3 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  let v3 : BitVec 32 := pf.at 1 (Rect.unit (s := S1024) ![v2.toNat] S1.size (k2_off1_inb i 0)) numel1_S1
  let c0_i32_0 : BitVec 32 := 0#32
  let c0_i32_1 : BitVec 32 := 0#32
  let c0_i32_2 : BitVec 32 := 0#32
  ![v3.toNat, c0_i32_0.toNat, c0_i32_1.toNat]

def cc2_transform_1 (k2_off1_inb : ∀ i : grid2.Coords, ∀ (r : Fin 8), ∀ a, (k2_off1 i (BitVec.ofNat 32 r.val)) a + S1.size a ≤ S1024.size a) (numel1_S1 : S1.numel = 1) (pf : pre2.Contents (Elt F)) (i : grid2.Coords) : Fin 3 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.addi v0 c1_i32
  let v2 : Index := Scalar.indexCast v1
  let v3 : BitVec 32 := pf.at 1 (Rect.unit (s := S1024) ![v2.toNat] S1.size (k2_off1_inb i 1)) numel1_S1
  let c0_i32 : BitVec 32 := 0#32
  let c0_i32_0 : BitVec 32 := 0#32
  let c0_i32_1 : BitVec 32 := 0#32
  ![v3.toNat, c0_i32.toNat, c0_i32_0.toNat]

def cc2_transform_2 (k2_off1_inb : ∀ i : grid2.Coords, ∀ (r : Fin 8), ∀ a, (k2_off1 i (BitVec.ofNat 32 r.val)) a + S1.size a ≤ S1024.size a) (numel1_S1 : S1.numel = 1) (pf : pre2.Contents (Elt F)) (i : grid2.Coords) : Fin 3 → Nat :=
  let arg0 : BitVec 32 := BitVec.ofNat 32 (i 0).val
  let c8_i32 : BitVec 32 := 8#32
  let v0 : BitVec 32 := Scalar.muli arg0 c8_i32
  let c2_i32 : BitVec 32 := 2#32
  let v1 : BitVec 32 := Scalar.addi v0 c2_i32
  let v2 : Index := Scalar.indexCast v1
  let v3 : BitVec 32 := pf.at 1 (Rect.unit (s := S1024) ![v2.toNat] S1.size (k2_off1_inb i 2)) numel1_S1
  let c0_i32 : BitVec 32 := 0#32
  let c0_i32_0 : BitVec 32 := 0#32
  let c0_i32_1 : BitVec 32 := 0#32
  ![v3.toNat, c0_i32.toNat, c0_i32_0.toNat]

def cc2_transform_3 (k2_off1_inb : ∀ i : grid2.Coords, ∀ (r : Fin 8), ∀ a, (k2_off1 i (BitVec.ofNat 32 r.val)) a + S1.size a ≤ S1024.size a) (numel1_S1 : S1.numel = 1) (pf : pre2.Contents (Elt F)) (i : grid2.Coords) : Fin 3 → Nat :=
  let arg0 : BitVec 32 := BitVec.ofNat 32 (i 0).val
  let c8_i32 : BitVec 32 := 8#32
  let v0 : BitVec 32 := Scalar.muli arg0 c8_i32
  let c3_i32 : BitVec 32 := 3#32
  let v1 : BitVec 32 := Scalar.addi v0 c3_i32
  let v2 : Index := Scalar.indexCast v1
  let v3 : BitVec 32 := pf.at 1 (Rect.unit (s := S1024) ![v2.toNat] S1.size (k2_off1_inb i 3)) numel1_S1
  let c0_i32 : BitVec 32 := 0#32
  let c0_i32_0 : BitVec 32 := 0#32
  let c0_i32_1 : BitVec 32 := 0#32
  ![v3.toNat, c0_i32.toNat, c0_i32_0.toNat]

def cc2_transform_4 (k2_off1_inb : ∀ i : grid2.Coords, ∀ (r : Fin 8), ∀ a, (k2_off1 i (BitVec.ofNat 32 r.val)) a + S1.size a ≤ S1024.size a) (numel1_S1 : S1.numel = 1) (pf : pre2.Contents (Elt F)) (i : grid2.Coords) : Fin 3 → Nat :=
  let arg0 : BitVec 32 := BitVec.ofNat 32 (i 0).val
  let c8_i32 : BitVec 32 := 8#32
  let v0 : BitVec 32 := Scalar.muli arg0 c8_i32
  let c4_i32 : BitVec 32 := 4#32
  let v1 : BitVec 32 := Scalar.addi v0 c4_i32
  let v2 : Index := Scalar.indexCast v1
  let v3 : BitVec 32 := pf.at 1 (Rect.unit (s := S1024) ![v2.toNat] S1.size (k2_off1_inb i 4)) numel1_S1
  let c0_i32 : BitVec 32 := 0#32
  let c0_i32_0 : BitVec 32 := 0#32
  let c0_i32_1 : BitVec 32 := 0#32
  ![v3.toNat, c0_i32.toNat, c0_i32_0.toNat]

def cc2_transform_5 (k2_off1_inb : ∀ i : grid2.Coords, ∀ (r : Fin 8), ∀ a, (k2_off1 i (BitVec.ofNat 32 r.val)) a + S1.size a ≤ S1024.size a) (numel1_S1 : S1.numel = 1) (pf : pre2.Contents (Elt F)) (i : grid2.Coords) : Fin 3 → Nat :=
  let arg0 : BitVec 32 := BitVec.ofNat 32 (i 0).val
  let c8_i32 : BitVec 32 := 8#32
  let v0 : BitVec 32 := Scalar.muli arg0 c8_i32
  let c5_i32 : BitVec 32 := 5#32
  let v1 : BitVec 32 := Scalar.addi v0 c5_i32
  let v2 : Index := Scalar.indexCast v1
  let v3 : BitVec 32 := pf.at 1 (Rect.unit (s := S1024) ![v2.toNat] S1.size (k2_off1_inb i 5)) numel1_S1
  let c0_i32 : BitVec 32 := 0#32
  let c0_i32_0 : BitVec 32 := 0#32
  let c0_i32_1 : BitVec 32 := 0#32
  ![v3.toNat, c0_i32.toNat, c0_i32_0.toNat]

def cc2_transform_6 (k2_off1_inb : ∀ i : grid2.Coords, ∀ (r : Fin 8), ∀ a, (k2_off1 i (BitVec.ofNat 32 r.val)) a + S1.size a ≤ S1024.size a) (numel1_S1 : S1.numel = 1) (pf : pre2.Contents (Elt F)) (i : grid2.Coords) : Fin 3 → Nat :=
  let arg0 : BitVec 32 := BitVec.ofNat 32 (i 0).val
  let c8_i32 : BitVec 32 := 8#32
  let v0 : BitVec 32 := Scalar.muli arg0 c8_i32
  let c6_i32 : BitVec 32 := 6#32
  let v1 : BitVec 32 := Scalar.addi v0 c6_i32
  let v2 : Index := Scalar.indexCast v1
  let v3 : BitVec 32 := pf.at 1 (Rect.unit (s := S1024) ![v2.toNat] S1.size (k2_off1_inb i 6)) numel1_S1
  let c0_i32 : BitVec 32 := 0#32
  let c0_i32_0 : BitVec 32 := 0#32
  let c0_i32_1 : BitVec 32 := 0#32
  ![v3.toNat, c0_i32.toNat, c0_i32_0.toNat]

def cc2_transform_7 (k2_off1_inb : ∀ i : grid2.Coords, ∀ (r : Fin 8), ∀ a, (k2_off1 i (BitVec.ofNat 32 r.val)) a + S1.size a ≤ S1024.size a) (numel1_S1 : S1.numel = 1) (pf : pre2.Contents (Elt F)) (i : grid2.Coords) : Fin 3 → Nat :=
  let arg0 : BitVec 32 := BitVec.ofNat 32 (i 0).val
  let c8_i32 : BitVec 32 := 8#32
  let v0 : BitVec 32 := Scalar.muli arg0 c8_i32
  let c7_i32 : BitVec 32 := 7#32
  let v1 : BitVec 32 := Scalar.addi v0 c7_i32
  let v2 : Index := Scalar.indexCast v1
  let v3 : BitVec 32 := pf.at 1 (Rect.unit (s := S1024) ![v2.toNat] S1.size (k2_off1_inb i 7)) numel1_S1
  let c0_i32 : BitVec 32 := 0#32
  let c0_i32_0 : BitVec 32 := 0#32
  let c0_i32_1 : BitVec 32 := 0#32
  ![v3.toNat, c0_i32.toNat, c0_i32_0.toNat]

def cc2_transform_8 (inb_S1_S1_0 : ∀ a, (![0] : Fin 1 → Nat) a + S1.size a ≤ S1.size a) (numel1_S1 : S1.numel = 1) (pf : pre2.Contents (Elt F)) (i : grid2.Coords) : Fin 3 → Nat :=
  let arg0 : BitVec 32 := BitVec.ofNat 32 (i 0).val
  let c0 : Index := 0#32
  let v0 : BitVec 32 := pf.at 2 (Rect.unit (s := S1) ![0] S1.size inb_S1_S1_0) numel1_S1
  let c1_i32 : BitVec 32 := 1#32
  let v1 : BitVec 32 := Scalar.subi v0 c1_i32
  let c0_i32 : BitVec 32 := 0#32
  let v2 : BitVec 32 := Scalar.maxsi v1 c0_i32
  let c8_i32 : BitVec 32 := 8#32
  let v3 : BitVec 32 := Scalar.divsi v2 c8_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c8_i32 c0_i32_2
  let v10 : BitVec 32 := Scalar.extui v9
  let c0_i32_3 : BitVec 32 := 0#32
  let v11 : BitVec 1 := Scalar.cmpi .slt c8_i32 c0_i32_3
  let v12 : BitVec 32 := Scalar.extui v11
  let v13 : BitVec 32 := Scalar.subi v10 v12
  let v14 : BitVec 1 := Scalar.cmpi .ne v8 v13
  let v15 : BitVec 32 := Scalar.remsi v2 c8_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let v20 : BitVec 32 := Scalar.minsi arg0 v19
  let c0_i32_6 : BitVec 32 := 0#32
  let c0_i32_7 : BitVec 32 := 0#32
  let c0_i32_8 : BitVec 32 := 0#32
  ![v20.toNat, c0_i32_6.toNat, c0_i32_7.toNat]

def cc2_transform_9 (k2_off1_inb : ∀ i : grid2.Coords, ∀ (r : Fin 8), ∀ a, (k2_off1 i (BitVec.ofNat 32 r.val)) a + S1.size a ≤ S1024.size a) (numel1_S1 : S1.numel = 1) (pf : pre2.Contents (Elt F)) (i : grid2.Coords) : Fin 3 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  let v3 : BitVec 32 := pf.at 0 (Rect.unit (s := S1024) ![v2.toNat] S1.size (k2_off1_inb i 0)) numel1_S1
  let c0_i32_0 : BitVec 32 := 0#32
  let c0_i32_1 : BitVec 32 := 0#32
  let c0_i32_2 : BitVec 32 := 0#32
  ![v3.toNat, c0_i32_0.toNat, c0_i32_1.toNat]

def cc2_transform_10 (k2_off1_inb : ∀ i : grid2.Coords, ∀ (r : Fin 8), ∀ a, (k2_off1 i (BitVec.ofNat 32 r.val)) a + S1.size a ≤ S1024.size a) (numel1_S1 : S1.numel = 1) (pf : pre2.Contents (Elt F)) (i : grid2.Coords) : Fin 3 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.addi v0 c1_i32
  let v2 : Index := Scalar.indexCast v1
  let v3 : BitVec 32 := pf.at 0 (Rect.unit (s := S1024) ![v2.toNat] S1.size (k2_off1_inb i 1)) numel1_S1
  let c0_i32 : BitVec 32 := 0#32
  let c0_i32_0 : BitVec 32 := 0#32
  let c0_i32_1 : BitVec 32 := 0#32
  ![v3.toNat, c0_i32.toNat, c0_i32_0.toNat]

def cc2_transform_11 (k2_off1_inb : ∀ i : grid2.Coords, ∀ (r : Fin 8), ∀ a, (k2_off1 i (BitVec.ofNat 32 r.val)) a + S1.size a ≤ S1024.size a) (numel1_S1 : S1.numel = 1) (pf : pre2.Contents (Elt F)) (i : grid2.Coords) : Fin 3 → Nat :=
  let arg0 : BitVec 32 := BitVec.ofNat 32 (i 0).val
  let c8_i32 : BitVec 32 := 8#32
  let v0 : BitVec 32 := Scalar.muli arg0 c8_i32
  let c2_i32 : BitVec 32 := 2#32
  let v1 : BitVec 32 := Scalar.addi v0 c2_i32
  let v2 : Index := Scalar.indexCast v1
  let v3 : BitVec 32 := pf.at 0 (Rect.unit (s := S1024) ![v2.toNat] S1.size (k2_off1_inb i 2)) numel1_S1
  let c0_i32 : BitVec 32 := 0#32
  let c0_i32_0 : BitVec 32 := 0#32
  let c0_i32_1 : BitVec 32 := 0#32
  ![v3.toNat, c0_i32.toNat, c0_i32_0.toNat]

def cc2_transform_12 (k2_off1_inb : ∀ i : grid2.Coords, ∀ (r : Fin 8), ∀ a, (k2_off1 i (BitVec.ofNat 32 r.val)) a + S1.size a ≤ S1024.size a) (numel1_S1 : S1.numel = 1) (pf : pre2.Contents (Elt F)) (i : grid2.Coords) : Fin 3 → Nat :=
  let arg0 : BitVec 32 := BitVec.ofNat 32 (i 0).val
  let c8_i32 : BitVec 32 := 8#32
  let v0 : BitVec 32 := Scalar.muli arg0 c8_i32
  let c3_i32 : BitVec 32 := 3#32
  let v1 : BitVec 32 := Scalar.addi v0 c3_i32
  let v2 : Index := Scalar.indexCast v1
  let v3 : BitVec 32 := pf.at 0 (Rect.unit (s := S1024) ![v2.toNat] S1.size (k2_off1_inb i 3)) numel1_S1
  let c0_i32 : BitVec 32 := 0#32
  let c0_i32_0 : BitVec 32 := 0#32
  let c0_i32_1 : BitVec 32 := 0#32
  ![v3.toNat, c0_i32.toNat, c0_i32_0.toNat]

def cc2_transform_13 (k2_off1_inb : ∀ i : grid2.Coords, ∀ (r : Fin 8), ∀ a, (k2_off1 i (BitVec.ofNat 32 r.val)) a + S1.size a ≤ S1024.size a) (numel1_S1 : S1.numel = 1) (pf : pre2.Contents (Elt F)) (i : grid2.Coords) : Fin 3 → Nat :=
  let arg0 : BitVec 32 := BitVec.ofNat 32 (i 0).val
  let c8_i32 : BitVec 32 := 8#32
  let v0 : BitVec 32 := Scalar.muli arg0 c8_i32
  let c4_i32 : BitVec 32 := 4#32
  let v1 : BitVec 32 := Scalar.addi v0 c4_i32
  let v2 : Index := Scalar.indexCast v1
  let v3 : BitVec 32 := pf.at 0 (Rect.unit (s := S1024) ![v2.toNat] S1.size (k2_off1_inb i 4)) numel1_S1
  let c0_i32 : BitVec 32 := 0#32
  let c0_i32_0 : BitVec 32 := 0#32
  let c0_i32_1 : BitVec 32 := 0#32
  ![v3.toNat, c0_i32.toNat, c0_i32_0.toNat]

def cc2_transform_14 (k2_off1_inb : ∀ i : grid2.Coords, ∀ (r : Fin 8), ∀ a, (k2_off1 i (BitVec.ofNat 32 r.val)) a + S1.size a ≤ S1024.size a) (numel1_S1 : S1.numel = 1) (pf : pre2.Contents (Elt F)) (i : grid2.Coords) : Fin 3 → Nat :=
  let arg0 : BitVec 32 := BitVec.ofNat 32 (i 0).val
  let c8_i32 : BitVec 32 := 8#32
  let v0 : BitVec 32 := Scalar.muli arg0 c8_i32
  let c5_i32 : BitVec 32 := 5#32
  let v1 : BitVec 32 := Scalar.addi v0 c5_i32
  let v2 : Index := Scalar.indexCast v1
  let v3 : BitVec 32 := pf.at 0 (Rect.unit (s := S1024) ![v2.toNat] S1.size (k2_off1_inb i 5)) numel1_S1
  let c0_i32 : BitVec 32 := 0#32
  let c0_i32_0 : BitVec 32 := 0#32
  let c0_i32_1 : BitVec 32 := 0#32
  ![v3.toNat, c0_i32.toNat, c0_i32_0.toNat]

def cc2_transform_15 (k2_off1_inb : ∀ i : grid2.Coords, ∀ (r : Fin 8), ∀ a, (k2_off1 i (BitVec.ofNat 32 r.val)) a + S1.size a ≤ S1024.size a) (numel1_S1 : S1.numel = 1) (pf : pre2.Contents (Elt F)) (i : grid2.Coords) : Fin 3 → Nat :=
  let arg0 : BitVec 32 := BitVec.ofNat 32 (i 0).val
  let c8_i32 : BitVec 32 := 8#32
  let v0 : BitVec 32 := Scalar.muli arg0 c8_i32
  let c6_i32 : BitVec 32 := 6#32
  let v1 : BitVec 32 := Scalar.addi v0 c6_i32
  let v2 : Index := Scalar.indexCast v1
  let v3 : BitVec 32 := pf.at 0 (Rect.unit (s := S1024) ![v2.toNat] S1.size (k2_off1_inb i 6)) numel1_S1
  let c0_i32 : BitVec 32 := 0#32
  let c0_i32_0 : BitVec 32 := 0#32
  let c0_i32_1 : BitVec 32 := 0#32
  ![v3.toNat, c0_i32.toNat, c0_i32_0.toNat]

def cc2_transform_16 (k2_off1_inb : ∀ i : grid2.Coords, ∀ (r : Fin 8), ∀ a, (k2_off1 i (BitVec.ofNat 32 r.val)) a + S1.size a ≤ S1024.size a) (numel1_S1 : S1.numel = 1) (pf : pre2.Contents (Elt F)) (i : grid2.Coords) : Fin 3 → Nat :=
  let arg0 : BitVec 32 := BitVec.ofNat 32 (i 0).val
  let c8_i32 : BitVec 32 := 8#32
  let v0 : BitVec 32 := Scalar.muli arg0 c8_i32
  let c7_i32 : BitVec 32 := 7#32
  let v1 : BitVec 32 := Scalar.addi v0 c7_i32
  let v2 : Index := Scalar.indexCast v1
  let v3 : BitVec 32 := pf.at 0 (Rect.unit (s := S1024) ![v2.toNat] S1.size (k2_off1_inb i 7)) numel1_S1
  let c0_i32 : BitVec 32 := 0#32
  let c0_i32_0 : BitVec 32 := 0#32
  let c0_i32_1 : BitVec 32 := 0#32
  ![v3.toNat, c0_i32.toNat, c0_i32_0.toNat]

def cc2_transform_17 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1x1x8192 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x1x8192 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x1x8192 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x1x8192 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x1x8192 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1x1x8192 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1x1x8192 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1x1x8192 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S8x8x1024 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S1x8x1024 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev stage2_10 : Fin 2 → Memref sig .tc .vmem S1x8x1024 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev stage2_11 : Fin 2 → Memref sig .tc .vmem S1x8x1024 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

abbrev stage2_12 : Fin 2 → Memref sig .tc .vmem S1x8x1024 .f32 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![true]

abbrev stage2_13 : Fin 2 → Memref sig .tc .vmem S1x8x1024 .f32 := fun | 0 => Memref.whole cc2_stg13_0 | 1 => Memref.whole cc2_stg13_1 | ⟨_ + 2, h⟩ => absurd h (Nat.not_lt.2 (Nat.le_add_left _ _))
abbrev sem2_13 : Fin 2 → DmaSem sig := fun | 0 => cc2_sem13_0 | 1 => cc2_sem13_1 | ⟨_ + 2, h⟩ => absurd h (Nat.not_lt.2 (Nat.le_add_left _ _))
abbrev reads2_13 : Fin grid2.rank → Bool := ![true]

abbrev stage2_14 : Fin 2 → Memref sig .tc .vmem S1x8x1024 .f32 := fun | 0 => Memref.whole cc2_stg14_0 | 1 => Memref.whole cc2_stg14_1 | ⟨_ + 2, h⟩ => absurd h (Nat.not_lt.2 (Nat.le_add_left _ _))
abbrev sem2_14 : Fin 2 → DmaSem sig := fun | 0 => cc2_sem14_0 | 1 => cc2_sem14_1 | ⟨_ + 2, h⟩ => absurd h (Nat.not_lt.2 (Nat.le_add_left _ _))
abbrev reads2_14 : Fin grid2.rank → Bool := ![true]

abbrev stage2_15 : Fin 2 → Memref sig .tc .vmem S1x8x1024 .f32 := fun | 0 => Memref.whole cc2_stg15_0 | 1 => Memref.whole cc2_stg15_1 | ⟨_ + 2, h⟩ => absurd h (Nat.not_lt.2 (Nat.le_add_left _ _))
abbrev sem2_15 : Fin 2 → DmaSem sig := fun | 0 => cc2_sem15_0 | 1 => cc2_sem15_1 | ⟨_ + 2, h⟩ => absurd h (Nat.not_lt.2 (Nat.le_add_left _ _))
abbrev reads2_15 : Fin grid2.rank → Bool := ![true]

abbrev stage2_16 : Fin 2 → Memref sig .tc .vmem S1x8x1024 .f32 := fun | 0 => Memref.whole cc2_stg16_0 | 1 => Memref.whole cc2_stg16_1 | ⟨_ + 2, h⟩ => absurd h (Nat.not_lt.2 (Nat.le_add_left _ _))
abbrev sem2_16 : Fin 2 → DmaSem sig := fun | 0 => cc2_sem16_0 | 1 => cc2_sem16_1 | ⟨_ + 2, h⟩ => absurd h (Nat.not_lt.2 (Nat.le_add_left _ _))
abbrev reads2_16 : Fin grid2.rank → Bool := ![true]

abbrev stage2_17 : Fin 2 → Memref sig .tc .vmem S8x128 .i32 := fun | 0 => Memref.whole cc2_stg17_0 | 1 => Memref.whole cc2_stg17_1 | ⟨_ + 2, h⟩ => absurd h (Nat.not_lt.2 (Nat.le_add_left _ _))
abbrev sem2_17 : Fin 2 → DmaSem sig := fun | 0 => cc2_sem17_0 | 1 => cc2_sem17_1 | ⟨_ + 2, h⟩ => absurd h (Nat.not_lt.2 (Nat.le_add_left _ _))
abbrev reads2_17 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S2048 : Shape := ⟨1, ![2048]⟩
abbrev S8192x8192 : Shape := ⟨2, ![8192, 8192]⟩
abbrev S8192 : Shape := ⟨1, ![8192]⟩
abbrev S2048x8192 : Shape := ⟨2, ![2048, 8192]⟩
abbrev S1 : Shape := ⟨1, ![1]⟩
abbrev S_ : Shape := ⟨0, ![]⟩
abbrev S2047 : Shape := ⟨1, ![2047]⟩
abbrev S2048x1 : Shape := ⟨2, ![2048, 1]⟩
abbrev S1x1 : Shape := ⟨2, ![1, 1]⟩
abbrev S1x8192 : Shape := ⟨2, ![1, 8192]⟩
abbrev S8192x2048 : Shape := ⟨2, ![8192, 2048]⟩

abbrev nBuf : Space → Nat
  | .hbm => 138
  | .vmem => 0
  | .smem => 0
  | _ => 0

abbrev hbmTy0_0 (i : Nat) : BufTy := match i % 128 with
  | 0 => ⟨S2048, .i32⟩
  | 1 => ⟨S2048, .i1⟩
  | 2 => ⟨S8192x8192, .f32⟩
  | 3 => ⟨S8192, .f32⟩
  | 4 => ⟨S2048x8192, .f32⟩
  | 5 => ⟨S2048x8192, .f32⟩
  | 6 => ⟨S1, .i1⟩
  | 7 => ⟨S1, .i1⟩
  | 8 => ⟨S_, .i32⟩
  | 9 => ⟨S1, .i32⟩
  | 10 => ⟨S2047, .i32⟩
  | 11 => ⟨S2048, .i32⟩
  | 12 => ⟨S2047, .i1⟩
  | 13 => ⟨S2047, .i1⟩
  | 14 => ⟨S2048, .i1⟩
  | 15 => ⟨S2048x1, .i1⟩
  | 16 => ⟨S_, .i32⟩
  | 17 => ⟨S2048, .i32⟩
  | 18 => ⟨S2048, .i1⟩
  | 19 => ⟨S_, .i32⟩
  | 20 => ⟨S2048, .i32⟩
  | 21 => ⟨S2048, .i32⟩
  | 22 => ⟨S2048, .i32⟩
  | 23 => ⟨S2048x1, .i32⟩
  | 24 => ⟨S1, .i32⟩
  | 25 => ⟨S_, .i32⟩
  | 26 => ⟨S2048x1, .i32⟩
  | 27 => ⟨S2048x1, .i1⟩
  | 28 => ⟨S1x1, .i32⟩
  | 29 => ⟨S2048x1, .i32⟩
  | 30 => ⟨S2048x1, .i1⟩
  | 31 => ⟨S2048x1, .i1⟩
  | 32 => ⟨S_, .i1⟩
  | 33 => ⟨S2048, .i1⟩
  | 34 => ⟨S2048x8192, .f32⟩
  | 35 => ⟨S2048x8192, .i1⟩
  | 36 => ⟨S_, .f32⟩
  | 37 => ⟨S2048x8192, .f32⟩
  | 38 => ⟨S2048x8192, .f32⟩
  | 39 => ⟨S1x8192, .f32⟩
  | 40 => ⟨S2048x8192, .i1⟩
  | 41 => ⟨S2048x8192, .f32⟩
  | 42 => ⟨S2048x8192, .f32⟩
  | 43 => ⟨S_, .f32⟩
  | 44 => ⟨S2048x8192, .f32⟩
  | 45 => ⟨S2048x8192, .f32⟩
  | 46 => ⟨S2048x8192, .f32⟩
  | 47 => ⟨S2048x8192, .f32⟩
  | 48 => ⟨S2048x8192, .i32⟩
  | 49 => ⟨S_, .f32⟩
  | 50 => ⟨S_, .i32⟩
  | 51 => ⟨S2048, .f32⟩
  | 52 => ⟨S2048, .i32⟩
  | 53 => ⟨S2048, .i32⟩
  | 54 => ⟨S2047, .i32⟩
  | 55 => ⟨S_, .i32⟩
  | 56 => ⟨S1, .i32⟩
  | 57 => ⟨S2048, .i32⟩
  | 58 => ⟨S2047, .i1⟩
  | 59 => ⟨S2047, .i1⟩
  | 60 => ⟨S2048, .i1⟩
  | 61 => ⟨S2048, .i1⟩
  | 62 => ⟨S2048, .i1⟩
  | 63 => ⟨S_, .i32⟩
  | 64 => ⟨S2048, .i32⟩
  | 65 => ⟨S2048, .i1⟩
  | 66 => ⟨S_, .i32⟩
  | 67 => ⟨S2048, .i32⟩
  | 68 => ⟨S2048, .i32⟩
  | 69 => ⟨S2048, .i32⟩
  | 70 => ⟨S2048x1, .i32⟩
  | 71 => ⟨S1, .i32⟩
  | 72 => ⟨S_, .i32⟩
  | 73 => ⟨S2048x1, .i32⟩
  | 74 => ⟨S2048x1, .i1⟩
  | 75 => ⟨S1x1, .i32⟩
  | 76 => ⟨S2048x1, .i32⟩
  | 77 => ⟨S2048x1, .i1⟩
  | 78 => ⟨S2048x1, .i1⟩
  | 79 => ⟨S_, .i1⟩
  | 80 => ⟨S2048, .i1⟩
  | 81 => ⟨S8192x2048, .f32⟩
  | 82 => ⟨S8192x2048, .i1⟩
  | 83 => ⟨S_, .f32⟩
  | 84 => ⟨S8192x2048, .f32⟩
  | 85 => ⟨S8192x2048, .f32⟩
  | 86 => ⟨S2048x8192, .f32⟩
  | 87 => ⟨S_, .f32⟩
  | 88 => ⟨S2048, .f32⟩
  | 89 => ⟨S2048x1, .f32⟩
  | 90 => ⟨S_, .f32⟩
  | 91 => ⟨S2048x1, .f32⟩
  | 92 => ⟨S2048x1, .f32⟩
  | 93 => ⟨S2048x8192, .f32⟩
  | 94 => ⟨S2048x8192, .f32⟩
  | 95 => ⟨S_, .i32⟩
  | 96 => ⟨S2048, .i32⟩
  | 97 => ⟨S2048, .i1⟩
  | 98 => ⟨S_, .i32⟩
  | 99 => ⟨S2048, .i32⟩
  | 100 => ⟨S2048, .i32⟩
  | 101 => ⟨S2048, .i32⟩
  | 102 => ⟨S2048x1, .i32⟩
  | 103 => ⟨S1, .i32⟩
  | 104 => ⟨S_, .i32⟩
  | 105 => ⟨S2048x1, .i32⟩
  | 106 => ⟨S2048x1, .i1⟩
  | 107 => ⟨S1x1, .i32⟩
  | 108 => ⟨S2048x1, .i32⟩
  | 109 => ⟨S2048x1, .i1⟩
  | 110 => ⟨S2048x1, .i1⟩
  | 111 => ⟨S_, .i1⟩
  | 112 => ⟨S2048, .i1⟩
  | 113 => ⟨S2048x8192, .f32⟩
  | 114 => ⟨S2048x8192, .i1⟩
  | 115 => ⟨S_, .f32⟩
  | 116 => ⟨S2048x8192, .f32⟩
  | 117 => ⟨S2048x8192, .f32⟩
  | 118 => ⟨S2048x8192, .f32⟩
  | 119 => ⟨S_, .f32⟩
  | 120 => ⟨S2048, .f32⟩
  | 121 => ⟨S2048x1, .f32⟩
  | 122 => ⟨S_, .f32⟩
  | 123 => ⟨S2048x1, .f32⟩
  | 124 => ⟨S2048x1, .f32⟩
  | 125 => ⟨S2048x8192, .f32⟩
  | 126 => ⟨S2048x8192, .f32⟩
  | 127 => ⟨S_, .f32⟩
  | _ => ⟨S2048, .i32⟩

abbrev hbmTy0_1 (i : Nat) : BufTy := match i % 128 with
  | 0 => ⟨S2048x8192, .f32⟩
  | 1 => ⟨S2048x8192, .f32⟩
  | 2 => ⟨S2048x8192, .f32⟩
  | 3 => ⟨S2048x8192, .f32⟩
  | 4 => ⟨S2048x8192, .i32⟩
  | 5 => ⟨S_, .f32⟩
  | 6 => ⟨S_, .i32⟩
  | 7 => ⟨S2048, .f32⟩
  | 8 => ⟨S2048, .i32⟩
  | 9 => ⟨S2048, .i32⟩
  | _ => ⟨S2048, .i32⟩

abbrev hbmTy (i : Nat) : BufTy := match i / 128 with
  | 0 => hbmTy0_0 i
  | 1 => hbmTy0_1 i
  | _ => ⟨S2048, .i32⟩

abbrev bufTy : (tb : Table) → Fin (tcTables nBuf tb) → BufTy
  | .hbm, ⟨i, _⟩ => hbmTy i
  | _, _ => ⟨S2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_c_1 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c_1 : Ref sig .tc := ⟨.hbm, 24, rfl⟩
abbrev main_call0_c_2 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_3 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_call0_cst : Ref sig .tc := ⟨.hbm, 36, rfl⟩
abbrev main_call0_v15 : Ref sig .tc := ⟨.hbm, 37, rfl⟩
abbrev main_v7 : Ref sig .tc := ⟨.hbm, 38, rfl⟩
abbrev main_v8 : Ref sig .tc := ⟨.hbm, 39, rfl⟩
abbrev main_call1_v0 : Ref sig .tc := ⟨.hbm, 40, rfl⟩
abbrev main_call1_v1 : Ref sig .tc := ⟨.hbm, 41, rfl⟩
abbrev main_v9 : Ref sig .tc := ⟨.hbm, 42, rfl⟩
abbrev main_cst : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_call2_v0 : Ref sig .tc := ⟨.hbm, 48, rfl⟩
abbrev main_call2_cst : Ref sig .tc := ⟨.hbm, 49, rfl⟩
abbrev main_call2_c : Ref sig .tc := ⟨.hbm, 50, rfl⟩
abbrev main_call2_v1_0 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_c_2 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_call4_c : Ref sig .tc := ⟨.hbm, 63, rfl⟩
abbrev main_call4_v0 : Ref sig .tc := ⟨.hbm, 64, rfl⟩
abbrev main_call4_v1 : Ref sig .tc := ⟨.hbm, 65, rfl⟩
abbrev main_call4_c_0 : Ref sig .tc := ⟨.hbm, 66, rfl⟩
abbrev main_call4_v2 : Ref sig .tc := ⟨.hbm, 67, rfl⟩
abbrev main_call4_v3 : Ref sig .tc := ⟨.hbm, 68, rfl⟩
abbrev main_call4_v4 : Ref sig .tc := ⟨.hbm, 69, rfl⟩
abbrev main_call4_v5 : Ref sig .tc := ⟨.hbm, 70, rfl⟩
abbrev main_call4_c_1 : Ref sig .tc := ⟨.hbm, 71, rfl⟩
abbrev main_call4_c_2 : Ref sig .tc := ⟨.hbm, 72, rfl⟩
abbrev main_call4_v6 : Ref sig .tc := ⟨.hbm, 73, rfl⟩
abbrev main_call4_v7 : Ref sig .tc := ⟨.hbm, 74, rfl⟩
abbrev main_call4_v8 : Ref sig .tc := ⟨.hbm, 75, rfl⟩
abbrev main_call4_v9 : Ref sig .tc := ⟨.hbm, 76, rfl⟩
abbrev main_call4_v10 : Ref sig .tc := ⟨.hbm, 77, rfl⟩
abbrev main_call4_v11 : Ref sig .tc := ⟨.hbm, 78, rfl⟩
abbrev main_call4_c_3 : Ref sig .tc := ⟨.hbm, 79, rfl⟩
abbrev main_call4_v12 : Ref sig .tc := ⟨.hbm, 80, rfl⟩
abbrev main_call4_v13 : Ref sig .tc := ⟨.hbm, 81, rfl⟩
abbrev main_call4_v14 : Ref sig .tc := ⟨.hbm, 82, rfl⟩
abbrev main_call4_cst : Ref sig .tc := ⟨.hbm, 83, rfl⟩
abbrev main_call4_v15 : Ref sig .tc := ⟨.hbm, 84, rfl⟩
abbrev main_v24 : Ref sig .tc := ⟨.hbm, 85, rfl⟩
abbrev main_v25 : Ref sig .tc := ⟨.hbm, 86, rfl⟩
abbrev main_cst_3 : Ref sig .tc := ⟨.hbm, 87, rfl⟩
abbrev main_v26 : Ref sig .tc := ⟨.hbm, 88, rfl⟩
abbrev main_v27 : Ref sig .tc := ⟨.hbm, 89, rfl⟩
abbrev main_cst_4 : Ref sig .tc := ⟨.hbm, 90, rfl⟩
abbrev main_v28 : Ref sig .tc := ⟨.hbm, 91, rfl⟩
abbrev main_v29 : Ref sig .tc := ⟨.hbm, 92, rfl⟩
abbrev main_v30 : Ref sig .tc := ⟨.hbm, 93, rfl⟩
abbrev main_v31 : Ref sig .tc := ⟨.hbm, 94, rfl⟩
abbrev main_call5_c : Ref sig .tc := ⟨.hbm, 95, rfl⟩
abbrev main_call5_v0 : Ref sig .tc := ⟨.hbm, 96, rfl⟩
abbrev main_call5_v1 : Ref sig .tc := ⟨.hbm, 97, rfl⟩
abbrev main_call5_c_0 : Ref sig .tc := ⟨.hbm, 98, rfl⟩
abbrev main_call5_v2 : Ref sig .tc := ⟨.hbm, 99, rfl⟩
abbrev main_call5_v3 : Ref sig .tc := ⟨.hbm, 100, rfl⟩
abbrev main_call5_v4 : Ref sig .tc := ⟨.hbm, 101, rfl⟩
abbrev main_call5_v5 : Ref sig .tc := ⟨.hbm, 102, rfl⟩
abbrev main_call5_c_1 : Ref sig .tc := ⟨.hbm, 103, rfl⟩
abbrev main_call5_c_2 : Ref sig .tc := ⟨.hbm, 104, rfl⟩
abbrev main_call5_v6 : Ref sig .tc := ⟨.hbm, 105, rfl⟩
abbrev main_call5_v7 : Ref sig .tc := ⟨.hbm, 106, rfl⟩
abbrev main_call5_v8 : Ref sig .tc := ⟨.hbm, 107, rfl⟩
abbrev main_call5_v9 : Ref sig .tc := ⟨.hbm, 108, rfl⟩
abbrev main_call5_v10 : Ref sig .tc := ⟨.hbm, 109, rfl⟩
abbrev main_call5_v11 : Ref sig .tc := ⟨.hbm, 110, rfl⟩
abbrev main_call5_c_3 : Ref sig .tc := ⟨.hbm, 111, rfl⟩
abbrev main_call5_v12 : Ref sig .tc := ⟨.hbm, 112, rfl⟩
abbrev main_call5_v13 : Ref sig .tc := ⟨.hbm, 113, rfl⟩
abbrev main_call5_v14 : Ref sig .tc := ⟨.hbm, 114, rfl⟩
abbrev main_call5_cst : Ref sig .tc := ⟨.hbm, 115, rfl⟩
abbrev main_call5_v15 : Ref sig .tc := ⟨.hbm, 116, rfl⟩
abbrev main_v32 : Ref sig .tc := ⟨.hbm, 117, rfl⟩
abbrev main_v33 : Ref sig .tc := ⟨.hbm, 118, rfl⟩
abbrev main_cst_5 : Ref sig .tc := ⟨.hbm, 119, rfl⟩
abbrev main_v34 : Ref sig .tc := ⟨.hbm, 120, rfl⟩
abbrev main_v35 : Ref sig .tc := ⟨.hbm, 121, rfl⟩
abbrev main_cst_6 : Ref sig .tc := ⟨.hbm, 122, rfl⟩
abbrev main_v36 : Ref sig .tc := ⟨.hbm, 123, rfl⟩
abbrev main_v37 : Ref sig .tc := ⟨.hbm, 124, rfl⟩
abbrev main_v38 : Ref sig .tc := ⟨.hbm, 125, rfl⟩
abbrev main_v39 : Ref sig .tc := ⟨.hbm, 126, rfl⟩
abbrev main_cst_7 : Ref sig .tc := ⟨.hbm, 127, rfl⟩
abbrev main_v40 : Ref sig .tc := ⟨.hbm, 128, rfl⟩
abbrev main_v41 : Ref sig .tc := ⟨.hbm, 129, rfl⟩
abbrev main_v42 : Ref sig .tc := ⟨.hbm, 130, rfl⟩
abbrev main_v43 : Ref sig .tc := ⟨.hbm, 131, rfl⟩
abbrev main_call6_v0 : Ref sig .tc := ⟨.hbm, 132, rfl⟩
abbrev main_call6_cst : Ref sig .tc := ⟨.hbm, 133, rfl⟩
abbrev main_call6_c : Ref sig .tc := ⟨.hbm, 134, rfl⟩
abbrev main_call6_v1_0 : Ref sig .tc := ⟨.hbm, 135, rfl⟩
abbrev main_v44 : Ref sig .tc := ⟨.hbm, 136, rfl⟩
abbrev main_v45 : Ref sig .tc := ⟨.hbm, 137, rfl⟩

abbrev nD : Nat := 1
abbrev τ : Topo := Topo.v7x

variable {F : FTy → Type} [FloatOps F]
-- ==== Proof.Symbols.lean ====
/-
  What the precondition says of the symbols: each word is below 8192.
-/
module

public import proofs.«01_k».proof.Defs
public import proofs.«01_k».proof.Proof.Gen.Pre_symbols_in_range
public import Idealize.ShloMosaic.Lib.ReduceAll
public import Idealize.ShloMosaic.Lib.ValueIdxCore

@[expose] public section

noncomputable section

namespace Cert.Smooth

open Idealize.ShloMosaic Cert.Pre_symbols_in_range

/-- A word both comparisons pass, as signed words, is below 8192. -/
theorem below_of_tests (v : BitVec 32) (e : IntOp.andi (IntOp.cmpi .sge v 0#32) (IntOp.cmpi .slt v 8192#32) = 1#1) : v.toNat < 8192 := by
  obtain ⟨h0, h1⟩ := IntOp.andi_eq_one.1 e
  have one (p : Bool) : (BitVec.ofBool p = 1#1) ↔ p = true := by cases p <;> decide
  simp only [IntOp.cmpi, one, BitVec.sle_eq_decide, BitVec.slt_eq_decide, decide_eq_true_eq, BitVec.toInt_eq_toNat_cond,
    BitVec.toNat_ofNat, Nat.reducePow, Nat.reduceMod] at h0 h1
  omega

variable {F : FTy → Type} [FloatOps F]

theorem symbol_lt (z : S2048.Idx → BitVec 32) (c : S2048.Idx → BitVec 1) (M : S8192x8192.Idx → F .f32) (q : S8192.Idx → F .f32)
    (gf gb : S2048x8192.Idx → F .f32) (h : @Cert.Pre_symbols_in_range.fn Gen.facts F _ z c M q gf gb = fun _ => 1#1) (i : S2048.Idx) :
    (z i).toNat < 8192 := by
  have e := congrFun h ValueIdx.ix0
  unfold Cert.Pre_symbols_in_range.fn at e
  have : Subsingleton S_.Idx := ⟨fun a b => funext fun x => x.elim0⟩
  exact below_of_tests _ (Host.reduce_andi_all _ _ _ _ _ e i)

end Cert.Smooth

end
-- ==== Proof.Body.lean ====
/-
  Loads and stores of a TensorCore kernel's buffers, stated of the contents of the buffer as the memref numbers them.
-/
module

public import proofs.«01_k».proof.Defs
public import Idealize.ShloMosaic.Lib.Tactic
public import Idealize.ShloMosaic.Lib.ViewIndex
public import Idealize.ShloMosaic.Lib.Pipeline.Kit

@[expose] public section

noncomputable section

namespace Cert.Smooth

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Tactic

variable {nD : Nat} {τ : Topo} {sig : RefSig} {Val : EltTy → Type} {Λ : Labels}
variable {Ix : Type} [DecidableEq Ix] {Name : Type} [DecidableEq Name] {U : Type} [URA U] {Lvl : Type} [Preorder Lvl]

local notation "𝕄" => MT nD τ sig Ix Val Name U Lvl

/-- What a store of `w` at `r` leaves of `X`. -/
def Put {s : Shape} {α : Type} (r : Rect s) (w : r.shape.Idx → α) (X X' : s.Idx → α) : Prop :=
  (∀ x, X' (r.idx x) = w x) ∧ ∀ i, (∀ x, r.idx x ≠ i) → X' i = X i

section
variable {defs : Defs nD τ sig Val Λ} (𝒱 : Variants) (c : Thread nD τ) (bd : Option 𝒱.V) (E : Set Name)
variable {s : Shape} {e : EltTy} {α : Type}

theorem owns_load {cs : CoreSpace} {m : Memref sig c.2.kind cs s e} {r : Rect s} {hl : m.view.LoadsAt r.toLoadRect}
    {k : (r.shape.Idx → Val e) → Prog (TpuEff nD τ sig Val Λ c.2) α} {q : PosShare TreeShare} {X : s.Idx → Val e} {Q : α → sProp 𝕄} :
    (owns c m q X : sProp 𝕄)
      ⊢ iprop((owns c m q X -∗ wp frame (wpE defs 𝒱 c bd) E (k fun x => X (r.idx x)) Q)
        -∗ wp frame (wpE defs 𝒱 c bd) E (.op (.load m r.toLoadRect hl) k) Q) := by
  unfold owns
  have hS : m.view.setOn r.toLoadRect.set ⊆ m.view.set := View.setOn_subset_set _ _
  iintro ⟨%f, %hf, H⟩ Hk
  iapply (wp_load (defs := defs) 𝒱 c bd (Γ := ∅) E (m := m) (r := r.toLoadRect) (k := k) (S := m.view.set) hS) $$ H
  iintro H
  have h : m.view.readAt Val r.toLoadRect f = fun x => X (r.idx x) := by
    funext x; rw [View.readAt_apply, hf]
  rw [h]
  iapply Hk; iexists f; isplitr
  · ipureintro; exact hf
  · iexact H

theorem owns_smem {m : Memref sig c.2.kind .smem s e} {r : Rect s} {hw : (m.access r).Loads} {x : r.shape.Idx}
    {k : Val e → Prog (TpuEff nD τ sig Val Λ c.2) α} {q : PosShare TreeShare} {X : s.Idx → Val e} {Q : α → sProp 𝕄} :
    (owns c m q X : sProp 𝕄)
      ⊢ iprop((owns c m q X -∗ wp frame (wpE defs 𝒱 c bd) E (k (X (r.idx x))) Q)
        -∗ wp frame (wpE defs 𝒱 c bd) E (smemLoadElt m r hw x k) Q) := by
  unfold owns
  have hS : (m.access r).set ⊆ m.view.set := View.set_slice_subset _ _
  iintro ⟨%f, %hf, H⟩ Hk
  iapply (wp_smemLoadElt (defs := defs) 𝒱 c bd (Γ := ∅) E (m := m) (r := r) (x := x) (k := k) (S := m.view.set) hS) $$ H
  iintro H
  have h : (m.access r).read Val f x = X (r.idx x) := by
    subst hf; rfl
  rw [h]
  iapply Hk; iexists f; isplitr
  · ipureintro; exact hf
  · iexact H

theorem owns_store {cs : CoreSpace} {m : Memref sig c.2.kind cs s e} {r : Rect s} {w : r.shape.Idx → Val e} {hx : (m.access r).Stores Finset.univ}
    {hm : Finset.univ = Finset.univ ∨ ∀ a, r.stride a = 1}
    {k : PUnit → Prog (TpuEff nD τ sig Val Λ c.2) α} {X : s.Idx → Val e} {Q : α → sProp 𝕄} :
    (owns c m fullShare X : sProp 𝕄)
      ⊢ iprop((∀ X', ⌜Put r w X X'⌝ -∗ owns c m fullShare X' -∗ wp frame (wpE defs 𝒱 c bd) E (k ⟨⟩) Q)
        -∗ wp frame (wpE defs 𝒱 c bd) E (.op (.store m r w Finset.univ hx hm) k) Q) := by
  unfold owns
  have hS : (m.access r).setOn Finset.univ ⊆ m.view.set := (View.setOn_subset_set _ _).trans (View.set_slice_subset _ _)
  iintro ⟨%f, %hf, H⟩ Hk
  iapply (wp_store (defs := defs) 𝒱 c bd (Γ := ∅) E (m := m) (r := r) (w := w) (k := k) (S := m.view.set) hS) $$ H
  iintro H
  ispecialize Hk $$ %(m.view.read Val ((m.access r).write Val f w Finset.univ))
  iapply Hk
  · ipureintro
    constructor
    · intro x
      exact View.read_slice_write_emb (v := m.view) r f w (Finset.mem_univ x)
    · intro i hi
      rw [← hf]
      refine View.read_slice_write_of_not_mem (v := m.view) r f w Finset.univ ?_
      intro h
      obtain ⟨x, -, hx⟩ := Finset.mem_map.mp h
      exact hi x hx
  · iexists ((m.access r).write Val f w Finset.univ); isplitr
    · ipureintro; rfl
    · iexact H

/-- A step of a body that works only under a condition: it reads a word, two arrays, and a row of the output it does not
    use, and stores a row there. -/
def chunkF {sp₁ sp₂ spo : CoreSpace} {s₀ s₁ s₂ so : Shape} {e₀ e₁ e₂ eo : EltTy} {κ : Proc τ} (b : BitVec 1)
    (m₀ : Memref sig κ.kind .smem s₀ e₀) (r₀ : Rect s₀) (hn : r₀.shape.numel = 1) (hp : e₀.packing = 1)
    (m₁ : Memref sig κ.kind sp₁ s₁ e₁) (r₁ : Rect s₁) (hl₁ : m₁.view.LoadsAt r₁.toLoadRect)
    (m₂ : Memref sig κ.kind sp₂ s₂ e₂) (r₂ : Rect s₂) (hl₂ : m₂.view.LoadsAt r₂.toLoadRect)
    (mo : Memref sig κ.kind spo so eo) (ro : Rect so) (hlo : mo.view.LoadsAt ro.toLoadRect) (hso : (mo.access ro).Stores Finset.univ)
    (hm : (Finset.univ : Finset ro.shape.Idx) = Finset.univ ∨ ∀ a, ro.stride a = 1)
    (pay : Val e₀ → (r₁.shape.Idx → Val e₁) → (r₂.shape.Idx → Val e₂) → ro.shape.Idx → Val eo)
    (k : Unit → Prog (TpuEff nD τ sig Val Λ κ) α) : Prog (TpuEff nD τ sig Val Λ κ) α :=
  if _h : b = 1#1 then
    smemLoadElt m₀ r₀ (View.loads_smem_one hp hn) (Shape.Idx.first (hn.symm ▸ Nat.one_pos)) fun v =>
    .op (.load m₁ r₁.toLoadRect hl₁) fun x => .op (.load m₂ r₂.toLoadRect hl₂) fun y => .op (.load mo ro.toLoadRect hlo) fun _ =>
      .op (.store mo ro (pay v x y) Finset.univ hso hm) fun _ => k ⟨⟩
  else k ⟨⟩

theorem wp_chunkF {sp₁ sp₂ spo : CoreSpace} {s₀ s₁ s₂ so : Shape} {e₀ e₁ e₂ eo : EltTy} {b : BitVec 1}
    {m₀ : Memref sig c.2.kind .smem s₀ e₀} {r₀ : Rect s₀} {hn : r₀.shape.numel = 1} {hp : e₀.packing = 1}
    {m₁ : Memref sig c.2.kind sp₁ s₁ e₁} {r₁ : Rect s₁} {hl₁ : m₁.view.LoadsAt r₁.toLoadRect}
    {m₂ : Memref sig c.2.kind sp₂ s₂ e₂} {r₂ : Rect s₂} {hl₂ : m₂.view.LoadsAt r₂.toLoadRect}
    {mo : Memref sig c.2.kind spo so eo} {ro : Rect so} {hlo : mo.view.LoadsAt ro.toLoadRect} {hso : (mo.access ro).Stores Finset.univ}
    {hm : (Finset.univ : Finset ro.shape.Idx) = Finset.univ ∨ ∀ a, ro.stride a = 1}
    {pay : Val e₀ → (r₁.shape.Idx → Val e₁) → (r₂.shape.Idx → Val e₂) → ro.shape.Idx → Val eo}
    {k : Unit → Prog (TpuEff nD τ sig Val Λ c.2) α} {q₀ q₁ q₂ : PosShare TreeShare}
    {X₀ : s₀.Idx → Val e₀} {X₁ : s₁.Idx → Val e₁} {X₂ : s₂.Idx → Val e₂} {Z : so.Idx → Val eo} {Q : α → sProp 𝕄} :
    (iprop(owns c m₀ q₀ X₀ ∗ owns c m₁ q₁ X₁ ∗ owns c m₂ q₂ X₂ ∗ owns c mo fullShare Z) : sProp 𝕄)
      ⊢ iprop((∀ Z', ⌜(b = 1#1 → Put ro (pay (X₀ (r₀.idx (Shape.Idx.first (hn.symm ▸ Nat.one_pos)))) (fun x => X₁ (r₁.idx x)) (fun x => X₂ (r₂.idx x))) Z Z')
            ∧ (b ≠ 1#1 → Z' = Z)⌝ -∗ owns c m₀ q₀ X₀ -∗ owns c m₁ q₁ X₁ -∗ owns c m₂ q₂ X₂ -∗ owns c mo fullShare Z' -∗
            wp frame (wpE defs 𝒱 c bd) E (k ⟨⟩) Q)
        -∗ wp frame (wpE defs 𝒱 c bd) E (chunkF b m₀ r₀ hn hp m₁ r₁ hl₁ m₂ r₂ hl₂ mo ro hlo hso hm pay k) Q) := by
  iintro ⟨H0, H1, H2, HO⟩ Hk
  unfold chunkF
  by_cases hb : b = 1#1
  · rw [dif_pos hb]
    iapply (owns_smem (defs := defs) 𝒱 c bd E) $$ H0; iintro H0
    iapply (owns_load (defs := defs) 𝒱 c bd E) $$ H1; iintro H1
    iapply (owns_load (defs := defs) 𝒱 c bd E) $$ H2; iintro H2
    iapply (owns_load (defs := defs) 𝒱 c bd E) $$ HO; iintro HO
    iapply (owns_store (defs := defs) 𝒱 c bd E) $$ HO; iintro %Z' %hZ HO
    ispecialize Hk $$ %Z'
    iapply Hk $$ [] H0 H1 H2 HO
    ipureintro; exact ⟨fun _ => hZ, fun h => absurd hb h⟩
  · rw [dif_neg hb]
    ispecialize Hk $$ %Z
    iapply Hk $$ [] H0 H1 H2 HO
    ipureintro; exact ⟨fun h => absurd h hb, fun _ => rfl⟩

/-- The same with no word to read but a third array. -/
def chunkB {sp₀ sp₁ sp₂ spo : CoreSpace} {s₀ s₁ s₂ so : Shape} {e₀ e₁ e₂ eo : EltTy} {κ : Proc τ} (b : BitVec 1)
    (m₀ : Memref sig κ.kind sp₀ s₀ e₀) (r₀ : Rect s₀) (hl₀ : m₀.view.LoadsAt r₀.toLoadRect)
    (m₁ : Memref sig κ.kind sp₁ s₁ e₁) (r₁ : Rect s₁) (hl₁ : m₁.view.LoadsAt r₁.toLoadRect)
    (m₂ : Memref sig κ.kind sp₂ s₂ e₂) (r₂ : Rect s₂) (hl₂ : m₂.view.LoadsAt r₂.toLoadRect)
    (mo : Memref sig κ.kind spo so eo) (ro : Rect so) (hlo : mo.view.LoadsAt ro.toLoadRect) (hso : (mo.access ro).Stores Finset.univ)
    (hm : (Finset.univ : Finset ro.shape.Idx) = Finset.univ ∨ ∀ a, ro.stride a = 1)
    (pay : (r₀.shape.Idx → Val e₀) → (r₁.shape.Idx → Val e₁) → (r₂.shape.Idx → Val e₂) → ro.shape.Idx → Val eo)
    (k : Unit → Prog (TpuEff nD τ sig Val Λ κ) α) : Prog (TpuEff nD τ sig Val Λ κ) α :=
  if _h : b = 1#1 then
    .op (.load m₀ r₀.toLoadRect hl₀) fun v =>
    .op (.load m₁ r₁.toLoadRect hl₁) fun x => .op (.load m₂ r₂.toLoadRect hl₂) fun y => .op (.load mo ro.toLoadRect hlo) fun _ =>
      .op (.store mo ro (pay v x y) Finset.univ hso hm) fun _ => k ⟨⟩
  else k ⟨⟩

theorem wp_chunkB {sp₀ sp₁ sp₂ spo : CoreSpace} {s₀ s₁ s₂ so : Shape} {e₀ e₁ e₂ eo : EltTy} {b : BitVec 1}
    {m₀ : Memref sig c.2.kind sp₀ s₀ e₀} {r₀ : Rect s₀} {hl₀ : m₀.view.LoadsAt r₀.toLoadRect}
    {m₁ : Memref sig c.2.kind sp₁ s₁ e₁} {r₁ : Rect s₁} {hl₁ : m₁.view.LoadsAt r₁.toLoadRect}
    {m₂ : Memref sig c.2.kind sp₂ s₂ e₂} {r₂ : Rect s₂} {hl₂ : m₂.view.LoadsAt r₂.toLoadRect}
    {mo : Memref sig c.2.kind spo so eo} {ro : Rect so} {hlo : mo.view.LoadsAt ro.toLoadRect} {hso : (mo.access ro).Stores Finset.univ}
    {hm : (Finset.univ : Finset ro.shape.Idx) = Finset.univ ∨ ∀ a, ro.stride a = 1}
    {pay : (r₀.shape.Idx → Val e₀) → (r₁.shape.Idx → Val e₁) → (r₂.shape.Idx → Val e₂) → ro.shape.Idx → Val eo}
    {k : Unit → Prog (TpuEff nD τ sig Val Λ c.2) α} {q₀ q₁ q₂ : PosShare TreeShare}
    {X₀ : s₀.Idx → Val e₀} {X₁ : s₁.Idx → Val e₁} {X₂ : s₂.Idx → Val e₂} {Z : so.Idx → Val eo} {Q : α → sProp 𝕄} :
    (iprop(owns c m₀ q₀ X₀ ∗ owns c m₁ q₁ X₁ ∗ owns c m₂ q₂ X₂ ∗ owns c mo fullShare Z) : sProp 𝕄)
      ⊢ iprop((∀ Z', ⌜(b = 1#1 → Put ro (pay (fun x => X₀ (r₀.idx x)) (fun x => X₁ (r₁.idx x)) (fun x => X₂ (r₂.idx x))) Z Z')
            ∧ (b ≠ 1#1 → Z' = Z)⌝ -∗ owns c m₀ q₀ X₀ -∗ owns c m₁ q₁ X₁ -∗ owns c m₂ q₂ X₂ -∗ owns c mo fullShare Z' -∗
            wp frame (wpE defs 𝒱 c bd) E (k ⟨⟩) Q)
        -∗ wp frame (wpE defs 𝒱 c bd) E (chunkB b m₀ r₀ hl₀ m₁ r₁ hl₁ m₂ r₂ hl₂ mo ro hlo hso hm pay k) Q) := by
  iintro ⟨H0, H1, H2, HO⟩ Hk
  unfold chunkB
  by_cases hb : b = 1#1
  · rw [dif_pos hb]
    iapply (owns_load (defs := defs) 𝒱 c bd E) $$ H0; iintro H0
    iapply (owns_load (defs := defs) 𝒱 c bd E) $$ H1; iintro H1
    iapply (owns_load (defs := defs) 𝒱 c bd E) $$ H2; iintro H2
    iapply (owns_load (defs := defs) 𝒱 c bd E) $$ HO; iintro HO
    iapply (owns_store (defs := defs) 𝒱 c bd E) $$ HO; iintro %Z' %hZ HO
    ispecialize Hk $$ %Z'
    iapply Hk $$ [] H0 H1 H2 HO
    ipureintro; exact ⟨fun _ => hZ, fun h => absurd hb h⟩
  · rw [dif_neg hb]
    ispecialize Hk $$ %Z
    iapply Hk $$ [] H0 H1 H2 HO
    ipureintro; exact ⟨fun h => absurd h hb, fun _ => rfl⟩

end

end Cert.Smooth
-- ==== Proof.Region.lean ====
module

public import Idealize.ShloMosaic.Lib.Pipeline.RegionArraysF
public import Idealize.ShloMosaic.Lib.Pipeline.RegionArraysT

/-! # A region whose arrays are read by several windows and whose one output is known up to a relation

The region takes the core's unscoped buffers at one valuation and gives them back at another, which differs from it in the one
output array alone; that array is some contents the relational proof data allows at the last point. -/

@[expose] public section

noncomputable section

namespace Cert.Smooth

open Idealize.ShloMosaic Idealize.SL Idealize.SL.BI Idealize.SL.BI.BIBase Idealize.SL.BI.Laws Idealize.SL.Sem Idealize.SL.ProofMode Idealize.SL.RA
open Idealize.ShloMosaic.Pipeline Idealize.ShloMosaic.Rounds
open TcCoe

variable {nD : Nat} {τ : Topo} {sig : RefSig} {Val : EltTy → Type}
variable {Ix : Type} [DecidableEq Ix] {Name : Type} [DecidableEq Name] {U : Type} [URA U] {Lvl : Type} [Preorder Lvl]

local notation "𝕄" => MT nD τ sig Ix Val Name U Lvl

variable {Λ₀ : Labels}

/-- What a fetch of a window that clips nothing puts under an index is the array's element under the block's index. -/
theorem fetched_apply {cfg : Pipeline.Cfg sig Λ₀} {c : Dev nD} (rd : RDat τ Val Ix Name U Lvl cfg c) (w : Fin cfg.W)
    (hclip : ∀ i a, (cfg.win w).clip i a = none) (t : Fin cfg.N) (d) (y : (cfg.win w).block.Idx) :
    ∃ y' : ((cfg.win w).xblock (cfg.grid.coords t)).Idx, (∀ a, (y' a).val = (y a).val) ∧
      rd.fetched w t d y = ((cfg.win w).blk t).view.read Val (rd.A w) y' := by
  have hm : (cfg.win w).moved (cfg.grid.coords t) y = true :=
    ((cfg.win w).moved_iff _ y).mpr fun a => by have := (y a).isLt; unfold Window.xsize; rw [hclip]; exact this
  unfold RDat.fetched Window.fill
  rw [dif_pos hm]
  exact ⟨_, fun a => rfl, rfl⟩

/-- The relational data of a region whose body keeps its input windows and leaves the output window related to the point. -/
def rdat {P : Type} (pcs : P → PCfg sig Λ₀ Val) (a : (p : P) → (pcs p).Adm) (W : Dev nD → Valuation τ sig Val)
    (w₀ : (p : P) → Fin (pin pcs a p).W)
    (Rel : (p : P) → (c : Dev nD) → (t : Fin (pin pcs a p).N) → (((pin pcs a p).win (w₀ p)).block.Idx → Val ((pin pcs a p).win (w₀ p)).elt) → Prop)
    (p : P) (c : Dev nD) : RDat τ Val Ix Name U Lvl (pin pcs a p) c where
  A w := W c (Proc.devRef .tc (arrRef (pcs p).spec w))
  after w t Y X := (((pin pcs a p).win w).isOut = false → X = Y) ∧
    ∀ h : w = w₀ p, Rel p c t (by subst h; exact X)
  Φ t := iprop(scopedRest (pin pcs a p).spec c ∗ prefHeld (pcs p).pre c (fun _ => fullShare) (a p).1)
  q w := shareOf (pcs p).spec w
  owed t := 0

section Seg

variable {P : Type} [Fintype P]
variable (pcs : P → PCfg sig Λ₀ Val) (a : (p : P) → (pcs p).Adm)
  (rdats : (p : P) → (c : Dev nD) → RDat τ Val Ix Name U Lvl (pin pcs a p) c) (ι : Ix)
  (defs₀ : Defs nD τ sig Val Λ₀) (𝒱₀ : Variants)
  (L : GSem nD τ sig → Finset Ix) (lv : GSem nD τ sig → Ix → Lvl) (p : P)

omit [Preorder Lvl] in
/-- The windows' arrays held whole are `held` over their references. -/
theorem arrBufs_held {gr nW : ℕ} (win : Fin nW → WinSpec sig gr) (c : Dev nD) (W : Valuation τ sig Val) :
    (arrBufs win c (fun b => W (Proc.devRef .tc b)) : sProp 𝕄) = StableHlo.held (c.tc : Thread nD τ) (arrRefs win) W := by
  unfold arrBufs StableHlo.held arrRefs
  rw [bigSep_map]
  rfl

/-- The references of the region's rest. -/
abbrev restRefs (pc : PCfg sig Λ₀ Val) : Finset (DevRef τ sig) := (ucRefs τ sig \ arrRefs pc.spec) \ tblRefs pc.pre

/-- What a region leaves: the core's unscoped buffers at a valuation that differs from the one it was entered at in one array
    alone, whose contents the relational proof data allows at the last point. -/
def leftAt (W : Valuation τ sig Val) (w₀ : Fin (pin pcs a p).W) (c : Dev nD) (A' : Buf Val (((pin pcs a p).win w₀).arr.view.loc (c.tc : Thread nD τ))) :
    Valuation τ sig Val :=
  Function.update W (Proc.devRef .tc (arrRef (pcs p).spec w₀)) A'

def seg [∀ e, Nonempty (Val e)] (kit : PLaunchFacts₀ (nD := nD) (τ := τ) pcs p) (W : Dev nD → Valuation τ sig Val) (w₀ : Fin (pin pcs a p).W)
    (h₀ : ((pin pcs a p).win w₀).isOut = true) (hin : ∀ w, w ≠ w₀ → ((pin pcs a p).win w).isOut = false)
    (hne : ∀ w, w ≠ w₀ → arrRef (pcs p).spec w ≠ arrRef (pcs p).spec w₀)
    (hA : ∀ c w, (rdats p c).A w = W c (Proc.devRef .tc (arrRef (pcs p).spec w)))
    (hT : ∀ c k, (a p).1 k = W c (Proc.devRef .tc ((pcs p).pre.ref k)))
    (hq : ∀ c w, (rdats p c).q w = shareOf (pcs p).spec w)
    (hΦ : ∀ c t, (rdats p c).Φ t = iprop(scopedRest (pin pcs a p).spec c ∗ prefHeld (pcs p).pre c (fun _ => fullShare) (a p).1))
    (howed : ∀ c t, (rdats p c).owed t = 0) (hrec : ∀ c, (rdats p c).recorded 0 = Set.univ)
    (hbody : ∀ c, (rdats p c).BodyObligation defs₀ 𝒱₀ ι Set.univ) :
    RDat.RegionSeg pcs a rdats ι defs₀ 𝒱₀ L lv p where
  win := kit.win
  block_pos := kit.block_pos
  stage_whole := kit.stage_whole
  K := PEmpty
  osem k := k.elim
  ho := OwnSemFacts.none _
  hbody := hbody
  hwaits c := (show _ ⊢ (emp : sProp 𝕄) from by iintro -; iempintro).trans (RDat.cellsWaits_of_owed_zero (pin pcs a) rdats ι p c (howed c))
  pre c := iprop(StableHlo.held (c.tc : Thread nD τ) (ucRefs τ sig) (W c) ∗ ∃ Wd, owes (c : Thread nD τ) 0 Wd)
  post c := iprop((∃ A', ⌜(rdats p c).ArrAt w₀ (pin pcs a p).N A'⌝ ∗ StableHlo.held (c.tc : Thread nD τ) (ucRefs τ sig) (leftAt pcs a p (W c) w₀ c A'))
    ∗ ∃ Wd, owes (c : Thread nD τ) 0 Wd)
  X c := iprop(emp)
  Y c := prefHeld (pcs p).pre c (fun _ => fullShare) (a p).1
  Z c := StableHlo.held (c.tc : Thread nD τ) (restRefs (pcs p)) (W c)
  hentry c := by
    rw [ownSems0_none, StableHlo.held_sub_split (c.tc : Thread nD τ) (arrRefs_sub_ucRefs (pcs p).spec kit.win.arr_unscoped),
      StableHlo.held_sub_split (c.tc : Thread nD τ) (tblRefs_sub_ucRefs_sdiff (pcs p).spec (pcs p).pre kit.pre.unscoped kit.pre.disj),
      ← prefHeld_held (pcs p).pre kit.pre.inj c (a p).1 (W c) (hT c), ← arrBufs_held,
      (rdats p c).arrBufs_eq_arrays kit.sharedIn kit.arr_whole (fun w _ => hq c w) _ (rdats p c).A (hA c)]
    iintro ⟨⟨⟨Ha, Hpf, HZ⟩, HO⟩, -, -⟩
    imodintro
    isplitl [Ha]; · iexact Ha
    isplitl [Hpf]; · iexact Hpf
    isplitl [HO]
    · unfold RDat.owesAt owesWithin RDat.bound
      rw [howed c 0, hrec c]
      icases HO with ⟨%Wd, HO⟩; iexists Wd; isplitr; · ipureintro; exact fun _ _ => Or.inl trivial
      iexact HO
    isplitr; · iempintro
    iexact HZ
  hin c := by
    rw [hΦ]
    iintro ⟨-, Hpf, Hr⟩
    isplitl [Hr] <;> iassumption
  hout c := by
    rw [hΦ, ownSems0_none]
    iintro ⟨Hr, Hpf⟩
    isplitl [Hpf]; · iexact Hpf
    isplitr; · iempintro
    iexact Hr
  hexit c := by
    iintro ⟨Ha, HO, HY, HZ⟩
    imodintro
    isplitr [HO]
    · unfold RDat.arraysAt
      ihave H := (BI.bigSep_exists_pi Finset.univ _) $$ Ha
      icases H with ⟨%A', H⟩
      ihave H' := (BI.bigSep_pure_sep Finset.univ (fun w => (rdats p c).ArrAt w (pin pcs a p).N (A' w)) _) $$ H
      icases H' with ⟨%hA', H⟩
      iexists (A' w₀)
      isplitr
      · ipureintro; exact hA' w₀ (Finset.mem_univ _)
      have hA1 : ∀ w, A' w = leftAt pcs a p (W c) w₀ c (A' w₀) (Proc.devRef .tc (arrRef (pcs p).spec w)) := fun w => by
        by_cases hw : w = w₀
        · subst hw; unfold leftAt; rw [Function.update_self]
        · have h1 : A' w = (rdats p c).A w := by
            have := hA' w (Finset.mem_univ _)
            rw [(rdats p c).ArrAt_in w (hin w hw)] at this
            exact this
          rw [h1, hA c w]
          exact (Function.update_of_ne (fun h => hne w hw (Proc.devRef_injective _ h)) _ _).symm
      have hT1 : ∀ k, (a p).1 k = leftAt pcs a p (W c) w₀ c (A' w₀) (Proc.devRef .tc ((pcs p).pre.ref k)) := fun k => by
        rw [hT c k]
        exact (Function.update_of_ne (fun h => kit.pre.disj k w₀ (Proc.devRef_injective _ h)) _ _).symm
      rw [StableHlo.held_sub_split (c.tc : Thread nD τ) (arrRefs_sub_ucRefs (pcs p).spec kit.win.arr_unscoped),
        StableHlo.held_sub_split (c.tc : Thread nD τ) (tblRefs_sub_ucRefs_sdiff (pcs p).spec (pcs p).pre kit.pre.unscoped kit.pre.disj),
        ← prefHeld_held (pcs p).pre kit.pre.inj c (a p).1 _ hT1, ← arrBufs_held,
        (rdats p c).arrBufs_eq_arrays kit.sharedIn kit.arr_whole (fun w _ => hq c w) _ A' hA1]
      isplitl [H]; · unfold RDat.arrays; iexact H
      isplitl [HY]; · iexact HY
      have hZ := StableHlo.held_congr (Val := Val) (Ix := Ix) (Name := Name) (U := U) (Lvl := Lvl) (c.tc : Thread nD τ) (S := restRefs (pcs p)) (V := W c) (V' := leftAt pcs a p (W c) w₀ c (A' w₀)) (fun b hb => (Function.update_of_ne (fun h => by
        have h1 := (Finset.mem_sdiff.mp (Finset.mem_sdiff.mp hb).1).2
        exact h1 (h ▸ Finset.mem_map_of_mem _ (Finset.mem_image_of_mem _ (Finset.mem_univ w₀)))) _ _).symm)
      iapply (Entails.of_eq hZ)
      iexact HZ
    · unfold RDat.owesAt owesWithin
      rw [howed c (Fin.last _)]
      icases HO with ⟨%Wd, -, HO⟩; iexists Wd; iexact HO

end Seg

end Cert.Smooth

end
-- ==== Proof.Words.lean ====
/-
  The word arithmetic by which the backward call names the block of columns it reads.
-/
module

public import Idealize.ShloMosaic.Lib.Pipeline.Regions

@[expose] public section

namespace Cert.Smooth

open Idealize.ShloMosaic

/-- The block of columns read at point `w` when `n` rows are to be sampled, as the program computes it. -/
def colBlk (w n : BitVec 32) : BitVec 32 :=
  let v2 := Scalar.maxsi (Scalar.subi n 1#32) 0#32
  let v3 := Scalar.divsi v2 8#32
  let v8 : BitVec 32 := Scalar.subi (Scalar.extui (Scalar.cmpi .sgt v2 0#32)) (Scalar.extui (Scalar.cmpi .slt v2 0#32))
  let v13 : BitVec 32 := Scalar.subi (Scalar.extui (Scalar.cmpi .sgt 8#32 0#32)) (Scalar.extui (Scalar.cmpi .slt 8#32 0#32))
  let v17 := Scalar.andi (Scalar.cmpi .ne v8 v13) (Scalar.cmpi .ne (Scalar.remsi v2 8#32) 0#32)
  Scalar.minsi w (Scalar.select v17 (Scalar.subi v3 1#32) v3)

theorem slt_nat (x y : BitVec 32) (hx : x.toNat < 2 ^ 31) (hy : y.toNat < 2 ^ 31) : x.slt y = decide (x.toNat < y.toNat) := by
  rw [BitVec.slt_eq_decide, BitVec.toInt_eq_toNat_of_lt (by omega), BitVec.toInt_eq_toNat_of_lt (by omega)]
  simp

theorem quot8 (m : BitVec 32) (hm : m.toNat < 2 ^ 31) :
    (Scalar.select (Scalar.andi
        (Scalar.cmpi .ne (Scalar.subi (Scalar.extui (Scalar.cmpi .sgt m 0#32)) (Scalar.extui (Scalar.cmpi .slt m 0#32)) : BitVec 32)
          (Scalar.subi (Scalar.extui (Scalar.cmpi .sgt 8#32 0#32)) (Scalar.extui (Scalar.cmpi .slt 8#32 0#32))))
        (Scalar.cmpi .ne (Scalar.remsi m 8#32) 0#32)) (Scalar.subi (Scalar.divsi m 8#32) 1#32) (Scalar.divsi m 8#32)).toNat = m.toNat / 8 := by
  have hc : ¬ IntOp.SDivCorner m 8#32 := by
    rintro (h | ⟨-, h⟩)
    · exact absurd h (by decide)
    · exact absurd h (by decide)
  have hmsb : m.msb = false := by rw [BitVec.msb_eq_false_iff_two_mul_lt]; omega
  have hd : Scalar.divsi m 8#32 = m / 8#32 := by
    show IntOp.divsi .scalar m 8#32 = _
    unfold IntOp.divsi
    rw [if_neg hc]
    have h8 : (8#32).msb = false := by decide
    unfold BitVec.sdiv
    rw [hmsb, h8]
    rfl
  have hlt : Scalar.cmpi .slt m 0#32 = 0#1 := by
    show BitVec.ofBool (m.slt 0#32) = 0#1
    rw [slt_nat m _ hm (by decide)]; simp
  rw [hd, hlt]
  by_cases h0 : m = 0#32
  · subst h0; decide
  · have hgt : Scalar.cmpi .sgt m 0#32 = 1#1 := by
      show BitVec.ofBool ((0#32).slt m) = 1#1
      rw [slt_nat _ m (by decide) hm]
      have : 0 < m.toNat := Nat.pos_of_ne_zero fun h => h0 (BitVec.eq_of_toNat_eq (by simpa using h))
      simp [this]
    rw [hgt]
    have hz : Scalar.andi (Scalar.cmpi .ne (Scalar.subi (Scalar.extui (1#1)) (Scalar.extui (0#1)) : BitVec 32)
          (Scalar.subi (Scalar.extui (Scalar.cmpi .sgt 8#32 0#32)) (Scalar.extui (Scalar.cmpi .slt 8#32 0#32))))
        (Scalar.cmpi .ne (Scalar.remsi m 8#32) 0#32) = 0#1 := by
      rw [show Scalar.cmpi .ne (Scalar.subi (Scalar.extui (1#1)) (Scalar.extui (0#1)) : BitVec 32)
          (Scalar.subi (Scalar.extui (Scalar.cmpi .sgt 8#32 0#32)) (Scalar.extui (Scalar.cmpi .slt 8#32 0#32))) = 0#1 by decide]
      show 0#1 &&& _ = 0#1
      exact BitVec.zero_and
    rw [hz]
    show (m / 8#32).toNat = _
    rw [BitVec.toNat_udiv]; rfl

theorem max0 (n : BitVec 32) : (Scalar.maxsi n 0#32).toNat < 2 ^ 31 ∧ (n.toNat < 2 ^ 31 → (Scalar.maxsi n 0#32).toNat = n.toNat) := by
  have e : Scalar.maxsi n 0#32 = if (0#32).slt n then n else 0#32 := rfl
  rw [e]
  by_cases h : n.toNat < 2 ^ 31
  · rw [slt_nat _ n (by decide) h]
    by_cases h' : 0 < n.toNat
    · simp [h']; omega
    · simp [h']; omega
  · have : (0#32).slt n = false := by
      rw [BitVec.slt_eq_decide, BitVec.toInt_eq_toNat_cond]
      rw [BitVec.toInt_eq_toNat_cond]
      have := n.isLt
      simp
      omega
    rw [this, if_neg (by decide)]
    exact ⟨by decide, fun h' => absurd h' h⟩

theorem min_nat (x y : BitVec 32) (hx : x.toNat < 2 ^ 31) (hy : y.toNat < 2 ^ 31) : (Scalar.minsi x y).toNat = min x.toNat y.toNat := by
  have e : Scalar.minsi x y = if x.slt y then x else y := rfl
  rw [e, slt_nat x y hx hy]
  by_cases h : x.toNat < y.toNat
  · simp [h]; omega
  · simp [h]; omega

theorem colBlk_toNat (w n : BitVec 32) (hw : w.toNat < 2 ^ 31) :
    (colBlk w n).toNat = min w.toNat ((Scalar.maxsi (Scalar.subi n 1#32) 0#32).toNat / 8) := by
  have h1 := (max0 (Scalar.subi n 1#32)).1
  have h2 := quot8 _ h1
  unfold colBlk
  rw [min_nat w _ hw (by rw [h2]; omega), h2]

theorem colBlk_le (w n : BitVec 32) (hw : w.toNat < 2 ^ 31) : (colBlk w n).toNat ≤ w.toNat := by
  rw [colBlk_toNat w n hw]; exact Nat.min_le_left _ _

/-- At a point with a row to sample it is the point's own block. -/
theorem colBlk_live (w n : BitVec 32) (hn : n.toNat ≤ 2048) (h : 8 * w.toNat < n.toNat) : (colBlk w n).toNat = w.toNat := by
  have hs : (Scalar.subi n 1#32).toNat = n.toNat - 1 := by
    show (n - 1#32).toNat = _
    rw [BitVec.toNat_sub]
    have := n.isLt
    simp
    omega
  rw [colBlk_toNat w n (by omega), (max0 _).2 (by omega), hs]
  omega

end Cert.Smooth

end
-- ==== Proof.TileIdeal.lean ====
/-
  One subcore's share of the gathered-rows call. Subcore `s` of SparseCore `c` is worker `w = 2 s + c`; its 32 trips are
  the rows `32 w … 32 w + 31` of the result, 8192 words each. A trip fetches the row's 8192 positions, gathers those
  words of the flat matrix by one indirect stream, and sends them to the row's place in the result. What is proved of a
  worker: given a share of the positions `I`, a share of the flat matrix `X`, and its own stretch of the result, it
  returns the two shares and the stretch holding `X` at the positions.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.ShareLeaves
public import Idealize.ShloMosaic.Lib.ViewIndex
public import Idealize.ShloMosaic.Lib.Tactic
public import proofs.«01_k».proof.Proof.Gen.KernelIdeal.Skeleton

@[expose] public section

noncomputable section

namespace Cert.KernelIdeal.Smooth

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The program's launch -/

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem launchFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UP : Type := URounds (GSem nD τ sig) Unit
abbrev UU : Type := UH × UP × Counters

local notation "𝕄" => MT nD τ sig (HIx 1) (Elt F) ℕ UU ℕ

abbrev EH : Emb UH (MT nD τ sig (HIx 1) (Elt F) ℕ UU ℕ) := embL

/-! ## The arrays of the call -/

/-- The flat matrix, the positions, the result: in the device's memory. -/
abbrev xLoc (d : Dev nD) : Loc nD τ sig := (SparseCore.T d).loc main_v71
abbrev iLoc (d : Dev nD) : Loc nD τ sig := (SparseCore.T d).loc main_v83
abbrev oLoc (d : Dev nD) : Loc nD τ sig := (SparseCore.T d).loc main_v84

local notation "xV" => (Memref.whole Cert.KernelIdeal.main_v71_scv : Memref Cert.KernelIdeal.sig Kind.scVector Space.hbm Cert.KernelIdeal.S67108864 EltTy.f32)
local notation "iV" => (Memref.whole Cert.KernelIdeal.main_v83_scv : Memref Cert.KernelIdeal.sig Kind.scVector Space.hbm Cert.KernelIdeal.S8388608 EltTy.i32)
local notation "oV" => (Memref.whole Cert.KernelIdeal.main_v84_scv : Memref Cert.KernelIdeal.sig Kind.scVector Space.hbm Cert.KernelIdeal.S8388608 EltTy.f32)
local notation "pV" => (Memref.whole Cert.KernelIdeal.cc0_scratch0 : Memref Cert.KernelIdeal.sig Kind.scVector Space.vmem Cert.KernelIdeal.S8192 EltTy.i32)
local notation "rV" => (Memref.whole Cert.KernelIdeal.cc0_scratch1 : Memref Cert.KernelIdeal.sig Kind.scVector Space.vmem Cert.KernelIdeal.S8192 EltTy.f32)

/-- Worker `w`'s stretch of the result: 32 rows of 8192 words. -/
def stretch (w : Fin 32) : Finset S8388608.Idx := Finset.univ.filter fun j => (j 0).val / 262144 = w.val

theorem mem_stretch {w : Fin 32} {j : S8388608.Idx} : j ∈ stretch w ↔ (j 0).val / 262144 = w.val := by
  simp [stretch]

theorem stretch_disjoint : ∀ w ∈ (Finset.univ : Finset (Fin 32)), ∀ w' ∈ (Finset.univ : Finset (Fin 32)), w ≠ w' → Disjoint (stretch w) (stretch w') := by
  intro w _ w' _ h
  rw [Finset.disjoint_left]
  intro j hj hj'
  exact h (Fin.ext ((mem_stretch.1 hj).symm.trans (mem_stretch.1 hj')))

theorem stretch_cover : (Finset.univ : Finset (Fin 32)).biUnion stretch = Finset.univ := by
  ext j
  simp only [Finset.mem_biUnion, Finset.mem_univ, true_and, iff_true]
  have h : (j 0).val < 8388608 := (j 0).isLt
  exact ⟨⟨(j 0).val / 262144, by omega⟩, mem_stretch.2 rfl⟩

/-- The flat matrix at the positions: what the call leaves in the result. -/
def picked (X : S67108864.Idx → Elt F .f32) (I : S8388608.Idx → BitVec 32) : S8388608.Idx → Elt F .f32 :=
  fun j => X (fun a => match a with | 0 => ⟨(I j).toNat % 67108864, Nat.mod_lt _ (by decide)⟩)

/-- The result after `k` of worker `w`'s rows. -/
def upTo (X : S67108864.Idx → Elt F .f32) (I : S8388608.Idx → BitVec 32) (o : S8388608.Idx → Elt F .f32) (w : Fin 32) (k : ℕ) :
    S8388608.Idx → Elt F .f32 :=
  fun j => if (j 0).val < 262144 * w.val + 8192 * k then picked X I j else o j

theorem upTo_zero (X : S67108864.Idx → Elt F .f32) (I : S8388608.Idx → BitVec 32) (o : S8388608.Idx → Elt F .f32) (w : Fin 32)
    (j : S8388608.Idx) (hj : j ∈ stretch w) : o j = upTo X I o w 0 j := by
  have := mem_stretch.1 hj
  unfold upTo
  rw [if_neg (by omega)]

theorem upTo_end (X : S67108864.Idx → Elt F .f32) (I : S8388608.Idx → BitVec 32) (o : S8388608.Idx → Elt F .f32) (w : Fin 32)
    (j : S8388608.Idx) (hj : j ∈ stretch w) : upTo X I o w 32 j = picked X I j := by
  have := mem_stretch.1 hj
  unfold upTo
  rw [if_pos (by omega)]

/-! ## A trip's row -/

abbrev cV (L : grid0.Coords) : Fin τ.nSC := (L 0).castLE hcore0
abbrev jV (L : grid0.Coords) : Fin τ.nSub := (L 1).castLE hsub0

theorem core_lt (L : grid0.Coords) : (L 0).val < 2 := (L 0).isLt
theorem sub_lt (L : grid0.Coords) : (L 1).val < 16 := (L 1).isLt
theorem trip_lt (k : Fin k0_t1_loop.trips) : k.val < 32 := Nat.lt_of_lt_of_le k.isLt k0_t1_abs.2.1

/-- The worker of subcore `L`. -/
def worker (L : grid0.Coords) : Fin 32 := ⟨2 * (L 1).val + (L 0).val, by have := core_lt L; have := sub_lt L; omega⟩

/-- The row a trip fetches positions from and writes to. -/
abbrev row (L : grid0.Coords) (k : Fin k0_t1_loop.trips) : Rect S8388608 :=
  Rect.unit (s := S8388608) (k0_off1 L k) S8192.size (k0_off1_inb L k)
abbrev posRow (L : grid0.Coords) (k : Fin k0_t1_loop.trips) : Memref sig .scVector .hbm S8192 .i32 := (iV).slice (row L k) (fun _ => rfl)
abbrev outRow (L : grid0.Coords) (k : Fin k0_t1_loop.trips) : Memref sig .scVector .hbm S8192 .f32 := (oV).slice (row L k) (fun _ => rfl)
abbrev flat : Memref sig .scVector .hbm S67108864 .f32 :=
  (xV).slice (Rect.unit (s := S67108864) ![0] S67108864.size inb_S67108864_S67108864_0) (fun _ => rfl)

theorem row_emb (L : grid0.Coords) (k : Fin k0_t1_loop.trips) (x : S8192.Idx) :
    ((row L k).emb x 0).val = 262144 * (worker L).val + 8192 * k.val + (x 0).val := by
  have h : ((row L k).emb x 0).val = (k0_off1 L k) 0 + (x 0).val := by
    simp [row, Rect.emb, Rect.unit]
  rw [h, k0_off1_eq]
  simp only [worker, Matrix.cons_val_zero]
  omega

theorem mem_outRow {L : grid0.Coords} {k : Fin k0_t1_loop.trips} {j : S8388608.Idx} :
    j ∈ (outRow L k).view.set ↔ ∃ x : S8192.Idx, (row L k).emb x = j := by
  constructor
  · intro h
    obtain ⟨x, hx⟩ := View.exists_of_mem_set_slice h
    exact ⟨x, hx⟩
  · rintro ⟨x, rfl⟩
    exact View.emb_mem_set (outRow L k).view x

theorem outRow_sub (L : grid0.Coords) (k : Fin k0_t1_loop.trips) : (outRow L k).view.set ⊆ stretch (worker L) := by
  intro j hj
  obtain ⟨x, rfl⟩ := mem_outRow.1 hj
  rw [mem_stretch, row_emb]
  have := trip_lt k
  have hx : (x 0).val < 8192 := (x 0).isLt
  omega

theorem not_mem_outRow {L : grid0.Coords} {k : Fin k0_t1_loop.trips} {j : S8388608.Idx} (h : j ∉ (outRow L k).view.set) :
    (j 0).val < 262144 * (worker L).val + 8192 * k.val ∨ 262144 * (worker L).val + 8192 * k.val + 8192 ≤ (j 0).val := by
  by_contra hc
  have hc' : 262144 * (worker L).val + 8192 * k.val ≤ (j 0).val ∧ (j 0).val < 262144 * (worker L).val + 8192 * k.val + 8192 := by omega
  refine h (mem_outRow.2 ⟨fun a => match a with | 0 => ⟨(j 0).val - (262144 * (worker L).val + 8192 * k.val), by
    show _ < 8192; omega⟩, ?_⟩)
  refine Shape.idx1_ext ?_
  rw [row_emb]
  show _ + _ + ((j 0).val - _) = _
  omega

/-- What the fetch of a row's positions leaves in the tile's list: the positions of that row. -/
theorem list_read (L : grid0.Coords) (k : Fin k0_t1_loop.trips) (I : S8388608.Idx → BitVec 32) (fs : S8192.Idx → BitVec 32) (x : S8192.Idx) :
    (pV).view.read (Elt F) (View.write (Elt F) (pV).view fs ((posRow L k).view.read (Elt F) I) Finset.univ) x = I ((row L k).emb x) := by
  rw [View.write_whole_univ]
  simp only [Memref.view_whole, View.read_whole]
  exact (View.read_apply _ _).trans (cast_eq _ _)

/-- So its words are positions of the flat matrix when all of `I`'s are. -/
theorem list_inb (L : grid0.Coords) (k : Fin k0_t1_loop.trips) {I : S8388608.Idx → BitVec 32} (hI : ∀ j, (I j).toNat < 67108864)
    (fs : S8192.Idx → BitVec 32) (x : S8192.Idx) :
    ((pV).view.read (Elt F) (View.write (Elt F) (pV).view fs ((posRow L k).view.read (Elt F) I) Finset.univ) x).toNat
      < S67108864.size gathers_S67108864_S8192.axis := by
  rw [list_read]
  exact hI _

/-- What a trip sends to its row of the result: the flat matrix at the row's positions. -/
theorem row_value (L : grid0.Coords) (k : Fin k0_t1_loop.trips) (X : S67108864.Idx → Elt F .f32) (I : S8388608.Idx → BitVec 32)
    (hI : ∀ j, (I j).toNat < 67108864) (f : S8388608.Idx → Elt F .f32) (fr : S8192.Idx → Elt F .f32) (l : S8192.Idx → BitVec 32)
    (hl : ∀ x, l x = I ((row L k).emb x)) (hin : ∀ x, (l x).toNat < S67108864.size gathers_S67108864_S8192.axis)
    (hn : S8192.numel = S8192.size gathers_S67108864_S8192.axis') (j : S8388608.Idx) (hj : j ∈ (outRow L k).view.set) :
    View.write (Elt F) (outRow L k).view f ((rV).view.read (Elt F) (View.write (Elt F) (rV).view fr
        (SparseCore.gatherPayload gathers_S67108864_S8192 ((flat).view.read (Elt F) X) (SparseCore.rows (F := F) l hn hin)) Finset.univ)) Finset.univ j
      = picked X I j := by
  obtain ⟨x, rfl⟩ := mem_outRow.1 hj
  show View.write (Elt F) (outRow L k).view f _ Finset.univ ((outRow L k).view.emb x) = _
  rw [View.write_emb_of_mem _ _ (Finset.mem_univ x), View.write_whole_univ]
  simp only [Memref.view_whole, View.read_whole, cast_eq]
  unfold SparseCore.gatherPayload picked
  rw [View.read_apply]
  refine (cast_eq _ _).trans (congrArg X (Shape.idx1_ext ?_))
  have h0 : ((flat).view.emb (gathers_S67108864_S8192.idx (SparseCore.rows (F := F) l hn hin) x) 0).val
      = (gathers_S67108864_S8192.idx (SparseCore.rows (F := F) l hn hin) x gathers_S67108864_S8192.axis).val := by
    show 0 + 1 * (gathers_S67108864_S8192.idx (SparseCore.rows (F := F) l hn hin) x 0).val = _
    rw [Nat.zero_add, Nat.one_mul]
    rfl
  rw [h0, Shape.Gathers.idx_axis]
  show (l _).toNat = (I _).toNat % 67108864
  rw [hl, Nat.mod_eq_of_lt (hI _)]
  have hx : S8192.rowMajor.symm ((x gathers_S67108864_S8192.axis').cast hn.symm) = x := by
    rw [Equiv.symm_apply_eq]
    exact Fin.ext (Shape.rowMajor_val_one x).symm
  exact congrArg (fun y => (I ((row L k).emb y)).toNat) hx

/-! ## The worker -/

section Tile

variable (X : (d : Dev nD) → Buf (Elt F) (xLoc d)) (I : (d : Dev nD) → Buf (Elt F) (iLoc d)) (o : (d : Dev nD) → Buf (Elt F) (oLoc d))

/-- Worker `w`'s share of an array all the workers read. -/
abbrev part (w : Fin 32) : PosShare TreeShare := ShareLeaves.leaf 5 fullShare w

/-- A worker's loan: its shares of the flat matrix and of the positions, and its stretch of the result at `f`. -/
abbrev loan (d : Dev nD) (w : Fin 32) (f : Buf (Elt F) (oLoc d)) : sProp 𝕄 :=
  iprop((xLoc d ↦{part w} X d) ∗ (iLoc d ↦{part w} I d) ∗ oLoc d ↦[stretch w]{fullShare} f)

variable (d : Dev nD) (L : grid0.Coords)

omit [FloatOps F] in
theorem pts_xV (q : PosShare TreeShare) (f : Buf (Elt F) (xLoc d)) :
    ((xV).view.loc (V d (cV L) (jV L)) ↦{q} f : sProp 𝕄) = xLoc d ↦{q} f := rfl
omit [FloatOps F] in
theorem pts_iV (q : PosShare TreeShare) (f : Buf (Elt F) (iLoc d)) :
    ((iV).view.loc (V d (cV L) (jV L)) ↦{q} f : sProp 𝕄) = iLoc d ↦{q} f := rfl
omit [FloatOps F] in
theorem pts_pV (f : Buf (Elt F) ((V d (cV L) (jV L)).loc cc0_scratch0)) :
    ((pV).view.loc (V d (cV L) (jV L)) ↦{fullShare} f : sProp 𝕄) = (V d (cV L) (jV L)).loc cc0_scratch0 ↦{fullShare} f := rfl
omit [FloatOps F] in
theorem pts_rV (f : Buf (Elt F) ((V d (cV L) (jV L)).loc cc0_scratch1)) :
    ((rV).view.loc (V d (cV L) (jV L)) ↦{fullShare} f : sProp 𝕄) = (V d (cV L) (jV L)).loc cc0_scratch1 ↦{fullShare} f := rfl

/-- The three cells a worker's transfers are counted on: the stream's, the fetch's, the write's. -/
abbrev cellG (d : Dev nD) (c : Fin τ.nSC) (i : Fin τ.nSub) : GSem nD τ sig := (V d c i, .dma cc0_scratch2.sem)
abbrev cellP (d : Dev nD) (c : Fin τ.nSC) (i : Fin τ.nSub) : GSem nD τ sig := (V d c i, .dma cc0_scoped0.sem)
abbrev cellO (d : Dev nD) (c : Fin τ.nSC) (i : Fin τ.nSub) : GSem nD τ sig := (V d c i, .dma cc0_scoped1.sem)

omit [FloatOps F] in
theorem ownSems0_V :
    (ownSems0 (V d (cV L) (jV L)) : sProp 𝕄)
      = iprop(semVal (cellG d (cV L) (jV L)) 0 ∗ semVal (cellP d (cV L) (jV L)) 0 ∗ semVal (cellO d (cV L) (jV L)) 0
          ∗ bigSep ((((ownCells (V d (cV L) (jV L))).erase (cellG d (cV L) (jV L))).erase (cellP d (cV L) (jV L))).erase (cellO d (cV L) (jV L))) fun g => semVal g 0) := by
  have hG : cellG d (cV L) (jV L) ∈ ownCells (V d (cV L) (jV L)) :=
    mem_ownCells.mpr ⟨rfl, show (SemLoc.dma cc0_scratch2.sem : SemLoc sig).isScoped .scVector = true by decide⟩
  have hP : cellP d (cV L) (jV L) ∈ ownCells (V d (cV L) (jV L)) :=
    mem_ownCells.mpr ⟨rfl, show (SemLoc.dma cc0_scoped0.sem : SemLoc sig).isScoped .scVector = true by decide⟩
  have hO : cellO d (cV L) (jV L) ∈ ownCells (V d (cV L) (jV L)) :=
    mem_ownCells.mpr ⟨rfl, show (SemLoc.dma cc0_scoped1.sem : SemLoc sig).isScoped .scVector = true by decide⟩
  have hPG : cellP d (cV L) (jV L) ≠ cellG d (cV L) (jV L) := by simp [cellP, cellG]; decide
  have hOP : cellO d (cV L) (jV L) ≠ cellP d (cV L) (jV L) := by simp [cellO, cellP]; decide
  have hOG : cellO d (cV L) (jV L) ≠ cellG d (cV L) (jV L) := by simp [cellO, cellG]; decide
  unfold SparseCore.Cfg.ownSems0
  rw [SparseCore.bigSep_erase' hG, SparseCore.bigSep_erase' (Finset.mem_erase.mpr ⟨hPG, hP⟩),
    SparseCore.bigSep_erase' (Finset.mem_erase.mpr ⟨hOP, Finset.mem_erase.mpr ⟨hOG, hO⟩⟩)]

omit [FloatOps F] in
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  have h0 : (Proc.scVector (cV L) (jV L)).devRef cc0_scratch0 ∈ ownRefs (τ := τ) (.scVector (cV L) (jV L)) :=
    SparseCore.Cfg.mem_ownRefs_of_owner (p := Proc.scVector (cV L) (jV L)) rfl
  have h1 : (Proc.scVector (cV L) (jV L)).devRef cc0_scratch1 ∈ ownRefs (τ := τ) (.scVector (cV L) (jV L)) :=
    SparseCore.Cfg.mem_ownRefs_of_owner (p := Proc.scVector (cV L) (jV L)) rfl
  have h10 : (Proc.scVector (cV L) (jV L)).devRef cc0_scratch1 ≠ (Proc.scVector (cV L) (jV L)).devRef cc0_scratch0 :=
    fun e => absurd (Proc.devRef_injective _ e) (show (cc0_scratch1 : Ref sig .scVector) ≠ cc0_scratch0 by decide)
  unfold SparseCore.Cfg.ownBufs
  refine (SparseCore.bigSep_erase' h0).trans ?_
  rw [SparseCore.bigSep_erase' (Finset.mem_erase.mpr ⟨h10, h1⟩)]

/-- The loop's state before trip `k`: the shares, the stretch with `k` rows filled, the two scratch buffers at some contents,
    the cells at zero. -/
def inv (O : CellTallies nD τ sig (HIx 1)) (W : Waits sig (HIx 1)) (k : ℕ) (_ : Unit) : sProp 𝕄 :=
  iprop(Transfers.MayWaits (V d (cV L) (jV L)) (default : HIx 1) O
    ∗ ((xV).view.loc (V d (cV L) (jV L)) ↦{part (worker L)} X d)
    ∗ ((iV).view.loc (V d (cV L) (jV L)) ↦{part (worker L)} I d)
    ∗ (oLoc d ↦[stretch (worker L)]{fullShare} upTo (X d) (I d) (o d) (worker L) k)
    ∗ (∃ f, (pV).view.loc (V d (cV L) (jV L)) ↦{fullShare} f)
    ∗ (∃ f, (rV).view.loc (V d (cV L) (jV L)) ↦{fullShare} f)
    ∗ semVal (cellG d (cV L) (jV L)) 0 ∗ semVal (cellP d (cV L) (jV L)) 0 ∗ semVal (cellO d (cV L) (jV L)) 0
    ∗ ∃ W', ⌜∀ p ∈ W', p ∈ W ∨ p.2 = none⌝ ∗ owes (V d (cV L) (jV L)) O W')

omit [FloatOps F] in
/-- A stretch whose trip's row was written is the stretch one row further. -/
theorem upTo_step (L : grid0.Coords) (k : Fin k0_t1_loop.trips) (X : S67108864.Idx → Elt F .f32) (I : S8388608.Idx → BitVec 32)
    (o g : S8388608.Idx → Elt F .f32) (hg : ∀ j ∈ (outRow L k).view.set, g j = picked X I j) :
    (∀ j ∈ (outRow L k).view.set, g j = upTo X I o (worker L) (k.val + 1) j)
    ∧ ∀ j ∈ stretch (worker L) \ (outRow L k).view.set, upTo X I o (worker L) k.val j = upTo X I o (worker L) (k.val + 1) j := by
  constructor
  · intro j hj
    rw [hg j hj]
    obtain ⟨x, rfl⟩ := mem_outRow.1 hj
    have hx : (x 0).val < 8192 := (x 0).isLt
    unfold upTo
    rw [if_pos (by rw [row_emb]; omega)]
  · intro j hj
    have h := not_mem_outRow (Finset.mem_sdiff.1 hj).2
    unfold upTo
    rcases h with h | h
    · rw [if_pos (by omega), if_pos (by omega)]
    · rw [if_neg (by omega), if_neg (by omega)]

set_option maxHeartbeats 4000000 in
theorem trip (hI : ∀ d j, (I d j).toNat < 67108864) (O : CellTallies nD τ sig (HIx 1)) (W : Waits sig (HIx 1)) (k : Fin k0_t1_loop.trips) (u : Unit) :
    inv X I o d L O W k.val u
      ⊢ wp frame (wpE (defs₀ (F := F)) 𝒱₀ (V d (cV L) (jV L)) none) Set.univ
          (k0_t1_body L xV (Memref.isWhole_whole _) iV (Memref.isWhole_whole _) oV (Memref.isWhole_whole _)
            pV (Memref.isWhole_whole _) rV (Memref.isWhole_whole _) cc0_scratch2 cc0_scoped0 cc0_scoped1 k u)
          (inv X I o d L O W (k.val + 1)) := by
  unfold inv k0_t1_body
  iintro ⟨#Hmw, Hx, Hi, Ho, ⟨%fs, Hp⟩, ⟨%fr, Hr⟩, HsemG, HsemP, HsemO, %W', %hW', HO⟩
  ihave Hos := (pointsTo_split_subset (outRow_sub L k)).1 $$ Ho
  icases Hos with ⟨Ho, Hrest⟩
  ihave Ho' := (Entails.of_eq (show (oLoc d ↦[(outRow L k).view.set]{fullShare} upTo (X d) (I d) (o d) (worker L) k.val : sProp 𝕄)
      = (outRow L k).view.loc (V d (cV L) (jV L)) ↦[(outRow L k).view.set]{fullShare} upTo (X d) (I d) (o d) (worker L) k.val from rfl)) $$ Ho
  sl_exec
  -- the indirect stream: the whole flat matrix as the trip slices it, and the two scratch buffers by their own elements
  ihave Hxs := (pointsTo_split_subset (q := part (worker L)) (f := X d) (S := Finset.univ) (Finset.subset_univ (flat).view.set)).1 $$ Hx
  icases Hxs with ⟨Hxs, Hxr⟩
  have hrs : (rV).view.set = Finset.univ := View.set_whole _
  have hps : (pV).view.set = Finset.univ := View.set_whole _
  have hin : ∀ x, ((pV).view.read (Elt F) (View.write (Elt F) (pV).view fs (trip.sl.dma0 I d L k) Finset.univ) x).toNat
      < S67108864.size gathers_S67108864_S8192.axis := fun x => list_inb L k (hI d) fs x
  have hlist : ∀ x, (pV).view.read (Elt F) (View.write (Elt F) (pV).view fs (trip.sl.dma0 I d L k) Finset.univ) x = I d ((row L k).emb x) :=
    fun x => list_read L k (I d) fs x
  ihave Hr' := (Entails.of_eq (show ((rV).view.loc (V d (cV L) (jV L)) ↦{fullShare} fr : sProp 𝕄)
      = (rV).view.loc (V d (cV L) (jV L)) ↦[(rV).view.set]{fullShare} fr by rw [hrs])) $$ Hr
  ihave Hp' := (Entails.of_eq (show ((pV).view.loc (V d (cV L) (jV L)) ↦{fullShare} View.write (Elt F) (pV).view fs (trip.sl.dma0 I d L k) Finset.univ : sProp 𝕄)
      = (pV).view.loc (V d (cV L) (jV L)) ↦[(pV).view.set]{fullShare} View.write (Elt F) (pV).view fs (trip.sl.dma0 I d L k) Finset.univ
      by rw [hps])) $$ Hp
  have hN : ∀ h : S67108864.Gathers 0 S8192, ∑ j, ((rV).slice (S8192.rowRect h.axis' j) (S8192.stride_rowRect h.axis' j)).view.dmaCredit
      = (rV).view.dmaCredit := fun h => SparseCore.sum_rowCredit_eq_dmaCredit (rV) h.axis' (by intros; rfl)
  iapply (SparseCore.wp_indirectGatherLocal countersEmb 𝒱₀ (V d (cV L) (jV L)) none (hg := gathers_S67108864_S8192) (default : HIx 1)
      (rV).view.dmaCredit (hN _) (by decide) hin) $$ [Hxs Hr' Hp' HsemG]
  · isplitl [Hxs]; · iexact Hxs
    isplitl [Hr']; · iexact Hr'
    isplitl [Hp']; · iexact Hp'
    iexact HsemG
  iintro Hfl
  sl_exec
  iapply (Transfers.wp_waitLocalO countersEmb 𝒱₀ (V d (cV L) (jV L)) none (default : HIx 1) (rfl : (rV).view.dmaCredit = _)) $$ [Hfl HO]
  · isplitl [Hfl]; · iexact Hfl
    isplitl [HO]; · iexact HO
    iapply (Transfers.MayWaits.elim (SemLoc.dma cc0_scratch2.sem)) $$ Hmw
  iintro ⟨⟨Hr, Hxs, Hp⟩, HsemG, HO⟩
  ihave Hx := (pointsTo_split_subset (q := part (worker L)) (f := X d) (S := Finset.univ) (Finset.subset_univ (flat).view.set)).2 $$ [Hxs Hxr]
  · isplitl [Hxs] <;> iassumption
  ihave Hr := (Entails.of_eq (show ((rV).view.loc (V d (cV L) (jV L)) ↦[(rV).view.set]{fullShare} _ : sProp 𝕄)
      = (rV).view.loc (V d (cV L) (jV L)) ↦{fullShare} _ by rw [hrs])) $$ Hr
  ihave Hp := (Entails.of_eq (show ((pV).view.loc (V d (cV L) (jV L)) ↦[(pV).view.set]{fullShare} _ : sProp 𝕄)
      = (pV).view.loc (V d (cV L) (jV L)) ↦{fullShare} _ by rw [hps])) $$ Hp
  sl_exec
  sl_step
  have hg : ∀ j ∈ (outRow L k).view.set, (outRow L k).view.writes (Elt F) (upTo (X d) (I d) (o d) (worker L) k.val)
      [⟨Rect.whole S8192, trip.sl.dma0_1 X I d L k fs fr hin⟩] j = picked (X d) (I d) j := by
    intro j hj
    rw [← View.write_univ_eq_writes_whole, View.writes_nil]
    exact row_value L k (X d) (I d) (hI d) _ fr _ hlist hin _ j hj
  have hstep := upTo_step L k (X d) (I d) (o d) _ hg
  isplitr; · iexact Hmw
  isplitl [Hx]; · iexact Hx
  isplitl [Hi]; · iexact Hi
  isplitl [Ho' Hrest]
  · iapply (pointsTo_split_subset (outRow_sub L k)).2
    isplitl [Ho']
    · iapply (Entails.of_eq (pointsTo_congr hstep.1)); iexact Ho'
    · iapply (Entails.of_eq (pointsTo_congr hstep.2)); iexact Hrest
  isplitl [Hp]; · iexists _; iexact Hp
  isplitl [Hr]; · iexists _; iexact Hr
  isplitl [HsemG]; · iexact HsemG
  isplitl [HsemP]; · iexact HsemP
  isplitl [HsemO]; · iexact HsemO
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

theorem trips_eq : k0_t1_loop.trips = 32 := by decide

theorem upTo_all (x : Buf (Elt F) (xLoc d)) (i : Buf (Elt F) (iLoc d)) (f : Buf (Elt F) (oLoc d)) (w : Fin 32) :
    ∀ j ∈ stretch w, upTo x i f w k0_t1_loop.trips j = picked x i j := by
  have h := upTo_end x i f w
  have e : (32 : Nat) = k0_t1_loop.trips := trips_eq.symm
  exact fun j hj => (congrArg (fun n => upTo x i f w n j) e.symm).trans (h j hj)

/-- A worker's whole task: from its loan with the result's stretch at `o`, to the loan with the stretch at the picked words. -/
theorem tile_body (hF : (K (F := F)).Facts) (hI : ∀ d j, (I d j).toNat < 67108864) (O : CellTallies nD τ sig (HIx 1)) (W : Waits sig (HIx 1))
    (hO : ∀ g, O g none = 0) :
    iprop(levAts (K (F := F)).L (K (F := F)).lev ∗ emp ∗ loan X I d (worker L) (o d)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_k L xV (Memref.isWhole_whole _) iV (Memref.isWhole_whole _) oV (Memref.isWhole_whole _)
            pV (Memref.isWhole_whole _) rV (Memref.isWhole_whole _) cc0_scratch2 cc0_scoped0 cc0_scoped1)
          fun _ => iprop(loan X I d (worker L) (picked (X d) (I d))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_k_eq_skeleton]; unfold cc0_k_skel
  rw [(K (F := F)).scopedBufs_V hF d (cV L) (jV L), SparseCore.Cfg.scopedSems0_V (Val := Elt F) d (cV L) (jV L), ownSems0_V, ownBufs_V]
  iintro ⟨#Hlv, -, ⟨Hx, Hi, Ho⟩, ⟨Hp, Hr, Hbufs⟩, ⟨HsemG, HsemP, HsemO, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  sl_for (inv X I o d L O W) $$ [Hmw Hx Hi Ho Hp Hr HsemG HsemP HsemO HO]
  case region => exact fun k u => trip X I o d L hI O W k u
  · unfold inv
    isplitl [Hmw]; · iexact Hmw
    isplitl [Hx]; · iapply (Entails.of_eq (pts_xV d L _ _).symm); iexact Hx
    isplitl [Hi]; · iapply (Entails.of_eq (pts_iV d L _ _).symm); iexact Hi
    isplitl [Ho]; · iapply (Entails.of_eq (pointsTo_congr (upTo_zero (X d) (I d) (o d) (worker L)))); iexact Ho
    isplitl [Hp]; · icases Hp with ⟨%f, Hp⟩; iexists f; iapply (Entails.of_eq (pts_pV d L _).symm); iexact Hp
    isplitl [Hr]; · icases Hr with ⟨%f, Hr⟩; iexists f; iapply (Entails.of_eq (pts_rV d L _).symm); iexact Hr
    isplitl [HsemG]; · iexact HsemG
    isplitl [HsemP]; · iexact HsemP
    isplitl [HsemO]; · iexact HsemO
    iexists W; isplitr
    · ipureintro; exact fun p hp => .inl hp
    · iexact HO
  iintro %_ HI
  unfold inv
  icases HI with ⟨-, Hx, Hi, Ho, ⟨%fp, Hp⟩, ⟨%fr, Hr⟩, HsemG, HsemP, HsemO, %W', %hW', HO⟩
  sl_step
  isplitl [Hx Hi Ho]
  · isplitl [Hx]; · iapply (Entails.of_eq (pts_xV d L _ _)); iexact Hx
    isplitl [Hi]; · iapply (Entails.of_eq (pts_iV d L _ _)); iexact Hi
    iapply (Entails.of_eq (pointsTo_congr (upTo_all d (X d) (I d) (o d) (worker L)))); iexact Ho
  isplitl [Hp Hr Hbufs]
  · isplitl [Hp]; · iexists fp; iapply (Entails.of_eq (pts_pV d L _)); iexact Hp
    isplitl [Hr]; · iexists fr; iapply (Entails.of_eq (pts_rV d L _)); iexact Hr
    iexact Hbufs
  isplitl [HsemG HsemP HsemO Hsems]
  · isplitl [HsemG]; · iexact HsemG
    isplitl [HsemP]; · iexact HsemP
    isplitl [HsemO]; · iexact HsemO
    iexact Hsems
  iexists W'; isplitr
  · ipureintro; exact hW'
  · iexact HO

end Tile

end Cert.KernelIdeal.Smooth

end
-- ==== Proof.DealIdeal.lean ====
/-
  The column call's dealing out. Each of the 32 workers is lent a share of the flat matrix and of the positions, with its own
  stretch of the result; they come back with every stretch holding the words of the flat matrix at the positions.
-/
module

public import proofs.«01_k».proof.Proof.TileIdeal
public import Idealize.ShloMosaic.Lib.ReduceAll

@[expose] public section

noncomputable section

namespace Cert.KernelIdeal.Smooth

open Cert.KernelIdeal Cert.KernelIdeal.Gen

open Idealize.ShloMosaic
open Idealize.ShloMosaic.StableHlo (after held launchContents tcRefs seq seqK)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "xV" => (Memref.whole Cert.KernelIdeal.main_v71_scv : Memref Cert.KernelIdeal.sig Kind.scVector Space.hbm Cert.KernelIdeal.S67108864 EltTy.f32)
local notation "iV" => (Memref.whole Cert.KernelIdeal.main_v83_scv : Memref Cert.KernelIdeal.sig Kind.scVector Space.hbm Cert.KernelIdeal.S8388608 EltTy.i32)
local notation "oV" => (Memref.whole Cert.KernelIdeal.main_v84_scv : Memref Cert.KernelIdeal.sig Kind.scVector Space.hbm Cert.KernelIdeal.S8388608 EltTy.f32)
local notation "pV" => (Memref.whole Cert.KernelIdeal.cc0_scratch0 : Memref Cert.KernelIdeal.sig Kind.scVector Space.vmem Cert.KernelIdeal.S8192 EltTy.i32)
local notation "rV" => (Memref.whole Cert.KernelIdeal.cc0_scratch1 : Memref Cert.KernelIdeal.sig Kind.scVector Space.vmem Cert.KernelIdeal.S8192 EltTy.f32)

/-! ## What goes out to the workers and what comes back -/

/-- The worker of SparseCore `c`, subcore `s`. -/
def wOf (c : Fin 2) (s : Fin 16) : Fin 32 := ⟨2 * s.val + c.val, by omega⟩

/-- Every worker is one subcore's. -/
def wEquiv : Fin 2 × Fin 16 ≃ Fin 32 where
  toFun p := wOf p.1 p.2
  invFun w := (⟨w.val % 2, by omega⟩, ⟨w.val / 2, by omega⟩)
  left_inv p := by
    obtain ⟨c, s⟩ := p
    refine Prod.ext (Fin.ext ?_) (Fin.ext ?_)
    · show (2 * s.val + c.val) % 2 = c.val; omega
    · show (2 * s.val + c.val) / 2 = s.val; omega
  right_inv w := Fin.ext (by show 2 * (w.val / 2) + w.val % 2 = w.val; omega)

/-- A conjunction over the workers, by SparseCore and subcore. -/
theorem by_core (Φ : Fin 32 → sProp 𝕄) :
    bigSep Finset.univ Φ = bigSep Finset.univ fun c : Fin 2 => bigSep Finset.univ fun s : Fin 16 => Φ (wOf c s) := by
  rw [bigSep_univ_equiv wEquiv Φ, bigSep_univ_prod]
  rfl

section Launch

variable (X : (d : Dev nD) → Buf (Elt F) (xLoc d)) (I : (d : Dev nD) → Buf (Elt F) (iLoc d)) (o : (d : Dev nD) → Buf (Elt F) (oLoc d))

theorem loans_split (d : Dev nD) (f : Buf (Elt F) (oLoc d)) :
    iprop((xLoc d ↦{fullShare} X d) ∗ (iLoc d ↦{fullShare} I d) ∗ oLoc d ↦{fullShare} f)
      = (bigSep Finset.univ fun w : Fin 32 => loan X I d w f : sProp 𝕄) := by
  unfold loan
  rw [bigSep_sep', bigSep_sep', ← pointsTo_biUnion Finset.univ (ℓ := oLoc d) stretch stretch_disjoint, stretch_cover,
    show (xLoc d ↦{fullShare} X d : sProp 𝕄) = _ from ShareLeaves.pointsTo_leaves Finset.univ (X d) 5 fullShare,
    show (iLoc d ↦{fullShare} I d : sProp 𝕄) = _ from ShareLeaves.pointsTo_leaves Finset.univ (I d) 5 fullShare]
  rfl

instance loan_storable (d : Dev nD) (w : Fin 32) (f : Buf (Elt F) (oLoc d)) : BI.Storable (upEmb : UEmb _ 𝕄) (loan X I d w f) := by
  unfold loan; infer_instance

/-- A SparseCore's sixteen loans. -/
def lot (d : Dev nD) (c : Fin 2) (f : Buf (Elt F) (oLoc d)) : sProp 𝕄 :=
  bigSep Finset.univ fun s : Fin 16 => loan X I d (wOf c s) f

instance lot_storable (d : Dev nD) (c : Fin 2) (f : Buf (Elt F) (oLoc d)) : BI.Storable (upEmb : UEmb _ 𝕄) (lot X I d c f) := by
  unfold lot; infer_instance

/-- The call's payloads: loans with the result as it was, then with the picked words. -/
def P : (K (F := F)).Pay (nD := nD) (Val := Elt F) (Name := ℕ) (U := UU) where
  st := fun | 0, d, c => lot X I d (Fin.cast nCore_zero c) (o d)
  dn := fun | 0, d, c => lot X I d (Fin.cast nCore_zero c) (picked (X d) (I d))
  go := fun | 0, d, c, i => loan X I d (wOf (Fin.cast nCore_zero c) (Fin.cast nSub_zero i)) (o d)
  td := fun | 0, d, c, i => loan X I d (wOf (Fin.cast nCore_zero c) (Fin.cast nSub_zero i)) (picked (X d) (I d))
  x := fun _ _ => iprop(emp)

instance P_storable : (P X I o).IsStorable where
  st q d c := match q with | 0 => lot_storable X I d _ _
  dn q d c := match q with | 0 => lot_storable X I d _ _
  go q d c i := match q with | 0 => loan_storable X I d _ _
  td q d c i := match q with | 0 => loan_storable X I d _ _

theorem vecSplit : (K (F := F)).VecSplit' (P X I o) 0 := by
  intro d c
  show lot X I d (Fin.cast nCore_zero c) (o d) ⊢ |={Set.univ}=> iprop(lot X I d (Fin.cast nCore_zero c) (o d)
    ∗ (lot X I d (Fin.cast nCore_zero c) (picked (X d) (I d)) -∗ lot X I d (Fin.cast nCore_zero c) (picked (X d) (I d))))
  iintro H; imodintro
  isplitl [H]
  · iexact H
  · iintro H; iexact H

theorem st_all (d : Dev nD) : (bigSep Finset.univ fun c : Fin ((K (F := F)).nCore 0) => (P X I o).st 0 d c)
    = iprop((xLoc d ↦{fullShare} X d) ∗ (iLoc d ↦{fullShare} I d) ∗ oLoc d ↦{fullShare} o d) := by
  rw [loans_split, by_core]; rfl

theorem dn_all (d : Dev nD) : (bigSep Finset.univ fun c : Fin ((K (F := F)).nCore 0) => (P X I o).dn 0 d c)
    = iprop((xLoc d ↦{fullShare} X d) ∗ (iLoc d ↦{fullShare} I d) ∗ oLoc d ↦{fullShare} picked (X d) (I d)) := by
  rw [loans_split, by_core]; rfl

/-! ## A worker's obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_k (coordsV c s)
          xV (Memref.isWhole_whole _) iV (Memref.isWhole_whole _) oV (Memref.isWhole_whole _)
          pV (Memref.isWhole_whole _) rV (Memref.isWhole_whole _) cc0_scratch2 cc0_scoped0 cc0_scoped1) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hI : ∀ d j, (I d j).toNat < 67108864) : (K (F := F)).TileObl (D (F := F)) 𝒱 (P X I o) v₀ 0 := by
  intro d c i O W hO _ _
  simp only [show (P X I o).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body X I o d (coordsV ⟨_, hci.1⟩ ⟨_, hci.2⟩) hF hI O W hO).trans (wp_mono frame _ _ fun _ => obl_post)

end Launch

end Cert.KernelIdeal.Smooth

end
-- ==== Proof.OpsIdeal.lean ====
module

public import proofs.«01_k».proof.Defs
public import Idealize.ShloMosaic.Lib.StableHlo.Run
public import Idealize.ShloMosaic.Lib.Pipeline.Kit
public import proofs.«01_k».proof.Proof.Gen.KernelIdeal.Skeleton

@[expose] public section

/-! # What the launching program does around its calls

The host's statements, in order, as lists: those before the column call, those between
it and the forward region, those between the regions, and those after. -/

noncomputable section

namespace Cert.KernelIdeal.Smooth

open Cert.KernelIdeal Cert.KernelIdeal.Gen
open Idealize.ShloMosaic Idealize.ShloMosaic.StableHlo
open Idealize.SL.Sem

variable {F : FTy → Type} [FloatOps F]

def h0 : List (HloOp τ sig (Elt F)) := [
  StableHlo.nullary main_c (constantI S1 1 0#1),
  StableHlo.nullary main_c_0 (constantI S1 1 0#1),
  StableHlo.reshape main_arg4 main_v0 (rfl : (.f32 : EltTy) = .f32) shapeCasts_S2048x8192_S2048x8x1024,
  StableHlo.reshape main_arg5 main_v1 (rfl : (.f32 : EltTy) = .f32) shapeCasts_S2048x8192_S2048x8x1024,
  StableHlo.nullary main_c_1 (constantI S_ 32 0#32),
  StableHlo.unary main_c_1 main_v2 (broadcastInDim S1 ![] bcast_S_S1 : (⟨S_, .i32⟩ : BufTy).Contents (Elt F) → (⟨S1, .i32⟩ : BufTy).Contents (Elt F)),
  StableHlo.unary main_arg0 main_v3 ((extractStridedSlice S2047 ![0] · slices_S2048_S2047_0) : (⟨S2048, .i32⟩ : BufTy).Contents (Elt F) → (⟨S2047, .i32⟩ : BufTy).Contents (Elt F)),
  StableHlo.binary main_v2 main_v3 main_v4 ((fun a b => concatenate S2048 0 [⟨S1, a⟩, ⟨S2047, b⟩] concatenates_S1_S2047_S2048_d0) : (⟨S1, .i32⟩ : BufTy).Contents (Elt F) → (⟨S2047, .i32⟩ : BufTy).Contents (Elt F) → (⟨S2048, .i32⟩ : BufTy).Contents (Elt F)),
  StableHlo.unary main_arg1 main_v5 ((extractStridedSlice S2047 ![0] · slices_S2048_S2047_0) : (⟨S2048, .i1⟩ : BufTy).Contents (Elt F) → (⟨S2047, .i1⟩ : BufTy).Contents (Elt F)),
  StableHlo.unary main_v5 main_v6 (noti : (⟨S2047, .i1⟩ : BufTy).Contents (Elt F) → (⟨S2047, .i1⟩ : BufTy).Contents (Elt F)),
  StableHlo.binary main_c main_v6 main_v7 ((fun a b => concatenate S2048 0 [⟨S1, a⟩, ⟨S2047, b⟩] concatenates_S1_S2047_S2048_d0) : (⟨S1, .i1⟩ : BufTy).Contents (Elt F) → (⟨S2047, .i1⟩ : BufTy).Contents (Elt F) → (⟨S2048, .i1⟩ : BufTy).Contents (Elt F)),
  StableHlo.unary main_arg0 main_v8 ((extractStridedSlice S2047 ![1] · slices_S2048_S2047_1) : (⟨S2048, .i32⟩ : BufTy).Contents (Elt F) → (⟨S2047, .i32⟩ : BufTy).Contents (Elt F)),
  StableHlo.nullary main_c_2 (constantI S_ 32 0#32),
  StableHlo.unary main_c_2 main_v9 (broadcastInDim S1 ![] bcast_S_S1 : (⟨S_, .i32⟩ : BufTy).Contents (Elt F) → (⟨S1, .i32⟩ : BufTy).Contents (Elt F)),
  StableHlo.binary main_v8 main_v9 main_v10 ((fun a b => concatenate S2048 0 [⟨S2047, a⟩, ⟨S1, b⟩] concatenates_S2047_S1_S2048_d0) : (⟨S2047, .i32⟩ : BufTy).Contents (Elt F) → (⟨S1, .i32⟩ : BufTy).Contents (Elt F) → (⟨S2048, .i32⟩ : BufTy).Contents (Elt F)),
  StableHlo.unary main_arg1 main_v11 ((extractStridedSlice S2047 ![1] · slices_S2048_S2047_1) : (⟨S2048, .i1⟩ : BufTy).Contents (Elt F) → (⟨S2047, .i1⟩ : BufTy).Contents (Elt F)),
  StableHlo.unary main_v11 main_v12 (noti : (⟨S2047, .i1⟩ : BufTy).Contents (Elt F) → (⟨S2047, .i1⟩ : BufTy).Contents (Elt F)),
  StableHlo.binary main_v12 main_c_0 main_v13 ((fun a b => concatenate S2048 0 [⟨S2047, a⟩, ⟨S1, b⟩] concatenates_S2047_S1_S2048_d0) : (⟨S2047, .i1⟩ : BufTy).Contents (Elt F) → (⟨S1, .i1⟩ : BufTy).Contents (Elt F) → (⟨S2048, .i1⟩ : BufTy).Contents (Elt F)),
  StableHlo.binary main_arg1 main_v7 main_v14 (andi : (⟨S2048, .i1⟩ : BufTy).Contents (Elt F) → (⟨S2048, .i1⟩ : BufTy).Contents (Elt F) → (⟨S2048, .i1⟩ : BufTy).Contents (Elt F)),
  StableHlo.binary main_v14 main_v13 main_v15 (andi : (⟨S2048, .i1⟩ : BufTy).Contents (Elt F) → (⟨S2048, .i1⟩ : BufTy).Contents (Elt F) → (⟨S2048, .i1⟩ : BufTy).Contents (Elt F)),
  StableHlo.unary main_arg1 main_v16 (noti : (⟨S2048, .i1⟩ : BufTy).Contents (Elt F) → (⟨S2048, .i1⟩ : BufTy).Contents (Elt F))]

def call0 : List (HloOp τ sig (Elt F)) := [
  StableHlo.nullary main_call0_v0 (iotaInDim S2048 32 0),
  StableHlo.binary main_v16 main_call0_v0 main_call0_v1_0 ((fun x y => (Host.sort2 S2048 0 comparator_i1_i32_d0 x y).1) : (⟨S2048, .i1⟩ : BufTy).Contents (Elt F) → (⟨S2048, .i32⟩ : BufTy).Contents (Elt F) → (⟨S2048, .i1⟩ : BufTy).Contents (Elt F)),
  StableHlo.binary main_v16 main_call0_v0 main_v17 ((fun x y => (Host.sort2 S2048 0 comparator_i1_i32_d0 x y).2) : (⟨S2048, .i1⟩ : BufTy).Contents (Elt F) → (⟨S2048, .i32⟩ : BufTy).Contents (Elt F) → (⟨S2048, .i32⟩ : BufTy).Contents (Elt F))]

def h1 : List (HloOp τ sig (Elt F)) := [
  StableHlo.unary main_arg1 main_v18 ((extui 32 · natLt_1_32) : (⟨S2048, .i1⟩ : BufTy).Contents (Elt F) → (⟨S2048, .i32⟩ : BufTy).Contents (Elt F)),
  StableHlo.nullary main_c_3 (constantI S_ 32 0#32),
  StableHlo.binary main_v18 main_c_3 main_v19 ((fun x v => Host.reduce IntOp.addi x v reducesTo_S2048_S_d0 h_S_) : (⟨S2048, .i32⟩ : BufTy).Contents (Elt F) → (⟨S_, .i32⟩ : BufTy).Contents (Elt F) → (⟨S_, .i32⟩ : BufTy).Contents (Elt F)),
  StableHlo.nullary main_v20 (iotaInDim S2048 32 0),
  StableHlo.unary main_v19 main_v21 (broadcastInDim S2048 ![] bcast_S_S2048 : (⟨S_, .i32⟩ : BufTy).Contents (Elt F) → (⟨S2048, .i32⟩ : BufTy).Contents (Elt F)),
  StableHlo.binary main_v20 main_v21 main_v22 (cmpi .slt : (⟨S2048, .i32⟩ : BufTy).Contents (Elt F) → (⟨S2048, .i32⟩ : BufTy).Contents (Elt F) → (⟨S2048, .i1⟩ : BufTy).Contents (Elt F)),
  StableHlo.unary main_v17 main_v23 ((extractStridedSlice S1 ![0] · slices_S2048_S1_0) : (⟨S2048, .i32⟩ : BufTy).Contents (Elt F) → (⟨S1, .i32⟩ : BufTy).Contents (Elt F)),
  StableHlo.reshape main_v23 main_v24 (rfl : (.i32 : EltTy) = .i32) shapeCasts_S1_S_]

def call1 : List (HloOp τ sig (Elt F)) := [
  StableHlo.unary main_v24 main_call1_v0 ((broadcastInDim S2048 ![] bcast_S_S2048) : (⟨S_, .i32⟩ : BufTy).Contents (Elt F) → (⟨S2048, .i32⟩ : BufTy).Contents (Elt F)),
  StableHlo.ternary main_v22 main_v17 main_call1_v0 main_v25 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F))]

def h2 : List (HloOp τ sig (Elt F)) := [
  StableHlo.nullary main_c_4 (constantI S_ 32 0#32),
  StableHlo.unary main_c_4 main_v26 (broadcastInDim S2048 ![] bcast_S_S2048 : (⟨S_, .i32⟩ : BufTy).Contents (Elt F) → (⟨S2048, .i32⟩ : BufTy).Contents (Elt F)),
  StableHlo.binary main_v25 main_v26 main_v27 (cmpi .slt : (⟨S2048, .i32⟩ : BufTy).Contents (Elt F) → (⟨S2048, .i32⟩ : BufTy).Contents (Elt F) → (⟨S2048, .i1⟩ : BufTy).Contents (Elt F)),
  StableHlo.nullary main_c_5 (constantI S_ 32 2048#32),
  StableHlo.unary main_c_5 main_v28 (broadcastInDim S2048 ![] bcast_S_S2048 : (⟨S_, .i32⟩ : BufTy).Contents (Elt F) → (⟨S2048, .i32⟩ : BufTy).Contents (Elt F)),
  StableHlo.binary main_v25 main_v28 main_v29 (addi : (⟨S2048, .i32⟩ : BufTy).Contents (Elt F) → (⟨S2048, .i32⟩ : BufTy).Contents (Elt F) → (⟨S2048, .i32⟩ : BufTy).Contents (Elt F)),
  StableHlo.ternary main_v27 main_v29 main_v25 main_v30 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
  StableHlo.unary main_v30 main_v31 (broadcastInDim S2048x1 ![0] bcast_S2048_S2048x1_0 : (⟨S2048, .i32⟩ : BufTy).Contents (Elt F) → (⟨S2048x1, .i32⟩ : BufTy).Contents (Elt F)),
  StableHlo.binary main_v7 main_v31 main_v32 ((fun x i => Host.gather gather_S2048_S2048x1_S2048_n_0_n_n_0_1_1 x i) : (⟨S2048, .i1⟩ : BufTy).Contents (Elt F) → (⟨S2048x1, .i32⟩ : BufTy).Contents (Elt F) → (⟨S2048, .i1⟩ : BufTy).Contents (Elt F)),
  StableHlo.unary main_v32 main_v33 ((extui 32 · natLt_1_32) : (⟨S2048, .i1⟩ : BufTy).Contents (Elt F) → (⟨S2048, .i32⟩ : BufTy).Contents (Elt F)),
  StableHlo.nullary main_c_6 (constantI S_ 32 0#32),
  StableHlo.unary main_c_6 main_v34 (broadcastInDim S2048 ![] bcast_S_S2048 : (⟨S_, .i32⟩ : BufTy).Contents (Elt F) → (⟨S2048, .i32⟩ : BufTy).Contents (Elt F)),
  StableHlo.binary main_v33 main_v34 main_v35 (cmpi .sgt : (⟨S2048, .i32⟩ : BufTy).Contents (Elt F) → (⟨S2048, .i32⟩ : BufTy).Contents (Elt F) → (⟨S2048, .i1⟩ : BufTy).Contents (Elt F)),
  StableHlo.nullary main_c_7 (constantI S_ 32 0#32),
  StableHlo.unary main_c_7 main_v36 (broadcastInDim S2048 ![] bcast_S_S2048 : (⟨S_, .i32⟩ : BufTy).Contents (Elt F) → (⟨S2048, .i32⟩ : BufTy).Contents (Elt F)),
  StableHlo.binary main_v25 main_v36 main_v37 (cmpi .slt : (⟨S2048, .i32⟩ : BufTy).Contents (Elt F) → (⟨S2048, .i32⟩ : BufTy).Contents (Elt F) → (⟨S2048, .i1⟩ : BufTy).Contents (Elt F)),
  StableHlo.nullary main_c_8 (constantI S_ 32 2048#32),
  StableHlo.unary main_c_8 main_v38 (broadcastInDim S2048 ![] bcast_S_S2048 : (⟨S_, .i32⟩ : BufTy).Contents (Elt F) → (⟨S2048, .i32⟩ : BufTy).Contents (Elt F)),
  StableHlo.binary main_v25 main_v38 main_v39 (addi : (⟨S2048, .i32⟩ : BufTy).Contents (Elt F) → (⟨S2048, .i32⟩ : BufTy).Contents (Elt F) → (⟨S2048, .i32⟩ : BufTy).Contents (Elt F)),
  StableHlo.ternary main_v37 main_v39 main_v25 main_v40 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
  StableHlo.unary main_v40 main_v41 (broadcastInDim S2048x1 ![0] bcast_S2048_S2048x1_0 : (⟨S2048, .i32⟩ : BufTy).Contents (Elt F) → (⟨S2048x1, .i32⟩ : BufTy).Contents (Elt F)),
  StableHlo.binary main_v4 main_v41 main_v42 ((fun x i => Host.gather gather_S2048_S2048x1_S2048_n_0_n_n_0_1_1 x i) : (⟨S2048, .i32⟩ : BufTy).Contents (Elt F) → (⟨S2048x1, .i32⟩ : BufTy).Contents (Elt F) → (⟨S2048, .i32⟩ : BufTy).Contents (Elt F)),
  StableHlo.nullary main_c_9 (constantI S_ 32 0#32)]

def call2 : List (HloOp τ sig (Elt F)) := [
  StableHlo.unary main_c_9 main_call2_v0 (id : (⟨S_, .i32⟩ : BufTy).Contents (Elt F) → (⟨S_, .i32⟩ : BufTy).Contents (Elt F)),
  StableHlo.unary main_call2_v0 main_call2_v1 ((broadcastInDim S2048 ![] bcast_S_S2048) : (⟨S_, .i32⟩ : BufTy).Contents (Elt F) → (⟨S2048, .i32⟩ : BufTy).Contents (Elt F)),
  StableHlo.ternary main_v35 main_v42 main_call2_v1 main_v43 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F))]

def call3 : List (HloOp τ sig (Elt F)) := [
  StableHlo.nullary main_call3_v0 (iotaInDim S2048 32 0),
  StableHlo.binary main_v17 main_call3_v0 main_call3_v1_0 ((fun x y => (Host.sort2 S2048 0 comparator_i32_i32_d0 x y).1) : (⟨S2048, .i32⟩ : BufTy).Contents (Elt F) → (⟨S2048, .i32⟩ : BufTy).Contents (Elt F) → (⟨S2048, .i32⟩ : BufTy).Contents (Elt F)),
  StableHlo.binary main_v17 main_call3_v0 main_v44 ((fun x y => (Host.sort2 S2048 0 comparator_i32_i32_d0 x y).2) : (⟨S2048, .i32⟩ : BufTy).Contents (Elt F) → (⟨S2048, .i32⟩ : BufTy).Contents (Elt F) → (⟨S2048, .i32⟩ : BufTy).Contents (Elt F))]

def h3 : List (HloOp τ sig (Elt F)) := [
  StableHlo.unary main_v15 main_v45 (noti : (⟨S2048, .i1⟩ : BufTy).Contents (Elt F) → (⟨S2048, .i1⟩ : BufTy).Contents (Elt F))]

def call4 : List (HloOp τ sig (Elt F)) := [
  StableHlo.nullary main_call4_v0 (iotaInDim S2048 32 0),
  StableHlo.binary main_v45 main_call4_v0 main_call4_v1_0 ((fun x y => (Host.sort2 S2048 0 comparator_i1_i32_d0 x y).1) : (⟨S2048, .i1⟩ : BufTy).Contents (Elt F) → (⟨S2048, .i32⟩ : BufTy).Contents (Elt F) → (⟨S2048, .i1⟩ : BufTy).Contents (Elt F)),
  StableHlo.binary main_v45 main_call4_v0 main_v46 ((fun x y => (Host.sort2 S2048 0 comparator_i1_i32_d0 x y).2) : (⟨S2048, .i1⟩ : BufTy).Contents (Elt F) → (⟨S2048, .i32⟩ : BufTy).Contents (Elt F) → (⟨S2048, .i32⟩ : BufTy).Contents (Elt F))]

def h4 : List (HloOp τ sig (Elt F)) := [
  StableHlo.unary main_v15 main_v47 ((extui 32 · natLt_1_32) : (⟨S2048, .i1⟩ : BufTy).Contents (Elt F) → (⟨S2048, .i32⟩ : BufTy).Contents (Elt F)),
  StableHlo.nullary main_c_10 (constantI S_ 32 0#32)]

def h5 : List (HloOp τ sig (Elt F)) := [
  StableHlo.binary main_v47 main_c_10 main_v48 ((fun x v => Host.reduce IntOp.addi x v reducesTo_S2048_S_d0 h_S_) : (⟨S2048, .i32⟩ : BufTy).Contents (Elt F) → (⟨S_, .i32⟩ : BufTy).Contents (Elt F) → (⟨S_, .i32⟩ : BufTy).Contents (Elt F)),
  StableHlo.unary main_v46 main_v49 ((extractStridedSlice S1024 ![0] · slices_S2048_S1024_0) : (⟨S2048, .i32⟩ : BufTy).Contents (Elt F) → (⟨S1024, .i32⟩ : BufTy).Contents (Elt F)),
  StableHlo.nullary main_v50 (iotaInDim S1024 32 0),
  StableHlo.unary main_v48 main_v51 (broadcastInDim S1024 ![] bcast_S_S1024 : (⟨S_, .i32⟩ : BufTy).Contents (Elt F) → (⟨S1024, .i32⟩ : BufTy).Contents (Elt F)),
  StableHlo.binary main_v50 main_v51 main_v52 (cmpi .slt : (⟨S1024, .i32⟩ : BufTy).Contents (Elt F) → (⟨S1024, .i32⟩ : BufTy).Contents (Elt F) → (⟨S1024, .i1⟩ : BufTy).Contents (Elt F)),
  StableHlo.unary main_v49 main_v53 ((extractStridedSlice S1 ![0] · slices_S1024_S1_0) : (⟨S1024, .i32⟩ : BufTy).Contents (Elt F) → (⟨S1, .i32⟩ : BufTy).Contents (Elt F)),
  StableHlo.reshape main_v53 main_v54 (rfl : (.i32 : EltTy) = .i32) shapeCasts_S1_S_]

def call5 : List (HloOp τ sig (Elt F)) := [
  StableHlo.unary main_v54 main_call5_v0 ((broadcastInDim S1024 ![] bcast_S_S1024) : (⟨S_, .i32⟩ : BufTy).Contents (Elt F) → (⟨S1024, .i32⟩ : BufTy).Contents (Elt F)),
  StableHlo.ternary main_v52 main_v49 main_call5_v0 main_v55 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F))]

def h6 : List (HloOp τ sig (Elt F)) := [
  StableHlo.nullary main_c_11 (constantI S_ 32 0#32),
  StableHlo.unary main_c_11 main_v56 (broadcastInDim S1024 ![] bcast_S_S1024 : (⟨S_, .i32⟩ : BufTy).Contents (Elt F) → (⟨S1024, .i32⟩ : BufTy).Contents (Elt F)),
  StableHlo.binary main_v55 main_v56 main_v57 (cmpi .slt : (⟨S1024, .i32⟩ : BufTy).Contents (Elt F) → (⟨S1024, .i32⟩ : BufTy).Contents (Elt F) → (⟨S1024, .i1⟩ : BufTy).Contents (Elt F)),
  StableHlo.nullary main_c_12 (constantI S_ 32 2048#32),
  StableHlo.unary main_c_12 main_v58 (broadcastInDim S1024 ![] bcast_S_S1024 : (⟨S_, .i32⟩ : BufTy).Contents (Elt F) → (⟨S1024, .i32⟩ : BufTy).Contents (Elt F)),
  StableHlo.binary main_v55 main_v58 main_v59 (addi : (⟨S1024, .i32⟩ : BufTy).Contents (Elt F) → (⟨S1024, .i32⟩ : BufTy).Contents (Elt F) → (⟨S1024, .i32⟩ : BufTy).Contents (Elt F)),
  StableHlo.ternary main_v57 main_v59 main_v55 main_v60 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
  StableHlo.unary main_v60 main_v61 (broadcastInDim S1024x1 ![0] bcast_S1024_S1024x1_0 : (⟨S1024, .i32⟩ : BufTy).Contents (Elt F) → (⟨S1024x1, .i32⟩ : BufTy).Contents (Elt F)),
  StableHlo.binary main_v4 main_v61 main_v62 ((fun x i => Host.gather gather_S2048_S1024x1_S1024_n_0_n_n_0_1_1 x i) : (⟨S2048, .i32⟩ : BufTy).Contents (Elt F) → (⟨S1024x1, .i32⟩ : BufTy).Contents (Elt F) → (⟨S1024, .i32⟩ : BufTy).Contents (Elt F)),
  StableHlo.nullary main_c_13 (constantI S_ 32 0#32),
  StableHlo.unary main_c_13 main_v63 (broadcastInDim S1024 ![] bcast_S_S1024 : (⟨S_, .i32⟩ : BufTy).Contents (Elt F) → (⟨S1024, .i32⟩ : BufTy).Contents (Elt F)),
  StableHlo.binary main_v55 main_v63 main_v64 (cmpi .slt : (⟨S1024, .i32⟩ : BufTy).Contents (Elt F) → (⟨S1024, .i32⟩ : BufTy).Contents (Elt F) → (⟨S1024, .i1⟩ : BufTy).Contents (Elt F)),
  StableHlo.nullary main_c_14 (constantI S_ 32 2048#32),
  StableHlo.unary main_c_14 main_v65 (broadcastInDim S1024 ![] bcast_S_S1024 : (⟨S_, .i32⟩ : BufTy).Contents (Elt F) → (⟨S1024, .i32⟩ : BufTy).Contents (Elt F)),
  StableHlo.binary main_v55 main_v65 main_v66 (addi : (⟨S1024, .i32⟩ : BufTy).Contents (Elt F) → (⟨S1024, .i32⟩ : BufTy).Contents (Elt F) → (⟨S1024, .i32⟩ : BufTy).Contents (Elt F)),
  StableHlo.ternary main_v64 main_v66 main_v55 main_v67 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
  StableHlo.unary main_v67 main_v68 (broadcastInDim S1024x1 ![0] bcast_S1024_S1024x1_0 : (⟨S1024, .i32⟩ : BufTy).Contents (Elt F) → (⟨S1024x1, .i32⟩ : BufTy).Contents (Elt F)),
  StableHlo.binary main_v10 main_v68 main_v69 ((fun x i => Host.gather gather_S2048_S1024x1_S1024_n_0_n_n_0_1_1 x i) : (⟨S2048, .i32⟩ : BufTy).Contents (Elt F) → (⟨S1024x1, .i32⟩ : BufTy).Contents (Elt F) → (⟨S1024, .i32⟩ : BufTy).Contents (Elt F))]

def call6 : List (HloOp τ sig (Elt F)) := [
  StableHlo.nullary main_call6_v0 (iotaInDim S2048 32 0),
  StableHlo.binary main_v46 main_call6_v0 main_call6_v1_0 ((fun x y => (Host.sort2 S2048 0 comparator_i32_i32_d0 x y).1) : (⟨S2048, .i32⟩ : BufTy).Contents (Elt F) → (⟨S2048, .i32⟩ : BufTy).Contents (Elt F) → (⟨S2048, .i32⟩ : BufTy).Contents (Elt F)),
  StableHlo.binary main_v46 main_call6_v0 main_v70 ((fun x y => (Host.sort2 S2048 0 comparator_i32_i32_d0 x y).2) : (⟨S2048, .i32⟩ : BufTy).Contents (Elt F) → (⟨S2048, .i32⟩ : BufTy).Contents (Elt F) → (⟨S2048, .i32⟩ : BufTy).Contents (Elt F))]

def h7 : List (HloOp τ sig (Elt F)) := [
  StableHlo.reshape main_arg2 main_v71 (rfl : (.f32 : EltTy) = .f32) shapeCasts_S8192x8192_S67108864,
  StableHlo.nullary main_v72 (iotaInDim S8192 32 0),
  StableHlo.unary main_v52 main_v73 (broadcastInDim S1024x1 ![0] bcast_S1024_S1024x1_0 : (⟨S1024, .i1⟩ : BufTy).Contents (Elt F) → (⟨S1024x1, .i1⟩ : BufTy).Contents (Elt F)),
  StableHlo.unary main_v69 main_v74 (broadcastInDim S1024x1 ![0] bcast_S1024_S1024x1_0 : (⟨S1024, .i32⟩ : BufTy).Contents (Elt F) → (⟨S1024x1, .i32⟩ : BufTy).Contents (Elt F)),
  StableHlo.nullary main_c_15 (constantI S_ 32 8192#32),
  StableHlo.unary main_c_15 main_v75 (broadcastInDim S8192 ![] bcast_S_S8192 : (⟨S_, .i32⟩ : BufTy).Contents (Elt F) → (⟨S8192, .i32⟩ : BufTy).Contents (Elt F)),
  StableHlo.binary main_v72 main_v75 main_v76 (muli : (⟨S8192, .i32⟩ : BufTy).Contents (Elt F) → (⟨S8192, .i32⟩ : BufTy).Contents (Elt F) → (⟨S8192, .i32⟩ : BufTy).Contents (Elt F)),
  StableHlo.unary main_v76 main_v77 (broadcastInDim S1x8192 ![1] bcast_S8192_S1x8192_1 : (⟨S8192, .i32⟩ : BufTy).Contents (Elt F) → (⟨S1x8192, .i32⟩ : BufTy).Contents (Elt F)),
  StableHlo.unary main_v74 main_v78 (broadcastInDim S1024x8192 ![0, 1] bcast_S1024x1_S1024x8192_0_1 : (⟨S1024x1, .i32⟩ : BufTy).Contents (Elt F) → (⟨S1024x8192, .i32⟩ : BufTy).Contents (Elt F)),
  StableHlo.unary main_v77 main_v79 (broadcastInDim S1024x8192 ![0, 1] bcast_S1x8192_S1024x8192_0_1 : (⟨S1x8192, .i32⟩ : BufTy).Contents (Elt F) → (⟨S1024x8192, .i32⟩ : BufTy).Contents (Elt F)),
  StableHlo.binary main_v78 main_v79 main_v80 (addi : (⟨S1024x8192, .i32⟩ : BufTy).Contents (Elt F) → (⟨S1024x8192, .i32⟩ : BufTy).Contents (Elt F) → (⟨S1024x8192, .i32⟩ : BufTy).Contents (Elt F)),
  StableHlo.unary main_v72 main_v81 (broadcastInDim S1x8192 ![1] bcast_S8192_S1x8192_1 : (⟨S8192, .i32⟩ : BufTy).Contents (Elt F) → (⟨S1x8192, .i32⟩ : BufTy).Contents (Elt F))]

def call7 : List (HloOp τ sig (Elt F)) := [
  StableHlo.unary main_v73 main_call7_v0 ((broadcastInDim S1024x8192 ![0, 1] bcast_S1024x1_S1024x8192_0_1) : (⟨S1024x1, .i1⟩ : BufTy).Contents (Elt F) → (⟨S1024x8192, .i1⟩ : BufTy).Contents (Elt F)),
  StableHlo.unary main_v81 main_call7_v1 ((broadcastInDim S1024x8192 ![0, 1] bcast_S1x8192_S1024x8192_0_1) : (⟨S1x8192, .i32⟩ : BufTy).Contents (Elt F) → (⟨S1024x8192, .i32⟩ : BufTy).Contents (Elt F)),
  StableHlo.ternary main_call7_v0 main_v80 main_call7_v1 main_v82 (select : (⟨S1024x8192, .i1⟩ : BufTy).Contents (Elt F) → (⟨S1024x8192, .i32⟩ : BufTy).Contents (Elt F) → (⟨S1024x8192, .i32⟩ : BufTy).Contents (Elt F) → (⟨S1024x8192, .i32⟩ : BufTy).Contents (Elt F))]

def h8 : List (HloOp τ sig (Elt F)) := [
  StableHlo.reshape main_v82 main_v83 (rfl : (.i32 : EltTy) = .i32) shapeCasts_S1024x8192_S8388608]

def h9 : List (HloOp τ sig (Elt F)) := [
  StableHlo.reshape main_arg3 main_v85 (rfl : (.f32 : EltTy) = .f32) shapeCasts_S8192_S1x8x1024,
  StableHlo.reshape main_v84 main_v86 (rfl : (.f32 : EltTy) = .f32) shapeCasts_S8388608_S1024x8x1024,
  StableHlo.reshape main_arg2 main_v87 (rfl : (.f32 : EltTy) = .f32) shapeCasts_S8192x8192_S8192x1x8192,
  StableHlo.reshape main_v19 main_v88 (rfl : (.i32 : EltTy) = .i32) shapeCasts_S_S1]

def h10 : List (HloOp τ sig (Elt F)) := [
  StableHlo.unary main_v89 main_v90 ((extractStridedSlice S2048x1 ![0, 0] · slices_S2048x128_S2048x1_0_0) : (⟨S2048x128, .i32⟩ : BufTy).Contents (Elt F) → (⟨S2048x1, .i32⟩ : BufTy).Contents (Elt F)),
  StableHlo.reshape main_v90 main_v91 (rfl : (.i32 : EltTy) = .i32) shapeCasts_S2048x1_S2048,
  StableHlo.reshape main_v48 main_v92 (rfl : (.i32 : EltTy) = .i32) shapeCasts_S_S1]

def h11 : List (HloOp τ sig (Elt F)) := [
  StableHlo.unary main_v93 main_v94 ((extractStridedSlice S1024x1 ![0, 0] · slices_S1024x128_S1024x1_0_0) : (⟨S1024x128, .i32⟩ : BufTy).Contents (Elt F) → (⟨S1024x1, .i32⟩ : BufTy).Contents (Elt F)),
  StableHlo.reshape main_v94 main_v95 (rfl : (.i32 : EltTy) = .i32) shapeCasts_S1024x1_S1024]

def call8 : List (HloOp τ sig (Elt F)) := [
  StableHlo.nullary main_call8_c (constantI S_ 32 0#32),
  StableHlo.unary main_call8_c main_call8_v0 ((broadcastInDim S2048 ![] bcast_S_S2048) : (⟨S_, .i32⟩ : BufTy).Contents (Elt F) → (⟨S2048, .i32⟩ : BufTy).Contents (Elt F)),
  StableHlo.binary main_v44 main_call8_v0 main_call8_v1 ((cmpi .slt) : (⟨S2048, .i32⟩ : BufTy).Contents (Elt F) → (⟨S2048, .i32⟩ : BufTy).Contents (Elt F) → (⟨S2048, .i1⟩ : BufTy).Contents (Elt F)),
  StableHlo.nullary main_call8_c_0 (constantI S_ 32 2048#32),
  StableHlo.unary main_call8_c_0 main_call8_v2 ((broadcastInDim S2048 ![] bcast_S_S2048) : (⟨S_, .i32⟩ : BufTy).Contents (Elt F) → (⟨S2048, .i32⟩ : BufTy).Contents (Elt F)),
  StableHlo.binary main_v44 main_call8_v2 main_call8_v3 (addi : (⟨S2048, .i32⟩ : BufTy).Contents (Elt F) → (⟨S2048, .i32⟩ : BufTy).Contents (Elt F) → (⟨S2048, .i32⟩ : BufTy).Contents (Elt F)),
  StableHlo.ternary main_call8_v1 main_call8_v3 main_v44 main_call8_v4 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
  StableHlo.unary main_call8_v4 main_call8_v5 ((broadcastInDim S2048x1 ![0] bcast_S2048_S2048x1_0) : (⟨S2048, .i32⟩ : BufTy).Contents (Elt F) → (⟨S2048x1, .i32⟩ : BufTy).Contents (Elt F)),
  StableHlo.nullary main_call8_c_1 (constantI S1 32 2047#32),
  StableHlo.nullary main_call8_c_2 (constantI S_ 32 0#32),
  StableHlo.unary main_call8_c_2 main_call8_v6 ((broadcastInDim S2048x1 ![] bcast_S_S2048x1) : (⟨S_, .i32⟩ : BufTy).Contents (Elt F) → (⟨S2048x1, .i32⟩ : BufTy).Contents (Elt F)),
  StableHlo.binary main_call8_v5 main_call8_v6 main_call8_v7 ((cmpi .sge) : (⟨S2048x1, .i32⟩ : BufTy).Contents (Elt F) → (⟨S2048x1, .i32⟩ : BufTy).Contents (Elt F) → (⟨S2048x1, .i1⟩ : BufTy).Contents (Elt F)),
  StableHlo.unary main_call8_c_1 main_call8_v8 ((broadcastInDim S1x1 ![1] bcast_S1_S1x1_1) : (⟨S1, .i32⟩ : BufTy).Contents (Elt F) → (⟨S1x1, .i32⟩ : BufTy).Contents (Elt F)),
  StableHlo.unary main_call8_v8 main_call8_v9 ((broadcastInDim S2048x1 ![0, 1] bcast_S1x1_S2048x1_0_1) : (⟨S1x1, .i32⟩ : BufTy).Contents (Elt F) → (⟨S2048x1, .i32⟩ : BufTy).Contents (Elt F)),
  StableHlo.binary main_call8_v5 main_call8_v9 main_call8_v10 ((cmpi .sle) : (⟨S2048x1, .i32⟩ : BufTy).Contents (Elt F) → (⟨S2048x1, .i32⟩ : BufTy).Contents (Elt F) → (⟨S2048x1, .i1⟩ : BufTy).Contents (Elt F)),
  StableHlo.binary main_call8_v7 main_call8_v10 main_call8_v11 (andi : (⟨S2048x1, .i1⟩ : BufTy).Contents (Elt F) → (⟨S2048x1, .i1⟩ : BufTy).Contents (Elt F) → (⟨S2048x1, .i1⟩ : BufTy).Contents (Elt F)),
  StableHlo.nullary main_call8_c_3 (constantI S_ 1 1#1),
  StableHlo.binary main_call8_v11 main_call8_c_3 main_call8_v12 ((fun x v => Host.reduce IntOp.andi x v reducesTo_S2048x1_S2048_d1 h_S_) : (⟨S2048x1, .i1⟩ : BufTy).Contents (Elt F) → (⟨S_, .i1⟩ : BufTy).Contents (Elt F) → (⟨S2048, .i1⟩ : BufTy).Contents (Elt F)),
  StableHlo.binary main_v91 main_call8_v5 main_call8_v13 ((fun x i => Host.gather gather_S2048_S2048x1_S2048_n_0_n_n_0_1_1 x i) : (⟨S2048, .i32⟩ : BufTy).Contents (Elt F) → (⟨S2048x1, .i32⟩ : BufTy).Contents (Elt F) → (⟨S2048, .i32⟩ : BufTy).Contents (Elt F)),
  StableHlo.nullary main_call8_c_4 (constantI S_ 32 2147483648#32),
  StableHlo.unary main_call8_c_4 main_call8_v14 ((broadcastInDim S2048 ![] bcast_S_S2048) : (⟨S_, .i32⟩ : BufTy).Contents (Elt F) → (⟨S2048, .i32⟩ : BufTy).Contents (Elt F)),
  StableHlo.ternary main_call8_v12 main_call8_v13 main_call8_v14 main_v96 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F))]

def h12 : List (HloOp τ sig (Elt F)) := [
  StableHlo.nullary main_c_16 (constantI S_ 32 1023#32),
  StableHlo.unary main_c_16 main_v97 (broadcastInDim S2048 ![] bcast_S_S2048 : (⟨S_, .i32⟩ : BufTy).Contents (Elt F) → (⟨S2048, .i32⟩ : BufTy).Contents (Elt F)),
  StableHlo.binary main_v70 main_v97 main_v98 (minsi : (⟨S2048, .i32⟩ : BufTy).Contents (Elt F) → (⟨S2048, .i32⟩ : BufTy).Contents (Elt F) → (⟨S2048, .i32⟩ : BufTy).Contents (Elt F))]

def call9 : List (HloOp τ sig (Elt F)) := [
  StableHlo.nullary main_call9_c (constantI S_ 32 0#32),
  StableHlo.unary main_call9_c main_call9_v0 ((broadcastInDim S2048 ![] bcast_S_S2048) : (⟨S_, .i32⟩ : BufTy).Contents (Elt F) → (⟨S2048, .i32⟩ : BufTy).Contents (Elt F)),
  StableHlo.binary main_v98 main_call9_v0 main_call9_v1 ((cmpi .slt) : (⟨S2048, .i32⟩ : BufTy).Contents (Elt F) → (⟨S2048, .i32⟩ : BufTy).Contents (Elt F) → (⟨S2048, .i1⟩ : BufTy).Contents (Elt F)),
  StableHlo.nullary main_call9_c_0 (constantI S_ 32 1024#32),
  StableHlo.unary main_call9_c_0 main_call9_v2 ((broadcastInDim S2048 ![] bcast_S_S2048) : (⟨S_, .i32⟩ : BufTy).Contents (Elt F) → (⟨S2048, .i32⟩ : BufTy).Contents (Elt F)),
  StableHlo.binary main_v98 main_call9_v2 main_call9_v3 (addi : (⟨S2048, .i32⟩ : BufTy).Contents (Elt F) → (⟨S2048, .i32⟩ : BufTy).Contents (Elt F) → (⟨S2048, .i32⟩ : BufTy).Contents (Elt F)),
  StableHlo.ternary main_call9_v1 main_call9_v3 main_v98 main_call9_v4 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
  StableHlo.unary main_call9_v4 main_call9_v5 ((broadcastInDim S2048x1 ![0] bcast_S2048_S2048x1_0) : (⟨S2048, .i32⟩ : BufTy).Contents (Elt F) → (⟨S2048x1, .i32⟩ : BufTy).Contents (Elt F)),
  StableHlo.nullary main_call9_c_1 (constantI S1 32 1023#32),
  StableHlo.nullary main_call9_c_2 (constantI S_ 32 0#32),
  StableHlo.unary main_call9_c_2 main_call9_v6 ((broadcastInDim S2048x1 ![] bcast_S_S2048x1) : (⟨S_, .i32⟩ : BufTy).Contents (Elt F) → (⟨S2048x1, .i32⟩ : BufTy).Contents (Elt F)),
  StableHlo.binary main_call9_v5 main_call9_v6 main_call9_v7 ((cmpi .sge) : (⟨S2048x1, .i32⟩ : BufTy).Contents (Elt F) → (⟨S2048x1, .i32⟩ : BufTy).Contents (Elt F) → (⟨S2048x1, .i1⟩ : BufTy).Contents (Elt F)),
  StableHlo.unary main_call9_c_1 main_call9_v8 ((broadcastInDim S1x1 ![1] bcast_S1_S1x1_1) : (⟨S1, .i32⟩ : BufTy).Contents (Elt F) → (⟨S1x1, .i32⟩ : BufTy).Contents (Elt F)),
  StableHlo.unary main_call9_v8 main_call9_v9 ((broadcastInDim S2048x1 ![0, 1] bcast_S1x1_S2048x1_0_1) : (⟨S1x1, .i32⟩ : BufTy).Contents (Elt F) → (⟨S2048x1, .i32⟩ : BufTy).Contents (Elt F)),
  StableHlo.binary main_call9_v5 main_call9_v9 main_call9_v10 ((cmpi .sle) : (⟨S2048x1, .i32⟩ : BufTy).Contents (Elt F) → (⟨S2048x1, .i32⟩ : BufTy).Contents (Elt F) → (⟨S2048x1, .i1⟩ : BufTy).Contents (Elt F)),
  StableHlo.binary main_call9_v7 main_call9_v10 main_call9_v11 (andi : (⟨S2048x1, .i1⟩ : BufTy).Contents (Elt F) → (⟨S2048x1, .i1⟩ : BufTy).Contents (Elt F) → (⟨S2048x1, .i1⟩ : BufTy).Contents (Elt F)),
  StableHlo.nullary main_call9_c_3 (constantI S_ 1 1#1),
  StableHlo.binary main_call9_v11 main_call9_c_3 main_call9_v12 ((fun x v => Host.reduce IntOp.andi x v reducesTo_S2048x1_S2048_d1 h_S_) : (⟨S2048x1, .i1⟩ : BufTy).Contents (Elt F) → (⟨S_, .i1⟩ : BufTy).Contents (Elt F) → (⟨S2048, .i1⟩ : BufTy).Contents (Elt F)),
  StableHlo.binary main_v95 main_call9_v5 main_call9_v13 ((fun x i => Host.gather gather_S1024_S2048x1_S2048_n_0_n_n_0_1_1 x i) : (⟨S1024, .i32⟩ : BufTy).Contents (Elt F) → (⟨S2048x1, .i32⟩ : BufTy).Contents (Elt F) → (⟨S2048, .i32⟩ : BufTy).Contents (Elt F)),
  StableHlo.nullary main_call9_c_4 (constantI S_ 32 2147483648#32),
  StableHlo.unary main_call9_c_4 main_call9_v14 ((broadcastInDim S2048 ![] bcast_S_S2048) : (⟨S_, .i32⟩ : BufTy).Contents (Elt F) → (⟨S2048, .i32⟩ : BufTy).Contents (Elt F)),
  StableHlo.ternary main_call9_v12 main_call9_v13 main_call9_v14 main_v99 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F))]

def call10 : List (HloOp τ sig (Elt F)) := [
  StableHlo.ternary main_arg1 main_v96 main_arg0 main_v100 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F))]

def call11 : List (HloOp τ sig (Elt F)) := [
  StableHlo.ternary main_v15 main_v99 main_v100 main_v101 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F))]

theorem call0_eq : (fn_argsort.body (.of main_v16) main_call0 : Prog (TpuEff nD τ sig (Elt F) (SparseCore.Sig (Pipeline.Sig Λ₀ (Fin 2) fun p => (pcfgs (F := F) p).Adm) 1) .tc) PUnit) = seq (call0 (F := F)) := rfl

theorem call1_eq : (fn_where.body (.of main_v22) (.of main_v17) (.of main_v24) main_call1 : Prog (TpuEff nD τ sig (Elt F) (SparseCore.Sig (Pipeline.Sig Λ₀ (Fin 2) fun p => (pcfgs (F := F) p).Adm) 1) .tc) PUnit) = seq (call1 (F := F)) := rfl

theorem call2_eq : (fn_where_0.body (.of main_v35) (.of main_v42) (.of main_c_9) main_call2 : Prog (TpuEff nD τ sig (Elt F) (SparseCore.Sig (Pipeline.Sig Λ₀ (Fin 2) fun p => (pcfgs (F := F) p).Adm) 1) .tc) PUnit) = seq (call2 (F := F)) := rfl

theorem call3_eq : (fn_argsort_1.body (.of main_v17) main_call3 : Prog (TpuEff nD τ sig (Elt F) (SparseCore.Sig (Pipeline.Sig Λ₀ (Fin 2) fun p => (pcfgs (F := F) p).Adm) 1) .tc) PUnit) = seq (call3 (F := F)) := rfl

theorem call4_eq : (fn_argsort.body (.of main_v45) main_call4 : Prog (TpuEff nD τ sig (Elt F) (SparseCore.Sig (Pipeline.Sig Λ₀ (Fin 2) fun p => (pcfgs (F := F) p).Adm) 1) .tc) PUnit) = seq (call4 (F := F)) := rfl

theorem call5_eq : (fn_where_2.body (.of main_v52) (.of main_v49) (.of main_v54) main_call5 : Prog (TpuEff nD τ sig (Elt F) (SparseCore.Sig (Pipeline.Sig Λ₀ (Fin 2) fun p => (pcfgs (F := F) p).Adm) 1) .tc) PUnit) = seq (call5 (F := F)) := rfl

theorem call6_eq : (fn_argsort_1.body (.of main_v46) main_call6 : Prog (TpuEff nD τ sig (Elt F) (SparseCore.Sig (Pipeline.Sig Λ₀ (Fin 2) fun p => (pcfgs (F := F) p).Adm) 1) .tc) PUnit) = seq (call6 (F := F)) := rfl

theorem call7_eq : (fn_where_3.body (.of main_v73) (.of main_v80) (.of main_v81) main_call7 : Prog (TpuEff nD τ sig (Elt F) (SparseCore.Sig (Pipeline.Sig Λ₀ (Fin 2) fun p => (pcfgs (F := F) p).Adm) 1) .tc) PUnit) = seq (call7 (F := F)) := rfl

theorem call8_eq : (fn_take.body (.of main_v91) (.of main_v44) main_call8 : Prog (TpuEff nD τ sig (Elt F) (SparseCore.Sig (Pipeline.Sig Λ₀ (Fin 2) fun p => (pcfgs (F := F) p).Adm) 1) .tc) PUnit) = seq (call8 (F := F)) := rfl

theorem call9_eq : (fn_take_5.body (.of main_v95) (.of main_v98) main_call9 : Prog (TpuEff nD τ sig (Elt F) (SparseCore.Sig (Pipeline.Sig Λ₀ (Fin 2) fun p => (pcfgs (F := F) p).Adm) 1) .tc) PUnit) = seq (call9 (F := F)) := rfl

theorem call10_eq : (fn_where_6.body (.of main_arg1) (.of main_v96) (.of main_arg0) main_call10 : Prog (TpuEff nD τ sig (Elt F) (SparseCore.Sig (Pipeline.Sig Λ₀ (Fin 2) fun p => (pcfgs (F := F) p).Adm) 1) .tc) PUnit) = seq (call10 (F := F)) := rfl

theorem call11_eq : (fn_where_4.body (.of main_v15) (.of main_v99) (.of main_v100) main_call11 : Prog (TpuEff nD τ sig (Elt F) (SparseCore.Sig (Pipeline.Sig Λ₀ (Fin 2) fun p => (pcfgs (F := F) p).Adm) 1) .tc) PUnit) = seq (call11 (F := F)) := rfl

def opsA : List (HloOp τ sig (Elt F)) := h0 ++ call0 ++ h1 ++ call1 ++ h2 ++ call2 ++ call3 ++ h3 ++ call4 ++ h4 ++ h5 ++ call5 ++ h6 ++ call6 ++ h7 ++ call7 ++ h8

def opsB : List (HloOp τ sig (Elt F)) := h9

def opsC : List (HloOp τ sig (Elt F)) := h10

def opsD : List (HloOp τ sig (Elt F)) := h11 ++ call8 ++ h12 ++ call9 ++ call10 ++ call11

set_option maxRecDepth 32768 in
theorem part0_eq (d : Dev nD) : main_part0 (F := F) d = seqK h0 (seq call0 >>= fun _ => seqK h1 (seq call1 >>= fun _ => seqK h2 (seq call2 >>= fun _ => seq call3 >>= fun _ => seqK h3 (seq call4 >>= fun _ => seqK h4 (pure ⟨⟩))))) := by
  simp only [main_part0, call0_eq, call1_eq, call2_eq, call3_eq, call4_eq]
  rfl

set_option maxRecDepth 32768 in
theorem part1_eq (d : Dev nD) : main_part1 (F := F) d = seqK h5 (seq call5 >>= fun _ => seqK h6 (seq call6 >>= fun _ => seqK h7 (seq call7 >>= fun _ => seqK h8 ((sc (F := F)).run d 0 >>= fun _ => seqK h9 (Prog.lift (.customCall (SparseCore.inner (Pipeline.entry 0)) ()) >>= fun _ => seqK h10 (Prog.lift (.customCall (SparseCore.inner (Pipeline.entry 1)) ()) >>= fun _ => seqK h11 (seq call8 >>= fun _ => seqK h12 (seq call9 >>= fun _ => seq call10 >>= fun _ => seq call11)))))))) := by
  simp only [main_part1, call5_eq, call6_eq, call7_eq, call8_eq, call9_eq, call10_eq, call11_eq]
  rfl

theorem main_eq (d : Dev nD) :
    main (F := F) d = (seq (opsA (F := F)) >>= fun _ => (sc (F := F)).run d 0 >>= fun _ =>
      seq (opsB (F := F)) >>= fun _ => Prog.lift (.customCall (SparseCore.inner (Pipeline.entry 0)) ()) >>= fun _ =>
      seq (opsC (F := F)) >>= fun _ => Prog.lift (.customCall (SparseCore.inner (Pipeline.entry 1)) ()) >>= fun _ =>
      seq (opsD (F := F)) >>= fun _ => pure ⟨⟩) := by
  simp only [main, part0_eq, part1_eq, main_part2, opsA, opsB, opsC, opsD, seq_append, ← seq_bind_seqK, bind_assoc, pure_bind]

end Cert.KernelIdeal.Smooth
-- ==== Proof.OpsPlainIdeal.lean ====
module

public import proofs.«01_k».proof.Proof.OpsIdeal
public import Idealize.ShloMosaic.Lib.Pipeline.Frame

@[expose] public section

/-! # The host's statements touch the core's own buffers only, and need no fresh one -/

noncomputable section

namespace Cert.KernelIdeal.Smooth

open Cert.KernelIdeal Cert.KernelIdeal.Gen
open Idealize.ShloMosaic Idealize.ShloMosaic.StableHlo Idealize.ShloMosaic.Pipeline

variable {F : FTy → Type} [FloatOps F]

/-- Within the unscoped buffers, nothing fresh. -/
def Plain (ops : List (HloOp τ sig (Elt F))) : Prop := (∀ op ∈ ops, op.bufs ⊆ ucRefs τ sig) ∧ ∀ op ∈ ops, op.fresh = ∅

theorem Plain.append {l₁ l₂ : List (HloOp τ sig (Elt F))} (h₁ : Plain l₁) (h₂ : Plain l₂) : Plain (l₁ ++ l₂) :=
  ⟨fun op h => (List.mem_append.mp h).elim (h₁.1 op) (h₂.1 op), fun op h => (List.mem_append.mp h).elim (h₁.2 op) (h₂.2 op)⟩

theorem plain_of {ops : List (HloOp τ sig (Elt F))} (h : ops.Forall fun op => op.bufs ⊆ tcRefs τ sig)
    (h' : ops.map HloOp.fresh = ops.map fun _ => (∅ : Finset (DevRef τ sig))) : Plain ops :=
  ⟨fun op ho => sub_ucRefs op (List.forall_iff_forall_mem.mp h op ho), List.forall_iff_forall_mem.mp (forall_fresh_of_map h')⟩

theorem h0_plain : Plain (h0 (F := F)) := plain_of (by
  simp only [h0, List.forall_cons, List.Forall, reshape_bufs_sub, unary_bufs_sub, nullary_bufs_sub, binary_bufs_sub, ternary_bufs_sub, and_self]) rfl

theorem call0_plain : Plain (call0 (F := F)) := plain_of (by
  simp only [call0, List.forall_cons, List.Forall, reshape_bufs_sub, unary_bufs_sub, nullary_bufs_sub, binary_bufs_sub, ternary_bufs_sub, and_self]) rfl

theorem h1_plain : Plain (h1 (F := F)) := plain_of (by
  simp only [h1, List.forall_cons, List.Forall, reshape_bufs_sub, unary_bufs_sub, nullary_bufs_sub, binary_bufs_sub, ternary_bufs_sub, and_self]) rfl

theorem call1_plain : Plain (call1 (F := F)) := plain_of (by
  simp only [call1, List.forall_cons, List.Forall, reshape_bufs_sub, unary_bufs_sub, nullary_bufs_sub, binary_bufs_sub, ternary_bufs_sub, and_self]) rfl

theorem h2_plain : Plain (h2 (F := F)) := plain_of (by
  simp only [h2, List.forall_cons, List.Forall, reshape_bufs_sub, unary_bufs_sub, nullary_bufs_sub, binary_bufs_sub, ternary_bufs_sub, and_self]) rfl

theorem call2_plain : Plain (call2 (F := F)) := plain_of (by
  simp only [call2, List.forall_cons, List.Forall, reshape_bufs_sub, unary_bufs_sub, nullary_bufs_sub, binary_bufs_sub, ternary_bufs_sub, and_self]) rfl

theorem call3_plain : Plain (call3 (F := F)) := plain_of (by
  simp only [call3, List.forall_cons, List.Forall, reshape_bufs_sub, unary_bufs_sub, nullary_bufs_sub, binary_bufs_sub, ternary_bufs_sub, and_self]) rfl

theorem h3_plain : Plain (h3 (F := F)) := plain_of (by
  simp only [h3, List.forall_cons, List.Forall, reshape_bufs_sub, unary_bufs_sub, nullary_bufs_sub, binary_bufs_sub, ternary_bufs_sub, and_self]) rfl

theorem call4_plain : Plain (call4 (F := F)) := plain_of (by
  simp only [call4, List.forall_cons, List.Forall, reshape_bufs_sub, unary_bufs_sub, nullary_bufs_sub, binary_bufs_sub, ternary_bufs_sub, and_self]) rfl

theorem h4_plain : Plain (h4 (F := F)) := plain_of (by
  simp only [h4, List.forall_cons, List.Forall, reshape_bufs_sub, unary_bufs_sub, nullary_bufs_sub, binary_bufs_sub, ternary_bufs_sub, and_self]) rfl

theorem h5_plain : Plain (h5 (F := F)) := plain_of (by
  simp only [h5, List.forall_cons, List.Forall, reshape_bufs_sub, unary_bufs_sub, nullary_bufs_sub, binary_bufs_sub, ternary_bufs_sub, and_self]) rfl

theorem call5_plain : Plain (call5 (F := F)) := plain_of (by
  simp only [call5, List.forall_cons, List.Forall, reshape_bufs_sub, unary_bufs_sub, nullary_bufs_sub, binary_bufs_sub, ternary_bufs_sub, and_self]) rfl

theorem h6_plain : Plain (h6 (F := F)) := plain_of (by
  simp only [h6, List.forall_cons, List.Forall, reshape_bufs_sub, unary_bufs_sub, nullary_bufs_sub, binary_bufs_sub, ternary_bufs_sub, and_self]) rfl

theorem call6_plain : Plain (call6 (F := F)) := plain_of (by
  simp only [call6, List.forall_cons, List.Forall, reshape_bufs_sub, unary_bufs_sub, nullary_bufs_sub, binary_bufs_sub, ternary_bufs_sub, and_self]) rfl

theorem h7_plain : Plain (h7 (F := F)) := plain_of (by
  simp only [h7, List.forall_cons, List.Forall, reshape_bufs_sub, unary_bufs_sub, nullary_bufs_sub, binary_bufs_sub, ternary_bufs_sub, and_self]) rfl

theorem call7_plain : Plain (call7 (F := F)) := plain_of (by
  simp only [call7, List.forall_cons, List.Forall, reshape_bufs_sub, unary_bufs_sub, nullary_bufs_sub, binary_bufs_sub, ternary_bufs_sub, and_self]) rfl

theorem h8_plain : Plain (h8 (F := F)) := plain_of (by
  simp only [h8, List.forall_cons, List.Forall, reshape_bufs_sub, unary_bufs_sub, nullary_bufs_sub, binary_bufs_sub, ternary_bufs_sub, and_self]) rfl

theorem h9_plain : Plain (h9 (F := F)) := plain_of (by
  simp only [h9, List.forall_cons, List.Forall, reshape_bufs_sub, unary_bufs_sub, nullary_bufs_sub, binary_bufs_sub, ternary_bufs_sub, and_self]) rfl

theorem h10_plain : Plain (h10 (F := F)) := plain_of (by
  simp only [h10, List.forall_cons, List.Forall, reshape_bufs_sub, unary_bufs_sub, nullary_bufs_sub, binary_bufs_sub, ternary_bufs_sub, and_self]) rfl

theorem h11_plain : Plain (h11 (F := F)) := plain_of (by
  simp only [h11, List.forall_cons, List.Forall, reshape_bufs_sub, unary_bufs_sub, nullary_bufs_sub, binary_bufs_sub, ternary_bufs_sub, and_self]) rfl

theorem call8_plain : Plain (call8 (F := F)) := plain_of (by
  simp only [call8, List.forall_cons, List.Forall, reshape_bufs_sub, unary_bufs_sub, nullary_bufs_sub, binary_bufs_sub, ternary_bufs_sub, and_self]) rfl

theorem h12_plain : Plain (h12 (F := F)) := plain_of (by
  simp only [h12, List.forall_cons, List.Forall, reshape_bufs_sub, unary_bufs_sub, nullary_bufs_sub, binary_bufs_sub, ternary_bufs_sub, and_self]) rfl

theorem call9_plain : Plain (call9 (F := F)) := plain_of (by
  simp only [call9, List.forall_cons, List.Forall, reshape_bufs_sub, unary_bufs_sub, nullary_bufs_sub, binary_bufs_sub, ternary_bufs_sub, and_self]) rfl

theorem call10_plain : Plain (call10 (F := F)) := plain_of (by
  simp only [call10, List.forall_cons, List.Forall, reshape_bufs_sub, unary_bufs_sub, nullary_bufs_sub, binary_bufs_sub, ternary_bufs_sub, and_self]) rfl

theorem call11_plain : Plain (call11 (F := F)) := plain_of (by
  simp only [call11, List.forall_cons, List.Forall, reshape_bufs_sub, unary_bufs_sub, nullary_bufs_sub, binary_bufs_sub, ternary_bufs_sub, and_self]) rfl

theorem opsA_plain : Plain (opsA (F := F)) := ((((((((((((((((h0_plain).append call0_plain).append h1_plain).append call1_plain).append h2_plain).append call2_plain).append call3_plain).append h3_plain).append call4_plain).append h4_plain).append h5_plain).append call5_plain).append h6_plain).append call6_plain).append h7_plain).append call7_plain).append h8_plain

theorem opsB_plain : Plain (opsB (F := F)) := h9_plain

theorem opsC_plain : Plain (opsC (F := F)) := h10_plain

theorem opsD_plain : Plain (opsD (F := F)) := (((((h11_plain).append call8_plain).append h12_plain).append call9_plain).append call10_plain).append call11_plain

end Cert.KernelIdeal.Smooth
-- ==== Proof.FwdIdeal.lean ====
/-
  The body of the forward call at one point: row `j` of the output block, when it is one of the rows to sample, holds the
  position of the greatest of row `j`'s numbers.
-/
module

public import proofs.«01_k».proof.Proof.Body
public import proofs.«01_k».proof.Proof.Gen.KernelIdeal
public import proofs.«01_k».proof.Proof.Gen.KernelIdeal.Skeleton

@[expose] public section

set_option maxRecDepth 4096

noncomputable section

namespace Cert.KernelIdeal.Smooth

open Cert.KernelIdeal Cert.KernelIdeal.Gen Cert.Smooth

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

theorem part1_chunks (i : grid1.Coords)
    (a1 : Memref sig .tc .smem S2048 .i32) (h1 : a1.IsWhole)(a2 : Memref sig .tc .smem S2048 .i32) (h2 : a2.IsWhole)(a3 : Memref sig .tc .smem S2048 .i32) (h3 : a3.IsWhole)(a4 : Memref sig .tc .smem S1 .i32) (h4 : a4.IsWhole)
    (a5 : Memref sig .tc .vmem S1x1x8192 .f32) (h5 : a5.IsWhole) (a6 : Memref sig .tc .vmem S1x1x8192 .f32) (h6 : a6.IsWhole) (a7 : Memref sig .tc .vmem S1x1x8192 .f32) (h7 : a7.IsWhole) (a8 : Memref sig .tc .vmem S1x1x8192 .f32) (h8 : a8.IsWhole) (a9 : Memref sig .tc .vmem S1x1x8192 .f32) (h9 : a9.IsWhole) (a10 : Memref sig .tc .vmem S1x1x8192 .f32) (h10 : a10.IsWhole) (a11 : Memref sig .tc .vmem S1x1x8192 .f32) (h11 : a11.IsWhole) (a12 : Memref sig .tc .vmem S1x1x8192 .f32) (h12 : a12.IsWhole)
    (a13 : Memref sig .tc .vmem S1x8x1024 .f32) (h13 : a13.IsWhole) (a14 : Memref sig .tc .vmem S1x8x1024 .f32) (h14 : a14.IsWhole) (a15 : Memref sig .tc .vmem S1x8x1024 .f32) (h15 : a15.IsWhole) (a16 : Memref sig .tc .vmem S1x8x1024 .f32) (h16 : a16.IsWhole) (a17 : Memref sig .tc .vmem S1x8x1024 .f32) (h17 : a17.IsWhole) (a18 : Memref sig .tc .vmem S1x8x1024 .f32) (h18 : a18.IsWhole) (a19 : Memref sig .tc .vmem S1x8x1024 .f32) (h19 : a19.IsWhole) (a20 : Memref sig .tc .vmem S1x8x1024 .f32) (h20 : a20.IsWhole) (a21 : Memref sig .tc .vmem S1x8x1024 .f32) (h21 : a21.IsWhole)
    (a22 : Memref sig .tc .vmem S8x128 .i32) (h22 : a22.IsWhole) :
    k1_part1 (F := F) i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 =
      .op (.load a21 (Rect.unit (s := S1x8x1024) ![0, 0, 0] S1x8x1024.size inb_S1x8x1024_S1x8x1024_0_0_0).toLoadRect (View.loadsAt_vmem h_S1x8x1024)) fun v0 =>
      smemLoadElt a4 (Rect.unit (s := S1) ![0] S1.size inb_S1_S1_0) (View.loads_smem_one rfl numel1_S1) (Shape.Idx.first (numel1_S1.symm ▸ Nat.one_pos)) fun n0 =>
      chunkF (k1_cond1 i n0) a3 (Rect.unit (s := S2048) (k1_off2 i) S1.size (k1_off2_inb i)) numel1_S1 rfl
        a5 (Rect.unit (s := S1x1x8192) ![0, 0, 0] S1x1x8192.size inb_S1x1x8192_S1x1x8192_0_0_0) (View.loadsAt_vmem h_S1x1x8192)
        a13 (Rect.unit (s := S1x8x1024) ![0, 0, 0] S1x8x1024.size inb_S1x8x1024_S1x8x1024_0_0_0) (View.loadsAt_vmem h_S1x8x1024)
        a22 (Rect.unit (s := S8x128) ![0, 0] S1x128.size inb_S8x128_S1x128_0_0) (View.loadsAt_vmem h_S1x128) (View.stores_vmem_bits_univ h_S1x128 rfl) (.inl rfl)
        (k1_pay6 v0) fun _ =>
      smemLoadElt a4 (Rect.unit (s := S1) ![0] S1.size inb_S1_S1_0) (View.loads_smem_one rfl numel1_S1) (Shape.Idx.first (numel1_S1.symm ▸ Nat.one_pos)) fun n1 =>
      chunkF (k1_cond2 i n1) a3 (Rect.unit (s := S2048) (k1_off3 i) S1.size (k1_off3_inb i)) numel1_S1 rfl
        a6 (Rect.unit (s := S1x1x8192) ![0, 0, 0] S1x1x8192.size inb_S1x1x8192_S1x1x8192_0_0_0) (View.loadsAt_vmem h_S1x1x8192)
        a14 (Rect.unit (s := S1x8x1024) ![0, 0, 0] S1x8x1024.size inb_S1x8x1024_S1x8x1024_0_0_0) (View.loadsAt_vmem h_S1x8x1024)
        a22 (Rect.unit (s := S8x128) ![1, 0] S1x128.size inb_S8x128_S1x128_1_0) (View.loadsAt_vmem h_S1x128) (View.stores_vmem_bits_univ h_S1x128 rfl) (.inl rfl)
        (k1_pay7 v0) fun _ =>
      smemLoadElt a4 (Rect.unit (s := S1) ![0] S1.size inb_S1_S1_0) (View.loads_smem_one rfl numel1_S1) (Shape.Idx.first (numel1_S1.symm ▸ Nat.one_pos)) fun n2 =>
      chunkF (k1_cond3 i n2) a3 (Rect.unit (s := S2048) (k1_off4 i) S1.size (k1_off4_inb i)) numel1_S1 rfl
        a7 (Rect.unit (s := S1x1x8192) ![0, 0, 0] S1x1x8192.size inb_S1x1x8192_S1x1x8192_0_0_0) (View.loadsAt_vmem h_S1x1x8192)
        a15 (Rect.unit (s := S1x8x1024) ![0, 0, 0] S1x8x1024.size inb_S1x8x1024_S1x8x1024_0_0_0) (View.loadsAt_vmem h_S1x8x1024)
        a22 (Rect.unit (s := S8x128) ![2, 0] S1x128.size inb_S8x128_S1x128_2_0) (View.loadsAt_vmem h_S1x128) (View.stores_vmem_bits_univ h_S1x128 rfl) (.inl rfl)
        (k1_pay8 v0) fun _ =>
      smemLoadElt a4 (Rect.unit (s := S1) ![0] S1.size inb_S1_S1_0) (View.loads_smem_one rfl numel1_S1) (Shape.Idx.first (numel1_S1.symm ▸ Nat.one_pos)) fun n3 =>
      chunkF (k1_cond4 i n3) a3 (Rect.unit (s := S2048) (k1_off5 i) S1.size (k1_off5_inb i)) numel1_S1 rfl
        a8 (Rect.unit (s := S1x1x8192) ![0, 0, 0] S1x1x8192.size inb_S1x1x8192_S1x1x8192_0_0_0) (View.loadsAt_vmem h_S1x1x8192)
        a16 (Rect.unit (s := S1x8x1024) ![0, 0, 0] S1x8x1024.size inb_S1x8x1024_S1x8x1024_0_0_0) (View.loadsAt_vmem h_S1x8x1024)
        a22 (Rect.unit (s := S8x128) ![3, 0] S1x128.size inb_S8x128_S1x128_3_0) (View.loadsAt_vmem h_S1x128) (View.stores_vmem_bits_univ h_S1x128 rfl) (.inl rfl)
        (k1_pay9 v0) fun _ =>
      smemLoadElt a4 (Rect.unit (s := S1) ![0] S1.size inb_S1_S1_0) (View.loads_smem_one rfl numel1_S1) (Shape.Idx.first (numel1_S1.symm ▸ Nat.one_pos)) fun n4 =>
      .ret ⟨BitVec.ofNat 32 (i 0).val, k1_pay5 v0, n4⟩ := rfl

theorem fwd_chunks (i : grid1.Coords)
    (a1 : Memref sig .tc .smem S2048 .i32) (h1 : a1.IsWhole)(a2 : Memref sig .tc .smem S2048 .i32) (h2 : a2.IsWhole)(a3 : Memref sig .tc .smem S2048 .i32) (h3 : a3.IsWhole)(a4 : Memref sig .tc .smem S1 .i32) (h4 : a4.IsWhole)
    (a5 : Memref sig .tc .vmem S1x1x8192 .f32) (h5 : a5.IsWhole) (a6 : Memref sig .tc .vmem S1x1x8192 .f32) (h6 : a6.IsWhole) (a7 : Memref sig .tc .vmem S1x1x8192 .f32) (h7 : a7.IsWhole) (a8 : Memref sig .tc .vmem S1x1x8192 .f32) (h8 : a8.IsWhole) (a9 : Memref sig .tc .vmem S1x1x8192 .f32) (h9 : a9.IsWhole) (a10 : Memref sig .tc .vmem S1x1x8192 .f32) (h10 : a10.IsWhole) (a11 : Memref sig .tc .vmem S1x1x8192 .f32) (h11 : a11.IsWhole) (a12 : Memref sig .tc .vmem S1x1x8192 .f32) (h12 : a12.IsWhole)
    (a13 : Memref sig .tc .vmem S1x8x1024 .f32) (h13 : a13.IsWhole) (a14 : Memref sig .tc .vmem S1x8x1024 .f32) (h14 : a14.IsWhole) (a15 : Memref sig .tc .vmem S1x8x1024 .f32) (h15 : a15.IsWhole) (a16 : Memref sig .tc .vmem S1x8x1024 .f32) (h16 : a16.IsWhole) (a17 : Memref sig .tc .vmem S1x8x1024 .f32) (h17 : a17.IsWhole) (a18 : Memref sig .tc .vmem S1x8x1024 .f32) (h18 : a18.IsWhole) (a19 : Memref sig .tc .vmem S1x8x1024 .f32) (h19 : a19.IsWhole) (a20 : Memref sig .tc .vmem S1x8x1024 .f32) (h20 : a20.IsWhole) (a21 : Memref sig .tc .vmem S1x8x1024 .f32) (h21 : a21.IsWhole)
    (a22 : Memref sig .tc .vmem S8x128 .i32) (h22 : a22.IsWhole) :
    cc1__fwd_body (F := F) i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 =
      (k1_part1 (F := F) i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22) >>= (fun r : (Σ' (_ : BitVec 32) (_ : FVec F S8x1024 .f32), Elt F .i32) =>
      (fun (v1 : FVec F S8x1024 .f32) (n4 : BitVec 32) => (chunkF (k1_cond5 i n4) a3 (Rect.unit (s := S2048) (k1_off6 i) S1.size (k1_off6_inb i)) numel1_S1 rfl
        a9 (Rect.unit (s := S1x1x8192) ![0, 0, 0] S1x1x8192.size inb_S1x1x8192_S1x1x8192_0_0_0) (View.loadsAt_vmem h_S1x1x8192)
        a17 (Rect.unit (s := S1x8x1024) ![0, 0, 0] S1x8x1024.size inb_S1x8x1024_S1x8x1024_0_0_0) (View.loadsAt_vmem h_S1x8x1024)
        a22 (Rect.unit (s := S8x128) ![4, 0] S1x128.size inb_S8x128_S1x128_4_0) (View.loadsAt_vmem h_S1x128) (View.stores_vmem_bits_univ h_S1x128 rfl) (.inl rfl)
        (k1_pay1 v1) fun _ =>
      smemLoadElt a4 (Rect.unit (s := S1) ![0] S1.size inb_S1_S1_0) (View.loads_smem_one rfl numel1_S1) (Shape.Idx.first (numel1_S1.symm ▸ Nat.one_pos)) fun n5 =>
      chunkF (k1_cond6 i n5) a3 (Rect.unit (s := S2048) (k1_off7 i) S1.size (k1_off7_inb i)) numel1_S1 rfl
        a10 (Rect.unit (s := S1x1x8192) ![0, 0, 0] S1x1x8192.size inb_S1x1x8192_S1x1x8192_0_0_0) (View.loadsAt_vmem h_S1x1x8192)
        a18 (Rect.unit (s := S1x8x1024) ![0, 0, 0] S1x8x1024.size inb_S1x8x1024_S1x8x1024_0_0_0) (View.loadsAt_vmem h_S1x8x1024)
        a22 (Rect.unit (s := S8x128) ![5, 0] S1x128.size inb_S8x128_S1x128_5_0) (View.loadsAt_vmem h_S1x128) (View.stores_vmem_bits_univ h_S1x128 rfl) (.inl rfl)
        (k1_pay2 v1) fun _ =>
      smemLoadElt a4 (Rect.unit (s := S1) ![0] S1.size inb_S1_S1_0) (View.loads_smem_one rfl numel1_S1) (Shape.Idx.first (numel1_S1.symm ▸ Nat.one_pos)) fun n6 =>
      chunkF (k1_cond7 i n6) a3 (Rect.unit (s := S2048) (k1_off8 i) S1.size (k1_off8_inb i)) numel1_S1 rfl
        a11 (Rect.unit (s := S1x1x8192) ![0, 0, 0] S1x1x8192.size inb_S1x1x8192_S1x1x8192_0_0_0) (View.loadsAt_vmem h_S1x1x8192)
        a19 (Rect.unit (s := S1x8x1024) ![0, 0, 0] S1x8x1024.size inb_S1x8x1024_S1x8x1024_0_0_0) (View.loadsAt_vmem h_S1x8x1024)
        a22 (Rect.unit (s := S8x128) ![6, 0] S1x128.size inb_S8x128_S1x128_6_0) (View.loadsAt_vmem h_S1x128) (View.stores_vmem_bits_univ h_S1x128 rfl) (.inl rfl)
        (k1_pay3 v1) fun _ =>
      smemLoadElt a4 (Rect.unit (s := S1) ![0] S1.size inb_S1_S1_0) (View.loads_smem_one rfl numel1_S1) (Shape.Idx.first (numel1_S1.symm ▸ Nat.one_pos)) fun n7 =>
      chunkF (k1_cond8 i n7) a3 (Rect.unit (s := S2048) (k1_off9 i) S1.size (k1_off9_inb i)) numel1_S1 rfl
        a12 (Rect.unit (s := S1x1x8192) ![0, 0, 0] S1x1x8192.size inb_S1x1x8192_S1x1x8192_0_0_0) (View.loadsAt_vmem h_S1x1x8192)
        a20 (Rect.unit (s := S1x8x1024) ![0, 0, 0] S1x8x1024.size inb_S1x8x1024_S1x8x1024_0_0_0) (View.loadsAt_vmem h_S1x8x1024)
        a22 (Rect.unit (s := S8x128) ![7, 0] S1x128.size inb_S8x128_S1x128_7_0) (View.loadsAt_vmem h_S1x128) (View.stores_vmem_bits_univ h_S1x128 rfl) (.inl rfl)
        (k1_pay4 v1) fun _ =>
      .ret ⟨⟩ : Prog (TpuEff nD τ sig (Elt F) Λ₀ .tc) PUnit)) r.2.1 r.2.2) := rfl

/-- Whether row `j` of point `i`'s block is one of the first `n`. -/
def live1 (i : grid1.Coords) (j : BitVec 32) (n : BitVec 32) : BitVec 1 :=
  Scalar.cmpi .ne (Scalar.extui (Scalar.cmpi .slt (Scalar.addi (Scalar.muli (BitVec.ofNat 32 (i 0).val) 8#32) j) n) : BitVec 32) 0#32

/-- What the body makes of its output block. -/
def FwdRel (i : grid1.Coords) (P : S2048.Idx → Elt F .i32) (N : S1.Idx → Elt F .i32) (R : Fin 8 → S1x1x8192.Idx → Elt F .f32)
    (G : Fin 8 → S1x8x1024.Idx → Elt F .f32) (V : S1x8x1024.Idx → Elt F .f32) (Z : S8x128.Idx → Elt F .i32) : Prop :=
  ∀ j : Fin 8, live1 i (BitVec.ofNat 32 j.val) (N (Shape.Idx.first (numel1_S1.symm ▸ Nat.one_pos))) = 1#1 → ∀ y : S8x128.Idx, y 0 = j →
    ∃ x : S1x128.Idx, Z y = k1_pay6 V (P ((Rect.unit (s := S2048) (k1_off1 i (BitVec.ofNat 32 j.val)) S1.size (k1_off1_inb i j)).idx
      (Shape.Idx.first (numel1_S1.symm ▸ Nat.one_pos)))) (R j) (G j) x

theorem whole_idx {s : Shape} {α : Type} (inb : ∀ a, (fun _ => 0 : Fin s.rank → Nat) a + s.size a ≤ s.size a) (X : s.Idx → α) :
    (fun x => X ((Rect.unit (s := s) (fun _ => 0) s.size inb).idx x)) = X := by
  funext x; congr 1; funext a; apply Fin.ext; simp

/-- The eight rows' payloads are one function. -/
theorem pays : (k1_pay7 (F := F) = k1_pay6) ∧ (k1_pay8 (F := F) = k1_pay6) ∧ (k1_pay9 (F := F) = k1_pay6) ∧
    (∀ v, k1_pay1 (F := F) (k1_pay5 v) = k1_pay6 v) ∧ (∀ v, k1_pay2 (F := F) (k1_pay5 v) = k1_pay6 v) ∧
    (∀ v, k1_pay3 (F := F) (k1_pay5 v) = k1_pay6 v) ∧ (∀ v, k1_pay4 (F := F) (k1_pay5 v) = k1_pay6 v) :=
  ⟨rfl, rfl, rfl, fun _ => rfl, fun _ => rfl, fun _ => rfl, fun _ => rfl⟩

theorem one_first (x : S1.Idx) : x = Shape.Idx.first (numel1_S1.symm ▸ Nat.one_pos) := by
  funext a; apply Fin.ext
  match a with
  | 0 => have := (x 0).isLt; have e : S1.size 0 = 1 := rfl; show (x 0).val = 0; omega

theorem whole_row (X : S1x1x8192.Idx → Elt F .f32) :
    (fun x => X ((Rect.unit (s := S1x1x8192) ![0, 0, 0] S1x1x8192.size inb_S1x1x8192_S1x1x8192_0_0_0).idx x)) = X := by
  funext x; congr 1; funext a; apply Fin.ext; fin_cases a <;> simp

theorem whole_gum (X : S1x8x1024.Idx → Elt F .f32) :
    (fun x => X ((Rect.unit (s := S1x8x1024) ![0, 0, 0] S1x8x1024.size inb_S1x8x1024_S1x8x1024_0_0_0).idx x)) = X := by
  funext x; congr 1; funext a; apply Fin.ext; fin_cases a <;> simp

/-- A row stored: the others stay. -/
theorem put_row (j : ℕ) (inb : ∀ a, (![j, 0] : Fin 2 → ℕ) a + S1x128.size a ≤ S8x128.size a) {w : S1x128.Idx → Elt F .i32} {Z Z' : S8x128.Idx → Elt F .i32}
    (h : Put (Rect.unit (s := S8x128) ![j, 0] S1x128.size inb) w Z Z') :
    (∀ y : S8x128.Idx, (y 0).val = j → ∃ x : S1x128.Idx, Z' y = w x) ∧ ∀ y : S8x128.Idx, (y 0).val ≠ j → Z' y = Z y := by
  constructor
  · intro y hy
    refine ⟨fun | 0 => ⟨0, by decide⟩ | 1 => y 1, ?_⟩
    rw [← h.1]; congr 1; funext a; apply Fin.ext
    match a with
    | 0 => simpa using hy
    | 1 => simp
  · intro y hy
    apply h.2
    intro x hx
    apply hy
    rw [← hx]
    have : (x 0).val = 0 := by have := (x 0).isLt; simpa using this
    simp [this]

/-- A row stored or not: the others stay. -/
theorem stay (j : ℕ) (inb : ∀ a, (![j, 0] : Fin 2 → ℕ) a + S1x128.size a ≤ S8x128.size a) {b : BitVec 1} {w : S1x128.Idx → Elt F .i32} {Z Z' : S8x128.Idx → Elt F .i32}
    (h : b = 1#1 → Put (Rect.unit (s := S8x128) ![j, 0] S1x128.size inb) w Z Z') (h' : b ≠ 1#1 → Z' = Z) (y : S8x128.Idx) (hy : (y 0).val ≠ j) : Z' y = Z y := by
  by_cases hb : b = 1#1
  · exact (put_row j inb (h hb)).2 y hy
  · rw [h' hb]

/-- Eight rows, each stored or not. -/
theorem rows8 {b0 b1 b2 b3 b4 b5 b6 b7 : BitVec 1} {w0 w1 w2 w3 w4 w5 w6 w7 : S1x128.Idx → Elt F .i32} {Z Z0 Z1 Z2 Z3 Z4 Z5 Z6 Z7 : S8x128.Idx → Elt F .i32}
    (h0 : (b0 = 1#1 → Put (Rect.unit (s := S8x128) ![0, 0] S1x128.size inb_S8x128_S1x128_0_0) w0 Z Z0) ∧ (b0 ≠ 1#1 → Z0 = Z))
    (h1 : (b1 = 1#1 → Put (Rect.unit (s := S8x128) ![1, 0] S1x128.size inb_S8x128_S1x128_1_0) w1 Z0 Z1) ∧ (b1 ≠ 1#1 → Z1 = Z0))
    (h2 : (b2 = 1#1 → Put (Rect.unit (s := S8x128) ![2, 0] S1x128.size inb_S8x128_S1x128_2_0) w2 Z1 Z2) ∧ (b2 ≠ 1#1 → Z2 = Z1))
    (h3 : (b3 = 1#1 → Put (Rect.unit (s := S8x128) ![3, 0] S1x128.size inb_S8x128_S1x128_3_0) w3 Z2 Z3) ∧ (b3 ≠ 1#1 → Z3 = Z2))
    (h4 : (b4 = 1#1 → Put (Rect.unit (s := S8x128) ![4, 0] S1x128.size inb_S8x128_S1x128_4_0) w4 Z3 Z4) ∧ (b4 ≠ 1#1 → Z4 = Z3))
    (h5 : (b5 = 1#1 → Put (Rect.unit (s := S8x128) ![5, 0] S1x128.size inb_S8x128_S1x128_5_0) w5 Z4 Z5) ∧ (b5 ≠ 1#1 → Z5 = Z4))
    (h6 : (b6 = 1#1 → Put (Rect.unit (s := S8x128) ![6, 0] S1x128.size inb_S8x128_S1x128_6_0) w6 Z5 Z6) ∧ (b6 ≠ 1#1 → Z6 = Z5))
    (h7 : (b7 = 1#1 → Put (Rect.unit (s := S8x128) ![7, 0] S1x128.size inb_S8x128_S1x128_7_0) w7 Z6 Z7) ∧ (b7 ≠ 1#1 → Z7 = Z6)) :
    (b0 = 1#1 → ∀ y : S8x128.Idx, (y 0).val = 0 → ∃ x, Z7 y = w0 x) ∧
    (b1 = 1#1 → ∀ y : S8x128.Idx, (y 0).val = 1 → ∃ x, Z7 y = w1 x) ∧
    (b2 = 1#1 → ∀ y : S8x128.Idx, (y 0).val = 2 → ∃ x, Z7 y = w2 x) ∧
    (b3 = 1#1 → ∀ y : S8x128.Idx, (y 0).val = 3 → ∃ x, Z7 y = w3 x) ∧
    (b4 = 1#1 → ∀ y : S8x128.Idx, (y 0).val = 4 → ∃ x, Z7 y = w4 x) ∧
    (b5 = 1#1 → ∀ y : S8x128.Idx, (y 0).val = 5 → ∃ x, Z7 y = w5 x) ∧
    (b6 = 1#1 → ∀ y : S8x128.Idx, (y 0).val = 6 → ∃ x, Z7 y = w6 x) ∧
    (b7 = 1#1 → ∀ y : S8x128.Idx, (y 0).val = 7 → ∃ x, Z7 y = w7 x) := by
  refine ⟨?_, ?_, ?_, ?_, ?_, ?_, ?_, ?_⟩
  · intro hb y hy
    obtain ⟨x, hx⟩ := (put_row 0 _ (h0.1 hb)).1 y hy
    refine ⟨x, ?_⟩
    rw [stay 7 _ h7.1 h7.2 y (by rw [hy]; decide)]
    rw [stay 6 _ h6.1 h6.2 y (by rw [hy]; decide)]
    rw [stay 5 _ h5.1 h5.2 y (by rw [hy]; decide)]
    rw [stay 4 _ h4.1 h4.2 y (by rw [hy]; decide)]
    rw [stay 3 _ h3.1 h3.2 y (by rw [hy]; decide)]
    rw [stay 2 _ h2.1 h2.2 y (by rw [hy]; decide)]
    rw [stay 1 _ h1.1 h1.2 y (by rw [hy]; decide)]
    exact hx
  · intro hb y hy
    obtain ⟨x, hx⟩ := (put_row 1 _ (h1.1 hb)).1 y hy
    refine ⟨x, ?_⟩
    rw [stay 7 _ h7.1 h7.2 y (by rw [hy]; decide)]
    rw [stay 6 _ h6.1 h6.2 y (by rw [hy]; decide)]
    rw [stay 5 _ h5.1 h5.2 y (by rw [hy]; decide)]
    rw [stay 4 _ h4.1 h4.2 y (by rw [hy]; decide)]
    rw [stay 3 _ h3.1 h3.2 y (by rw [hy]; decide)]
    rw [stay 2 _ h2.1 h2.2 y (by rw [hy]; decide)]
    exact hx
  · intro hb y hy
    obtain ⟨x, hx⟩ := (put_row 2 _ (h2.1 hb)).1 y hy
    refine ⟨x, ?_⟩
    rw [stay 7 _ h7.1 h7.2 y (by rw [hy]; decide)]
    rw [stay 6 _ h6.1 h6.2 y (by rw [hy]; decide)]
    rw [stay 5 _ h5.1 h5.2 y (by rw [hy]; decide)]
    rw [stay 4 _ h4.1 h4.2 y (by rw [hy]; decide)]
    rw [stay 3 _ h3.1 h3.2 y (by rw [hy]; decide)]
    exact hx
  · intro hb y hy
    obtain ⟨x, hx⟩ := (put_row 3 _ (h3.1 hb)).1 y hy
    refine ⟨x, ?_⟩
    rw [stay 7 _ h7.1 h7.2 y (by rw [hy]; decide)]
    rw [stay 6 _ h6.1 h6.2 y (by rw [hy]; decide)]
    rw [stay 5 _ h5.1 h5.2 y (by rw [hy]; decide)]
    rw [stay 4 _ h4.1 h4.2 y (by rw [hy]; decide)]
    exact hx
  · intro hb y hy
    obtain ⟨x, hx⟩ := (put_row 4 _ (h4.1 hb)).1 y hy
    refine ⟨x, ?_⟩
    rw [stay 7 _ h7.1 h7.2 y (by rw [hy]; decide)]
    rw [stay 6 _ h6.1 h6.2 y (by rw [hy]; decide)]
    rw [stay 5 _ h5.1 h5.2 y (by rw [hy]; decide)]
    exact hx
  · intro hb y hy
    obtain ⟨x, hx⟩ := (put_row 5 _ (h5.1 hb)).1 y hy
    refine ⟨x, ?_⟩
    rw [stay 7 _ h7.1 h7.2 y (by rw [hy]; decide)]
    rw [stay 6 _ h6.1 h6.2 y (by rw [hy]; decide)]
    exact hx
  · intro hb y hy
    obtain ⟨x, hx⟩ := (put_row 6 _ (h6.1 hb)).1 y hy
    refine ⟨x, ?_⟩
    rw [stay 7 _ h7.1 h7.2 y (by rw [hy]; decide)]
    exact hx
  · intro hb y hy
    obtain ⟨x, hx⟩ := (put_row 7 _ (h7.1 hb)).1 y hy
    refine ⟨x, ?_⟩
    exact hx

set_option maxHeartbeats 4000000 in
theorem wp_fwd {defs : Defs nD τ sig (Elt F) Λ₀} (𝒱 : Variants) (c : Dev nD) (bd : Option 𝒱.V) (E : Set Name)
    (i : grid1.Coords)
    (a1 : Memref sig .tc .smem S2048 .i32) (h1 : a1.IsWhole)(a2 : Memref sig .tc .smem S2048 .i32) (h2 : a2.IsWhole)(a3 : Memref sig .tc .smem S2048 .i32) (h3 : a3.IsWhole)(a4 : Memref sig .tc .smem S1 .i32) (h4 : a4.IsWhole)
    (a5 : Memref sig .tc .vmem S1x1x8192 .f32) (h5 : a5.IsWhole) (a6 : Memref sig .tc .vmem S1x1x8192 .f32) (h6 : a6.IsWhole) (a7 : Memref sig .tc .vmem S1x1x8192 .f32) (h7 : a7.IsWhole) (a8 : Memref sig .tc .vmem S1x1x8192 .f32) (h8 : a8.IsWhole) (a9 : Memref sig .tc .vmem S1x1x8192 .f32) (h9 : a9.IsWhole) (a10 : Memref sig .tc .vmem S1x1x8192 .f32) (h10 : a10.IsWhole) (a11 : Memref sig .tc .vmem S1x1x8192 .f32) (h11 : a11.IsWhole) (a12 : Memref sig .tc .vmem S1x1x8192 .f32) (h12 : a12.IsWhole)
    (a13 : Memref sig .tc .vmem S1x8x1024 .f32) (h13 : a13.IsWhole) (a14 : Memref sig .tc .vmem S1x8x1024 .f32) (h14 : a14.IsWhole) (a15 : Memref sig .tc .vmem S1x8x1024 .f32) (h15 : a15.IsWhole) (a16 : Memref sig .tc .vmem S1x8x1024 .f32) (h16 : a16.IsWhole) (a17 : Memref sig .tc .vmem S1x8x1024 .f32) (h17 : a17.IsWhole) (a18 : Memref sig .tc .vmem S1x8x1024 .f32) (h18 : a18.IsWhole) (a19 : Memref sig .tc .vmem S1x8x1024 .f32) (h19 : a19.IsWhole) (a20 : Memref sig .tc .vmem S1x8x1024 .f32) (h20 : a20.IsWhole) (a21 : Memref sig .tc .vmem S1x8x1024 .f32) (h21 : a21.IsWhole)
    (a22 : Memref sig .tc .vmem S8x128 .i32) (h22 : a22.IsWhole)
    (q3 q4 : PosShare TreeShare) (P : S2048.Idx → Elt F .i32) (N : S1.Idx → Elt F .i32) (R : Fin 8 → S1x1x8192.Idx → Elt F .f32)
    (G : Fin 8 → S1x8x1024.Idx → Elt F .f32) (V : S1x8x1024.Idx → Elt F .f32) (Z : S8x128.Idx → Elt F .i32) :
    (iprop(owns c.tc a3 q3 P ∗ owns c.tc a4 q4 N ∗ owns c.tc a5 fullShare (R 0) ∗ owns c.tc a6 fullShare (R 1) ∗ owns c.tc a7 fullShare (R 2) ∗ owns c.tc a8 fullShare (R 3) ∗ owns c.tc a9 fullShare (R 4) ∗ owns c.tc a10 fullShare (R 5) ∗ owns c.tc a11 fullShare (R 6) ∗ owns c.tc a12 fullShare (R 7) ∗ owns c.tc a13 fullShare (G 0) ∗ owns c.tc a14 fullShare (G 1) ∗ owns c.tc a15 fullShare (G 2) ∗ owns c.tc a16 fullShare (G 3) ∗ owns c.tc a17 fullShare (G 4) ∗ owns c.tc a18 fullShare (G 5) ∗ owns c.tc a19 fullShare (G 6) ∗ owns c.tc a20 fullShare (G 7) ∗ owns c.tc a21 fullShare V ∗ owns c.tc a22 fullShare Z) : sProp 𝕄)
      ⊢ wp frame (wpE defs 𝒱 c.tc bd) E (cc1__fwd_body (F := F) i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22) (fun _ => iprop(∃ Z', ⌜FwdRel i P N R G V Z'⌝ ∗ (owns c.tc a3 q3 P ∗ owns c.tc a4 q4 N ∗ owns c.tc a5 fullShare (R 0) ∗ owns c.tc a6 fullShare (R 1) ∗ owns c.tc a7 fullShare (R 2) ∗ owns c.tc a8 fullShare (R 3) ∗ owns c.tc a9 fullShare (R 4) ∗ owns c.tc a10 fullShare (R 5) ∗ owns c.tc a11 fullShare (R 6) ∗ owns c.tc a12 fullShare (R 7) ∗ owns c.tc a13 fullShare (G 0) ∗ owns c.tc a14 fullShare (G 1) ∗ owns c.tc a15 fullShare (G 2) ∗ owns c.tc a16 fullShare (G 3) ∗ owns c.tc a17 fullShare (G 4) ∗ owns c.tc a18 fullShare (G 5) ∗ owns c.tc a19 fullShare (G 6) ∗ owns c.tc a20 fullShare (G 7) ∗ owns c.tc a21 fullShare V) ∗ owns c.tc a22 fullShare Z')) := by
  iintro ⟨H3, H4, R0, R1, R2, R3, R4, R5, R6, R7, G0, G1, G2, G3, G4, G5, G6, G7, HV, HO⟩
  rw [fwd_chunks, wp_bind, part1_chunks]
  iapply (owns_load (defs := defs) 𝒱 c.tc bd E) $$ HV; iintro HV
  iapply (owns_smem (defs := defs) 𝒱 c.tc bd E) $$ H4; iintro H4
  iapply (wp_chunkF (defs := defs) 𝒱 c.tc bd E) $$ [H3 R0 G0 HO]
  · isplitl [H3]; · iexact H3
    isplitl [R0]; · iexact R0
    isplitl [G0]; · iexact G0
    iexact HO
  iintro %Z0 %hZ0 H3 R0 G0 HO
  iapply (owns_smem (defs := defs) 𝒱 c.tc bd E) $$ H4; iintro H4
  iapply (wp_chunkF (defs := defs) 𝒱 c.tc bd E) $$ [H3 R1 G1 HO]
  · isplitl [H3]; · iexact H3
    isplitl [R1]; · iexact R1
    isplitl [G1]; · iexact G1
    iexact HO
  iintro %Z1 %hZ1 H3 R1 G1 HO
  iapply (owns_smem (defs := defs) 𝒱 c.tc bd E) $$ H4; iintro H4
  iapply (wp_chunkF (defs := defs) 𝒱 c.tc bd E) $$ [H3 R2 G2 HO]
  · isplitl [H3]; · iexact H3
    isplitl [R2]; · iexact R2
    isplitl [G2]; · iexact G2
    iexact HO
  iintro %Z2 %hZ2 H3 R2 G2 HO
  iapply (owns_smem (defs := defs) 𝒱 c.tc bd E) $$ H4; iintro H4
  iapply (wp_chunkF (defs := defs) 𝒱 c.tc bd E) $$ [H3 R3 G3 HO]
  · isplitl [H3]; · iexact H3
    isplitl [R3]; · iexact R3
    isplitl [G3]; · iexact G3
    iexact HO
  iintro %Z3 %hZ3 H3 R3 G3 HO
  iapply (owns_smem (defs := defs) 𝒱 c.tc bd E) $$ H4; iintro H4
  rw [wp_ret]; imodintro
  iapply (wp_chunkF (defs := defs) 𝒱 c.tc bd E) $$ [H3 R4 G4 HO]
  · isplitl [H3]; · iexact H3
    isplitl [R4]; · iexact R4
    isplitl [G4]; · iexact G4
    iexact HO
  iintro %Z4 %hZ4 H3 R4 G4 HO
  iapply (owns_smem (defs := defs) 𝒱 c.tc bd E) $$ H4; iintro H4
  iapply (wp_chunkF (defs := defs) 𝒱 c.tc bd E) $$ [H3 R5 G5 HO]
  · isplitl [H3]; · iexact H3
    isplitl [R5]; · iexact R5
    isplitl [G5]; · iexact G5
    iexact HO
  iintro %Z5 %hZ5 H3 R5 G5 HO
  iapply (owns_smem (defs := defs) 𝒱 c.tc bd E) $$ H4; iintro H4
  iapply (wp_chunkF (defs := defs) 𝒱 c.tc bd E) $$ [H3 R6 G6 HO]
  · isplitl [H3]; · iexact H3
    isplitl [R6]; · iexact R6
    isplitl [G6]; · iexact G6
    iexact HO
  iintro %Z6 %hZ6 H3 R6 G6 HO
  iapply (owns_smem (defs := defs) 𝒱 c.tc bd E) $$ H4; iintro H4
  iapply (wp_chunkF (defs := defs) 𝒱 c.tc bd E) $$ [H3 R7 G7 HO]
  · isplitl [H3]; · iexact H3
    isplitl [R7]; · iexact R7
    isplitl [G7]; · iexact G7
    iexact HO
  iintro %Z7 %hZ7 H3 R7 G7 HO
  rw [wp_ret]; imodintro
  iexists Z7; isplitr
  · ipureintro
    simp only [whole_row, whole_gum, pays] at hZ0 hZ1 hZ2 hZ3 hZ4 hZ5 hZ6 hZ7
    intro j hj y hy
    have hr := rows8 hZ0 hZ1 hZ2 hZ3 hZ4 hZ5 hZ6 hZ7
    match j, hj, hy with
    | ⟨0, _⟩, hj, hy => exact hr.1 ((congrArg (live1 i (BitVec.ofNat 32 0)) (congrArg N (one_first _))).trans hj) y (congrArg Fin.val hy)
    | ⟨1, _⟩, hj, hy => exact hr.2.1 ((congrArg (live1 i (BitVec.ofNat 32 1)) (congrArg N (one_first _))).trans hj) y (congrArg Fin.val hy)
    | ⟨2, _⟩, hj, hy => exact hr.2.2.1 ((congrArg (live1 i (BitVec.ofNat 32 2)) (congrArg N (one_first _))).trans hj) y (congrArg Fin.val hy)
    | ⟨3, _⟩, hj, hy => exact hr.2.2.2.1 ((congrArg (live1 i (BitVec.ofNat 32 3)) (congrArg N (one_first _))).trans hj) y (congrArg Fin.val hy)
    | ⟨4, _⟩, hj, hy => exact hr.2.2.2.2.1 ((congrArg (live1 i (BitVec.ofNat 32 4)) (congrArg N (one_first _))).trans hj) y (congrArg Fin.val hy)
    | ⟨5, _⟩, hj, hy => exact hr.2.2.2.2.2.1 ((congrArg (live1 i (BitVec.ofNat 32 5)) (congrArg N (one_first _))).trans hj) y (congrArg Fin.val hy)
    | ⟨6, _⟩, hj, hy => exact hr.2.2.2.2.2.2.1 ((congrArg (live1 i (BitVec.ofNat 32 6)) (congrArg N (one_first _))).trans hj) y (congrArg Fin.val hy)
    | ⟨7, _⟩, hj, hy => exact hr.2.2.2.2.2.2.2 ((congrArg (live1 i (BitVec.ofNat 32 7)) (congrArg N (one_first _))).trans hj) y (congrArg Fin.val hy)
  isplitr [HO]
  · isplitl [H3]; · iexact H3
    isplitl [H4]; · iexact H4
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    iexact HV
  · iexact HO

end Cert.KernelIdeal.Smooth
-- ==== Proof.BwdIdeal.lean ====
/-
  The body of the backward call at one point: row `j` of the output block, when it is one of the rows to sample, holds the
  position of the greatest of row `j`'s numbers.
-/
module

public import proofs.«01_k».proof.Proof.FwdIdeal

@[expose] public section

set_option maxRecDepth 4096

noncomputable section

namespace Cert.KernelIdeal.Smooth

open Cert.KernelIdeal Cert.KernelIdeal.Gen Cert.Smooth

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

theorem part9_chunks (i : grid2.Coords)
    (a1 : Memref sig .tc .smem S1024 .i32) (h1 : a1.IsWhole)(a2 : Memref sig .tc .smem S1024 .i32) (h2 : a2.IsWhole)(a3 : Memref sig .tc .smem S1 .i32) (h3 : a3.IsWhole)
    (a4 : Memref sig .tc .vmem S1x1x8192 .f32) (h4 : a4.IsWhole) (a5 : Memref sig .tc .vmem S1x1x8192 .f32) (h5 : a5.IsWhole) (a6 : Memref sig .tc .vmem S1x1x8192 .f32) (h6 : a6.IsWhole) (a7 : Memref sig .tc .vmem S1x1x8192 .f32) (h7 : a7.IsWhole) (a8 : Memref sig .tc .vmem S1x1x8192 .f32) (h8 : a8.IsWhole) (a9 : Memref sig .tc .vmem S1x1x8192 .f32) (h9 : a9.IsWhole) (a10 : Memref sig .tc .vmem S1x1x8192 .f32) (h10 : a10.IsWhole) (a11 : Memref sig .tc .vmem S1x1x8192 .f32) (h11 : a11.IsWhole)
    (a12 : Memref sig .tc .vmem S8x8x1024 .f32) (h12 : a12.IsWhole)
    (a13 : Memref sig .tc .vmem S1x8x1024 .f32) (h13 : a13.IsWhole) (a14 : Memref sig .tc .vmem S1x8x1024 .f32) (h14 : a14.IsWhole) (a15 : Memref sig .tc .vmem S1x8x1024 .f32) (h15 : a15.IsWhole) (a16 : Memref sig .tc .vmem S1x8x1024 .f32) (h16 : a16.IsWhole) (a17 : Memref sig .tc .vmem S1x8x1024 .f32) (h17 : a17.IsWhole) (a18 : Memref sig .tc .vmem S1x8x1024 .f32) (h18 : a18.IsWhole) (a19 : Memref sig .tc .vmem S1x8x1024 .f32) (h19 : a19.IsWhole) (a20 : Memref sig .tc .vmem S1x8x1024 .f32) (h20 : a20.IsWhole)
    (a21 : Memref sig .tc .vmem S8x128 .i32) (h21 : a21.IsWhole) :
    k2_part9 (F := F) i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 =
      smemLoadElt a3 (Rect.unit (s := S1) ![0] S1.size inb_S1_S1_0) (View.loads_smem_one rfl numel1_S1) (Shape.Idx.first (numel1_S1.symm ▸ Nat.one_pos)) fun n0 =>
      chunkB (k2_cond1 i n0)
        a12 (Rect.unit (s := S8x8x1024) ![0, 0, 0] S1x8x1024.size inb_S8x8x1024_S1x8x1024_0_0_0) (View.loadsAt_vmem h_S1x8x1024)
        a4 (Rect.unit (s := S1x1x8192) ![0, 0, 0] S1x1x8192.size inb_S1x1x8192_S1x1x8192_0_0_0) (View.loadsAt_vmem h_S1x1x8192)
        a13 (Rect.unit (s := S1x8x1024) ![0, 0, 0] S1x8x1024.size inb_S1x8x1024_S1x8x1024_0_0_0) (View.loadsAt_vmem h_S1x8x1024)
        a21 (Rect.unit (s := S8x128) ![0, 0] S1x128.size inb_S8x128_S1x128_0_0) (View.loadsAt_vmem h_S1x128) (View.stores_vmem_bits_univ h_S1x128 rfl) (.inl rfl)
        (fun v x y => k2_pay12 (k2_pay4 v x y)) fun _ =>
      smemLoadElt a3 (Rect.unit (s := S1) ![0] S1.size inb_S1_S1_0) (View.loads_smem_one rfl numel1_S1) (Shape.Idx.first (numel1_S1.symm ▸ Nat.one_pos)) fun n1 =>
      chunkB (k2_cond2 i n1)
        a12 (Rect.unit (s := S8x8x1024) ![1, 0, 0] S1x8x1024.size inb_S8x8x1024_S1x8x1024_1_0_0) (View.loadsAt_vmem h_S1x8x1024)
        a5 (Rect.unit (s := S1x1x8192) ![0, 0, 0] S1x1x8192.size inb_S1x1x8192_S1x1x8192_0_0_0) (View.loadsAt_vmem h_S1x1x8192)
        a14 (Rect.unit (s := S1x8x1024) ![0, 0, 0] S1x8x1024.size inb_S1x8x1024_S1x8x1024_0_0_0) (View.loadsAt_vmem h_S1x8x1024)
        a21 (Rect.unit (s := S8x128) ![1, 0] S1x128.size inb_S8x128_S1x128_1_0) (View.loadsAt_vmem h_S1x128) (View.stores_vmem_bits_univ h_S1x128 rfl) (.inl rfl)
        (fun v x y => k2_pay13 (k2_pay5 v x y)) fun _ =>
      smemLoadElt a3 (Rect.unit (s := S1) ![0] S1.size inb_S1_S1_0) (View.loads_smem_one rfl numel1_S1) (Shape.Idx.first (numel1_S1.symm ▸ Nat.one_pos)) fun n2 =>
      chunkB (k2_cond3 i n2)
        a12 (Rect.unit (s := S8x8x1024) ![2, 0, 0] S1x8x1024.size inb_S8x8x1024_S1x8x1024_2_0_0) (View.loadsAt_vmem h_S1x8x1024)
        a6 (Rect.unit (s := S1x1x8192) ![0, 0, 0] S1x1x8192.size inb_S1x1x8192_S1x1x8192_0_0_0) (View.loadsAt_vmem h_S1x1x8192)
        a15 (Rect.unit (s := S1x8x1024) ![0, 0, 0] S1x8x1024.size inb_S1x8x1024_S1x8x1024_0_0_0) (View.loadsAt_vmem h_S1x8x1024)
        a21 (Rect.unit (s := S8x128) ![2, 0] S1x128.size inb_S8x128_S1x128_2_0) (View.loadsAt_vmem h_S1x128) (View.stores_vmem_bits_univ h_S1x128 rfl) (.inl rfl)
        (fun v x y => k2_pay14 (k2_pay6 v x y)) fun _ =>
      smemLoadElt a3 (Rect.unit (s := S1) ![0] S1.size inb_S1_S1_0) (View.loads_smem_one rfl numel1_S1) (Shape.Idx.first (numel1_S1.symm ▸ Nat.one_pos)) fun n3 =>
      chunkB (k2_cond4 i n3)
        a12 (Rect.unit (s := S8x8x1024) ![3, 0, 0] S1x8x1024.size inb_S8x8x1024_S1x8x1024_3_0_0) (View.loadsAt_vmem h_S1x8x1024)
        a7 (Rect.unit (s := S1x1x8192) ![0, 0, 0] S1x1x8192.size inb_S1x1x8192_S1x1x8192_0_0_0) (View.loadsAt_vmem h_S1x1x8192)
        a16 (Rect.unit (s := S1x8x1024) ![0, 0, 0] S1x8x1024.size inb_S1x8x1024_S1x8x1024_0_0_0) (View.loadsAt_vmem h_S1x8x1024)
        a21 (Rect.unit (s := S8x128) ![3, 0] S1x128.size inb_S8x128_S1x128_3_0) (View.loadsAt_vmem h_S1x128) (View.stores_vmem_bits_univ h_S1x128 rfl) (.inl rfl)
        (fun v x y => k2_pay15 (k2_pay7 v x y)) fun _ =>
      smemLoadElt a3 (Rect.unit (s := S1) ![0] S1.size inb_S1_S1_0) (View.loads_smem_one rfl numel1_S1) (Shape.Idx.first (numel1_S1.symm ▸ Nat.one_pos)) fun n4 =>
      chunkB (k2_cond5 i n4)
        a12 (Rect.unit (s := S8x8x1024) ![4, 0, 0] S1x8x1024.size inb_S8x8x1024_S1x8x1024_4_0_0) (View.loadsAt_vmem h_S1x8x1024)
        a8 (Rect.unit (s := S1x1x8192) ![0, 0, 0] S1x1x8192.size inb_S1x1x8192_S1x1x8192_0_0_0) (View.loadsAt_vmem h_S1x1x8192)
        a17 (Rect.unit (s := S1x8x1024) ![0, 0, 0] S1x8x1024.size inb_S1x8x1024_S1x8x1024_0_0_0) (View.loadsAt_vmem h_S1x8x1024)
        a21 (Rect.unit (s := S8x128) ![4, 0] S1x128.size inb_S8x128_S1x128_4_0) (View.loadsAt_vmem h_S1x128) (View.stores_vmem_bits_univ h_S1x128 rfl) (.inl rfl)
        (fun v x y => k2_pay16 (k2_pay8 v x y)) fun _ =>
      .ret ⟨BitVec.ofNat 32 (i 0).val, Scalar.addi (Scalar.muli (BitVec.ofNat 32 (i 0).val) 8#32) 5#32⟩ := rfl

theorem bwd_chunks (i : grid2.Coords)
    (a1 : Memref sig .tc .smem S1024 .i32) (h1 : a1.IsWhole)(a2 : Memref sig .tc .smem S1024 .i32) (h2 : a2.IsWhole)(a3 : Memref sig .tc .smem S1 .i32) (h3 : a3.IsWhole)
    (a4 : Memref sig .tc .vmem S1x1x8192 .f32) (h4 : a4.IsWhole) (a5 : Memref sig .tc .vmem S1x1x8192 .f32) (h5 : a5.IsWhole) (a6 : Memref sig .tc .vmem S1x1x8192 .f32) (h6 : a6.IsWhole) (a7 : Memref sig .tc .vmem S1x1x8192 .f32) (h7 : a7.IsWhole) (a8 : Memref sig .tc .vmem S1x1x8192 .f32) (h8 : a8.IsWhole) (a9 : Memref sig .tc .vmem S1x1x8192 .f32) (h9 : a9.IsWhole) (a10 : Memref sig .tc .vmem S1x1x8192 .f32) (h10 : a10.IsWhole) (a11 : Memref sig .tc .vmem S1x1x8192 .f32) (h11 : a11.IsWhole)
    (a12 : Memref sig .tc .vmem S8x8x1024 .f32) (h12 : a12.IsWhole)
    (a13 : Memref sig .tc .vmem S1x8x1024 .f32) (h13 : a13.IsWhole) (a14 : Memref sig .tc .vmem S1x8x1024 .f32) (h14 : a14.IsWhole) (a15 : Memref sig .tc .vmem S1x8x1024 .f32) (h15 : a15.IsWhole) (a16 : Memref sig .tc .vmem S1x8x1024 .f32) (h16 : a16.IsWhole) (a17 : Memref sig .tc .vmem S1x8x1024 .f32) (h17 : a17.IsWhole) (a18 : Memref sig .tc .vmem S1x8x1024 .f32) (h18 : a18.IsWhole) (a19 : Memref sig .tc .vmem S1x8x1024 .f32) (h19 : a19.IsWhole) (a20 : Memref sig .tc .vmem S1x8x1024 .f32) (h20 : a20.IsWhole)
    (a21 : Memref sig .tc .vmem S8x128 .i32) (h21 : a21.IsWhole) :
    cc2__bwd_body (F := F) i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 =
      (k2_part9 (F := F) i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21) >>= (fun _ : (Σ' (_ : BitVec 32), BitVec 32) => (smemLoadElt a3 (Rect.unit (s := S1) ![0] S1.size inb_S1_S1_0) (View.loads_smem_one rfl numel1_S1) (Shape.Idx.first (numel1_S1.symm ▸ Nat.one_pos)) fun n5 =>
      chunkB (k2_cond6 i n5)
        a12 (Rect.unit (s := S8x8x1024) ![5, 0, 0] S1x8x1024.size inb_S8x8x1024_S1x8x1024_5_0_0) (View.loadsAt_vmem h_S1x8x1024)
        a9 (Rect.unit (s := S1x1x8192) ![0, 0, 0] S1x1x8192.size inb_S1x1x8192_S1x1x8192_0_0_0) (View.loadsAt_vmem h_S1x1x8192)
        a18 (Rect.unit (s := S1x8x1024) ![0, 0, 0] S1x8x1024.size inb_S1x8x1024_S1x8x1024_0_0_0) (View.loadsAt_vmem h_S1x8x1024)
        a21 (Rect.unit (s := S8x128) ![5, 0] S1x128.size inb_S8x128_S1x128_5_0) (View.loadsAt_vmem h_S1x128) (View.stores_vmem_bits_univ h_S1x128 rfl) (.inl rfl)
        (fun v x y => k2_pay1 (k2_pay9 v x y)) fun _ =>
      smemLoadElt a3 (Rect.unit (s := S1) ![0] S1.size inb_S1_S1_0) (View.loads_smem_one rfl numel1_S1) (Shape.Idx.first (numel1_S1.symm ▸ Nat.one_pos)) fun n6 =>
      chunkB (k2_cond7 i n6)
        a12 (Rect.unit (s := S8x8x1024) ![6, 0, 0] S1x8x1024.size inb_S8x8x1024_S1x8x1024_6_0_0) (View.loadsAt_vmem h_S1x8x1024)
        a10 (Rect.unit (s := S1x1x8192) ![0, 0, 0] S1x1x8192.size inb_S1x1x8192_S1x1x8192_0_0_0) (View.loadsAt_vmem h_S1x1x8192)
        a19 (Rect.unit (s := S1x8x1024) ![0, 0, 0] S1x8x1024.size inb_S1x8x1024_S1x8x1024_0_0_0) (View.loadsAt_vmem h_S1x8x1024)
        a21 (Rect.unit (s := S8x128) ![6, 0] S1x128.size inb_S8x128_S1x128_6_0) (View.loadsAt_vmem h_S1x128) (View.stores_vmem_bits_univ h_S1x128 rfl) (.inl rfl)
        (fun v x y => k2_pay2 (k2_pay10 v x y)) fun _ =>
      smemLoadElt a3 (Rect.unit (s := S1) ![0] S1.size inb_S1_S1_0) (View.loads_smem_one rfl numel1_S1) (Shape.Idx.first (numel1_S1.symm ▸ Nat.one_pos)) fun n7 =>
      chunkB (k2_cond8 i n7)
        a12 (Rect.unit (s := S8x8x1024) ![7, 0, 0] S1x8x1024.size inb_S8x8x1024_S1x8x1024_7_0_0) (View.loadsAt_vmem h_S1x8x1024)
        a11 (Rect.unit (s := S1x1x8192) ![0, 0, 0] S1x1x8192.size inb_S1x1x8192_S1x1x8192_0_0_0) (View.loadsAt_vmem h_S1x1x8192)
        a20 (Rect.unit (s := S1x8x1024) ![0, 0, 0] S1x8x1024.size inb_S1x8x1024_S1x8x1024_0_0_0) (View.loadsAt_vmem h_S1x8x1024)
        a21 (Rect.unit (s := S8x128) ![7, 0] S1x128.size inb_S8x128_S1x128_7_0) (View.loadsAt_vmem h_S1x128) (View.stores_vmem_bits_univ h_S1x128 rfl) (.inl rfl)
        (fun v x y => k2_pay3 (k2_pay11 v x y)) fun _ =>
      .ret ⟨⟩ : Prog (TpuEff nD τ sig (Elt F) Λ₀ .tc) PUnit)) := rfl

/-- Whether row `j` of point `i`'s block is one of the first `n`. -/
def live2 (i : grid2.Coords) (j : BitVec 32) (n : BitVec 32) : BitVec 1 :=
  Scalar.cmpi .ne (Scalar.extui (Scalar.cmpi .slt (Scalar.addi (Scalar.muli (BitVec.ofNat 32 (i 0).val) 8#32) j) n) : BitVec 32) 0#32

/-- Row `j` of a block of eight columns. -/
theorem colRow_inb (j : Fin 8) : ∀ a, (![j.val, 0, 0] : Fin 3 → ℕ) a + S1x8x1024.size a ≤ S8x8x1024.size a := by
  revert j; decide
def colRow (V : S8x8x1024.Idx → Elt F .f32) (j : Fin 8) : S1x8x1024.Idx → Elt F .f32 :=
  fun x => V ((Rect.unit (s := S8x8x1024) ![j.val, 0, 0] S1x8x1024.size (colRow_inb j)).idx x)

/-- What the body makes of its output block. -/
def BwdRel (i : grid2.Coords) (N : S1.Idx → Elt F .i32) (R : Fin 8 → S1x1x8192.Idx → Elt F .f32) (V : S8x8x1024.Idx → Elt F .f32)
    (G : Fin 8 → S1x8x1024.Idx → Elt F .f32) (Z : S8x128.Idx → Elt F .i32) : Prop :=
  ∀ j : Fin 8, live2 i (BitVec.ofNat 32 j.val) (N (Shape.Idx.first (numel1_S1.symm ▸ Nat.one_pos))) = 1#1 → ∀ y : S8x128.Idx, y 0 = j →
    ∃ x : S1x128.Idx, Z y = k2_pay12 (k2_pay4 (colRow V j) (R j) (G j)) x

/-- The eight rows' payloads are one function. -/
theorem pays2 : (k2_pay5 (F := F) = k2_pay4) ∧ (k2_pay6 (F := F) = k2_pay4) ∧ (k2_pay7 (F := F) = k2_pay4) ∧ (k2_pay8 (F := F) = k2_pay4) ∧
    (k2_pay9 (F := F) = k2_pay4) ∧ (k2_pay10 (F := F) = k2_pay4) ∧ (k2_pay11 (F := F) = k2_pay4) ∧
    (k2_pay13 = k2_pay12) ∧ (k2_pay14 = k2_pay12) ∧ (k2_pay15 = k2_pay12) ∧ (k2_pay16 = k2_pay12) ∧
    (k2_pay1 = k2_pay12) ∧ (k2_pay2 = k2_pay12) ∧ (k2_pay3 = k2_pay12) :=
  ⟨rfl, rfl, rfl, rfl, rfl, rfl, rfl, rfl, rfl, rfl, rfl, rfl, rfl, rfl⟩

set_option maxHeartbeats 4000000 in
theorem wp_bwd {defs : Defs nD τ sig (Elt F) Λ₀} (𝒱 : Variants) (c : Dev nD) (bd : Option 𝒱.V) (E : Set Name)
    (i : grid2.Coords)
    (a1 : Memref sig .tc .smem S1024 .i32) (h1 : a1.IsWhole)(a2 : Memref sig .tc .smem S1024 .i32) (h2 : a2.IsWhole)(a3 : Memref sig .tc .smem S1 .i32) (h3 : a3.IsWhole)
    (a4 : Memref sig .tc .vmem S1x1x8192 .f32) (h4 : a4.IsWhole) (a5 : Memref sig .tc .vmem S1x1x8192 .f32) (h5 : a5.IsWhole) (a6 : Memref sig .tc .vmem S1x1x8192 .f32) (h6 : a6.IsWhole) (a7 : Memref sig .tc .vmem S1x1x8192 .f32) (h7 : a7.IsWhole) (a8 : Memref sig .tc .vmem S1x1x8192 .f32) (h8 : a8.IsWhole) (a9 : Memref sig .tc .vmem S1x1x8192 .f32) (h9 : a9.IsWhole) (a10 : Memref sig .tc .vmem S1x1x8192 .f32) (h10 : a10.IsWhole) (a11 : Memref sig .tc .vmem S1x1x8192 .f32) (h11 : a11.IsWhole)
    (a12 : Memref sig .tc .vmem S8x8x1024 .f32) (h12 : a12.IsWhole)
    (a13 : Memref sig .tc .vmem S1x8x1024 .f32) (h13 : a13.IsWhole) (a14 : Memref sig .tc .vmem S1x8x1024 .f32) (h14 : a14.IsWhole) (a15 : Memref sig .tc .vmem S1x8x1024 .f32) (h15 : a15.IsWhole) (a16 : Memref sig .tc .vmem S1x8x1024 .f32) (h16 : a16.IsWhole) (a17 : Memref sig .tc .vmem S1x8x1024 .f32) (h17 : a17.IsWhole) (a18 : Memref sig .tc .vmem S1x8x1024 .f32) (h18 : a18.IsWhole) (a19 : Memref sig .tc .vmem S1x8x1024 .f32) (h19 : a19.IsWhole) (a20 : Memref sig .tc .vmem S1x8x1024 .f32) (h20 : a20.IsWhole)
    (a21 : Memref sig .tc .vmem S8x128 .i32) (h21 : a21.IsWhole)
    (q3 : PosShare TreeShare) (N : S1.Idx → Elt F .i32) (R : Fin 8 → S1x1x8192.Idx → Elt F .f32) (V : S8x8x1024.Idx → Elt F .f32)
    (G : Fin 8 → S1x8x1024.Idx → Elt F .f32) (Z : S8x128.Idx → Elt F .i32) :
    (iprop(owns c.tc a3 q3 N ∗ owns c.tc a4 fullShare (R 0) ∗ owns c.tc a5 fullShare (R 1) ∗ owns c.tc a6 fullShare (R 2) ∗ owns c.tc a7 fullShare (R 3) ∗ owns c.tc a8 fullShare (R 4) ∗ owns c.tc a9 fullShare (R 5) ∗ owns c.tc a10 fullShare (R 6) ∗ owns c.tc a11 fullShare (R 7) ∗ owns c.tc a12 fullShare V ∗ owns c.tc a13 fullShare (G 0) ∗ owns c.tc a14 fullShare (G 1) ∗ owns c.tc a15 fullShare (G 2) ∗ owns c.tc a16 fullShare (G 3) ∗ owns c.tc a17 fullShare (G 4) ∗ owns c.tc a18 fullShare (G 5) ∗ owns c.tc a19 fullShare (G 6) ∗ owns c.tc a20 fullShare (G 7) ∗ owns c.tc a21 fullShare Z) : sProp 𝕄)
      ⊢ wp frame (wpE defs 𝒱 c.tc bd) E (cc2__bwd_body (F := F) i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21) (fun _ => iprop(∃ Z', ⌜BwdRel i N R V G Z'⌝ ∗ (owns c.tc a3 q3 N ∗ owns c.tc a4 fullShare (R 0) ∗ owns c.tc a5 fullShare (R 1) ∗ owns c.tc a6 fullShare (R 2) ∗ owns c.tc a7 fullShare (R 3) ∗ owns c.tc a8 fullShare (R 4) ∗ owns c.tc a9 fullShare (R 5) ∗ owns c.tc a10 fullShare (R 6) ∗ owns c.tc a11 fullShare (R 7) ∗ owns c.tc a12 fullShare V ∗ owns c.tc a13 fullShare (G 0) ∗ owns c.tc a14 fullShare (G 1) ∗ owns c.tc a15 fullShare (G 2) ∗ owns c.tc a16 fullShare (G 3) ∗ owns c.tc a17 fullShare (G 4) ∗ owns c.tc a18 fullShare (G 5) ∗ owns c.tc a19 fullShare (G 6) ∗ owns c.tc a20 fullShare (G 7)) ∗ owns c.tc a21 fullShare Z')) := by
  iintro ⟨H3, R0, R1, R2, R3, R4, R5, R6, R7, HV, G0, G1, G2, G3, G4, G5, G6, G7, HO⟩
  rw [bwd_chunks, wp_bind, part9_chunks]
  iapply (owns_smem (defs := defs) 𝒱 c.tc bd E) $$ H3; iintro H3
  iapply (wp_chunkB (defs := defs) 𝒱 c.tc bd E) $$ [HV R0 G0 HO]
  · isplitl [HV]; · iexact HV
    isplitl [R0]; · iexact R0
    isplitl [G0]; · iexact G0
    iexact HO
  iintro %Z0 %hZ0 HV R0 G0 HO
  iapply (owns_smem (defs := defs) 𝒱 c.tc bd E) $$ H3; iintro H3
  iapply (wp_chunkB (defs := defs) 𝒱 c.tc bd E) $$ [HV R1 G1 HO]
  · isplitl [HV]; · iexact HV
    isplitl [R1]; · iexact R1
    isplitl [G1]; · iexact G1
    iexact HO
  iintro %Z1 %hZ1 HV R1 G1 HO
  iapply (owns_smem (defs := defs) 𝒱 c.tc bd E) $$ H3; iintro H3
  iapply (wp_chunkB (defs := defs) 𝒱 c.tc bd E) $$ [HV R2 G2 HO]
  · isplitl [HV]; · iexact HV
    isplitl [R2]; · iexact R2
    isplitl [G2]; · iexact G2
    iexact HO
  iintro %Z2 %hZ2 HV R2 G2 HO
  iapply (owns_smem (defs := defs) 𝒱 c.tc bd E) $$ H3; iintro H3
  iapply (wp_chunkB (defs := defs) 𝒱 c.tc bd E) $$ [HV R3 G3 HO]
  · isplitl [HV]; · iexact HV
    isplitl [R3]; · iexact R3
    isplitl [G3]; · iexact G3
    iexact HO
  iintro %Z3 %hZ3 HV R3 G3 HO
  iapply (owns_smem (defs := defs) 𝒱 c.tc bd E) $$ H3; iintro H3
  iapply (wp_chunkB (defs := defs) 𝒱 c.tc bd E) $$ [HV R4 G4 HO]
  · isplitl [HV]; · iexact HV
    isplitl [R4]; · iexact R4
    isplitl [G4]; · iexact G4
    iexact HO
  iintro %Z4 %hZ4 HV R4 G4 HO
  rw [wp_ret]; imodintro
  iapply (owns_smem (defs := defs) 𝒱 c.tc bd E) $$ H3; iintro H3
  iapply (wp_chunkB (defs := defs) 𝒱 c.tc bd E) $$ [HV R5 G5 HO]
  · isplitl [HV]; · iexact HV
    isplitl [R5]; · iexact R5
    isplitl [G5]; · iexact G5
    iexact HO
  iintro %Z5 %hZ5 HV R5 G5 HO
  iapply (owns_smem (defs := defs) 𝒱 c.tc bd E) $$ H3; iintro H3
  iapply (wp_chunkB (defs := defs) 𝒱 c.tc bd E) $$ [HV R6 G6 HO]
  · isplitl [HV]; · iexact HV
    isplitl [R6]; · iexact R6
    isplitl [G6]; · iexact G6
    iexact HO
  iintro %Z6 %hZ6 HV R6 G6 HO
  iapply (owns_smem (defs := defs) 𝒱 c.tc bd E) $$ H3; iintro H3
  iapply (wp_chunkB (defs := defs) 𝒱 c.tc bd E) $$ [HV R7 G7 HO]
  · isplitl [HV]; · iexact HV
    isplitl [R7]; · iexact R7
    isplitl [G7]; · iexact G7
    iexact HO
  iintro %Z7 %hZ7 HV R7 G7 HO
  rw [wp_ret]; imodintro
  iexists Z7; isplitr
  · ipureintro
    simp only [whole_row, whole_gum, pays2] at hZ0 hZ1 hZ2 hZ3 hZ4 hZ5 hZ6 hZ7
    intro j hj y hy
    have hr := rows8 hZ0 hZ1 hZ2 hZ3 hZ4 hZ5 hZ6 hZ7
    match j, hj, hy with
    | ⟨0, _⟩, hj, hy => exact hr.1 ((congrArg (live2 i (BitVec.ofNat 32 0)) (congrArg N (one_first _))).trans hj) y (congrArg Fin.val hy)
    | ⟨1, _⟩, hj, hy => exact hr.2.1 ((congrArg (live2 i (BitVec.ofNat 32 1)) (congrArg N (one_first _))).trans hj) y (congrArg Fin.val hy)
    | ⟨2, _⟩, hj, hy => exact hr.2.2.1 ((congrArg (live2 i (BitVec.ofNat 32 2)) (congrArg N (one_first _))).trans hj) y (congrArg Fin.val hy)
    | ⟨3, _⟩, hj, hy => exact hr.2.2.2.1 ((congrArg (live2 i (BitVec.ofNat 32 3)) (congrArg N (one_first _))).trans hj) y (congrArg Fin.val hy)
    | ⟨4, _⟩, hj, hy => exact hr.2.2.2.2.1 ((congrArg (live2 i (BitVec.ofNat 32 4)) (congrArg N (one_first _))).trans hj) y (congrArg Fin.val hy)
    | ⟨5, _⟩, hj, hy => exact hr.2.2.2.2.2.1 ((congrArg (live2 i (BitVec.ofNat 32 5)) (congrArg N (one_first _))).trans hj) y (congrArg Fin.val hy)
    | ⟨6, _⟩, hj, hy => exact hr.2.2.2.2.2.2.1 ((congrArg (live2 i (BitVec.ofNat 32 6)) (congrArg N (one_first _))).trans hj) y (congrArg Fin.val hy)
    | ⟨7, _⟩, hj, hy => exact hr.2.2.2.2.2.2.2 ((congrArg (live2 i (BitVec.ofNat 32 7)) (congrArg N (one_first _))).trans hj) y (congrArg Fin.val hy)
  isplitr [HO]
  · isplitl [H3]; · iexact H3
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [HV]; · iexact HV
    isplitl [G0]; · iexact G0
    isplitl [G1]; · iexact G1
    isplitl [G2]; · iexact G2
    isplitl [G3]; · iexact G3
    isplitl [G4]; · iexact G4
    isplitl [G5]; · iexact G5
    isplitl [G6]; · iexact G6
    iexact G7
  · iexact HO

end Cert.KernelIdeal.Smooth
-- ==== Proof.Rows1Ideal.lean ====
/-
  The forward call's windows at one point: what they fetch, and that every row of the output block that is one of the rows to sample ends at the position of the greatest of
  that row's numbers, the numbers taken from the transition matrix's row and the noise's row that the tables name.
-/
module

public import proofs.«01_k».proof.Proof.FwdIdeal
public import proofs.«01_k».proof.Proof.BwdIdeal
public import proofs.«01_k».proof.Proof.Region
public import proofs.«01_k».proof.Proof.Gen.KernelIdeal.Launch
public import Idealize.ShloMosaic.Lib.Pipeline.ArrRel

@[expose] public section

set_option maxRecDepth 8192

noncomputable section

namespace Cert.KernelIdeal.Smooth

open Cert.KernelIdeal Cert.KernelIdeal.Gen Cert.Smooth

open Idealize.ShloMosaic Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-- Each call's output window. -/
def outWin (a : (p : Fin 2) → (pcfgs (F := F) p).Adm) : (p : Fin 2) → Fin (pin (pcfgs (F := F)) a p).W
  | ⟨0, _⟩ => (17 : Fin 18)
  | ⟨1, _⟩ => (17 : Fin 18)

/-- A valuation's contents of a buffer of the one core. -/
abbrev at0 (W : Valuation τ sig (Elt F)) (b : Ref sig .tc) : b.ty.Contents (Elt F) := W (Proc.devRef .tc b)

/-- What the forward call leaves of one row: the position of the greatest of the row's numbers. -/
def FwdRow (W : Valuation τ sig (Elt F)) (r : S2048.Idx) (v : BitVec 32) : Prop :=
  ∃ (x : S1x128.Idx) (R : S1x1x8192.Idx → Elt F .f32) (G : S1x8x1024.Idx → Elt F .f32),
    (∀ z z', (z' 0).val = (at0 W main_v43 r : BitVec 32).toNat → z' 1 = z 1 → z' 2 = z 2 → R z = at0 W main_v87 z') ∧
    (∀ z z', (z' 0).val = (at0 W main_v25 r : BitVec 32).toNat → z' 1 = z 1 → z' 2 = z 2 → G z = at0 W main_v0 z') ∧
    v = k1_pay6 (at0 W main_v85) (at0 W main_v33 r) R G x

/-- The number of rows to sample, as the forward call reads it. -/
def nFwd (W : Valuation τ sig (Elt F)) : BitVec 32 := at0 W main_v88 (Shape.Idx.first (s := S1) (numel1_S1.symm ▸ Nat.one_pos))

def relFwd (W : Valuation τ sig (Elt F)) (t : ℕ) (X : S8x128.Idx → Elt F .i32) : Prop :=
  ∀ (y : S8x128.Idx) (r : S2048.Idx), (r 0).val = 8 * t + (y 0).val → 8 * t + (y 0).val < (nFwd W).toNat → (nFwd W).toNat ≤ 2048 → FwdRow W r (X y)

theorem row_word (i j : ℕ) (hi : i < 256) (hj : j < 8) : (BitVec.ofNat 32 i * 8#32 + BitVec.ofNat 32 j).toNat = 8 * i + j := by
  simp only [BitVec.toNat_add, BitVec.toNat_mul, BitVec.toNat_ofNat]
  omega

/-- The row's offset. -/
theorem off1_eq (i : grid1.Coords) (j : Fin 8) : k1_off1 i (BitVec.ofNat 32 j.val) 0 = 8 * (i 0).val + j.val :=
  row_word _ _ (i 0).isLt j.isLt

theorem row_slt (w n : BitVec 32) (hn : n.toNat ≤ 2048) (h : w.toNat < n.toNat) :
    Scalar.cmpi .ne (Scalar.extui (Scalar.cmpi .slt w n) : BitVec 32) 0#32 = 1#1 := by
  have h1 : w.slt n = true := by
    rw [BitVec.slt_iff_toInt_lt, BitVec.toInt_eq_toNat_of_lt (by omega), BitVec.toInt_eq_toNat_of_lt (by omega)]
    exact_mod_cast h
  have h2 : Scalar.cmpi .slt w n = 1#1 := by
    show BitVec.ofBool (w.slt n) = 1#1
    rw [h1]; rfl
  rw [h2]; rfl

theorem live1_of (i : grid1.Coords) (j : Fin 8) (n : BitVec 32) (hn : n.toNat ≤ 2048) (h : 8 * (i 0).val + j.val < n.toNat) :
    live1 i (BitVec.ofNat 32 j.val) n = 1#1 :=
  row_slt _ n hn (by rw [show (Scalar.addi (Scalar.muli (BitVec.ofNat 32 (i 0).val) 8#32) (BitVec.ofNat 32 j.val)).toNat = _ from row_word _ _ (i 0).isLt j.isLt]; exact h)

section Region1

variable (a : (p : Fin 2) → (pcfgs (F := F) p).Adm) (W : Dev nD → Valuation τ sig (Elt F))

def rel1 : (p : Fin 2) → (c : Dev nD) → (t : Fin (pin (pcfgs (F := F)) a p).N) →
    (((pin (pcfgs (F := F)) a p).win (outWin a p)).block.Idx → Elt F ((pin (pcfgs (F := F)) a p).win (outWin a p)).elt) → Prop
  | ⟨0, _⟩, c, t, X => relFwd (W c) t.val X
  | ⟨1, _⟩, _, _, _ => True

abbrev rd1 (p : Fin 2) (c : Dev nD) : RDat τ (Elt F) Ix Name U Lvl (pin (pcfgs (F := F)) a p) c :=
  rdat (pcfgs (F := F)) a W (outWin a) (rel1 a W) p c

theorem coords1 (t : Fin grid1.N) : ((grid1.coords t) 0).val = t.val := by
  rw [Grid.coords_val t 0 (S := 1) (B := 256) (by decide) rfl]
  have := lt_of_lt_of_eq t.isLt N_1
  omega

variable {a W}

theorem tab1_0 (c : Dev nD) (hT : ∀ k, (a 0).1 k = W c (Proc.devRef .tc (pre1.ref k))) (t : Fin grid1.N) (j : Fin 8) (r : S2048.Idx)
    (hr : (r 0).val = 8 * t.val + j.val) :
    (a 0).1 0 ((Rect.unit (s := S2048) (k1_off1 (grid1.coords t) (BitVec.ofNat 32 j.val)) S1.size (k1_off1_inb (grid1.coords t) j)).emb
      (Shape.Idx.first (numel1_S1.symm ▸ Nat.one_pos))) = at0 (W c) main_v25 r := by
  rw [hT 0]
  refine congrArg (at0 (W c) main_v25) ?_
  funext b
  apply Fin.ext
  match b with
  | 0 =>
    refine (ValueKit.rect_emb_unit_val _ _ _ _ 0).trans ?_
    rw [off1_eq, coords1, hr]
    rfl

theorem tab1_1 (c : Dev nD) (hT : ∀ k, (a 0).1 k = W c (Proc.devRef .tc (pre1.ref k))) (t : Fin grid1.N) (j : Fin 8) (r : S2048.Idx)
    (hr : (r 0).val = 8 * t.val + j.val) :
    (a 0).1 1 ((Rect.unit (s := S2048) (k1_off1 (grid1.coords t) (BitVec.ofNat 32 j.val)) S1.size (k1_off1_inb (grid1.coords t) j)).emb
      (Shape.Idx.first (numel1_S1.symm ▸ Nat.one_pos))) = at0 (W c) main_v43 r := by
  rw [hT 1]
  refine congrArg (at0 (W c) main_v43) ?_
  funext b
  apply Fin.ext
  match b with
  | 0 =>
    refine (ValueKit.rect_emb_unit_val _ _ _ _ 0).trans ?_
    rw [off1_eq, coords1, hr]
    rfl

theorem tab1_2 (c : Dev nD) (hT : ∀ k, (a 0).1 k = W c (Proc.devRef .tc (pre1.ref k))) (t : Fin grid1.N) (j : Fin 8) (r : S2048.Idx)
    (hr : (r 0).val = 8 * t.val + j.val) :
    (a 0).1 2 ((Rect.unit (s := S2048) (k1_off1 (grid1.coords t) (BitVec.ofNat 32 j.val)) S1.size (k1_off1_inb (grid1.coords t) j)).emb
      (Shape.Idx.first (numel1_S1.symm ▸ Nat.one_pos))) = at0 (W c) main_v33 r := by
  rw [hT 2]
  refine congrArg (at0 (W c) main_v33) ?_
  funext b
  apply Fin.ext
  match b with
  | 0 =>
    refine (ValueKit.rect_emb_unit_val _ _ _ _ 0).trans ?_
    rw [off1_eq, coords1, hr]
    rfl

theorem row1_0 (c : Dev nD) (hT : ∀ k, (a 0).1 k = W c (Proc.devRef .tc (pre1.ref k))) (t : Fin grid1.N) (X)
    (h : (rd1 (Ix := Ix) (Name := Name) (U := U) (Lvl := Lvl) a W 0 c).Finds (0 : Fin 18) t X) (r : S2048.Idx) (hr : (r 0).val = 8 * t.val + 0)
    (z : S1x1x8192.Idx) (z' : S8192x1x8192.Idx) (h0 : (z' 0).val = (at0 (W c) main_v43 r : BitVec 32).toNat) (h1 : z' 1 = z 1) (h2 : z' 2 = z 2) :
    X z = at0 (W c) main_v87 z' := by
  obtain ⟨d, rfl⟩ := RDat.finds_in_eq_fetched (rd1 (Ix := Ix) (Name := Name) (U := U) (Lvl := Lvl) a W 0 c) (0 : Fin 18) rfl (fun _ _ _ => rfl) (fun t Y X hX => hX.1 rfl) t X h
  obtain ⟨y', hy', h'⟩ := fetched_apply (rd1 (Ix := Ix) (Name := Name) (U := U) (Lvl := Lvl) a W 0 c) (0 : Fin 18) (fun _ _ => rfl) t d z
  refine h'.trans ?_
  refine congrArg (at0 (W c) main_v87) ?_
  funext b
  apply Fin.ext
  refine (Window.rect_emb_val ((pin (pcfgs (F := F)) a 0).win (0 : Fin 18)) t y' b rfl).trans ?_
  match b with
  | 0 =>
    have e : ((pin (pcfgs (F := F)) a 0).win (0 : Fin 18)).index t 0 = ((a 0).1 1 ((Rect.unit (s := S2048) (k1_off1 (grid1.coords t) (BitVec.ofNat 32 (0 : Fin 8).val)) S1.size (k1_off1_inb (grid1.coords t) 0)).emb
      (Shape.Idx.first (numel1_S1.symm ▸ Nat.one_pos))) : BitVec 32).toNat := rfl
    have hy0 : (y' 0).val = 0 := by have := hy' 0; have := (z 0).isLt; change (z 0).val < 1 at this; omega
    rw [e, tab1_1 c hT t 0 r hr, hy0, h0]
    show _ * 1 + 0 = _
    omega
  | 1 =>
    have e : ((pin (pcfgs (F := F)) a 0).win (0 : Fin 18)).index t 1 = 0 := rfl
    rw [e, h1]
    exact (Nat.zero_mul _ ▸ Nat.zero_add _).trans (hy' 1)
  | 2 =>
    have e : ((pin (pcfgs (F := F)) a 0).win (0 : Fin 18)).index t 2 = 0 := rfl
    rw [e, h2]
    exact (Nat.zero_mul _ ▸ Nat.zero_add _).trans (hy' 2)

theorem row1_1 (c : Dev nD) (hT : ∀ k, (a 0).1 k = W c (Proc.devRef .tc (pre1.ref k))) (t : Fin grid1.N) (X)
    (h : (rd1 (Ix := Ix) (Name := Name) (U := U) (Lvl := Lvl) a W 0 c).Finds (1 : Fin 18) t X) (r : S2048.Idx) (hr : (r 0).val = 8 * t.val + 1)
    (z : S1x1x8192.Idx) (z' : S8192x1x8192.Idx) (h0 : (z' 0).val = (at0 (W c) main_v43 r : BitVec 32).toNat) (h1 : z' 1 = z 1) (h2 : z' 2 = z 2) :
    X z = at0 (W c) main_v87 z' := by
  obtain ⟨d, rfl⟩ := RDat.finds_in_eq_fetched (rd1 (Ix := Ix) (Name := Name) (U := U) (Lvl := Lvl) a W 0 c) (1 : Fin 18) rfl (fun _ _ _ => rfl) (fun t Y X hX => hX.1 rfl) t X h
  obtain ⟨y', hy', h'⟩ := fetched_apply (rd1 (Ix := Ix) (Name := Name) (U := U) (Lvl := Lvl) a W 0 c) (1 : Fin 18) (fun _ _ => rfl) t d z
  refine h'.trans ?_
  refine congrArg (at0 (W c) main_v87) ?_
  funext b
  apply Fin.ext
  refine (Window.rect_emb_val ((pin (pcfgs (F := F)) a 0).win (1 : Fin 18)) t y' b rfl).trans ?_
  match b with
  | 0 =>
    have e : ((pin (pcfgs (F := F)) a 0).win (1 : Fin 18)).index t 0 = ((a 0).1 1 ((Rect.unit (s := S2048) (k1_off1 (grid1.coords t) (BitVec.ofNat 32 (1 : Fin 8).val)) S1.size (k1_off1_inb (grid1.coords t) 1)).emb
      (Shape.Idx.first (numel1_S1.symm ▸ Nat.one_pos))) : BitVec 32).toNat := rfl
    have hy0 : (y' 0).val = 0 := by have := hy' 0; have := (z 0).isLt; change (z 0).val < 1 at this; omega
    rw [e, tab1_1 c hT t 1 r hr, hy0, h0]
    show _ * 1 + 0 = _
    omega
  | 1 =>
    have e : ((pin (pcfgs (F := F)) a 0).win (1 : Fin 18)).index t 1 = 0 := rfl
    rw [e, h1]
    exact (Nat.zero_mul _ ▸ Nat.zero_add _).trans (hy' 1)
  | 2 =>
    have e : ((pin (pcfgs (F := F)) a 0).win (1 : Fin 18)).index t 2 = 0 := rfl
    rw [e, h2]
    exact (Nat.zero_mul _ ▸ Nat.zero_add _).trans (hy' 2)

theorem row1_2 (c : Dev nD) (hT : ∀ k, (a 0).1 k = W c (Proc.devRef .tc (pre1.ref k))) (t : Fin grid1.N) (X)
    (h : (rd1 (Ix := Ix) (Name := Name) (U := U) (Lvl := Lvl) a W 0 c).Finds (2 : Fin 18) t X) (r : S2048.Idx) (hr : (r 0).val = 8 * t.val + 2)
    (z : S1x1x8192.Idx) (z' : S8192x1x8192.Idx) (h0 : (z' 0).val = (at0 (W c) main_v43 r : BitVec 32).toNat) (h1 : z' 1 = z 1) (h2 : z' 2 = z 2) :
    X z = at0 (W c) main_v87 z' := by
  obtain ⟨d, rfl⟩ := RDat.finds_in_eq_fetched (rd1 (Ix := Ix) (Name := Name) (U := U) (Lvl := Lvl) a W 0 c) (2 : Fin 18) rfl (fun _ _ _ => rfl) (fun t Y X hX => hX.1 rfl) t X h
  obtain ⟨y', hy', h'⟩ := fetched_apply (rd1 (Ix := Ix) (Name := Name) (U := U) (Lvl := Lvl) a W 0 c) (2 : Fin 18) (fun _ _ => rfl) t d z
  refine h'.trans ?_
  refine congrArg (at0 (W c) main_v87) ?_
  funext b
  apply Fin.ext
  refine (Window.rect_emb_val ((pin (pcfgs (F := F)) a 0).win (2 : Fin 18)) t y' b rfl).trans ?_
  match b with
  | 0 =>
    have e : ((pin (pcfgs (F := F)) a 0).win (2 : Fin 18)).index t 0 = ((a 0).1 1 ((Rect.unit (s := S2048) (k1_off1 (grid1.coords t) (BitVec.ofNat 32 (2 : Fin 8).val)) S1.size (k1_off1_inb (grid1.coords t) 2)).emb
      (Shape.Idx.first (numel1_S1.symm ▸ Nat.one_pos))) : BitVec 32).toNat := rfl
    have hy0 : (y' 0).val = 0 := by have := hy' 0; have := (z 0).isLt; change (z 0).val < 1 at this; omega
    rw [e, tab1_1 c hT t 2 r hr, hy0, h0]
    show _ * 1 + 0 = _
    omega
  | 1 =>
    have e : ((pin (pcfgs (F := F)) a 0).win (2 : Fin 18)).index t 1 = 0 := rfl
    rw [e, h1]
    exact (Nat.zero_mul _ ▸ Nat.zero_add _).trans (hy' 1)
  | 2 =>
    have e : ((pin (pcfgs (F := F)) a 0).win (2 : Fin 18)).index t 2 = 0 := rfl
    rw [e, h2]
    exact (Nat.zero_mul _ ▸ Nat.zero_add _).trans (hy' 2)

theorem row1_3 (c : Dev nD) (hT : ∀ k, (a 0).1 k = W c (Proc.devRef .tc (pre1.ref k))) (t : Fin grid1.N) (X)
    (h : (rd1 (Ix := Ix) (Name := Name) (U := U) (Lvl := Lvl) a W 0 c).Finds (3 : Fin 18) t X) (r : S2048.Idx) (hr : (r 0).val = 8 * t.val + 3)
    (z : S1x1x8192.Idx) (z' : S8192x1x8192.Idx) (h0 : (z' 0).val = (at0 (W c) main_v43 r : BitVec 32).toNat) (h1 : z' 1 = z 1) (h2 : z' 2 = z 2) :
    X z = at0 (W c) main_v87 z' := by
  obtain ⟨d, rfl⟩ := RDat.finds_in_eq_fetched (rd1 (Ix := Ix) (Name := Name) (U := U) (Lvl := Lvl) a W 0 c) (3 : Fin 18) rfl (fun _ _ _ => rfl) (fun t Y X hX => hX.1 rfl) t X h
  obtain ⟨y', hy', h'⟩ := fetched_apply (rd1 (Ix := Ix) (Name := Name) (U := U) (Lvl := Lvl) a W 0 c) (3 : Fin 18) (fun _ _ => rfl) t d z
  refine h'.trans ?_
  refine congrArg (at0 (W c) main_v87) ?_
  funext b
  apply Fin.ext
  refine (Window.rect_emb_val ((pin (pcfgs (F := F)) a 0).win (3 : Fin 18)) t y' b rfl).trans ?_
  match b with
  | 0 =>
    have e : ((pin (pcfgs (F := F)) a 0).win (3 : Fin 18)).index t 0 = ((a 0).1 1 ((Rect.unit (s := S2048) (k1_off1 (grid1.coords t) (BitVec.ofNat 32 (3 : Fin 8).val)) S1.size (k1_off1_inb (grid1.coords t) 3)).emb
      (Shape.Idx.first (numel1_S1.symm ▸ Nat.one_pos))) : BitVec 32).toNat := rfl
    have hy0 : (y' 0).val = 0 := by have := hy' 0; have := (z 0).isLt; change (z 0).val < 1 at this; omega
    rw [e, tab1_1 c hT t 3 r hr, hy0, h0]
    show _ * 1 + 0 = _
    omega
  | 1 =>
    have e : ((pin (pcfgs (F := F)) a 0).win (3 : Fin 18)).index t 1 = 0 := rfl
    rw [e, h1]
    exact (Nat.zero_mul _ ▸ Nat.zero_add _).trans (hy' 1)
  | 2 =>
    have e : ((pin (pcfgs (F := F)) a 0).win (3 : Fin 18)).index t 2 = 0 := rfl
    rw [e, h2]
    exact (Nat.zero_mul _ ▸ Nat.zero_add _).trans (hy' 2)

theorem row1_4 (c : Dev nD) (hT : ∀ k, (a 0).1 k = W c (Proc.devRef .tc (pre1.ref k))) (t : Fin grid1.N) (X)
    (h : (rd1 (Ix := Ix) (Name := Name) (U := U) (Lvl := Lvl) a W 0 c).Finds (4 : Fin 18) t X) (r : S2048.Idx) (hr : (r 0).val = 8 * t.val + 4)
    (z : S1x1x8192.Idx) (z' : S8192x1x8192.Idx) (h0 : (z' 0).val = (at0 (W c) main_v43 r : BitVec 32).toNat) (h1 : z' 1 = z 1) (h2 : z' 2 = z 2) :
    X z = at0 (W c) main_v87 z' := by
  obtain ⟨d, rfl⟩ := RDat.finds_in_eq_fetched (rd1 (Ix := Ix) (Name := Name) (U := U) (Lvl := Lvl) a W 0 c) (4 : Fin 18) rfl (fun _ _ _ => rfl) (fun t Y X hX => hX.1 rfl) t X h
  obtain ⟨y', hy', h'⟩ := fetched_apply (rd1 (Ix := Ix) (Name := Name) (U := U) (Lvl := Lvl) a W 0 c) (4 : Fin 18) (fun _ _ => rfl) t d z
  refine h'.trans ?_
  refine congrArg (at0 (W c) main_v87) ?_
  funext b
  apply Fin.ext
  refine (Window.rect_emb_val ((pin (pcfgs (F := F)) a 0).win (4 : Fin 18)) t y' b rfl).trans ?_
  match b with
  | 0 =>
    have e : ((pin (pcfgs (F := F)) a 0).win (4 : Fin 18)).index t 0 = ((a 0).1 1 ((Rect.unit (s := S2048) (k1_off1 (grid1.coords t) (BitVec.ofNat 32 (4 : Fin 8).val)) S1.size (k1_off1_inb (grid1.coords t) 4)).emb
      (Shape.Idx.first (numel1_S1.symm ▸ Nat.one_pos))) : BitVec 32).toNat := rfl
    have hy0 : (y' 0).val = 0 := by have := hy' 0; have := (z 0).isLt; change (z 0).val < 1 at this; omega
    rw [e, tab1_1 c hT t 4 r hr, hy0, h0]
    show _ * 1 + 0 = _
    omega
  | 1 =>
    have e : ((pin (pcfgs (F := F)) a 0).win (4 : Fin 18)).index t 1 = 0 := rfl
    rw [e, h1]
    exact (Nat.zero_mul _ ▸ Nat.zero_add _).trans (hy' 1)
  | 2 =>
    have e : ((pin (pcfgs (F := F)) a 0).win (4 : Fin 18)).index t 2 = 0 := rfl
    rw [e, h2]
    exact (Nat.zero_mul _ ▸ Nat.zero_add _).trans (hy' 2)

theorem row1_5 (c : Dev nD) (hT : ∀ k, (a 0).1 k = W c (Proc.devRef .tc (pre1.ref k))) (t : Fin grid1.N) (X)
    (h : (rd1 (Ix := Ix) (Name := Name) (U := U) (Lvl := Lvl) a W 0 c).Finds (5 : Fin 18) t X) (r : S2048.Idx) (hr : (r 0).val = 8 * t.val + 5)
    (z : S1x1x8192.Idx) (z' : S8192x1x8192.Idx) (h0 : (z' 0).val = (at0 (W c) main_v43 r : BitVec 32).toNat) (h1 : z' 1 = z 1) (h2 : z' 2 = z 2) :
    X z = at0 (W c) main_v87 z' := by
  obtain ⟨d, rfl⟩ := RDat.finds_in_eq_fetched (rd1 (Ix := Ix) (Name := Name) (U := U) (Lvl := Lvl) a W 0 c) (5 : Fin 18) rfl (fun _ _ _ => rfl) (fun t Y X hX => hX.1 rfl) t X h
  obtain ⟨y', hy', h'⟩ := fetched_apply (rd1 (Ix := Ix) (Name := Name) (U := U) (Lvl := Lvl) a W 0 c) (5 : Fin 18) (fun _ _ => rfl) t d z
  refine h'.trans ?_
  refine congrArg (at0 (W c) main_v87) ?_
  funext b
  apply Fin.ext
  refine (Window.rect_emb_val ((pin (pcfgs (F := F)) a 0).win (5 : Fin 18)) t y' b rfl).trans ?_
  match b with
  | 0 =>
    have e : ((pin (pcfgs (F := F)) a 0).win (5 : Fin 18)).index t 0 = ((a 0).1 1 ((Rect.unit (s := S2048) (k1_off1 (grid1.coords t) (BitVec.ofNat 32 (5 : Fin 8).val)) S1.size (k1_off1_inb (grid1.coords t) 5)).emb
      (Shape.Idx.first (numel1_S1.symm ▸ Nat.one_pos))) : BitVec 32).toNat := rfl
    have hy0 : (y' 0).val = 0 := by have := hy' 0; have := (z 0).isLt; change (z 0).val < 1 at this; omega
    rw [e, tab1_1 c hT t 5 r hr, hy0, h0]
    show _ * 1 + 0 = _
    omega
  | 1 =>
    have e : ((pin (pcfgs (F := F)) a 0).win (5 : Fin 18)).index t 1 = 0 := rfl
    rw [e, h1]
    exact (Nat.zero_mul _ ▸ Nat.zero_add _).trans (hy' 1)
  | 2 =>
    have e : ((pin (pcfgs (F := F)) a 0).win (5 : Fin 18)).index t 2 = 0 := rfl
    rw [e, h2]
    exact (Nat.zero_mul _ ▸ Nat.zero_add _).trans (hy' 2)

theorem row1_6 (c : Dev nD) (hT : ∀ k, (a 0).1 k = W c (Proc.devRef .tc (pre1.ref k))) (t : Fin grid1.N) (X)
    (h : (rd1 (Ix := Ix) (Name := Name) (U := U) (Lvl := Lvl) a W 0 c).Finds (6 : Fin 18) t X) (r : S2048.Idx) (hr : (r 0).val = 8 * t.val + 6)
    (z : S1x1x8192.Idx) (z' : S8192x1x8192.Idx) (h0 : (z' 0).val = (at0 (W c) main_v43 r : BitVec 32).toNat) (h1 : z' 1 = z 1) (h2 : z' 2 = z 2) :
    X z = at0 (W c) main_v87 z' := by
  obtain ⟨d, rfl⟩ := RDat.finds_in_eq_fetched (rd1 (Ix := Ix) (Name := Name) (U := U) (Lvl := Lvl) a W 0 c) (6 : Fin 18) rfl (fun _ _ _ => rfl) (fun t Y X hX => hX.1 rfl) t X h
  obtain ⟨y', hy', h'⟩ := fetched_apply (rd1 (Ix := Ix) (Name := Name) (U := U) (Lvl := Lvl) a W 0 c) (6 : Fin 18) (fun _ _ => rfl) t d z
  refine h'.trans ?_
  refine congrArg (at0 (W c) main_v87) ?_
  funext b
  apply Fin.ext
  refine (Window.rect_emb_val ((pin (pcfgs (F := F)) a 0).win (6 : Fin 18)) t y' b rfl).trans ?_
  match b with
  | 0 =>
    have e : ((pin (pcfgs (F := F)) a 0).win (6 : Fin 18)).index t 0 = ((a 0).1 1 ((Rect.unit (s := S2048) (k1_off1 (grid1.coords t) (BitVec.ofNat 32 (6 : Fin 8).val)) S1.size (k1_off1_inb (grid1.coords t) 6)).emb
      (Shape.Idx.first (numel1_S1.symm ▸ Nat.one_pos))) : BitVec 32).toNat := rfl
    have hy0 : (y' 0).val = 0 := by have := hy' 0; have := (z 0).isLt; change (z 0).val < 1 at this; omega
    rw [e, tab1_1 c hT t 6 r hr, hy0, h0]
    show _ * 1 + 0 = _
    omega
  | 1 =>
    have e : ((pin (pcfgs (F := F)) a 0).win (6 : Fin 18)).index t 1 = 0 := rfl
    rw [e, h1]
    exact (Nat.zero_mul _ ▸ Nat.zero_add _).trans (hy' 1)
  | 2 =>
    have e : ((pin (pcfgs (F := F)) a 0).win (6 : Fin 18)).index t 2 = 0 := rfl
    rw [e, h2]
    exact (Nat.zero_mul _ ▸ Nat.zero_add _).trans (hy' 2)

theorem row1_7 (c : Dev nD) (hT : ∀ k, (a 0).1 k = W c (Proc.devRef .tc (pre1.ref k))) (t : Fin grid1.N) (X)
    (h : (rd1 (Ix := Ix) (Name := Name) (U := U) (Lvl := Lvl) a W 0 c).Finds (7 : Fin 18) t X) (r : S2048.Idx) (hr : (r 0).val = 8 * t.val + 7)
    (z : S1x1x8192.Idx) (z' : S8192x1x8192.Idx) (h0 : (z' 0).val = (at0 (W c) main_v43 r : BitVec 32).toNat) (h1 : z' 1 = z 1) (h2 : z' 2 = z 2) :
    X z = at0 (W c) main_v87 z' := by
  obtain ⟨d, rfl⟩ := RDat.finds_in_eq_fetched (rd1 (Ix := Ix) (Name := Name) (U := U) (Lvl := Lvl) a W 0 c) (7 : Fin 18) rfl (fun _ _ _ => rfl) (fun t Y X hX => hX.1 rfl) t X h
  obtain ⟨y', hy', h'⟩ := fetched_apply (rd1 (Ix := Ix) (Name := Name) (U := U) (Lvl := Lvl) a W 0 c) (7 : Fin 18) (fun _ _ => rfl) t d z
  refine h'.trans ?_
  refine congrArg (at0 (W c) main_v87) ?_
  funext b
  apply Fin.ext
  refine (Window.rect_emb_val ((pin (pcfgs (F := F)) a 0).win (7 : Fin 18)) t y' b rfl).trans ?_
  match b with
  | 0 =>
    have e : ((pin (pcfgs (F := F)) a 0).win (7 : Fin 18)).index t 0 = ((a 0).1 1 ((Rect.unit (s := S2048) (k1_off1 (grid1.coords t) (BitVec.ofNat 32 (7 : Fin 8).val)) S1.size (k1_off1_inb (grid1.coords t) 7)).emb
      (Shape.Idx.first (numel1_S1.symm ▸ Nat.one_pos))) : BitVec 32).toNat := rfl
    have hy0 : (y' 0).val = 0 := by have := hy' 0; have := (z 0).isLt; change (z 0).val < 1 at this; omega
    rw [e, tab1_1 c hT t 7 r hr, hy0, h0]
    show _ * 1 + 0 = _
    omega
  | 1 =>
    have e : ((pin (pcfgs (F := F)) a 0).win (7 : Fin 18)).index t 1 = 0 := rfl
    rw [e, h1]
    exact (Nat.zero_mul _ ▸ Nat.zero_add _).trans (hy' 1)
  | 2 =>
    have e : ((pin (pcfgs (F := F)) a 0).win (7 : Fin 18)).index t 2 = 0 := rfl
    rw [e, h2]
    exact (Nat.zero_mul _ ▸ Nat.zero_add _).trans (hy' 2)

theorem row1_8 (c : Dev nD) (hT : ∀ k, (a 0).1 k = W c (Proc.devRef .tc (pre1.ref k))) (t : Fin grid1.N) (X)
    (h : (rd1 (Ix := Ix) (Name := Name) (U := U) (Lvl := Lvl) a W 0 c).Finds (8 : Fin 18) t X) (r : S2048.Idx) (hr : (r 0).val = 8 * t.val + 0)
    (z : S1x8x1024.Idx) (z' : S2048x8x1024.Idx) (h0 : (z' 0).val = (at0 (W c) main_v25 r : BitVec 32).toNat) (h1 : z' 1 = z 1) (h2 : z' 2 = z 2) :
    X z = at0 (W c) main_v0 z' := by
  obtain ⟨d, rfl⟩ := RDat.finds_in_eq_fetched (rd1 (Ix := Ix) (Name := Name) (U := U) (Lvl := Lvl) a W 0 c) (8 : Fin 18) rfl (fun _ _ _ => rfl) (fun t Y X hX => hX.1 rfl) t X h
  obtain ⟨y', hy', h'⟩ := fetched_apply (rd1 (Ix := Ix) (Name := Name) (U := U) (Lvl := Lvl) a W 0 c) (8 : Fin 18) (fun _ _ => rfl) t d z
  refine h'.trans ?_
  refine congrArg (at0 (W c) main_v0) ?_
  funext b
  apply Fin.ext
  refine (Window.rect_emb_val ((pin (pcfgs (F := F)) a 0).win (8 : Fin 18)) t y' b rfl).trans ?_
  match b with
  | 0 =>
    have e : ((pin (pcfgs (F := F)) a 0).win (8 : Fin 18)).index t 0 = ((a 0).1 0 ((Rect.unit (s := S2048) (k1_off1 (grid1.coords t) (BitVec.ofNat 32 (0 : Fin 8).val)) S1.size (k1_off1_inb (grid1.coords t) 0)).emb
      (Shape.Idx.first (numel1_S1.symm ▸ Nat.one_pos))) : BitVec 32).toNat := rfl
    have hy0 : (y' 0).val = 0 := by have := hy' 0; have := (z 0).isLt; change (z 0).val < 1 at this; omega
    rw [e, tab1_0 c hT t 0 r hr, hy0, h0]
    show _ * 1 + 0 = _
    omega
  | 1 =>
    have e : ((pin (pcfgs (F := F)) a 0).win (8 : Fin 18)).index t 1 = 0 := rfl
    rw [e, h1]
    exact (Nat.zero_mul _ ▸ Nat.zero_add _).trans (hy' 1)
  | 2 =>
    have e : ((pin (pcfgs (F := F)) a 0).win (8 : Fin 18)).index t 2 = 0 := rfl
    rw [e, h2]
    exact (Nat.zero_mul _ ▸ Nat.zero_add _).trans (hy' 2)

theorem row1_9 (c : Dev nD) (hT : ∀ k, (a 0).1 k = W c (Proc.devRef .tc (pre1.ref k))) (t : Fin grid1.N) (X)
    (h : (rd1 (Ix := Ix) (Name := Name) (U := U) (Lvl := Lvl) a W 0 c).Finds (9 : Fin 18) t X) (r : S2048.Idx) (hr : (r 0).val = 8 * t.val + 1)
    (z : S1x8x1024.Idx) (z' : S2048x8x1024.Idx) (h0 : (z' 0).val = (at0 (W c) main_v25 r : BitVec 32).toNat) (h1 : z' 1 = z 1) (h2 : z' 2 = z 2) :
    X z = at0 (W c) main_v0 z' := by
  obtain ⟨d, rfl⟩ := RDat.finds_in_eq_fetched (rd1 (Ix := Ix) (Name := Name) (U := U) (Lvl := Lvl) a W 0 c) (9 : Fin 18) rfl (fun _ _ _ => rfl) (fun t Y X hX => hX.1 rfl) t X h
  obtain ⟨y', hy', h'⟩ := fetched_apply (rd1 (Ix := Ix) (Name := Name) (U := U) (Lvl := Lvl) a W 0 c) (9 : Fin 18) (fun _ _ => rfl) t d z
  refine h'.trans ?_
  refine congrArg (at0 (W c) main_v0) ?_
  funext b
  apply Fin.ext
  refine (Window.rect_emb_val ((pin (pcfgs (F := F)) a 0).win (9 : Fin 18)) t y' b rfl).trans ?_
  match b with
  | 0 =>
    have e : ((pin (pcfgs (F := F)) a 0).win (9 : Fin 18)).index t 0 = ((a 0).1 0 ((Rect.unit (s := S2048) (k1_off1 (grid1.coords t) (BitVec.ofNat 32 (1 : Fin 8).val)) S1.size (k1_off1_inb (grid1.coords t) 1)).emb
      (Shape.Idx.first (numel1_S1.symm ▸ Nat.one_pos))) : BitVec 32).toNat := rfl
    have hy0 : (y' 0).val = 0 := by have := hy' 0; have := (z 0).isLt; change (z 0).val < 1 at this; omega
    rw [e, tab1_0 c hT t 1 r hr, hy0, h0]
    show _ * 1 + 0 = _
    omega
  | 1 =>
    have e : ((pin (pcfgs (F := F)) a 0).win (9 : Fin 18)).index t 1 = 0 := rfl
    rw [e, h1]
    exact (Nat.zero_mul _ ▸ Nat.zero_add _).trans (hy' 1)
  | 2 =>
    have e : ((pin (pcfgs (F := F)) a 0).win (9 : Fin 18)).index t 2 = 0 := rfl
    rw [e, h2]
    exact (Nat.zero_mul _ ▸ Nat.zero_add _).trans (hy' 2)

theorem row1_10 (c : Dev nD) (hT : ∀ k, (a 0).1 k = W c (Proc.devRef .tc (pre1.ref k))) (t : Fin grid1.N) (X)
    (h : (rd1 (Ix := Ix) (Name := Name) (U := U) (Lvl := Lvl) a W 0 c).Finds (10 : Fin 18) t X) (r : S2048.Idx) (hr : (r 0).val = 8 * t.val + 2)
    (z : S1x8x1024.Idx) (z' : S2048x8x1024.Idx) (h0 : (z' 0).val = (at0 (W c) main_v25 r : BitVec 32).toNat) (h1 : z' 1 = z 1) (h2 : z' 2 = z 2) :
    X z = at0 (W c) main_v0 z' := by
  obtain ⟨d, rfl⟩ := RDat.finds_in_eq_fetched (rd1 (Ix := Ix) (Name := Name) (U := U) (Lvl := Lvl) a W 0 c) (10 : Fin 18) rfl (fun _ _ _ => rfl) (fun t Y X hX => hX.1 rfl) t X h
  obtain ⟨y', hy', h'⟩ := fetched_apply (rd1 (Ix := Ix) (Name := Name) (U := U) (Lvl := Lvl) a W 0 c) (10 : Fin 18) (fun _ _ => rfl) t d z
  refine h'.trans ?_
  refine congrArg (at0 (W c) main_v0) ?_
  funext b
  apply Fin.ext
  refine (Window.rect_emb_val ((pin (pcfgs (F := F)) a 0).win (10 : Fin 18)) t y' b rfl).trans ?_
  match b with
  | 0 =>
    have e : ((pin (pcfgs (F := F)) a 0).win (10 : Fin 18)).index t 0 = ((a 0).1 0 ((Rect.unit (s := S2048) (k1_off1 (grid1.coords t) (BitVec.ofNat 32 (2 : Fin 8).val)) S1.size (k1_off1_inb (grid1.coords t) 2)).emb
      (Shape.Idx.first (numel1_S1.symm ▸ Nat.one_pos))) : BitVec 32).toNat := rfl
    have hy0 : (y' 0).val = 0 := by have := hy' 0; have := (z 0).isLt; change (z 0).val < 1 at this; omega
    rw [e, tab1_0 c hT t 2 r hr, hy0, h0]
    show _ * 1 + 0 = _
    omega
  | 1 =>
    have e : ((pin (pcfgs (F := F)) a 0).win (10 : Fin 18)).index t 1 = 0 := rfl
    rw [e, h1]
    exact (Nat.zero_mul _ ▸ Nat.zero_add _).trans (hy' 1)
  | 2 =>
    have e : ((pin (pcfgs (F := F)) a 0).win (10 : Fin 18)).index t 2 = 0 := rfl
    rw [e, h2]
    exact (Nat.zero_mul _ ▸ Nat.zero_add _).trans (hy' 2)

theorem row1_11 (c : Dev nD) (hT : ∀ k, (a 0).1 k = W c (Proc.devRef .tc (pre1.ref k))) (t : Fin grid1.N) (X)
    (h : (rd1 (Ix := Ix) (Name := Name) (U := U) (Lvl := Lvl) a W 0 c).Finds (11 : Fin 18) t X) (r : S2048.Idx) (hr : (r 0).val = 8 * t.val + 3)
    (z : S1x8x1024.Idx) (z' : S2048x8x1024.Idx) (h0 : (z' 0).val = (at0 (W c) main_v25 r : BitVec 32).toNat) (h1 : z' 1 = z 1) (h2 : z' 2 = z 2) :
    X z = at0 (W c) main_v0 z' := by
  obtain ⟨d, rfl⟩ := RDat.finds_in_eq_fetched (rd1 (Ix := Ix) (Name := Name) (U := U) (Lvl := Lvl) a W 0 c) (11 : Fin 18) rfl (fun _ _ _ => rfl) (fun t Y X hX => hX.1 rfl) t X h
  obtain ⟨y', hy', h'⟩ := fetched_apply (rd1 (Ix := Ix) (Name := Name) (U := U) (Lvl := Lvl) a W 0 c) (11 : Fin 18) (fun _ _ => rfl) t d z
  refine h'.trans ?_
  refine congrArg (at0 (W c) main_v0) ?_
  funext b
  apply Fin.ext
  refine (Window.rect_emb_val ((pin (pcfgs (F := F)) a 0).win (11 : Fin 18)) t y' b rfl).trans ?_
  match b with
  | 0 =>
    have e : ((pin (pcfgs (F := F)) a 0).win (11 : Fin 18)).index t 0 = ((a 0).1 0 ((Rect.unit (s := S2048) (k1_off1 (grid1.coords t) (BitVec.ofNat 32 (3 : Fin 8).val)) S1.size (k1_off1_inb (grid1.coords t) 3)).emb
      (Shape.Idx.first (numel1_S1.symm ▸ Nat.one_pos))) : BitVec 32).toNat := rfl
    have hy0 : (y' 0).val = 0 := by have := hy' 0; have := (z 0).isLt; change (z 0).val < 1 at this; omega
    rw [e, tab1_0 c hT t 3 r hr, hy0, h0]
    show _ * 1 + 0 = _
    omega
  | 1 =>
    have e : ((pin (pcfgs (F := F)) a 0).win (11 : Fin 18)).index t 1 = 0 := rfl
    rw [e, h1]
    exact (Nat.zero_mul _ ▸ Nat.zero_add _).trans (hy' 1)
  | 2 =>
    have e : ((pin (pcfgs (F := F)) a 0).win (11 : Fin 18)).index t 2 = 0 := rfl
    rw [e, h2]
    exact (Nat.zero_mul _ ▸ Nat.zero_add _).trans (hy' 2)

theorem row1_12 (c : Dev nD) (hT : ∀ k, (a 0).1 k = W c (Proc.devRef .tc (pre1.ref k))) (t : Fin grid1.N) (X)
    (h : (rd1 (Ix := Ix) (Name := Name) (U := U) (Lvl := Lvl) a W 0 c).Finds (12 : Fin 18) t X) (r : S2048.Idx) (hr : (r 0).val = 8 * t.val + 4)
    (z : S1x8x1024.Idx) (z' : S2048x8x1024.Idx) (h0 : (z' 0).val = (at0 (W c) main_v25 r : BitVec 32).toNat) (h1 : z' 1 = z 1) (h2 : z' 2 = z 2) :
    X z = at0 (W c) main_v0 z' := by
  obtain ⟨d, rfl⟩ := RDat.finds_in_eq_fetched (rd1 (Ix := Ix) (Name := Name) (U := U) (Lvl := Lvl) a W 0 c) (12 : Fin 18) rfl (fun _ _ _ => rfl) (fun t Y X hX => hX.1 rfl) t X h
  obtain ⟨y', hy', h'⟩ := fetched_apply (rd1 (Ix := Ix) (Name := Name) (U := U) (Lvl := Lvl) a W 0 c) (12 : Fin 18) (fun _ _ => rfl) t d z
  refine h'.trans ?_
  refine congrArg (at0 (W c) main_v0) ?_
  funext b
  apply Fin.ext
  refine (Window.rect_emb_val ((pin (pcfgs (F := F)) a 0).win (12 : Fin 18)) t y' b rfl).trans ?_
  match b with
  | 0 =>
    have e : ((pin (pcfgs (F := F)) a 0).win (12 : Fin 18)).index t 0 = ((a 0).1 0 ((Rect.unit (s := S2048) (k1_off1 (grid1.coords t) (BitVec.ofNat 32 (4 : Fin 8).val)) S1.size (k1_off1_inb (grid1.coords t) 4)).emb
      (Shape.Idx.first (numel1_S1.symm ▸ Nat.one_pos))) : BitVec 32).toNat := rfl
    have hy0 : (y' 0).val = 0 := by have := hy' 0; have := (z 0).isLt; change (z 0).val < 1 at this; omega
    rw [e, tab1_0 c hT t 4 r hr, hy0, h0]
    show _ * 1 + 0 = _
    omega
  | 1 =>
    have e : ((pin (pcfgs (F := F)) a 0).win (12 : Fin 18)).index t 1 = 0 := rfl
    rw [e, h1]
    exact (Nat.zero_mul _ ▸ Nat.zero_add _).trans (hy' 1)
  | 2 =>
    have e : ((pin (pcfgs (F := F)) a 0).win (12 : Fin 18)).index t 2 = 0 := rfl
    rw [e, h2]
    exact (Nat.zero_mul _ ▸ Nat.zero_add _).trans (hy' 2)

theorem row1_13 (c : Dev nD) (hT : ∀ k, (a 0).1 k = W c (Proc.devRef .tc (pre1.ref k))) (t : Fin grid1.N) (X)
    (h : (rd1 (Ix := Ix) (Name := Name) (U := U) (Lvl := Lvl) a W 0 c).Finds (13 : Fin 18) t X) (r : S2048.Idx) (hr : (r 0).val = 8 * t.val + 5)
    (z : S1x8x1024.Idx) (z' : S2048x8x1024.Idx) (h0 : (z' 0).val = (at0 (W c) main_v25 r : BitVec 32).toNat) (h1 : z' 1 = z 1) (h2 : z' 2 = z 2) :
    X z = at0 (W c) main_v0 z' := by
  obtain ⟨d, rfl⟩ := RDat.finds_in_eq_fetched (rd1 (Ix := Ix) (Name := Name) (U := U) (Lvl := Lvl) a W 0 c) (13 : Fin 18) rfl (fun _ _ _ => rfl) (fun t Y X hX => hX.1 rfl) t X h
  obtain ⟨y', hy', h'⟩ := fetched_apply (rd1 (Ix := Ix) (Name := Name) (U := U) (Lvl := Lvl) a W 0 c) (13 : Fin 18) (fun _ _ => rfl) t d z
  refine h'.trans ?_
  refine congrArg (at0 (W c) main_v0) ?_
  funext b
  apply Fin.ext
  refine (Window.rect_emb_val ((pin (pcfgs (F := F)) a 0).win (13 : Fin 18)) t y' b rfl).trans ?_
  match b with
  | 0 =>
    have e : ((pin (pcfgs (F := F)) a 0).win (13 : Fin 18)).index t 0 = ((a 0).1 0 ((Rect.unit (s := S2048) (k1_off1 (grid1.coords t) (BitVec.ofNat 32 (5 : Fin 8).val)) S1.size (k1_off1_inb (grid1.coords t) 5)).emb
      (Shape.Idx.first (numel1_S1.symm ▸ Nat.one_pos))) : BitVec 32).toNat := rfl
    have hy0 : (y' 0).val = 0 := by have := hy' 0; have := (z 0).isLt; change (z 0).val < 1 at this; omega
    rw [e, tab1_0 c hT t 5 r hr, hy0, h0]
    show _ * 1 + 0 = _
    omega
  | 1 =>
    have e : ((pin (pcfgs (F := F)) a 0).win (13 : Fin 18)).index t 1 = 0 := rfl
    rw [e, h1]
    exact (Nat.zero_mul _ ▸ Nat.zero_add _).trans (hy' 1)
  | 2 =>
    have e : ((pin (pcfgs (F := F)) a 0).win (13 : Fin 18)).index t 2 = 0 := rfl
    rw [e, h2]
    exact (Nat.zero_mul _ ▸ Nat.zero_add _).trans (hy' 2)

theorem row1_14 (c : Dev nD) (hT : ∀ k, (a 0).1 k = W c (Proc.devRef .tc (pre1.ref k))) (t : Fin grid1.N) (X)
    (h : (rd1 (Ix := Ix) (Name := Name) (U := U) (Lvl := Lvl) a W 0 c).Finds (14 : Fin 18) t X) (r : S2048.Idx) (hr : (r 0).val = 8 * t.val + 6)
    (z : S1x8x1024.Idx) (z' : S2048x8x1024.Idx) (h0 : (z' 0).val = (at0 (W c) main_v25 r : BitVec 32).toNat) (h1 : z' 1 = z 1) (h2 : z' 2 = z 2) :
    X z = at0 (W c) main_v0 z' := by
  obtain ⟨d, rfl⟩ := RDat.finds_in_eq_fetched (rd1 (Ix := Ix) (Name := Name) (U := U) (Lvl := Lvl) a W 0 c) (14 : Fin 18) rfl (fun _ _ _ => rfl) (fun t Y X hX => hX.1 rfl) t X h
  obtain ⟨y', hy', h'⟩ := fetched_apply (rd1 (Ix := Ix) (Name := Name) (U := U) (Lvl := Lvl) a W 0 c) (14 : Fin 18) (fun _ _ => rfl) t d z
  refine h'.trans ?_
  refine congrArg (at0 (W c) main_v0) ?_
  funext b
  apply Fin.ext
  refine (Window.rect_emb_val ((pin (pcfgs (F := F)) a 0).win (14 : Fin 18)) t y' b rfl).trans ?_
  match b with
  | 0 =>
    have e : ((pin (pcfgs (F := F)) a 0).win (14 : Fin 18)).index t 0 = ((a 0).1 0 ((Rect.unit (s := S2048) (k1_off1 (grid1.coords t) (BitVec.ofNat 32 (6 : Fin 8).val)) S1.size (k1_off1_inb (grid1.coords t) 6)).emb
      (Shape.Idx.first (numel1_S1.symm ▸ Nat.one_pos))) : BitVec 32).toNat := rfl
    have hy0 : (y' 0).val = 0 := by have := hy' 0; have := (z 0).isLt; change (z 0).val < 1 at this; omega
    rw [e, tab1_0 c hT t 6 r hr, hy0, h0]
    show _ * 1 + 0 = _
    omega
  | 1 =>
    have e : ((pin (pcfgs (F := F)) a 0).win (14 : Fin 18)).index t 1 = 0 := rfl
    rw [e, h1]
    exact (Nat.zero_mul _ ▸ Nat.zero_add _).trans (hy' 1)
  | 2 =>
    have e : ((pin (pcfgs (F := F)) a 0).win (14 : Fin 18)).index t 2 = 0 := rfl
    rw [e, h2]
    exact (Nat.zero_mul _ ▸ Nat.zero_add _).trans (hy' 2)

theorem row1_15 (c : Dev nD) (hT : ∀ k, (a 0).1 k = W c (Proc.devRef .tc (pre1.ref k))) (t : Fin grid1.N) (X)
    (h : (rd1 (Ix := Ix) (Name := Name) (U := U) (Lvl := Lvl) a W 0 c).Finds (15 : Fin 18) t X) (r : S2048.Idx) (hr : (r 0).val = 8 * t.val + 7)
    (z : S1x8x1024.Idx) (z' : S2048x8x1024.Idx) (h0 : (z' 0).val = (at0 (W c) main_v25 r : BitVec 32).toNat) (h1 : z' 1 = z 1) (h2 : z' 2 = z 2) :
    X z = at0 (W c) main_v0 z' := by
  obtain ⟨d, rfl⟩ := RDat.finds_in_eq_fetched (rd1 (Ix := Ix) (Name := Name) (U := U) (Lvl := Lvl) a W 0 c) (15 : Fin 18) rfl (fun _ _ _ => rfl) (fun t Y X hX => hX.1 rfl) t X h
  obtain ⟨y', hy', h'⟩ := fetched_apply (rd1 (Ix := Ix) (Name := Name) (U := U) (Lvl := Lvl) a W 0 c) (15 : Fin 18) (fun _ _ => rfl) t d z
  refine h'.trans ?_
  refine congrArg (at0 (W c) main_v0) ?_
  funext b
  apply Fin.ext
  refine (Window.rect_emb_val ((pin (pcfgs (F := F)) a 0).win (15 : Fin 18)) t y' b rfl).trans ?_
  match b with
  | 0 =>
    have e : ((pin (pcfgs (F := F)) a 0).win (15 : Fin 18)).index t 0 = ((a 0).1 0 ((Rect.unit (s := S2048) (k1_off1 (grid1.coords t) (BitVec.ofNat 32 (7 : Fin 8).val)) S1.size (k1_off1_inb (grid1.coords t) 7)).emb
      (Shape.Idx.first (numel1_S1.symm ▸ Nat.one_pos))) : BitVec 32).toNat := rfl
    have hy0 : (y' 0).val = 0 := by have := hy' 0; have := (z 0).isLt; change (z 0).val < 1 at this; omega
    rw [e, tab1_0 c hT t 7 r hr, hy0, h0]
    show _ * 1 + 0 = _
    omega
  | 1 =>
    have e : ((pin (pcfgs (F := F)) a 0).win (15 : Fin 18)).index t 1 = 0 := rfl
    rw [e, h1]
    exact (Nat.zero_mul _ ▸ Nat.zero_add _).trans (hy' 1)
  | 2 =>
    have e : ((pin (pcfgs (F := F)) a 0).win (15 : Fin 18)).index t 2 = 0 := rfl
    rw [e, h2]
    exact (Nat.zero_mul _ ▸ Nat.zero_add _).trans (hy' 2)

theorem row1_16 (c : Dev nD) (t : Fin grid1.N) (X) (h : (rd1 (Ix := Ix) (Name := Name) (U := U) (Lvl := Lvl) a W 0 c).Finds (16 : Fin 18) t X) : X = at0 (W c) main_v85 := by
  obtain ⟨d, rfl⟩ := RDat.finds_in_eq_fetched (rd1 (Ix := Ix) (Name := Name) (U := U) (Lvl := Lvl) a W 0 c) (16 : Fin 18) rfl (fun _ _ _ => rfl) (fun t Y X hX => hX.1 rfl) t X h
  funext z
  obtain ⟨y', hy', h'⟩ := fetched_apply (rd1 (Ix := Ix) (Name := Name) (U := U) (Lvl := Lvl) a W 0 c) (16 : Fin 18) (fun _ _ => rfl) t d z
  refine h'.trans ?_
  refine congrArg (at0 (W c) main_v85) ?_
  funext b
  apply Fin.ext
  refine (Window.rect_emb_val ((pin (pcfgs (F := F)) a 0).win (16 : Fin 18)) t y' b rfl).trans ?_
  have e : ((pin (pcfgs (F := F)) a 0).win (16 : Fin 18)).index t b = 0 := by
    match b with
    | 0 => rfl
    | 1 => rfl
    | 2 => rfl
  rw [e]
  exact (Nat.zero_mul _ ▸ Nat.zero_add _).trans (hy' b)

end Region1

end Cert.KernelIdeal.Smooth

end
-- ==== Proof.Region1Ideal.lean ====
/-
  The forward call's region: every row of the output that is one of the rows to sample ends at the position of the greatest of
  that row's numbers, the numbers taken from the transition matrix's row and the noise's row that the tables name.
-/
module

public import proofs.«01_k».proof.Proof.Rows1Ideal
public import proofs.«01_k».proof.Proof.Gen.KernelIdeal.Launch
public import Idealize.ShloMosaic.Lib.Pipeline.ArrRel

@[expose] public section

set_option maxRecDepth 8192

noncomputable section

namespace Cert.KernelIdeal.Smooth

open Cert.KernelIdeal Cert.KernelIdeal.Gen Cert.Smooth

open Idealize.ShloMosaic Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

section Region1

variable {a : (p : Fin 2) → (pcfgs (F := F) p).Adm} {W : Dev nD → Valuation τ sig (Elt F)}

/-- A row the body left is a row of `FwdRow`. -/
theorem rel1_of (c : Dev nD) (hT : ∀ k, (a 0).1 k = W c (Proc.devRef .tc (pre1.ref k))) (t : Fin grid1.N)
    (Y : (w : Fin 18) → (spec1 w).block.Idx → Elt F (spec1 w).elt) (hY : ∀ w : Fin 18, (rd1 (Ix := Ix) (Name := Name) (U := U) (Lvl := Lvl) a W 0 c).Finds w t (Y w)) (Z : S8x128.Idx → Elt F .i32)
    (h : FwdRel (grid1.coords t) ((a 0).1 2) ((a 0).1 3) (fun | 0 => Y 0 | 1 => Y 1 | 2 => Y 2 | 3 => Y 3 | 4 => Y 4 | 5 => Y 5 | 6 => Y 6 | 7 => Y 7)
      (fun | 0 => Y 8 | 1 => Y 9 | 2 => Y 10 | 3 => Y 11 | 4 => Y 12 | 5 => Y 13 | 6 => Y 14 | 7 => Y 15) (Y 16) Z) : relFwd (W c) t.val Z := by
  intro y r hr hlt hle
  have h3 : (a 0).1 3 (Shape.Idx.first (s := S1) (numel1_S1.symm ▸ Nat.one_pos)) = nFwd (W c) := by rw [hT 3]; rfl
  have hl : live1 (grid1.coords t) (BitVec.ofNat 32 ((y 0 : Fin 8)).val) ((a 0).1 3 (Shape.Idx.first (s := S1) (numel1_S1.symm ▸ Nat.one_pos))) = 1#1 := by
    rw [h3]
    exact live1_of _ (y 0) _ hle (by rw [coords1]; exact hlt)
  obtain ⟨x, hx⟩ := h (y 0) hl y rfl
  rw [hx, row1_16 c t _ (hY 16)]
  have hP := tab1_2 c hT t (y 0) r hr
  refine ⟨x, _, _, ?_, ?_, congrArg (fun p => k1_pay6 _ p _ _ x) hP⟩
  · exact fun z z' h0 h1 h2 => (fun (j : Fin 8) (hr : (r 0).val = 8 * t.val + j.val) => by
      match j, hr with
      | 0, hr => exact row1_0 c hT t _ (hY 0) r hr z z' h0 h1 h2
      | 1, hr => exact row1_1 c hT t _ (hY 1) r hr z z' h0 h1 h2
      | 2, hr => exact row1_2 c hT t _ (hY 2) r hr z z' h0 h1 h2
      | 3, hr => exact row1_3 c hT t _ (hY 3) r hr z z' h0 h1 h2
      | 4, hr => exact row1_4 c hT t _ (hY 4) r hr z z' h0 h1 h2
      | 5, hr => exact row1_5 c hT t _ (hY 5) r hr z z' h0 h1 h2
      | 6, hr => exact row1_6 c hT t _ (hY 6) r hr z z' h0 h1 h2
      | 7, hr => exact row1_7 c hT t _ (hY 7) r hr z z' h0 h1 h2
      : ∀ j : Fin 8, (r 0).val = 8 * t.val + j.val → (match j with | 0 => Y 0 | 1 => Y 1 | 2 => Y 2 | 3 => Y 3 | 4 => Y 4 | 5 => Y 5 | 6 => Y 6 | 7 => Y 7 : S1x1x8192.Idx → Elt F .f32) z = at0 (W c) main_v87 z') (y 0) hr
  · exact fun z z' h0 h1 h2 => (fun (j : Fin 8) (hr : (r 0).val = 8 * t.val + j.val) => by
      match j, hr with
      | 0, hr => exact row1_8 c hT t _ (hY 8) r hr z z' h0 h1 h2
      | 1, hr => exact row1_9 c hT t _ (hY 9) r hr z z' h0 h1 h2
      | 2, hr => exact row1_10 c hT t _ (hY 10) r hr z z' h0 h1 h2
      | 3, hr => exact row1_11 c hT t _ (hY 11) r hr z z' h0 h1 h2
      | 4, hr => exact row1_12 c hT t _ (hY 12) r hr z z' h0 h1 h2
      | 5, hr => exact row1_13 c hT t _ (hY 13) r hr z z' h0 h1 h2
      | 6, hr => exact row1_14 c hT t _ (hY 14) r hr z z' h0 h1 h2
      | 7, hr => exact row1_15 c hT t _ (hY 15) r hr z z' h0 h1 h2
      : ∀ j : Fin 8, (r 0).val = 8 * t.val + j.val → (match j with | 0 => Y 8 | 1 => Y 9 | 2 => Y 10 | 3 => Y 11 | 4 => Y 12 | 5 => Y 13 | 6 => Y 14 | 7 => Y 15 : S1x8x1024.Idx → Elt F .f32) z = at0 (W c) main_v0 z') (y 0) hr

/-- A triple used under a larger resource, the rest handed on. -/
theorem wp_use {defs : Defs nD τ sig (Elt F) Λ₀} {𝒱 : Variants} {thr : Thread nD τ} {bd : Option 𝒱.V} {E : Set Name} {α : Type} {p : Prog (TpuEff nD τ sig (Elt F) Λ₀ thr.2) α}
    {P G R : sProp 𝕄} {Q Q' : α → sProp 𝕄} (key : P ⊢ wp frame (wpE defs 𝒱 thr bd) E p Q) (pre : G ⊢ iprop(P ∗ R)) (post : ∀ x, iprop(Q x ∗ R) ⊢ Q' x) :
    G ⊢ wp frame (wpE defs 𝒱 thr bd) E p Q' :=
  pre.trans ((sep_mono_l key).trans ((wp_frame_r frame _ _).trans (wp_mono frame _ _ post)))

set_option maxHeartbeats 2000000 in
theorem body1 (𝒱 : Variants) (ι : Ix) (c : Dev nD) (hT : ∀ k, (a 0).1 k = W c (Proc.devRef .tc (pre1.ref k))) :
    (rd1 (Ix := Ix) (Name := Name) (U := U) (Lvl := Lvl) a W 0 c).BodyObligation defs₀ 𝒱 ι Set.univ := by
  intro t Y hY
  let sl := (pin (pcfgs (F := F)) a 0).slots t
  have key := wp_fwd (Ix := Ix) (Name := Name) (U := U) (Lvl := Lvl) (F := F) (defs := defs₀) 𝒱 c none Set.univ (grid1.coords t) (Memref.whole main_v25) (Memref.isWhole_whole _) (Memref.whole main_v43) (Memref.isWhole_whole _) (Memref.whole main_v33) (Memref.isWhole_whole _) (Memref.whole main_v88) (Memref.isWhole_whole _) (spec1_0.stage (sl (0 : Fin 18))) (hstage1_0 ((sl (0 : Fin 18)).cast nbuf1_0)) (spec1_1.stage (sl (1 : Fin 18))) (hstage1_1 ((sl (1 : Fin 18)).cast nbuf1_1)) (spec1_2.stage (sl (2 : Fin 18))) (hstage1_2 ((sl (2 : Fin 18)).cast nbuf1_2)) (spec1_3.stage (sl (3 : Fin 18))) (hstage1_3 ((sl (3 : Fin 18)).cast nbuf1_3)) (spec1_4.stage (sl (4 : Fin 18))) (hstage1_4 ((sl (4 : Fin 18)).cast nbuf1_4)) (spec1_5.stage (sl (5 : Fin 18))) (hstage1_5 ((sl (5 : Fin 18)).cast nbuf1_5)) (spec1_6.stage (sl (6 : Fin 18))) (hstage1_6 ((sl (6 : Fin 18)).cast nbuf1_6)) (spec1_7.stage (sl (7 : Fin 18))) (hstage1_7 ((sl (7 : Fin 18)).cast nbuf1_7)) (spec1_8.stage (sl (8 : Fin 18))) (hstage1_8 ((sl (8 : Fin 18)).cast nbuf1_8)) (spec1_9.stage (sl (9 : Fin 18))) (hstage1_9 ((sl (9 : Fin 18)).cast nbuf1_9)) (spec1_10.stage (sl (10 : Fin 18))) (hstage1_10 ((sl (10 : Fin 18)).cast nbuf1_10)) (spec1_11.stage (sl (11 : Fin 18))) (hstage1_11 ((sl (11 : Fin 18)).cast nbuf1_11)) (spec1_12.stage (sl (12 : Fin 18))) (hstage1_12 ((sl (12 : Fin 18)).cast nbuf1_12)) (spec1_13.stage (sl (13 : Fin 18))) (hstage1_13 ((sl (13 : Fin 18)).cast nbuf1_13)) (spec1_14.stage (sl (14 : Fin 18))) (hstage1_14 ((sl (14 : Fin 18)).cast nbuf1_14)) (spec1_15.stage (sl (15 : Fin 18))) (hstage1_15 ((sl (15 : Fin 18)).cast nbuf1_15)) (spec1_16.stage (sl (16 : Fin 18))) (hstage1_16 ((sl (16 : Fin 18)).cast nbuf1_16)) (spec1_17.stage (sl (17 : Fin 18))) (hstage1_17 ((sl (17 : Fin 18)).cast nbuf1_17))
    fullShare fullShare ((a 0).1 2) ((a 0).1 3) (fun | 0 => Y (0 : Fin 18) | 1 => Y (1 : Fin 18) | 2 => Y (2 : Fin 18) | 3 => Y (3 : Fin 18) | 4 => Y (4 : Fin 18) | 5 => Y (5 : Fin 18) | 6 => Y (6 : Fin 18) | 7 => Y (7 : Fin 18))
      (fun | 0 => Y (8 : Fin 18) | 1 => Y (9 : Fin 18) | 2 => Y (10 : Fin 18) | 3 => Y (11 : Fin 18) | 4 => Y (12 : Fin 18) | 5 => Y (13 : Fin 18) | 6 => Y (14 : Fin 18) | 7 => Y (15 : Fin 18)) (Y (16 : Fin 18)) (Y (17 : Fin 18))
  rw [bigSep_W1]
  have hprog : (defs₀ (F := F)) Proc.tc (pin (pcfgs (F := F)) a 0).body ((pin (pcfgs (F := F)) a 0).bodyArgs t ((pin (pcfgs (F := F)) a 0).slots t)) = cc1__fwd_body (F := F) (grid1.coords t) (Memref.whole main_v25) (Memref.isWhole_whole _) (Memref.whole main_v43) (Memref.isWhole_whole _) (Memref.whole main_v33) (Memref.isWhole_whole _) (Memref.whole main_v88) (Memref.isWhole_whole _) (spec1_0.stage (sl (0 : Fin 18))) (hstage1_0 ((sl (0 : Fin 18)).cast nbuf1_0)) (spec1_1.stage (sl (1 : Fin 18))) (hstage1_1 ((sl (1 : Fin 18)).cast nbuf1_1)) (spec1_2.stage (sl (2 : Fin 18))) (hstage1_2 ((sl (2 : Fin 18)).cast nbuf1_2)) (spec1_3.stage (sl (3 : Fin 18))) (hstage1_3 ((sl (3 : Fin 18)).cast nbuf1_3)) (spec1_4.stage (sl (4 : Fin 18))) (hstage1_4 ((sl (4 : Fin 18)).cast nbuf1_4)) (spec1_5.stage (sl (5 : Fin 18))) (hstage1_5 ((sl (5 : Fin 18)).cast nbuf1_5)) (spec1_6.stage (sl (6 : Fin 18))) (hstage1_6 ((sl (6 : Fin 18)).cast nbuf1_6)) (spec1_7.stage (sl (7 : Fin 18))) (hstage1_7 ((sl (7 : Fin 18)).cast nbuf1_7)) (spec1_8.stage (sl (8 : Fin 18))) (hstage1_8 ((sl (8 : Fin 18)).cast nbuf1_8)) (spec1_9.stage (sl (9 : Fin 18))) (hstage1_9 ((sl (9 : Fin 18)).cast nbuf1_9)) (spec1_10.stage (sl (10 : Fin 18))) (hstage1_10 ((sl (10 : Fin 18)).cast nbuf1_10)) (spec1_11.stage (sl (11 : Fin 18))) (hstage1_11 ((sl (11 : Fin 18)).cast nbuf1_11)) (spec1_12.stage (sl (12 : Fin 18))) (hstage1_12 ((sl (12 : Fin 18)).cast nbuf1_12)) (spec1_13.stage (sl (13 : Fin 18))) (hstage1_13 ((sl (13 : Fin 18)).cast nbuf1_13)) (spec1_14.stage (sl (14 : Fin 18))) (hstage1_14 ((sl (14 : Fin 18)).cast nbuf1_14)) (spec1_15.stage (sl (15 : Fin 18))) (hstage1_15 ((sl (15 : Fin 18)).cast nbuf1_15)) (spec1_16.stage (sl (16 : Fin 18))) (hstage1_16 ((sl (16 : Fin 18)).cast nbuf1_16)) (spec1_17.stage (sl (17 : Fin 18))) (hstage1_17 ((sl (17 : Fin 18)).cast nbuf1_17)) := rfl
  rw [hprog]
  refine wp_use key (R := iprop(scopedRest (pin (pcfgs (F := F)) a 0).spec c ∗ (c.tc.loc main_v25 ↦{fullShare} (a 0).1 0) ∗ (c.tc.loc main_v43 ↦{fullShare} (a 0).1 1) ∗ (rd1 (Ix := Ix) (Name := Name) (U := U) (Lvl := Lvl) a W 0 c).owesAt ι t.castSucc)) ?_ fun _ => ?_
  · have hΦ : (rd1 (Ix := Ix) (Name := Name) (U := U) (Lvl := Lvl) a W 0 c).Φ t.castSucc = iprop(scopedRest (pin (pcfgs (F := F)) a 0).spec c ∗ (c.tc.loc main_v25 ↦{fullShare} (a 0).1 0) ∗ (c.tc.loc main_v43 ↦{fullShare} (a 0).1 1) ∗ (c.tc.loc main_v33 ↦{fullShare} (a 0).1 2) ∗ (c.tc.loc main_v88 ↦{fullShare} (a 0).1 3)) :=
      congrArg (fun T => iprop(scopedRest (pin (pcfgs (F := F)) a 0).spec c ∗ T)) (bigSep_univ_eq_bigSepL [(0 : Fin 4), (1 : Fin 4), (2 : Fin 4), (3 : Fin 4)] (by decide) (by decide) _)
    rw [hΦ]
    iintro ⟨⟨Hs, T0, T1, T2, T3⟩, HO, H0, H1, H2, H3, H4, H5, H6, H7, H8, H9, H10, H11, H12, H13, H14, H15, H16, H17⟩
    isplitr [Hs T0 T1 HO]
    · isplitl [T2]; · iapply (Entails.of_eq (owns_whole c.tc main_v33 fullShare ((a 0).1 2)).symm); iexact T2
      isplitl [T3]; · iapply (Entails.of_eq (owns_whole c.tc main_v88 fullShare ((a 0).1 3)).symm); iexact T3
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      iexact H17
    · isplitl [Hs]; · iexact Hs
      isplitl [T0]; · iexact T0
      isplitl [T1]; · iexact T1
      iexact HO
  · have hΦ : (rd1 (Ix := Ix) (Name := Name) (U := U) (Lvl := Lvl) a W 0 c).Φ t.succ = iprop(scopedRest (pin (pcfgs (F := F)) a 0).spec c ∗ (c.tc.loc main_v25 ↦{fullShare} (a 0).1 0) ∗ (c.tc.loc main_v43 ↦{fullShare} (a 0).1 1) ∗ (c.tc.loc main_v33 ↦{fullShare} (a 0).1 2) ∗ (c.tc.loc main_v88 ↦{fullShare} (a 0).1 3)) :=
      congrArg (fun T => iprop(scopedRest (pin (pcfgs (F := F)) a 0).spec c ∗ T)) (bigSep_univ_eq_bigSepL [(0 : Fin 4), (1 : Fin 4), (2 : Fin 4), (3 : Fin 4)] (by decide) (by decide) _)
    rw [hΦ, bigSep_W1]
    iintro ⟨⟨%Z', %hZ, ⟨K3, K4, H0, H1, H2, H3, H4, H5, H6, H7, H8, H9, H10, H11, H12, H13, H14, H15, H16⟩, H17⟩, Hs, T0, T1, HO⟩
    isplitl [Hs T0 T1 K3 K4]
    · isplitl [Hs]; · iexact Hs
      isplitl [T0]; · iexact T0
      isplitl [T1]; · iexact T1
      isplitl [K3]; · iapply (Entails.of_eq (owns_whole c.tc main_v33 fullShare ((a 0).1 2))); iexact K3
      iapply (Entails.of_eq (owns_whole c.tc main_v88 fullShare ((a 0).1 3))); iexact K4
    isplitl [HO]; · iexact HO
    isplitl [H0]
    · iexists (Y (0 : Fin 18)); isplitr
      · ipureintro; exact ⟨fun _ => rfl, fun h => absurd h (show ¬ ((0 : Fin 18) = 17) by decide)⟩
      iexact H0
    isplitl [H1]
    · iexists (Y (1 : Fin 18)); isplitr
      · ipureintro; exact ⟨fun _ => rfl, fun h => absurd h (show ¬ ((1 : Fin 18) = 17) by decide)⟩
      iexact H1
    isplitl [H2]
    · iexists (Y (2 : Fin 18)); isplitr
      · ipureintro; exact ⟨fun _ => rfl, fun h => absurd h (show ¬ ((2 : Fin 18) = 17) by decide)⟩
      iexact H2
    isplitl [H3]
    · iexists (Y (3 : Fin 18)); isplitr
      · ipureintro; exact ⟨fun _ => rfl, fun h => absurd h (show ¬ ((3 : Fin 18) = 17) by decide)⟩
      iexact H3
    isplitl [H4]
    · iexists (Y (4 : Fin 18)); isplitr
      · ipureintro; exact ⟨fun _ => rfl, fun h => absurd h (show ¬ ((4 : Fin 18) = 17) by decide)⟩
      iexact H4
    isplitl [H5]
    · iexists (Y (5 : Fin 18)); isplitr
      · ipureintro; exact ⟨fun _ => rfl, fun h => absurd h (show ¬ ((5 : Fin 18) = 17) by decide)⟩
      iexact H5
    isplitl [H6]
    · iexists (Y (6 : Fin 18)); isplitr
      · ipureintro; exact ⟨fun _ => rfl, fun h => absurd h (show ¬ ((6 : Fin 18) = 17) by decide)⟩
      iexact H6
    isplitl [H7]
    · iexists (Y (7 : Fin 18)); isplitr
      · ipureintro; exact ⟨fun _ => rfl, fun h => absurd h (show ¬ ((7 : Fin 18) = 17) by decide)⟩
      iexact H7
    isplitl [H8]
    · iexists (Y (8 : Fin 18)); isplitr
      · ipureintro; exact ⟨fun _ => rfl, fun h => absurd h (show ¬ ((8 : Fin 18) = 17) by decide)⟩
      iexact H8
    isplitl [H9]
    · iexists (Y (9 : Fin 18)); isplitr
      · ipureintro; exact ⟨fun _ => rfl, fun h => absurd h (show ¬ ((9 : Fin 18) = 17) by decide)⟩
      iexact H9
    isplitl [H10]
    · iexists (Y (10 : Fin 18)); isplitr
      · ipureintro; exact ⟨fun _ => rfl, fun h => absurd h (show ¬ ((10 : Fin 18) = 17) by decide)⟩
      iexact H10
    isplitl [H11]
    · iexists (Y (11 : Fin 18)); isplitr
      · ipureintro; exact ⟨fun _ => rfl, fun h => absurd h (show ¬ ((11 : Fin 18) = 17) by decide)⟩
      iexact H11
    isplitl [H12]
    · iexists (Y (12 : Fin 18)); isplitr
      · ipureintro; exact ⟨fun _ => rfl, fun h => absurd h (show ¬ ((12 : Fin 18) = 17) by decide)⟩
      iexact H12
    isplitl [H13]
    · iexists (Y (13 : Fin 18)); isplitr
      · ipureintro; exact ⟨fun _ => rfl, fun h => absurd h (show ¬ ((13 : Fin 18) = 17) by decide)⟩
      iexact H13
    isplitl [H14]
    · iexists (Y (14 : Fin 18)); isplitr
      · ipureintro; exact ⟨fun _ => rfl, fun h => absurd h (show ¬ ((14 : Fin 18) = 17) by decide)⟩
      iexact H14
    isplitl [H15]
    · iexists (Y (15 : Fin 18)); isplitr
      · ipureintro; exact ⟨fun _ => rfl, fun h => absurd h (show ¬ ((15 : Fin 18) = 17) by decide)⟩
      iexact H15
    isplitl [H16]
    · iexists (Y (16 : Fin 18)); isplitr
      · ipureintro; exact ⟨fun _ => rfl, fun h => absurd h (show ¬ ((16 : Fin 18) = 17) by decide)⟩
      iexact H16
    iexists Z'; isplitr
    · ipureintro; exact ⟨fun h => absurd h (show ¬ (true = false) by decide), fun _ => rel1_of c hT t Y hY Z' hZ⟩
    iexact H17

/-- The output window's blocks, which no table names. -/
def outWin1 : Window sig grid1 :=
  Window.ofSpec (G := grid1) (Memref.whole main_v89) S8x128.size cc1_transform_17 reads1_17 true false 2 stage1_17 sem1_17 (by decide) hreads1_17 hinb1_17
    nbuf1_17 (Memref.isWhole_whole _) hwx1_17 hstage1_17

theorem covers1 : outWin1.Covers := by decide +kernel

/-- Every row to sample of the array the region leaves. -/
theorem out1 (c : Dev nD) (hT : ∀ k, (a 0).1 k = W c (Proc.devRef .tc (pre1.ref k))) (A' : S2048x128.Idx → Elt F .i32)
    (h : (rd1 (Ix := Ix) (Name := Name) (U := U) (Lvl := Lvl) a W 0 c).ArrAt (17 : Fin 18) (pin (pcfgs (F := F)) a 0).N A') (r : S2048.Idx) (y : S2048x128.Idx) (hy : (y 0).val = (r 0).val)
    (hlt : (r 0).val < (nFwd (W c)).toNat) (hle : (nFwd (W c)).toNat ≤ 2048) : FwdRow (W c) r (A' y) := by
  obtain ⟨X, hX, hA⟩ := RDat.ArrAt.exists_exact h
  have e := hA (Function.update (fun _ _ _ => Classical.arbitrary _) (17 : Fin 18) X) fun u _ _ => by rw [Function.update_self]
  rw [e]
  let P : S2048x128.Idx → BitVec 32 → Prop := fun i v => ∀ r : S2048.Idx, (i 0).val = (r 0).val → (r 0).val < (nFwd (W c)).toNat → FwdRow (W c) r v
  suffices hk : P y _ from hk r hy hlt
  refine Dat.arrAt_forall_of_covers ((rd1 (Ix := Ix) (Name := Name) (U := U) (Lvl := Lvl) a W 0 c).withAfter _) (17 : Fin 18) P
    covers1 (fun t hf z => ?_) y (Memref.isWhole_whole _)
  intro r hr hlt
  obtain ⟨Y, -, -, hrel⟩ := hX t t.isLt hf
  have hr' : (r 0).val = 8 * t.val + (z 0).val := by
    rw [← hr]
    refine (Window.rect_emb_val ((pin (pcfgs (F := F)) a 0).win (17 : Fin 18)) t z 0 rfl).trans ?_
    have e : ((pin (pcfgs (F := F)) a 0).win (17 : Fin 18)).index t 0 = (BitVec.ofNat 32 (grid1.coords t 0).val).toNat := rfl
    rw [e, coords1]
    have := lt_of_lt_of_eq t.isLt N_1
    rw [BitVec.toNat_ofNat, Nat.mod_eq_of_lt (by omega)]
    show _ * 8 + _ = _
    omega
  have := hrel rfl z r hr' (hr' ▸ hlt) hle
  rw [RDat.withAfter_after, Function.update_self]
  exact this

variable (a W)

/-- The forward call's region. -/
def seg1 (𝒱 : Variants) (ι : Ix) (L : GSem nD τ sig → Finset Ix) (lv : GSem nD τ sig → Ix → Lvl)
    (hT : ∀ c k, (a 0).1 k = W c (Proc.devRef .tc (pre1.ref k))) :
    RDat.RegionSeg (pcfgs (F := F)) a (rd1 (Ix := Ix) (Name := Name) (U := U) (Lvl := Lvl) a W) ι defs₀ 𝒱 L lv 0 :=
  seg (pcfgs (F := F)) a (rd1 (Ix := Ix) (Name := Name) (U := U) (Lvl := Lvl) a W) ι defs₀ 𝒱 L lv 0 launch₀1 W (17 : Fin 18) rfl
    (show ∀ w : Fin 18, w ≠ 17 → (spec1 w).isOut = false by decide) (show ∀ w : Fin 18, w ≠ 17 → arrRef spec1 w ≠ arrRef spec1 17 by decide)
    (fun _ _ => rfl) hT (fun _ _ => rfl) (fun _ _ => rfl) (fun _ _ => rfl) (fun _ => rfl) (fun c => body1 𝒱 ι c (hT c))

end Region1

end Cert.KernelIdeal.Smooth

end
-- ==== Proof.Rows2Ideal.lean ====
/-
  The backward call's windows at one point: what they fetch, and that every row of the output block that is one of the rows to sample ends at the position of the greatest of
  that row's numbers, the numbers taken from the transition matrix's row and the noise's row that the tables name.
-/
module

public import proofs.«01_k».proof.Proof.Rows1Ideal
public import proofs.«01_k».proof.Proof.Words
public import proofs.«01_k».proof.Proof.Gen.KernelIdeal.Launch
public import Idealize.ShloMosaic.Lib.Pipeline.ArrRel

@[expose] public section

set_option maxRecDepth 8192

noncomputable section

namespace Cert.KernelIdeal.Smooth

open Cert.KernelIdeal Cert.KernelIdeal.Gen Cert.Smooth

open Idealize.ShloMosaic Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-- What the backward call leaves of one row: the position of the greatest of the row's numbers. -/
def BwdRow (W : Valuation τ sig (Elt F)) (r : S1024.Idx) (v : BitVec 32) : Prop :=
  ∃ (x : S1x128.Idx) (R : S1x1x8192.Idx → Elt F .f32) (G V : S1x8x1024.Idx → Elt F .f32),
    (∀ z z', (z' 0).val = (at0 W main_v62 r : BitVec 32).toNat → z' 1 = z 1 → z' 2 = z 2 → R z = at0 W main_v87 z') ∧
    (∀ z z', (z' 0).val = (at0 W main_v55 r : BitVec 32).toNat → z' 1 = z 1 → z' 2 = z 2 → G z = at0 W main_v1 z') ∧
    (∀ z z', (z' 0).val = (r 0).val → z' 1 = z 1 → z' 2 = z 2 → V z = at0 W main_v86 z') ∧
    v = k2_pay12 (k2_pay4 V R G) x

/-- The number of rows to sample, as the backward call reads it. -/
def nBwd (W : Valuation τ sig (Elt F)) : BitVec 32 := at0 W main_v92 (Shape.Idx.first (s := S1) (numel1_S1.symm ▸ Nat.one_pos))

def relBwd (W : Valuation τ sig (Elt F)) (t : ℕ) (X : S8x128.Idx → Elt F .i32) : Prop :=
  ∀ (y : S8x128.Idx) (r : S1024.Idx), (r 0).val = 8 * t + (y 0).val → 8 * t + (y 0).val < (nBwd W).toNat → (nBwd W).toNat ≤ 1024 → BwdRow W r (X y)

/-- The row's offset. -/
theorem off2_eq (i : grid2.Coords) (j : Fin 8) : k2_off1 i (BitVec.ofNat 32 j.val) 0 = 8 * (i 0).val + j.val :=
  row_word _ _ ((i 0).isLt.trans (show 128 < 256 by decide)) j.isLt

theorem live2_of (i : grid2.Coords) (j : Fin 8) (n : BitVec 32) (hn : n.toNat ≤ 1024) (h : 8 * (i 0).val + j.val < n.toNat) :
    live2 i (BitVec.ofNat 32 j.val) n = 1#1 :=
  row_slt _ n (hn.trans (by decide)) (by rw [show (Scalar.addi (Scalar.muli (BitVec.ofNat 32 (i 0).val) 8#32) (BitVec.ofNat 32 j.val)).toNat = _ from row_word _ _ ((i 0).isLt.trans (show 128 < 256 by decide)) j.isLt]; exact h)

section Region2

variable (a : (p : Fin 2) → (pcfgs (F := F) p).Adm) (W : Dev nD → Valuation τ sig (Elt F))

def rel2 : (p : Fin 2) → (c : Dev nD) → (t : Fin (pin (pcfgs (F := F)) a p).N) →
    (((pin (pcfgs (F := F)) a p).win (outWin a p)).block.Idx → Elt F ((pin (pcfgs (F := F)) a p).win (outWin a p)).elt) → Prop
  | ⟨0, _⟩, _, _, _ => True
  | ⟨1, _⟩, c, t, X => relBwd (W c) t.val X

abbrev rd2 (p : Fin 2) (c : Dev nD) : RDat τ (Elt F) Ix Name U Lvl (pin (pcfgs (F := F)) a p) c :=
  rdat (pcfgs (F := F)) a W (outWin a) (rel2 a W) p c

theorem coords2 (t : Fin grid2.N) : ((grid2.coords t) 0).val = t.val := by
  rw [Grid.coords_val t 0 (S := 1) (B := 128) (by decide) rfl]
  have := lt_of_lt_of_eq t.isLt N_2
  omega

variable {a W}

theorem tab2_0 (c : Dev nD) (hT : ∀ k, (a 1).1 k = W c (Proc.devRef .tc (pre2.ref k))) (t : Fin grid2.N) (j : Fin 8) (r : S1024.Idx)
    (hr : (r 0).val = 8 * t.val + j.val) :
    (a 1).1 0 ((Rect.unit (s := S1024) (k2_off1 (grid2.coords t) (BitVec.ofNat 32 j.val)) S1.size (k2_off1_inb (grid2.coords t) j)).emb
      (Shape.Idx.first (numel1_S1.symm ▸ Nat.one_pos))) = at0 (W c) main_v55 r := by
  rw [hT 0]
  refine congrArg (at0 (W c) main_v55) ?_
  funext b
  apply Fin.ext
  match b with
  | 0 =>
    refine (ValueKit.rect_emb_unit_val _ _ _ _ 0).trans ?_
    rw [off2_eq, coords2, hr]
    rfl

theorem tab2_1 (c : Dev nD) (hT : ∀ k, (a 1).1 k = W c (Proc.devRef .tc (pre2.ref k))) (t : Fin grid2.N) (j : Fin 8) (r : S1024.Idx)
    (hr : (r 0).val = 8 * t.val + j.val) :
    (a 1).1 1 ((Rect.unit (s := S1024) (k2_off1 (grid2.coords t) (BitVec.ofNat 32 j.val)) S1.size (k2_off1_inb (grid2.coords t) j)).emb
      (Shape.Idx.first (numel1_S1.symm ▸ Nat.one_pos))) = at0 (W c) main_v62 r := by
  rw [hT 1]
  refine congrArg (at0 (W c) main_v62) ?_
  funext b
  apply Fin.ext
  match b with
  | 0 =>
    refine (ValueKit.rect_emb_unit_val _ _ _ _ 0).trans ?_
    rw [off2_eq, coords2, hr]
    rfl

theorem row2_0 (c : Dev nD) (hT : ∀ k, (a 1).1 k = W c (Proc.devRef .tc (pre2.ref k))) (t : Fin grid2.N) (X)
    (h : (rd2 (Ix := Ix) (Name := Name) (U := U) (Lvl := Lvl) a W 1 c).Finds (0 : Fin 18) t X) (r : S1024.Idx) (hr : (r 0).val = 8 * t.val + 0)
    (z : S1x1x8192.Idx) (z' : S8192x1x8192.Idx) (h0 : (z' 0).val = (at0 (W c) main_v62 r : BitVec 32).toNat) (h1 : z' 1 = z 1) (h2 : z' 2 = z 2) :
    X z = at0 (W c) main_v87 z' := by
  obtain ⟨d, rfl⟩ := RDat.finds_in_eq_fetched (rd2 (Ix := Ix) (Name := Name) (U := U) (Lvl := Lvl) a W 1 c) (0 : Fin 18) rfl (fun _ _ _ => rfl) (fun t Y X hX => hX.1 rfl) t X h
  obtain ⟨y', hy', h'⟩ := fetched_apply (rd2 (Ix := Ix) (Name := Name) (U := U) (Lvl := Lvl) a W 1 c) (0 : Fin 18) (fun _ _ => rfl) t d z
  refine h'.trans ?_
  refine congrArg (at0 (W c) main_v87) ?_
  funext b
  apply Fin.ext
  refine (Window.rect_emb_val ((pin (pcfgs (F := F)) a 1).win (0 : Fin 18)) t y' b rfl).trans ?_
  match b with
  | 0 =>
    have e : ((pin (pcfgs (F := F)) a 1).win (0 : Fin 18)).index t 0 = ((a 1).1 1 ((Rect.unit (s := S1024) (k2_off1 (grid2.coords t) (BitVec.ofNat 32 (0 : Fin 8).val)) S1.size (k2_off1_inb (grid2.coords t) 0)).emb
      (Shape.Idx.first (numel1_S1.symm ▸ Nat.one_pos))) : BitVec 32).toNat := rfl
    have hy0 : (y' 0).val = 0 := by have := hy' 0; have := (z 0).isLt; change (z 0).val < 1 at this; omega
    rw [e, tab2_1 c hT t 0 r hr, hy0, h0]
    show _ * 1 + 0 = _
    omega
  | 1 =>
    have e : ((pin (pcfgs (F := F)) a 1).win (0 : Fin 18)).index t 1 = 0 := rfl
    rw [e, h1]
    exact (Nat.zero_mul _ ▸ Nat.zero_add _).trans (hy' 1)
  | 2 =>
    have e : ((pin (pcfgs (F := F)) a 1).win (0 : Fin 18)).index t 2 = 0 := rfl
    rw [e, h2]
    exact (Nat.zero_mul _ ▸ Nat.zero_add _).trans (hy' 2)

theorem row2_1 (c : Dev nD) (hT : ∀ k, (a 1).1 k = W c (Proc.devRef .tc (pre2.ref k))) (t : Fin grid2.N) (X)
    (h : (rd2 (Ix := Ix) (Name := Name) (U := U) (Lvl := Lvl) a W 1 c).Finds (1 : Fin 18) t X) (r : S1024.Idx) (hr : (r 0).val = 8 * t.val + 1)
    (z : S1x1x8192.Idx) (z' : S8192x1x8192.Idx) (h0 : (z' 0).val = (at0 (W c) main_v62 r : BitVec 32).toNat) (h1 : z' 1 = z 1) (h2 : z' 2 = z 2) :
    X z = at0 (W c) main_v87 z' := by
  obtain ⟨d, rfl⟩ := RDat.finds_in_eq_fetched (rd2 (Ix := Ix) (Name := Name) (U := U) (Lvl := Lvl) a W 1 c) (1 : Fin 18) rfl (fun _ _ _ => rfl) (fun t Y X hX => hX.1 rfl) t X h
  obtain ⟨y', hy', h'⟩ := fetched_apply (rd2 (Ix := Ix) (Name := Name) (U := U) (Lvl := Lvl) a W 1 c) (1 : Fin 18) (fun _ _ => rfl) t d z
  refine h'.trans ?_
  refine congrArg (at0 (W c) main_v87) ?_
  funext b
  apply Fin.ext
  refine (Window.rect_emb_val ((pin (pcfgs (F := F)) a 1).win (1 : Fin 18)) t y' b rfl).trans ?_
  match b with
  | 0 =>
    have e : ((pin (pcfgs (F := F)) a 1).win (1 : Fin 18)).index t 0 = ((a 1).1 1 ((Rect.unit (s := S1024) (k2_off1 (grid2.coords t) (BitVec.ofNat 32 (1 : Fin 8).val)) S1.size (k2_off1_inb (grid2.coords t) 1)).emb
      (Shape.Idx.first (numel1_S1.symm ▸ Nat.one_pos))) : BitVec 32).toNat := rfl
    have hy0 : (y' 0).val = 0 := by have := hy' 0; have := (z 0).isLt; change (z 0).val < 1 at this; omega
    rw [e, tab2_1 c hT t 1 r hr, hy0, h0]
    show _ * 1 + 0 = _
    omega
  | 1 =>
    have e : ((pin (pcfgs (F := F)) a 1).win (1 : Fin 18)).index t 1 = 0 := rfl
    rw [e, h1]
    exact (Nat.zero_mul _ ▸ Nat.zero_add _).trans (hy' 1)
  | 2 =>
    have e : ((pin (pcfgs (F := F)) a 1).win (1 : Fin 18)).index t 2 = 0 := rfl
    rw [e, h2]
    exact (Nat.zero_mul _ ▸ Nat.zero_add _).trans (hy' 2)

theorem row2_2 (c : Dev nD) (hT : ∀ k, (a 1).1 k = W c (Proc.devRef .tc (pre2.ref k))) (t : Fin grid2.N) (X)
    (h : (rd2 (Ix := Ix) (Name := Name) (U := U) (Lvl := Lvl) a W 1 c).Finds (2 : Fin 18) t X) (r : S1024.Idx) (hr : (r 0).val = 8 * t.val + 2)
    (z : S1x1x8192.Idx) (z' : S8192x1x8192.Idx) (h0 : (z' 0).val = (at0 (W c) main_v62 r : BitVec 32).toNat) (h1 : z' 1 = z 1) (h2 : z' 2 = z 2) :
    X z = at0 (W c) main_v87 z' := by
  obtain ⟨d, rfl⟩ := RDat.finds_in_eq_fetched (rd2 (Ix := Ix) (Name := Name) (U := U) (Lvl := Lvl) a W 1 c) (2 : Fin 18) rfl (fun _ _ _ => rfl) (fun t Y X hX => hX.1 rfl) t X h
  obtain ⟨y', hy', h'⟩ := fetched_apply (rd2 (Ix := Ix) (Name := Name) (U := U) (Lvl := Lvl) a W 1 c) (2 : Fin 18) (fun _ _ => rfl) t d z
  refine h'.trans ?_
  refine congrArg (at0 (W c) main_v87) ?_
  funext b
  apply Fin.ext
  refine (Window.rect_emb_val ((pin (pcfgs (F := F)) a 1).win (2 : Fin 18)) t y' b rfl).trans ?_
  match b with
  | 0 =>
    have e : ((pin (pcfgs (F := F)) a 1).win (2 : Fin 18)).index t 0 = ((a 1).1 1 ((Rect.unit (s := S1024) (k2_off1 (grid2.coords t) (BitVec.ofNat 32 (2 : Fin 8).val)) S1.size (k2_off1_inb (grid2.coords t) 2)).emb
      (Shape.Idx.first (numel1_S1.symm ▸ Nat.one_pos))) : BitVec 32).toNat := rfl
    have hy0 : (y' 0).val = 0 := by have := hy' 0; have := (z 0).isLt; change (z 0).val < 1 at this; omega
    rw [e, tab2_1 c hT t 2 r hr, hy0, h0]
    show _ * 1 + 0 = _
    omega
  | 1 =>
    have e : ((pin (pcfgs (F := F)) a 1).win (2 : Fin 18)).index t 1 = 0 := rfl
    rw [e, h1]
    exact (Nat.zero_mul _ ▸ Nat.zero_add _).trans (hy' 1)
  | 2 =>
    have e : ((pin (pcfgs (F := F)) a 1).win (2 : Fin 18)).index t 2 = 0 := rfl
    rw [e, h2]
    exact (Nat.zero_mul _ ▸ Nat.zero_add _).trans (hy' 2)

theorem row2_3 (c : Dev nD) (hT : ∀ k, (a 1).1 k = W c (Proc.devRef .tc (pre2.ref k))) (t : Fin grid2.N) (X)
    (h : (rd2 (Ix := Ix) (Name := Name) (U := U) (Lvl := Lvl) a W 1 c).Finds (3 : Fin 18) t X) (r : S1024.Idx) (hr : (r 0).val = 8 * t.val + 3)
    (z : S1x1x8192.Idx) (z' : S8192x1x8192.Idx) (h0 : (z' 0).val = (at0 (W c) main_v62 r : BitVec 32).toNat) (h1 : z' 1 = z 1) (h2 : z' 2 = z 2) :
    X z = at0 (W c) main_v87 z' := by
  obtain ⟨d, rfl⟩ := RDat.finds_in_eq_fetched (rd2 (Ix := Ix) (Name := Name) (U := U) (Lvl := Lvl) a W 1 c) (3 : Fin 18) rfl (fun _ _ _ => rfl) (fun t Y X hX => hX.1 rfl) t X h
  obtain ⟨y', hy', h'⟩ := fetched_apply (rd2 (Ix := Ix) (Name := Name) (U := U) (Lvl := Lvl) a W 1 c) (3 : Fin 18) (fun _ _ => rfl) t d z
  refine h'.trans ?_
  refine congrArg (at0 (W c) main_v87) ?_
  funext b
  apply Fin.ext
  refine (Window.rect_emb_val ((pin (pcfgs (F := F)) a 1).win (3 : Fin 18)) t y' b rfl).trans ?_
  match b with
  | 0 =>
    have e : ((pin (pcfgs (F := F)) a 1).win (3 : Fin 18)).index t 0 = ((a 1).1 1 ((Rect.unit (s := S1024) (k2_off1 (grid2.coords t) (BitVec.ofNat 32 (3 : Fin 8).val)) S1.size (k2_off1_inb (grid2.coords t) 3)).emb
      (Shape.Idx.first (numel1_S1.symm ▸ Nat.one_pos))) : BitVec 32).toNat := rfl
    have hy0 : (y' 0).val = 0 := by have := hy' 0; have := (z 0).isLt; change (z 0).val < 1 at this; omega
    rw [e, tab2_1 c hT t 3 r hr, hy0, h0]
    show _ * 1 + 0 = _
    omega
  | 1 =>
    have e : ((pin (pcfgs (F := F)) a 1).win (3 : Fin 18)).index t 1 = 0 := rfl
    rw [e, h1]
    exact (Nat.zero_mul _ ▸ Nat.zero_add _).trans (hy' 1)
  | 2 =>
    have e : ((pin (pcfgs (F := F)) a 1).win (3 : Fin 18)).index t 2 = 0 := rfl
    rw [e, h2]
    exact (Nat.zero_mul _ ▸ Nat.zero_add _).trans (hy' 2)

theorem row2_4 (c : Dev nD) (hT : ∀ k, (a 1).1 k = W c (Proc.devRef .tc (pre2.ref k))) (t : Fin grid2.N) (X)
    (h : (rd2 (Ix := Ix) (Name := Name) (U := U) (Lvl := Lvl) a W 1 c).Finds (4 : Fin 18) t X) (r : S1024.Idx) (hr : (r 0).val = 8 * t.val + 4)
    (z : S1x1x8192.Idx) (z' : S8192x1x8192.Idx) (h0 : (z' 0).val = (at0 (W c) main_v62 r : BitVec 32).toNat) (h1 : z' 1 = z 1) (h2 : z' 2 = z 2) :
    X z = at0 (W c) main_v87 z' := by
  obtain ⟨d, rfl⟩ := RDat.finds_in_eq_fetched (rd2 (Ix := Ix) (Name := Name) (U := U) (Lvl := Lvl) a W 1 c) (4 : Fin 18) rfl (fun _ _ _ => rfl) (fun t Y X hX => hX.1 rfl) t X h
  obtain ⟨y', hy', h'⟩ := fetched_apply (rd2 (Ix := Ix) (Name := Name) (U := U) (Lvl := Lvl) a W 1 c) (4 : Fin 18) (fun _ _ => rfl) t d z
  refine h'.trans ?_
  refine congrArg (at0 (W c) main_v87) ?_
  funext b
  apply Fin.ext
  refine (Window.rect_emb_val ((pin (pcfgs (F := F)) a 1).win (4 : Fin 18)) t y' b rfl).trans ?_
  match b with
  | 0 =>
    have e : ((pin (pcfgs (F := F)) a 1).win (4 : Fin 18)).index t 0 = ((a 1).1 1 ((Rect.unit (s := S1024) (k2_off1 (grid2.coords t) (BitVec.ofNat 32 (4 : Fin 8).val)) S1.size (k2_off1_inb (grid2.coords t) 4)).emb
      (Shape.Idx.first (numel1_S1.symm ▸ Nat.one_pos))) : BitVec 32).toNat := rfl
    have hy0 : (y' 0).val = 0 := by have := hy' 0; have := (z 0).isLt; change (z 0).val < 1 at this; omega
    rw [e, tab2_1 c hT t 4 r hr, hy0, h0]
    show _ * 1 + 0 = _
    omega
  | 1 =>
    have e : ((pin (pcfgs (F := F)) a 1).win (4 : Fin 18)).index t 1 = 0 := rfl
    rw [e, h1]
    exact (Nat.zero_mul _ ▸ Nat.zero_add _).trans (hy' 1)
  | 2 =>
    have e : ((pin (pcfgs (F := F)) a 1).win (4 : Fin 18)).index t 2 = 0 := rfl
    rw [e, h2]
    exact (Nat.zero_mul _ ▸ Nat.zero_add _).trans (hy' 2)

theorem row2_5 (c : Dev nD) (hT : ∀ k, (a 1).1 k = W c (Proc.devRef .tc (pre2.ref k))) (t : Fin grid2.N) (X)
    (h : (rd2 (Ix := Ix) (Name := Name) (U := U) (Lvl := Lvl) a W 1 c).Finds (5 : Fin 18) t X) (r : S1024.Idx) (hr : (r 0).val = 8 * t.val + 5)
    (z : S1x1x8192.Idx) (z' : S8192x1x8192.Idx) (h0 : (z' 0).val = (at0 (W c) main_v62 r : BitVec 32).toNat) (h1 : z' 1 = z 1) (h2 : z' 2 = z 2) :
    X z = at0 (W c) main_v87 z' := by
  obtain ⟨d, rfl⟩ := RDat.finds_in_eq_fetched (rd2 (Ix := Ix) (Name := Name) (U := U) (Lvl := Lvl) a W 1 c) (5 : Fin 18) rfl (fun _ _ _ => rfl) (fun t Y X hX => hX.1 rfl) t X h
  obtain ⟨y', hy', h'⟩ := fetched_apply (rd2 (Ix := Ix) (Name := Name) (U := U) (Lvl := Lvl) a W 1 c) (5 : Fin 18) (fun _ _ => rfl) t d z
  refine h'.trans ?_
  refine congrArg (at0 (W c) main_v87) ?_
  funext b
  apply Fin.ext
  refine (Window.rect_emb_val ((pin (pcfgs (F := F)) a 1).win (5 : Fin 18)) t y' b rfl).trans ?_
  match b with
  | 0 =>
    have e : ((pin (pcfgs (F := F)) a 1).win (5 : Fin 18)).index t 0 = ((a 1).1 1 ((Rect.unit (s := S1024) (k2_off1 (grid2.coords t) (BitVec.ofNat 32 (5 : Fin 8).val)) S1.size (k2_off1_inb (grid2.coords t) 5)).emb
      (Shape.Idx.first (numel1_S1.symm ▸ Nat.one_pos))) : BitVec 32).toNat := rfl
    have hy0 : (y' 0).val = 0 := by have := hy' 0; have := (z 0).isLt; change (z 0).val < 1 at this; omega
    rw [e, tab2_1 c hT t 5 r hr, hy0, h0]
    show _ * 1 + 0 = _
    omega
  | 1 =>
    have e : ((pin (pcfgs (F := F)) a 1).win (5 : Fin 18)).index t 1 = 0 := rfl
    rw [e, h1]
    exact (Nat.zero_mul _ ▸ Nat.zero_add _).trans (hy' 1)
  | 2 =>
    have e : ((pin (pcfgs (F := F)) a 1).win (5 : Fin 18)).index t 2 = 0 := rfl
    rw [e, h2]
    exact (Nat.zero_mul _ ▸ Nat.zero_add _).trans (hy' 2)

theorem row2_6 (c : Dev nD) (hT : ∀ k, (a 1).1 k = W c (Proc.devRef .tc (pre2.ref k))) (t : Fin grid2.N) (X)
    (h : (rd2 (Ix := Ix) (Name := Name) (U := U) (Lvl := Lvl) a W 1 c).Finds (6 : Fin 18) t X) (r : S1024.Idx) (hr : (r 0).val = 8 * t.val + 6)
    (z : S1x1x8192.Idx) (z' : S8192x1x8192.Idx) (h0 : (z' 0).val = (at0 (W c) main_v62 r : BitVec 32).toNat) (h1 : z' 1 = z 1) (h2 : z' 2 = z 2) :
    X z = at0 (W c) main_v87 z' := by
  obtain ⟨d, rfl⟩ := RDat.finds_in_eq_fetched (rd2 (Ix := Ix) (Name := Name) (U := U) (Lvl := Lvl) a W 1 c) (6 : Fin 18) rfl (fun _ _ _ => rfl) (fun t Y X hX => hX.1 rfl) t X h
  obtain ⟨y', hy', h'⟩ := fetched_apply (rd2 (Ix := Ix) (Name := Name) (U := U) (Lvl := Lvl) a W 1 c) (6 : Fin 18) (fun _ _ => rfl) t d z
  refine h'.trans ?_
  refine congrArg (at0 (W c) main_v87) ?_
  funext b
  apply Fin.ext
  refine (Window.rect_emb_val ((pin (pcfgs (F := F)) a 1).win (6 : Fin 18)) t y' b rfl).trans ?_
  match b with
  | 0 =>
    have e : ((pin (pcfgs (F := F)) a 1).win (6 : Fin 18)).index t 0 = ((a 1).1 1 ((Rect.unit (s := S1024) (k2_off1 (grid2.coords t) (BitVec.ofNat 32 (6 : Fin 8).val)) S1.size (k2_off1_inb (grid2.coords t) 6)).emb
      (Shape.Idx.first (numel1_S1.symm ▸ Nat.one_pos))) : BitVec 32).toNat := rfl
    have hy0 : (y' 0).val = 0 := by have := hy' 0; have := (z 0).isLt; change (z 0).val < 1 at this; omega
    rw [e, tab2_1 c hT t 6 r hr, hy0, h0]
    show _ * 1 + 0 = _
    omega
  | 1 =>
    have e : ((pin (pcfgs (F := F)) a 1).win (6 : Fin 18)).index t 1 = 0 := rfl
    rw [e, h1]
    exact (Nat.zero_mul _ ▸ Nat.zero_add _).trans (hy' 1)
  | 2 =>
    have e : ((pin (pcfgs (F := F)) a 1).win (6 : Fin 18)).index t 2 = 0 := rfl
    rw [e, h2]
    exact (Nat.zero_mul _ ▸ Nat.zero_add _).trans (hy' 2)

theorem row2_7 (c : Dev nD) (hT : ∀ k, (a 1).1 k = W c (Proc.devRef .tc (pre2.ref k))) (t : Fin grid2.N) (X)
    (h : (rd2 (Ix := Ix) (Name := Name) (U := U) (Lvl := Lvl) a W 1 c).Finds (7 : Fin 18) t X) (r : S1024.Idx) (hr : (r 0).val = 8 * t.val + 7)
    (z : S1x1x8192.Idx) (z' : S8192x1x8192.Idx) (h0 : (z' 0).val = (at0 (W c) main_v62 r : BitVec 32).toNat) (h1 : z' 1 = z 1) (h2 : z' 2 = z 2) :
    X z = at0 (W c) main_v87 z' := by
  obtain ⟨d, rfl⟩ := RDat.finds_in_eq_fetched (rd2 (Ix := Ix) (Name := Name) (U := U) (Lvl := Lvl) a W 1 c) (7 : Fin 18) rfl (fun _ _ _ => rfl) (fun t Y X hX => hX.1 rfl) t X h
  obtain ⟨y', hy', h'⟩ := fetched_apply (rd2 (Ix := Ix) (Name := Name) (U := U) (Lvl := Lvl) a W 1 c) (7 : Fin 18) (fun _ _ => rfl) t d z
  refine h'.trans ?_
  refine congrArg (at0 (W c) main_v87) ?_
  funext b
  apply Fin.ext
  refine (Window.rect_emb_val ((pin (pcfgs (F := F)) a 1).win (7 : Fin 18)) t y' b rfl).trans ?_
  match b with
  | 0 =>
    have e : ((pin (pcfgs (F := F)) a 1).win (7 : Fin 18)).index t 0 = ((a 1).1 1 ((Rect.unit (s := S1024) (k2_off1 (grid2.coords t) (BitVec.ofNat 32 (7 : Fin 8).val)) S1.size (k2_off1_inb (grid2.coords t) 7)).emb
      (Shape.Idx.first (numel1_S1.symm ▸ Nat.one_pos))) : BitVec 32).toNat := rfl
    have hy0 : (y' 0).val = 0 := by have := hy' 0; have := (z 0).isLt; change (z 0).val < 1 at this; omega
    rw [e, tab2_1 c hT t 7 r hr, hy0, h0]
    show _ * 1 + 0 = _
    omega
  | 1 =>
    have e : ((pin (pcfgs (F := F)) a 1).win (7 : Fin 18)).index t 1 = 0 := rfl
    rw [e, h1]
    exact (Nat.zero_mul _ ▸ Nat.zero_add _).trans (hy' 1)
  | 2 =>
    have e : ((pin (pcfgs (F := F)) a 1).win (7 : Fin 18)).index t 2 = 0 := rfl
    rw [e, h2]
    exact (Nat.zero_mul _ ▸ Nat.zero_add _).trans (hy' 2)

theorem row2_9 (c : Dev nD) (hT : ∀ k, (a 1).1 k = W c (Proc.devRef .tc (pre2.ref k))) (t : Fin grid2.N) (X)
    (h : (rd2 (Ix := Ix) (Name := Name) (U := U) (Lvl := Lvl) a W 1 c).Finds (9 : Fin 18) t X) (r : S1024.Idx) (hr : (r 0).val = 8 * t.val + 0)
    (z : S1x8x1024.Idx) (z' : S2048x8x1024.Idx) (h0 : (z' 0).val = (at0 (W c) main_v55 r : BitVec 32).toNat) (h1 : z' 1 = z 1) (h2 : z' 2 = z 2) :
    X z = at0 (W c) main_v1 z' := by
  obtain ⟨d, rfl⟩ := RDat.finds_in_eq_fetched (rd2 (Ix := Ix) (Name := Name) (U := U) (Lvl := Lvl) a W 1 c) (9 : Fin 18) rfl (fun _ _ _ => rfl) (fun t Y X hX => hX.1 rfl) t X h
  obtain ⟨y', hy', h'⟩ := fetched_apply (rd2 (Ix := Ix) (Name := Name) (U := U) (Lvl := Lvl) a W 1 c) (9 : Fin 18) (fun _ _ => rfl) t d z
  refine h'.trans ?_
  refine congrArg (at0 (W c) main_v1) ?_
  funext b
  apply Fin.ext
  refine (Window.rect_emb_val ((pin (pcfgs (F := F)) a 1).win (9 : Fin 18)) t y' b rfl).trans ?_
  match b with
  | 0 =>
    have e : ((pin (pcfgs (F := F)) a 1).win (9 : Fin 18)).index t 0 = ((a 1).1 0 ((Rect.unit (s := S1024) (k2_off1 (grid2.coords t) (BitVec.ofNat 32 (0 : Fin 8).val)) S1.size (k2_off1_inb (grid2.coords t) 0)).emb
      (Shape.Idx.first (numel1_S1.symm ▸ Nat.one_pos))) : BitVec 32).toNat := rfl
    have hy0 : (y' 0).val = 0 := by have := hy' 0; have := (z 0).isLt; change (z 0).val < 1 at this; omega
    rw [e, tab2_0 c hT t 0 r hr, hy0, h0]
    show _ * 1 + 0 = _
    omega
  | 1 =>
    have e : ((pin (pcfgs (F := F)) a 1).win (9 : Fin 18)).index t 1 = 0 := rfl
    rw [e, h1]
    exact (Nat.zero_mul _ ▸ Nat.zero_add _).trans (hy' 1)
  | 2 =>
    have e : ((pin (pcfgs (F := F)) a 1).win (9 : Fin 18)).index t 2 = 0 := rfl
    rw [e, h2]
    exact (Nat.zero_mul _ ▸ Nat.zero_add _).trans (hy' 2)

theorem row2_10 (c : Dev nD) (hT : ∀ k, (a 1).1 k = W c (Proc.devRef .tc (pre2.ref k))) (t : Fin grid2.N) (X)
    (h : (rd2 (Ix := Ix) (Name := Name) (U := U) (Lvl := Lvl) a W 1 c).Finds (10 : Fin 18) t X) (r : S1024.Idx) (hr : (r 0).val = 8 * t.val + 1)
    (z : S1x8x1024.Idx) (z' : S2048x8x1024.Idx) (h0 : (z' 0).val = (at0 (W c) main_v55 r : BitVec 32).toNat) (h1 : z' 1 = z 1) (h2 : z' 2 = z 2) :
    X z = at0 (W c) main_v1 z' := by
  obtain ⟨d, rfl⟩ := RDat.finds_in_eq_fetched (rd2 (Ix := Ix) (Name := Name) (U := U) (Lvl := Lvl) a W 1 c) (10 : Fin 18) rfl (fun _ _ _ => rfl) (fun t Y X hX => hX.1 rfl) t X h
  obtain ⟨y', hy', h'⟩ := fetched_apply (rd2 (Ix := Ix) (Name := Name) (U := U) (Lvl := Lvl) a W 1 c) (10 : Fin 18) (fun _ _ => rfl) t d z
  refine h'.trans ?_
  refine congrArg (at0 (W c) main_v1) ?_
  funext b
  apply Fin.ext
  refine (Window.rect_emb_val ((pin (pcfgs (F := F)) a 1).win (10 : Fin 18)) t y' b rfl).trans ?_
  match b with
  | 0 =>
    have e : ((pin (pcfgs (F := F)) a 1).win (10 : Fin 18)).index t 0 = ((a 1).1 0 ((Rect.unit (s := S1024) (k2_off1 (grid2.coords t) (BitVec.ofNat 32 (1 : Fin 8).val)) S1.size (k2_off1_inb (grid2.coords t) 1)).emb
      (Shape.Idx.first (numel1_S1.symm ▸ Nat.one_pos))) : BitVec 32).toNat := rfl
    have hy0 : (y' 0).val = 0 := by have := hy' 0; have := (z 0).isLt; change (z 0).val < 1 at this; omega
    rw [e, tab2_0 c hT t 1 r hr, hy0, h0]
    show _ * 1 + 0 = _
    omega
  | 1 =>
    have e : ((pin (pcfgs (F := F)) a 1).win (10 : Fin 18)).index t 1 = 0 := rfl
    rw [e, h1]
    exact (Nat.zero_mul _ ▸ Nat.zero_add _).trans (hy' 1)
  | 2 =>
    have e : ((pin (pcfgs (F := F)) a 1).win (10 : Fin 18)).index t 2 = 0 := rfl
    rw [e, h2]
    exact (Nat.zero_mul _ ▸ Nat.zero_add _).trans (hy' 2)

theorem row2_11 (c : Dev nD) (hT : ∀ k, (a 1).1 k = W c (Proc.devRef .tc (pre2.ref k))) (t : Fin grid2.N) (X)
    (h : (rd2 (Ix := Ix) (Name := Name) (U := U) (Lvl := Lvl) a W 1 c).Finds (11 : Fin 18) t X) (r : S1024.Idx) (hr : (r 0).val = 8 * t.val + 2)
    (z : S1x8x1024.Idx) (z' : S2048x8x1024.Idx) (h0 : (z' 0).val = (at0 (W c) main_v55 r : BitVec 32).toNat) (h1 : z' 1 = z 1) (h2 : z' 2 = z 2) :
    X z = at0 (W c) main_v1 z' := by
  obtain ⟨d, rfl⟩ := RDat.finds_in_eq_fetched (rd2 (Ix := Ix) (Name := Name) (U := U) (Lvl := Lvl) a W 1 c) (11 : Fin 18) rfl (fun _ _ _ => rfl) (fun t Y X hX => hX.1 rfl) t X h
  obtain ⟨y', hy', h'⟩ := fetched_apply (rd2 (Ix := Ix) (Name := Name) (U := U) (Lvl := Lvl) a W 1 c) (11 : Fin 18) (fun _ _ => rfl) t d z
  refine h'.trans ?_
  refine congrArg (at0 (W c) main_v1) ?_
  funext b
  apply Fin.ext
  refine (Window.rect_emb_val ((pin (pcfgs (F := F)) a 1).win (11 : Fin 18)) t y' b rfl).trans ?_
  match b with
  | 0 =>
    have e : ((pin (pcfgs (F := F)) a 1).win (11 : Fin 18)).index t 0 = ((a 1).1 0 ((Rect.unit (s := S1024) (k2_off1 (grid2.coords t) (BitVec.ofNat 32 (2 : Fin 8).val)) S1.size (k2_off1_inb (grid2.coords t) 2)).emb
      (Shape.Idx.first (numel1_S1.symm ▸ Nat.one_pos))) : BitVec 32).toNat := rfl
    have hy0 : (y' 0).val = 0 := by have := hy' 0; have := (z 0).isLt; change (z 0).val < 1 at this; omega
    rw [e, tab2_0 c hT t 2 r hr, hy0, h0]
    show _ * 1 + 0 = _
    omega
  | 1 =>
    have e : ((pin (pcfgs (F := F)) a 1).win (11 : Fin 18)).index t 1 = 0 := rfl
    rw [e, h1]
    exact (Nat.zero_mul _ ▸ Nat.zero_add _).trans (hy' 1)
  | 2 =>
    have e : ((pin (pcfgs (F := F)) a 1).win (11 : Fin 18)).index t 2 = 0 := rfl
    rw [e, h2]
    exact (Nat.zero_mul _ ▸ Nat.zero_add _).trans (hy' 2)

theorem row2_12 (c : Dev nD) (hT : ∀ k, (a 1).1 k = W c (Proc.devRef .tc (pre2.ref k))) (t : Fin grid2.N) (X)
    (h : (rd2 (Ix := Ix) (Name := Name) (U := U) (Lvl := Lvl) a W 1 c).Finds (12 : Fin 18) t X) (r : S1024.Idx) (hr : (r 0).val = 8 * t.val + 3)
    (z : S1x8x1024.Idx) (z' : S2048x8x1024.Idx) (h0 : (z' 0).val = (at0 (W c) main_v55 r : BitVec 32).toNat) (h1 : z' 1 = z 1) (h2 : z' 2 = z 2) :
    X z = at0 (W c) main_v1 z' := by
  obtain ⟨d, rfl⟩ := RDat.finds_in_eq_fetched (rd2 (Ix := Ix) (Name := Name) (U := U) (Lvl := Lvl) a W 1 c) (12 : Fin 18) rfl (fun _ _ _ => rfl) (fun t Y X hX => hX.1 rfl) t X h
  obtain ⟨y', hy', h'⟩ := fetched_apply (rd2 (Ix := Ix) (Name := Name) (U := U) (Lvl := Lvl) a W 1 c) (12 : Fin 18) (fun _ _ => rfl) t d z
  refine h'.trans ?_
  refine congrArg (at0 (W c) main_v1) ?_
  funext b
  apply Fin.ext
  refine (Window.rect_emb_val ((pin (pcfgs (F := F)) a 1).win (12 : Fin 18)) t y' b rfl).trans ?_
  match b with
  | 0 =>
    have e : ((pin (pcfgs (F := F)) a 1).win (12 : Fin 18)).index t 0 = ((a 1).1 0 ((Rect.unit (s := S1024) (k2_off1 (grid2.coords t) (BitVec.ofNat 32 (3 : Fin 8).val)) S1.size (k2_off1_inb (grid2.coords t) 3)).emb
      (Shape.Idx.first (numel1_S1.symm ▸ Nat.one_pos))) : BitVec 32).toNat := rfl
    have hy0 : (y' 0).val = 0 := by have := hy' 0; have := (z 0).isLt; change (z 0).val < 1 at this; omega
    rw [e, tab2_0 c hT t 3 r hr, hy0, h0]
    show _ * 1 + 0 = _
    omega
  | 1 =>
    have e : ((pin (pcfgs (F := F)) a 1).win (12 : Fin 18)).index t 1 = 0 := rfl
    rw [e, h1]
    exact (Nat.zero_mul _ ▸ Nat.zero_add _).trans (hy' 1)
  | 2 =>
    have e : ((pin (pcfgs (F := F)) a 1).win (12 : Fin 18)).index t 2 = 0 := rfl
    rw [e, h2]
    exact (Nat.zero_mul _ ▸ Nat.zero_add _).trans (hy' 2)

theorem row2_13 (c : Dev nD) (hT : ∀ k, (a 1).1 k = W c (Proc.devRef .tc (pre2.ref k))) (t : Fin grid2.N) (X)
    (h : (rd2 (Ix := Ix) (Name := Name) (U := U) (Lvl := Lvl) a W 1 c).Finds (13 : Fin 18) t X) (r : S1024.Idx) (hr : (r 0).val = 8 * t.val + 4)
    (z : S1x8x1024.Idx) (z' : S2048x8x1024.Idx) (h0 : (z' 0).val = (at0 (W c) main_v55 r : BitVec 32).toNat) (h1 : z' 1 = z 1) (h2 : z' 2 = z 2) :
    X z = at0 (W c) main_v1 z' := by
  obtain ⟨d, rfl⟩ := RDat.finds_in_eq_fetched (rd2 (Ix := Ix) (Name := Name) (U := U) (Lvl := Lvl) a W 1 c) (13 : Fin 18) rfl (fun _ _ _ => rfl) (fun t Y X hX => hX.1 rfl) t X h
  obtain ⟨y', hy', h'⟩ := fetched_apply (rd2 (Ix := Ix) (Name := Name) (U := U) (Lvl := Lvl) a W 1 c) (13 : Fin 18) (fun _ _ => rfl) t d z
  refine h'.trans ?_
  refine congrArg (at0 (W c) main_v1) ?_
  funext b
  apply Fin.ext
  refine (Window.rect_emb_val ((pin (pcfgs (F := F)) a 1).win (13 : Fin 18)) t y' b rfl).trans ?_
  match b with
  | 0 =>
    have e : ((pin (pcfgs (F := F)) a 1).win (13 : Fin 18)).index t 0 = ((a 1).1 0 ((Rect.unit (s := S1024) (k2_off1 (grid2.coords t) (BitVec.ofNat 32 (4 : Fin 8).val)) S1.size (k2_off1_inb (grid2.coords t) 4)).emb
      (Shape.Idx.first (numel1_S1.symm ▸ Nat.one_pos))) : BitVec 32).toNat := rfl
    have hy0 : (y' 0).val = 0 := by have := hy' 0; have := (z 0).isLt; change (z 0).val < 1 at this; omega
    rw [e, tab2_0 c hT t 4 r hr, hy0, h0]
    show _ * 1 + 0 = _
    omega
  | 1 =>
    have e : ((pin (pcfgs (F := F)) a 1).win (13 : Fin 18)).index t 1 = 0 := rfl
    rw [e, h1]
    exact (Nat.zero_mul _ ▸ Nat.zero_add _).trans (hy' 1)
  | 2 =>
    have e : ((pin (pcfgs (F := F)) a 1).win (13 : Fin 18)).index t 2 = 0 := rfl
    rw [e, h2]
    exact (Nat.zero_mul _ ▸ Nat.zero_add _).trans (hy' 2)

theorem row2_14 (c : Dev nD) (hT : ∀ k, (a 1).1 k = W c (Proc.devRef .tc (pre2.ref k))) (t : Fin grid2.N) (X)
    (h : (rd2 (Ix := Ix) (Name := Name) (U := U) (Lvl := Lvl) a W 1 c).Finds (14 : Fin 18) t X) (r : S1024.Idx) (hr : (r 0).val = 8 * t.val + 5)
    (z : S1x8x1024.Idx) (z' : S2048x8x1024.Idx) (h0 : (z' 0).val = (at0 (W c) main_v55 r : BitVec 32).toNat) (h1 : z' 1 = z 1) (h2 : z' 2 = z 2) :
    X z = at0 (W c) main_v1 z' := by
  obtain ⟨d, rfl⟩ := RDat.finds_in_eq_fetched (rd2 (Ix := Ix) (Name := Name) (U := U) (Lvl := Lvl) a W 1 c) (14 : Fin 18) rfl (fun _ _ _ => rfl) (fun t Y X hX => hX.1 rfl) t X h
  obtain ⟨y', hy', h'⟩ := fetched_apply (rd2 (Ix := Ix) (Name := Name) (U := U) (Lvl := Lvl) a W 1 c) (14 : Fin 18) (fun _ _ => rfl) t d z
  refine h'.trans ?_
  refine congrArg (at0 (W c) main_v1) ?_
  funext b
  apply Fin.ext
  refine (Window.rect_emb_val ((pin (pcfgs (F := F)) a 1).win (14 : Fin 18)) t y' b rfl).trans ?_
  match b with
  | 0 =>
    have e : ((pin (pcfgs (F := F)) a 1).win (14 : Fin 18)).index t 0 = ((a 1).1 0 ((Rect.unit (s := S1024) (k2_off1 (grid2.coords t) (BitVec.ofNat 32 (5 : Fin 8).val)) S1.size (k2_off1_inb (grid2.coords t) 5)).emb
      (Shape.Idx.first (numel1_S1.symm ▸ Nat.one_pos))) : BitVec 32).toNat := rfl
    have hy0 : (y' 0).val = 0 := by have := hy' 0; have := (z 0).isLt; change (z 0).val < 1 at this; omega
    rw [e, tab2_0 c hT t 5 r hr, hy0, h0]
    show _ * 1 + 0 = _
    omega
  | 1 =>
    have e : ((pin (pcfgs (F := F)) a 1).win (14 : Fin 18)).index t 1 = 0 := rfl
    rw [e, h1]
    exact (Nat.zero_mul _ ▸ Nat.zero_add _).trans (hy' 1)
  | 2 =>
    have e : ((pin (pcfgs (F := F)) a 1).win (14 : Fin 18)).index t 2 = 0 := rfl
    rw [e, h2]
    exact (Nat.zero_mul _ ▸ Nat.zero_add _).trans (hy' 2)

theorem row2_15 (c : Dev nD) (hT : ∀ k, (a 1).1 k = W c (Proc.devRef .tc (pre2.ref k))) (t : Fin grid2.N) (X)
    (h : (rd2 (Ix := Ix) (Name := Name) (U := U) (Lvl := Lvl) a W 1 c).Finds (15 : Fin 18) t X) (r : S1024.Idx) (hr : (r 0).val = 8 * t.val + 6)
    (z : S1x8x1024.Idx) (z' : S2048x8x1024.Idx) (h0 : (z' 0).val = (at0 (W c) main_v55 r : BitVec 32).toNat) (h1 : z' 1 = z 1) (h2 : z' 2 = z 2) :
    X z = at0 (W c) main_v1 z' := by
  obtain ⟨d, rfl⟩ := RDat.finds_in_eq_fetched (rd2 (Ix := Ix) (Name := Name) (U := U) (Lvl := Lvl) a W 1 c) (15 : Fin 18) rfl (fun _ _ _ => rfl) (fun t Y X hX => hX.1 rfl) t X h
  obtain ⟨y', hy', h'⟩ := fetched_apply (rd2 (Ix := Ix) (Name := Name) (U := U) (Lvl := Lvl) a W 1 c) (15 : Fin 18) (fun _ _ => rfl) t d z
  refine h'.trans ?_
  refine congrArg (at0 (W c) main_v1) ?_
  funext b
  apply Fin.ext
  refine (Window.rect_emb_val ((pin (pcfgs (F := F)) a 1).win (15 : Fin 18)) t y' b rfl).trans ?_
  match b with
  | 0 =>
    have e : ((pin (pcfgs (F := F)) a 1).win (15 : Fin 18)).index t 0 = ((a 1).1 0 ((Rect.unit (s := S1024) (k2_off1 (grid2.coords t) (BitVec.ofNat 32 (6 : Fin 8).val)) S1.size (k2_off1_inb (grid2.coords t) 6)).emb
      (Shape.Idx.first (numel1_S1.symm ▸ Nat.one_pos))) : BitVec 32).toNat := rfl
    have hy0 : (y' 0).val = 0 := by have := hy' 0; have := (z 0).isLt; change (z 0).val < 1 at this; omega
    rw [e, tab2_0 c hT t 6 r hr, hy0, h0]
    show _ * 1 + 0 = _
    omega
  | 1 =>
    have e : ((pin (pcfgs (F := F)) a 1).win (15 : Fin 18)).index t 1 = 0 := rfl
    rw [e, h1]
    exact (Nat.zero_mul _ ▸ Nat.zero_add _).trans (hy' 1)
  | 2 =>
    have e : ((pin (pcfgs (F := F)) a 1).win (15 : Fin 18)).index t 2 = 0 := rfl
    rw [e, h2]
    exact (Nat.zero_mul _ ▸ Nat.zero_add _).trans (hy' 2)

theorem row2_16 (c : Dev nD) (hT : ∀ k, (a 1).1 k = W c (Proc.devRef .tc (pre2.ref k))) (t : Fin grid2.N) (X)
    (h : (rd2 (Ix := Ix) (Name := Name) (U := U) (Lvl := Lvl) a W 1 c).Finds (16 : Fin 18) t X) (r : S1024.Idx) (hr : (r 0).val = 8 * t.val + 7)
    (z : S1x8x1024.Idx) (z' : S2048x8x1024.Idx) (h0 : (z' 0).val = (at0 (W c) main_v55 r : BitVec 32).toNat) (h1 : z' 1 = z 1) (h2 : z' 2 = z 2) :
    X z = at0 (W c) main_v1 z' := by
  obtain ⟨d, rfl⟩ := RDat.finds_in_eq_fetched (rd2 (Ix := Ix) (Name := Name) (U := U) (Lvl := Lvl) a W 1 c) (16 : Fin 18) rfl (fun _ _ _ => rfl) (fun t Y X hX => hX.1 rfl) t X h
  obtain ⟨y', hy', h'⟩ := fetched_apply (rd2 (Ix := Ix) (Name := Name) (U := U) (Lvl := Lvl) a W 1 c) (16 : Fin 18) (fun _ _ => rfl) t d z
  refine h'.trans ?_
  refine congrArg (at0 (W c) main_v1) ?_
  funext b
  apply Fin.ext
  refine (Window.rect_emb_val ((pin (pcfgs (F := F)) a 1).win (16 : Fin 18)) t y' b rfl).trans ?_
  match b with
  | 0 =>
    have e : ((pin (pcfgs (F := F)) a 1).win (16 : Fin 18)).index t 0 = ((a 1).1 0 ((Rect.unit (s := S1024) (k2_off1 (grid2.coords t) (BitVec.ofNat 32 (7 : Fin 8).val)) S1.size (k2_off1_inb (grid2.coords t) 7)).emb
      (Shape.Idx.first (numel1_S1.symm ▸ Nat.one_pos))) : BitVec 32).toNat := rfl
    have hy0 : (y' 0).val = 0 := by have := hy' 0; have := (z 0).isLt; change (z 0).val < 1 at this; omega
    rw [e, tab2_0 c hT t 7 r hr, hy0, h0]
    show _ * 1 + 0 = _
    omega
  | 1 =>
    have e : ((pin (pcfgs (F := F)) a 1).win (16 : Fin 18)).index t 1 = 0 := rfl
    rw [e, h1]
    exact (Nat.zero_mul _ ▸ Nat.zero_add _).trans (hy' 1)
  | 2 =>
    have e : ((pin (pcfgs (F := F)) a 1).win (16 : Fin 18)).index t 2 = 0 := rfl
    rw [e, h2]
    exact (Nat.zero_mul _ ▸ Nat.zero_add _).trans (hy' 2)

theorem row2_8 (c : Dev nD) (hT : ∀ k, (a 1).1 k = W c (Proc.devRef .tc (pre2.ref k))) (t : Fin grid2.N) (X)
    (h : (rd2 (Ix := Ix) (Name := Name) (U := U) (Lvl := Lvl) a W 1 c).Finds (8 : Fin 18) t X) (j : Fin 8) (hlt : 8 * t.val + j.val < (nBwd (W c)).toNat) (hle : (nBwd (W c)).toNat ≤ 1024)
    (z : S8x8x1024.Idx) (z' : S1024x8x1024.Idx) (hz : (z 0).val = j.val) (h0 : (z' 0).val = 8 * t.val + j.val) (h1 : z' 1 = z 1) (h2 : z' 2 = z 2) :
    X z = at0 (W c) main_v86 z' := by
  obtain ⟨d, rfl⟩ := RDat.finds_in_eq_fetched (rd2 (Ix := Ix) (Name := Name) (U := U) (Lvl := Lvl) a W 1 c) (8 : Fin 18) rfl (fun _ _ _ => rfl) (fun t Y X hX => hX.1 rfl) t X h
  obtain ⟨y', hy', h'⟩ := fetched_apply (rd2 (Ix := Ix) (Name := Name) (U := U) (Lvl := Lvl) a W 1 c) (8 : Fin 18) (fun _ _ => rfl) t d z
  refine h'.trans ?_
  refine congrArg (at0 (W c) main_v86) ?_
  funext b
  apply Fin.ext
  refine (Window.rect_emb_val ((pin (pcfgs (F := F)) a 1).win (8 : Fin 18)) t y' b rfl).trans ?_
  match b with
  | 0 =>
    have e : ((pin (pcfgs (F := F)) a 1).win (8 : Fin 18)).index t 0 = (colBlk (BitVec.ofNat 32 (grid2.coords t 0).val)
      ((a 1).1 2 ((Rect.unit (s := S1) ![0] S1.size inb_S1_S1_0).emb (Shape.Idx.first (numel1_S1.symm ▸ Nat.one_pos))))).toNat := rfl
    have e2 : ((a 1).1 2 ((Rect.unit (s := S1) ![0] S1.size inb_S1_S1_0).emb (Shape.Idx.first (numel1_S1.symm ▸ Nat.one_pos)))) = nBwd (W c) := by
      rw [hT 2]
      refine congrArg (at0 (W c) main_v92) ?_
      funext b
      match b with
      | 0 => exact Fin.ext ((ValueKit.rect_emb_unit_val _ _ _ _ 0).trans rfl)
    have hw : (BitVec.ofNat 32 (grid2.coords t 0).val).toNat = t.val := by
      have := lt_of_lt_of_eq t.isLt N_2
      rw [coords2, BitVec.toNat_ofNat, Nat.mod_eq_of_lt (by omega)]
    rw [e, e2, colBlk_live _ _ (hle.trans (by decide)) (by rw [hw]; omega), hw, hy' 0, hz, h0]
    show _ * 8 + _ = _
    omega
  | 1 =>
    have e : ((pin (pcfgs (F := F)) a 1).win (8 : Fin 18)).index t 1 = 0 := rfl
    rw [e, h1]
    exact (Nat.zero_mul _ ▸ Nat.zero_add _).trans (hy' 1)
  | 2 =>
    have e : ((pin (pcfgs (F := F)) a 1).win (8 : Fin 18)).index t 2 = 0 := rfl
    rw [e, h2]
    exact (Nat.zero_mul _ ▸ Nat.zero_add _).trans (hy' 2)

end Region2

end Cert.KernelIdeal.Smooth

end
-- ==== Proof.Region2Ideal.lean ====
/-
  The backward call's region: every row of the output that is one of the rows to sample ends at the position of the greatest of
  that row's numbers, the numbers taken from the transition matrix's row and the noise's row that the tables name.
-/
module

public import proofs.«01_k».proof.Proof.Rows2Ideal
public import proofs.«01_k».proof.Proof.Region1Ideal
public import proofs.«01_k».proof.Proof.Gen.KernelIdeal.Launch
public import Idealize.ShloMosaic.Lib.Pipeline.ArrRel

@[expose] public section

set_option maxRecDepth 8192

noncomputable section

namespace Cert.KernelIdeal.Smooth

open Cert.KernelIdeal Cert.KernelIdeal.Gen Cert.Smooth

open Idealize.ShloMosaic Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

section Region2

variable {a : (p : Fin 2) → (pcfgs (F := F) p).Adm} {W : Dev nD → Valuation τ sig (Elt F)}

theorem colRow_idx_val (j : Fin 8) (z : S1x8x1024.Idx) (b : Fin 3) :
    ((Rect.unit (s := S8x8x1024) ![j.val, 0, 0] S1x8x1024.size (colRow_inb j)).idx z b : ℕ) = (![j.val, 0, 0] : Fin 3 → ℕ) b + (z b).val := by
  show (![j.val, 0, 0] : Fin 3 → ℕ) b + 1 * (z b).val = _
  rw [Nat.one_mul]

/-- A row the body left is a row of `BwdRow`. -/
theorem rel2_of (c : Dev nD) (hT : ∀ k, (a 1).1 k = W c (Proc.devRef .tc (pre2.ref k))) (t : Fin grid2.N)
    (Y : (w : Fin 18) → (spec2 w).block.Idx → Elt F (spec2 w).elt) (hY : ∀ w : Fin 18, (rd2 (Ix := Ix) (Name := Name) (U := U) (Lvl := Lvl) a W 1 c).Finds w t (Y w)) (Z : S8x128.Idx → Elt F .i32)
    (h : BwdRel (grid2.coords t) ((a 1).1 2) (fun | 0 => Y 0 | 1 => Y (1) | 2 => Y (2) | 3 => Y (3) | 4 => Y (4) | 5 => Y (5) | 6 => Y (6) | 7 => Y (7)) (Y 8) (fun | 0 => Y (9) | 1 => Y (10) | 2 => Y (11) | 3 => Y (12) | 4 => Y (13) | 5 => Y (14) | 6 => Y (15) | 7 => Y (16)) Z) : relBwd (W c) t.val Z := by
  intro y r hr hlt hle
  have h3 : (a 1).1 2 (Shape.Idx.first (s := S1) (numel1_S1.symm ▸ Nat.one_pos)) = nBwd (W c) := by rw [hT 2]; rfl
  have hl : live2 (grid2.coords t) (BitVec.ofNat 32 ((y 0 : Fin 8)).val) ((a 1).1 2 (Shape.Idx.first (s := S1) (numel1_S1.symm ▸ Nat.one_pos))) = 1#1 := by
    rw [h3]
    exact live2_of _ (y 0) _ hle (by rw [coords2]; exact hlt)
  obtain ⟨x, hx⟩ := h (y 0) hl y rfl
  rw [hx]
  refine ⟨x, _, _, _, ?_, ?_, ?_, rfl⟩
  · exact fun z z' h0 h1 h2 => (fun (j : Fin 8) (hr : (r 0).val = 8 * t.val + j.val) => by
      match j, hr with
      | 0, hr => exact row2_0 c hT t _ (hY 0) r hr z z' h0 h1 h2
      | 1, hr => exact row2_1 c hT t _ (hY 1) r hr z z' h0 h1 h2
      | 2, hr => exact row2_2 c hT t _ (hY 2) r hr z z' h0 h1 h2
      | 3, hr => exact row2_3 c hT t _ (hY 3) r hr z z' h0 h1 h2
      | 4, hr => exact row2_4 c hT t _ (hY 4) r hr z z' h0 h1 h2
      | 5, hr => exact row2_5 c hT t _ (hY 5) r hr z z' h0 h1 h2
      | 6, hr => exact row2_6 c hT t _ (hY 6) r hr z z' h0 h1 h2
      | 7, hr => exact row2_7 c hT t _ (hY 7) r hr z z' h0 h1 h2
      : ∀ j : Fin 8, (r 0).val = 8 * t.val + j.val → (match j with | 0 => Y 0 | 1 => Y 1 | 2 => Y 2 | 3 => Y 3 | 4 => Y 4 | 5 => Y 5 | 6 => Y 6 | 7 => Y 7 : S1x1x8192.Idx → Elt F .f32) z = at0 (W c) main_v87 z') (y 0) hr
  · exact fun z z' h0 h1 h2 => (fun (j : Fin 8) (hr : (r 0).val = 8 * t.val + j.val) => by
      match j, hr with
      | 0, hr => exact row2_9 c hT t _ (hY 9) r hr z z' h0 h1 h2
      | 1, hr => exact row2_10 c hT t _ (hY 10) r hr z z' h0 h1 h2
      | 2, hr => exact row2_11 c hT t _ (hY 11) r hr z z' h0 h1 h2
      | 3, hr => exact row2_12 c hT t _ (hY 12) r hr z z' h0 h1 h2
      | 4, hr => exact row2_13 c hT t _ (hY 13) r hr z z' h0 h1 h2
      | 5, hr => exact row2_14 c hT t _ (hY 14) r hr z z' h0 h1 h2
      | 6, hr => exact row2_15 c hT t _ (hY 15) r hr z z' h0 h1 h2
      | 7, hr => exact row2_16 c hT t _ (hY 16) r hr z z' h0 h1 h2
      : ∀ j : Fin 8, (r 0).val = 8 * t.val + j.val → (match j with | 0 => Y 9 | 1 => Y 10 | 2 => Y 11 | 3 => Y 12 | 4 => Y 13 | 5 => Y 14 | 6 => Y 15 | 7 => Y 16 : S1x8x1024.Idx → Elt F .f32) z = at0 (W c) main_v1 z') (y 0) hr
  · intro z z' h0 h1 h2
    unfold colRow
    refine row2_8 c hT t _ (hY 8) (y 0) hlt hle _ z' ?_ (h0.trans hr) ?_ ?_
    · refine (colRow_idx_val (y 0) z 0).trans ?_
      have := (z 0).isLt
      change (z 0).val < 1 at this
      show (y 0).val + (z 0).val = (y 0).val
      omega
    · rw [h1]; exact (Fin.ext ((colRow_idx_val (y 0) z 1).trans (Nat.zero_add _))).symm
    · rw [h2]; exact (Fin.ext ((colRow_idx_val (y 0) z 2).trans (Nat.zero_add _))).symm

set_option maxHeartbeats 2000000 in
theorem body2 (𝒱 : Variants) (ι : Ix) (c : Dev nD) (hT : ∀ k, (a 1).1 k = W c (Proc.devRef .tc (pre2.ref k))) :
    (rd2 (Ix := Ix) (Name := Name) (U := U) (Lvl := Lvl) a W 1 c).BodyObligation defs₀ 𝒱 ι Set.univ := by
  intro t Y hY
  let sl := (pin (pcfgs (F := F)) a 1).slots t
  have key := wp_bwd (Ix := Ix) (Name := Name) (U := U) (Lvl := Lvl) (F := F) (defs := defs₀) 𝒱 c none Set.univ (grid2.coords t) (Memref.whole main_v55) (Memref.isWhole_whole _) (Memref.whole main_v62) (Memref.isWhole_whole _) (Memref.whole main_v92) (Memref.isWhole_whole _) (spec2_0.stage (sl (0 : Fin 18))) (hstage2_0 ((sl (0 : Fin 18)).cast nbuf2_0)) (spec2_1.stage (sl (1 : Fin 18))) (hstage2_1 ((sl (1 : Fin 18)).cast nbuf2_1)) (spec2_2.stage (sl (2 : Fin 18))) (hstage2_2 ((sl (2 : Fin 18)).cast nbuf2_2)) (spec2_3.stage (sl (3 : Fin 18))) (hstage2_3 ((sl (3 : Fin 18)).cast nbuf2_3)) (spec2_4.stage (sl (4 : Fin 18))) (hstage2_4 ((sl (4 : Fin 18)).cast nbuf2_4)) (spec2_5.stage (sl (5 : Fin 18))) (hstage2_5 ((sl (5 : Fin 18)).cast nbuf2_5)) (spec2_6.stage (sl (6 : Fin 18))) (hstage2_6 ((sl (6 : Fin 18)).cast nbuf2_6)) (spec2_7.stage (sl (7 : Fin 18))) (hstage2_7 ((sl (7 : Fin 18)).cast nbuf2_7)) (spec2_8.stage (sl (8 : Fin 18))) (hstage2_8 ((sl (8 : Fin 18)).cast nbuf2_8)) (spec2_9.stage (sl (9 : Fin 18))) (hstage2_9 ((sl (9 : Fin 18)).cast nbuf2_9)) (spec2_10.stage (sl (10 : Fin 18))) (hstage2_10 ((sl (10 : Fin 18)).cast nbuf2_10)) (spec2_11.stage (sl (11 : Fin 18))) (hstage2_11 ((sl (11 : Fin 18)).cast nbuf2_11)) (spec2_12.stage (sl (12 : Fin 18))) (hstage2_12 ((sl (12 : Fin 18)).cast nbuf2_12)) (spec2_13.stage (sl (13 : Fin 18))) (hstage2_13 ((sl (13 : Fin 18)).cast nbuf2_13)) (spec2_14.stage (sl (14 : Fin 18))) (hstage2_14 ((sl (14 : Fin 18)).cast nbuf2_14)) (spec2_15.stage (sl (15 : Fin 18))) (hstage2_15 ((sl (15 : Fin 18)).cast nbuf2_15)) (spec2_16.stage (sl (16 : Fin 18))) (hstage2_16 ((sl (16 : Fin 18)).cast nbuf2_16)) (spec2_17.stage (sl (17 : Fin 18))) (hstage2_17 ((sl (17 : Fin 18)).cast nbuf2_17))
    fullShare ((a 1).1 2) (fun | 0 => Y (0 : Fin 18) | 1 => Y (1 : Fin 18) | 2 => Y (2 : Fin 18) | 3 => Y (3 : Fin 18) | 4 => Y (4 : Fin 18) | 5 => Y (5 : Fin 18) | 6 => Y (6 : Fin 18) | 7 => Y (7 : Fin 18)) (Y (8 : Fin 18)) (fun | 0 => Y (9 : Fin 18) | 1 => Y (10 : Fin 18) | 2 => Y (11 : Fin 18) | 3 => Y (12 : Fin 18) | 4 => Y (13 : Fin 18) | 5 => Y (14 : Fin 18) | 6 => Y (15 : Fin 18) | 7 => Y (16 : Fin 18)) (Y (17 : Fin 18))
  rw [bigSep_W2]
  have hprog : (defs₀ (F := F)) Proc.tc (pin (pcfgs (F := F)) a 1).body ((pin (pcfgs (F := F)) a 1).bodyArgs t ((pin (pcfgs (F := F)) a 1).slots t)) = cc2__bwd_body (F := F) (grid2.coords t) (Memref.whole main_v55) (Memref.isWhole_whole _) (Memref.whole main_v62) (Memref.isWhole_whole _) (Memref.whole main_v92) (Memref.isWhole_whole _) (spec2_0.stage (sl (0 : Fin 18))) (hstage2_0 ((sl (0 : Fin 18)).cast nbuf2_0)) (spec2_1.stage (sl (1 : Fin 18))) (hstage2_1 ((sl (1 : Fin 18)).cast nbuf2_1)) (spec2_2.stage (sl (2 : Fin 18))) (hstage2_2 ((sl (2 : Fin 18)).cast nbuf2_2)) (spec2_3.stage (sl (3 : Fin 18))) (hstage2_3 ((sl (3 : Fin 18)).cast nbuf2_3)) (spec2_4.stage (sl (4 : Fin 18))) (hstage2_4 ((sl (4 : Fin 18)).cast nbuf2_4)) (spec2_5.stage (sl (5 : Fin 18))) (hstage2_5 ((sl (5 : Fin 18)).cast nbuf2_5)) (spec2_6.stage (sl (6 : Fin 18))) (hstage2_6 ((sl (6 : Fin 18)).cast nbuf2_6)) (spec2_7.stage (sl (7 : Fin 18))) (hstage2_7 ((sl (7 : Fin 18)).cast nbuf2_7)) (spec2_8.stage (sl (8 : Fin 18))) (hstage2_8 ((sl (8 : Fin 18)).cast nbuf2_8)) (spec2_9.stage (sl (9 : Fin 18))) (hstage2_9 ((sl (9 : Fin 18)).cast nbuf2_9)) (spec2_10.stage (sl (10 : Fin 18))) (hstage2_10 ((sl (10 : Fin 18)).cast nbuf2_10)) (spec2_11.stage (sl (11 : Fin 18))) (hstage2_11 ((sl (11 : Fin 18)).cast nbuf2_11)) (spec2_12.stage (sl (12 : Fin 18))) (hstage2_12 ((sl (12 : Fin 18)).cast nbuf2_12)) (spec2_13.stage (sl (13 : Fin 18))) (hstage2_13 ((sl (13 : Fin 18)).cast nbuf2_13)) (spec2_14.stage (sl (14 : Fin 18))) (hstage2_14 ((sl (14 : Fin 18)).cast nbuf2_14)) (spec2_15.stage (sl (15 : Fin 18))) (hstage2_15 ((sl (15 : Fin 18)).cast nbuf2_15)) (spec2_16.stage (sl (16 : Fin 18))) (hstage2_16 ((sl (16 : Fin 18)).cast nbuf2_16)) (spec2_17.stage (sl (17 : Fin 18))) (hstage2_17 ((sl (17 : Fin 18)).cast nbuf2_17)) := rfl
  rw [hprog]
  have hΦ : ∀ t, (rd2 (Ix := Ix) (Name := Name) (U := U) (Lvl := Lvl) a W 1 c).Φ t = iprop(scopedRest (pin (pcfgs (F := F)) a 1).spec c ∗ (c.tc.loc main_v55 ↦{fullShare} (a 1).1 0) ∗ (c.tc.loc main_v62 ↦{fullShare} (a 1).1 1) ∗ (c.tc.loc main_v92 ↦{fullShare} (a 1).1 2)) := fun _ =>
      congrArg (fun T => iprop(scopedRest (pin (pcfgs (F := F)) a 1).spec c ∗ T)) (bigSep_univ_eq_bigSepL [(0 : Fin 3), (1 : Fin 3), (2 : Fin 3)] (by decide) (by decide) _)
  refine wp_use key (R := iprop(scopedRest (pin (pcfgs (F := F)) a 1).spec c ∗ (c.tc.loc main_v55 ↦{fullShare} (a 1).1 0) ∗ (c.tc.loc main_v62 ↦{fullShare} (a 1).1 1) ∗ (rd2 (Ix := Ix) (Name := Name) (U := U) (Lvl := Lvl) a W 1 c).owesAt ι t.castSucc)) ?_ fun _ => ?_
  · rw [hΦ t.castSucc]
    iintro ⟨⟨Hs, T0, T1, T2⟩, HO, H0, H1, H2, H3, H4, H5, H6, H7, H8, H9, H10, H11, H12, H13, H14, H15, H16, H17⟩
    isplitr [Hs T0 T1 HO]
    · isplitl [T2]; · iapply (Entails.of_eq (owns_whole c.tc main_v92 fullShare ((a 1).1 2)).symm); iexact T2
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      iexact H17
    · isplitl [Hs]; · iexact Hs
      isplitl [T0]; · iexact T0
      isplitl [T1]; · iexact T1
      iexact HO
  · rw [hΦ t.succ, bigSep_W2]
    iintro ⟨⟨%Z', %hZ, ⟨K3, H0, H1, H2, H3, H4, H5, H6, H7, H8, H9, H10, H11, H12, H13, H14, H15, H16⟩, H17⟩, Hs, T0, T1, HO⟩
    isplitl [Hs T0 T1 K3]
    · isplitl [Hs]; · iexact Hs
      isplitl [T0]; · iexact T0
      isplitl [T1]; · iexact T1
      iapply (Entails.of_eq (owns_whole c.tc main_v92 fullShare ((a 1).1 2))); iexact K3
    isplitl [HO]; · iexact HO
    isplitl [H0]
    · iexists (Y (0 : Fin 18)); isplitr
      · ipureintro; exact ⟨fun _ => rfl, fun h => absurd h (show ¬ ((0 : Fin 18) = 17) by decide)⟩
      iexact H0
    isplitl [H1]
    · iexists (Y (1 : Fin 18)); isplitr
      · ipureintro; exact ⟨fun _ => rfl, fun h => absurd h (show ¬ ((1 : Fin 18) = 17) by decide)⟩
      iexact H1
    isplitl [H2]
    · iexists (Y (2 : Fin 18)); isplitr
      · ipureintro; exact ⟨fun _ => rfl, fun h => absurd h (show ¬ ((2 : Fin 18) = 17) by decide)⟩
      iexact H2
    isplitl [H3]
    · iexists (Y (3 : Fin 18)); isplitr
      · ipureintro; exact ⟨fun _ => rfl, fun h => absurd h (show ¬ ((3 : Fin 18) = 17) by decide)⟩
      iexact H3
    isplitl [H4]
    · iexists (Y (4 : Fin 18)); isplitr
      · ipureintro; exact ⟨fun _ => rfl, fun h => absurd h (show ¬ ((4 : Fin 18) = 17) by decide)⟩
      iexact H4
    isplitl [H5]
    · iexists (Y (5 : Fin 18)); isplitr
      · ipureintro; exact ⟨fun _ => rfl, fun h => absurd h (show ¬ ((5 : Fin 18) = 17) by decide)⟩
      iexact H5
    isplitl [H6]
    · iexists (Y (6 : Fin 18)); isplitr
      · ipureintro; exact ⟨fun _ => rfl, fun h => absurd h (show ¬ ((6 : Fin 18) = 17) by decide)⟩
      iexact H6
    isplitl [H7]
    · iexists (Y (7 : Fin 18)); isplitr
      · ipureintro; exact ⟨fun _ => rfl, fun h => absurd h (show ¬ ((7 : Fin 18) = 17) by decide)⟩
      iexact H7
    isplitl [H8]
    · iexists (Y (8 : Fin 18)); isplitr
      · ipureintro; exact ⟨fun _ => rfl, fun h => absurd h (show ¬ ((8 : Fin 18) = 17) by decide)⟩
      iexact H8
    isplitl [H9]
    · iexists (Y (9 : Fin 18)); isplitr
      · ipureintro; exact ⟨fun _ => rfl, fun h => absurd h (show ¬ ((9 : Fin 18) = 17) by decide)⟩
      iexact H9
    isplitl [H10]
    · iexists (Y (10 : Fin 18)); isplitr
      · ipureintro; exact ⟨fun _ => rfl, fun h => absurd h (show ¬ ((10 : Fin 18) = 17) by decide)⟩
      iexact H10
    isplitl [H11]
    · iexists (Y (11 : Fin 18)); isplitr
      · ipureintro; exact ⟨fun _ => rfl, fun h => absurd h (show ¬ ((11 : Fin 18) = 17) by decide)⟩
      iexact H11
    isplitl [H12]
    · iexists (Y (12 : Fin 18)); isplitr
      · ipureintro; exact ⟨fun _ => rfl, fun h => absurd h (show ¬ ((12 : Fin 18) = 17) by decide)⟩
      iexact H12
    isplitl [H13]
    · iexists (Y (13 : Fin 18)); isplitr
      · ipureintro; exact ⟨fun _ => rfl, fun h => absurd h (show ¬ ((13 : Fin 18) = 17) by decide)⟩
      iexact H13
    isplitl [H14]
    · iexists (Y (14 : Fin 18)); isplitr
      · ipureintro; exact ⟨fun _ => rfl, fun h => absurd h (show ¬ ((14 : Fin 18) = 17) by decide)⟩
      iexact H14
    isplitl [H15]
    · iexists (Y (15 : Fin 18)); isplitr
      · ipureintro; exact ⟨fun _ => rfl, fun h => absurd h (show ¬ ((15 : Fin 18) = 17) by decide)⟩
      iexact H15
    isplitl [H16]
    · iexists (Y (16 : Fin 18)); isplitr
      · ipureintro; exact ⟨fun _ => rfl, fun h => absurd h (show ¬ ((16 : Fin 18) = 17) by decide)⟩
      iexact H16
    iexists Z'; isplitr
    · ipureintro; exact ⟨fun h => absurd h (show ¬ (true = false) by decide), fun _ => rel2_of c hT t Y hY Z' hZ⟩
    iexact H17

/-- The output window's blocks, which no table names. -/
def outWin2 : Window sig grid2 :=
  Window.ofSpec (G := grid2) (Memref.whole main_v93) S8x128.size cc2_transform_17 reads2_17 true false 2 stage2_17 sem2_17 (by decide) hreads2_17 hinb2_17
    nbuf2_17 (Memref.isWhole_whole _) hwx2_17 hstage2_17

theorem covers2 : outWin2.Covers := by decide +kernel

/-- Every row to sample of the array the region leaves. -/
theorem out2 (c : Dev nD) (hT : ∀ k, (a 1).1 k = W c (Proc.devRef .tc (pre2.ref k))) (A' : S1024x128.Idx → Elt F .i32)
    (h : (rd2 (Ix := Ix) (Name := Name) (U := U) (Lvl := Lvl) a W 1 c).ArrAt (17 : Fin 18) (pin (pcfgs (F := F)) a 1).N A') (r : S1024.Idx) (y : S1024x128.Idx) (hy : (y 0).val = (r 0).val)
    (hlt : (r 0).val < (nBwd (W c)).toNat) (hle : (nBwd (W c)).toNat ≤ 1024) : BwdRow (W c) r (A' y) := by
  obtain ⟨X, hX, hA⟩ := RDat.ArrAt.exists_exact h
  have e := hA (Function.update (fun _ _ _ => Classical.arbitrary _) (17 : Fin 18) X) fun u _ _ => by rw [Function.update_self]
  rw [e]
  let P : S1024x128.Idx → BitVec 32 → Prop := fun i v => ∀ r : S1024.Idx, (i 0).val = (r 0).val → (r 0).val < (nBwd (W c)).toNat → BwdRow (W c) r v
  suffices hk : P y _ from hk r hy hlt
  refine Dat.arrAt_forall_of_covers ((rd2 (Ix := Ix) (Name := Name) (U := U) (Lvl := Lvl) a W 1 c).withAfter _) (17 : Fin 18) P
    covers2 (fun t hf z => ?_) y (Memref.isWhole_whole _)
  intro r hr hlt
  obtain ⟨Y, -, -, hrel⟩ := hX t t.isLt hf
  have hr' : (r 0).val = 8 * t.val + (z 0).val := by
    rw [← hr]
    refine (Window.rect_emb_val ((pin (pcfgs (F := F)) a 1).win (17 : Fin 18)) t z 0 rfl).trans ?_
    have e : ((pin (pcfgs (F := F)) a 1).win (17 : Fin 18)).index t 0 = (BitVec.ofNat 32 (grid2.coords t 0).val).toNat := rfl
    rw [e, coords2]
    have := lt_of_lt_of_eq t.isLt N_2
    rw [BitVec.toNat_ofNat, Nat.mod_eq_of_lt (by omega)]
    show _ * 8 + _ = _
    omega
  have := hrel rfl z r hr' (hr' ▸ hlt) hle
  rw [RDat.withAfter_after, Function.update_self]
  exact this

variable (a W)

/-- The backward call's region. -/
def seg2 (𝒱 : Variants) (ι : Ix) (L : GSem nD τ sig → Finset Ix) (lv : GSem nD τ sig → Ix → Lvl)
    (hT : ∀ c k, (a 1).1 k = W c (Proc.devRef .tc (pre2.ref k))) :
    RDat.RegionSeg (pcfgs (F := F)) a (rd2 (Ix := Ix) (Name := Name) (U := U) (Lvl := Lvl) a W) ι defs₀ 𝒱 L lv 1 :=
  seg (pcfgs (F := F)) a (rd2 (Ix := Ix) (Name := Name) (U := U) (Lvl := Lvl) a W) ι defs₀ 𝒱 L lv 1 launch₀2 W (17 : Fin 18) rfl
    (show ∀ w : Fin 18, w ≠ 17 → (spec2 w).isOut = false by decide) (show ∀ w : Fin 18, w ≠ 17 → arrRef spec2 w ≠ arrRef spec2 17 by decide)
    (fun _ _ => rfl) hT (fun _ _ => rfl) (fun _ _ => rfl) (fun _ _ => rfl) (fun _ => rfl) (fun c => body2 𝒱 ι c (hT c))

end Region2

end Cert.KernelIdeal.Smooth

end
-- ==== Proof.LaunchIdeal.lean ====
/-
  The whole program's run. The TensorCore computes the tables, the flat matrix and the positions, deals the column call out to
  the 32 workers, then runs the forward region and the backward region, each over the buffers as the program has left them, and
  finishes with the host's own statements. What the run leaves is the last valuation in that line, in which the two regions'
  outputs are any contents whose rows are as the regions' relations say.
-/
module

public import proofs.«01_k».proof.Proof.DealIdeal
public import proofs.«01_k».proof.Proof.OpsPlainIdeal
public import proofs.«01_k».proof.Proof.Region1Ideal
public import proofs.«01_k».proof.Proof.Region2Ideal

@[expose] public section

noncomputable section

namespace Cert.KernelIdeal.Smooth

open Cert.KernelIdeal Cert.KernelIdeal.Gen

open Idealize.ShloMosaic
open Idealize.ShloMosaic.StableHlo (after held launchContents tcRefs seq seqK)
open Idealize.ShloMosaic.Pipeline (ucRefs pin cellsGhost toksInit RDat)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The regions' share of the ghost state. -/
abbrev EP : Emb UP (MT nD τ sig (HIx 1) (Elt F) ℕ UU ℕ) := (Emb.inl : Emb UP (UP × Counters)).trans embR

/-! ## The buffers along the program -/

section Line

variable (m : (ℓ : Loc nD τ sig) → Buf (Elt F) ℓ) (d : Dev nD)

/-- When the column call is dealt out. -/
def W0 : Valuation τ sig (Elt F) := after (opsA (F := F)) (launchContents m d)
def Xm : Buf (Elt F) (xLoc d) := W0 m d (Proc.devRef .tc main_v71)
def Im : Buf (Elt F) (iLoc d) := W0 m d (Proc.devRef .tc main_v83)
def om : Buf (Elt F) (oLoc d) := W0 m d (Proc.devRef .tc main_v84)
/-- When it is back. -/
def W1 : Valuation τ sig (Elt F) := Function.update (W0 m d) (Proc.devRef .tc main_v84) (picked (Xm m d) (Im m d))
/-- When the forward region is entered. -/
def W2 : Valuation τ sig (Elt F) := after (opsB (F := F)) (W1 m d)
/-- When it is left. -/
def W3 (A1 : S2048x128.Idx → BitVec 32) : Valuation τ sig (Elt F) := Function.update (W2 m d) (Proc.devRef .tc main_v89) A1
/-- When the backward region is entered. -/
def W4 (A1 : S2048x128.Idx → BitVec 32) : Valuation τ sig (Elt F) := after (opsC (F := F)) (W3 m d A1)
/-- When it is left. -/
def W5 (A1 : S2048x128.Idx → BitVec 32) (A2 : S1024x128.Idx → BitVec 32) : Valuation τ sig (Elt F) :=
  Function.update (W4 m d A1) (Proc.devRef .tc main_v93) A2
/-- At the end. -/
def W6 (A1 : S2048x128.Idx → BitVec 32) (A2 : S1024x128.Idx → BitVec 32) : Valuation τ sig (Elt F) := after (opsD (F := F)) (W5 m d A1 A2)

/-- What the two regions' outputs are. -/
def Sampled (A1 : S2048x128.Idx → BitVec 32) (A2 : S1024x128.Idx → BitVec 32) : Prop :=
  (∀ (r : S2048.Idx) (y : S2048x128.Idx), (y 0).val = (r 0).val → (r 0).val < (nFwd (W2 m d)).toNat → FwdRow (W2 m d) r (A1 y)) ∧
  ∀ (r : S1024.Idx) (y : S1024x128.Idx), (y 0).val = (r 0).val → (r 0).val < (nBwd (W4 m d A1)).toNat → BwdRow (W4 m d A1) r (A2 y)

end Line

/-! ## The launch's resources -/

/-- The two regions' ghost state on a device. -/
def Gst (a : (p : Fin 2) → (pcfgs (F := F) p).Adm) (d : Dev nD) : sProp 𝕄 :=
  iprop((cellsGhost (pin (pcfgs (F := F)) a) EP 0 d ∗ toksInit (pin (pcfgs (F := F)) a) EP 0 d)
    ∗ cellsGhost (pin (pcfgs (F := F)) a) EP 1 d ∗ toksInit (pin (pcfgs (F := F)) a) EP 1 d)

def u₀ (a : (p : Fin 2) → (pcfgs (F := F) p).Adm) : UU :=
  (initOf (K (F := F)).hsCells (K (F := F)).hsToks,
    (initOf (Pipeline.cells (pin (pcfgs (F := F)) a) (cellOf_inj a)) (Pipeline.launchToks (pin (pcfgs (F := F)) a) (cellOf_inj a)), 1))

theorem emps {ι : Type} (s : Finset ι) : (bigSep s fun _ => iprop(emp)) = (iprop(emp) : sProp 𝕄) := bigSep_emp_const s

theorem two (Φ : Fin 2 → sProp 𝕄) : bigSep Finset.univ Φ = iprop(Φ 0 ∗ Φ 1) := by
  rw [show (Finset.univ : Finset (Fin 2)) = insert 0 {1} by decide, SparseCore.bigSep_insert' (by decide), bigSep_singleton]

theorem ghosts (a : (p : Fin 2) → (pcfgs (F := F) p).Adm) :
    iprop((bigSep Finset.univ fun c : Dev nD => bigSep Finset.univ fun p => cellsGhost (pin (pcfgs (F := F)) a) EP p c)
      ∗ (bigSep Finset.univ fun c : Dev nD => bigSep Finset.univ fun p => (toksInit (pin (pcfgs (F := F)) a) EP p c : sProp 𝕄)))
      ⊢ bigSep Finset.univ (Gst a) := by
  rw [← bigSep_sep']
  refine Entails.of_eq (bigSep_congr fun c _ => ?_)
  rw [← bigSep_sep', two]
  rfl

theorem hu₀ (a : (p : Fin 2) → (pcfgs (F := F) p).Adm) (X : (d : Dev nD) → Buf (Elt F) (xLoc d)) (I : (d : Dev nD) → Buf (Elt F) (iLoc d)) (o : (d : Dev nD) → Buf (Elt F) (oLoc d)) :
    (ownU (u₀ (F := F) a) : sProp 𝕄)
    ⊢ |={Set.univ}=> iprop(BI.own (EH (initOf (K (F := F)).hsCells (K (F := F)).hsToks)) ∗ (bigSep Finset.univ (Gst a))
        ∗ bigSep Finset.univ fun thr : Thread nD τ => bigSep Finset.univ fun q : Fin 1 => (P X I o).x q thr) := by
  unfold u₀
  iintro Hu
  ihave H := (ownU_pair (initOf (K (F := F)).hsCells (K (F := F)).hsToks)
    ((initOf (Pipeline.cells (pin (pcfgs (F := F)) a) (cellOf_inj a)) (Pipeline.launchToks (pin (pcfgs (F := F)) a) (cellOf_inj a)), 1) : UP × Counters)) $$ Hu
  icases H with ⟨HH, HR⟩
  ihave H := (own_pair_emb (embR : Emb (UP × Counters) 𝕄)
    (initOf (Pipeline.cells (pin (pcfgs (F := F)) a) (cellOf_inj a)) (Pipeline.launchToks (pin (pcfgs (F := F)) a) (cellOf_inj a))) (1 : Counters)) $$ HR
  icases H with ⟨HP, -⟩
  ihave >HG := (Pipeline.fund_ghost (pin (pcfgs (F := F)) a) EP (cellOf_inj a)) $$ HP
  imodintro
  isplitl [HH]; · iexact HH
  isplitl [HG]
  · iapply (ghosts a) $$ [HG]; iexact HG
  rw [show (bigSep Finset.univ fun thr : Thread nD τ => bigSep Finset.univ fun q : Fin 1 => (P (F := F) X I o).x q thr) = bigSep Finset.univ fun _ => iprop(emp) from
    bigSep_congr fun _ _ => bigSep_univ_of_subsingleton (0 : Fin 1), emps]
  iempintro

/-! ## A region inside the program -/

/-- What the TensorCore carries past the column call beside what it owes. -/
def stRest (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom 1) fun q : Fin 1 => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some (SparseCore.Cfg.Blocks.last q)) 1)))

theorem st_split (d : Dev nD) : ((K (F := F)).tcSt EH d 1 : sProp 𝕄) ⊢ iprop((∃ W, owes (T d) 0 W) ∗ stRest d) := by
  unfold SparseCore.Cfg.tcSt stRest
  rw [SparseCore.Cfg.Otc_end (K (F := F)) d (Nat.le_refl 1)]
  iintro ⟨⟨%W, -, HO⟩, H⟩
  isplitl [HO]; · iexists W; iexact HO
  iexact H

theorem st_join (d : Dev nD) : iprop((∃ W, owes (T d) 0 W) ∗ stRest d) ⊢ ((K (F := F)).tcSt EH d 1 : sProp 𝕄) := by
  unfold SparseCore.Cfg.tcSt stRest
  rw [SparseCore.Cfg.Otc_end (K (F := F)) d (Nat.le_refl 1)]
  iintro ⟨⟨%W, HO⟩, H⟩
  isplitl [HO]
  · iexists W
    isplitr
    · ipureintro
      intro p _
      match p with
      | (s, none) => exact Nat.zero_le _
      | (s, some q) =>
        refine ((K (F := F)).lev_some_le (T d, s) q).trans ?_
        have : q.val = 0 := by omega
        rw [this]; decide
    · iexact HO
  iexact H

variable [∀ e, Nonempty (Elt F e)]

theorem region_wp {a : (p : Fin 2) → (pcfgs (F := F) p).Adm} {L : GSem nD τ sig → Finset (HIx 1)} {lv : GSem nD τ sig → HIx 1 → ℕ}
    {rdats : (p : Fin 2) → (c : Dev nD) → RDat τ (Elt F) (HIx 1) ℕ UU ℕ (pin (pcfgs (F := F)) a p) c} {p : Fin 2}
    (R : RDat.RegionSeg (pcfgs (F := F)) a rdats none defs₀ 𝒱₀ L lv p) (d : Dev nD) (Q : PUnit → sProp 𝕄) :
    iprop((iprop(boundary (T d) ∗ R.post d) -∗ Q ⟨⟩) ∗ boundary (T d) ∗ R.pre d ∗ levAts L lv
        ∗ cellsGhost (pin (pcfgs (F := F)) a) EP p d ∗ toksInit (pin (pcfgs (F := F)) a) EP p d)
      ⊢ wp frame (wpE ((K (F := F)).defs (D (F := F))) 𝒱 (T d) none) Set.univ (Prog.lift (.customCall (SparseCore.inner (Pipeline.entry p)) ())) Q := by
  refine BIBase.Entails.trans ?_ ((K (F := F)).wp_liftProg (D (F := F)) 𝒱 (T d) Set.univ none (.op (.customCall (Pipeline.entry p) ()) fun x => .ret x) Q)
  refine BIBase.Entails.trans ?_ (RDat.RegionSeg.wp (pcfgs (F := F)) a rdats none (cellOf_inj a) EP defs₀ 𝒱₀ L lv R d none (fun _ h => nomatch h) _ Q)
  iintro ⟨Hk, Hb, Hp, Hl, Hc, Ht⟩
  isplitl [Hk]
  · iintro H
    simp only [wp_ret]
    imodintro
    iapply Hk $$ [H]; iexact H
  isplitl [Hb]; · iexact Hb
  isplitl [Hp]; · iexact Hp
  isplitl [Hl]; · iexact Hl
  isplitl [Hc]; · iexact Hc
  iexact Ht

/-! ## The program -/

section Main

variable (m : (ℓ : Loc nD τ sig) → Buf (Elt F) ℓ) (ρ : Dev nD → PrngReg)
variable (a : (p : Fin 2) → (pcfgs (F := F) p).Adm)

/-- The column call's three arrays. -/
def three : Finset (DevRef τ sig) := {Proc.devRef .tc main_v71, Proc.devRef .tc main_v83, Proc.devRef .tc main_v84}

theorem three_sub : three ⊆ ucRefs τ sig := by
  intro b hb
  simp only [three, Finset.mem_insert, Finset.mem_singleton] at hb
  rcases hb with rfl | rfl | rfl <;> exact Finset.mem_filter.mpr ⟨StableHlo.devRef_mem_tcRefs _, by decide⟩

theorem held_three (d : Dev nD) (W : Valuation τ sig (Elt F)) :
    (held (T d) three W : sProp 𝕄) = iprop((xLoc d ↦{fullShare} W (Proc.devRef .tc main_v71)) ∗ (iLoc d ↦{fullShare} W (Proc.devRef .tc main_v83))
      ∗ oLoc d ↦{fullShare} W (Proc.devRef .tc main_v84)) := by
  unfold held three
  rw [SparseCore.bigSep_insert' (by decide), SparseCore.bigSep_insert' (by decide), bigSep_singleton]

theorem back (d : Dev nD) :
    iprop(((xLoc d ↦{fullShare} Xm m d) ∗ (iLoc d ↦{fullShare} Im m d) ∗ oLoc d ↦{fullShare} picked (Xm m d) (Im m d))
      ∗ held (T d) (ucRefs τ sig \ three) (W0 m d)) ⊢ (held (T d) (ucRefs τ sig) (W1 m d) : sProp 𝕄) := by
  rw [StableHlo.held_sub_split (T d) three_sub (W1 m d), held_three]
  have h1 : W1 m d (Proc.devRef .tc main_v71) = Xm m d := Function.update_of_ne (by decide) _ _
  have h2 : W1 m d (Proc.devRef .tc main_v83) = Im m d := Function.update_of_ne (by decide) _ _
  have h3 : W1 m d (Proc.devRef .tc main_v84) = picked (Xm m d) (Im m d) := Function.update_self _ _ _
  rw [h1, h2, h3, StableHlo.held_congr (T d) (S := ucRefs τ sig \ three) (V := W0 m d) (V' := W1 m d) fun b hb => (Function.update_of_ne (fun h => by
    subst h
    exact (Finset.mem_sdiff.mp hb).2 (by simp [three])) _ _).symm]

/-- What the program leaves. -/
def FIN (d : Dev nD) : sProp 𝕄 :=
  iprop(∃ (A1 : S2048x128.Idx → BitVec 32) (A2 : S1024x128.Idx → BitVec 32), ⌜Sampled m d A1 A2⌝ ∗ held (T d) (ucRefs τ sig) (W6 m d A1 A2))

theorem pre1_of (L : GSem nD τ sig → Finset (HIx 1)) (lv : GSem nD τ sig → HIx 1 → ℕ) (d : Dev nD)
    (hT : ∀ c k, (a 0).1 k = W2 m c (Proc.devRef .tc (pre1.ref k))) :
    iprop(held (T d) (ucRefs τ sig) (W2 m d) ∗ ∃ Wd, owes (T d) 0 Wd) ⊢ ((seg1 (Name := ℕ) (U := UU) a (W2 m) 𝒱₀ none L lv hT).pre d : sProp 𝕄) :=
  Entails.of_eq rfl

theorem pre2_of (L : GSem nD τ sig → Finset (HIx 1)) (lv : GSem nD τ sig → HIx 1 → ℕ) (d : Dev nD) (A1 : S2048x128.Idx → BitVec 32)
    (hT : ∀ (c : Dev nD) k, (a 1).1 k = (fun _ : Dev nD => W4 m d A1) c (Proc.devRef .tc (pre2.ref k))) :
    iprop(held (T d) (ucRefs τ sig) (W4 m d A1) ∗ ∃ Wd, owes (T d) 0 Wd)
      ⊢ ((seg2 (Name := ℕ) (U := UU) a (fun _ => W4 m d A1) 𝒱₀ none L lv hT).pre d : sProp 𝕄) :=
  Entails.of_eq rfl

theorem post1 (L : GSem nD τ sig → Finset (HIx 1)) (lv : GSem nD τ sig → HIx 1 → ℕ) (d : Dev nD)
    (hT : ∀ c k, (a 0).1 k = W2 m c (Proc.devRef .tc (pre1.ref k))) (hn : (nFwd (W2 m d)).toNat ≤ 2048) :
    ((seg1 (Name := ℕ) (U := UU) a (W2 m) 𝒱₀ none L lv hT).post d : sProp 𝕄)
      ⊢ iprop((∃ A1 : S2048x128.Idx → BitVec 32, ⌜∀ (r : S2048.Idx) (y : S2048x128.Idx), (y 0).val = (r 0).val → (r 0).val < (nFwd (W2 m d)).toNat → FwdRow (W2 m d) r (A1 y)⌝
        ∗ held (T d) (ucRefs τ sig) (W3 m d A1)) ∗ ∃ Wd, owes (T d) 0 Wd) := by
  refine BIBase.Entails.trans (Entails.of_eq (show _ = iprop((∃ A1 : S2048x128.Idx → BitVec 32,
    ⌜(rd1 (Ix := HIx 1) (Name := ℕ) (U := UU) (Lvl := ℕ) a (W2 m) 0 d).ArrAt (17 : Fin 18) (pin (pcfgs (F := F)) a 0).N A1⌝
      ∗ held (T d) (ucRefs τ sig) (W3 m d A1)) ∗ ∃ Wd, owes (T d) 0 Wd) from rfl)) ?_
  iintro ⟨⟨%A1, %hA, Hh⟩, HO⟩
  isplitl [Hh]
  · iexists A1
    isplitr
    · ipureintro
      exact fun r y hy hlt => out1 d (hT d) A1 hA r y hy hlt hn
    · iexact Hh
  · iexact HO

theorem post2 (L : GSem nD τ sig → Finset (HIx 1)) (lv : GSem nD τ sig → HIx 1 → ℕ) (d : Dev nD) (A1 : S2048x128.Idx → BitVec 32)
    (hT : ∀ (c : Dev nD) k, (a 1).1 k = (fun _ : Dev nD => W4 m d A1) c (Proc.devRef .tc (pre2.ref k))) (hn : (nBwd (W4 m d A1)).toNat ≤ 1024) :
    ((seg2 (Name := ℕ) (U := UU) a (fun _ => W4 m d A1) 𝒱₀ none L lv hT).post d : sProp 𝕄)
      ⊢ iprop((∃ A2 : S1024x128.Idx → BitVec 32, ⌜∀ (r : S1024.Idx) (y : S1024x128.Idx), (y 0).val = (r 0).val → (r 0).val < (nBwd (W4 m d A1)).toNat → BwdRow (W4 m d A1) r (A2 y)⌝
        ∗ held (T d) (ucRefs τ sig) (W5 m d A1 A2)) ∗ ∃ Wd, owes (T d) 0 Wd) := by
  refine BIBase.Entails.trans (Entails.of_eq (show _ = iprop((∃ A2 : S1024x128.Idx → BitVec 32,
    ⌜(rd2 (Ix := HIx 1) (Name := ℕ) (U := UU) (Lvl := ℕ) a (fun _ => W4 m d A1) 1 d).ArrAt (17 : Fin 18) (pin (pcfgs (F := F)) a 1).N A2⌝
      ∗ held (T d) (ucRefs τ sig) (W5 m d A1 A2)) ∗ ∃ Wd, owes (T d) 0 Wd) from rfl)) ?_
  iintro ⟨⟨%A2, %hA, Hh⟩, HO⟩
  isplitl [Hh]
  · iexists A2
    isplitr
    · ipureintro
      exact fun r y hy hlt => out2 (W := fun _ => W4 m d A1) d (hT d) A2 hA r y hy hlt hn
    · iexact Hh
  · iexact HO

theorem unscoped_held (d : Dev nD) : (unscopedBufs d (fun b => m ((SparseCore.T d).loc b)) : sProp 𝕄) = held (T d) (ucRefs τ sig) (launchContents m d) := by
  rw [← Pipeline.unscopedBufs_held (Ix := HIx 1) (Name := ℕ) (U := UU) (Lvl := ℕ) d (launchContents m d)]

/-- A line of statements over the core's own buffers. -/
theorem wp_line (d : Dev nD) (ops : List (HloOp τ sig (Elt F))) (hp : Plain ops) (k : PUnit → Prog (TpuEff nD τ sig (Elt F) (SparseCore.Sig (Pipeline.Sig Λ₀ (Fin 2) fun p => (pcfgs (F := F) p).Adm) 1) .tc) PUnit) (V : Valuation τ sig (Elt F)) (Q : PUnit → sProp 𝕄) :
    iprop((boundary (T d) ∗ held (T d) (ucRefs τ sig) V) ∗ ((boundary (T d) ∗ held (T d) (ucRefs τ sig) (after ops V))
      -∗ wp frame (wpE ((K (F := F)).defs (D (F := F))) 𝒱 (T d) none) Set.univ (k ⟨⟩) Q))
      ⊢ wp frame (wpE ((K (F := F)).defs (D (F := F))) 𝒱 (T d) none) Set.univ (seq ops >>= k) Q := by
  iintro ⟨H, Hk⟩
  iapply (StableHlo.wp_seq 𝒱 none Set.univ d (ucRefs τ sig) k ops hp.1 hp.2 V) $$ [H]
  · iexact H
  iexact Hk

/-- The program after its first, second, third and last line of statements. -/
def kD : PUnit → Prog (TpuEff nD τ sig (Elt F) (SparseCore.Sig (Pipeline.Sig Λ₀ (Fin 2) fun p => (pcfgs (F := F) p).Adm) 1) .tc) PUnit := fun _ => pure ⟨⟩
def kC : PUnit → Prog (TpuEff nD τ sig (Elt F) (SparseCore.Sig (Pipeline.Sig Λ₀ (Fin 2) fun p => (pcfgs (F := F) p).Adm) 1) .tc) PUnit := fun _ => Prog.lift (.customCall (SparseCore.inner (Pipeline.entry 1)) ()) >>= fun _ => seq (opsD (F := F)) >>= kD
def kB : PUnit → Prog (TpuEff nD τ sig (Elt F) (SparseCore.Sig (Pipeline.Sig Λ₀ (Fin 2) fun p => (pcfgs (F := F) p).Adm) 1) .tc) PUnit := fun _ => Prog.lift (.customCall (SparseCore.inner (Pipeline.entry 0)) ()) >>= fun _ => seq (opsC (F := F)) >>= kC
def kA (d : Dev nD) : PUnit → Prog (TpuEff nD τ sig (Elt F) (SparseCore.Sig (Pipeline.Sig Λ₀ (Fin 2) fun p => (pcfgs (F := F) p).Adm) 1) .tc) PUnit := fun _ => (sc (F := F)).run d 0 >>= fun _ => seq (opsB (F := F)) >>= kB

theorem main_kA (d : Dev nD) : main (F := F) d = seq (opsA (F := F)) >>= kA d := main_eq d

attribute [local irreducible] opsA opsB opsC opsD

theorem hmain (hT1 : ∀ c k, (a 0).1 k = W2 m c (Proc.devRef .tc (pre1.ref k))) (hT2 : ∀ A1 c k, (a 1).1 k = W4 m c A1 (Proc.devRef .tc (pre2.ref k)))
    (hn1 : ∀ d, (nFwd (W2 m d)).toNat ≤ 2048) (hn2 : ∀ d A1, (nBwd (W4 m d A1)).toNat ≤ 1024) (κ : GSem nD τ sig → ℕ) (d : Dev nD) :
    iprop((K (F := F)).ctx EH (P (Xm m) (Im m) (om m)) κ ∗ (K (F := F)).tcSt EH d 0 ∗ (K (F := F)).tcRes m ρ d ∗ Gst a d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd Gst
  rw [unscoped_held, main_kA]
  iintro ⟨#Hctx, Hst, ⟨Hb, Hheld, Hts, -⟩, ⟨⟨HG1, HT1⟩, HG2, HT2⟩⟩
  ihave #Hlev := (SparseCore.Cfg.ctx_levAts κ) $$ Hctx
  iapply (@wp_line F _ _ d (opsA (F := F)) (opsA_plain (F := F)) (kA (F := F) d) (launchContents m d) _) $$ [Hb Hheld Hst Hts HG1 HT1 HG2 HT2]
  isplitl [Hb Hheld]
  · isplitl [Hb]; · iexact Hb
    iexact Hheld
  iintro ⟨Hb, Hheld⟩
  ihave Hh := (Entails.of_eq (show (held (d.tc : Thread nD τ) (ucRefs τ sig) (after (opsA (F := F)) (launchContents m d)) : sProp 𝕄)
      = iprop(held (T d) three (W0 m d) ∗ held (T d) (ucRefs τ sig \ three) (W0 m d)) from StableHlo.held_sub_split (T d) three_sub (W0 m d))) $$ Hheld
  icases Hh with ⟨Hh, Hrest⟩
  ihave Hh' := (Entails.of_eq (held_three d (W0 m d))) $$ Hh
  icases Hh' with ⟨Hx, Hi, Ho⟩
  rw [show kA (F := F) d ⟨⟩ = ((sc (F := F)).run d 0 >>= fun _ => seq (opsB (F := F)) >>= kB) from rfl, wp_bind]
  iapply ((K (F := F)).wp_run (D (F := F)) 𝒱 (EH := EH) (P := P (Xm m) (Im m) (om m)) κ d 0) $$ [Hst Hx Hi Ho Hrest Hb Hts HG1 HT1 HG2 HT2]
  isplitr; · iexact Hctx
  isplitl [Hst]; · iexact Hst
  isplitl [Hx Hi Ho]
  · rw [st_all]
    isplitl [Hx]; · iexact Hx
    isplitl [Hi]; · iexact Hi
    iexact Ho
  iintro ⟨Hst, Hdn⟩
  ihave Hdn' := (Entails.of_eq (dn_all (Xm m) (Im m) (om m) d)) $$ Hdn
  ihave Hheld := (back m d) $$ [Hdn' Hrest]
  · isplitl [Hdn']; · iexact Hdn'
    iexact Hrest
  ihave Hst' := (Entails.of_eq (show ((K (F := F)).tcSt EH d ((0 : Fin 1).val + 1) : sProp 𝕄) = (K (F := F)).tcSt EH d 1 from rfl)) $$ Hst
  ihave Hs := (st_split (F := F) d) $$ Hst'
  icases Hs with ⟨HO, Hsr⟩
  iapply (@wp_line F _ _ d (opsB (F := F)) (opsB_plain (F := F)) (kB (F := F)) (W1 m d) _) $$ [Hb Hheld HO Hsr Hts HG1 HT1 HG2 HT2]
  isplitl [Hb Hheld]
  · isplitl [Hb]; · iexact Hb
    iexact Hheld
  iintro ⟨Hb, Hheld⟩
  rw [show kB (F := F) ⟨⟩ = (Prog.lift (.customCall (SparseCore.inner (Pipeline.entry 0)) ()) >>= fun _ => seq (opsC (F := F)) >>= kC) from rfl, wp_bind]
  iapply (region_wp (seg1 (Name := ℕ) (U := UU) a (W2 m) 𝒱₀ none (K (F := F)).L (K (F := F)).lev hT1) d _) $$ [Hb Hheld HO Hsr Hts HG1 HT1 HG2 HT2]
  isplitl [Hsr Hts HG2 HT2]
  · iintro ⟨Hb, Hp⟩
    ihave Hp' := (post1 m a _ _ d hT1 (hn1 d)) $$ Hp
    icases Hp' with ⟨⟨%A1, %h1, Hheld⟩, HO⟩
    iapply (@wp_line F _ _ d (opsC (F := F)) (opsC_plain (F := F)) (kC (F := F)) (W3 m d A1) _) $$ [Hb Hheld HO Hsr Hts HG2 HT2]
    isplitl [Hb Hheld]
    · isplitl [Hb]; · iexact Hb
      iexact Hheld
    iintro ⟨Hb, Hheld⟩
    rw [show kC (F := F) ⟨⟩ = (Prog.lift (.customCall (SparseCore.inner (Pipeline.entry 1)) ()) >>= fun _ => seq (opsD (F := F)) >>= kD) from rfl, wp_bind]
    iapply (region_wp (seg2 (Name := ℕ) (U := UU) a (fun _ => W4 m d A1) 𝒱₀ none (K (F := F)).L (K (F := F)).lev fun _ k => hT2 A1 d k) d _) $$ [Hb Hheld HO Hsr Hts HG2 HT2]
    isplitl [Hsr Hts]
    · iintro ⟨Hb, Hp⟩
      ihave Hp' := (post2 m a _ _ d A1 (fun _ k => hT2 A1 d k) (hn2 d A1)) $$ Hp
      icases Hp' with ⟨⟨%A2, %h2, Hheld⟩, HO⟩
      iapply (@wp_line F _ _ d (opsD (F := F)) (opsD_plain (F := F)) (kD (F := F)) (W5 m d A1 A2) _) $$ [Hb Hheld HO Hsr Hts]
      isplitl [Hb Hheld]
      · isplitl [Hb]; · iexact Hb
        iexact Hheld
      iintro ⟨Hb, Hheld⟩
      rw [show kD (F := F) ⟨⟩ = pure ⟨⟩ from rfl, wp_pure]
      imodintro
      isplitl [HO Hsr]
      · iapply (st_join (F := F) d) $$ [HO Hsr]
        isplitl [HO]; · iexact HO
        iexact Hsr
      isplitl [Hheld]
      · unfold FIN
        iexists A1; iexists A2
        isplitr
        · ipureintro; exact ⟨h1, h2⟩
        · iexact Hheld
      isplitl [Hb] <;> iassumption
    isplitl [Hb]; · iexact Hb
    isplitl [Hheld HO]
    · iapply (pre2_of m a _ _ d A1 fun _ k => hT2 A1 d k) $$ [Hheld HO]
      isplitl [Hheld]; · iexact Hheld
      iexact HO
    isplitr; · iexact Hlev
    isplitl [HG2]; · iexact HG2
    iexact HT2
  isplitl [Hb]; · iexact Hb
  isplitl [Hheld HO]
  · iapply (pre1_of m a _ _ d hT1) $$ [Hheld HO]
    isplitl [Hheld]; · iexact Hheld
    iexact HO
  isplitr; · iexact Hlev
  isplitl [HG1]; · iexact HG1
  iexact HT1

/-! ## The run -/

theorem held_read (d : Dev nD) (S : Finset (DevRef τ sig)) (W : Valuation τ sig (Elt F)) (s' : Phys nD τ sig (Elt F)) :
    iprop(held (T d) S W ∗ SI s') ⊢ (⌜∀ b, b ∈ S → s'.mem.mem (d, b) = W b⌝ : sProp 𝕄) := by
  refine BIBase.Entails.trans (Idealize.SL.BI.BIClass.forall_intro (PROP := sProp 𝕄) (Φ := fun b => iprop(⌜b ∈ S → s'.mem.mem (d, b) = W b⌝)) fun b => ?_) (pure_forall (PROP := sProp 𝕄)).2
  by_cases hb : b ∈ S
  · rw [StableHlo.held_sub_split (T d) (Finset.singleton_subset_iff.mpr hb) W]
    unfold held
    rw [bigSep_singleton]
    iintro ⟨⟨Hb, -⟩, HSI⟩
    ihave H := (SI_pointsTo_agree (st := s') (ℓ := (d, b)) (I := Finset.univ) (q := fullShare) (f := W b)) $$ [HSI Hb]
    · isplitl [HSI] <;> iassumption
    icases H with %h
    ipureintro
    exact fun _ => funext fun i => h i (Finset.mem_univ i)
  · iintro -
    ipureintro
    exact fun h => absurd h hb

def fq (d : Dev nD) (s' : Phys nD τ sig (Elt F)) : Prop :=
  ∃ A1 A2, Sampled m d A1 A2 ∧ ∀ b, b ∈ ucRefs τ sig → s'.mem.mem (d, b) = W6 m d A1 A2 b

theorem hfin (d : Dev nD) (s' : Phys nD τ sig (Elt F)) : iprop(FIN m d ∗ SI s') ⊢ (⌜fq m d s'⌝ : sProp 𝕄) := by
  unfold FIN
  iintro ⟨⟨%A1, %A2, %hS, Hh⟩, HSI⟩
  ihave H := (held_read d (ucRefs τ sig) (W6 m d A1 A2) s') $$ [Hh HSI]
  · isplitl [Hh] <;> iassumption
  icases H with %h
  ipureintro
  exact ⟨A1, A2, hS, h⟩

def QC : PUnit × MemSt nD τ sig (Elt F) → Prop := fun r =>
  (∀ d : Dev nD, ∃ A1 A2, Sampled m d A1 A2 ∧ ∀ b, b ∈ ucRefs τ sig → r.2.mem (d, b) = W6 m d A1 A2 b) ∧ r.2.sem = fun _ => 0

/-- The program's run, from tables that keep their windows inside the arrays and positions inside the flat matrix. -/
theorem run_main (hT1 : ∀ c k, (a 0).1 k = W2 m c (Proc.devRef .tc (pre1.ref k))) (hT2 : ∀ A1 c k, (a 1).1 k = W4 m c A1 (Proc.devRef .tc (pre2.ref k)))
    (hn1 : ∀ d, (nFwd (W2 m d)).toNat ≤ 2048) (hn2 : ∀ d A1, (nBwd (W4 m d A1)).toNat ≤ 1024) (hI : ∀ d j, (Im m d j).toNat < 67108864) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (Xm m) (Im m) (om m)) (A := ∅) launchFacts v₀
    (fun q hq => match q with | 0 => nomatch hq)
    (fun q _ => match q with | 0 => tileObl (Xm m) (Im m) (om m) launchFacts hI)
    (fun q _ => match q with | 0 => SparseCore.Cfg.VecSplit.of_plain (vecSplit (Xm m) (Im m) (om m)))
    m ρ main (Gst a) (FIN m) (u₀ (F := F) a) (sep_elim_left.trans (hu₀ a (Xm m) (Im m) (om m))) (hmain m ρ a hT1 hT2 hn1 hn2) (fq m) (hfin m) (QC m) (fun _ h hz => ⟨h, hz⟩)

end Main

end Cert.KernelIdeal.Smooth

end
-- ==== Proof.ValsIdeal.lean ====
/-
  What the host's own statements leave in the buffers the two regions and the column call read, each as a function of the
  program's arguments.
-/
module

public import proofs.«01_k».proof.Proof.LaunchIdeal
public import Idealize.ShloMosaic.Lib.StableHlo.RunRead

@[expose] public section

set_option maxRecDepth 16384

noncomputable section

namespace Cert.KernelIdeal.Smooth

open Cert.KernelIdeal Cert.KernelIdeal.Gen

open Idealize.ShloMosaic
open Idealize.ShloMosaic.StableHlo (after launchContents)

variable {F : FTy → Type} [FloatOps F]

/-! ## The host's tables as functions -/

/-- The symbol before each position (0 at the first). -/
def prevSym (z : S2048.Idx → BitVec 32) : S2048.Idx → BitVec 32 :=
  concatenate S2048 0 [⟨S1, broadcastInDim S1 ![] bcast_S_S1 (constantI S_ 32 0#32)⟩,
    ⟨S2047, extractStridedSlice S2047 ![0] z slices_S2048_S2047_0⟩] concatenates_S1_S2047_S2048_d0
/-- Whether the position before is unmasked (never at the first). -/
def prevUn (c : S2048.Idx → BitVec 1) : S2048.Idx → BitVec 1 :=
  concatenate S2048 0 [⟨S1, constantI S1 1 0#1⟩,
    ⟨S2047, noti (extractStridedSlice S2047 ![0] c slices_S2048_S2047_0)⟩] concatenates_S1_S2047_S2048_d0
/-- The symbol after each position (0 at the last). -/
def nextSym (z : S2048.Idx → BitVec 32) : S2048.Idx → BitVec 32 :=
  concatenate S2048 0 [⟨S2047, extractStridedSlice S2047 ![1] z slices_S2048_S2047_1⟩,
    ⟨S1, broadcastInDim S1 ![] bcast_S_S1 (constantI S_ 32 0#32)⟩] concatenates_S2047_S1_S2048_d0
/-- Whether the position after is unmasked (never at the last). -/
def nextUn (c : S2048.Idx → BitVec 1) : S2048.Idx → BitVec 1 :=
  concatenate S2048 0 [⟨S2047, noti (extractStridedSlice S2047 ![1] c slices_S2048_S2047_1)⟩,
    ⟨S1, constantI S1 1 0#1⟩] concatenates_S2047_S1_S2048_d0
/-- The masked positions with both neighbours unmasked. -/
def lone (c : S2048.Idx → BitVec 1) : S2048.Idx → BitVec 1 := andi (andi c (prevUn c)) (nextUn c)
/-- The positions listed marked ones first. -/
def order (c : S2048.Idx → BitVec 1) : S2048.Idx → BitVec 32 :=
  (Host.sort2 S2048 0 comparator_i1_i32_d0 (noti c) (iotaInDim S2048 32 0)).2
/-- Where a list of positions has each position. -/
def place (o : S2048.Idx → BitVec 32) : S2048.Idx → BitVec 32 :=
  (Host.sort2 S2048 0 comparator_i32_i32_d0 o (iotaInDim S2048 32 0)).2
/-- How many positions are marked. -/
def count (c : S2048.Idx → BitVec 1) : S_.Idx → BitVec 32 :=
  Host.reduce IntOp.addi (extui 32 c natLt_1_32) (constantI S_ 32 0#32) reducesTo_S2048_S_d0 h_S_
/-- The forward region's positions: the masked ones, then the first of them over and over. -/
def fwdPos (c : S2048.Idx → BitVec 1) : S2048.Idx → BitVec 32 :=
  select (cmpi .slt (iotaInDim S2048 32 0) (broadcastInDim S2048 ![] bcast_S_S2048 (count c))) (order c)
    (broadcastInDim S2048 ![] bcast_S_S2048
      (shapeCast S_ (extractStridedSlice S1 ![0] (order c) slices_S2048_S1_0) shapeCasts_S1_S_))
/-- A position as the host looks it up: below zero counted from the end. -/
def wrap (o : S2048.Idx → BitVec 32) : S2048.Idx → BitVec 32 :=
  select (cmpi .slt o (broadcastInDim S2048 ![] bcast_S_S2048 (constantI S_ 32 0#32)))
    (addi o (broadcastInDim S2048 ![] bcast_S_S2048 (constantI S_ 32 2048#32))) o
/-- A table looked up at 2048 positions. -/
def look {α : Type} (x : S2048.Idx → α) (o : S2048.Idx → BitVec 32) : S2048.Idx → α :=
  Host.gather gather_S2048_S2048x1_S2048_n_0_n_n_0_1_1 x (broadcastInDim S2048x1 ![0] bcast_S2048_S2048x1_0 (wrap o))
def fwdUn (c : S2048.Idx → BitVec 1) : S2048.Idx → BitVec 32 := extui 32 (look (prevUn c) (fwdPos c)) natLt_1_32
def fwdPrev (z : S2048.Idx → BitVec 32) (c : S2048.Idx → BitVec 1) : S2048.Idx → BitVec 32 :=
  select (cmpi .sgt (fwdUn c) (broadcastInDim S2048 ![] bcast_S_S2048 (constantI S_ 32 0#32)))
    (look (prevSym z) (fwdPos c)) (broadcastInDim S2048 ![] bcast_S_S2048 (constantI S_ 32 0#32))
/-- Which of the backward region's 1024 entries are in use. -/
def bwdUse (c : S2048.Idx → BitVec 1) : S1024.Idx → BitVec 1 :=
  cmpi .slt (iotaInDim S1024 32 0) (broadcastInDim S1024 ![] bcast_S_S1024 (count (lone c)))
def bwdList (c : S2048.Idx → BitVec 1) : S1024.Idx → BitVec 32 :=
  extractStridedSlice S1024 ![0] (order (lone c)) slices_S2048_S1024_0
/-- The backward region's positions. -/
def bwdPos (c : S2048.Idx → BitVec 1) : S1024.Idx → BitVec 32 :=
  select (bwdUse c) (bwdList c)
    (broadcastInDim S1024 ![] bcast_S_S1024
      (shapeCast S_ (extractStridedSlice S1 ![0] (bwdList c) slices_S1024_S1_0) shapeCasts_S1_S_))
def wrap' (o : S1024.Idx → BitVec 32) : S1024.Idx → BitVec 32 :=
  select (cmpi .slt o (broadcastInDim S1024 ![] bcast_S_S1024 (constantI S_ 32 0#32)))
    (addi o (broadcastInDim S1024 ![] bcast_S_S1024 (constantI S_ 32 2048#32))) o
/-- A table looked up at 1024 positions. -/
def look' {α : Type} (x : S2048.Idx → α) (o : S1024.Idx → BitVec 32) : S1024.Idx → α :=
  Host.gather gather_S2048_S1024x1_S1024_n_0_n_n_0_1_1 x (broadcastInDim S1024x1 ![0] bcast_S1024_S1024x1_0 (wrap' o))
/-- The flat positions the column call reads. -/
def wordPos (u : S1024.Idx → BitVec 1) (s : S1024.Idx → BitVec 32) : S8388608.Idx → BitVec 32 :=
  shapeCast S8388608 (select
    (broadcastInDim S1024x8192 ![0, 1] bcast_S1024x1_S1024x8192_0_1 (broadcastInDim S1024x1 ![0] bcast_S1024_S1024x1_0 u))
    (addi (broadcastInDim S1024x8192 ![0, 1] bcast_S1024x1_S1024x8192_0_1 (broadcastInDim S1024x1 ![0] bcast_S1024_S1024x1_0 s))
      (broadcastInDim S1024x8192 ![0, 1] bcast_S1x8192_S1024x8192_0_1 (broadcastInDim S1x8192 ![1] bcast_S8192_S1x8192_1
        (muli (iotaInDim S8192 32 0) (broadcastInDim S8192 ![] bcast_S_S8192 (constantI S_ 32 8192#32))))))
    (broadcastInDim S1024x8192 ![0, 1] bcast_S1x8192_S1024x8192_0_1 (broadcastInDim S1x8192 ![1] bcast_S8192_S1x8192_1
      (iotaInDim S8192 32 0)))) shapeCasts_S1024x8192_S8388608

/-- The forward results taken at a list of entries, as the host takes them. -/
def takeFwd (x : S2048.Idx → BitVec 32) (o : S2048.Idx → BitVec 32) : S2048.Idx → BitVec 32 :=
  select (Host.reduce IntOp.andi (andi
      (cmpi .sge (broadcastInDim S2048x1 ![0] bcast_S2048_S2048x1_0 (wrap o)) (broadcastInDim S2048x1 ![] bcast_S_S2048x1 (constantI S_ 32 0#32)))
      (cmpi .sle (broadcastInDim S2048x1 ![0] bcast_S2048_S2048x1_0 (wrap o))
        (broadcastInDim S2048x1 ![0, 1] bcast_S1x1_S2048x1_0_1 (broadcastInDim S1x1 ![1] bcast_S1_S1x1_1 (constantI S1 32 2047#32)))))
      (constantI S_ 1 1#1) reducesTo_S2048x1_S2048_d1 h_S_)
    (look x o) (broadcastInDim S2048 ![] bcast_S_S2048 (constantI S_ 32 2147483648#32))
def wrapBwd (o : S2048.Idx → BitVec 32) : S2048.Idx → BitVec 32 :=
  select (cmpi .slt o (broadcastInDim S2048 ![] bcast_S_S2048 (constantI S_ 32 0#32)))
    (addi o (broadcastInDim S2048 ![] bcast_S_S2048 (constantI S_ 32 1024#32))) o
/-- The backward results taken at a list of entries, as the host takes them. -/
def takeBwd (x : S1024.Idx → BitVec 32) (o : S2048.Idx → BitVec 32) : S2048.Idx → BitVec 32 :=
  select (Host.reduce IntOp.andi (andi
      (cmpi .sge (broadcastInDim S2048x1 ![0] bcast_S2048_S2048x1_0 (wrapBwd o)) (broadcastInDim S2048x1 ![] bcast_S_S2048x1 (constantI S_ 32 0#32)))
      (cmpi .sle (broadcastInDim S2048x1 ![0] bcast_S2048_S2048x1_0 (wrapBwd o))
        (broadcastInDim S2048x1 ![0, 1] bcast_S1x1_S2048x1_0_1 (broadcastInDim S1x1 ![1] bcast_S1_S1x1_1 (constantI S1 32 1023#32)))))
      (constantI S_ 1 1#1) reducesTo_S2048x1_S2048_d1 h_S_)
    (Host.gather gather_S1024_S2048x1_S2048_n_0_n_n_0_1_1 x (broadcastInDim S2048x1 ![0] bcast_S2048_S2048x1_0 (wrapBwd o)))
    (broadcastInDim S2048 ![] bcast_S_S2048 (constantI S_ 32 2147483648#32))

/-! ## Reading one stretch of statements -/

theorem after_app (l₁ l₂ : List (HloOp τ sig (Elt F))) (V : Valuation τ sig (Elt F)) : after (l₁ ++ l₂) V = after l₂ (after l₁ V) := by
  induction l₁ generalizing V with
  | nil => rfl
  | cons op l ih => exact ih _

section
variable (U : Valuation τ sig (Elt F))

theorem h0_skip {r : Ref sig .tc} (hr : r ∉ [main_c, main_c_0, main_v0, main_v1, main_c_1, main_v2, main_v3, main_v4, main_v5, main_v6, main_v7, main_v8, main_c_2, main_v9, main_v10, main_v11, main_v12, main_v13, main_v14, main_v15, main_v16]) : after (h0 (F := F)) U (Proc.devRef .tc r) = U (Proc.devRef .tc r) := StableHlo.after_unwritten [main_c, main_c_0, main_v0, main_v1, main_c_1, main_v2, main_v3, main_v4, main_v5, main_v6, main_v7, main_v8, main_c_2, main_v9, main_v10, main_v11, main_v12, main_v13, main_v14, main_v15, main_v16] rfl hr U
theorem call0_skip {r : Ref sig .tc} (hr : r ∉ [main_call0_v0, main_call0_v1_0, main_v17]) : after (call0 (F := F)) U (Proc.devRef .tc r) = U (Proc.devRef .tc r) := StableHlo.after_unwritten [main_call0_v0, main_call0_v1_0, main_v17] rfl hr U
theorem h1_skip {r : Ref sig .tc} (hr : r ∉ [main_v18, main_c_3, main_v19, main_v20, main_v21, main_v22, main_v23, main_v24]) : after (h1 (F := F)) U (Proc.devRef .tc r) = U (Proc.devRef .tc r) := StableHlo.after_unwritten [main_v18, main_c_3, main_v19, main_v20, main_v21, main_v22, main_v23, main_v24] rfl hr U
theorem call1_skip {r : Ref sig .tc} (hr : r ∉ [main_call1_v0, main_v25]) : after (call1 (F := F)) U (Proc.devRef .tc r) = U (Proc.devRef .tc r) := StableHlo.after_unwritten [main_call1_v0, main_v25] rfl hr U
theorem h2_skip {r : Ref sig .tc} (hr : r ∉ [main_c_4, main_v26, main_v27, main_c_5, main_v28, main_v29, main_v30, main_v31, main_v32, main_v33, main_c_6, main_v34, main_v35, main_c_7, main_v36, main_v37, main_c_8, main_v38, main_v39, main_v40, main_v41, main_v42, main_c_9]) : after (h2 (F := F)) U (Proc.devRef .tc r) = U (Proc.devRef .tc r) := StableHlo.after_unwritten [main_c_4, main_v26, main_v27, main_c_5, main_v28, main_v29, main_v30, main_v31, main_v32, main_v33, main_c_6, main_v34, main_v35, main_c_7, main_v36, main_v37, main_c_8, main_v38, main_v39, main_v40, main_v41, main_v42, main_c_9] rfl hr U
theorem call2_skip {r : Ref sig .tc} (hr : r ∉ [main_call2_v0, main_call2_v1, main_v43]) : after (call2 (F := F)) U (Proc.devRef .tc r) = U (Proc.devRef .tc r) := StableHlo.after_unwritten [main_call2_v0, main_call2_v1, main_v43] rfl hr U
theorem call3_skip {r : Ref sig .tc} (hr : r ∉ [main_call3_v0, main_call3_v1_0, main_v44]) : after (call3 (F := F)) U (Proc.devRef .tc r) = U (Proc.devRef .tc r) := StableHlo.after_unwritten [main_call3_v0, main_call3_v1_0, main_v44] rfl hr U
theorem h3_skip {r : Ref sig .tc} (hr : r ∉ [main_v45]) : after (h3 (F := F)) U (Proc.devRef .tc r) = U (Proc.devRef .tc r) := StableHlo.after_unwritten [main_v45] rfl hr U
theorem call4_skip {r : Ref sig .tc} (hr : r ∉ [main_call4_v0, main_call4_v1_0, main_v46]) : after (call4 (F := F)) U (Proc.devRef .tc r) = U (Proc.devRef .tc r) := StableHlo.after_unwritten [main_call4_v0, main_call4_v1_0, main_v46] rfl hr U
theorem h4_skip {r : Ref sig .tc} (hr : r ∉ [main_v47, main_c_10]) : after (h4 (F := F)) U (Proc.devRef .tc r) = U (Proc.devRef .tc r) := StableHlo.after_unwritten [main_v47, main_c_10] rfl hr U
theorem h5_skip {r : Ref sig .tc} (hr : r ∉ [main_v48, main_v49, main_v50, main_v51, main_v52, main_v53, main_v54]) : after (h5 (F := F)) U (Proc.devRef .tc r) = U (Proc.devRef .tc r) := StableHlo.after_unwritten [main_v48, main_v49, main_v50, main_v51, main_v52, main_v53, main_v54] rfl hr U
theorem call5_skip {r : Ref sig .tc} (hr : r ∉ [main_call5_v0, main_v55]) : after (call5 (F := F)) U (Proc.devRef .tc r) = U (Proc.devRef .tc r) := StableHlo.after_unwritten [main_call5_v0, main_v55] rfl hr U
theorem h6_skip {r : Ref sig .tc} (hr : r ∉ [main_c_11, main_v56, main_v57, main_c_12, main_v58, main_v59, main_v60, main_v61, main_v62, main_c_13, main_v63, main_v64, main_c_14, main_v65, main_v66, main_v67, main_v68, main_v69]) : after (h6 (F := F)) U (Proc.devRef .tc r) = U (Proc.devRef .tc r) := StableHlo.after_unwritten [main_c_11, main_v56, main_v57, main_c_12, main_v58, main_v59, main_v60, main_v61, main_v62, main_c_13, main_v63, main_v64, main_c_14, main_v65, main_v66, main_v67, main_v68, main_v69] rfl hr U
theorem call6_skip {r : Ref sig .tc} (hr : r ∉ [main_call6_v0, main_call6_v1_0, main_v70]) : after (call6 (F := F)) U (Proc.devRef .tc r) = U (Proc.devRef .tc r) := StableHlo.after_unwritten [main_call6_v0, main_call6_v1_0, main_v70] rfl hr U
theorem h7_skip {r : Ref sig .tc} (hr : r ∉ [main_v71, main_v72, main_v73, main_v74, main_c_15, main_v75, main_v76, main_v77, main_v78, main_v79, main_v80, main_v81]) : after (h7 (F := F)) U (Proc.devRef .tc r) = U (Proc.devRef .tc r) := StableHlo.after_unwritten [main_v71, main_v72, main_v73, main_v74, main_c_15, main_v75, main_v76, main_v77, main_v78, main_v79, main_v80, main_v81] rfl hr U
theorem call7_skip {r : Ref sig .tc} (hr : r ∉ [main_call7_v0, main_call7_v1, main_v82]) : after (call7 (F := F)) U (Proc.devRef .tc r) = U (Proc.devRef .tc r) := StableHlo.after_unwritten [main_call7_v0, main_call7_v1, main_v82] rfl hr U
theorem h8_skip {r : Ref sig .tc} (hr : r ∉ [main_v83]) : after (h8 (F := F)) U (Proc.devRef .tc r) = U (Proc.devRef .tc r) := StableHlo.after_unwritten [main_v83] rfl hr U
theorem h9_skip {r : Ref sig .tc} (hr : r ∉ [main_v85, main_v86, main_v87, main_v88]) : after (h9 (F := F)) U (Proc.devRef .tc r) = U (Proc.devRef .tc r) := StableHlo.after_unwritten [main_v85, main_v86, main_v87, main_v88] rfl hr U
theorem h10_skip {r : Ref sig .tc} (hr : r ∉ [main_v90, main_v91, main_v92]) : after (h10 (F := F)) U (Proc.devRef .tc r) = U (Proc.devRef .tc r) := StableHlo.after_unwritten [main_v90, main_v91, main_v92] rfl hr U
theorem h11_skip {r : Ref sig .tc} (hr : r ∉ [main_v94, main_v95]) : after (h11 (F := F)) U (Proc.devRef .tc r) = U (Proc.devRef .tc r) := StableHlo.after_unwritten [main_v94, main_v95] rfl hr U
theorem call8_skip {r : Ref sig .tc} (hr : r ∉ [main_call8_c, main_call8_v0, main_call8_v1, main_call8_c_0, main_call8_v2, main_call8_v3, main_call8_v4, main_call8_v5, main_call8_c_1, main_call8_c_2, main_call8_v6, main_call8_v7, main_call8_v8, main_call8_v9, main_call8_v10, main_call8_v11, main_call8_c_3, main_call8_v12, main_call8_v13, main_call8_c_4, main_call8_v14, main_v96]) : after (call8 (F := F)) U (Proc.devRef .tc r) = U (Proc.devRef .tc r) := StableHlo.after_unwritten [main_call8_c, main_call8_v0, main_call8_v1, main_call8_c_0, main_call8_v2, main_call8_v3, main_call8_v4, main_call8_v5, main_call8_c_1, main_call8_c_2, main_call8_v6, main_call8_v7, main_call8_v8, main_call8_v9, main_call8_v10, main_call8_v11, main_call8_c_3, main_call8_v12, main_call8_v13, main_call8_c_4, main_call8_v14, main_v96] rfl hr U
theorem h12_skip {r : Ref sig .tc} (hr : r ∉ [main_c_16, main_v97, main_v98]) : after (h12 (F := F)) U (Proc.devRef .tc r) = U (Proc.devRef .tc r) := StableHlo.after_unwritten [main_c_16, main_v97, main_v98] rfl hr U
theorem call9_skip {r : Ref sig .tc} (hr : r ∉ [main_call9_c, main_call9_v0, main_call9_v1, main_call9_c_0, main_call9_v2, main_call9_v3, main_call9_v4, main_call9_v5, main_call9_c_1, main_call9_c_2, main_call9_v6, main_call9_v7, main_call9_v8, main_call9_v9, main_call9_v10, main_call9_v11, main_call9_c_3, main_call9_v12, main_call9_v13, main_call9_c_4, main_call9_v14, main_v99]) : after (call9 (F := F)) U (Proc.devRef .tc r) = U (Proc.devRef .tc r) := StableHlo.after_unwritten [main_call9_c, main_call9_v0, main_call9_v1, main_call9_c_0, main_call9_v2, main_call9_v3, main_call9_v4, main_call9_v5, main_call9_c_1, main_call9_c_2, main_call9_v6, main_call9_v7, main_call9_v8, main_call9_v9, main_call9_v10, main_call9_v11, main_call9_c_3, main_call9_v12, main_call9_v13, main_call9_c_4, main_call9_v14, main_v99] rfl hr U
theorem call10_skip {r : Ref sig .tc} (hr : r ∉ [main_v100]) : after (call10 (F := F)) U (Proc.devRef .tc r) = U (Proc.devRef .tc r) := StableHlo.after_unwritten [main_v100] rfl hr U
theorem call11_skip {r : Ref sig .tc} (hr : r ∉ [main_v101]) : after (call11 (F := F)) U (Proc.devRef .tc r) = U (Proc.devRef .tc r) := StableHlo.after_unwritten [main_v101] rfl hr U
theorem h0_v0 : after (h0 (F := F)) U (Proc.devRef .tc main_v0) = shapeCast S2048x8x1024 (U (Proc.devRef .tc main_arg4)) shapeCasts_S2048x8192_S2048x8x1024 := by
  unfold h0
  after_reads_simp
  try rfl
theorem h0_v1 : after (h0 (F := F)) U (Proc.devRef .tc main_v1) = shapeCast S2048x8x1024 (U (Proc.devRef .tc main_arg5)) shapeCasts_S2048x8192_S2048x8x1024 := by
  unfold h0
  after_reads_simp
  try rfl
theorem h0_v4 : after (h0 (F := F)) U (Proc.devRef .tc main_v4) = prevSym (U (Proc.devRef .tc main_arg0)) := by
  unfold h0
  after_reads_simp
  try rfl
theorem h0_v7 : after (h0 (F := F)) U (Proc.devRef .tc main_v7) = prevUn (U (Proc.devRef .tc main_arg1)) := by
  unfold h0
  after_reads_simp
  try rfl
theorem h0_v10 : after (h0 (F := F)) U (Proc.devRef .tc main_v10) = nextSym (U (Proc.devRef .tc main_arg0)) := by
  unfold h0
  after_reads_simp
  try rfl
theorem h0_v15 : after (h0 (F := F)) U (Proc.devRef .tc main_v15) = lone (U (Proc.devRef .tc main_arg1)) := by
  unfold h0
  after_reads_simp
  try rfl
theorem h0_v16 : after (h0 (F := F)) U (Proc.devRef .tc main_v16) = noti (U (Proc.devRef .tc main_arg1)) := by
  unfold h0
  after_reads_simp
  try rfl
theorem call0_v17 : after (call0 (F := F)) U (Proc.devRef .tc main_v17) = (Host.sort2 S2048 0 comparator_i1_i32_d0 (U (Proc.devRef .tc main_v16)) (iotaInDim S2048 32 0)).2 := by
  unfold call0
  after_reads_simp
  try rfl
theorem h1_v19 : after (h1 (F := F)) U (Proc.devRef .tc main_v19) = count (U (Proc.devRef .tc main_arg1)) := by
  unfold h1
  after_reads_simp
  try rfl
theorem h1_v22 : after (h1 (F := F)) U (Proc.devRef .tc main_v22) = cmpi .slt (iotaInDim S2048 32 0) (broadcastInDim S2048 ![] bcast_S_S2048 (count (U (Proc.devRef .tc main_arg1)))) := by
  unfold h1
  after_reads_simp
  try rfl
theorem h1_v24 : after (h1 (F := F)) U (Proc.devRef .tc main_v24) = shapeCast S_ (extractStridedSlice S1 ![0] (U (Proc.devRef .tc main_v17)) slices_S2048_S1_0) shapeCasts_S1_S_ := by
  unfold h1
  after_reads_simp
  try rfl
theorem call1_v25 : after (call1 (F := F)) U (Proc.devRef .tc main_v25) = select (U (Proc.devRef .tc main_v22)) (U (Proc.devRef .tc main_v17)) (broadcastInDim S2048 ![] bcast_S_S2048 (U (Proc.devRef .tc main_v24))) := by
  unfold call1
  after_reads_simp
  try rfl
theorem h2_v33 : after (h2 (F := F)) U (Proc.devRef .tc main_v33) = extui 32 (look (U (Proc.devRef .tc main_v7)) (U (Proc.devRef .tc main_v25))) natLt_1_32 := by
  unfold h2
  after_reads_simp
  try rfl
theorem h2_v35 : after (h2 (F := F)) U (Proc.devRef .tc main_v35) = cmpi .sgt (extui 32 (look (U (Proc.devRef .tc main_v7)) (U (Proc.devRef .tc main_v25))) natLt_1_32) (broadcastInDim S2048 ![] bcast_S_S2048 (constantI S_ 32 0#32)) := by
  unfold h2
  after_reads_simp
  try rfl
theorem h2_v42 : after (h2 (F := F)) U (Proc.devRef .tc main_v42) = look (U (Proc.devRef .tc main_v4)) (U (Proc.devRef .tc main_v25)) := by
  unfold h2
  after_reads_simp
  try rfl
theorem h2_c_9 : after (h2 (F := F)) U (Proc.devRef .tc main_c_9) = constantI S_ 32 0#32 := by
  unfold h2
  after_reads_simp
  try rfl
theorem call2_v43 : after (call2 (F := F)) U (Proc.devRef .tc main_v43) = select (U (Proc.devRef .tc main_v35)) (U (Proc.devRef .tc main_v42)) (broadcastInDim S2048 ![] bcast_S_S2048 (U (Proc.devRef .tc main_c_9))) := by
  unfold call2
  after_reads_simp
  try rfl
theorem call3_v44 : after (call3 (F := F)) U (Proc.devRef .tc main_v44) = place (U (Proc.devRef .tc main_v17)) := by
  unfold call3
  after_reads_simp
  try rfl
theorem h3_v45 : after (h3 (F := F)) U (Proc.devRef .tc main_v45) = noti (U (Proc.devRef .tc main_v15)) := by
  unfold h3
  after_reads_simp
  try rfl
theorem call4_v46 : after (call4 (F := F)) U (Proc.devRef .tc main_v46) = (Host.sort2 S2048 0 comparator_i1_i32_d0 (U (Proc.devRef .tc main_v45)) (iotaInDim S2048 32 0)).2 := by
  unfold call4
  after_reads_simp
  try rfl
theorem h4_v47 : after (h4 (F := F)) U (Proc.devRef .tc main_v47) = extui 32 (U (Proc.devRef .tc main_v15)) natLt_1_32 := by
  unfold h4
  after_reads_simp
  try rfl
theorem h4_c_10 : after (h4 (F := F)) U (Proc.devRef .tc main_c_10) = constantI S_ 32 0#32 := by
  unfold h4
  after_reads_simp
  try rfl
theorem h5_v48 : after (h5 (F := F)) U (Proc.devRef .tc main_v48) = Host.reduce IntOp.addi (U (Proc.devRef .tc main_v47)) (U (Proc.devRef .tc main_c_10)) reducesTo_S2048_S_d0 h_S_ := by
  unfold h5
  after_reads_simp
  try rfl
theorem h5_v49 : after (h5 (F := F)) U (Proc.devRef .tc main_v49) = extractStridedSlice S1024 ![0] (U (Proc.devRef .tc main_v46)) slices_S2048_S1024_0 := by
  unfold h5
  after_reads_simp
  try rfl
theorem h5_v52 : after (h5 (F := F)) U (Proc.devRef .tc main_v52) = cmpi .slt (iotaInDim S1024 32 0) (broadcastInDim S1024 ![] bcast_S_S1024 (Host.reduce IntOp.addi (U (Proc.devRef .tc main_v47)) (U (Proc.devRef .tc main_c_10)) reducesTo_S2048_S_d0 h_S_)) := by
  unfold h5
  after_reads_simp
  try rfl
theorem h5_v54 : after (h5 (F := F)) U (Proc.devRef .tc main_v54) = shapeCast S_ (extractStridedSlice S1 ![0] (extractStridedSlice S1024 ![0] (U (Proc.devRef .tc main_v46)) slices_S2048_S1024_0) slices_S1024_S1_0) shapeCasts_S1_S_ := by
  unfold h5
  after_reads_simp
  try rfl
theorem call5_v55 : after (call5 (F := F)) U (Proc.devRef .tc main_v55) = select (U (Proc.devRef .tc main_v52)) (U (Proc.devRef .tc main_v49)) (broadcastInDim S1024 ![] bcast_S_S1024 (U (Proc.devRef .tc main_v54))) := by
  unfold call5
  after_reads_simp
  try rfl
theorem h6_v62 : after (h6 (F := F)) U (Proc.devRef .tc main_v62) = look' (U (Proc.devRef .tc main_v4)) (U (Proc.devRef .tc main_v55)) := by
  unfold h6
  after_reads_simp
  try rfl
theorem h6_v69 : after (h6 (F := F)) U (Proc.devRef .tc main_v69) = look' (U (Proc.devRef .tc main_v10)) (U (Proc.devRef .tc main_v55)) := by
  unfold h6
  after_reads_simp
  try rfl
theorem call6_v70 : after (call6 (F := F)) U (Proc.devRef .tc main_v70) = place (U (Proc.devRef .tc main_v46)) := by
  unfold call6
  after_reads_simp
  try rfl
theorem h7_v71 : after (h7 (F := F)) U (Proc.devRef .tc main_v71) = shapeCast S67108864 (U (Proc.devRef .tc main_arg2)) shapeCasts_S8192x8192_S67108864 := by
  unfold h7
  after_reads_simp
  try rfl
theorem h7_v73 : after (h7 (F := F)) U (Proc.devRef .tc main_v73) = broadcastInDim S1024x1 ![0] bcast_S1024_S1024x1_0 (U (Proc.devRef .tc main_v52)) := by
  unfold h7
  after_reads_simp
  try rfl
theorem h7_v80 : after (h7 (F := F)) U (Proc.devRef .tc main_v80) = addi (broadcastInDim S1024x8192 ![0, 1] bcast_S1024x1_S1024x8192_0_1 (broadcastInDim S1024x1 ![0] bcast_S1024_S1024x1_0 (U (Proc.devRef .tc main_v69)))) (broadcastInDim S1024x8192 ![0, 1] bcast_S1x8192_S1024x8192_0_1 (broadcastInDim S1x8192 ![1] bcast_S8192_S1x8192_1 (muli (iotaInDim S8192 32 0) (broadcastInDim S8192 ![] bcast_S_S8192 (constantI S_ 32 8192#32))))) := by
  unfold h7
  after_reads_simp
  try rfl
theorem h7_v81 : after (h7 (F := F)) U (Proc.devRef .tc main_v81) = broadcastInDim S1x8192 ![1] bcast_S8192_S1x8192_1 (iotaInDim S8192 32 0) := by
  unfold h7
  after_reads_simp
  try rfl
theorem call7_v82 : after (call7 (F := F)) U (Proc.devRef .tc main_v82) = select (broadcastInDim S1024x8192 ![0, 1] bcast_S1024x1_S1024x8192_0_1 (U (Proc.devRef .tc main_v73))) (U (Proc.devRef .tc main_v80)) (broadcastInDim S1024x8192 ![0, 1] bcast_S1x8192_S1024x8192_0_1 (U (Proc.devRef .tc main_v81))) := by
  unfold call7
  after_reads_simp
  try rfl
theorem h8_v83 : after (h8 (F := F)) U (Proc.devRef .tc main_v83) = shapeCast S8388608 (U (Proc.devRef .tc main_v82)) shapeCasts_S1024x8192_S8388608 := by
  unfold h8
  after_reads_simp
  try rfl
theorem h9_v85 : after (h9 (F := F)) U (Proc.devRef .tc main_v85) = shapeCast S1x8x1024 (U (Proc.devRef .tc main_arg3)) shapeCasts_S8192_S1x8x1024 := by
  unfold h9
  after_reads_simp
  try rfl
theorem h9_v86 : after (h9 (F := F)) U (Proc.devRef .tc main_v86) = shapeCast S1024x8x1024 (U (Proc.devRef .tc main_v84)) shapeCasts_S8388608_S1024x8x1024 := by
  unfold h9
  after_reads_simp
  try rfl
theorem h9_v87 : after (h9 (F := F)) U (Proc.devRef .tc main_v87) = shapeCast S8192x1x8192 (U (Proc.devRef .tc main_arg2)) shapeCasts_S8192x8192_S8192x1x8192 := by
  unfold h9
  after_reads_simp
  try rfl
theorem h9_v88 : after (h9 (F := F)) U (Proc.devRef .tc main_v88) = shapeCast S1 (U (Proc.devRef .tc main_v19)) shapeCasts_S_S1 := by
  unfold h9
  after_reads_simp
  try rfl
theorem h10_v91 : after (h10 (F := F)) U (Proc.devRef .tc main_v91) = shapeCast S2048 (extractStridedSlice S2048x1 ![0, 0] (U (Proc.devRef .tc main_v89)) slices_S2048x128_S2048x1_0_0) shapeCasts_S2048x1_S2048 := by
  unfold h10
  after_reads_simp
  try rfl
theorem h10_v92 : after (h10 (F := F)) U (Proc.devRef .tc main_v92) = shapeCast S1 (U (Proc.devRef .tc main_v48)) shapeCasts_S_S1 := by
  unfold h10
  after_reads_simp
  try rfl
theorem h11_v95 : after (h11 (F := F)) U (Proc.devRef .tc main_v95) = shapeCast S1024 (extractStridedSlice S1024x1 ![0, 0] (U (Proc.devRef .tc main_v93)) slices_S1024x128_S1024x1_0_0) shapeCasts_S1024x1_S1024 := by
  unfold h11
  after_reads_simp
  try rfl
theorem call8_v96 : after (call8 (F := F)) U (Proc.devRef .tc main_v96) = takeFwd (U (Proc.devRef .tc main_v91)) (U (Proc.devRef .tc main_v44)) := by
  unfold call8
  after_reads_simp
  try rfl
theorem h12_v98 : after (h12 (F := F)) U (Proc.devRef .tc main_v98) = minsi (U (Proc.devRef .tc main_v70)) (broadcastInDim S2048 ![] bcast_S_S2048 (constantI S_ 32 1023#32)) := by
  unfold h12
  after_reads_simp
  try rfl
theorem call9_v99 : after (call9 (F := F)) U (Proc.devRef .tc main_v99) = takeBwd (U (Proc.devRef .tc main_v95)) (U (Proc.devRef .tc main_v98)) := by
  unfold call9
  after_reads_simp
  try rfl
theorem call10_v100 : after (call10 (F := F)) U (Proc.devRef .tc main_v100) = select (U (Proc.devRef .tc main_arg1)) (U (Proc.devRef .tc main_v96)) (U (Proc.devRef .tc main_arg0)) := by
  unfold call10
  after_reads_simp
  try rfl
theorem call11_v101 : after (call11 (F := F)) U (Proc.devRef .tc main_v101) = select (U (Proc.devRef .tc main_v15)) (U (Proc.devRef .tc main_v99)) (U (Proc.devRef .tc main_v100)) := by
  unfold call11
  after_reads_simp
  try rfl
end

/-! ## When the column call is dealt out -/

section
variable (m : (ℓ : Loc nD τ sig) → Buf (Elt F) ℓ) (d : Dev nD)

def Az : S2048.Idx → BitVec 32 := m (d, Proc.devRef .tc main_arg0)
def Ac : S2048.Idx → BitVec 1 := m (d, Proc.devRef .tc main_arg1)
def AM : S8192x8192.Idx → F .f32 := m (d, Proc.devRef .tc main_arg2)
def Aq : S8192.Idx → F .f32 := m (d, Proc.devRef .tc main_arg3)
def Agf : S2048x8192.Idx → F .f32 := m (d, Proc.devRef .tc main_arg4)
def Agb : S2048x8192.Idx → F .f32 := m (d, Proc.devRef .tc main_arg5)
theorem arg0_eq : launchContents m d (Proc.devRef .tc main_arg0) = Az m d := rfl
theorem arg1_eq : launchContents m d (Proc.devRef .tc main_arg1) = Ac m d := rfl
theorem arg2_eq : launchContents m d (Proc.devRef .tc main_arg2) = AM m d := rfl
theorem arg3_eq : launchContents m d (Proc.devRef .tc main_arg3) = Aq m d := rfl
theorem arg4_eq : launchContents m d (Proc.devRef .tc main_arg4) = Agf m d := rfl
theorem arg5_eq : launchContents m d (Proc.devRef .tc main_arg5) = Agb m d := rfl
theorem W0_v0 : W0 m d (Proc.devRef .tc main_v0) = shapeCast S2048x8x1024 (Agf m d) shapeCasts_S2048x8192_S2048x8x1024 := by
  unfold W0 opsA
  simp only [after_app]
  rw [h8_skip (r := main_v0) _ (by decide), call7_skip (r := main_v0) _ (by decide), h7_skip (r := main_v0) _ (by decide), call6_skip (r := main_v0) _ (by decide), h6_skip (r := main_v0) _ (by decide), call5_skip (r := main_v0) _ (by decide), h5_skip (r := main_v0) _ (by decide), h4_skip (r := main_v0) _ (by decide), call4_skip (r := main_v0) _ (by decide), h3_skip (r := main_v0) _ (by decide), call3_skip (r := main_v0) _ (by decide), call2_skip (r := main_v0) _ (by decide), h2_skip (r := main_v0) _ (by decide), call1_skip (r := main_v0) _ (by decide), h1_skip (r := main_v0) _ (by decide), call0_skip (r := main_v0) _ (by decide), h0_v0, arg4_eq]
  try simp only [fwdPos, fwdUn, fwdPrev, bwdPos, bwdUse, bwdList, order, count, wordPos]
theorem W0_v1 : W0 m d (Proc.devRef .tc main_v1) = shapeCast S2048x8x1024 (Agb m d) shapeCasts_S2048x8192_S2048x8x1024 := by
  unfold W0 opsA
  simp only [after_app]
  rw [h8_skip (r := main_v1) _ (by decide), call7_skip (r := main_v1) _ (by decide), h7_skip (r := main_v1) _ (by decide), call6_skip (r := main_v1) _ (by decide), h6_skip (r := main_v1) _ (by decide), call5_skip (r := main_v1) _ (by decide), h5_skip (r := main_v1) _ (by decide), h4_skip (r := main_v1) _ (by decide), call4_skip (r := main_v1) _ (by decide), h3_skip (r := main_v1) _ (by decide), call3_skip (r := main_v1) _ (by decide), call2_skip (r := main_v1) _ (by decide), h2_skip (r := main_v1) _ (by decide), call1_skip (r := main_v1) _ (by decide), h1_skip (r := main_v1) _ (by decide), call0_skip (r := main_v1) _ (by decide), h0_v1, arg5_eq]
  try simp only [fwdPos, fwdUn, fwdPrev, bwdPos, bwdUse, bwdList, order, count, wordPos]
theorem W0_arg0 : W0 m d (Proc.devRef .tc main_arg0) = Az m d := by
  unfold W0 opsA
  simp only [after_app]
  rw [h8_skip (r := main_arg0) _ (by decide), call7_skip (r := main_arg0) _ (by decide), h7_skip (r := main_arg0) _ (by decide), call6_skip (r := main_arg0) _ (by decide), h6_skip (r := main_arg0) _ (by decide), call5_skip (r := main_arg0) _ (by decide), h5_skip (r := main_arg0) _ (by decide), h4_skip (r := main_arg0) _ (by decide), call4_skip (r := main_arg0) _ (by decide), h3_skip (r := main_arg0) _ (by decide), call3_skip (r := main_arg0) _ (by decide), call2_skip (r := main_arg0) _ (by decide), h2_skip (r := main_arg0) _ (by decide), call1_skip (r := main_arg0) _ (by decide), h1_skip (r := main_arg0) _ (by decide), call0_skip (r := main_arg0) _ (by decide), h0_skip (r := main_arg0) _ (by decide), arg0_eq]
  try simp only [fwdPos, fwdUn, fwdPrev, bwdPos, bwdUse, bwdList, order, count, wordPos]
theorem W0_arg1 : W0 m d (Proc.devRef .tc main_arg1) = Ac m d := by
  unfold W0 opsA
  simp only [after_app]
  rw [h8_skip (r := main_arg1) _ (by decide), call7_skip (r := main_arg1) _ (by decide), h7_skip (r := main_arg1) _ (by decide), call6_skip (r := main_arg1) _ (by decide), h6_skip (r := main_arg1) _ (by decide), call5_skip (r := main_arg1) _ (by decide), h5_skip (r := main_arg1) _ (by decide), h4_skip (r := main_arg1) _ (by decide), call4_skip (r := main_arg1) _ (by decide), h3_skip (r := main_arg1) _ (by decide), call3_skip (r := main_arg1) _ (by decide), call2_skip (r := main_arg1) _ (by decide), h2_skip (r := main_arg1) _ (by decide), call1_skip (r := main_arg1) _ (by decide), h1_skip (r := main_arg1) _ (by decide), call0_skip (r := main_arg1) _ (by decide), h0_skip (r := main_arg1) _ (by decide), arg1_eq]
  try simp only [fwdPos, fwdUn, fwdPrev, bwdPos, bwdUse, bwdList, order, count, wordPos]
theorem W0_arg2 : W0 m d (Proc.devRef .tc main_arg2) = AM m d := by
  unfold W0 opsA
  simp only [after_app]
  rw [h8_skip (r := main_arg2) _ (by decide), call7_skip (r := main_arg2) _ (by decide), h7_skip (r := main_arg2) _ (by decide), call6_skip (r := main_arg2) _ (by decide), h6_skip (r := main_arg2) _ (by decide), call5_skip (r := main_arg2) _ (by decide), h5_skip (r := main_arg2) _ (by decide), h4_skip (r := main_arg2) _ (by decide), call4_skip (r := main_arg2) _ (by decide), h3_skip (r := main_arg2) _ (by decide), call3_skip (r := main_arg2) _ (by decide), call2_skip (r := main_arg2) _ (by decide), h2_skip (r := main_arg2) _ (by decide), call1_skip (r := main_arg2) _ (by decide), h1_skip (r := main_arg2) _ (by decide), call0_skip (r := main_arg2) _ (by decide), h0_skip (r := main_arg2) _ (by decide), arg2_eq]
  try simp only [fwdPos, fwdUn, fwdPrev, bwdPos, bwdUse, bwdList, order, count, wordPos]
theorem W0_arg3 : W0 m d (Proc.devRef .tc main_arg3) = Aq m d := by
  unfold W0 opsA
  simp only [after_app]
  rw [h8_skip (r := main_arg3) _ (by decide), call7_skip (r := main_arg3) _ (by decide), h7_skip (r := main_arg3) _ (by decide), call6_skip (r := main_arg3) _ (by decide), h6_skip (r := main_arg3) _ (by decide), call5_skip (r := main_arg3) _ (by decide), h5_skip (r := main_arg3) _ (by decide), h4_skip (r := main_arg3) _ (by decide), call4_skip (r := main_arg3) _ (by decide), h3_skip (r := main_arg3) _ (by decide), call3_skip (r := main_arg3) _ (by decide), call2_skip (r := main_arg3) _ (by decide), h2_skip (r := main_arg3) _ (by decide), call1_skip (r := main_arg3) _ (by decide), h1_skip (r := main_arg3) _ (by decide), call0_skip (r := main_arg3) _ (by decide), h0_skip (r := main_arg3) _ (by decide), arg3_eq]
  try simp only [fwdPos, fwdUn, fwdPrev, bwdPos, bwdUse, bwdList, order, count, wordPos]
theorem W0_v15 : W0 m d (Proc.devRef .tc main_v15) = lone (Ac m d) := by
  unfold W0 opsA
  simp only [after_app]
  rw [h8_skip (r := main_v15) _ (by decide), call7_skip (r := main_v15) _ (by decide), h7_skip (r := main_v15) _ (by decide), call6_skip (r := main_v15) _ (by decide), h6_skip (r := main_v15) _ (by decide), call5_skip (r := main_v15) _ (by decide), h5_skip (r := main_v15) _ (by decide), h4_skip (r := main_v15) _ (by decide), call4_skip (r := main_v15) _ (by decide), h3_skip (r := main_v15) _ (by decide), call3_skip (r := main_v15) _ (by decide), call2_skip (r := main_v15) _ (by decide), h2_skip (r := main_v15) _ (by decide), call1_skip (r := main_v15) _ (by decide), h1_skip (r := main_v15) _ (by decide), call0_skip (r := main_v15) _ (by decide), h0_v15, arg1_eq]
  try simp only [fwdPos, fwdUn, fwdPrev, bwdPos, bwdUse, bwdList, order, count, wordPos]
theorem W0_v19 : W0 m d (Proc.devRef .tc main_v19) = count (Ac m d) := by
  unfold W0 opsA
  simp only [after_app]
  rw [h8_skip (r := main_v19) _ (by decide), call7_skip (r := main_v19) _ (by decide), h7_skip (r := main_v19) _ (by decide), call6_skip (r := main_v19) _ (by decide), h6_skip (r := main_v19) _ (by decide), call5_skip (r := main_v19) _ (by decide), h5_skip (r := main_v19) _ (by decide), h4_skip (r := main_v19) _ (by decide), call4_skip (r := main_v19) _ (by decide), h3_skip (r := main_v19) _ (by decide), call3_skip (r := main_v19) _ (by decide), call2_skip (r := main_v19) _ (by decide), h2_skip (r := main_v19) _ (by decide), call1_skip (r := main_v19) _ (by decide), h1_v19, call0_skip (r := main_arg1) _ (by decide), h0_skip (r := main_arg1) _ (by decide), arg1_eq]
  try simp only [fwdPos, fwdUn, fwdPrev, bwdPos, bwdUse, bwdList, order, count, wordPos]
theorem W0_v25 : W0 m d (Proc.devRef .tc main_v25) = fwdPos (Ac m d) := by
  unfold W0 opsA
  simp only [after_app]
  rw [h8_skip (r := main_v25) _ (by decide), call7_skip (r := main_v25) _ (by decide), h7_skip (r := main_v25) _ (by decide), call6_skip (r := main_v25) _ (by decide), h6_skip (r := main_v25) _ (by decide), call5_skip (r := main_v25) _ (by decide), h5_skip (r := main_v25) _ (by decide), h4_skip (r := main_v25) _ (by decide), call4_skip (r := main_v25) _ (by decide), h3_skip (r := main_v25) _ (by decide), call3_skip (r := main_v25) _ (by decide), call2_skip (r := main_v25) _ (by decide), h2_skip (r := main_v25) _ (by decide), call1_v25, h1_skip (r := main_v17) _ (by decide), h1_v22, h1_v24, call0_skip (r := main_arg1) _ (by decide), call0_v17, h0_skip (r := main_arg1) _ (by decide), h0_v16, arg1_eq]
  try simp only [fwdPos, fwdUn, fwdPrev, bwdPos, bwdUse, bwdList, order, count, wordPos]
theorem W0_v33 : W0 m d (Proc.devRef .tc main_v33) = fwdUn (Ac m d) := by
  unfold W0 opsA
  simp only [after_app]
  rw [h8_skip (r := main_v33) _ (by decide), call7_skip (r := main_v33) _ (by decide), h7_skip (r := main_v33) _ (by decide), call6_skip (r := main_v33) _ (by decide), h6_skip (r := main_v33) _ (by decide), call5_skip (r := main_v33) _ (by decide), h5_skip (r := main_v33) _ (by decide), h4_skip (r := main_v33) _ (by decide), call4_skip (r := main_v33) _ (by decide), h3_skip (r := main_v33) _ (by decide), call3_skip (r := main_v33) _ (by decide), call2_skip (r := main_v33) _ (by decide), h2_v33, call1_v25, call1_skip (r := main_v7) _ (by decide), h1_skip (r := main_v17) _ (by decide), h1_v22, h1_v24, h1_skip (r := main_v7) _ (by decide), call0_skip (r := main_arg1) _ (by decide), call0_v17, call0_skip (r := main_v7) _ (by decide), h0_skip (r := main_arg1) _ (by decide), h0_v16, h0_v7, arg1_eq]
  try simp only [fwdPos, fwdUn, fwdPrev, bwdPos, bwdUse, bwdList, order, count, wordPos]
theorem W0_v43 : W0 m d (Proc.devRef .tc main_v43) = fwdPrev (Az m d) (Ac m d) := by
  unfold W0 opsA
  simp only [after_app]
  rw [h8_skip (r := main_v43) _ (by decide), call7_skip (r := main_v43) _ (by decide), h7_skip (r := main_v43) _ (by decide), call6_skip (r := main_v43) _ (by decide), h6_skip (r := main_v43) _ (by decide), call5_skip (r := main_v43) _ (by decide), h5_skip (r := main_v43) _ (by decide), h4_skip (r := main_v43) _ (by decide), call4_skip (r := main_v43) _ (by decide), h3_skip (r := main_v43) _ (by decide), call3_skip (r := main_v43) _ (by decide), call2_v43, h2_c_9, h2_v35, h2_v42, call1_v25, call1_skip (r := main_v4) _ (by decide), call1_skip (r := main_v7) _ (by decide), h1_skip (r := main_v17) _ (by decide), h1_v22, h1_v24, h1_skip (r := main_v4) _ (by decide), h1_skip (r := main_v7) _ (by decide), call0_skip (r := main_arg1) _ (by decide), call0_v17, call0_skip (r := main_v4) _ (by decide), call0_skip (r := main_v7) _ (by decide), h0_skip (r := main_arg1) _ (by decide), h0_v16, h0_v4, h0_v7, arg0_eq, arg1_eq]
  try simp only [fwdPos, fwdUn, fwdPrev, bwdPos, bwdUse, bwdList, order, count, wordPos]
theorem W0_v44 : W0 m d (Proc.devRef .tc main_v44) = place (order (Ac m d)) := by
  unfold W0 opsA
  simp only [after_app]
  rw [h8_skip (r := main_v44) _ (by decide), call7_skip (r := main_v44) _ (by decide), h7_skip (r := main_v44) _ (by decide), call6_skip (r := main_v44) _ (by decide), h6_skip (r := main_v44) _ (by decide), call5_skip (r := main_v44) _ (by decide), h5_skip (r := main_v44) _ (by decide), h4_skip (r := main_v44) _ (by decide), call4_skip (r := main_v44) _ (by decide), h3_skip (r := main_v44) _ (by decide), call3_v44, call2_skip (r := main_v17) _ (by decide), h2_skip (r := main_v17) _ (by decide), call1_skip (r := main_v17) _ (by decide), h1_skip (r := main_v17) _ (by decide), call0_v17, h0_v16, arg1_eq]
  try simp only [fwdPos, fwdUn, fwdPrev, bwdPos, bwdUse, bwdList, order, count, wordPos]
theorem W0_v48 : W0 m d (Proc.devRef .tc main_v48) = count (lone (Ac m d)) := by
  unfold W0 opsA
  simp only [after_app]
  rw [h8_skip (r := main_v48) _ (by decide), call7_skip (r := main_v48) _ (by decide), h7_skip (r := main_v48) _ (by decide), call6_skip (r := main_v48) _ (by decide), h6_skip (r := main_v48) _ (by decide), call5_skip (r := main_v48) _ (by decide), h5_v48, h4_c_10, h4_v47, call4_skip (r := main_v15) _ (by decide), h3_skip (r := main_v15) _ (by decide), call3_skip (r := main_v15) _ (by decide), call2_skip (r := main_v15) _ (by decide), h2_skip (r := main_v15) _ (by decide), call1_skip (r := main_v15) _ (by decide), h1_skip (r := main_v15) _ (by decide), call0_skip (r := main_v15) _ (by decide), h0_v15, arg1_eq]
  try simp only [fwdPos, fwdUn, fwdPrev, bwdPos, bwdUse, bwdList, order, count, wordPos]
theorem W0_v55 : W0 m d (Proc.devRef .tc main_v55) = bwdPos (Ac m d) := by
  unfold W0 opsA
  simp only [after_app]
  rw [h8_skip (r := main_v55) _ (by decide), call7_skip (r := main_v55) _ (by decide), h7_skip (r := main_v55) _ (by decide), call6_skip (r := main_v55) _ (by decide), h6_skip (r := main_v55) _ (by decide), call5_v55, h5_v49, h5_v52, h5_v54, h4_c_10, h4_skip (r := main_v46) _ (by decide), h4_v47, call4_skip (r := main_v15) _ (by decide), call4_v46, h3_skip (r := main_v15) _ (by decide), h3_v45, call3_skip (r := main_v15) _ (by decide), call2_skip (r := main_v15) _ (by decide), h2_skip (r := main_v15) _ (by decide), call1_skip (r := main_v15) _ (by decide), h1_skip (r := main_v15) _ (by decide), call0_skip (r := main_v15) _ (by decide), h0_v15, arg1_eq]
  try simp only [fwdPos, fwdUn, fwdPrev, bwdPos, bwdUse, bwdList, order, count, wordPos]
theorem W0_v62 : W0 m d (Proc.devRef .tc main_v62) = look' (prevSym (Az m d)) (bwdPos (Ac m d)) := by
  unfold W0 opsA
  simp only [after_app]
  rw [h8_skip (r := main_v62) _ (by decide), call7_skip (r := main_v62) _ (by decide), h7_skip (r := main_v62) _ (by decide), call6_skip (r := main_v62) _ (by decide), h6_v62, call5_skip (r := main_v4) _ (by decide), call5_v55, h5_skip (r := main_v4) _ (by decide), h5_v49, h5_v52, h5_v54, h4_c_10, h4_skip (r := main_v4) _ (by decide), h4_skip (r := main_v46) _ (by decide), h4_v47, call4_skip (r := main_v15) _ (by decide), call4_skip (r := main_v4) _ (by decide), call4_v46, h3_skip (r := main_v15) _ (by decide), h3_skip (r := main_v4) _ (by decide), h3_v45, call3_skip (r := main_v15) _ (by decide), call3_skip (r := main_v4) _ (by decide), call2_skip (r := main_v15) _ (by decide), call2_skip (r := main_v4) _ (by decide), h2_skip (r := main_v15) _ (by decide), h2_skip (r := main_v4) _ (by decide), call1_skip (r := main_v15) _ (by decide), call1_skip (r := main_v4) _ (by decide), h1_skip (r := main_v15) _ (by decide), h1_skip (r := main_v4) _ (by decide), call0_skip (r := main_v15) _ (by decide), call0_skip (r := main_v4) _ (by decide), h0_v15, h0_v4, arg0_eq, arg1_eq]
  try simp only [fwdPos, fwdUn, fwdPrev, bwdPos, bwdUse, bwdList, order, count, wordPos]
theorem W0_v70 : W0 m d (Proc.devRef .tc main_v70) = place (order (lone (Ac m d))) := by
  unfold W0 opsA
  simp only [after_app]
  rw [h8_skip (r := main_v70) _ (by decide), call7_skip (r := main_v70) _ (by decide), h7_skip (r := main_v70) _ (by decide), call6_v70, h6_skip (r := main_v46) _ (by decide), call5_skip (r := main_v46) _ (by decide), h5_skip (r := main_v46) _ (by decide), h4_skip (r := main_v46) _ (by decide), call4_v46, h3_v45, call3_skip (r := main_v15) _ (by decide), call2_skip (r := main_v15) _ (by decide), h2_skip (r := main_v15) _ (by decide), call1_skip (r := main_v15) _ (by decide), h1_skip (r := main_v15) _ (by decide), call0_skip (r := main_v15) _ (by decide), h0_v15, arg1_eq]
  try simp only [fwdPos, fwdUn, fwdPrev, bwdPos, bwdUse, bwdList, order, count, wordPos]
theorem W0_v71 : W0 m d (Proc.devRef .tc main_v71) = shapeCast S67108864 (AM m d) shapeCasts_S8192x8192_S67108864 := by
  unfold W0 opsA
  simp only [after_app]
  rw [h8_skip (r := main_v71) _ (by decide), call7_skip (r := main_v71) _ (by decide), h7_v71, call6_skip (r := main_arg2) _ (by decide), h6_skip (r := main_arg2) _ (by decide), call5_skip (r := main_arg2) _ (by decide), h5_skip (r := main_arg2) _ (by decide), h4_skip (r := main_arg2) _ (by decide), call4_skip (r := main_arg2) _ (by decide), h3_skip (r := main_arg2) _ (by decide), call3_skip (r := main_arg2) _ (by decide), call2_skip (r := main_arg2) _ (by decide), h2_skip (r := main_arg2) _ (by decide), call1_skip (r := main_arg2) _ (by decide), h1_skip (r := main_arg2) _ (by decide), call0_skip (r := main_arg2) _ (by decide), h0_skip (r := main_arg2) _ (by decide), arg2_eq]
  try simp only [fwdPos, fwdUn, fwdPrev, bwdPos, bwdUse, bwdList, order, count, wordPos]
theorem W0_v83 : W0 m d (Proc.devRef .tc main_v83) = wordPos (bwdUse (Ac m d)) (look' (nextSym (Az m d)) (bwdPos (Ac m d))) := by
  unfold W0 opsA
  simp only [after_app]
  rw [h8_v83, call7_v82, h7_v73, h7_v80, h7_v81, call6_skip (r := main_v52) _ (by decide), call6_skip (r := main_v69) _ (by decide), h6_skip (r := main_v52) _ (by decide), h6_v69, call5_skip (r := main_v10) _ (by decide), call5_skip (r := main_v52) _ (by decide), call5_v55, h5_skip (r := main_v10) _ (by decide), h5_v49, h5_v52, h5_v54, h4_c_10, h4_skip (r := main_v10) _ (by decide), h4_skip (r := main_v46) _ (by decide), h4_v47, call4_skip (r := main_v10) _ (by decide), call4_skip (r := main_v15) _ (by decide), call4_v46, h3_skip (r := main_v10) _ (by decide), h3_skip (r := main_v15) _ (by decide), h3_v45, call3_skip (r := main_v10) _ (by decide), call3_skip (r := main_v15) _ (by decide), call2_skip (r := main_v10) _ (by decide), call2_skip (r := main_v15) _ (by decide), h2_skip (r := main_v10) _ (by decide), h2_skip (r := main_v15) _ (by decide), call1_skip (r := main_v10) _ (by decide), call1_skip (r := main_v15) _ (by decide), h1_skip (r := main_v10) _ (by decide), h1_skip (r := main_v15) _ (by decide), call0_skip (r := main_v10) _ (by decide), call0_skip (r := main_v15) _ (by decide), h0_v10, h0_v15, arg0_eq, arg1_eq]
  try simp only [fwdPos, fwdUn, fwdPrev, bwdPos, bwdUse, bwdList, order, count, wordPos]
end

end Cert.KernelIdeal.Smooth

end
-- ==== Proof.PermIdeal.lean ====
/-
  Listing the marked positions first: the list is a permutation, its marked entries come first and are as many as are marked,
  and the second list gives each position's entry. Positions whose two neighbours are unmarked are at most half of all.
-/
module

public import proofs.«01_k».proof.Proof.ValsIdeal
public import Idealize.ShloMosaic.Lib.SortFacts
public import Idealize.ShloMosaic.Lib.IndicatorCount
public import Idealize.ShloMosaic.Lib.StableHlo.Predicate
public import Idealize.ShloMosaic.Lib.Routing.OpsPair

@[expose] public section

set_option maxRecDepth 16384

noncomputable section

namespace Cert.KernelIdeal.Smooth

open Cert.KernelIdeal Cert.KernelIdeal.Gen

open Idealize.ShloMosaic
open Shape.Idx (ofFin)

theorem sort2_at {n : ℕ} {α β : Type} (cmp : α × β → α × β → BitVec 1) (x : (⟨1, ![n]⟩ : Shape).Idx → α) (y : (⟨1, ![n]⟩ : Shape).Idx → β) (k : Fin n) :
    (Host.sort2 ⟨1, ![n]⟩ 0 cmp x y).2 (ofFin k)
      = y (ofFin (sortedFrom (fun a b => cmp (x (ofFin a), y (ofFin a)) (x (ofFin b), y (ofFin b)) == 1#1) k)) := by
  unfold Host.sort2
  simp

theorem iota_at {n : ℕ} (k : Fin n) : iotaInDim (⟨1, ![n]⟩ : Shape) 32 0 (ofFin k) = BitVec.ofNat 32 k.val := rfl

/-- Which position the list's entry `k` is. -/
@[irreducible] def entry (c : S2048.Idx → BitVec 1) (k : Fin 2048) : Fin 2048 :=
  sortedFrom (fun a b => comparator_i1_i32_d0 (noti c (ofFin a), iotaInDim S2048 32 0 (ofFin a)) (noti c (ofFin b), iotaInDim S2048 32 0 (ofFin b)) == 1#1) k

theorem order_at (c : S2048.Idx → BitVec 1) (k : Fin 2048) : order c (ofFin k) = BitVec.ofNat 32 (entry c k).val :=
  by
  unfold entry
  exact (sort2_at (n := 2048) comparator_i1_i32_d0 (noti c) (iotaInDim S2048 32 0) k).trans (iota_at _)

theorem entry_inj (c : S2048.Idx → BitVec 1) : Function.Injective (entry c) := by
  unfold entry
  exact sortedFrom_injective _
theorem entry_surj (c : S2048.Idx → BitVec 1) : Function.Surjective (entry c) := by
  unfold entry
  exact sortedFrom_surjective _

theorem cmp_bits (a b : BitVec 1) (u v : BitVec 32) : (comparator_i1_i32_d0 (~~~a, u) (~~~b, v) == 1#1) = (a == 1#1 && b == 0#1) := by
  show (IntOp.cmpi .ult (~~~a) (~~~b) == 1#1) = _
  revert a b
  decide

/-- A marked entry comes after no unmarked one. -/
theorem entry_sorted (c : S2048.Idx → BitVec 1) (i j : Fin 2048) (hij : i < j) (h : c (ofFin (entry c j)) = 1#1) : c (ofFin (entry c i)) = 1#1 := by
  unfold entry at h ⊢
  have e := sortedFrom_noInversion
    (fun a b : Fin 2048 => comparator_i1_i32_d0 (noti c (ofFin a), iotaInDim S2048 32 0 (ofFin a)) (noti c (ofFin b), iotaInDim S2048 32 0 (ofFin b)) == 1#1)
    (fun a b : Fin 2048 => comparator_i1_i32_d0 (noti c (ofFin a), iotaInDim S2048 32 0 (ofFin a)) (noti c (ofFin b), iotaInDim S2048 32 0 (ofFin b)) == 1#1)
    (fun a b h => by
      have h' := (cmp_bits (c (ofFin a)) (c (ofFin b)) _ _).symm.trans h
      refine (cmp_bits (c (ofFin b)) (c (ofFin a)) _ _).trans ?_
      revert h'
      generalize c (ofFin a) = p
      generalize c (ofFin b) = q
      revert p q
      decide)
    (fun a b h => h)
    (fun a b d h1 h2 => by
      have h1' := (cmp_bits (c (ofFin a)) (c (ofFin b)) _ _).symm.trans h1
      have h2' := (cmp_bits (c (ofFin b)) (c (ofFin d)) _ _).symm.trans h2
      refine (cmp_bits (c (ofFin a)) (c (ofFin d)) _ _).trans ?_
      revert h1' h2'
      generalize c (ofFin a) = p
      generalize c (ofFin b) = q
      generalize c (ofFin d) = r
      revert p q r
      decide) i j hij
  have e' := (cmp_bits (c (ofFin _)) (c (ofFin _)) _ _).symm.trans e
  rw [h] at e'
  rcases (by decide : ∀ b : BitVec 1, b = 0#1 ∨ b = 1#1) (c (ofFin _)) with e0 | e0
  · exact absurd (e'.symm.trans (by rw [e0]; rfl : _ = true)) (by decide)
  · exact e0

/-- How many positions are marked. -/
def marks (c : S2048.Idx → BitVec 1) : ℕ := (Finset.univ.filter fun k : Fin 2048 => c (ofFin k) = 1#1).card

theorem marks_le (c : S2048.Idx → BitVec 1) : marks c ≤ 2048 :=
  (Finset.card_le_univ _).trans (by simp)

theorem count_at (c : S2048.Idx → BitVec 1) (j : S_.Idx) : count c j = BitVec.ofNat 32 (marks c) := by
  unfold count marks
  rw [Host.reduce_eq_fold]
  refine (IndicatorCount.fold_addi_setWidth_eq_card (w := 32) c _).trans ?_
  refine congrArg (BitVec.ofNat 32) ?_
  refine Finset.card_bij' (fun i _ => (i 0 : Fin 2048)) (fun k _ => ofFin k) ?_ ?_ ?_ ?_
  · intro i hi
    rw [Finset.mem_filter] at hi
    have e : c (ofFin (i 0)) = 1#1 := (congrArg c (Shape.Idx.eq_ofFin (n := 2048) i)).symm.trans hi.2
    exact Finset.mem_filter.2 ⟨Finset.mem_univ _, e⟩
  · intro k hk
    rw [Finset.mem_filter] at hk
    simp only [Finset.mem_filter, Finset.mem_univ, true_and]
    exact ⟨funext fun a => a.elim0, hk.2⟩
  · intro i _
    exact (Shape.Idx.eq_ofFin i).symm
  · intro k _
    exact Shape.Idx.ofFin_zero k

/-- The marked entries are the first ones. -/
theorem entry_marked (c : S2048.Idx → BitVec 1) (r : Fin 2048) : c (ofFin (entry c r)) = 1#1 ↔ r.val < marks c := by
  have hc : marks c = (Finset.univ.filter fun k : Fin 2048 => c (ofFin (entry c k)) = 1#1).card := by
    unfold marks
    refine (Finset.card_bij (fun k _ => entry c k) ?_ ?_ ?_).symm
    · intro k hk
      simpa using hk
    · intro a _ b _ h
      exact entry_inj c h
    · intro b hb
      obtain ⟨a, ha⟩ := entry_surj c b
      exact ⟨a, by simpa [ha] using hb, ha⟩
  constructor
  · intro h
    rw [hc]
    have hs : Finset.Iic r ⊆ Finset.univ.filter fun k : Fin 2048 => c (ofFin (entry c k)) = 1#1 := by
      intro i hi
      rw [Finset.mem_Iic] at hi
      rw [Finset.mem_filter]
      refine ⟨Finset.mem_univ _, ?_⟩
      rcases lt_or_eq_of_le hi with hl | rfl
      · exact entry_sorted c i r hl h
      · exact h
    have := Finset.card_le_card hs
    rw [Fin.card_Iic] at this
    omega
  · intro h
    by_contra hn
    have hs : (Finset.univ.filter fun k : Fin 2048 => c (ofFin (entry c k)) = 1#1) ⊆ Finset.Iio r := by
      intro i hi
      rw [Finset.mem_filter] at hi
      rw [Finset.mem_Iio]
      by_contra hl
      rcases lt_or_eq_of_le (not_lt.1 hl) with hl | rfl
      · exact hn (entry_sorted c r i hl hi.2)
      · exact hn hi.2
    have := Finset.card_le_card hs
    rw [Fin.card_Iio, ← hc] at this
    omega

/-! ## The list turned round -/

/-- Which entry of the list is the position `p`. -/
@[irreducible] def spot (c : S2048.Idx → BitVec 1) (p : Fin 2048) : Fin 2048 :=
  sortedFrom (fun a b => comparator_i32_i32_d0 (order c (ofFin a), iotaInDim S2048 32 0 (ofFin a)) (order c (ofFin b), iotaInDim S2048 32 0 (ofFin b)) == 1#1) p

theorem place_at (c : S2048.Idx → BitVec 1) (p : Fin 2048) : place (order c) (ofFin p) = BitVec.ofNat 32 (spot c p).val :=
  by
  unfold spot
  exact (sort2_at (n := 2048) comparator_i32_i32_d0 (order c) (iotaInDim S2048 32 0) p).trans (iota_at _)

theorem cmp_words (c : S2048.Idx → BitVec 1) (a b : Fin 2048) (u v : BitVec 32) :
    (comparator_i32_i32_d0 (order c (ofFin a), u) (order c (ofFin b), v) == 1#1) = decide (entry c a < entry c b) := by
  show (IntOp.cmpi .slt (order c (ofFin a)) (order c (ofFin b)) == 1#1) = _
  rw [order_at, order_at]
  have ha := (entry c a).isLt
  have hb := (entry c b).isLt
  have hs : (BitVec.ofNat 32 (entry c a).val).slt (BitVec.ofNat 32 (entry c b).val) = decide (entry c a < entry c b) := by
    rw [BitVec.slt_eq_decide, BitVec.toInt_eq_toNat_cond, BitVec.toInt_eq_toNat_cond, BitVec.toNat_ofNat, BitVec.toNat_ofNat,
      Nat.mod_eq_of_lt (by omega), Nat.mod_eq_of_lt (by omega), if_pos (by omega), if_pos (by omega)]
    exact decide_eq_decide.2 (Int.ofNat_lt.trans Fin.lt_def.symm)
  show (BitVec.ofBool _ == 1#1) = _
  rw [hs]
  cases decide (entry c a < entry c b) <;> rfl

theorem eq_id_of_strictMono {n : ℕ} (f : Fin n → Fin n) (hm : StrictMono f) : f = id := by
  have h := hm.range_inj (g := id) strictMono_id |>.1 (by
    rw [Set.range_id]
    exact (Finite.injective_iff_surjective.1 hm.injective).range_eq)
  exact h

theorem spot_inj (c : S2048.Idx → BitVec 1) : Function.Injective (spot c) := by
  unfold spot
  exact sortedFrom_injective _

theorem spot_sorted (c : S2048.Idx → BitVec 1) (i j : Fin 2048) (hij : i < j) : ¬ entry c (spot c j) < entry c (spot c i) := by
  have e := sortedFrom_noInversion
    (fun a b : Fin 2048 => comparator_i32_i32_d0 (order c (ofFin a), iotaInDim S2048 32 0 (ofFin a)) (order c (ofFin b), iotaInDim S2048 32 0 (ofFin b)) == 1#1)
    (fun a b : Fin 2048 => comparator_i32_i32_d0 (order c (ofFin a), iotaInDim S2048 32 0 (ofFin a)) (order c (ofFin b), iotaInDim S2048 32 0 (ofFin b)) == 1#1)
    (fun a b h => by
      rw [cmp_words] at h ⊢
      simp only [decide_eq_true_eq, decide_eq_false_iff_not] at h ⊢
      exact not_lt.2 h.le)
    (fun a b h => h)
    (fun a b d h1 h2 => by
      rw [cmp_words] at h1 h2 ⊢
      simp only [decide_eq_false_iff_not, not_lt] at h1 h2 ⊢
      exact h2.trans h1) i j hij
  rw [cmp_words] at e
  unfold spot
  exact of_decide_eq_false e

theorem entry_spot (c : S2048.Idx → BitVec 1) (p : Fin 2048) : entry c (spot c p) = p :=
  congrFun (eq_id_of_strictMono (fun p => entry c (spot c p)) fun i j hij =>
    lt_of_le_of_ne (not_lt.1 (spot_sorted c i j hij)) fun h => hij.ne (spot_inj c (entry_inj c h))) p

theorem spot_marked (c : S2048.Idx → BitVec 1) (p : Fin 2048) : (spot c p).val < marks c ↔ c (ofFin p) = 1#1 := by
  rw [← entry_marked, entry_spot]

/-! ## Positions with unmarked neighbours -/

theorem half_of (S : Finset (Fin 2048)) (h : ∀ k ∈ S, k.val + 1 < 2048) (h' : ∀ k ∈ S, ∀ j : Fin 2048, j.val = k.val + 1 → j ∉ S) : S.card ≤ 1024 := by
  have hd : Disjoint S (S.attach.map ⟨fun k => (⟨k.1.val + 1, h k.1 k.2⟩ : Fin 2048), fun a b e => Subtype.ext (Fin.ext (by simpa using e))⟩) := by
    rw [Finset.disjoint_left]
    intro a ha hb
    rw [Finset.mem_map] at hb
    obtain ⟨k, _, hk⟩ := hb
    exact h' k.1 k.2 a (by rw [← hk]; rfl) ha
  have := Finset.card_le_univ (S.disjUnion _ hd)
  rw [Finset.card_disjUnion, Finset.card_map, Finset.card_attach, Fintype.card_fin] at this
  omega

end Cert.KernelIdeal.Smooth

end
-- ==== Proof.Vals2Ideal.lean ====
/-
  The buffers when each region is entered, and the result at the end.
-/
module

public import proofs.«01_k».proof.Proof.ValsIdeal

@[expose] public section

set_option maxRecDepth 16384

noncomputable section

namespace Cert.KernelIdeal.Smooth

open Cert.KernelIdeal Cert.KernelIdeal.Gen

open Idealize.ShloMosaic
open Idealize.ShloMosaic.StableHlo (after launchContents)

variable {F : FTy → Type} [FloatOps F]

variable (m : (ℓ : Loc nD τ sig) → Buf (Elt F) ℓ) (d : Dev nD) (A1 : S2048x128.Idx → BitVec 32) (A2 : S1024x128.Idx → BitVec 32)

theorem W1_ne {r : Ref sig .tc} (h : r ≠ main_v84) : W1 m d (Proc.devRef .tc r) = W0 m d (Proc.devRef .tc r) :=
  Function.update_of_ne (fun e => h (Proc.devRef_injective _ e)) _ _
theorem W1_at : W1 m d (Proc.devRef .tc main_v84) = picked (Xm m d) (Im m d) := Function.update_self ..
theorem W3_ne {r : Ref sig .tc} (h : r ≠ main_v89) : W3 m d A1 (Proc.devRef .tc r) = W2 m d (Proc.devRef .tc r) :=
  Function.update_of_ne (fun e => h (Proc.devRef_injective _ e)) _ _
theorem W3_at : W3 m d A1 (Proc.devRef .tc main_v89) = A1 := Function.update_self ..
theorem W5_ne {r : Ref sig .tc} (h : r ≠ main_v93) : W5 m d A1 A2 (Proc.devRef .tc r) = W4 m d A1 (Proc.devRef .tc r) :=
  Function.update_of_ne (fun e => h (Proc.devRef_injective _ e)) _ _
theorem W5_at : W5 m d A1 A2 (Proc.devRef .tc main_v93) = A2 := Function.update_self ..

theorem W2_v0 : W2 m d (Proc.devRef .tc main_v0) = shapeCast S2048x8x1024 (Agf m d) shapeCasts_S2048x8192_S2048x8x1024 := by
  unfold W2 opsB
  rw [h9_skip (r := main_v0) _ (by decide), W1_ne m d (r := main_v0) (by decide), W0_v0]
theorem W2_v1 : W2 m d (Proc.devRef .tc main_v1) = shapeCast S2048x8x1024 (Agb m d) shapeCasts_S2048x8192_S2048x8x1024 := by
  unfold W2 opsB
  rw [h9_skip (r := main_v1) _ (by decide), W1_ne m d (r := main_v1) (by decide), W0_v1]
theorem W2_v15 : W2 m d (Proc.devRef .tc main_v15) = lone (Ac m d) := by
  unfold W2 opsB
  rw [h9_skip (r := main_v15) _ (by decide), W1_ne m d (r := main_v15) (by decide), W0_v15]
theorem W2_v25 : W2 m d (Proc.devRef .tc main_v25) = fwdPos (Ac m d) := by
  unfold W2 opsB
  rw [h9_skip (r := main_v25) _ (by decide), W1_ne m d (r := main_v25) (by decide), W0_v25]
theorem W2_v33 : W2 m d (Proc.devRef .tc main_v33) = fwdUn (Ac m d) := by
  unfold W2 opsB
  rw [h9_skip (r := main_v33) _ (by decide), W1_ne m d (r := main_v33) (by decide), W0_v33]
theorem W2_v43 : W2 m d (Proc.devRef .tc main_v43) = fwdPrev (Az m d) (Ac m d) := by
  unfold W2 opsB
  rw [h9_skip (r := main_v43) _ (by decide), W1_ne m d (r := main_v43) (by decide), W0_v43]
theorem W2_v44 : W2 m d (Proc.devRef .tc main_v44) = place (order (Ac m d)) := by
  unfold W2 opsB
  rw [h9_skip (r := main_v44) _ (by decide), W1_ne m d (r := main_v44) (by decide), W0_v44]
theorem W2_v48 : W2 m d (Proc.devRef .tc main_v48) = count (lone (Ac m d)) := by
  unfold W2 opsB
  rw [h9_skip (r := main_v48) _ (by decide), W1_ne m d (r := main_v48) (by decide), W0_v48]
theorem W2_v55 : W2 m d (Proc.devRef .tc main_v55) = bwdPos (Ac m d) := by
  unfold W2 opsB
  rw [h9_skip (r := main_v55) _ (by decide), W1_ne m d (r := main_v55) (by decide), W0_v55]
theorem W2_v62 : W2 m d (Proc.devRef .tc main_v62) = look' (prevSym (Az m d)) (bwdPos (Ac m d)) := by
  unfold W2 opsB
  rw [h9_skip (r := main_v62) _ (by decide), W1_ne m d (r := main_v62) (by decide), W0_v62]
theorem W2_v70 : W2 m d (Proc.devRef .tc main_v70) = place (order (lone (Ac m d))) := by
  unfold W2 opsB
  rw [h9_skip (r := main_v70) _ (by decide), W1_ne m d (r := main_v70) (by decide), W0_v70]
theorem W2_arg0 : W2 m d (Proc.devRef .tc main_arg0) = Az m d := by
  unfold W2 opsB
  rw [h9_skip (r := main_arg0) _ (by decide), W1_ne m d (r := main_arg0) (by decide), W0_arg0]
theorem W2_arg1 : W2 m d (Proc.devRef .tc main_arg1) = Ac m d := by
  unfold W2 opsB
  rw [h9_skip (r := main_arg1) _ (by decide), W1_ne m d (r := main_arg1) (by decide), W0_arg1]
theorem W2_v85 : W2 m d (Proc.devRef .tc main_v85) = shapeCast S1x8x1024 (Aq m d) shapeCasts_S8192_S1x8x1024 := by
  unfold W2 opsB
  rw [h9_v85, W1_ne m d (r := main_arg3) (by decide), W0_arg3]
theorem W2_v86 : W2 m d (Proc.devRef .tc main_v86) = shapeCast S1024x8x1024 (picked (Xm m d) (Im m d)) shapeCasts_S8388608_S1024x8x1024 := by
  unfold W2 opsB
  rw [h9_v86, W1_at]
theorem W2_v87 : W2 m d (Proc.devRef .tc main_v87) = shapeCast S8192x1x8192 (AM m d) shapeCasts_S8192x8192_S8192x1x8192 := by
  unfold W2 opsB
  rw [h9_v87, W1_ne m d (r := main_arg2) (by decide), W0_arg2]
theorem W2_v88 : W2 m d (Proc.devRef .tc main_v88) = shapeCast S1 (count (Ac m d)) shapeCasts_S_S1 := by
  unfold W2 opsB
  rw [h9_v88, W1_ne m d (r := main_v19) (by decide), W0_v19]
theorem W4_v1 : W4 m d A1 (Proc.devRef .tc main_v1) = shapeCast S2048x8x1024 (Agb m d) shapeCasts_S2048x8192_S2048x8x1024 := by
  unfold W4 opsC
  rw [h10_skip (r := main_v1) _ (by decide), W3_ne m d A1 (r := main_v1) (by decide), W2_v1]
theorem W4_v15 : W4 m d A1 (Proc.devRef .tc main_v15) = lone (Ac m d) := by
  unfold W4 opsC
  rw [h10_skip (r := main_v15) _ (by decide), W3_ne m d A1 (r := main_v15) (by decide), W2_v15]
theorem W4_v44 : W4 m d A1 (Proc.devRef .tc main_v44) = place (order (Ac m d)) := by
  unfold W4 opsC
  rw [h10_skip (r := main_v44) _ (by decide), W3_ne m d A1 (r := main_v44) (by decide), W2_v44]
theorem W4_v55 : W4 m d A1 (Proc.devRef .tc main_v55) = bwdPos (Ac m d) := by
  unfold W4 opsC
  rw [h10_skip (r := main_v55) _ (by decide), W3_ne m d A1 (r := main_v55) (by decide), W2_v55]
theorem W4_v62 : W4 m d A1 (Proc.devRef .tc main_v62) = look' (prevSym (Az m d)) (bwdPos (Ac m d)) := by
  unfold W4 opsC
  rw [h10_skip (r := main_v62) _ (by decide), W3_ne m d A1 (r := main_v62) (by decide), W2_v62]
theorem W4_v70 : W4 m d A1 (Proc.devRef .tc main_v70) = place (order (lone (Ac m d))) := by
  unfold W4 opsC
  rw [h10_skip (r := main_v70) _ (by decide), W3_ne m d A1 (r := main_v70) (by decide), W2_v70]
theorem W4_arg0 : W4 m d A1 (Proc.devRef .tc main_arg0) = Az m d := by
  unfold W4 opsC
  rw [h10_skip (r := main_arg0) _ (by decide), W3_ne m d A1 (r := main_arg0) (by decide), W2_arg0]
theorem W4_arg1 : W4 m d A1 (Proc.devRef .tc main_arg1) = Ac m d := by
  unfold W4 opsC
  rw [h10_skip (r := main_arg1) _ (by decide), W3_ne m d A1 (r := main_arg1) (by decide), W2_arg1]
theorem W4_v86 : W4 m d A1 (Proc.devRef .tc main_v86) = shapeCast S1024x8x1024 (picked (Xm m d) (Im m d)) shapeCasts_S8388608_S1024x8x1024 := by
  unfold W4 opsC
  rw [h10_skip (r := main_v86) _ (by decide), W3_ne m d A1 (r := main_v86) (by decide), W2_v86]
theorem W4_v87 : W4 m d A1 (Proc.devRef .tc main_v87) = shapeCast S8192x1x8192 (AM m d) shapeCasts_S8192x8192_S8192x1x8192 := by
  unfold W4 opsC
  rw [h10_skip (r := main_v87) _ (by decide), W3_ne m d A1 (r := main_v87) (by decide), W2_v87]
theorem W4_v92 : W4 m d A1 (Proc.devRef .tc main_v92) = shapeCast S1 (count (lone (Ac m d))) shapeCasts_S_S1 := by
  unfold W4 opsC
  rw [h10_v92, W3_ne m d A1 (r := main_v48) (by decide), W2_v48]
theorem W4_v91 : W4 m d A1 (Proc.devRef .tc main_v91) = shapeCast S2048 (extractStridedSlice S2048x1 ![0, 0] A1 slices_S2048x128_S2048x1_0_0) shapeCasts_S2048x1_S2048 := by
  unfold W4 opsC
  rw [h10_v91, W3_at]
/-- The result. -/
def joined (z : S2048.Idx → BitVec 32) (c : S2048.Idx → BitVec 1) (A1 : S2048x128.Idx → BitVec 32) (A2 : S1024x128.Idx → BitVec 32) :
    S2048.Idx → BitVec 32 :=
  select (lone c)
    (takeBwd (shapeCast S1024 (extractStridedSlice S1024x1 ![0, 0] A2 slices_S1024x128_S1024x1_0_0) shapeCasts_S1024x1_S1024)
      (minsi (place (order (lone c))) (broadcastInDim S2048 ![] bcast_S_S2048 (constantI S_ 32 1023#32))))
    (select c
      (takeFwd (shapeCast S2048 (extractStridedSlice S2048x1 ![0, 0] A1 slices_S2048x128_S2048x1_0_0) shapeCasts_S2048x1_S2048)
        (place (order c))) z)
theorem W6_v101 : W6 m d A1 A2 (Proc.devRef .tc main_v101) = joined (Az m d) (Ac m d) A1 A2 := by
  unfold W6 opsD
  simp only [after_app]
  rw [call11_v101, call10_v100, call10_skip (r := main_v15) _ (by decide), call10_skip (r := main_v99) _ (by decide), call9_skip (r := main_arg0) _ (by decide), call9_skip (r := main_arg1) _ (by decide), call9_skip (r := main_v15) _ (by decide), call9_skip (r := main_v96) _ (by decide), call9_v99, h12_skip (r := main_arg0) _ (by decide), h12_skip (r := main_arg1) _ (by decide), h12_skip (r := main_v15) _ (by decide), h12_skip (r := main_v95) _ (by decide), h12_skip (r := main_v96) _ (by decide), h12_v98, call8_skip (r := main_arg0) _ (by decide), call8_skip (r := main_arg1) _ (by decide), call8_skip (r := main_v15) _ (by decide), call8_skip (r := main_v70) _ (by decide), call8_skip (r := main_v95) _ (by decide), call8_v96, h11_skip (r := main_arg0) _ (by decide), h11_skip (r := main_arg1) _ (by decide), h11_skip (r := main_v15) _ (by decide), h11_skip (r := main_v44) _ (by decide), h11_skip (r := main_v70) _ (by decide), h11_skip (r := main_v91) _ (by decide), h11_v95, W5_ne m d A1 A2 (r := main_arg0) (by decide), W5_ne m d A1 A2 (r := main_arg1) (by decide), W5_ne m d A1 A2 (r := main_v15) (by decide), W5_ne m d A1 A2 (r := main_v44) (by decide), W5_ne m d A1 A2 (r := main_v70) (by decide), W5_ne m d A1 A2 (r := main_v91) (by decide), W5_at, W4_arg0, W4_arg1, W4_v15, W4_v44, W4_v70, W4_v91]
  rfl

theorem Xm_eq : Xm m d = shapeCast S67108864 (AM m d) shapeCasts_S8192x8192_S67108864 := W0_v71 m d
theorem Im_eq : Im m d = wordPos (bwdUse (Ac m d)) (look' (nextSym (Az m d)) (bwdPos (Ac m d))) := W0_v83 m d

end Cert.KernelIdeal.Smooth

end
-- ==== Proof.EntriesIdeal.lean ====
/-
  The host's tables entry by entry: which position each of a region's rows is for, what the tables hold there, and where a
  result is found again. Symbols below 8192 give row and column numbers below 8192.
-/
module

public import proofs.«01_k».proof.Proof.PermIdeal
public import proofs.«01_k».proof.Proof.Vals2Ideal
public import Idealize.ShloMosaic.Lib.Pointwise.SelectCore
public import Idealize.ShloMosaic.Lib.Pipeline.Value
public import Idealize.ShloMosaic.Lib.ReduceAll
public import Idealize.ShloMosaic.Lib.ValueIdxCore

@[expose] public section

set_option maxRecDepth 16384

noncomputable section

namespace Cert.KernelIdeal.Smooth

open Cert.KernelIdeal Cert.KernelIdeal.Gen

open Idealize.ShloMosaic
open Shape.Idx (ofFin)

/-! ## Words -/

theorem word_nat {k : ℕ} (h : k < 2048) : (BitVec.ofNat 32 k).toNat = k := by
  rw [BitVec.toNat_ofNat]; omega

theorem slt_nat {a b : ℕ} (ha : a ≤ 2048) (hb : b ≤ 2048) : IntOp.cmpi .slt (BitVec.ofNat 32 a) (BitVec.ofNat 32 b) = if a < b then 1#1 else 0#1 := by
  have hs : (BitVec.ofNat 32 a).slt (BitVec.ofNat 32 b) = decide (a < b) := by
    rw [BitVec.slt_eq_decide, BitVec.toInt_eq_toNat_cond, BitVec.toInt_eq_toNat_cond, BitVec.toNat_ofNat, BitVec.toNat_ofNat,
      Nat.mod_eq_of_lt (by omega), Nat.mod_eq_of_lt (by omega), if_pos (by omega), if_pos (by omega)]
    exact decide_eq_decide.2 Int.ofNat_lt
  show BitVec.ofBool _ = _
  rw [hs]
  by_cases h : a < b <;> simp [h]

/-! ## The two lists of rows -/

theorem first_at (o : S2048.Idx → BitVec 32) (j : S_.Idx) :
    shapeCast S_ (extractStridedSlice S1 ![0] o slices_S2048_S1_0) shapeCasts_S1_S_ j = o (ofFin (n := 2048) 0) := by
  refine (shapeCast_apply _ shapeCasts_S1_S_ j (ofFin (n := 1) 0) ?_).trans ?_
  · have h1 := (S1.rowMajor (ofFin (n := 1) 0)).isLt
    have h2 := (S_.rowMajor j).isLt
    have e1 : S1.numel = 1 := by decide
    have e2 : S_.numel = 1 := by decide
    omega
  · exact congrArg o (funext fun a => Fin.ext (match a with | ⟨0, _⟩ => rfl))

theorem first_at' (o : S1024.Idx → BitVec 32) (j : S_.Idx) :
    shapeCast S_ (extractStridedSlice S1 ![0] o slices_S1024_S1_0) shapeCasts_S1_S_ j = o (ofFin (n := 1024) 0) := by
  refine (shapeCast_apply _ shapeCasts_S1_S_ j (ofFin (n := 1) 0) ?_).trans ?_
  · have h1 := (S1.rowMajor (ofFin (n := 1) 0)).isLt
    have h2 := (S_.rowMajor j).isLt
    have e1 : S1.numel = 1 := by decide
    have e2 : S_.numel = 1 := by decide
    omega
  · exact congrArg o (funext fun a => Fin.ext (match a with | ⟨0, _⟩ => rfl))

/-- The position the forward region's row `r` is for. -/
def fwdAt (c : S2048.Idx → BitVec 1) (r : Fin 2048) : Fin 2048 := if r.val < marks c then entry c r else entry c 0

theorem fwdPos_at (c : S2048.Idx → BitVec 1) (r : Fin 2048) : fwdPos c (ofFin r) = BitVec.ofNat 32 (fwdAt c r).val := by
  unfold fwdPos
  show Scalar.select (IntOp.cmpi .slt (BitVec.ofNat 32 r.val) (count c _)) (order c (ofFin r)) (shapeCast S_ _ shapeCasts_S1_S_ _) = _
  rw [first_at, count_at, slt_nat r.isLt.le (marks_le c), order_at, order_at]
  unfold fwdAt
  by_cases h : r.val < marks c
  · rw [if_pos h, if_pos h]; rfl
  · rw [if_neg h, if_neg h]; rfl

def small (k : Fin 1024) : Fin 2048 := ⟨k.val, k.isLt.trans (by decide)⟩

theorem bwdList_at (c : S2048.Idx → BitVec 1) (r : Fin 1024) : bwdList c (ofFin r) = BitVec.ofNat 32 (entry (lone c) (small r)).val := by
  rw [← order_at]
  exact congrArg (order (lone c)) (funext fun a => Fin.ext (match a with | ⟨0, _⟩ => Nat.zero_add _))

/-- The position the backward region's row `r` is for. -/
def bwdAt (c : S2048.Idx → BitVec 1) (r : Fin 1024) : Fin 2048 :=
  if r.val < marks (lone c) then entry (lone c) (small r) else entry (lone c) (small 0)

theorem bwdUse_at (c : S2048.Idx → BitVec 1) (r : Fin 1024) : bwdUse c (ofFin r) = if r.val < marks (lone c) then 1#1 else 0#1 := by
  unfold bwdUse
  show IntOp.cmpi .slt (BitVec.ofNat 32 r.val) (count (lone c) _) = _
  rw [count_at, slt_nat (r.isLt.le.trans (by decide)) (marks_le _)]

theorem bwdPos_at (c : S2048.Idx → BitVec 1) (r : Fin 1024) : bwdPos c (ofFin r) = BitVec.ofNat 32 (bwdAt c r).val := by
  unfold bwdPos
  show Scalar.select (bwdUse c (ofFin r)) (bwdList c (ofFin r)) (shapeCast S_ _ shapeCasts_S1_S_ _) = _
  rw [first_at', bwdUse_at, bwdList_at, bwdList_at]
  unfold bwdAt
  by_cases h : r.val < marks (lone c)
  · rw [if_pos h, if_pos h]; rfl
  · rw [if_neg h, if_neg h]; rfl

/-! ## Looking a table up -/

theorem wrap_at (o : S2048.Idx → BitVec 32) (j : S2048.Idx) (h : (o j).toNat < 2 ^ 31) : wrap o j = o j :=
  Routing.wrap_of_lt _ _ h

theorem wrap'_at (o : S1024.Idx → BitVec 32) (j : S1024.Idx) (h : (o j).toNat < 2 ^ 31) : wrap' o j = o j :=
  Routing.wrap_of_lt _ _ h

theorem wrapBwd_at (o : S2048.Idx → BitVec 32) (j : S2048.Idx) (h : (o j).toNat < 2 ^ 31) : wrapBwd o j = o j :=
  Routing.wrap_of_lt _ _ h

theorem look_at {α : Type} (x : S2048.Idx → α) (o : S2048.Idx → BitVec 32) (p k : Fin 2048) (h : o (ofFin p) = BitVec.ofNat 32 k.val) :
    look x o (ofFin p) = x (ofFin k) := by
  have hk := k.isLt
  have hn : (o (ofFin p)).toNat = k.val := by rw [h]; exact word_nat hk
  unfold look
  refine (StableHlo.Predicate.gather_take (N := 2048) (n := 2048) _ rfl rfl rfl rfl x _ p (by decide)).trans ?_
  refine congrArg (fun q : Fin 2048 => x (ofFin q)) (Fin.ext ?_)
  show min (broadcastInDim S2048x1 ![0] bcast_S2048_S2048x1_0 (wrap o) (StableHlo.Predicate.ixP p)).toInt.toNat (2048 - 1) = k.val
  rw [broadcastInDim_apply _ _ _ _ (ofFin p) (fun a => match a with | ⟨0, _⟩ => rfl), wrap_at o _ (by omega), BitVec.toInt_eq_toNat_cond, hn, if_pos (by omega)]
  omega

theorem look'_at {α : Type} (x : S2048.Idx → α) (o : S1024.Idx → BitVec 32) (p : Fin 1024) (k : Fin 2048) (h : o (ofFin p) = BitVec.ofNat 32 k.val) :
    look' x o (ofFin p) = x (ofFin k) := by
  have hk := k.isLt
  have hn : (o (ofFin p)).toNat = k.val := by rw [h]; exact word_nat hk
  unfold look'
  refine (StableHlo.Predicate.gather_take (N := 2048) (n := 1024) _ rfl rfl rfl rfl x _ p (by decide)).trans ?_
  refine congrArg (fun q : Fin 2048 => x (ofFin q)) (Fin.ext ?_)
  show min (broadcastInDim S1024x1 ![0] bcast_S1024_S1024x1_0 (wrap' o) (StableHlo.Predicate.ixP p)).toInt.toNat (2048 - 1) = k.val
  rw [broadcastInDim_apply _ _ _ _ (ofFin p) (fun a => match a with | ⟨0, _⟩ => rfl), wrap'_at o _ (by omega), BitVec.toInt_eq_toNat_cond, hn, if_pos (by omega)]
  omega

theorem look_some {α : Type} (x : S2048.Idx → α) (o : S2048.Idx → BitVec 32) (j : S2048.Idx) : ∃ k, look x o j = x k := ⟨_, rfl⟩
theorem look'_some {α : Type} (x : S2048.Idx → α) (o : S1024.Idx → BitVec 32) (j : S1024.Idx) : ∃ k, look' x o j = x k := ⟨_, rfl⟩

theorem tests_one (v b : BitVec 32) (hb : b.toNat < 2 ^ 31) (h : v.toNat ≤ b.toNat) :
    IntOp.andi (IntOp.cmpi .sge v 0#32) (IntOp.cmpi .sle v b) = 1#1 := by
  have h0 : BitVec.sle 0#32 v = true := by
    rw [BitVec.sle_eq_decide, BitVec.toInt_eq_toNat_cond, BitVec.toInt_eq_toNat_cond, if_pos (by simp), if_pos (by omega)]
    simp
  have h1 : v.sle b = true := by
    rw [BitVec.sle_eq_decide, BitVec.toInt_eq_toNat_cond, BitVec.toInt_eq_toNat_cond, if_pos (by omega), if_pos (by omega)]
    simp only [decide_eq_true_eq]; omega
  show IntOp.andi (BitVec.ofBool (BitVec.sle 0#32 v)) (BitVec.ofBool (v.sle b)) = _
  rw [h0, h1]
  decide

theorem takeFwd_at (x : S2048.Idx → BitVec 32) (o : S2048.Idx → BitVec 32) (ho : ∀ j, (o j).toNat < 2048) (p k : Fin 2048)
    (h : o (ofFin p) = BitVec.ofNat 32 k.val) : takeFwd x o (ofFin p) = x (ofFin k) := by
  unfold takeFwd
  show Scalar.select (Host.reduce IntOp.andi _ _ _ _ (ofFin (n := 2048) p)) (look x o (ofFin p)) _ = _
  rw [Host.reduce_andi_one _ _ _ _ _ rfl fun i => ?_, look_at x o p k h]
  · rfl
  · show IntOp.andi (IntOp.cmpi .sge (wrap o _) 0#32) (IntOp.cmpi .sle (wrap o _) 2047#32) = 1#1
    rw [wrap_at o _ ((ho _).trans (by decide))]
    exact tests_one _ _ (by decide) (Nat.le_of_lt_succ (ho _))

theorem takeBwd_at (x : S1024.Idx → BitVec 32) (o : S2048.Idx → BitVec 32) (ho : ∀ j, (o j).toNat < 1024) (p : Fin 2048) (k : Fin 1024)
    (h : o (ofFin p) = BitVec.ofNat 32 k.val) : takeBwd x o (ofFin p) = x (ofFin k) := by
  have hk := k.isLt
  have hn : (o (ofFin p)).toNat = k.val := by rw [h]; exact word_nat (by omega)
  unfold takeBwd
  show Scalar.select (Host.reduce IntOp.andi _ _ _ _ (ofFin (n := 2048) p)) (Host.gather _ x _ (ofFin (n := 2048) p)) _ = _
  rw [Host.reduce_andi_one _ _ _ _ _ rfl fun i => ?_]
  · refine (StableHlo.Predicate.gather_take (N := 1024) (n := 2048) _ rfl rfl rfl rfl x _ p (by decide)).trans ?_
    refine congrArg (fun q : Fin 1024 => x (ofFin q)) (Fin.ext ?_)
    show min (broadcastInDim S2048x1 ![0] bcast_S2048_S2048x1_0 (wrapBwd o) (StableHlo.Predicate.ixP p)).toInt.toNat (1024 - 1) = k.val
    rw [broadcastInDim_apply _ _ _ _ (ofFin p) (fun a => match a with | ⟨0, _⟩ => rfl), wrapBwd_at o _ (by omega), BitVec.toInt_eq_toNat_cond, hn, if_pos (by omega)]
    omega
  · show IntOp.andi (IntOp.cmpi .sge (wrapBwd o _) 0#32) (IntOp.cmpi .sle (wrapBwd o _) 1023#32) = 1#1
    rw [wrapBwd_at o _ ((ho _).trans (by decide))]
    exact tests_one _ _ (by decide) (Nat.le_of_lt_succ (ho _))

/-! ## Neighbours -/

theorem pair_forall {α : Type} {t s₁ s₂ : Shape} (P : α → Prop) (a : Fin t.rank) (x₁ : s₁.Idx → α) (x₂ : s₂.Idx → α)
    (h : Shape.Concatenates [s₁, s₂] t a) (h₁ : ∀ i, P (x₁ i)) (h₂ : ∀ i, P (x₂ i)) (j : t.Idx) : P (concatenate t a [⟨s₁, x₁⟩, ⟨s₂, x₂⟩] h j) := by
  rw [concatenate_pair_apply]
  split
  · exact h₁ _
  · exact h₂ _

theorem prevSym_lt (z : S2048.Idx → BitVec 32) (h : ∀ j, (z j).toNat < 8192) (j : S2048.Idx) : (prevSym z j).toNat < 8192 :=
  pair_forall (fun w : BitVec 32 => w.toNat < 8192) _ _ _ _ (fun _ => by show (0#32).toNat < 8192; decide) (fun _ => h _) j

theorem nextSym_lt (z : S2048.Idx → BitVec 32) (h : ∀ j, (z j).toNat < 8192) (j : S2048.Idx) : (nextSym z j).toNat < 8192 :=
  pair_forall (fun w : BitVec 32 => w.toNat < 8192) _ _ _ _ (fun _ => h _) (fun _ => by show (0#32).toNat < 8192; decide) j

theorem nextUn_one (c : S2048.Idx → BitVec 1) (k : Fin 2048) (h : nextUn c (ofFin k) = 1#1) :
    ∃ h' : k.val + 1 < 2048, c (ofFin ⟨k.val + 1, h'⟩) = 0#1 := by
  have hk := k.isLt
  unfold nextUn at h
  by_cases h' : k.val + 1 < 2048
  · refine ⟨h', ?_⟩
    rw [concatenate_pair_apply_left (t := S2048) 0 _ _ concatenates_S2047_S1_S2048_d0 (ofFin k) rfl (ofFin (n := 2047) ⟨k.val, by omega⟩)
      (fun b => match b with | ⟨0, _⟩ => rfl)] at h
    have e : ~~~ c (ofFin ⟨k.val + 1, h'⟩) = 1#1 :=
      (congrArg (fun i => ~~~ c i) (funext fun a => Fin.ext (match a with | ⟨0, _⟩ => Nat.add_comm k.val 1))).trans h
    revert e
    generalize c _ = q
    revert q
    decide
  · rw [concatenate_pair_apply_right (t := S2048) 0 _ _ concatenates_S2047_S1_S2048_d0 (ofFin k) rfl rfl (ofFin (n := 1) 0)
      (fun b hb => absurd (Subsingleton.elim _ _) hb) (show 0 + 2047 = k.val by omega)] at h
    exact absurd h (by show ¬ (0#1 = 1#1); decide)

theorem lone_one (c : S2048.Idx → BitVec 1) (j : S2048.Idx) : lone c j = 1#1 ↔ (c j = 1#1 ∧ prevUn c j = 1#1) ∧ nextUn c j = 1#1 := by
  show IntOp.andi (IntOp.andi (c j) (prevUn c j)) (nextUn c j) = 1#1 ↔ _
  rw [IntOp.andi_eq_one, IntOp.andi_eq_one]

theorem marks_lone (c : S2048.Idx → BitVec 1) : marks (lone c) ≤ 1024 := by
  refine half_of _ (fun k hk => ?_) (fun k hk j hj hj' => ?_)
  · exact (nextUn_one c k ((lone_one c _).1 (Finset.mem_filter.1 hk).2).2).1
  · obtain ⟨h', e⟩ := nextUn_one c k ((lone_one c _).1 (Finset.mem_filter.1 hk).2).2
    have hl := ((lone_one c _).1 (Finset.mem_filter.1 hj').2).1.1
    have : j = ⟨k.val + 1, h'⟩ := Fin.ext hj
    rw [this, e] at hl
    exact absurd hl (by decide)

end Cert.KernelIdeal.Smooth

end
-- ==== Proof.HypsIdeal.lean ====
/-
  Symbols below 8192 make the tables admissible: every row number the regions read is inside its array, the counts fit, and the
  positions the column call reads are inside the flat matrix. So the program runs.
-/
module

public import proofs.«01_k».proof.Proof.EntriesIdeal

@[expose] public section

set_option maxRecDepth 16384

noncomputable section

namespace Cert.KernelIdeal.Smooth

open Cert.KernelIdeal Cert.KernelIdeal.Gen

open Idealize.ShloMosaic Idealize.SL.Sem
open Idealize.ShloMosaic.StableHlo (after launchContents)
open Shape.Idx (ofFin)
open Cert.Smooth (colBlk colBlk_toNat)

variable {F : FTy → Type} [FloatOps F]

theorem rowM (w : BitVec 32) (h : w.toNat < 8192) : ∀ a, ((![w.toNat, (0#32).toNat, (0#32).toNat] : Fin 3 → ℕ) a + 1) * S1x1x8192.size a ≤ S8192x1x8192.size a
  | ⟨0, _⟩ => by show (w.toNat + 1) * 1 ≤ 8192; omega
  | ⟨1, _⟩ => by show (0 + 1) * 1 ≤ 1; decide
  | ⟨2, _⟩ => by show (0 + 1) * 8192 ≤ 8192; decide

theorem rowG (w : BitVec 32) (h : w.toNat < 2048) : ∀ a, ((![w.toNat, (0#32).toNat, (0#32).toNat] : Fin 3 → ℕ) a + 1) * S1x8x1024.size a ≤ S2048x8x1024.size a
  | ⟨0, _⟩ => by show (w.toNat + 1) * 1 ≤ 2048; omega
  | ⟨1, _⟩ => by show (0 + 1) * 8 ≤ 8; decide
  | ⟨2, _⟩ => by show (0 + 1) * 1024 ≤ 1024; decide

theorem rowC (w : BitVec 32) (h : w.toNat < 128) : ∀ a, ((![w.toNat, (0#32).toNat, (0#32).toNat] : Fin 3 → ℕ) a + 1) * S8x8x1024.size a ≤ S1024x8x1024.size a
  | ⟨0, _⟩ => by show (w.toNat + 1) * 8 ≤ 1024; omega
  | ⟨1, _⟩ => by show (0 + 1) * 8 ≤ 8; decide
  | ⟨2, _⟩ => by show (0 + 1) * 1024 ≤ 1024; decide

theorem ok1_of (pf : pre1.Contents (Elt F)) (h0 : ∀ j, BitVec.toNat (w := 32) (pf 0 j) < 2048) (h1 : ∀ j, BitVec.toNat (w := 32) (pf 1 j) < 8192) : ok1 pf := by
  have hM (r : Rect S2048) (hr : r.shape.numel = 1) (w : BitVec 32) (e : w = pf.at 1 r hr) : w.toNat < 8192 := e ▸ h1 _
  have hG (r : Rect S2048) (hr : r.shape.numel = 1) (w : BitVec 32) (e : w = pf.at 0 r hr) : w.toNat < 2048 := e ▸ h0 _
  exact ⟨fun i => ⟨rowM _ (hM _ numel1_S1 _ rfl), .inl rfl⟩, fun i => ⟨rowM _ (hM _ numel1_S1 _ rfl), .inl rfl⟩, fun i => ⟨rowM _ (hM _ numel1_S1 _ rfl), .inl rfl⟩,
    fun i => ⟨rowM _ (hM _ numel1_S1 _ rfl), .inl rfl⟩, fun i => ⟨rowM _ (hM _ numel1_S1 _ rfl), .inl rfl⟩, fun i => ⟨rowM _ (hM _ numel1_S1 _ rfl), .inl rfl⟩,
    fun i => ⟨rowM _ (hM _ numel1_S1 _ rfl), .inl rfl⟩, fun i => ⟨rowM _ (hM _ numel1_S1 _ rfl), .inl rfl⟩,
    fun i => ⟨rowG _ (hG _ numel1_S1 _ rfl), .inl rfl⟩, fun i => ⟨rowG _ (hG _ numel1_S1 _ rfl), .inl rfl⟩, fun i => ⟨rowG _ (hG _ numel1_S1 _ rfl), .inl rfl⟩,
    fun i => ⟨rowG _ (hG _ numel1_S1 _ rfl), .inl rfl⟩, fun i => ⟨rowG _ (hG _ numel1_S1 _ rfl), .inl rfl⟩, fun i => ⟨rowG _ (hG _ numel1_S1 _ rfl), .inl rfl⟩,
    fun i => ⟨rowG _ (hG _ numel1_S1 _ rfl), .inl rfl⟩, fun i => ⟨rowG _ (hG _ numel1_S1 _ rfl), .inl rfl⟩⟩

theorem ok2_of (pf : pre2.Contents (Elt F)) (h0 : ∀ j, BitVec.toNat (w := 32) (pf 0 j) < 2048) (h1 : ∀ j, BitVec.toNat (w := 32) (pf 1 j) < 8192) : ok2 pf := by
  have hM (r : Rect S1024) (hr : r.shape.numel = 1) (w : BitVec 32) (e : w = pf.at 1 r hr) : w.toNat < 8192 := e ▸ h1 _
  have hG (r : Rect S1024) (hr : r.shape.numel = 1) (w : BitVec 32) (e : w = pf.at 0 r hr) : w.toNat < 2048 := e ▸ h0 _
  have hC (i : grid2.Coords) (n : BitVec 32) : (colBlk (BitVec.ofNat 32 (i 0).val) n).toNat < 128 := by
    have hi : (i 0).val < 128 := (i 0).isLt
    have hw : (BitVec.ofNat 32 (i 0).val).toNat = (i 0).val := by rw [BitVec.toNat_ofNat]; omega
    rw [colBlk_toNat _ n (by omega)]
    omega
  exact ⟨fun i => ⟨rowM _ (hM _ numel1_S1 _ rfl), .inl rfl⟩, fun i => ⟨rowM _ (hM _ numel1_S1 _ rfl), .inl rfl⟩, fun i => ⟨rowM _ (hM _ numel1_S1 _ rfl), .inl rfl⟩,
    fun i => ⟨rowM _ (hM _ numel1_S1 _ rfl), .inl rfl⟩, fun i => ⟨rowM _ (hM _ numel1_S1 _ rfl), .inl rfl⟩, fun i => ⟨rowM _ (hM _ numel1_S1 _ rfl), .inl rfl⟩,
    fun i => ⟨rowM _ (hM _ numel1_S1 _ rfl), .inl rfl⟩, fun i => ⟨rowM _ (hM _ numel1_S1 _ rfl), .inl rfl⟩,
    fun i => ⟨rowC _ (hC i (pf.at 2 (Rect.unit (s := S1) ![0] S1.size inb_S1_S1_0) numel1_S1)), .inl rfl⟩,
    fun i => ⟨rowG _ (hG _ numel1_S1 _ rfl), .inl rfl⟩, fun i => ⟨rowG _ (hG _ numel1_S1 _ rfl), .inl rfl⟩, fun i => ⟨rowG _ (hG _ numel1_S1 _ rfl), .inl rfl⟩,
    fun i => ⟨rowG _ (hG _ numel1_S1 _ rfl), .inl rfl⟩, fun i => ⟨rowG _ (hG _ numel1_S1 _ rfl), .inl rfl⟩, fun i => ⟨rowG _ (hG _ numel1_S1 _ rfl), .inl rfl⟩,
    fun i => ⟨rowG _ (hG _ numel1_S1 _ rfl), .inl rfl⟩, fun i => ⟨rowG _ (hG _ numel1_S1 _ rfl), .inl rfl⟩⟩

/-! ## The tables' words -/

theorem fwdPos_lt (c : S2048.Idx → BitVec 1) (j : S2048.Idx) : (fwdPos c j).toNat < 2048 := by
  have e := (congrArg (fwdPos c) (Shape.Idx.eq_ofFin (n := 2048) j)).trans (fwdPos_at c (j 0))
  rw [e, word_nat (fwdAt c (j 0)).isLt]
  exact (fwdAt c (j 0)).isLt

theorem bwdPos_lt (c : S2048.Idx → BitVec 1) (j : S1024.Idx) : (bwdPos c j).toNat < 2048 := by
  have e := (congrArg (bwdPos c) (Shape.Idx.eq_ofFin (n := 1024) j)).trans (bwdPos_at c (j 0))
  rw [e, word_nat (bwdAt c (j 0)).isLt]
  exact (bwdAt c (j 0)).isLt

theorem fwdPrev_lt (z : S2048.Idx → BitVec 32) (c : S2048.Idx → BitVec 1) (hz : ∀ j, (z j).toNat < 8192) (j : S2048.Idx) :
    (fwdPrev z c j).toNat < 8192 := by
  show (Scalar.select (IntOp.cmpi .sgt (fwdUn c j) 0#32) (look (prevSym z) (fwdPos c) j) 0#32).toNat < 8192
  obtain ⟨k, hk⟩ := look_some (prevSym z) (fwdPos c) j
  rw [hk]
  unfold Scalar.select
  split
  · exact prevSym_lt z hz k
  · decide

theorem bwdPrev_lt (z : S2048.Idx → BitVec 32) (c : S2048.Idx → BitVec 1) (hz : ∀ j, (z j).toNat < 8192) (j : S1024.Idx) :
    (look' (prevSym z) (bwdPos c) j).toNat < 8192 := by
  obtain ⟨k, hk⟩ := look'_some (prevSym z) (bwdPos c) j
  rw [hk]
  exact prevSym_lt z hz k

theorem bwdNext_lt (z : S2048.Idx → BitVec 32) (c : S2048.Idx → BitVec 1) (hz : ∀ j, (z j).toNat < 8192) (j : S1024.Idx) :
    (look' (nextSym z) (bwdPos c) j).toNat < 8192 := by
  obtain ⟨k, hk⟩ := look'_some (nextSym z) (bwdPos c) j
  rw [hk]
  exact nextSym_lt z hz k

/-- A list over the rows, spread over the rows' words. -/
theorem spread_row {α : Type} (x : S1024.Idx → α) (b : Fin 1024) (k : Fin 8192) :
    broadcastInDim S1024x8192 ![0, 1] bcast_S1024x1_S1024x8192_0_1 (broadcastInDim S1024x1 ![0] bcast_S1024_S1024x1_0 x)
      (ValueIdx.ix2 b k) = x (ofFin (n := 1024) b) :=
  (broadcastInDim_apply _ _ _ _ (ValueIdx.ix2 b (0 : Fin 1)) fun a => match a with | ⟨0, _⟩ => rfl | ⟨1, _⟩ => rfl).trans
    (broadcastInDim_apply _ _ _ _ (ofFin (n := 1024) b) fun a => match a with | ⟨0, _⟩ => rfl)

/-- A list over the words, repeated for every row. -/
theorem spread_col {α : Type} (x : S8192.Idx → α) (b : Fin 1024) (k : Fin 8192) :
    broadcastInDim S1024x8192 ![0, 1] bcast_S1x8192_S1024x8192_0_1 (broadcastInDim S1x8192 ![1] bcast_S8192_S1x8192_1 x)
      (ValueIdx.ix2 b k) = x (ofFin (n := 8192) k) :=
  (broadcastInDim_apply _ _ _ _ (ValueIdx.ix2 (0 : Fin 1) k) fun a => match a with | ⟨0, _⟩ => rfl | ⟨1, _⟩ => rfl).trans
    (broadcastInDim_apply _ _ _ _ (ofFin (n := 8192) k) fun a => match a with | ⟨0, _⟩ => rfl)

/-- The flat position of word `k` of row `b`. -/
theorem wordPos_at (u : S1024.Idx → BitVec 1) (s : S1024.Idx → BitVec 32) (j : S8388608.Idx) (b : Fin 1024) (k : Fin 8192)
    (hj : (j 0).val = b.val * 8192 + k.val) :
    wordPos u s j = Scalar.select (u (ofFin b)) (s (ofFin b) + BitVec.ofNat 32 k.val * 8192#32) (BitVec.ofNat 32 k.val) := by
  unfold wordPos
  refine (shapeCast_apply _ _ j (ValueIdx.ix2 b k) ?_).trans ?_
  · exact (Shape.rowMajor_val_two _).trans (Eq.trans hj.symm (Shape.rowMajor_val_one j).symm)
  · have e1 := spread_row u b k
    have e2 := spread_row s b k
    have e3 := spread_col (muli (iotaInDim S8192 32 0) (broadcastInDim S8192 ![] bcast_S_S8192 (constantI S_ 32 8192#32))) b k
    have e4 := spread_col (iotaInDim S8192 32 0) b k
    rw [select, e1, e4, addi, e2, e3]
    rfl

theorem wordPos_lt (u : S1024.Idx → BitVec 1) (s : S1024.Idx → BitVec 32) (hs : ∀ i, (s i).toNat < 8192) (j : S8388608.Idx) :
    (wordPos u s j).toNat < 67108864 := by
  have hj : (j 0).val < 8388608 := (j 0).isLt
  have h := hs (ofFin (n := 1024) ⟨(j 0).val / 8192, by omega⟩)
  rw [wordPos_at u s j ⟨(j 0).val / 8192, by omega⟩ ⟨(j 0).val % 8192, by omega⟩ (by show _ = (j 0).val / 8192 * 8192 + (j 0).val % 8192; omega)]
  unfold Scalar.select
  split
  · rw [BitVec.toNat_add, BitVec.toNat_mul, BitVec.toNat_ofNat, BitVec.toNat_ofNat]
    omega
  · rw [BitVec.toNat_ofNat]
    omega

/-! ## The run -/

theorem count_lt (c : S2048.Idx → BitVec 1) (j : S_.Idx) : (count c j).toNat = marks c := by
  have := marks_le c
  rw [count_at, BitVec.toNat_ofNat]
  omega

variable (m : (ℓ : Loc nD τ sig) → Buf (Elt F) ℓ)

theorem nFwd_eq (d : Dev nD) : (nFwd (W2 m d)).toNat = marks (Ac m d) := by
  unfold nFwd at0
  rw [W2_v88]
  exact count_lt _ _

theorem nBwd_eq (d : Dev nD) (A1 : S2048x128.Idx → BitVec 32) : (nBwd (W4 m d A1)).toNat = marks (lone (Ac m d)) := by
  unfold nBwd at0
  rw [W4_v92]
  exact count_lt _ _

/-- The forward region's tables. -/
def tab1 (c : Dev nD) : pre1.Contents (Elt F) := fun k => W2 m c (Proc.devRef .tc (pre1.ref k))
/-- The backward region's tables. -/
def tab2 (c : Dev nD) : pre2.Contents (Elt F) := fun k => W4 m c (fun _ => 0#32) (Proc.devRef .tc (pre2.ref k))

theorem tab1_ok (c : Dev nD) (hz : ∀ j, (Az m c j).toNat < 8192) : ok1 (tab1 m c) := by
  refine ok1_of _ (fun j => ?_) (fun j => ?_)
  · have e : tab1 m c 0 = fwdPos (Ac m c) := W2_v25 m c
    rw [e]; exact fwdPos_lt _ _
  · have e : tab1 m c 1 = fwdPrev (Az m c) (Ac m c) := W2_v43 m c
    rw [e]; exact fwdPrev_lt _ _ hz _

theorem tab2_ok (c : Dev nD) (hz : ∀ j, (Az m c j).toNat < 8192) : ok2 (tab2 m c) := by
  refine ok2_of _ (fun j => ?_) (fun j => ?_)
  · have e : tab2 m c 0 = bwdPos (Ac m c) := W4_v55 m c _
    rw [e]; exact bwdPos_lt _ _
  · have e : tab2 m c 1 = look' (prevSym (Az m c)) (bwdPos (Ac m c)) := W4_v62 m c _
    rw [e]; exact bwdPrev_lt _ _ hz _

theorem tab2_eq (c : Dev nD) (A1 : S2048x128.Idx → BitVec 32) (k : Fin pre2.K) : tab2 m c k = W4 m c A1 (Proc.devRef .tc (pre2.ref k)) := by
  match k with
  | ⟨0, _⟩ => exact (W4_v55 m c _).trans (W4_v55 m c A1).symm
  | ⟨1, _⟩ => exact (W4_v62 m c _).trans (W4_v62 m c A1).symm
  | ⟨2, _⟩ => exact (W4_v92 m c _).trans (W4_v92 m c A1).symm

variable [∀ e, Nonempty (Elt F e)]

/-- From symbols below 8192 the program runs, and leaves what `QC` says. -/
theorem run_all (ρ : Dev nD → PrngReg) (hz : ∀ d j, (Az m d j).toNat < 8192) :
    θ_run (Cert.KernelIdeal.defs (F := F)) (Cert.KernelIdeal.threads (F := F)) ⟨m, fun _ => 0, ρ⟩ (QC m) := by
  refine run_main m ρ (fun p => match p with | 0 => ⟨tab1 m 0, tab1_ok m 0 (hz 0)⟩ | 1 => ⟨tab2 m 0, tab2_ok m 0 (hz 0)⟩)
    (fun c k => ?_) (fun A1 c k => ?_) (fun d => ?_) (fun d A1 => ?_) (fun d j => ?_)
  · obtain rfl : c = 0 := Subsingleton.elim _ _
    rfl
  · obtain rfl : c = 0 := Subsingleton.elim _ _
    exact tab2_eq m 0 A1 k
  · rw [nFwd_eq]; exact marks_le _
  · rw [nBwd_eq]; exact marks_lone _
  · rw [Im_eq]; exact wordPos_lt _ _ (bwdNext_lt _ _ (hz d)) j

end Cert.KernelIdeal.Smooth

end
-- ==== Proof.FinalIdeal.lean ====
/-
  The whole program's end: the arguments are as they were, and the result is the joined table.
-/
module

public import proofs.«01_k».proof.Proof.HypsIdeal

@[expose] public section

noncomputable section

namespace Cert.KernelIdeal.Smooth

open Cert.KernelIdeal Cert.KernelIdeal.Gen Idealize.ShloMosaic
open Idealize.ShloMosaic.Pipeline

theorem unscoped (b : Ref sig .tc) (h : (Proc.devRef .tc b : DevRef τ sig).isScoped = false) : (Proc.devRef .tc b : DevRef τ sig) ∈ ucRefs τ sig :=
  Finset.mem_filter.mpr ⟨StableHlo.devRef_mem_tcRefs b, by rw [h]; exact Bool.false_ne_true⟩

variable {F : FTy → Type} [FloatOps F]
variable (m : (ℓ : Loc nD τ sig) → Buf (Elt F) ℓ) (d : Dev nD) (A1 : S2048x128.Idx → BitVec 32) (A2 : S1024x128.Idx → BitVec 32)

theorem W6_arg0 : W6 m d A1 A2 (Proc.devRef .tc main_arg0) = Az m d := by
  unfold W6 opsD
  simp only [after_app]
  rw [call11_skip (r := main_arg0) _ (by decide), call10_skip (r := main_arg0) _ (by decide), call9_skip (r := main_arg0) _ (by decide), h12_skip (r := main_arg0) _ (by decide), call8_skip (r := main_arg0) _ (by decide), h11_skip (r := main_arg0) _ (by decide), W5_ne m d A1 A2 (r := main_arg0) (by decide), W4_arg0]
theorem W6_arg1 : W6 m d A1 A2 (Proc.devRef .tc main_arg1) = Ac m d := by
  unfold W6 opsD
  simp only [after_app]
  rw [call11_skip (r := main_arg1) _ (by decide), call10_skip (r := main_arg1) _ (by decide), call9_skip (r := main_arg1) _ (by decide), h12_skip (r := main_arg1) _ (by decide), call8_skip (r := main_arg1) _ (by decide), h11_skip (r := main_arg1) _ (by decide), W5_ne m d A1 A2 (r := main_arg1) (by decide), W4_arg1]
theorem W2_arg2 : W2 m d (Proc.devRef .tc main_arg2) = AM m d := by
  unfold W2 opsB
  rw [h9_skip (r := main_arg2) _ (by decide), W1_ne m d (r := main_arg2) (by decide), W0_arg2]
theorem W4_arg2 : W4 m d A1 (Proc.devRef .tc main_arg2) = AM m d := by
  unfold W4 opsC
  rw [h10_skip (r := main_arg2) _ (by decide), W3_ne m d A1 (r := main_arg2) (by decide), W2_arg2]
theorem W6_arg2 : W6 m d A1 A2 (Proc.devRef .tc main_arg2) = AM m d := by
  unfold W6 opsD
  simp only [after_app]
  rw [call11_skip (r := main_arg2) _ (by decide), call10_skip (r := main_arg2) _ (by decide), call9_skip (r := main_arg2) _ (by decide), h12_skip (r := main_arg2) _ (by decide), call8_skip (r := main_arg2) _ (by decide), h11_skip (r := main_arg2) _ (by decide), W5_ne m d A1 A2 (r := main_arg2) (by decide), W4_arg2]
theorem W2_arg3 : W2 m d (Proc.devRef .tc main_arg3) = Aq m d := by
  unfold W2 opsB
  rw [h9_skip (r := main_arg3) _ (by decide), W1_ne m d (r := main_arg3) (by decide), W0_arg3]
theorem W4_arg3 : W4 m d A1 (Proc.devRef .tc main_arg3) = Aq m d := by
  unfold W4 opsC
  rw [h10_skip (r := main_arg3) _ (by decide), W3_ne m d A1 (r := main_arg3) (by decide), W2_arg3]
theorem W6_arg3 : W6 m d A1 A2 (Proc.devRef .tc main_arg3) = Aq m d := by
  unfold W6 opsD
  simp only [after_app]
  rw [call11_skip (r := main_arg3) _ (by decide), call10_skip (r := main_arg3) _ (by decide), call9_skip (r := main_arg3) _ (by decide), h12_skip (r := main_arg3) _ (by decide), call8_skip (r := main_arg3) _ (by decide), h11_skip (r := main_arg3) _ (by decide), W5_ne m d A1 A2 (r := main_arg3) (by decide), W4_arg3]
theorem W0_arg4 : W0 m d (Proc.devRef .tc main_arg4) = Agf m d := by
  unfold W0 opsA
  simp only [after_app]
  rw [h8_skip (r := main_arg4) _ (by decide), call7_skip (r := main_arg4) _ (by decide), h7_skip (r := main_arg4) _ (by decide), call6_skip (r := main_arg4) _ (by decide), h6_skip (r := main_arg4) _ (by decide), call5_skip (r := main_arg4) _ (by decide), h5_skip (r := main_arg4) _ (by decide), h4_skip (r := main_arg4) _ (by decide), call4_skip (r := main_arg4) _ (by decide), h3_skip (r := main_arg4) _ (by decide), call3_skip (r := main_arg4) _ (by decide), call2_skip (r := main_arg4) _ (by decide), h2_skip (r := main_arg4) _ (by decide), call1_skip (r := main_arg4) _ (by decide), h1_skip (r := main_arg4) _ (by decide), call0_skip (r := main_arg4) _ (by decide), h0_skip (r := main_arg4) _ (by decide), arg4_eq]
theorem W2_arg4 : W2 m d (Proc.devRef .tc main_arg4) = Agf m d := by
  unfold W2 opsB
  rw [h9_skip (r := main_arg4) _ (by decide), W1_ne m d (r := main_arg4) (by decide), W0_arg4]
theorem W4_arg4 : W4 m d A1 (Proc.devRef .tc main_arg4) = Agf m d := by
  unfold W4 opsC
  rw [h10_skip (r := main_arg4) _ (by decide), W3_ne m d A1 (r := main_arg4) (by decide), W2_arg4]
theorem W6_arg4 : W6 m d A1 A2 (Proc.devRef .tc main_arg4) = Agf m d := by
  unfold W6 opsD
  simp only [after_app]
  rw [call11_skip (r := main_arg4) _ (by decide), call10_skip (r := main_arg4) _ (by decide), call9_skip (r := main_arg4) _ (by decide), h12_skip (r := main_arg4) _ (by decide), call8_skip (r := main_arg4) _ (by decide), h11_skip (r := main_arg4) _ (by decide), W5_ne m d A1 A2 (r := main_arg4) (by decide), W4_arg4]
theorem W0_arg5 : W0 m d (Proc.devRef .tc main_arg5) = Agb m d := by
  unfold W0 opsA
  simp only [after_app]
  rw [h8_skip (r := main_arg5) _ (by decide), call7_skip (r := main_arg5) _ (by decide), h7_skip (r := main_arg5) _ (by decide), call6_skip (r := main_arg5) _ (by decide), h6_skip (r := main_arg5) _ (by decide), call5_skip (r := main_arg5) _ (by decide), h5_skip (r := main_arg5) _ (by decide), h4_skip (r := main_arg5) _ (by decide), call4_skip (r := main_arg5) _ (by decide), h3_skip (r := main_arg5) _ (by decide), call3_skip (r := main_arg5) _ (by decide), call2_skip (r := main_arg5) _ (by decide), h2_skip (r := main_arg5) _ (by decide), call1_skip (r := main_arg5) _ (by decide), h1_skip (r := main_arg5) _ (by decide), call0_skip (r := main_arg5) _ (by decide), h0_skip (r := main_arg5) _ (by decide), arg5_eq]
theorem W2_arg5 : W2 m d (Proc.devRef .tc main_arg5) = Agb m d := by
  unfold W2 opsB
  rw [h9_skip (r := main_arg5) _ (by decide), W1_ne m d (r := main_arg5) (by decide), W0_arg5]
theorem W4_arg5 : W4 m d A1 (Proc.devRef .tc main_arg5) = Agb m d := by
  unfold W4 opsC
  rw [h10_skip (r := main_arg5) _ (by decide), W3_ne m d A1 (r := main_arg5) (by decide), W2_arg5]
theorem W6_arg5 : W6 m d A1 A2 (Proc.devRef .tc main_arg5) = Agb m d := by
  unfold W6 opsD
  simp only [after_app]
  rw [call11_skip (r := main_arg5) _ (by decide), call10_skip (r := main_arg5) _ (by decide), call9_skip (r := main_arg5) _ (by decide), h12_skip (r := main_arg5) _ (by decide), call8_skip (r := main_arg5) _ (by decide), h11_skip (r := main_arg5) _ (by decide), W5_ne m d A1 A2 (r := main_arg5) (by decide), W4_arg5]

variable [∀ e, Nonempty (Elt F e)]

/-- From symbols below 8192 the program runs; every argument is unchanged, the result is the joined table, every semaphore is at zero. -/
theorem run_final (ρ : Dev nD → PrngReg) (hz : ∀ d j, (Az m d j).toNat < 8192) :
    θ_run (Cert.KernelIdeal.defs (F := F)) (Cert.KernelIdeal.threads (F := F)) ⟨m, fun _ => 0, ρ⟩ fun r =>
      (∀ d, (∃ A1 A2, Sampled m d A1 A2 ∧ r.2.mem (d, Proc.devRef .tc main_v101) = joined (Az m d) (Ac m d) A1 A2)
        ∧ r.2.mem (d, Proc.devRef .tc main_arg0) = Az m d
        ∧ r.2.mem (d, Proc.devRef .tc main_arg1) = Ac m d
        ∧ r.2.mem (d, Proc.devRef .tc main_arg2) = AM m d
        ∧ r.2.mem (d, Proc.devRef .tc main_arg3) = Aq m d
        ∧ r.2.mem (d, Proc.devRef .tc main_arg4) = Agf m d
        ∧ r.2.mem (d, Proc.devRef .tc main_arg5) = Agb m d)
      ∧ r.2.sem = fun _ => 0 := by
  refine (θ_run Cert.KernelIdeal.defs _ _).mono (fun r h => ⟨fun d => ?_, h.2⟩) (run_all m ρ hz)
  obtain ⟨A1, A2, hS, hb⟩ := h.1 d
  exact ⟨⟨A1, A2, hS, (hb _ (unscoped _ rfl)).trans (W6_v101 m d A1 A2)⟩,
    (hb _ (unscoped _ rfl)).trans (W6_arg0 m d A1 A2),
    (hb _ (unscoped _ rfl)).trans (W6_arg1 m d A1 A2),
    (hb _ (unscoped _ rfl)).trans (W6_arg2 m d A1 A2),
    (hb _ (unscoped _ rfl)).trans (W6_arg3 m d A1 A2),
    (hb _ (unscoped _ rfl)).trans (W6_arg4 m d A1 A2),
    (hb _ (unscoped _ rfl)).trans (W6_arg5 m d A1 A2)⟩

end Cert.KernelIdeal.Smooth

end
-- ==== Proof.RefRun.lean ====
/-
  What the reference computes: its statements as lists, one per stretch and per call, and its result as a term in its arguments.
-/
module

public import proofs.«01_k».proof.Defs
public import Idealize.ShloMosaic.Lib.StableHlo.Run
public import Idealize.ShloMosaic.Lib.StableHlo.RunRead
public import Idealize.ShloMosaic.Lib.Pipeline.Kit
public import proofs.«01_k».proof.Proof.Gen.ReferenceIdeal

@[expose] public section

noncomputable section

namespace Cert.ReferenceIdeal.Smooth

open Cert.ReferenceIdeal Cert.ReferenceIdeal.Gen
open Idealize.ShloMosaic Idealize.ShloMosaic.StableHlo
open Idealize.SL.Sem

variable {F : FTy → Type} [FloatOps F]

def h0 : List (HloOp τ sig (Elt F)) := [
  StableHlo.nullary main_c (constantI S1 1 0#1),
  StableHlo.nullary main_c_0 (constantI S1 1 0#1),
  StableHlo.nullary main_c_1 (constantI S_ 32 0#32),
  StableHlo.unary main_c_1 main_v0 (broadcastInDim S1 ![] bcast_S_S1 : (⟨S_, .i32⟩ : BufTy).Contents (Elt F) → (⟨S1, .i32⟩ : BufTy).Contents (Elt F)),
  StableHlo.unary main_arg0 main_v1 ((extractStridedSlice S2047 ![0] · slices_S2048_S2047_0) : (⟨S2048, .i32⟩ : BufTy).Contents (Elt F) → (⟨S2047, .i32⟩ : BufTy).Contents (Elt F)),
  StableHlo.binary main_v0 main_v1 main_v2 ((fun a b => concatenate S2048 0 [⟨S1, a⟩, ⟨S2047, b⟩] concatenates_S1_S2047_S2048_d0) : (⟨S1, .i32⟩ : BufTy).Contents (Elt F) → (⟨S2047, .i32⟩ : BufTy).Contents (Elt F) → (⟨S2048, .i32⟩ : BufTy).Contents (Elt F)),
  StableHlo.unary main_arg1 main_v3 ((extractStridedSlice S2047 ![0] · slices_S2048_S2047_0) : (⟨S2048, .i1⟩ : BufTy).Contents (Elt F) → (⟨S2047, .i1⟩ : BufTy).Contents (Elt F)),
  StableHlo.unary main_v3 main_v4 (noti : (⟨S2047, .i1⟩ : BufTy).Contents (Elt F) → (⟨S2047, .i1⟩ : BufTy).Contents (Elt F)),
  StableHlo.binary main_c main_v4 main_v5 ((fun a b => concatenate S2048 0 [⟨S1, a⟩, ⟨S2047, b⟩] concatenates_S1_S2047_S2048_d0) : (⟨S1, .i1⟩ : BufTy).Contents (Elt F) → (⟨S2047, .i1⟩ : BufTy).Contents (Elt F) → (⟨S2048, .i1⟩ : BufTy).Contents (Elt F)),
  StableHlo.unary main_v5 main_v6 (broadcastInDim S2048x1 ![0] bcast_S2048_S2048x1_0 : (⟨S2048, .i1⟩ : BufTy).Contents (Elt F) → (⟨S2048x1, .i1⟩ : BufTy).Contents (Elt F))]

def call0 : List (HloOp τ sig (Elt F)) := [
  StableHlo.nullary main_call0_c (constantI S_ 32 0#32),
  StableHlo.unary main_call0_c main_call0_v0 ((broadcastInDim S2048 ![] bcast_S_S2048) : (⟨S_, .i32⟩ : BufTy).Contents (Elt F) → (⟨S2048, .i32⟩ : BufTy).Contents (Elt F)),
  StableHlo.binary main_v2 main_call0_v0 main_call0_v1 ((cmpi .slt) : (⟨S2048, .i32⟩ : BufTy).Contents (Elt F) → (⟨S2048, .i32⟩ : BufTy).Contents (Elt F) → (⟨S2048, .i1⟩ : BufTy).Contents (Elt F)),
  StableHlo.nullary main_call0_c_0 (constantI S_ 32 8192#32),
  StableHlo.unary main_call0_c_0 main_call0_v2 ((broadcastInDim S2048 ![] bcast_S_S2048) : (⟨S_, .i32⟩ : BufTy).Contents (Elt F) → (⟨S2048, .i32⟩ : BufTy).Contents (Elt F)),
  StableHlo.binary main_v2 main_call0_v2 main_call0_v3 (addi : (⟨S2048, .i32⟩ : BufTy).Contents (Elt F) → (⟨S2048, .i32⟩ : BufTy).Contents (Elt F) → (⟨S2048, .i32⟩ : BufTy).Contents (Elt F)),
  StableHlo.ternary main_call0_v1 main_call0_v3 main_v2 main_call0_v4 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
  StableHlo.unary main_call0_v4 main_call0_v5 ((broadcastInDim S2048x1 ![0] bcast_S2048_S2048x1_0) : (⟨S2048, .i32⟩ : BufTy).Contents (Elt F) → (⟨S2048x1, .i32⟩ : BufTy).Contents (Elt F)),
  StableHlo.nullary main_call0_c_1 (constantI S1 32 8191#32),
  StableHlo.nullary main_call0_c_2 (constantI S_ 32 0#32),
  StableHlo.unary main_call0_c_2 main_call0_v6 ((broadcastInDim S2048x1 ![] bcast_S_S2048x1) : (⟨S_, .i32⟩ : BufTy).Contents (Elt F) → (⟨S2048x1, .i32⟩ : BufTy).Contents (Elt F)),
  StableHlo.binary main_call0_v5 main_call0_v6 main_call0_v7 ((cmpi .sge) : (⟨S2048x1, .i32⟩ : BufTy).Contents (Elt F) → (⟨S2048x1, .i32⟩ : BufTy).Contents (Elt F) → (⟨S2048x1, .i1⟩ : BufTy).Contents (Elt F)),
  StableHlo.unary main_call0_c_1 main_call0_v8 ((broadcastInDim S1x1 ![1] bcast_S1_S1x1_1) : (⟨S1, .i32⟩ : BufTy).Contents (Elt F) → (⟨S1x1, .i32⟩ : BufTy).Contents (Elt F)),
  StableHlo.unary main_call0_v8 main_call0_v9 ((broadcastInDim S2048x1 ![0, 1] bcast_S1x1_S2048x1_0_1) : (⟨S1x1, .i32⟩ : BufTy).Contents (Elt F) → (⟨S2048x1, .i32⟩ : BufTy).Contents (Elt F)),
  StableHlo.binary main_call0_v5 main_call0_v9 main_call0_v10 ((cmpi .sle) : (⟨S2048x1, .i32⟩ : BufTy).Contents (Elt F) → (⟨S2048x1, .i32⟩ : BufTy).Contents (Elt F) → (⟨S2048x1, .i1⟩ : BufTy).Contents (Elt F)),
  StableHlo.binary main_call0_v7 main_call0_v10 main_call0_v11 (andi : (⟨S2048x1, .i1⟩ : BufTy).Contents (Elt F) → (⟨S2048x1, .i1⟩ : BufTy).Contents (Elt F) → (⟨S2048x1, .i1⟩ : BufTy).Contents (Elt F)),
  StableHlo.nullary main_call0_c_3 (constantI S_ 1 1#1),
  StableHlo.binary main_call0_v11 main_call0_c_3 main_call0_v12 ((fun x v => Host.reduce IntOp.andi x v reducesTo_S2048x1_S2048_d1 h_S_) : (⟨S2048x1, .i1⟩ : BufTy).Contents (Elt F) → (⟨S_, .i1⟩ : BufTy).Contents (Elt F) → (⟨S2048, .i1⟩ : BufTy).Contents (Elt F)),
  StableHlo.binary main_arg2 main_call0_v5 main_call0_v13 ((fun x i => Host.gather gather_S8192x8192_S2048x1_S2048x8192_1_0_n_n_0_1_18192 x i) : (⟨S8192x8192, .f32⟩ : BufTy).Contents (Elt F) → (⟨S2048x1, .i32⟩ : BufTy).Contents (Elt F) → (⟨S2048x8192, .f32⟩ : BufTy).Contents (Elt F)),
  StableHlo.unary main_call0_v12 main_call0_v14 ((broadcastInDim S2048x8192 ![0] bcast_S2048_S2048x8192_0) : (⟨S2048, .i1⟩ : BufTy).Contents (Elt F) → (⟨S2048x8192, .i1⟩ : BufTy).Contents (Elt F)),
  StableHlo.nullary main_call0_cst (constant S_ .f32 0x7FC00000#32),
  StableHlo.unary main_call0_cst main_call0_v15 ((broadcastInDim S2048x8192 ![] bcast_S_S2048x8192) : (⟨S_, .f32⟩ : BufTy).Contents (Elt F) → (⟨S2048x8192, .f32⟩ : BufTy).Contents (Elt F)),
  StableHlo.ternary main_call0_v14 main_call0_v13 main_call0_v15 main_v7 (select : (⟨S2048x8192, .i1⟩ : BufTy).Contents (Elt F) → (⟨S2048x8192, .f32⟩ : BufTy).Contents (Elt F) → (⟨S2048x8192, .f32⟩ : BufTy).Contents (Elt F) → (⟨S2048x8192, .f32⟩ : BufTy).Contents (Elt F))]

def h1 : List (HloOp τ sig (Elt F)) := [
  StableHlo.unary main_arg3 main_v8 (broadcastInDim S1x8192 ![1] bcast_S8192_S1x8192_1 : (⟨S8192, .f32⟩ : BufTy).Contents (Elt F) → (⟨S1x8192, .f32⟩ : BufTy).Contents (Elt F))]

def call1 : List (HloOp τ sig (Elt F)) := [
  StableHlo.unary main_v6 main_call1_v0 ((broadcastInDim S2048x8192 ![0, 1] bcast_S2048x1_S2048x8192_0_1) : (⟨S2048x1, .i1⟩ : BufTy).Contents (Elt F) → (⟨S2048x8192, .i1⟩ : BufTy).Contents (Elt F)),
  StableHlo.unary main_v8 main_call1_v1 ((broadcastInDim S2048x8192 ![0, 1] bcast_S1x8192_S2048x8192_0_1) : (⟨S1x8192, .f32⟩ : BufTy).Contents (Elt F) → (⟨S2048x8192, .f32⟩ : BufTy).Contents (Elt F)),
  StableHlo.ternary main_call1_v0 main_v7 main_call1_v1 main_v9 (select : (⟨S2048x8192, .i1⟩ : BufTy).Contents (Elt F) → (⟨S2048x8192, .f32⟩ : BufTy).Contents (Elt F) → (⟨S2048x8192, .f32⟩ : BufTy).Contents (Elt F) → (⟨S2048x8192, .f32⟩ : BufTy).Contents (Elt F))]

def h2 : List (HloOp τ sig (Elt F)) := [
  StableHlo.nullary main_cst (constant S_ .f32 0x2B8CBCCC#32),
  StableHlo.unary main_cst main_v10 (broadcastInDim S2048x8192 ![] bcast_S_S2048x8192 : (⟨S_, .f32⟩ : BufTy).Contents (Elt F) → (⟨S2048x8192, .f32⟩ : BufTy).Contents (Elt F)),
  StableHlo.binary main_v9 main_v10 main_v11 (addf : (⟨S2048x8192, .f32⟩ : BufTy).Contents (Elt F) → (⟨S2048x8192, .f32⟩ : BufTy).Contents (Elt F) → (⟨S2048x8192, .f32⟩ : BufTy).Contents (Elt F)),
  StableHlo.unary main_v11 main_v12 (Host.log : (⟨S2048x8192, .f32⟩ : BufTy).Contents (Elt F) → (⟨S2048x8192, .f32⟩ : BufTy).Contents (Elt F)),
  StableHlo.binary main_v12 main_arg4 main_v13 (addf : (⟨S2048x8192, .f32⟩ : BufTy).Contents (Elt F) → (⟨S2048x8192, .f32⟩ : BufTy).Contents (Elt F) → (⟨S2048x8192, .f32⟩ : BufTy).Contents (Elt F))]

def call2 : List (HloOp τ sig (Elt F)) := [
  StableHlo.nullary main_call2_v0 (iotaInDim S2048x8192 32 1),
  StableHlo.nullary main_call2_cst (constant S_ .f32 0xFF800000#32),
  StableHlo.nullary main_call2_c (constantI S_ 32 0#32),
  StableHlo.quaternary main_v13 main_call2_v0 main_call2_cst main_call2_c main_call2_v1_0 ((fun x y u v j => (Host.argReduce reducer_argmax_f32_i32 x y u v reducesTo_S2048x8192_S2048_d1 h_S_ j).1) : (⟨S2048x8192, .f32⟩ : BufTy).Contents (Elt F) → (⟨S2048x8192, .i32⟩ : BufTy).Contents (Elt F) → (⟨S_, .f32⟩ : BufTy).Contents (Elt F) → (⟨S_, .i32⟩ : BufTy).Contents (Elt F) → (⟨S2048, .f32⟩ : BufTy).Contents (Elt F)),
  StableHlo.quaternary main_v13 main_call2_v0 main_call2_cst main_call2_c main_v14 ((fun x y u v j => (Host.argReduce reducer_argmax_f32_i32 x y u v reducesTo_S2048x8192_S2048_d1 h_S_ j).2) : (⟨S2048x8192, .f32⟩ : BufTy).Contents (Elt F) → (⟨S2048x8192, .i32⟩ : BufTy).Contents (Elt F) → (⟨S_, .f32⟩ : BufTy).Contents (Elt F) → (⟨S_, .i32⟩ : BufTy).Contents (Elt F) → (⟨S2048, .i32⟩ : BufTy).Contents (Elt F))]

def call3 : List (HloOp τ sig (Elt F)) := [
  StableHlo.ternary main_arg1 main_v14 main_arg0 main_v15 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F))]

def h3 : List (HloOp τ sig (Elt F)) := [
  StableHlo.unary main_arg0 main_v16 ((extractStridedSlice S2047 ![1] · slices_S2048_S2047_1) : (⟨S2048, .i32⟩ : BufTy).Contents (Elt F) → (⟨S2047, .i32⟩ : BufTy).Contents (Elt F)),
  StableHlo.nullary main_c_2 (constantI S_ 32 0#32),
  StableHlo.unary main_c_2 main_v17 (broadcastInDim S1 ![] bcast_S_S1 : (⟨S_, .i32⟩ : BufTy).Contents (Elt F) → (⟨S1, .i32⟩ : BufTy).Contents (Elt F)),
  StableHlo.binary main_v16 main_v17 main_v18 ((fun a b => concatenate S2048 0 [⟨S2047, a⟩, ⟨S1, b⟩] concatenates_S2047_S1_S2048_d0) : (⟨S2047, .i32⟩ : BufTy).Contents (Elt F) → (⟨S1, .i32⟩ : BufTy).Contents (Elt F) → (⟨S2048, .i32⟩ : BufTy).Contents (Elt F)),
  StableHlo.unary main_arg1 main_v19 ((extractStridedSlice S2047 ![1] · slices_S2048_S2047_1) : (⟨S2048, .i1⟩ : BufTy).Contents (Elt F) → (⟨S2047, .i1⟩ : BufTy).Contents (Elt F)),
  StableHlo.unary main_v19 main_v20 (noti : (⟨S2047, .i1⟩ : BufTy).Contents (Elt F) → (⟨S2047, .i1⟩ : BufTy).Contents (Elt F)),
  StableHlo.binary main_v20 main_c_0 main_v21 ((fun a b => concatenate S2048 0 [⟨S2047, a⟩, ⟨S1, b⟩] concatenates_S2047_S1_S2048_d0) : (⟨S2047, .i1⟩ : BufTy).Contents (Elt F) → (⟨S1, .i1⟩ : BufTy).Contents (Elt F) → (⟨S2048, .i1⟩ : BufTy).Contents (Elt F)),
  StableHlo.binary main_arg1 main_v5 main_v22 (andi : (⟨S2048, .i1⟩ : BufTy).Contents (Elt F) → (⟨S2048, .i1⟩ : BufTy).Contents (Elt F) → (⟨S2048, .i1⟩ : BufTy).Contents (Elt F)),
  StableHlo.binary main_v22 main_v21 main_v23 (andi : (⟨S2048, .i1⟩ : BufTy).Contents (Elt F) → (⟨S2048, .i1⟩ : BufTy).Contents (Elt F) → (⟨S2048, .i1⟩ : BufTy).Contents (Elt F))]

def call4 : List (HloOp τ sig (Elt F)) := [
  StableHlo.nullary main_call4_c (constantI S_ 32 0#32),
  StableHlo.unary main_call4_c main_call4_v0 ((broadcastInDim S2048 ![] bcast_S_S2048) : (⟨S_, .i32⟩ : BufTy).Contents (Elt F) → (⟨S2048, .i32⟩ : BufTy).Contents (Elt F)),
  StableHlo.binary main_v18 main_call4_v0 main_call4_v1 ((cmpi .slt) : (⟨S2048, .i32⟩ : BufTy).Contents (Elt F) → (⟨S2048, .i32⟩ : BufTy).Contents (Elt F) → (⟨S2048, .i1⟩ : BufTy).Contents (Elt F)),
  StableHlo.nullary main_call4_c_0 (constantI S_ 32 8192#32),
  StableHlo.unary main_call4_c_0 main_call4_v2 ((broadcastInDim S2048 ![] bcast_S_S2048) : (⟨S_, .i32⟩ : BufTy).Contents (Elt F) → (⟨S2048, .i32⟩ : BufTy).Contents (Elt F)),
  StableHlo.binary main_v18 main_call4_v2 main_call4_v3 (addi : (⟨S2048, .i32⟩ : BufTy).Contents (Elt F) → (⟨S2048, .i32⟩ : BufTy).Contents (Elt F) → (⟨S2048, .i32⟩ : BufTy).Contents (Elt F)),
  StableHlo.ternary main_call4_v1 main_call4_v3 main_v18 main_call4_v4 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
  StableHlo.unary main_call4_v4 main_call4_v5 ((broadcastInDim S2048x1 ![0] bcast_S2048_S2048x1_0) : (⟨S2048, .i32⟩ : BufTy).Contents (Elt F) → (⟨S2048x1, .i32⟩ : BufTy).Contents (Elt F)),
  StableHlo.nullary main_call4_c_1 (constantI S1 32 8191#32),
  StableHlo.nullary main_call4_c_2 (constantI S_ 32 0#32),
  StableHlo.unary main_call4_c_2 main_call4_v6 ((broadcastInDim S2048x1 ![] bcast_S_S2048x1) : (⟨S_, .i32⟩ : BufTy).Contents (Elt F) → (⟨S2048x1, .i32⟩ : BufTy).Contents (Elt F)),
  StableHlo.binary main_call4_v5 main_call4_v6 main_call4_v7 ((cmpi .sge) : (⟨S2048x1, .i32⟩ : BufTy).Contents (Elt F) → (⟨S2048x1, .i32⟩ : BufTy).Contents (Elt F) → (⟨S2048x1, .i1⟩ : BufTy).Contents (Elt F)),
  StableHlo.unary main_call4_c_1 main_call4_v8 ((broadcastInDim S1x1 ![1] bcast_S1_S1x1_1) : (⟨S1, .i32⟩ : BufTy).Contents (Elt F) → (⟨S1x1, .i32⟩ : BufTy).Contents (Elt F)),
  StableHlo.unary main_call4_v8 main_call4_v9 ((broadcastInDim S2048x1 ![0, 1] bcast_S1x1_S2048x1_0_1) : (⟨S1x1, .i32⟩ : BufTy).Contents (Elt F) → (⟨S2048x1, .i32⟩ : BufTy).Contents (Elt F)),
  StableHlo.binary main_call4_v5 main_call4_v9 main_call4_v10 ((cmpi .sle) : (⟨S2048x1, .i32⟩ : BufTy).Contents (Elt F) → (⟨S2048x1, .i32⟩ : BufTy).Contents (Elt F) → (⟨S2048x1, .i1⟩ : BufTy).Contents (Elt F)),
  StableHlo.binary main_call4_v7 main_call4_v10 main_call4_v11 (andi : (⟨S2048x1, .i1⟩ : BufTy).Contents (Elt F) → (⟨S2048x1, .i1⟩ : BufTy).Contents (Elt F) → (⟨S2048x1, .i1⟩ : BufTy).Contents (Elt F)),
  StableHlo.nullary main_call4_c_3 (constantI S_ 1 1#1),
  StableHlo.binary main_call4_v11 main_call4_c_3 main_call4_v12 ((fun x v => Host.reduce IntOp.andi x v reducesTo_S2048x1_S2048_d1 h_S_) : (⟨S2048x1, .i1⟩ : BufTy).Contents (Elt F) → (⟨S_, .i1⟩ : BufTy).Contents (Elt F) → (⟨S2048, .i1⟩ : BufTy).Contents (Elt F)),
  StableHlo.binary main_arg2 main_call4_v5 main_call4_v13 ((fun x i => Host.gather gather_S8192x8192_S2048x1_S8192x2048_0_1_n_n_1_1_81921 x i) : (⟨S8192x8192, .f32⟩ : BufTy).Contents (Elt F) → (⟨S2048x1, .i32⟩ : BufTy).Contents (Elt F) → (⟨S8192x2048, .f32⟩ : BufTy).Contents (Elt F)),
  StableHlo.unary main_call4_v12 main_call4_v14 ((broadcastInDim S8192x2048 ![1] bcast_S2048_S8192x2048_1) : (⟨S2048, .i1⟩ : BufTy).Contents (Elt F) → (⟨S8192x2048, .i1⟩ : BufTy).Contents (Elt F)),
  StableHlo.nullary main_call4_cst (constant S_ .f32 0x7FC00000#32),
  StableHlo.unary main_call4_cst main_call4_v15 ((broadcastInDim S8192x2048 ![] bcast_S_S8192x2048) : (⟨S_, .f32⟩ : BufTy).Contents (Elt F) → (⟨S8192x2048, .f32⟩ : BufTy).Contents (Elt F)),
  StableHlo.ternary main_call4_v14 main_call4_v13 main_call4_v15 main_v24 (select : (⟨S8192x2048, .i1⟩ : BufTy).Contents (Elt F) → (⟨S8192x2048, .f32⟩ : BufTy).Contents (Elt F) → (⟨S8192x2048, .f32⟩ : BufTy).Contents (Elt F) → (⟨S8192x2048, .f32⟩ : BufTy).Contents (Elt F))]

def h4 : List (HloOp τ sig (Elt F)) := [
  StableHlo.unary main_v24 main_v25 ((transpose S2048x8192 [1, 0] · transposes_S8192x2048_S2048x8192_1_0) : (⟨S8192x2048, .f32⟩ : BufTy).Contents (Elt F) → (⟨S2048x8192, .f32⟩ : BufTy).Contents (Elt F)),
  StableHlo.nullary main_cst_3 (constant S_ .f32 0x00000000#32),
  StableHlo.binary main_v25 main_cst_3 main_v26 ((fun x v => Host.reduceAdd x v reducesTo_S2048x8192_S2048_d1 h_S_) : (⟨S2048x8192, .f32⟩ : BufTy).Contents (Elt F) → (⟨S_, .f32⟩ : BufTy).Contents (Elt F) → (⟨S2048, .f32⟩ : BufTy).Contents (Elt F)),
  StableHlo.unary main_v26 main_v27 (broadcastInDim S2048x1 ![0] bcast_S2048_S2048x1_0 : (⟨S2048, .f32⟩ : BufTy).Contents (Elt F) → (⟨S2048x1, .f32⟩ : BufTy).Contents (Elt F)),
  StableHlo.nullary main_cst_4 (constant S_ .f32 0x2EDBE6FF#32),
  StableHlo.unary main_cst_4 main_v28 (broadcastInDim S2048x1 ![] bcast_S_S2048x1 : (⟨S_, .f32⟩ : BufTy).Contents (Elt F) → (⟨S2048x1, .f32⟩ : BufTy).Contents (Elt F)),
  StableHlo.binary main_v27 main_v28 main_v29 (addf : (⟨S2048x1, .f32⟩ : BufTy).Contents (Elt F) → (⟨S2048x1, .f32⟩ : BufTy).Contents (Elt F) → (⟨S2048x1, .f32⟩ : BufTy).Contents (Elt F)),
  StableHlo.unary main_v29 main_v30 (broadcastInDim S2048x8192 ![0, 1] bcast_S2048x1_S2048x8192_0_1 : (⟨S2048x1, .f32⟩ : BufTy).Contents (Elt F) → (⟨S2048x8192, .f32⟩ : BufTy).Contents (Elt F)),
  StableHlo.binary main_v25 main_v30 main_v31 (Host.divf : (⟨S2048x8192, .f32⟩ : BufTy).Contents (Elt F) → (⟨S2048x8192, .f32⟩ : BufTy).Contents (Elt F) → (⟨S2048x8192, .f32⟩ : BufTy).Contents (Elt F))]

def call5 : List (HloOp τ sig (Elt F)) := [
  StableHlo.nullary main_call5_c (constantI S_ 32 0#32),
  StableHlo.unary main_call5_c main_call5_v0 ((broadcastInDim S2048 ![] bcast_S_S2048) : (⟨S_, .i32⟩ : BufTy).Contents (Elt F) → (⟨S2048, .i32⟩ : BufTy).Contents (Elt F)),
  StableHlo.binary main_v2 main_call5_v0 main_call5_v1 ((cmpi .slt) : (⟨S2048, .i32⟩ : BufTy).Contents (Elt F) → (⟨S2048, .i32⟩ : BufTy).Contents (Elt F) → (⟨S2048, .i1⟩ : BufTy).Contents (Elt F)),
  StableHlo.nullary main_call5_c_0 (constantI S_ 32 8192#32),
  StableHlo.unary main_call5_c_0 main_call5_v2 ((broadcastInDim S2048 ![] bcast_S_S2048) : (⟨S_, .i32⟩ : BufTy).Contents (Elt F) → (⟨S2048, .i32⟩ : BufTy).Contents (Elt F)),
  StableHlo.binary main_v2 main_call5_v2 main_call5_v3 (addi : (⟨S2048, .i32⟩ : BufTy).Contents (Elt F) → (⟨S2048, .i32⟩ : BufTy).Contents (Elt F) → (⟨S2048, .i32⟩ : BufTy).Contents (Elt F)),
  StableHlo.ternary main_call5_v1 main_call5_v3 main_v2 main_call5_v4 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
  StableHlo.unary main_call5_v4 main_call5_v5 ((broadcastInDim S2048x1 ![0] bcast_S2048_S2048x1_0) : (⟨S2048, .i32⟩ : BufTy).Contents (Elt F) → (⟨S2048x1, .i32⟩ : BufTy).Contents (Elt F)),
  StableHlo.nullary main_call5_c_1 (constantI S1 32 8191#32),
  StableHlo.nullary main_call5_c_2 (constantI S_ 32 0#32),
  StableHlo.unary main_call5_c_2 main_call5_v6 ((broadcastInDim S2048x1 ![] bcast_S_S2048x1) : (⟨S_, .i32⟩ : BufTy).Contents (Elt F) → (⟨S2048x1, .i32⟩ : BufTy).Contents (Elt F)),
  StableHlo.binary main_call5_v5 main_call5_v6 main_call5_v7 ((cmpi .sge) : (⟨S2048x1, .i32⟩ : BufTy).Contents (Elt F) → (⟨S2048x1, .i32⟩ : BufTy).Contents (Elt F) → (⟨S2048x1, .i1⟩ : BufTy).Contents (Elt F)),
  StableHlo.unary main_call5_c_1 main_call5_v8 ((broadcastInDim S1x1 ![1] bcast_S1_S1x1_1) : (⟨S1, .i32⟩ : BufTy).Contents (Elt F) → (⟨S1x1, .i32⟩ : BufTy).Contents (Elt F)),
  StableHlo.unary main_call5_v8 main_call5_v9 ((broadcastInDim S2048x1 ![0, 1] bcast_S1x1_S2048x1_0_1) : (⟨S1x1, .i32⟩ : BufTy).Contents (Elt F) → (⟨S2048x1, .i32⟩ : BufTy).Contents (Elt F)),
  StableHlo.binary main_call5_v5 main_call5_v9 main_call5_v10 ((cmpi .sle) : (⟨S2048x1, .i32⟩ : BufTy).Contents (Elt F) → (⟨S2048x1, .i32⟩ : BufTy).Contents (Elt F) → (⟨S2048x1, .i1⟩ : BufTy).Contents (Elt F)),
  StableHlo.binary main_call5_v7 main_call5_v10 main_call5_v11 (andi : (⟨S2048x1, .i1⟩ : BufTy).Contents (Elt F) → (⟨S2048x1, .i1⟩ : BufTy).Contents (Elt F) → (⟨S2048x1, .i1⟩ : BufTy).Contents (Elt F)),
  StableHlo.nullary main_call5_c_3 (constantI S_ 1 1#1),
  StableHlo.binary main_call5_v11 main_call5_c_3 main_call5_v12 ((fun x v => Host.reduce IntOp.andi x v reducesTo_S2048x1_S2048_d1 h_S_) : (⟨S2048x1, .i1⟩ : BufTy).Contents (Elt F) → (⟨S_, .i1⟩ : BufTy).Contents (Elt F) → (⟨S2048, .i1⟩ : BufTy).Contents (Elt F)),
  StableHlo.binary main_arg2 main_call5_v5 main_call5_v13 ((fun x i => Host.gather gather_S8192x8192_S2048x1_S2048x8192_1_0_n_n_0_1_18192 x i) : (⟨S8192x8192, .f32⟩ : BufTy).Contents (Elt F) → (⟨S2048x1, .i32⟩ : BufTy).Contents (Elt F) → (⟨S2048x8192, .f32⟩ : BufTy).Contents (Elt F)),
  StableHlo.unary main_call5_v12 main_call5_v14 ((broadcastInDim S2048x8192 ![0] bcast_S2048_S2048x8192_0) : (⟨S2048, .i1⟩ : BufTy).Contents (Elt F) → (⟨S2048x8192, .i1⟩ : BufTy).Contents (Elt F)),
  StableHlo.nullary main_call5_cst (constant S_ .f32 0x7FC00000#32),
  StableHlo.unary main_call5_cst main_call5_v15 ((broadcastInDim S2048x8192 ![] bcast_S_S2048x8192) : (⟨S_, .f32⟩ : BufTy).Contents (Elt F) → (⟨S2048x8192, .f32⟩ : BufTy).Contents (Elt F)),
  StableHlo.ternary main_call5_v14 main_call5_v13 main_call5_v15 main_v32 (select : (⟨S2048x8192, .i1⟩ : BufTy).Contents (Elt F) → (⟨S2048x8192, .f32⟩ : BufTy).Contents (Elt F) → (⟨S2048x8192, .f32⟩ : BufTy).Contents (Elt F) → (⟨S2048x8192, .f32⟩ : BufTy).Contents (Elt F))]

def h5 : List (HloOp τ sig (Elt F)) := [
  StableHlo.binary main_v32 main_v31 main_v33 (mulf : (⟨S2048x8192, .f32⟩ : BufTy).Contents (Elt F) → (⟨S2048x8192, .f32⟩ : BufTy).Contents (Elt F) → (⟨S2048x8192, .f32⟩ : BufTy).Contents (Elt F)),
  StableHlo.nullary main_cst_5 (constant S_ .f32 0x00000000#32),
  StableHlo.binary main_v33 main_cst_5 main_v34 ((fun x v => Host.reduceAdd x v reducesTo_S2048x8192_S2048_d1 h_S_) : (⟨S2048x8192, .f32⟩ : BufTy).Contents (Elt F) → (⟨S_, .f32⟩ : BufTy).Contents (Elt F) → (⟨S2048, .f32⟩ : BufTy).Contents (Elt F)),
  StableHlo.unary main_v34 main_v35 (broadcastInDim S2048x1 ![0] bcast_S2048_S2048x1_0 : (⟨S2048, .f32⟩ : BufTy).Contents (Elt F) → (⟨S2048x1, .f32⟩ : BufTy).Contents (Elt F)),
  StableHlo.nullary main_cst_6 (constant S_ .f32 0x2EDBE6FF#32),
  StableHlo.unary main_cst_6 main_v36 (broadcastInDim S2048x1 ![] bcast_S_S2048x1 : (⟨S_, .f32⟩ : BufTy).Contents (Elt F) → (⟨S2048x1, .f32⟩ : BufTy).Contents (Elt F)),
  StableHlo.binary main_v35 main_v36 main_v37 (addf : (⟨S2048x1, .f32⟩ : BufTy).Contents (Elt F) → (⟨S2048x1, .f32⟩ : BufTy).Contents (Elt F) → (⟨S2048x1, .f32⟩ : BufTy).Contents (Elt F)),
  StableHlo.unary main_v37 main_v38 (broadcastInDim S2048x8192 ![0, 1] bcast_S2048x1_S2048x8192_0_1 : (⟨S2048x1, .f32⟩ : BufTy).Contents (Elt F) → (⟨S2048x8192, .f32⟩ : BufTy).Contents (Elt F)),
  StableHlo.binary main_v33 main_v38 main_v39 (Host.divf : (⟨S2048x8192, .f32⟩ : BufTy).Contents (Elt F) → (⟨S2048x8192, .f32⟩ : BufTy).Contents (Elt F) → (⟨S2048x8192, .f32⟩ : BufTy).Contents (Elt F)),
  StableHlo.nullary main_cst_7 (constant S_ .f32 0x2B8CBCCC#32),
  StableHlo.unary main_cst_7 main_v40 (broadcastInDim S2048x8192 ![] bcast_S_S2048x8192 : (⟨S_, .f32⟩ : BufTy).Contents (Elt F) → (⟨S2048x8192, .f32⟩ : BufTy).Contents (Elt F)),
  StableHlo.binary main_v39 main_v40 main_v41 (addf : (⟨S2048x8192, .f32⟩ : BufTy).Contents (Elt F) → (⟨S2048x8192, .f32⟩ : BufTy).Contents (Elt F) → (⟨S2048x8192, .f32⟩ : BufTy).Contents (Elt F)),
  StableHlo.unary main_v41 main_v42 (Host.log : (⟨S2048x8192, .f32⟩ : BufTy).Contents (Elt F) → (⟨S2048x8192, .f32⟩ : BufTy).Contents (Elt F)),
  StableHlo.binary main_v42 main_arg5 main_v43 (addf : (⟨S2048x8192, .f32⟩ : BufTy).Contents (Elt F) → (⟨S2048x8192, .f32⟩ : BufTy).Contents (Elt F) → (⟨S2048x8192, .f32⟩ : BufTy).Contents (Elt F))]

def call6 : List (HloOp τ sig (Elt F)) := [
  StableHlo.nullary main_call6_v0 (iotaInDim S2048x8192 32 1),
  StableHlo.nullary main_call6_cst (constant S_ .f32 0xFF800000#32),
  StableHlo.nullary main_call6_c (constantI S_ 32 0#32),
  StableHlo.quaternary main_v43 main_call6_v0 main_call6_cst main_call6_c main_call6_v1_0 ((fun x y u v j => (Host.argReduce reducer_argmax_f32_i32 x y u v reducesTo_S2048x8192_S2048_d1 h_S_ j).1) : (⟨S2048x8192, .f32⟩ : BufTy).Contents (Elt F) → (⟨S2048x8192, .i32⟩ : BufTy).Contents (Elt F) → (⟨S_, .f32⟩ : BufTy).Contents (Elt F) → (⟨S_, .i32⟩ : BufTy).Contents (Elt F) → (⟨S2048, .f32⟩ : BufTy).Contents (Elt F)),
  StableHlo.quaternary main_v43 main_call6_v0 main_call6_cst main_call6_c main_v44 ((fun x y u v j => (Host.argReduce reducer_argmax_f32_i32 x y u v reducesTo_S2048x8192_S2048_d1 h_S_ j).2) : (⟨S2048x8192, .f32⟩ : BufTy).Contents (Elt F) → (⟨S2048x8192, .i32⟩ : BufTy).Contents (Elt F) → (⟨S_, .f32⟩ : BufTy).Contents (Elt F) → (⟨S_, .i32⟩ : BufTy).Contents (Elt F) → (⟨S2048, .i32⟩ : BufTy).Contents (Elt F))]

def call7 : List (HloOp τ sig (Elt F)) := [
  StableHlo.ternary main_v23 main_v44 main_v15 main_v45 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F))]

theorem call0_eq : (fn_take.body (.of main_arg2) (.of main_v2) main_call0 : Prog (TpuEff nD τ sig (Elt F) (Pipeline.Sig Λ₀ (Fin 0) fun p => (pcfgs (F := F) p).Adm) .tc) PUnit) = seq (call0 (F := F)) := rfl

theorem call1_eq : (fn_where_0.body (.of main_v6) (.of main_v7) (.of main_v8) main_call1 : Prog (TpuEff nD τ sig (Elt F) (Pipeline.Sig Λ₀ (Fin 0) fun p => (pcfgs (F := F) p).Adm) .tc) PUnit) = seq (call1 (F := F)) := rfl

theorem call2_eq : (fn_argmax.body (.of main_v13) main_call2 : Prog (TpuEff nD τ sig (Elt F) (Pipeline.Sig Λ₀ (Fin 0) fun p => (pcfgs (F := F) p).Adm) .tc) PUnit) = seq (call2 (F := F)) := rfl

theorem call3_eq : (fn_where_1.body (.of main_arg1) (.of main_v14) (.of main_arg0) main_call3 : Prog (TpuEff nD τ sig (Elt F) (Pipeline.Sig Λ₀ (Fin 0) fun p => (pcfgs (F := F) p).Adm) .tc) PUnit) = seq (call3 (F := F)) := rfl

theorem call4_eq : (fn_take_2.body (.of main_arg2) (.of main_v18) main_call4 : Prog (TpuEff nD τ sig (Elt F) (Pipeline.Sig Λ₀ (Fin 0) fun p => (pcfgs (F := F) p).Adm) .tc) PUnit) = seq (call4 (F := F)) := rfl

theorem call5_eq : (fn_take.body (.of main_arg2) (.of main_v2) main_call5 : Prog (TpuEff nD τ sig (Elt F) (Pipeline.Sig Λ₀ (Fin 0) fun p => (pcfgs (F := F) p).Adm) .tc) PUnit) = seq (call5 (F := F)) := rfl

theorem call6_eq : (fn_argmax.body (.of main_v43) main_call6 : Prog (TpuEff nD τ sig (Elt F) (Pipeline.Sig Λ₀ (Fin 0) fun p => (pcfgs (F := F) p).Adm) .tc) PUnit) = seq (call6 (F := F)) := rfl

theorem call7_eq : (fn_where.body (.of main_v23) (.of main_v44) (.of main_v15) main_call7 : Prog (TpuEff nD τ sig (Elt F) (Pipeline.Sig Λ₀ (Fin 0) fun p => (pcfgs (F := F) p).Adm) .tc) PUnit) = seq (call7 (F := F)) := rfl

/-- The statements, in order. -/
def ops : List (HloOp τ sig (Elt F)) := h0 ++ call0 ++ h1 ++ call1 ++ h2 ++ call2 ++ call3 ++ h3 ++ call4 ++ h4 ++ call5 ++ h5 ++ call6 ++ call7

set_option maxRecDepth 32768 in
theorem main_eq' (d : Dev nD) : main (F := F) d = seqK h0 (seq call0 >>= fun _ => seqK h1 (seq call1 >>= fun _ => seqK h2 (seq call2 >>= fun _ => seq call3 >>= fun _ => seqK h3 (seq call4 >>= fun _ => seqK h4 (seq call5 >>= fun _ => seqK h5 (seq call6 >>= fun _ => seq call7 >>= fun _ => pure ⟨⟩)))))) := by
  simp only [main, call0_eq, call1_eq, call2_eq, call3_eq, call4_eq, call5_eq, call6_eq, call7_eq]
  rfl

theorem main_eq (d : Dev nD) : main (F := F) d = seq ops := by
  simp only [main_eq', ops, seq_append, ← seq_bind_seqK, bind_assoc]
  congr

theorem h0_sub : (h0 (F := F)).Forall fun op => op.bufs ⊆ tcRefs τ sig := by
  simp only [h0, List.forall_cons, List.Forall, reshape_bufs_sub, unary_bufs_sub, nullary_bufs_sub, binary_bufs_sub, ternary_bufs_sub, quaternary_bufs_sub, and_self]

theorem h0_fresh : ∀ op ∈ h0 (F := F), op.fresh = ∅ := List.forall_iff_forall_mem.mp (forall_fresh_of_map rfl)

theorem call0_sub : (call0 (F := F)).Forall fun op => op.bufs ⊆ tcRefs τ sig := by
  simp only [call0, List.forall_cons, List.Forall, reshape_bufs_sub, unary_bufs_sub, nullary_bufs_sub, binary_bufs_sub, ternary_bufs_sub, quaternary_bufs_sub, and_self]

theorem call0_fresh : ∀ op ∈ call0 (F := F), op.fresh = ∅ := List.forall_iff_forall_mem.mp (forall_fresh_of_map rfl)

theorem h1_sub : (h1 (F := F)).Forall fun op => op.bufs ⊆ tcRefs τ sig := by
  simp only [h1, List.forall_cons, List.Forall, reshape_bufs_sub, unary_bufs_sub, nullary_bufs_sub, binary_bufs_sub, ternary_bufs_sub, quaternary_bufs_sub, and_self]

theorem h1_fresh : ∀ op ∈ h1 (F := F), op.fresh = ∅ := List.forall_iff_forall_mem.mp (forall_fresh_of_map rfl)

theorem call1_sub : (call1 (F := F)).Forall fun op => op.bufs ⊆ tcRefs τ sig := by
  simp only [call1, List.forall_cons, List.Forall, reshape_bufs_sub, unary_bufs_sub, nullary_bufs_sub, binary_bufs_sub, ternary_bufs_sub, quaternary_bufs_sub, and_self]

theorem call1_fresh : ∀ op ∈ call1 (F := F), op.fresh = ∅ := List.forall_iff_forall_mem.mp (forall_fresh_of_map rfl)

theorem h2_sub : (h2 (F := F)).Forall fun op => op.bufs ⊆ tcRefs τ sig := by
  simp only [h2, List.forall_cons, List.Forall, reshape_bufs_sub, unary_bufs_sub, nullary_bufs_sub, binary_bufs_sub, ternary_bufs_sub, quaternary_bufs_sub, and_self]

theorem h2_fresh : ∀ op ∈ h2 (F := F), op.fresh = ∅ := List.forall_iff_forall_mem.mp (forall_fresh_of_map rfl)

theorem call2_sub : (call2 (F := F)).Forall fun op => op.bufs ⊆ tcRefs τ sig := by
  simp only [call2, List.forall_cons, List.Forall, reshape_bufs_sub, unary_bufs_sub, nullary_bufs_sub, binary_bufs_sub, ternary_bufs_sub, quaternary_bufs_sub, and_self]

theorem call2_fresh : ∀ op ∈ call2 (F := F), op.fresh = ∅ := List.forall_iff_forall_mem.mp (forall_fresh_of_map rfl)

theorem call3_sub : (call3 (F := F)).Forall fun op => op.bufs ⊆ tcRefs τ sig := by
  simp only [call3, List.forall_cons, List.Forall, reshape_bufs_sub, unary_bufs_sub, nullary_bufs_sub, binary_bufs_sub, ternary_bufs_sub, quaternary_bufs_sub, and_self]

theorem call3_fresh : ∀ op ∈ call3 (F := F), op.fresh = ∅ := List.forall_iff_forall_mem.mp (forall_fresh_of_map rfl)

theorem h3_sub : (h3 (F := F)).Forall fun op => op.bufs ⊆ tcRefs τ sig := by
  simp only [h3, List.forall_cons, List.Forall, reshape_bufs_sub, unary_bufs_sub, nullary_bufs_sub, binary_bufs_sub, ternary_bufs_sub, quaternary_bufs_sub, and_self]

theorem h3_fresh : ∀ op ∈ h3 (F := F), op.fresh = ∅ := List.forall_iff_forall_mem.mp (forall_fresh_of_map rfl)

theorem call4_sub : (call4 (F := F)).Forall fun op => op.bufs ⊆ tcRefs τ sig := by
  simp only [call4, List.forall_cons, List.Forall, reshape_bufs_sub, unary_bufs_sub, nullary_bufs_sub, binary_bufs_sub, ternary_bufs_sub, quaternary_bufs_sub, and_self]

theorem call4_fresh : ∀ op ∈ call4 (F := F), op.fresh = ∅ := List.forall_iff_forall_mem.mp (forall_fresh_of_map rfl)

theorem h4_sub : (h4 (F := F)).Forall fun op => op.bufs ⊆ tcRefs τ sig := by
  simp only [h4, List.forall_cons, List.Forall, reshape_bufs_sub, unary_bufs_sub, nullary_bufs_sub, binary_bufs_sub, ternary_bufs_sub, quaternary_bufs_sub, and_self]

theorem h4_fresh : ∀ op ∈ h4 (F := F), op.fresh = ∅ := List.forall_iff_forall_mem.mp (forall_fresh_of_map rfl)

theorem call5_sub : (call5 (F := F)).Forall fun op => op.bufs ⊆ tcRefs τ sig := by
  simp only [call5, List.forall_cons, List.Forall, reshape_bufs_sub, unary_bufs_sub, nullary_bufs_sub, binary_bufs_sub, ternary_bufs_sub, quaternary_bufs_sub, and_self]

theorem call5_fresh : ∀ op ∈ call5 (F := F), op.fresh = ∅ := List.forall_iff_forall_mem.mp (forall_fresh_of_map rfl)

theorem h5_sub : (h5 (F := F)).Forall fun op => op.bufs ⊆ tcRefs τ sig := by
  simp only [h5, List.forall_cons, List.Forall, reshape_bufs_sub, unary_bufs_sub, nullary_bufs_sub, binary_bufs_sub, ternary_bufs_sub, quaternary_bufs_sub, and_self]

theorem h5_fresh : ∀ op ∈ h5 (F := F), op.fresh = ∅ := List.forall_iff_forall_mem.mp (forall_fresh_of_map rfl)

theorem call6_sub : (call6 (F := F)).Forall fun op => op.bufs ⊆ tcRefs τ sig := by
  simp only [call6, List.forall_cons, List.Forall, reshape_bufs_sub, unary_bufs_sub, nullary_bufs_sub, binary_bufs_sub, ternary_bufs_sub, quaternary_bufs_sub, and_self]

theorem call6_fresh : ∀ op ∈ call6 (F := F), op.fresh = ∅ := List.forall_iff_forall_mem.mp (forall_fresh_of_map rfl)

theorem call7_sub : (call7 (F := F)).Forall fun op => op.bufs ⊆ tcRefs τ sig := by
  simp only [call7, List.forall_cons, List.Forall, reshape_bufs_sub, unary_bufs_sub, nullary_bufs_sub, binary_bufs_sub, ternary_bufs_sub, quaternary_bufs_sub, and_self]

theorem call7_fresh : ∀ op ∈ call7 (F := F), op.fresh = ∅ := List.forall_iff_forall_mem.mp (forall_fresh_of_map rfl)

theorem ops_sub : (ops (F := F)).Forall fun op => op.bufs ⊆ tcRefs τ sig := by
  simp only [ops, List.forall_append]
  exact ⟨⟨⟨⟨⟨⟨⟨⟨⟨⟨⟨⟨⟨h0_sub, call0_sub⟩, h1_sub⟩, call1_sub⟩, h2_sub⟩, call2_sub⟩, call3_sub⟩, h3_sub⟩, call4_sub⟩, h4_sub⟩, call5_sub⟩, h5_sub⟩, call6_sub⟩, call7_sub⟩

theorem ops_fresh : ∀ op ∈ ops (F := F), op.fresh = ∅ := fun op h => by
  simp only [ops, List.mem_append] at h
  rcases h with ((((((((((((h | h) | h) | h) | h) | h) | h) | h) | h) | h) | h) | h) | h) | h
  · exact h0_fresh op h
  · exact call0_fresh op h
  · exact h1_fresh op h
  · exact call1_fresh op h
  · exact h2_fresh op h
  · exact call2_fresh op h
  · exact call3_fresh op h
  · exact h3_fresh op h
  · exact call4_fresh op h
  · exact h4_fresh op h
  · exact call5_fresh op h
  · exact h5_fresh op h
  · exact call6_fresh op h
  · exact call7_fresh op h

/-! ## The terms -/

/-- The symbol before each position (0 at the first). -/
def prevSym (z : S2048.Idx → BitVec 32) : S2048.Idx → BitVec 32 :=
  concatenate S2048 0 [⟨S1, broadcastInDim S1 ![] bcast_S_S1 (constantI S_ 32 0#32)⟩,
    ⟨S2047, extractStridedSlice S2047 ![0] z slices_S2048_S2047_0⟩] concatenates_S1_S2047_S2048_d0
/-- Whether the position before is unmasked (never at the first). -/
def prevUn (c : S2048.Idx → BitVec 1) : S2048.Idx → BitVec 1 :=
  concatenate S2048 0 [⟨S1, constantI S1 1 0#1⟩,
    ⟨S2047, noti (extractStridedSlice S2047 ![0] c slices_S2048_S2047_0)⟩] concatenates_S1_S2047_S2048_d0
/-- The symbol after each position (0 at the last). -/
def nextSym (z : S2048.Idx → BitVec 32) : S2048.Idx → BitVec 32 :=
  concatenate S2048 0 [⟨S2047, extractStridedSlice S2047 ![1] z slices_S2048_S2047_1⟩,
    ⟨S1, broadcastInDim S1 ![] bcast_S_S1 (constantI S_ 32 0#32)⟩] concatenates_S2047_S1_S2048_d0
/-- Whether the position after is unmasked (never at the last). -/
def nextUn (c : S2048.Idx → BitVec 1) : S2048.Idx → BitVec 1 :=
  concatenate S2048 0 [⟨S2047, noti (extractStridedSlice S2047 ![1] c slices_S2048_S2047_1)⟩,
    ⟨S1, constantI S1 1 0#1⟩] concatenates_S2047_S1_S2048_d0
/-- The indices as a take uses them: 8192 added to a negative one. -/
def wrap (o : S2048.Idx → BitVec 32) : S2048.Idx → BitVec 32 :=
  select (cmpi .slt o (broadcastInDim S2048 ![] bcast_S_S2048 (constantI S_ 32 0#32)))
    (addi o (broadcastInDim S2048 ![] bcast_S_S2048 (constantI S_ 32 8192#32))) o
/-- Which indices are inside the matrix. -/
def inside (o : S2048.Idx → BitVec 32) : S2048.Idx → BitVec 1 :=
  Host.reduce IntOp.andi (andi
      (cmpi .sge (broadcastInDim S2048x1 ![0] bcast_S2048_S2048x1_0 (wrap o)) (broadcastInDim S2048x1 ![] bcast_S_S2048x1 (constantI S_ 32 0#32)))
      (cmpi .sle (broadcastInDim S2048x1 ![0] bcast_S2048_S2048x1_0 (wrap o))
        (broadcastInDim S2048x1 ![0, 1] bcast_S1x1_S2048x1_0_1 (broadcastInDim S1x1 ![1] bcast_S1_S1x1_1 (constantI S1 32 8191#32)))))
      (constantI S_ 1 1#1) reducesTo_S2048x1_S2048_d1 h_S_
/-- The matrix's rows at a list of indices. -/
def rows (M : S8192x8192.Idx → F .f32) (o : S2048.Idx → BitVec 32) : S2048x8192.Idx → F .f32 :=
  select (broadcastInDim S2048x8192 ![0] bcast_S2048_S2048x8192_0 (inside o))
    (Host.gather gather_S8192x8192_S2048x1_S2048x8192_1_0_n_n_0_1_18192 M (broadcastInDim S2048x1 ![0] bcast_S2048_S2048x1_0 (wrap o)))
    (broadcastInDim S2048x8192 ![] bcast_S_S2048x8192 (constant S_ .f32 0x7FC00000#32))
/-- The matrix's columns at a list of indices. -/
def cols (M : S8192x8192.Idx → F .f32) (o : S2048.Idx → BitVec 32) : S8192x2048.Idx → F .f32 :=
  select (broadcastInDim S8192x2048 ![1] bcast_S2048_S8192x2048_1 (inside o))
    (Host.gather gather_S8192x8192_S2048x1_S8192x2048_0_1_n_n_1_1_81921 M (broadcastInDim S2048x1 ![0] bcast_S2048_S2048x1_0 (wrap o)))
    (broadcastInDim S8192x2048 ![] bcast_S_S8192x2048 (constant S_ .f32 0x7FC00000#32))
/-- The second members of a list of pairs. -/
def second {ι α β : Type} (f : ι → α × β) : ι → β := fun j => (f j).2
theorem second_eq {ι α β : Type} (f : ι → α × β) : (fun j => (f j).2) = second f := rfl
/-- The first position of each row's greatest entry. -/
def first (X : S2048x8192.Idx → F .f32) : S2048.Idx → BitVec 32 :=
  second (Host.argReduce reducer_argmax_f32_i32 X (iotaInDim S2048x8192 32 1) (constant S_ .f32 0xFF800000#32) (constantI S_ 32 0#32)
    reducesTo_S2048x8192_S2048_d1 h_S_)
/-- The logarithm of each entry, a tiny constant added first, with noise added. -/
def noisy (X g : S2048x8192.Idx → F .f32) : S2048x8192.Idx → F .f32 :=
  addf (Host.log (addf X (broadcastInDim S2048x8192 ![] bcast_S_S2048x8192 (constant S_ .f32 0x2B8CBCCC#32)))) g
/-- Each row divided by its sum, a small constant added. -/
def normed (X : S2048x8192.Idx → F .f32) : S2048x8192.Idx → F .f32 :=
  Host.divf X (broadcastInDim S2048x8192 ![0, 1] bcast_S2048x1_S2048x8192_0_1
    (addf (broadcastInDim S2048x1 ![0] bcast_S2048_S2048x1_0 (Host.reduceAdd X (constant S_ .f32 0x00000000#32) reducesTo_S2048x8192_S2048_d1 h_S_))
      (broadcastInDim S2048x1 ![] bcast_S_S2048x1 (constant S_ .f32 0x2EDBE6FF#32))))
/-- The forward probabilities. -/
def spread (u : S2048.Idx → BitVec 1) (X : S2048x8192.Idx → F .f32) (q : S8192.Idx → F .f32) : S2048x8192.Idx → F .f32 :=
  select (broadcastInDim S2048x8192 ![0, 1] bcast_S2048x1_S2048x8192_0_1 (broadcastInDim S2048x1 ![0] bcast_S2048_S2048x1_0 u)) X
    (broadcastInDim S2048x8192 ![0, 1] bcast_S1x8192_S2048x8192_0_1 (broadcastInDim S1x8192 ![1] bcast_S8192_S1x8192_1 q))
/-- The backward products. -/
def products (R : S2048x8192.Idx → F .f32) (C : S8192x2048.Idx → F .f32) : S2048x8192.Idx → F .f32 :=
  mulf R (normed (transpose S2048x8192 [1, 0] C transposes_S8192x2048_S2048x8192_1_0))
/-- The result. -/
def result (z : S2048.Idx → BitVec 32) (c : S2048.Idx → BitVec 1) (M : S8192x8192.Idx → F .f32) (q : S8192.Idx → F .f32)
    (gf gb : S2048x8192.Idx → F .f32) : S2048.Idx → BitVec 32 :=
  select (andi (andi c (prevUn c)) (nextUn c)) (first (noisy (normed (products (rows M (prevSym z)) (cols M (nextSym z)))) gb))
    (select c (first (noisy (spread (prevUn c) (rows M (prevSym z)) q) gf)) z)

/-! ## Reading one stretch -/

theorem after_app (l₁ l₂ : List (HloOp τ sig (Elt F))) (V : Valuation τ sig (Elt F)) : after (l₁ ++ l₂) V = after l₂ (after l₁ V) := by
  induction l₁ generalizing V with
  | nil => rfl
  | cons op l ih => exact ih _

section
variable (U : Valuation τ sig (Elt F))

theorem h0_skip {r : Ref sig .tc} (hr : r ∉ [main_c, main_c_0, main_c_1, main_v0, main_v1, main_v2, main_v3, main_v4, main_v5, main_v6]) : after (h0 (F := F)) U (Proc.devRef .tc r) = U (Proc.devRef .tc r) := StableHlo.after_unwritten [main_c, main_c_0, main_c_1, main_v0, main_v1, main_v2, main_v3, main_v4, main_v5, main_v6] rfl hr U

theorem call0_skip {r : Ref sig .tc} (hr : r ∉ [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v7]) : after (call0 (F := F)) U (Proc.devRef .tc r) = U (Proc.devRef .tc r) := StableHlo.after_unwritten [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v7] rfl hr U

theorem h1_skip {r : Ref sig .tc} (hr : r ∉ [main_v8]) : after (h1 (F := F)) U (Proc.devRef .tc r) = U (Proc.devRef .tc r) := StableHlo.after_unwritten [main_v8] rfl hr U

theorem call1_skip {r : Ref sig .tc} (hr : r ∉ [main_call1_v0, main_call1_v1, main_v9]) : after (call1 (F := F)) U (Proc.devRef .tc r) = U (Proc.devRef .tc r) := StableHlo.after_unwritten [main_call1_v0, main_call1_v1, main_v9] rfl hr U

theorem h2_skip {r : Ref sig .tc} (hr : r ∉ [main_cst, main_v10, main_v11, main_v12, main_v13]) : after (h2 (F := F)) U (Proc.devRef .tc r) = U (Proc.devRef .tc r) := StableHlo.after_unwritten [main_cst, main_v10, main_v11, main_v12, main_v13] rfl hr U

theorem call2_skip {r : Ref sig .tc} (hr : r ∉ [main_call2_v0, main_call2_cst, main_call2_c, main_call2_v1_0, main_v14]) : after (call2 (F := F)) U (Proc.devRef .tc r) = U (Proc.devRef .tc r) := StableHlo.after_unwritten [main_call2_v0, main_call2_cst, main_call2_c, main_call2_v1_0, main_v14] rfl hr U

theorem call3_skip {r : Ref sig .tc} (hr : r ∉ [main_v15]) : after (call3 (F := F)) U (Proc.devRef .tc r) = U (Proc.devRef .tc r) := StableHlo.after_unwritten [main_v15] rfl hr U

theorem h3_skip {r : Ref sig .tc} (hr : r ∉ [main_v16, main_c_2, main_v17, main_v18, main_v19, main_v20, main_v21, main_v22, main_v23]) : after (h3 (F := F)) U (Proc.devRef .tc r) = U (Proc.devRef .tc r) := StableHlo.after_unwritten [main_v16, main_c_2, main_v17, main_v18, main_v19, main_v20, main_v21, main_v22, main_v23] rfl hr U

theorem call4_skip {r : Ref sig .tc} (hr : r ∉ [main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_v14, main_call4_cst, main_call4_v15, main_v24]) : after (call4 (F := F)) U (Proc.devRef .tc r) = U (Proc.devRef .tc r) := StableHlo.after_unwritten [main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_v14, main_call4_cst, main_call4_v15, main_v24] rfl hr U

theorem h4_skip {r : Ref sig .tc} (hr : r ∉ [main_v25, main_cst_3, main_v26, main_v27, main_cst_4, main_v28, main_v29, main_v30, main_v31]) : after (h4 (F := F)) U (Proc.devRef .tc r) = U (Proc.devRef .tc r) := StableHlo.after_unwritten [main_v25, main_cst_3, main_v26, main_v27, main_cst_4, main_v28, main_v29, main_v30, main_v31] rfl hr U

theorem call5_skip {r : Ref sig .tc} (hr : r ∉ [main_call5_c, main_call5_v0, main_call5_v1, main_call5_c_0, main_call5_v2, main_call5_v3, main_call5_v4, main_call5_v5, main_call5_c_1, main_call5_c_2, main_call5_v6, main_call5_v7, main_call5_v8, main_call5_v9, main_call5_v10, main_call5_v11, main_call5_c_3, main_call5_v12, main_call5_v13, main_call5_v14, main_call5_cst, main_call5_v15, main_v32]) : after (call5 (F := F)) U (Proc.devRef .tc r) = U (Proc.devRef .tc r) := StableHlo.after_unwritten [main_call5_c, main_call5_v0, main_call5_v1, main_call5_c_0, main_call5_v2, main_call5_v3, main_call5_v4, main_call5_v5, main_call5_c_1, main_call5_c_2, main_call5_v6, main_call5_v7, main_call5_v8, main_call5_v9, main_call5_v10, main_call5_v11, main_call5_c_3, main_call5_v12, main_call5_v13, main_call5_v14, main_call5_cst, main_call5_v15, main_v32] rfl hr U

theorem h5_skip {r : Ref sig .tc} (hr : r ∉ [main_v33, main_cst_5, main_v34, main_v35, main_cst_6, main_v36, main_v37, main_v38, main_v39, main_cst_7, main_v40, main_v41, main_v42, main_v43]) : after (h5 (F := F)) U (Proc.devRef .tc r) = U (Proc.devRef .tc r) := StableHlo.after_unwritten [main_v33, main_cst_5, main_v34, main_v35, main_cst_6, main_v36, main_v37, main_v38, main_v39, main_cst_7, main_v40, main_v41, main_v42, main_v43] rfl hr U

theorem call6_skip {r : Ref sig .tc} (hr : r ∉ [main_call6_v0, main_call6_cst, main_call6_c, main_call6_v1_0, main_v44]) : after (call6 (F := F)) U (Proc.devRef .tc r) = U (Proc.devRef .tc r) := StableHlo.after_unwritten [main_call6_v0, main_call6_cst, main_call6_c, main_call6_v1_0, main_v44] rfl hr U

theorem call7_skip {r : Ref sig .tc} (hr : r ∉ [main_v45]) : after (call7 (F := F)) U (Proc.devRef .tc r) = U (Proc.devRef .tc r) := StableHlo.after_unwritten [main_v45] rfl hr U

theorem h0_v2 : after (h0 (F := F)) U (Proc.devRef .tc main_v2) = prevSym (U (Proc.devRef .tc main_arg0)) := by
  unfold h0
  after_reads_simp
  try rfl

theorem h0_v5 : after (h0 (F := F)) U (Proc.devRef .tc main_v5) = prevUn (U (Proc.devRef .tc main_arg1)) := by
  unfold h0
  after_reads_simp
  try rfl

theorem h0_v6 : after (h0 (F := F)) U (Proc.devRef .tc main_v6) = broadcastInDim S2048x1 ![0] bcast_S2048_S2048x1_0 (prevUn (U (Proc.devRef .tc main_arg1))) := by
  unfold h0
  after_reads_simp
  try rfl

theorem h0_c_0 : after (h0 (F := F)) U (Proc.devRef .tc main_c_0) = constantI S1 1 0#1 := by
  unfold h0
  after_reads_simp
  try rfl

theorem call0_v7 : after (call0 (F := F)) U (Proc.devRef .tc main_v7) = rows (U (Proc.devRef .tc main_arg2)) (U (Proc.devRef .tc main_v2)) := by
  unfold call0
  after_reads_simp
  try rfl

theorem h1_v8 : after (h1 (F := F)) U (Proc.devRef .tc main_v8) = broadcastInDim S1x8192 ![1] bcast_S8192_S1x8192_1 (U (Proc.devRef .tc main_arg3)) := by
  unfold h1
  after_reads_simp
  try rfl

theorem call1_v9 : after (call1 (F := F)) U (Proc.devRef .tc main_v9) = select (broadcastInDim S2048x8192 ![0, 1] bcast_S2048x1_S2048x8192_0_1 (U (Proc.devRef .tc main_v6))) (U (Proc.devRef .tc main_v7)) (broadcastInDim S2048x8192 ![0, 1] bcast_S1x8192_S2048x8192_0_1 (U (Proc.devRef .tc main_v8))) := by
  unfold call1
  after_reads_simp
  try rfl

theorem h2_v13 : after (h2 (F := F)) U (Proc.devRef .tc main_v13) = noisy (U (Proc.devRef .tc main_v9)) (U (Proc.devRef .tc main_arg4)) := by
  unfold h2
  after_reads_simp
  try rfl

theorem call2_v14 : after (call2 (F := F)) U (Proc.devRef .tc main_v14) = first (U (Proc.devRef .tc main_v13)) := by
  unfold call2 first
  after_reads_simp
  exact second_eq _

theorem call3_v15 : after (call3 (F := F)) U (Proc.devRef .tc main_v15) = select (U (Proc.devRef .tc main_arg1)) (U (Proc.devRef .tc main_v14)) (U (Proc.devRef .tc main_arg0)) := by
  unfold call3
  after_reads_simp
  try rfl

theorem h3_v18 : after (h3 (F := F)) U (Proc.devRef .tc main_v18) = nextSym (U (Proc.devRef .tc main_arg0)) := by
  unfold h3
  after_reads_simp
  try rfl

theorem h3_v23 : after (h3 (F := F)) U (Proc.devRef .tc main_v23) = andi (andi (U (Proc.devRef .tc main_arg1)) (U (Proc.devRef .tc main_v5))) (concatenate S2048 0 [⟨S2047, noti (extractStridedSlice S2047 ![1] (U (Proc.devRef .tc main_arg1)) slices_S2048_S2047_1)⟩, ⟨S1, (U (Proc.devRef .tc main_c_0))⟩] concatenates_S2047_S1_S2048_d0) := by
  unfold h3
  after_reads_simp
  try rfl

theorem call4_v24 : after (call4 (F := F)) U (Proc.devRef .tc main_v24) = cols (U (Proc.devRef .tc main_arg2)) (U (Proc.devRef .tc main_v18)) := by
  unfold call4
  after_reads_simp
  try rfl

theorem h4_v31 : after (h4 (F := F)) U (Proc.devRef .tc main_v31) = normed (transpose S2048x8192 [1, 0] (U (Proc.devRef .tc main_v24)) transposes_S8192x2048_S2048x8192_1_0) := by
  unfold h4
  after_reads_simp
  try rfl

theorem call5_v32 : after (call5 (F := F)) U (Proc.devRef .tc main_v32) = rows (U (Proc.devRef .tc main_arg2)) (U (Proc.devRef .tc main_v2)) := by
  unfold call5
  after_reads_simp
  try rfl

theorem h5_v43 : after (h5 (F := F)) U (Proc.devRef .tc main_v43) = noisy (normed (mulf (U (Proc.devRef .tc main_v32)) (U (Proc.devRef .tc main_v31)))) (U (Proc.devRef .tc main_arg5)) := by
  unfold h5
  after_reads_simp
  try rfl

theorem call6_v44 : after (call6 (F := F)) U (Proc.devRef .tc main_v44) = first (U (Proc.devRef .tc main_v43)) := by
  unfold call6 first
  after_reads_simp
  exact second_eq _

theorem call7_v45 : after (call7 (F := F)) U (Proc.devRef .tc main_v45) = select (U (Proc.devRef .tc main_v23)) (U (Proc.devRef .tc main_v44)) (U (Proc.devRef .tc main_v15)) := by
  unfold call7
  after_reads_simp
  try rfl

theorem ops_v45 : after (ops (F := F)) U (Proc.devRef .tc main_v45) = result (U (Proc.devRef .tc main_arg0)) (U (Proc.devRef .tc main_arg1)) (U (Proc.devRef .tc main_arg2)) (U (Proc.devRef .tc main_arg3)) (U (Proc.devRef .tc main_arg4)) (U (Proc.devRef .tc main_arg5)) := by
  unfold ops
  simp only [after_app]
  rw [call7_v45, call6_skip (r := main_v15) _ (by decide), call6_skip (r := main_v23) _ (by decide), call6_v44, h5_skip (r := main_v15) _ (by decide), h5_skip (r := main_v23) _ (by decide), h5_v43, call5_skip (r := main_arg5) _ (by decide), call5_skip (r := main_v15) _ (by decide), call5_skip (r := main_v23) _ (by decide), call5_skip (r := main_v31) _ (by decide), call5_v32, h4_skip (r := main_arg2) _ (by decide), h4_skip (r := main_arg5) _ (by decide), h4_skip (r := main_v15) _ (by decide), h4_skip (r := main_v2) _ (by decide), h4_skip (r := main_v23) _ (by decide), h4_v31, call4_skip (r := main_arg2) _ (by decide), call4_skip (r := main_arg5) _ (by decide), call4_skip (r := main_v15) _ (by decide), call4_skip (r := main_v2) _ (by decide), call4_skip (r := main_v23) _ (by decide), call4_v24, h3_skip (r := main_arg2) _ (by decide), h3_skip (r := main_arg5) _ (by decide), h3_skip (r := main_v15) _ (by decide), h3_v18, h3_skip (r := main_v2) _ (by decide), h3_v23, call3_skip (r := main_arg0) _ (by decide), call3_skip (r := main_arg1) _ (by decide), call3_skip (r := main_arg2) _ (by decide), call3_skip (r := main_arg5) _ (by decide), call3_skip (r := main_c_0) _ (by decide), call3_v15, call3_skip (r := main_v2) _ (by decide), call3_skip (r := main_v5) _ (by decide), call2_skip (r := main_arg0) _ (by decide), call2_skip (r := main_arg1) _ (by decide), call2_skip (r := main_arg2) _ (by decide), call2_skip (r := main_arg5) _ (by decide), call2_skip (r := main_c_0) _ (by decide), call2_v14, call2_skip (r := main_v2) _ (by decide), call2_skip (r := main_v5) _ (by decide), h2_skip (r := main_arg0) _ (by decide), h2_skip (r := main_arg1) _ (by decide), h2_skip (r := main_arg2) _ (by decide), h2_skip (r := main_arg5) _ (by decide), h2_skip (r := main_c_0) _ (by decide), h2_v13, h2_skip (r := main_v2) _ (by decide), h2_skip (r := main_v5) _ (by decide), call1_skip (r := main_arg0) _ (by decide), call1_skip (r := main_arg1) _ (by decide), call1_skip (r := main_arg2) _ (by decide), call1_skip (r := main_arg4) _ (by decide), call1_skip (r := main_arg5) _ (by decide), call1_skip (r := main_c_0) _ (by decide), call1_skip (r := main_v2) _ (by decide), call1_skip (r := main_v5) _ (by decide), call1_v9, h1_skip (r := main_arg0) _ (by decide), h1_skip (r := main_arg1) _ (by decide), h1_skip (r := main_arg2) _ (by decide), h1_skip (r := main_arg4) _ (by decide), h1_skip (r := main_arg5) _ (by decide), h1_skip (r := main_c_0) _ (by decide), h1_skip (r := main_v2) _ (by decide), h1_skip (r := main_v5) _ (by decide), h1_skip (r := main_v6) _ (by decide), h1_skip (r := main_v7) _ (by decide), h1_v8, call0_skip (r := main_arg0) _ (by decide), call0_skip (r := main_arg1) _ (by decide), call0_skip (r := main_arg2) _ (by decide), call0_skip (r := main_arg3) _ (by decide), call0_skip (r := main_arg4) _ (by decide), call0_skip (r := main_arg5) _ (by decide), call0_skip (r := main_c_0) _ (by decide), call0_skip (r := main_v2) _ (by decide), call0_skip (r := main_v5) _ (by decide), call0_skip (r := main_v6) _ (by decide), call0_v7, h0_skip (r := main_arg0) _ (by decide), h0_skip (r := main_arg1) _ (by decide), h0_skip (r := main_arg2) _ (by decide), h0_skip (r := main_arg3) _ (by decide), h0_skip (r := main_arg4) _ (by decide), h0_skip (r := main_arg5) _ (by decide), h0_c_0, h0_v2, h0_v5, h0_v6]
  rfl

theorem ops_arg0 : after (ops (F := F)) U (Proc.devRef .tc main_arg0) = U (Proc.devRef .tc main_arg0) := by
  unfold ops
  simp only [after_app]
  rw [call7_skip (r := main_arg0) _ (by decide), call6_skip (r := main_arg0) _ (by decide), h5_skip (r := main_arg0) _ (by decide), call5_skip (r := main_arg0) _ (by decide), h4_skip (r := main_arg0) _ (by decide), call4_skip (r := main_arg0) _ (by decide), h3_skip (r := main_arg0) _ (by decide), call3_skip (r := main_arg0) _ (by decide), call2_skip (r := main_arg0) _ (by decide), h2_skip (r := main_arg0) _ (by decide), call1_skip (r := main_arg0) _ (by decide), h1_skip (r := main_arg0) _ (by decide), call0_skip (r := main_arg0) _ (by decide), h0_skip (r := main_arg0) _ (by decide)]

theorem ops_arg1 : after (ops (F := F)) U (Proc.devRef .tc main_arg1) = U (Proc.devRef .tc main_arg1) := by
  unfold ops
  simp only [after_app]
  rw [call7_skip (r := main_arg1) _ (by decide), call6_skip (r := main_arg1) _ (by decide), h5_skip (r := main_arg1) _ (by decide), call5_skip (r := main_arg1) _ (by decide), h4_skip (r := main_arg1) _ (by decide), call4_skip (r := main_arg1) _ (by decide), h3_skip (r := main_arg1) _ (by decide), call3_skip (r := main_arg1) _ (by decide), call2_skip (r := main_arg1) _ (by decide), h2_skip (r := main_arg1) _ (by decide), call1_skip (r := main_arg1) _ (by decide), h1_skip (r := main_arg1) _ (by decide), call0_skip (r := main_arg1) _ (by decide), h0_skip (r := main_arg1) _ (by decide)]

theorem ops_arg2 : after (ops (F := F)) U (Proc.devRef .tc main_arg2) = U (Proc.devRef .tc main_arg2) := by
  unfold ops
  simp only [after_app]
  rw [call7_skip (r := main_arg2) _ (by decide), call6_skip (r := main_arg2) _ (by decide), h5_skip (r := main_arg2) _ (by decide), call5_skip (r := main_arg2) _ (by decide), h4_skip (r := main_arg2) _ (by decide), call4_skip (r := main_arg2) _ (by decide), h3_skip (r := main_arg2) _ (by decide), call3_skip (r := main_arg2) _ (by decide), call2_skip (r := main_arg2) _ (by decide), h2_skip (r := main_arg2) _ (by decide), call1_skip (r := main_arg2) _ (by decide), h1_skip (r := main_arg2) _ (by decide), call0_skip (r := main_arg2) _ (by decide), h0_skip (r := main_arg2) _ (by decide)]

theorem ops_arg3 : after (ops (F := F)) U (Proc.devRef .tc main_arg3) = U (Proc.devRef .tc main_arg3) := by
  unfold ops
  simp only [after_app]
  rw [call7_skip (r := main_arg3) _ (by decide), call6_skip (r := main_arg3) _ (by decide), h5_skip (r := main_arg3) _ (by decide), call5_skip (r := main_arg3) _ (by decide), h4_skip (r := main_arg3) _ (by decide), call4_skip (r := main_arg3) _ (by decide), h3_skip (r := main_arg3) _ (by decide), call3_skip (r := main_arg3) _ (by decide), call2_skip (r := main_arg3) _ (by decide), h2_skip (r := main_arg3) _ (by decide), call1_skip (r := main_arg3) _ (by decide), h1_skip (r := main_arg3) _ (by decide), call0_skip (r := main_arg3) _ (by decide), h0_skip (r := main_arg3) _ (by decide)]

theorem ops_arg4 : after (ops (F := F)) U (Proc.devRef .tc main_arg4) = U (Proc.devRef .tc main_arg4) := by
  unfold ops
  simp only [after_app]
  rw [call7_skip (r := main_arg4) _ (by decide), call6_skip (r := main_arg4) _ (by decide), h5_skip (r := main_arg4) _ (by decide), call5_skip (r := main_arg4) _ (by decide), h4_skip (r := main_arg4) _ (by decide), call4_skip (r := main_arg4) _ (by decide), h3_skip (r := main_arg4) _ (by decide), call3_skip (r := main_arg4) _ (by decide), call2_skip (r := main_arg4) _ (by decide), h2_skip (r := main_arg4) _ (by decide), call1_skip (r := main_arg4) _ (by decide), h1_skip (r := main_arg4) _ (by decide), call0_skip (r := main_arg4) _ (by decide), h0_skip (r := main_arg4) _ (by decide)]

theorem ops_arg5 : after (ops (F := F)) U (Proc.devRef .tc main_arg5) = U (Proc.devRef .tc main_arg5) := by
  unfold ops
  simp only [after_app]
  rw [call7_skip (r := main_arg5) _ (by decide), call6_skip (r := main_arg5) _ (by decide), h5_skip (r := main_arg5) _ (by decide), call5_skip (r := main_arg5) _ (by decide), h4_skip (r := main_arg5) _ (by decide), call4_skip (r := main_arg5) _ (by decide), h3_skip (r := main_arg5) _ (by decide), call3_skip (r := main_arg5) _ (by decide), call2_skip (r := main_arg5) _ (by decide), h2_skip (r := main_arg5) _ (by decide), call1_skip (r := main_arg5) _ (by decide), h1_skip (r := main_arg5) _ (by decide), call0_skip (r := main_arg5) _ (by decide), h0_skip (r := main_arg5) _ (by decide)]

end

theorem scoped_refs : (Finset.univ.filter fun b : Ref sig .tc => b.isScoped) = ∅ := by decide
theorem scoped_sems : (Finset.univ.filter fun sm : SemLoc sig => sm.isScoped .tc) = ∅ := by decide

/-- Every run of the reference ends with its result at the term above and its arguments unchanged. -/
theorem run_result (m : (ℓ : Loc nD τ sig) → Buf (Elt F) ℓ) (ρ : Dev nD → PrngReg) :
    θ_run defs (onTc (τ := τ) (main (F := F))) ⟨m, fun _ => 0, ρ⟩ fun r => ∀ d : Dev nD,
      r.2.mem (d, Proc.devRef .tc main_v45) = result (m (d, Proc.devRef .tc main_arg0)) (m (d, Proc.devRef .tc main_arg1)) (m (d, Proc.devRef .tc main_arg2)) (m (d, Proc.devRef .tc main_arg3)) (m (d, Proc.devRef .tc main_arg4)) (m (d, Proc.devRef .tc main_arg5))
      ∧ r.2.mem (d, Proc.devRef .tc main_arg0) = m (d, Proc.devRef .tc main_arg0) ∧ r.2.mem (d, Proc.devRef .tc main_arg1) = m (d, Proc.devRef .tc main_arg1) ∧ r.2.mem (d, Proc.devRef .tc main_arg2) = m (d, Proc.devRef .tc main_arg2) ∧ r.2.mem (d, Proc.devRef .tc main_arg3) = m (d, Proc.devRef .tc main_arg3) ∧ r.2.mem (d, Proc.devRef .tc main_arg4) = m (d, Proc.devRef .tc main_arg4) ∧ r.2.mem (d, Proc.devRef .tc main_arg5) = m (d, Proc.devRef .tc main_arg5) :=
  (θ_run defs _ _).mono (fun _ h d => ⟨(h d main_v45).trans (ops_v45 _), (h d main_arg0).trans (ops_arg0 _), (h d main_arg1).trans (ops_arg1 _), (h d main_arg2).trans (ops_arg2 _), (h d main_arg3).trans (ops_arg3 _), (h d main_arg4).trans (ops_arg4 _), (h d main_arg5).trans (ops_arg5 _)⟩)
    (run_seq scoped_refs scoped_sems defs main (fun _ => ops) main_eq (fun _ => ops_sub) m ρ (fun _ => ops_fresh))

end Cert.ReferenceIdeal.Smooth

end
-- ==== Proof.Best.lean ====
/-
  The position of the greatest of 8192 numbers, the first of them where several are greatest: what the kernel computes over an
  8 × 1024 array — the greatest number, then the least position holding it — and what the reference's arg-max computes along a row.
-/
module

public import Idealize.ShloMosaic.PureOps.Ideal
public import Idealize.ShloMosaic.PureOps.Ideal.Laws
public import Idealize.ShloMosaic.PureOps.Reduce
public import Idealize.ShloMosaic.Lib.Pipeline.Value
public import Idealize.ShloMosaic.Lib.ValueIdxCore

@[expose] public section

noncomputable section

namespace Cert.Smooth

open Idealize.ShloMosaic

/-- The word is the first position of the greatest number. -/
def Best (f : Fin 8192 → EReal) (w : BitVec 32) : Prop :=
  ∃ k : Fin 8192, w = BitVec.ofNat 32 k.val ∧ (∀ j, f j ≤ f k) ∧ ∀ j, f j = f k → k.val ≤ j.val

theorem Best.unique {f : Fin 8192 → EReal} {w w' : BitVec 32} (h : Best f w) (h' : Best f w') : w = w' := by
  obtain ⟨k, rfl, hk, hk'⟩ := h
  obtain ⟨j, rfl, hj, hj'⟩ := h'
  have e : f j = f k := le_antisymm (hk j) (hj k)
  rw [le_antisymm (hk' j e) (hj' k e.symm)]

/-! ## Arrays of 8192 entries by their row-major number -/

/-- The array holds the list, entry by entry in row-major order. -/
def Flat {s : Shape} {α : Type} (X : s.Idx → α) (f : Fin 8192 → α) : Prop :=
  ∀ (i : s.Idx) (k : Fin 8192), (s.rowMajor i).val = k.val → X i = f k

theorem Flat.cast {s t : Shape} {α : Type} {X : s.Idx → α} {f : Fin 8192 → α} (h : Flat X f) (hc : s.ShapeCasts t) :
    Flat (shapeCast t X hc) f := fun j k hk => by
  unfold shapeCast
  exact h _ k ((Shape.rowMajor_reshapeEquiv hc j).trans hk)

theorem Flat.sum {s : Shape} (hn : s.numel = 8192) {X : s.Idx → EReal} {f : Fin 8192 → EReal} (h : Flat X f) :
    ∑ i, X i = ∑ k, f k :=
  Fintype.sum_equiv (s.rowMajor.trans (finCongr hn)) _ _ fun i => h i _ rfl

theorem toInt_small (k : ℕ) (h : k < 2 ^ 31) : (BitVec.ofNat 32 k).toInt = k := by
  rw [BitVec.toInt_eq_toNat_of_lt (by rw [BitVec.toNat_ofNat]; omega), BitVec.toNat_ofNat]
  omega

theorem minsi_toInt (x y : BitVec 32) : (IntOp.minsi x y).toInt = min x.toInt y.toInt := by
  unfold IntOp.minsi
  rw [BitVec.slt_eq_decide]
  by_cases h : x.toInt < y.toInt
  · rw [if_pos (decide_eq_true h), min_eq_left h.le]
  · rw [if_neg (by simpa using h), min_eq_right (not_lt.1 h)]

/-- The kernel's two folds: the greatest entry, and the least of the positions' words, a position whose entry is not the greatest
    counting as 8192. -/
theorem best_folds {s : Shape} (hn : s.numel = 8192) {X : s.Idx → EReal} {f : Fin 8192 → EReal} (hX : Flat X f) {Y : s.Idx → BitVec 32}
    {m : EReal} {w : BitVec 32} (hm : m = Finset.univ.fold max ⊥ X)
    (hY : Flat Y fun k => Scalar.select (BitVec.ofBool (decide (f k = m))) (BitVec.ofNat 32 k.val) 8192#32)
    (hw : w = Finset.univ.fold IntOp.minsi 2147483647#32 Y) : Best f w := by
  let e : s.Idx ≃ Fin 8192 := s.rowMajor.trans (finCongr hn)
  have hXe (i : s.Idx) : X i = f (e i) := hX i _ rfl
  have hYe (k : Fin 8192) : Y (e.symm k) = Scalar.select (BitVec.ofBool (decide (f k = m))) (BitVec.ofNat 32 k.val) 8192#32 :=
    hY _ k (congrArg Fin.val (e.apply_symm_apply k))
  have hub (k : Fin 8192) : f k ≤ m := by
    rw [hm]
    refine (Finset.le_fold_max _).2 (.inr ⟨e.symm k, Finset.mem_univ _, ?_⟩)
    rw [hXe, e.apply_symm_apply]
  have hat : ∃ k, f k = m := by
    rcases (Finset.le_fold_max (s := Finset.univ) (f := X) (b := ⊥) m).1 hm.le with h | ⟨i, -, h⟩
    · exact ⟨0, le_antisymm (hub 0) (h.trans bot_le)⟩
    · exact ⟨e i, le_antisymm (hub _) ((hXe i) ▸ h)⟩
  have hwi : w.toInt = Finset.univ.fold min (2147483647#32).toInt fun i => (Y i).toInt := by
    rw [hw]
    exact (Finset.fold_hom (m := fun x : BitVec 32 => x.toInt) minsi_toInt).symm
  have hpos {k : Fin 8192} (h : f k = m) : (Y (e.symm k)).toInt = k.val := by
    rw [hYe, decide_eq_true h]
    exact toInt_small _ (by omega)
  have hlow (k : Fin 8192) (h : f k = m) : w.toInt ≤ k.val := by
    rw [hwi, ← hpos h]
    exact (Finset.fold_min_le _).2 (.inr ⟨e.symm k, Finset.mem_univ _, le_rfl⟩)
  obtain ⟨k₀, hk₀⟩ := hat
  have h0 := hlow k₀ hk₀
  have hk₀' := k₀.isLt
  rcases (Finset.fold_min_le (s := Finset.univ) (f := fun i => (Y i).toInt) (b := (2147483647#32).toInt) w.toInt).1 hwi.symm.le with h | ⟨i, -, h⟩
  · have : (2147483647#32 : BitVec 32).toInt = 2147483647 := by decide
    omega
  · have hi : Y i = Scalar.select (BitVec.ofBool (decide (f (e i) = m))) (BitVec.ofNat 32 (e i).val) 8192#32 := by
      rw [← hYe, e.symm_apply_apply]
    by_cases hf : f (e i) = m
    · have hYi : (Y i).toInt = (e i).val := by rw [← hpos hf, e.symm_apply_apply]
      have hl := hlow _ hf
      refine ⟨e i, BitVec.eq_of_toInt_eq ?_, fun j => (hub j).trans hf.ge, fun j hj => ?_⟩
      · rw [toInt_small _ (by have := (e i).isLt; omega)]
        omega
      · have := hlow j (hj.trans hf)
        omega
    · rw [decide_eq_false hf] at hi
      have : (Y i).toInt = 8192 := by rw [hi]; exact toInt_small 8192 (by decide)
      omega

/-! ## A reference's arg-max -/

/-- The first pair is before the second: a greater number, or the same number at a lower position. -/
def Wins (a b : EReal × BitVec 32) : Prop := b.1 < a.1 ∨ (a.1 = b.1 ∧ a.2.toInt < b.2.toInt)

theorem Wins.trans {a b c : EReal × BitVec 32} (h : Wins a b) (h' : Wins b c) : Wins a c := by
  rcases h with h | ⟨h, g⟩ <;> rcases h' with h' | ⟨h', g'⟩
  · exact .inl (h'.trans h)
  · exact .inl (h' ▸ h)
  · exact .inl (h ▸ h')
  · exact .inr ⟨h.trans h', g.trans g'⟩

theorem Wins.neg_trans {a b c : EReal × BitVec 32} (h : ¬ Wins a b) (h' : ¬ Wins b c) : ¬ Wins a c := by
  unfold Wins at *
  rw [not_or, not_and] at *
  obtain ⟨h1, h2⟩ := h
  obtain ⟨g1, g2⟩ := h'
  rw [not_lt] at *
  refine ⟨h1.trans g1, fun e => ?_⟩
  have e1 : a.1 = b.1 := le_antisymm h1 (e ▸ g1)
  have e2 : b.1 = c.1 := e1.symm.trans e
  have := h2 e1
  have := g2 e2
  omega

open scoped Classical in
theorem foldl_wins (r : EReal × BitVec 32 → EReal × BitVec 32 → EReal × BitVec 32) (hr : ∀ a b, r a b = if Wins a b then a else b)
    (L : List (EReal × BitVec 32)) (a : EReal × BitVec 32) :
    (L.foldl r a = a ∨ L.foldl r a ∈ L) ∧ ∀ p, (p = a ∨ p ∈ L) → ¬ Wins p (L.foldl r a) := by
  have irr (p : EReal × BitVec 32) : ¬ Wins p p := by unfold Wins; simp
  induction L generalizing a with
  | nil => exact ⟨.inl rfl, fun p hp => by
      obtain rfl | hp := hp
      · exact irr _
      · cases hp⟩
  | cons b L ih =>
    obtain ⟨h1, h2⟩ := ih (r a b)
    have hr' := hr a b
    rw [List.foldl_cons]
    by_cases hw : Wins a b
    · rw [if_pos hw] at hr'
      rw [hr'] at h1 h2 ⊢
      refine ⟨h1.imp id (List.mem_cons_of_mem _), fun p hp => ?_⟩
      rcases hp with rfl | hp
      · exact h2 _ (.inl rfl)
      · rcases List.mem_cons.1 hp with rfl | hp
        · exact fun h => h2 a (.inl rfl) (hw.trans h)
        · exact h2 _ (.inr hp)
    · rw [if_neg hw] at hr'
      rw [hr'] at h1 h2 ⊢
      refine ⟨.inr (h1.elim (fun h => by rw [h]; exact List.mem_cons_self) (List.mem_cons_of_mem _)), fun p hp => ?_⟩
      rcases hp with rfl | hp
      · exact Wins.neg_trans hw (h2 _ (.inl rfl))
      · rcases List.mem_cons.1 hp with rfl | hp
        · exact h2 _ (.inl rfl)
        · exact h2 _ (.inr hp)

/-- The fold, from the least number at position 0, over pairs that are exactly a list's numbers with their positions. -/
theorem best_foldl (r : EReal × BitVec 32 → EReal × BitVec 32 → EReal × BitVec 32) (hr : ∀ a b, Wins a b → r a b = a) (hr' : ∀ a b, ¬ Wins a b → r a b = b)
    (L : List (EReal × BitVec 32)) (f : Fin 8192 → EReal) (hL : ∀ p, p ∈ L ↔ ∃ k : Fin 8192, p = (f k, BitVec.ofNat 32 k.val)) :
    Best f (L.foldl r (⊥, 0#32)).2 := by
  classical
  obtain ⟨h1, h2⟩ := foldl_wins r (fun a b => by by_cases h : Wins a b <;> simp [h, hr, hr']) L (⊥, 0#32)
  have key (k : Fin 8192) : ¬ Wins (f k, BitVec.ofNat 32 k.val) (L.foldl r (⊥, 0#32)) := h2 _ (.inr ((hL _).2 ⟨k, rfl⟩))
  unfold Wins at key
  simp only [not_or, not_and, not_lt] at key
  rcases h1 with h1 | h1
  · rw [h1] at key ⊢
    exact ⟨0, rfl, fun j => (key j).1.trans bot_le, fun j _ => Nat.zero_le _⟩
  · obtain ⟨k, hk⟩ := (hL _).1 h1
    rw [hk] at key ⊢
    refine ⟨k, rfl, fun j => (key j).1, fun j hj => ?_⟩
    have := (key j).2 hj
    rw [toInt_small _ (by omega), toInt_small _ (by omega)] at this
    omega

end Cert.Smooth

end
-- ==== Proof.Scores.lean ====
/-
  What the two regions' bodies store for a row, on the extended reals: the first position of the greatest of the row's scores.
-/
module

public import proofs.«01_k».proof.Proof.Best
public import Idealize.ShloMosaic.Lib.StableHlo.Predicate
public import proofs.«01_k».proof.Proof.Gen.KernelIdeal
public import proofs.«01_k».proof.Proof.Gen.KernelIdeal.Skeleton

@[expose] public section

set_option maxRecDepth 16384

noncomputable section

namespace Cert.Smooth

open Idealize.ShloMosaic

/-- The small number added before a logarithm, and the one added to a sum before a division. -/
def tiny : EReal := FloatOps.ofBits (F := Ideal) .f32 0x2B8CBCCC#32
def small : EReal := FloatOps.ofBits (F := Ideal) .f32 0x2EDBE6FF#32

/-- The scores of the forward pass at a position: the logarithm of the row's probabilities, or of the marginal ones, plus the noise. -/
def fwdScore (u : BitVec 1) (r q g : Fin 8192 → EReal) (k : Fin 8192) : EReal :=
  Ideal.log (Scalar.select u (r k) (q k) + tiny) + g k

/-- The products of the row's probabilities and the column's, the column's divided by its sum. -/
def pairing (r v : Fin 8192 → EReal) (k : Fin 8192) : EReal := r k * Ideal.div (v k) ((∑ j, v j) + small)

/-- The scores of the backward pass at a position: the logarithm of the products divided by their sum, plus the noise. -/
def bwdScore (r v g : Fin 8192 → EReal) (k : Fin 8192) : EReal :=
  Ideal.log (Ideal.div (pairing r v k) ((∑ j, pairing r v j) + small) + tiny) + g k

theorem neg_inf : FloatOps.ofBits (F := Ideal) .f32 0xFF800000#32 = (⊥ : EReal) := by
  show Ideal.ofBits .f32 0xFF800000#32 = ⊥
  simp [Ideal.ofBits, Ideal.ieee]

end Cert.Smooth

namespace Cert.KernelIdeal.Smooth

open Cert.KernelIdeal Cert.KernelIdeal.Gen Cert.Smooth

open Idealize.ShloMosaic

theorem one_index (i j : S1.Idx) : i = j := by
  funext a
  exact Fin.ext ((Nat.lt_one_iff.1 (show (i a).val < 1 from match a with | ⟨0, _⟩ => (i 0).isLt)).trans
    (Nat.lt_one_iff.1 (show (j a).val < 1 from match a with | ⟨0, _⟩ => (j 0).isLt)).symm)

/-- The least position holding the greatest entry, as the bodies compute it. -/
def bestAt (v : FVec Ideal S8x1024 .f32) (j j' : S1.Idx) : BitVec 32 :=
  multiReductionI .minsi [1, 2] S1 (shapeCast S1x8x1024 (select
      (cmpf .oeq v (broadcast S8x1024 (multiReduction .maximumf [1, 2] S1 (shapeCast S1x8x1024 v shapeCasts_S8x1024_S1x8x1024) 0xFF800000#32 reduces_S1x8x1024_S1 (.inl rfl) rfl j)))
      (addi (muli (iota .tc S8x1024 32 [0] iota_S8x1024_d0_w32) (broadcast S8x1024 1024#32)) (iota .tc S8x1024 32 [1] iota_S8x1024_d1_w32))
      (broadcast S8x1024 8192#32)) shapeCasts_S8x1024_S1x8x1024) 2147483647#32 reduces_S1x8x1024_S1 rfl j'

theorem position_word (i : S8x1024.Idx) (k : Fin 8192) (hk : (S8x1024.rowMajor i).val = k.val) :
    addi (muli (iota .tc S8x1024 32 [0] iota_S8x1024_d0_w32) (broadcast S8x1024 1024#32)) (iota .tc S8x1024 32 [1] iota_S8x1024_d1_w32) i
      = BitVec.ofNat 32 k.val := by
  have h2 : (i 0).val * 1024 + (i 1).val = k.val := (Shape.rowMajor_val_two i).symm.trans hk
  have e0 : iota .tc S8x1024 32 [0] iota_S8x1024_d0_w32 i = BitVec.ofNat 32 (i 0).val := by
    unfold iota
    simp
  have e1 : iota .tc S8x1024 32 [1] iota_S8x1024_d1_w32 i = BitVec.ofNat 32 (i 1).val := by
    unfold iota
    simp
  show (iota .tc S8x1024 32 [0] iota_S8x1024_d0_w32 i) * 1024#32 + iota .tc S8x1024 32 [1] iota_S8x1024_d1_w32 i = _
  rw [e0, e1, ← h2, BitVec.ofNat_add, BitVec.ofNat_mul]

theorem numel_row : S1x8x1024.numel = 8192 := by decide

theorem masked_flat (v : FVec Ideal S8x1024 .f32) (f : Fin 8192 → EReal) (h : Flat v f) (m : Ideal .f32) :
    Flat (select (cmpf .oeq v (broadcast S8x1024 m))
      (addi (muli (iota .tc S8x1024 32 [0] iota_S8x1024_d0_w32) (broadcast S8x1024 1024#32)) (iota .tc S8x1024 32 [1] iota_S8x1024_d1_w32))
      (broadcast S8x1024 8192#32)) fun k => Scalar.select (BitVec.ofBool (decide (f k = m))) (BitVec.ofNat 32 k.val) 8192#32 := fun i k hk => by
  show Scalar.select (BitVec.ofBool (decide (v i = m))) (addi _ _ i) 8192#32 = _
  rw [position_word i k hk, h i k hk]

theorem max_fold (v : FVec Ideal S1x8x1024 .f32) (j : S1.Idx) :
    multiReduction .maximumf [1, 2] S1 v 0xFF800000#32 reduces_S1x8x1024_S1 (.inl rfl) rfl j = Finset.univ.fold max ⊥ v := by
  refine (multiReduction_maximumf_eq_fold _ _ _ _ _ j).trans ?_
  rw [Finset.filter_true_of_mem fun i _ => one_index _ _, neg_inf]
  rfl

theorem min_fold (v : IVec S1x8x1024 32) (j : S1.Idx) :
    multiReductionI .minsi [1, 2] S1 v 2147483647#32 reduces_S1x8x1024_S1 rfl j = Finset.univ.fold IntOp.minsi 2147483647#32 v := by
  refine (multiReductionI_eq_fold _ _ _ _ _ j).trans ?_
  rw [Finset.filter_true_of_mem fun i _ => one_index _ _]
  rfl

theorem bestAt_best (v : FVec Ideal S8x1024 .f32) (f : Fin 8192 → EReal) (h : Flat v f) (j j' : S1.Idx) : Best f (bestAt v j j') :=
  best_folds (s := S1x8x1024) numel_row (h.cast shapeCasts_S8x1024_S1x8x1024) (max_fold _ j)
    ((masked_flat v f h _).cast shapeCasts_S8x1024_S1x8x1024) (min_fold _ j')

theorem extract_one {α : Type} (y : S1.Idx → α) (j : S1.Idx) : extractAt ![0, 0, 0] (shapeCast S1x1x1 y shapeCasts_S1_S1x1x1) inpos_S1x1x1_p0_0_0 = y j := by
  unfold extractAt shapeCast
  exact congrArg y (one_index _ _)

theorem spread_word (w : BitVec 32) (x : S1x128.Idx) : shapeCast S1x128 (broadcast S128 w) shapeCasts_S128_S1x128 x = w := rfl

theorem fwd_word (v0 : Vec Ideal S1x8x1024 .f32) (u : BitVec 32) (R : Vec Ideal S1x1x8192 .f32) (G : Vec Ideal S1x8x1024 .f32) (x : S1x128.Idx) (j : S1.Idx) :
    k1_pay6 (F := Ideal) v0 u R G x = bestAt (addf (log (addf (Scalar.select (Scalar.cmpi .sgt u 0#32)
      (shapeCast S8x1024 (shapeCast S1x1x8192 R shapeCasts_S1x1x8192_S1x1x8192) shapeCasts_S1x1x8192_S8x1024) (k1_pay5 v0))
      (broadcast S8x1024 (Scalar.ofBits .f32 0x2B8CBCCC#32)))) (shapeCast S8x1024 G shapeCasts_S1x8x1024_S8x1024)) j j := by
  unfold k1_pay6 bestAt
  dsimp only
  rw [spread_word, extract_one _ j, extract_one _ j]

/-- The forward body's result for a row. -/
theorem fwd_best (v0 : Vec Ideal S1x8x1024 .f32) (u : BitVec 32) (R : Vec Ideal S1x1x8192 .f32) (G : Vec Ideal S1x8x1024 .f32)
    (q r g : Fin 8192 → EReal) (h0 : Flat v0 q) (hR : Flat R r) (hG : Flat G g) (x : S1x128.Idx) :
    Best (fwdScore (Scalar.cmpi .sgt u 0#32) r q g) (k1_pay6 (F := Ideal) v0 u R G x) := by
  rw [fwd_word v0 u R G x (Shape.Idx.ofFin (n := 1) 0)]
  refine bestAt_best _ _ (fun i k hk => ?_) _ _
  have h1 := (hR.cast shapeCasts_S1x1x8192_S1x1x8192).cast shapeCasts_S1x1x8192_S8x1024 i k hk
  have h2 : k1_pay5 (F := Ideal) v0 i = q k := h0.cast _ i k hk
  have h3 := hG.cast shapeCasts_S1x8x1024_S8x1024 i k hk
  have h4 : Scalar.select (Scalar.cmpi .sgt u 0#32)
      (shapeCast S8x1024 (shapeCast S1x1x8192 R shapeCasts_S1x1x8192_S1x1x8192) shapeCasts_S1x1x8192_S8x1024) (k1_pay5 (F := Ideal) v0) i
      = Scalar.select (Scalar.cmpi .sgt u 0#32) (r k) (q k) := by
    rw [← h1, ← h2]
    unfold Scalar.select
    split <;> rfl
  show Ideal.log (Scalar.select (Scalar.cmpi .sgt u 0#32)
      (shapeCast S8x1024 (shapeCast S1x1x8192 R shapeCasts_S1x1x8192_S1x1x8192) shapeCasts_S1x1x8192_S8x1024) (k1_pay5 (F := Ideal) v0) i + tiny)
      + shapeCast S8x1024 G shapeCasts_S1x8x1024_S8x1024 i = _
  rw [h4, h3]
  rfl

/-- A sum over the array, as the bodies take it. -/
theorem sum_flat (v : FVec Ideal S8x1024 .f32) (f : Fin 8192 → EReal) (h : Flat v f) (j : S1.Idx) :
    multiReduction .add [1, 2] S1 (shapeCast S1x8x1024 v shapeCasts_S8x1024_S1x8x1024) 0x00000000#32 reduces_S1x8x1024_S1 (.inl rfl) rfl j = ∑ k, f k :=
  (Ideal.multiReduction_add_total _ _ _ (fun b => match b with | ⟨0, _⟩ => rfl) _ _ j).trans ((h.cast _).sum numel_row)

/-- An array divided by its sum plus the small number, as the backward body divides. -/
def sharesOf (v : FVec Ideal S8x1024 .f32) (j : S1.Idx) : FVec Ideal S8x1024 .f32 :=
  divf v (broadcast S8x1024 (Scalar.addf (multiReduction .add [1, 2] S1 (shapeCast S1x8x1024 v shapeCasts_S8x1024_S1x8x1024) 0x00000000#32 reduces_S1x8x1024_S1 (.inl rfl) rfl j)
    (Scalar.ofBits .f32 0x2EDBE6FF#32)))

theorem sharesOf_flat (v : FVec Ideal S8x1024 .f32) (f : Fin 8192 → EReal) (h : Flat v f) (j : S1.Idx) :
    Flat (sharesOf v j) fun k => Ideal.div (f k) ((∑ k, f k) + small) := fun i k hk => by
  show Ideal.div (v i) (multiReduction .add [1, 2] S1 (shapeCast S1x8x1024 v shapeCasts_S8x1024_S1x8x1024) 0x00000000#32 reduces_S1x8x1024_S1 (.inl rfl) rfl j + small) = _
  rw [h i k hk, sum_flat v f h]

theorem bwd_word (V : Vec Ideal S1x8x1024 .f32) (R : Vec Ideal S1x1x8192 .f32) (G : Vec Ideal S1x8x1024 .f32) (x : S1x128.Idx) (j : S1.Idx) :
    k2_pay12 (k2_pay4 (F := Ideal) V R G) x = bestAt (addf (log (addf (sharesOf
      (mulf (shapeCast S8x1024 (shapeCast S1x1x8192 R shapeCasts_S1x1x8192_S1x1x8192) shapeCasts_S1x1x8192_S8x1024)
        (sharesOf (shapeCast S8x1024 V shapeCasts_S1x8x1024_S8x1024) j)) j)
      (broadcast S8x1024 (Scalar.ofBits .f32 0x2B8CBCCC#32)))) (shapeCast S8x1024 G shapeCasts_S1x8x1024_S8x1024)) j j := by
  unfold k2_pay12 k2_pay4 bestAt sharesOf
  dsimp only
  rw [spread_word, extract_one _ j, extract_one _ j, extract_one _ j, extract_one _ j]

/-- The backward body's result for a row. -/
theorem bwd_best (V : Vec Ideal S1x8x1024 .f32) (R : Vec Ideal S1x1x8192 .f32) (G : Vec Ideal S1x8x1024 .f32)
    (v r g : Fin 8192 → EReal) (hV : Flat V v) (hR : Flat R r) (hG : Flat G g) (x : S1x128.Idx) :
    Best (bwdScore r v g) (k2_pay12 (k2_pay4 (F := Ideal) V R G) x) := by
  rw [bwd_word V R G x (Shape.Idx.ofFin (n := 1) 0)]
  generalize (Shape.Idx.ofFin (n := 1) 0 : S1.Idx) = j₁
  have hp : Flat (mulf (shapeCast S8x1024 (shapeCast S1x1x8192 R shapeCasts_S1x1x8192_S1x1x8192) shapeCasts_S1x1x8192_S8x1024)
      (sharesOf (shapeCast S8x1024 V shapeCasts_S1x8x1024_S8x1024) j₁)) (pairing r v) := fun i k hk => by
    show shapeCast S8x1024 (shapeCast S1x1x8192 R shapeCasts_S1x1x8192_S1x1x8192) shapeCasts_S1x1x8192_S8x1024 i
      * sharesOf (shapeCast S8x1024 V shapeCasts_S1x8x1024_S8x1024) j₁ i = _
    rw [(hR.cast shapeCasts_S1x1x8192_S1x1x8192).cast shapeCasts_S1x1x8192_S8x1024 i k hk, sharesOf_flat _ _ (hV.cast shapeCasts_S1x8x1024_S8x1024) j₁ i k hk]
    rfl
  refine bestAt_best _ _ (fun i k hk => ?_) _ _
  have h1 := sharesOf_flat _ _ hp j₁ i k hk
  have h3 := hG.cast shapeCasts_S1x8x1024_S8x1024 i k hk
  exact congrArg₂ (fun a b : EReal => Ideal.log (a + tiny) + b) h1 h3

end Cert.KernelIdeal.Smooth

end
-- ==== Proof.Result.lean ====
/-
  The program's result on the extended reals, position by position: where a lone masked position is, the first position of the
  greatest of its backward scores; where another masked one is, of its forward scores; elsewhere the symbol.
-/
module

public import proofs.«01_k».proof.Proof.Scores
public import proofs.«01_k».proof.Proof.HypsIdeal

@[expose] public section

set_option maxRecDepth 16384

noncomputable section

namespace Cert.KernelIdeal.Smooth

open Cert.KernelIdeal Cert.KernelIdeal.Gen Cert.Smooth

open Idealize.ShloMosaic Idealize.SL.Sem
open Shape.Idx (ofFin)

/-- The row of a matrix that a word names. -/
def rowAt (w : BitVec 32) : Fin 8192 := ⟨w.toNat % 8192, Nat.mod_lt _ (by decide)⟩

/-- The forward scores at a position. -/
def scoreF (z : S2048.Idx → BitVec 32) (c : S2048.Idx → BitVec 1) (M : S8192x8192.Idx → EReal) (q : S8192.Idx → EReal) (gf : S2048x8192.Idx → EReal)
    (p : Fin 2048) : Fin 8192 → EReal :=
  fwdScore (prevUn c (ofFin p)) (fun k => M (ValueIdx.ix2 (rowAt (prevSym z (ofFin p))) k)) (fun k => q (ofFin k)) fun k => gf (ValueIdx.ix2 p k)

/-- The backward scores at a position. -/
def scoreB (z : S2048.Idx → BitVec 32) (M : S8192x8192.Idx → EReal) (gb : S2048x8192.Idx → EReal) (p : Fin 2048) : Fin 8192 → EReal :=
  bwdScore (fun k => M (ValueIdx.ix2 (rowAt (prevSym z (ofFin p))) k)) (fun k => M (ValueIdx.ix2 k (rowAt (nextSym z (ofFin p))))) fun k => gb (ValueIdx.ix2 p k)

/-- What a result has to be at every position. -/
def Answer (z : S2048.Idx → BitVec 32) (c : S2048.Idx → BitVec 1) (M : S8192x8192.Idx → EReal) (q : S8192.Idx → EReal)
    (gf gb : S2048x8192.Idx → EReal) (r : S2048.Idx → BitVec 32) : Prop :=
  ∀ p : Fin 2048, (lone c (ofFin p) = 1#1 → Best (scoreB z M gb p) (r (ofFin p))) ∧
    (lone c (ofFin p) ≠ 1#1 → c (ofFin p) = 1#1 → Best (scoreF z c M q gf p) (r (ofFin p))) ∧
    (lone c (ofFin p) ≠ 1#1 → c (ofFin p) ≠ 1#1 → r (ofFin p) = z (ofFin p))

theorem Answer.unique {z : S2048.Idx → BitVec 32} {c : S2048.Idx → BitVec 1} {M : S8192x8192.Idx → EReal} {q : S8192.Idx → EReal}
    {gf gb : S2048x8192.Idx → EReal} {r r' : S2048.Idx → BitVec 32} (h : Answer z c M q gf gb r) (h' : Answer z c M q gf gb r') : r = r' := by
  funext i
  rw [Shape.Idx.eq_ofFin (n := 2048) i]
  obtain ⟨h1, h2, h3⟩ := h (i 0)
  obtain ⟨g1, g2, g3⟩ := h' (i 0)
  by_cases hl : lone c (ofFin (i 0)) = 1#1
  · exact (h1 hl).unique (g1 hl)
  · by_cases hc : c (ofFin (i 0)) = 1#1
    · exact (h2 hl hc).unique (g2 hl hc)
    · exact (h3 hl hc).trans (g3 hl hc).symm

/-! ## Rows of the arrays the regions read -/

theorem flat_row (X : S8192x8192.Idx → EReal) (R : S1x1x8192.Idx → EReal) (w : Fin 8192)
    (hR : ∀ (z : S1x1x8192.Idx) (z' : S8192x1x8192.Idx), (z' 0).val = w.val → z' 1 = z 1 → z' 2 = z 2 →
      R z = shapeCast S8192x1x8192 X shapeCasts_S8192x8192_S8192x1x8192 z') : Flat R fun k => X (ValueIdx.ix2 w k) := fun z k hk => by
  have h3 := (Shape.rowMajor_val_three z).symm.trans hk
  have h0 : (z 0).val < 1 := (z 0).isLt
  have h1 : (z 1).val < 1 := (z 1).isLt
  have h2 : (z 2).val = k.val := by
    have : ((z 0).val * 1 + (z 1).val) * 8192 + (z 2).val = k.val := h3
    omega
  rw [hR z (ValueIdx.ix3 w (z 1) (z 2)) rfl rfl rfl]
  refine shapeCast_apply _ _ _ (ValueIdx.ix2 w k) ((Shape.rowMajor_val_two _).trans (Eq.trans ?_ (Shape.rowMajor_val_three _).symm))
  show w.val * 8192 + k.val = (w.val * 1 + (z 1).val) * 8192 + (z 2).val
  omega

theorem flat_noise (X : S2048x8192.Idx → EReal) (G : S1x8x1024.Idx → EReal) (p : Fin 2048)
    (hG : ∀ (z : S1x8x1024.Idx) (z' : S2048x8x1024.Idx), (z' 0).val = p.val → z' 1 = z 1 → z' 2 = z 2 →
      G z = shapeCast S2048x8x1024 X shapeCasts_S2048x8192_S2048x8x1024 z') : Flat G fun k => X (ValueIdx.ix2 p k) := fun z k hk => by
  have h3 := (Shape.rowMajor_val_three z).symm.trans hk
  have h0 : (z 0).val < 1 := (z 0).isLt
  have h2 : ((z 0).val * 8 + (z 1).val) * 1024 + (z 2).val = k.val := h3
  rw [hG z (ValueIdx.ix3 p (z 1) (z 2)) rfl rfl rfl]
  refine shapeCast_apply _ _ _ (ValueIdx.ix2 p k) ((Shape.rowMajor_val_two _).trans (Eq.trans ?_ (Shape.rowMajor_val_three _).symm))
  show p.val * 8192 + k.val = (p.val * 8 + (z 1).val) * 1024 + (z 2).val
  omega

theorem flat_block (X : S8388608.Idx → EReal) (V : S1x8x1024.Idx → EReal) (b : Fin 1024)
    (hV : ∀ (z : S1x8x1024.Idx) (z' : S1024x8x1024.Idx), (z' 0).val = b.val → z' 1 = z 1 → z' 2 = z 2 →
      V z = shapeCast S1024x8x1024 X shapeCasts_S8388608_S1024x8x1024 z') :
    Flat V fun k => X (ofFin (n := 8388608) ⟨b.val * 8192 + k.val, by omega⟩) := fun z k hk => by
  have h3 := (Shape.rowMajor_val_three z).symm.trans hk
  have h0 : (z 0).val < 1 := (z 0).isLt
  have h2 : ((z 0).val * 8 + (z 1).val) * 1024 + (z 2).val = k.val := h3
  rw [hV z (ValueIdx.ix3 b (z 1) (z 2)) rfl rfl rfl]
  refine shapeCast_apply _ _ _ _ ((Shape.rowMajor_val_one _).trans (Eq.trans ?_ (Shape.rowMajor_val_three _).symm))
  show b.val * 8192 + k.val = (b.val * 8 + (z 1).val) * 1024 + (z 2).val
  omega

theorem flat_list (q : S8192.Idx → EReal) : Flat (s := S8192) q fun k => q (ofFin k) := fun i k hk => by
  refine congrArg q ((Shape.Idx.eq_ofFin (n := 8192) i).trans (congrArg _ (Fin.ext ?_)))
  exact (Shape.rowMajor_val_one i).symm.trans hk

/-- One entry of a flat matrix. -/
theorem flat_entry (X : S8192x8192.Idx → EReal) (i : S67108864.Idx) (k s : Fin 8192) (h : (i 0).val = k.val * 8192 + s.val) :
    shapeCast S67108864 X shapeCasts_S8192x8192_S67108864 i = X (ValueIdx.ix2 k s) :=
  shapeCast_apply _ _ _ _ ((Shape.rowMajor_val_two _).trans (Eq.trans h.symm (Shape.rowMajor_val_one _).symm))

/-! ## A result's row -/

theorem one_or_zero (b : BitVec 1) : b = 1#1 ∨ b = 0#1 := by
  revert b; decide

theorem sgt_extui (b : BitVec 1) : Scalar.cmpi .sgt (b.setWidth 32) 0#32 = b := by
  revert b; decide

/-- The first word of a row of the forward results. -/
theorem first_fwd (A : S2048x128.Idx → BitVec 32) (r : Fin 2048) :
    shapeCast S2048 (extractStridedSlice S2048x1 ![0, 0] A slices_S2048x128_S2048x1_0_0) shapeCasts_S2048x1_S2048 (ofFin r) = A (ValueIdx.ix2 r (0 : Fin 128)) := by
  refine (shapeCast_apply _ _ _ (ValueIdx.ix2 r (0 : Fin 1)) ((Shape.rowMajor_val_two _).trans (Eq.trans ?_ (Shape.rowMajor_val_one _).symm))).trans ?_
  · show r.val * 1 + 0 = r.val
    omega
  · exact extractStridedSlice_apply _ _ _ _ (ValueIdx.ix2 r (0 : Fin 128)) fun a => match a with
      | ⟨0, _⟩ => (Nat.zero_add _).symm
      | ⟨1, _⟩ => rfl

theorem first_bwd (A : S1024x128.Idx → BitVec 32) (r : Fin 1024) :
    shapeCast S1024 (extractStridedSlice S1024x1 ![0, 0] A slices_S1024x128_S1024x1_0_0) shapeCasts_S1024x1_S1024 (ofFin r) = A (ValueIdx.ix2 r (0 : Fin 128)) := by
  refine (shapeCast_apply _ _ _ (ValueIdx.ix2 r (0 : Fin 1)) ((Shape.rowMajor_val_two _).trans (Eq.trans ?_ (Shape.rowMajor_val_one _).symm))).trans ?_
  · show r.val * 1 + 0 = r.val
    omega
  · exact extractStridedSlice_apply _ _ _ _ (ValueIdx.ix2 r (0 : Fin 128)) fun a => match a with
      | ⟨0, _⟩ => (Nat.zero_add _).symm
      | ⟨1, _⟩ => rfl

/-- Where the symbol before is itself masked, the row named is not looked at. -/
theorem pick_row (X : S8192x8192.Idx → EReal) (u : BitVec 1) (w : BitVec 32) (q g : Fin 8192 → EReal) :
    fwdScore u (fun k => X (ValueIdx.ix2 (rowAt (Scalar.select u w 0#32)) k)) q g = fwdScore u (fun k => X (ValueIdx.ix2 (rowAt w) k)) q g := by
  rcases one_or_zero u with rfl | rfl <;> rfl

theorem fwdUn_at (c : S2048.Idx → BitVec 1) (r p : Fin 2048) (hp : fwdPos c (ofFin r) = BitVec.ofNat 32 p.val) :
    Scalar.cmpi .sgt (fwdUn c (ofFin r)) 0#32 = prevUn c (ofFin p) := by
  have h : fwdUn c (ofFin r) = (prevUn c (ofFin p)).setWidth 32 :=
    congrArg (fun b : BitVec 1 => b.setWidth 32) (look_at (prevUn c) (fwdPos c) r p hp)
  rw [h, sgt_extui]

theorem fwdPrev_at (z : S2048.Idx → BitVec 32) (c : S2048.Idx → BitVec 1) (r p : Fin 2048) (hp : fwdPos c (ofFin r) = BitVec.ofNat 32 p.val) :
    fwdPrev z c (ofFin r) = Scalar.select (prevUn c (ofFin p)) (prevSym z (ofFin p)) 0#32 := by
  have h : fwdPrev z c (ofFin r) = Scalar.select (Scalar.cmpi .sgt (fwdUn c (ofFin r)) 0#32) (look (prevSym z) (fwdPos c) (ofFin r)) 0#32 := rfl
  rw [h, fwdUn_at c r p hp, look_at _ _ r p hp]

variable (m : (ℓ : Loc nD τ sig) → Buf (Elt Ideal) ℓ) (d : Dev nD)

theorem rowAt_of {w : BitVec 32} (h : w.toNat < 8192) : (rowAt w).val = w.toNat := Nat.mod_eq_of_lt h

/-- The forward results: row `spot c p` belongs to the masked position `p`. -/
theorem fwd_row (hz : ∀ j, (Az m d j).toNat < 8192) (p r : Fin 2048) (hr : r.val < marks (Ac m d)) (he : entry (Ac m d) r = p) (v : BitVec 32)
    (h : FwdRow (W2 m d) (ofFin r) v) : Best (scoreF (Az m d) (Ac m d) (AM m d) (Aq m d) (Agf m d) p) v := by
  obtain ⟨x, R, G, hR, hG, hv⟩ := h
  rw [hv]
  have hp : fwdPos (Ac m d) (ofFin r) = BitVec.ofNat 32 p.val := by
    rw [fwdPos_at]
    unfold fwdAt
    rw [if_pos hr, he]
  have e25 : at0 (W2 m d) main_v25 = fwdPos (Ac m d) := W2_v25 m d
  have e43 : at0 (W2 m d) main_v43 = fwdPrev (Az m d) (Ac m d) := W2_v43 m d
  have e33 : at0 (W2 m d) main_v33 = fwdUn (Ac m d) := W2_v33 m d
  have e87 : at0 (W2 m d) main_v87 = shapeCast S8192x1x8192 (AM m d) shapeCasts_S8192x8192_S8192x1x8192 := W2_v87 m d
  have e0 : at0 (W2 m d) main_v0 = shapeCast S2048x8x1024 (Agf m d) shapeCasts_S2048x8192_S2048x8x1024 := W2_v0 m d
  have e85 : at0 (W2 m d) main_v85 = shapeCast S1x8x1024 (Aq m d) shapeCasts_S8192_S1x8x1024 := W2_v85 m d
  have hun := fwdUn_at (Ac m d) r p hp
  have hpr := fwdPrev_at (Az m d) (Ac m d) r p hp
  have hlt := fwdPrev_lt (Az m d) (Ac m d) hz (ofFin r)
  rw [e25, e0, hp, word_nat p.isLt] at hG
  rw [e43, e87] at hR
  have fR := flat_row (AM m d) R (rowAt (fwdPrev (Az m d) (Ac m d) (ofFin r))) (by rw [rowAt_of hlt]; exact hR)
  have fG := flat_noise (Agf m d) G p hG
  have fq := (flat_list (Aq m d)).cast shapeCasts_S8192_S1x8x1024
  have hb := fwd_best (at0 (W2 m d) main_v85) (at0 (W2 m d) main_v33 (ofFin r)) R G _ _ _ (by rw [e85]; exact fq) fR fG x
  have hs : fwdScore (Scalar.cmpi .sgt (at0 (W2 m d) main_v33 (ofFin r)) 0#32)
      (fun k => AM m d (ValueIdx.ix2 (rowAt (fwdPrev (Az m d) (Ac m d) (ofFin r))) k)) (fun k => Aq m d (ofFin k)) (fun k => Agf m d (ValueIdx.ix2 p k))
      = scoreF (Az m d) (Ac m d) (AM m d) (Aq m d) (Agf m d) p := by
    rw [e33, hun, hpr, pick_row]
    unfold scoreF
    exact Eq.refl _
  rw [hs] at hb
  exact hb

/-- The backward results likewise. -/
theorem bwd_row (A1 : S2048x128.Idx → BitVec 32) (hz : ∀ j, (Az m d j).toNat < 8192) (p : Fin 2048) (r : Fin 1024)
    (hr : r.val < marks (lone (Ac m d))) (he : entry (lone (Ac m d)) (small r) = p) (v : BitVec 32)
    (h : BwdRow (W4 m d A1) (ofFin r) v) : Best (scoreB (Az m d) (AM m d) (Agb m d) p) v := by
  obtain ⟨x, R, G, V, hR, hG, hV, rfl⟩ := h
  have hp : bwdPos (Ac m d) (ofFin r) = BitVec.ofNat 32 p.val := by
    rw [bwdPos_at]
    unfold bwdAt
    rw [if_pos hr, he]
  have e55 : at0 (W4 m d A1) main_v55 = bwdPos (Ac m d) := W4_v55 m d A1
  have e62 : at0 (W4 m d A1) main_v62 = look' (prevSym (Az m d)) (bwdPos (Ac m d)) := W4_v62 m d A1
  have e87 : at0 (W4 m d A1) main_v87 = shapeCast S8192x1x8192 (AM m d) shapeCasts_S8192x8192_S8192x1x8192 := W4_v87 m d A1
  have e1 : at0 (W4 m d A1) main_v1 = shapeCast S2048x8x1024 (Agb m d) shapeCasts_S2048x8192_S2048x8x1024 := W4_v1 m d A1
  have e86 : at0 (W4 m d A1) main_v86 = shapeCast S1024x8x1024 (picked (Xm m d) (Im m d)) shapeCasts_S8388608_S1024x8x1024 := W4_v86 m d A1
  have hpr := look'_at (prevSym (Az m d)) (bwdPos (Ac m d)) r p hp
  have hnx := look'_at (nextSym (Az m d)) (bwdPos (Ac m d)) r p hp
  have hlt := prevSym_lt (Az m d) hz (ofFin p)
  have hlt' := nextSym_lt (Az m d) hz (ofFin p)
  rw [e55, e1, hp, word_nat p.isLt] at hG
  rw [e62, e87, hpr] at hR
  rw [e86] at hV
  have fR := flat_row (AM m d) R (rowAt (prevSym (Az m d) (ofFin p))) (by rw [rowAt_of hlt]; exact hR)
  have fG := flat_noise (Agb m d) G p hG
  have fV := flat_block (picked (Xm m d) (Im m d)) V r hV
  have hv : (fun k : Fin 8192 => picked (Xm m d) (Im m d) (ofFin (n := 8388608) ⟨r.val * 8192 + k.val, by omega⟩))
      = fun k => AM m d (ValueIdx.ix2 k (rowAt (nextSym (Az m d) (ofFin p)))) := by
    funext k
    have hw : Im m d (ofFin (n := 8388608) ⟨r.val * 8192 + k.val, by omega⟩)
        = nextSym (Az m d) (ofFin p) + BitVec.ofNat 32 k.val * 8192#32 := by
      rw [Im_eq, wordPos_at _ _ _ r k rfl, bwdUse_at, if_pos hr, hnx]
      rfl
    have hn : (nextSym (Az m d) (ofFin p) + BitVec.ofNat 32 k.val * 8192#32).toNat = k.val * 8192 + (nextSym (Az m d) (ofFin p)).toNat := by
      have := k.isLt
      rw [BitVec.toNat_add, BitVec.toNat_mul, BitVec.toNat_ofNat, BitVec.toNat_ofNat]
      omega
    unfold picked
    rw [Xm_eq]
    refine flat_entry (AM m d) _ k _ ?_
    show (Im m d (ofFin (n := 8388608) ⟨r.val * 8192 + k.val, by omega⟩)).toNat % 67108864 = _
    have := k.isLt
    rw [hw, hn, rowAt_of hlt']
    omega
  rw [hv] at fV
  exact bwd_best V R G _ _ _ fV fR fG x

/-! ## The joined result -/

theorem joined_answer (hz : ∀ j, (Az m d j).toNat < 8192) (A1 : S2048x128.Idx → BitVec 32) (A2 : S1024x128.Idx → BitVec 32) (hS : Sampled m d A1 A2) :
    Answer (Az m d) (Ac m d) (AM m d) (Aq m d) (Agf m d) (Agb m d) (joined (Az m d) (Ac m d) A1 A2) := fun p => by
  have hj : joined (Az m d) (Ac m d) A1 A2 (ofFin p) = Scalar.select (lone (Ac m d) (ofFin p))
      (takeBwd (shapeCast S1024 (extractStridedSlice S1024x1 ![0, 0] A2 slices_S1024x128_S1024x1_0_0) shapeCasts_S1024x1_S1024)
        (minsi (place (order (lone (Ac m d)))) (broadcastInDim S2048 ![] bcast_S_S2048 (constantI S_ 32 1023#32))) (ofFin p))
      (Scalar.select (Ac m d (ofFin p))
        (takeFwd (shapeCast S2048 (extractStridedSlice S2048x1 ![0, 0] A1 slices_S2048x128_S2048x1_0_0) shapeCasts_S2048x1_S2048)
          (place (order (Ac m d))) (ofFin p)) (Az m d (ofFin p))) := rfl
  refine ⟨fun hl => ?_, fun hl hc => ?_, fun hl hc => ?_⟩
  · have hm := (spot_marked (lone (Ac m d)) p).2 hl
    have h1024 := marks_lone (Ac m d)
    have hpl (j : S2048.Idx) : ∃ s : Fin 2048, place (order (lone (Ac m d))) j = BitVec.ofNat 32 s.val :=
      ⟨_, (congrArg _ (Shape.Idx.eq_ofFin (n := 2048) j)).trans (place_at (lone (Ac m d)) (j 0))⟩
    have hmin (x : BitVec 32) (s : Fin 2048) (hx : x = BitVec.ofNat 32 s.val) : (IntOp.minsi x 1023#32).toInt = min (s.val : ℤ) 1023 := by
      rw [minsi_toInt, hx, toInt_small _ (by have := s.isLt; omega)]
      rfl
    have hnn (x : BitVec 32) (n : ℕ) (hn : n < 2 ^ 31) (hx : x.toInt = n) : x = BitVec.ofNat 32 n :=
      BitVec.eq_of_toInt_eq (hx.trans (toInt_small n hn).symm)
    have ho (j : S2048.Idx) : (minsi (place (order (lone (Ac m d)))) (broadcastInDim S2048 ![] bcast_S_S2048 (constantI S_ 32 1023#32)) j).toNat < 1024 := by
      obtain ⟨s, hs⟩ := hpl j
      have h := hnn (IntOp.minsi (place (order (lone (Ac m d))) j) 1023#32) (min s.val 1023) (by omega) (by rw [hmin _ s hs]; omega)
      show (IntOp.minsi (place (order (lone (Ac m d))) j) 1023#32).toNat < 1024
      rw [h, BitVec.toNat_ofNat]
      omega
    have hk : minsi (place (order (lone (Ac m d)))) (broadcastInDim S2048 ![] bcast_S_S2048 (constantI S_ 32 1023#32)) (ofFin p)
        = BitVec.ofNat 32 (⟨(spot (lone (Ac m d)) p).val, by omega⟩ : Fin 1024).val := by
      refine hnn _ _ (by have := (spot (lone (Ac m d)) p).isLt; omega) ((hmin _ _ (place_at (lone (Ac m d)) p)).trans ?_)
      show min ((spot (lone (Ac m d)) p).val : ℤ) 1023 = ((spot (lone (Ac m d)) p).val : ℤ)
      omega
    rw [hj, hl, takeBwd_at _ _ ho p ⟨(spot (lone (Ac m d)) p).val, by omega⟩ hk, first_bwd]
    refine bwd_row m d A1 hz p ⟨(spot (lone (Ac m d)) p).val, by omega⟩ hm ?_ _ (hS.2 (ofFin (n := 1024) _) (ValueIdx.ix2 _ (0 : Fin 128)) rfl ?_)
    · exact entry_spot (lone (Ac m d)) p
    · rw [nBwd_eq]; exact hm
  · have hm := (spot_marked (Ac m d) p).2 hc
    have hl0 := (one_or_zero _).resolve_left hl
    have ho (j : S2048.Idx) : (place (order (Ac m d)) j).toNat < 2048 := by
      rw [(congrArg _ (Shape.Idx.eq_ofFin (n := 2048) j)).trans (place_at (Ac m d) (j 0)), word_nat (spot (Ac m d) (j 0)).isLt]
      exact (spot (Ac m d) (j 0)).isLt
    rw [hj, hl0, hc, takeFwd_at _ _ ho p (spot (Ac m d) p) (place_at (Ac m d) p), first_fwd]
    refine fwd_row m d hz p (spot (Ac m d) p) hm (entry_spot (Ac m d) p) _ (hS.1 (ofFin (n := 2048) _) (ValueIdx.ix2 _ (0 : Fin 128)) rfl ?_)
    rw [nFwd_eq]; exact hm
  · rw [hj, (one_or_zero _).resolve_left hl, (one_or_zero _).resolve_left hc]
    rfl

end Cert.KernelIdeal.Smooth

end
-- ==== Proof.RefTakes.lean ====
/-
  The reference's result on the extended reals, position by position, with every symbol below 8192: the rows and columns it takes are
  neither moved nor masked, a row's sum is the sum over its positions, and its argmax is the first position of the greatest score.
-/
module

public import proofs.«01_k».proof.Proof.RefRun
public import proofs.«01_k».proof.Proof.Result
public import Idealize.ShloMosaic.Lib.Pipeline.Value

@[expose] public section

set_option maxRecDepth 16384

noncomputable section

namespace Cert.ReferenceIdeal.Smooth

open Cert.ReferenceIdeal Cert.ReferenceIdeal.Gen Cert.Smooth
open Cert.KernelIdeal.Smooth (rowAt scoreF scoreB Answer one_or_zero)
open Idealize.ShloMosaic
open Shape.Idx (ofFin)

/-! ## Takes -/

theorem gather_rows {α : Type} (x : S8192x8192.Idx → α) (idx : IVec S2048x1 32) (p : Fin 2048) (k : Fin 8192) :
    Host.gather gather_S8192x8192_S2048x1_S2048x8192_1_0_n_n_0_1_18192 x idx (ValueIdx.ix2 p k)
      = x (ValueIdx.ix2 ⟨min (idx (ValueIdx.ix2 p (0 : Fin 1))).toInt.toNat 8191, by omega⟩ k) := by
  unfold Host.gather
  refine congrArg x (funext fun a => Fin.ext ?_)
  let d : GatherDims S8192x8192 S2048x1 S2048x8192 := gather_S8192x8192_S2048x1_S2048x8192_1_0_n_n_0_1_18192
  show d.start (ValueIdx.ix2 p k) idx a + d.batchCoord (ValueIdx.ix2 p k) a + d.offCoord (ValueIdx.ix2 p k) a = _
  rw [GatherDims.batchCoord_eq_zero _ _ _ List.not_mem_nil]
  match a with
  | ⟨0, _⟩ =>
    have h0 : d.offCoord (ValueIdx.ix2 p k) 0 = 0 :=
      GatherDims.offCoord_eq_zero _ _ _ (show ¬ (0 : Fin 2) ∈ d.sKept by decide)
    have h1 : d.start (ValueIdx.ix2 p k) idx 0 = min (idx (ValueIdx.ix2 p (0 : Fin 1))).toInt.toNat 8191 := by
      unfold GatherDims.start
      rw [dif_pos (show (0 : Fin 2) ∈ d.startIndexMap from List.mem_singleton.mpr rfl)]
      have hs : d.siIdx (ValueIdx.ix2 p k) ⟨List.idxOf (0 : Fin 2) d.startIndexMap, List.idxOf_lt_length_iff.2 (List.mem_singleton.mpr rfl)⟩
          = ValueIdx.ix2 p (0 : Fin 1) := by
        funext b; refine Fin.ext ?_
        match b with
        | ⟨0, _⟩ => rfl
        | ⟨1, _⟩ => rfl
      rw [hs]; rfl
    show d.start (ValueIdx.ix2 p k) idx 0 + 0 + d.offCoord (ValueIdx.ix2 p k) 0 = _
    rw [h0, h1]; rfl
  | ⟨1, _⟩ =>
    have h0 : d.start (ValueIdx.ix2 p k) idx 1 = 0 := by
      unfold GatherDims.start
      exact dif_neg (show ¬ (1 : Fin 2) ∈ ([0] : List (Fin 2)) by decide)
    have h1 : d.offCoord (ValueIdx.ix2 p k) 1 = k.val := by
      unfold GatherDims.offCoord
      exact dif_pos (show (1 : Fin 2) ∈ d.sKept by decide)
    show d.start (ValueIdx.ix2 p k) idx 1 + 0 + d.offCoord (ValueIdx.ix2 p k) 1 = k.val
    rw [h0, h1, Nat.zero_add]

theorem gather_cols {α : Type} (x : S8192x8192.Idx → α) (idx : IVec S2048x1 32) (k : Fin 8192) (s : Fin 2048) :
    Host.gather gather_S8192x8192_S2048x1_S8192x2048_0_1_n_n_1_1_81921 x idx (ValueIdx.ix2 k s)
      = x (ValueIdx.ix2 k ⟨min (idx (ValueIdx.ix2 s (0 : Fin 1))).toInt.toNat 8191, by omega⟩) := by
  unfold Host.gather
  refine congrArg x (funext fun a => Fin.ext ?_)
  let d : GatherDims S8192x8192 S2048x1 S8192x2048 := gather_S8192x8192_S2048x1_S8192x2048_0_1_n_n_1_1_81921
  show d.start (ValueIdx.ix2 k s) idx a + d.batchCoord (ValueIdx.ix2 k s) a + d.offCoord (ValueIdx.ix2 k s) a = _
  rw [GatherDims.batchCoord_eq_zero _ _ _ List.not_mem_nil]
  match a with
  | ⟨0, _⟩ =>
    have h0 : d.start (ValueIdx.ix2 k s) idx 0 = 0 := by
      unfold GatherDims.start
      exact dif_neg (show ¬ (0 : Fin 2) ∈ ([1] : List (Fin 2)) by decide)
    have h1 : d.offCoord (ValueIdx.ix2 k s) 0 = k.val := by
      unfold GatherDims.offCoord
      exact dif_pos (show (0 : Fin 2) ∈ d.sKept by decide)
    show d.start (ValueIdx.ix2 k s) idx 0 + 0 + d.offCoord (ValueIdx.ix2 k s) 0 = k.val
    rw [h0, h1, Nat.zero_add]
  | ⟨1, _⟩ =>
    have h0 : d.offCoord (ValueIdx.ix2 k s) 1 = 0 :=
      GatherDims.offCoord_eq_zero _ _ _ (show ¬ (1 : Fin 2) ∈ d.sKept by decide)
    have h1 : d.start (ValueIdx.ix2 k s) idx 1 = min (idx (ValueIdx.ix2 s (0 : Fin 1))).toInt.toNat 8191 := by
      unfold GatherDims.start
      rw [dif_pos (show (1 : Fin 2) ∈ d.startIndexMap from List.mem_singleton.mpr rfl)]
      have hs : d.siIdx (ValueIdx.ix2 k s) ⟨List.idxOf (1 : Fin 2) d.startIndexMap, List.idxOf_lt_length_iff.2 (List.mem_singleton.mpr rfl)⟩
          = ValueIdx.ix2 s (0 : Fin 1) := by
        funext b; refine Fin.ext ?_
        match b with
        | ⟨0, _⟩ => rfl
        | ⟨1, _⟩ => rfl
      rw [hs]; rfl
    show d.start (ValueIdx.ix2 k s) idx 1 + 0 + d.offCoord (ValueIdx.ix2 k s) 1 = _
    rw [h0, h1]; rfl

/-- No index is moved when they are all below 8192. -/
theorem wrap_eq (o : S2048.Idx → BitVec 32) (ho : ∀ i, (o i).toNat < 8192) : wrap o = o := by
  funext i
  show Scalar.select (IntOp.cmpi .slt (o i) 0#32) _ (o i) = o i
  have h : IntOp.cmpi .slt (o i) 0#32 = 0#1 := by
    have := ho i
    unfold IntOp.cmpi
    have : BitVec.slt (o i) 0#32 = false := by
      rw [BitVec.slt_eq_decide]
      refine decide_eq_false ?_
      rw [BitVec.toInt_eq_toNat_cond]
      simp only [BitVec.toInt_zero]
      omega
    simp only [this]; rfl
  rw [h]; rfl

theorem tests_of_lt (v : BitVec 32) (h : v.toNat < 8192) : IntOp.andi (IntOp.cmpi .sge v 0#32) (IntOp.cmpi .sle v 8191#32) = 1#1 := by
  have one (p : Bool) : (BitVec.ofBool p = 1#1) ↔ p = true := by cases p <;> decide
  refine IntOp.andi_eq_one.2 ⟨?_, ?_⟩ <;>
    simp only [IntOp.cmpi, one, BitVec.sle_eq_decide, decide_eq_true_eq, BitVec.toInt_eq_toNat_cond, BitVec.toNat_ofNat,
      Nat.reducePow, Nat.reduceMod] <;> omega

theorem inside_eq (o : S2048.Idx → BitVec 32) (ho : ∀ i, (o i).toNat < 8192) (b : S2048.Idx) : inside o b = 1#1 := by
  unfold inside
  rw [wrap_eq o ho]
  exact Host.reduce_andi_one _ _ reducesTo_S2048x1_S2048_d1 h_S_ _ rfl fun i => tests_of_lt _ (ho _)

theorem index_eq (o : S2048.Idx → BitVec 32) (ho : ∀ i, (o i).toNat < 8192) (p : Fin 2048) :
    (⟨min (broadcastInDim S2048x1 ![0] bcast_S2048_S2048x1_0 o (ValueIdx.ix2 p (0 : Fin 1))).toInt.toNat 8191, by omega⟩ : Fin 8192)
      = rowAt (o (ofFin p)) := by
  have e : broadcastInDim S2048x1 ![0] bcast_S2048_S2048x1_0 o (ValueIdx.ix2 p (0 : Fin 1)) = o (ofFin p) :=
    broadcastInDim_apply _ _ _ _ _ fun a => by obtain rfl : a = 0 := Subsingleton.elim _ _; rfl
  have hs := ho (ofFin p)
  refine Fin.ext ?_
  show min (broadcastInDim S2048x1 ![0] bcast_S2048_S2048x1_0 o (ValueIdx.ix2 p (0 : Fin 1))).toInt.toNat 8191 = (o (ofFin p)).toNat % 8192
  rw [e, BitVec.toInt_eq_toNat_cond]
  omega

theorem rows_apply (M : S8192x8192.Idx → EReal) (o : S2048.Idx → BitVec 32) (ho : ∀ i, (o i).toNat < 8192) (p : Fin 2048) (k : Fin 8192) :
    rows (F := Ideal) M o (ValueIdx.ix2 p k) = M (ValueIdx.ix2 (rowAt (o (ofFin p))) k) := by
  unfold rows
  rw [ValueIdx.select_apply, show broadcastInDim S2048x8192 ![0] bcast_S2048_S2048x8192_0 (inside o) (ValueIdx.ix2 p k) = 1#1 from inside_eq o ho _,
    wrap_eq o ho, gather_rows, index_eq o ho]
  rfl

theorem cols_apply (M : S8192x8192.Idx → EReal) (o : S2048.Idx → BitVec 32) (ho : ∀ i, (o i).toNat < 8192) (p : Fin 2048) (k : Fin 8192) :
    cols (F := Ideal) M o (ValueIdx.ix2 k p) = M (ValueIdx.ix2 k (rowAt (o (ofFin p)))) := by
  unfold cols
  rw [ValueIdx.select_apply, show broadcastInDim S8192x2048 ![1] bcast_S2048_S8192x2048_1 (inside o) (ValueIdx.ix2 k p) = 1#1 from inside_eq o ho _,
    wrap_eq o ho, gather_cols, index_eq o ho]
  rfl

/-! ## Sums and scores -/

theorem bcast_col {α : Type} (X : S2048x1.Idx → α) (p : Fin 2048) (k : Fin 8192) :
    broadcastInDim S2048x8192 ![0, 1] bcast_S2048x1_S2048x8192_0_1 X (ValueIdx.ix2 p k) = X (ValueIdx.ix2 p (0 : Fin 1)) :=
  broadcastInDim_apply _ _ _ _ _ fun a => match a with | ⟨0, _⟩ => rfl | ⟨1, _⟩ => rfl

theorem bcast_list {α : Type} (x : S2048.Idx → α) (p : Fin 2048) :
    broadcastInDim S2048x1 ![0] bcast_S2048_S2048x1_0 x (ValueIdx.ix2 p (0 : Fin 1)) = x (ofFin p) :=
  broadcastInDim_apply _ _ _ _ _ fun a => by obtain rfl : a = 0 := Subsingleton.elim _ _; rfl

theorem bcast_row {α : Type} (q : S8192.Idx → α) (p : Fin 2048) (k : Fin 8192) :
    broadcastInDim S2048x8192 ![0, 1] bcast_S1x8192_S2048x8192_0_1 (broadcastInDim S1x8192 ![1] bcast_S8192_S1x8192_1 q) (ValueIdx.ix2 p k)
      = q (ofFin k) := by
  refine (broadcastInDim_apply _ _ _ _ (ValueIdx.ix2 (0 : Fin 1) k) fun a => match a with | ⟨0, _⟩ => rfl | ⟨1, _⟩ => rfl).trans ?_
  exact broadcastInDim_apply _ _ _ _ _ fun a => by obtain rfl : a = 0 := Subsingleton.elim _ _; rfl

theorem reduces_rows : S2048x8192.Reduces [1] S2048 := by decide

theorem lift_row (p : Fin 2048) (k : Fin 8192) : reduces_rows.lift (ofFin (n := 2048) p) k = ValueIdx.ix2 p k := by
  funext a
  refine Fin.ext ?_
  match a with
  | ⟨0, _⟩ => rfl
  | ⟨1, _⟩ => rfl

theorem row_sum (X : S2048x8192.Idx → EReal) (p : Fin 2048) :
    Host.reduceAdd (F := Ideal) (φ := .f32) X (constant S_ .f32 0x00000000#32) reducesTo_S2048x8192_S2048_d1 h_S_ (ofFin p)
      = ∑ k : Fin 8192, X (ValueIdx.ix2 p k) := by
  refine (Ideal.hostReduceAdd_single reducesTo_S2048x8192_S2048_d1 reduces_rows X _ (ofFin (n := 2048) p)).trans ?_
  have h0 : (constant (F := Ideal) S_ .f32 0x00000000#32 (Shape.Idx.first h_S_) : EReal) = 0 := by
    show Ideal.ofBits .f32 0x00000000#32 = 0
    exact Ideal.ofBits_zero_f32
  refine (congrArg (· + _) h0).trans ((zero_add _).trans ?_)
  exact Finset.sum_congr rfl fun k _ => congrArg X (lift_row p k)

/-- A row's divisor. -/
theorem divisor_apply (X : S2048x8192.Idx → EReal) (p : Fin 2048) (k : Fin 8192) :
    broadcastInDim S2048x8192 ![0, 1] bcast_S2048x1_S2048x8192_0_1
      (addf (F := Ideal) (φ := .f32) (broadcastInDim S2048x1 ![0] bcast_S2048_S2048x1_0 (Host.reduceAdd (F := Ideal) (φ := .f32) X (constant S_ .f32 0x00000000#32) reducesTo_S2048x8192_S2048_d1 h_S_))
        (broadcastInDim S2048x1 ![] bcast_S_S2048x1 (constant (F := Ideal) S_ .f32 0x2EDBE6FF#32))) (ValueIdx.ix2 p k)
      = (∑ j : Fin 8192, X (ValueIdx.ix2 p j)) + small := by
  rw [bcast_col]
  refine (congrArg (fun v : EReal => v + small) ((bcast_list _ p).trans (row_sum X p)))

theorem normed_apply (X : S2048x8192.Idx → EReal) (p : Fin 2048) (k : Fin 8192) :
    normed (F := Ideal) X (ValueIdx.ix2 p k) = Ideal.div (X (ValueIdx.ix2 p k)) ((∑ j : Fin 8192, X (ValueIdx.ix2 p j)) + small) := by
  unfold normed
  exact congrArg (Ideal.div (X (ValueIdx.ix2 p k))) (divisor_apply X p k)

theorem noisy_apply (X g : S2048x8192.Idx → EReal) (i : S2048x8192.Idx) :
    noisy (F := Ideal) X g i = Ideal.log (X i + tiny) + g i := rfl

theorem spread_apply (u : S2048.Idx → BitVec 1) (X : S2048x8192.Idx → EReal) (q : S8192.Idx → EReal) (p : Fin 2048) (k : Fin 8192) :
    spread (F := Ideal) u X q (ValueIdx.ix2 p k) = Scalar.select (u (ofFin p)) (X (ValueIdx.ix2 p k)) (q (ofFin k)) := by
  unfold spread
  rw [ValueIdx.select_apply, bcast_col, bcast_list, bcast_row]

theorem products_apply (R : S2048x8192.Idx → EReal) (C : S8192x2048.Idx → EReal) (p : Fin 2048) (k : Fin 8192) :
    products (F := Ideal) R C (ValueIdx.ix2 p k)
      = R (ValueIdx.ix2 p k) * Ideal.div (C (ValueIdx.ix2 k p)) ((∑ j : Fin 8192, C (ValueIdx.ix2 j p)) + small) := by
  have ht (j : Fin 8192) : transpose S2048x8192 [1, 0] C transposes_S8192x2048_S2048x8192_1_0 (ValueIdx.ix2 p j) = C (ValueIdx.ix2 j p) :=
    transpose_apply [1, 0] C transposes_S8192x2048_S2048x8192_1_0 (ValueIdx.ix2 p j) (ValueIdx.ix2 j p)
      fun b => match b with | ⟨0, _⟩ => rfl | ⟨1, _⟩ => rfl
  unfold products
  show R (ValueIdx.ix2 p k) * normed (F := Ideal) _ (ValueIdx.ix2 p k) = _
  rw [normed_apply, ht]
  simp only [ht]

end Cert.ReferenceIdeal.Smooth

end
-- ==== Proof.RefFirst.lean ====
/-
  The reference's result on the extended reals, position by position, with every symbol below 8192: the rows and columns it takes are
  neither moved nor masked, a row's sum is the sum over its positions, and its argmax is the first position of the greatest score.
-/
module

public import proofs.«01_k».proof.Proof.RefRun
public import proofs.«01_k».proof.Proof.Result
public import Idealize.ShloMosaic.Lib.Pipeline.Value

@[expose] public section

set_option maxRecDepth 16384

noncomputable section

namespace Cert.ReferenceIdeal.Smooth

open Cert.ReferenceIdeal Cert.ReferenceIdeal.Gen Cert.Smooth
open Cert.KernelIdeal.Smooth (rowAt scoreF scoreB Answer one_or_zero)
open Idealize.ShloMosaic
open Shape.Idx (ofFin)

/-! ## The argmax -/

theorem reducer_wins (a b : EReal × BitVec 32) (h : Wins a b) : reducer_argmax_f32_i32 (F := Ideal) a b = a := by
  obtain ⟨a1, a2⟩ := a
  obtain ⟨b1, b2⟩ := b
  rcases h with h | ⟨h, h'⟩
  · have h2 : FloatOps.cmpf (F := Ideal) (φ := .f32) .ogt a1 b1 = 1#1 := by
      rw [Ideal.cmpf_def]
      simp [Ideal.cmp, show b1 < a1 from h]
    unfold reducer_argmax_f32_i32
    dsimp only
    rw [h2, show ∀ x : BitVec 1, IntOp.ori 1#1 x = 1#1 by decide, show ∀ x : BitVec 1, IntOp.ori 1#1 x = 1#1 by decide]
    rfl
  · have h0 : a1 = b1 := h
    subst h0
    have h2 : FloatOps.cmpf (F := Ideal) (φ := .f32) .oeq a1 a1 = 1#1 := by
      rw [Ideal.cmpf_def]
      simp [Ideal.cmp]
    have h3 : IntOp.cmpi .slt a2 b2 = 1#1 := by
      have : BitVec.slt a2 b2 = true := by rw [BitVec.slt_eq_decide]; exact decide_eq_true h'
      simp only [IntOp.cmpi, this]; rfl
    unfold reducer_argmax_f32_i32
    dsimp only
    rw [h2, h3, show IntOp.andi 1#1 1#1 = 1#1 by decide, show ∀ x : BitVec 1, IntOp.ori x 1#1 = 1#1 by decide]
    refine Prod.ext ?_ rfl
    rcases one_or_zero (IntOp.ori (FloatOps.cmpf (F := Ideal) (φ := .f32) .ogt a1 a1) (FloatOps.cmpf (F := Ideal) (φ := .f32) .une a1 a1)) with e | e <;>
      (rw [e]; rfl)

theorem reducer_loses (a b : EReal × BitVec 32) (h : ¬ Wins a b) : reducer_argmax_f32_i32 (F := Ideal) a b = b := by
  obtain ⟨a1, a2⟩ := a
  obtain ⟨b1, b2⟩ := b
  have h1 : ¬ b1 < a1 := fun e => h (Or.inl e)
  have h2 : FloatOps.cmpf (F := Ideal) (φ := .f32) .ogt a1 b1 = 0#1 := by
    rw [Ideal.cmpf_def]
    simp [Ideal.cmp, h1]
  have h3 : FloatOps.cmpf (F := Ideal) (φ := .f32) .une a1 a1 = 0#1 := by
    rw [Ideal.cmpf_def]
    simp [Ideal.cmp]
  have h4 : IntOp.andi (FloatOps.cmpf (F := Ideal) (φ := .f32) .oeq a1 b1) (IntOp.cmpi .slt a2 b2) = 0#1 := by
    refine (one_or_zero _).resolve_left fun e => h (Or.inr ?_)
    obtain ⟨e1, e2⟩ := IntOp.andi_eq_one.1 e
    have one (p : Bool) : (BitVec.ofBool p = 1#1) ↔ p = true := by cases p <;> decide
    rw [Ideal.cmpf_def] at e1
    refine ⟨by simpa [Ideal.cmp, one] using e1, ?_⟩
    simpa only [IntOp.cmpi, one, BitVec.slt_eq_decide, decide_eq_true_eq] using e2
  unfold reducer_argmax_f32_i32
  dsimp only
  rw [h2, h3, h4, show IntOp.ori 0#1 0#1 = 0#1 by decide, show IntOp.ori 0#1 0#1 = 0#1 by decide]
  rfl

/-- The pairs a reduction folds over. -/
theorem mem_fiber {s t : Shape} {axes : List (Fin s.rank)} {α β : Type} (x : s.Idx → α) (y : s.Idx → β) (h : s.ReducesTo axes t) (j : t.Idx) (v : α × β) :
    v ∈ Host.argReduceFiber x y h j ↔ ∃ i, h.drop i = j ∧ v = (x i, y i) := by
  unfold Host.argReduceFiber
  rw [List.mem_map]
  constructor
  · rintro ⟨n, hn, rfl⟩
    exact ⟨_, of_decide_eq_true (List.mem_filter.1 hn).2, rfl⟩
  · rintro ⟨i, hi, rfl⟩
    refine ⟨s.rowMajor i, List.mem_filter.2 ⟨List.mem_finRange _, decide_eq_true ?_⟩, ?_⟩
    · rw [Equiv.symm_apply_apply]
      exact hi
    · rw [Equiv.symm_apply_apply]

theorem drop_row (i : S2048x8192.Idx) : (reducesTo_S2048x8192_S2048_d1.drop i 0).val = (i 0).val := rfl

theorem drop_ix2 (p : Fin 2048) (k : Fin 8192) : reducesTo_S2048x8192_S2048_d1.drop (ValueIdx.ix2 p k) = ofFin (n := 2048) p := by
  funext b
  obtain rfl : b = 0 := Subsingleton.elim _ _
  exact Fin.ext (drop_row _)

theorem of_drop (i : S2048x8192.Idx) (p : Fin 2048) (h : reducesTo_S2048x8192_S2048_d1.drop i = ofFin (n := 2048) p) : i = ValueIdx.ix2 p (i 1) := by
  have h0 : (i 0).val = p.val := (drop_row i).symm.trans (congrArg (fun j : S2048.Idx => (j 0).val) h)
  funext a
  refine Fin.ext ?_
  match a with
  | ⟨0, _⟩ => exact h0
  | ⟨1, _⟩ => rfl

theorem row_pairs (X : S2048x8192.Idx → EReal) (p : Fin 2048) (v : EReal × BitVec 32) :
    v ∈ Host.argReduceFiber X (iotaInDim S2048x8192 32 1) reducesTo_S2048x8192_S2048_d1 (ofFin (n := 2048) p)
      ↔ ∃ k : Fin 8192, v = (X (ValueIdx.ix2 p k), BitVec.ofNat 32 k.val) := by
  rw [mem_fiber]
  constructor
  · rintro ⟨i, hi, hv⟩
    refine ⟨i 1, hv.trans (Prod.ext (congrArg X (of_drop i p hi)) ?_)⟩
    exact Eq.refl (BitVec.ofNat 32 (i 1).val)
  · rintro ⟨k, hv⟩
    refine ⟨ValueIdx.ix2 p k, drop_ix2 p k, hv.trans (Prod.ext (Eq.refl _) ?_)⟩
    exact Eq.refl (BitVec.ofNat 32 k.val)

/-- A pairwise reduction from (-inf, 0) whose pairs are `(g k, k)` chooses the first greatest. -/
theorem second_best {s t u : Shape} {axes : List (Fin s.rank)} (x : FVec Ideal s .f32) (y : s.Idx → BitVec 32) (ix : u.Idx → Ideal .f32) (iy : u.Idx → BitVec 32)
    (h : s.ReducesTo axes t) (hu : 0 < u.numel) (j : t.Idx) (g : Fin 8192 → EReal)
    (ha : ix (Shape.Idx.first hu) = (⊥ : EReal)) (hb : iy (Shape.Idx.first hu) = 0#32)
    (hL : ∀ v : EReal × BitVec 32, v ∈ Host.argReduceFiber x y h j ↔ ∃ k : Fin 8192, v = (g k, BitVec.ofNat 32 k.val)) :
    Best g (second (Host.argReduce (reducer_argmax_f32_i32 (F := Ideal)) x y ix iy h hu) j) := by
  have e : Host.argReduce (reducer_argmax_f32_i32 (F := Ideal)) x y ix iy h hu j
      = (Host.argReduceFiber x y h j).foldl (reducer_argmax_f32_i32 (F := Ideal)) ((⊥ : EReal), 0#32) := by
    rw [Ideal.argReduce_eq_reduce2, Host.reduce2_eq_foldl_fiber, ha, hb]
  unfold second
  rw [e]
  exact best_foldl (reducer_argmax_f32_i32 (F := Ideal)) reducer_wins reducer_loses _ g hL

theorem low_eq : constant (F := Ideal) S_ .f32 0xFF800000#32 (Shape.Idx.first h_S_) = (⊥ : EReal) := by
  unfold constant
  exact neg_inf

theorem first_best (X : S2048x8192.Idx → EReal) (p : Fin 2048) : Best (fun k => X (ValueIdx.ix2 p k)) (first (F := Ideal) X (ofFin (n := 2048) p)) := by
  unfold first
  exact second_best X (iotaInDim S2048x8192 32 1) (constant (F := Ideal) S_ .f32 0xFF800000#32) (constantI S_ 32 0#32) reducesTo_S2048x8192_S2048_d1 h_S_
    (ofFin (n := 2048) p) (fun k => X (ValueIdx.ix2 p k)) low_eq (Eq.refl (0#32)) (row_pairs X p)

end Cert.ReferenceIdeal.Smooth

end
-- ==== Proof.RefValue.lean ====
/-
  The reference's result on the extended reals, position by position, with every symbol below 8192: the rows and columns it takes are
  neither moved nor masked, a row's sum is the sum over its positions, and its argmax is the first position of the greatest score.
-/
module

public import proofs.«01_k».proof.Proof.RefTakes
public import proofs.«01_k».proof.Proof.RefFirst

@[expose] public section

set_option maxRecDepth 16384

noncomputable section

namespace Cert.ReferenceIdeal.Smooth

open Cert.ReferenceIdeal Cert.ReferenceIdeal.Gen Cert.Smooth
open Cert.KernelIdeal.Smooth (rowAt scoreF scoreB Answer one_or_zero)
open Idealize.ShloMosaic
open Shape.Idx (ofFin)

/-! ## The result -/

theorem prevSym_eq (z : S2048.Idx → BitVec 32) : prevSym z = Cert.KernelIdeal.Smooth.prevSym z := rfl
theorem nextSym_eq (z : S2048.Idx → BitVec 32) : nextSym z = Cert.KernelIdeal.Smooth.nextSym z := rfl
theorem prevUn_eq (c : S2048.Idx → BitVec 1) : prevUn c = Cert.KernelIdeal.Smooth.prevUn c := rfl
theorem nextUn_eq (c : S2048.Idx → BitVec 1) : nextUn c = Cert.KernelIdeal.Smooth.nextUn c := rfl
theorem lone_eq (c : S2048.Idx → BitVec 1) : Cert.KernelIdeal.Smooth.lone c = andi (andi c (Cert.KernelIdeal.Smooth.prevUn c)) (Cert.KernelIdeal.Smooth.nextUn c) := rfl

theorem backward (z : S2048.Idx → BitVec 32) (M : S8192x8192.Idx → EReal) (gb : S2048x8192.Idx → EReal) (hz : ∀ j, (z j).toNat < 8192) (p : Fin 2048)
    (k : Fin 8192) : noisy (F := Ideal) (normed (products (rows M (prevSym z)) (cols M (nextSym z)))) gb (ValueIdx.ix2 p k) = scoreB z M gb p k := by
  have hp : ∀ j, (Cert.KernelIdeal.Smooth.prevSym z j).toNat < 8192 := Cert.KernelIdeal.Smooth.prevSym_lt z hz
  have hn : ∀ j, (Cert.KernelIdeal.Smooth.nextSym z j).toNat < 8192 := Cert.KernelIdeal.Smooth.nextSym_lt z hz
  rw [prevSym_eq, nextSym_eq]
  have hc : (fun j => cols (F := Ideal) M (Cert.KernelIdeal.Smooth.nextSym z) (ValueIdx.ix2 j p))
      = fun j => M (ValueIdx.ix2 j (rowAt (Cert.KernelIdeal.Smooth.nextSym z (ofFin p)))) := funext fun j => cols_apply M _ hn p j
  have hpr (j : Fin 8192) : products (F := Ideal) (rows M (Cert.KernelIdeal.Smooth.prevSym z)) (cols M (Cert.KernelIdeal.Smooth.nextSym z)) (ValueIdx.ix2 p j)
      = pairing (fun k => M (ValueIdx.ix2 (rowAt (Cert.KernelIdeal.Smooth.prevSym z (ofFin p))) k))
        (fun k => M (ValueIdx.ix2 k (rowAt (Cert.KernelIdeal.Smooth.nextSym z (ofFin p))))) j := by
    rw [products_apply, rows_apply M _ hp, congrArg (fun f : Fin 8192 → EReal => ∑ j, f j) hc, cols_apply M _ hn]
    unfold pairing
    exact Eq.refl _
  have hs := congrArg (fun f : Fin 8192 → EReal => ∑ j, f j) (funext hpr)
  unfold scoreB bwdScore
  rw [noisy_apply, normed_apply]
  exact congrArg (fun v : EReal => Ideal.log (v + tiny) + gb (ValueIdx.ix2 p k)) (congrArg₂ (fun a b : EReal => Ideal.div a (b + small)) (hpr k) hs)

theorem forward (z : S2048.Idx → BitVec 32) (c : S2048.Idx → BitVec 1) (M : S8192x8192.Idx → EReal) (q : S8192.Idx → EReal) (gf : S2048x8192.Idx → EReal)
    (hz : ∀ j, (z j).toNat < 8192) (p : Fin 2048) (k : Fin 8192) :
    noisy (F := Ideal) (spread (prevUn c) (rows M (prevSym z)) q) gf (ValueIdx.ix2 p k) = scoreF z c M q gf p k := by
  have hp : ∀ j, (Cert.KernelIdeal.Smooth.prevSym z j).toNat < 8192 := Cert.KernelIdeal.Smooth.prevSym_lt z hz
  rw [prevSym_eq, prevUn_eq, noisy_apply, spread_apply, rows_apply M _ hp]
  unfold scoreF fwdScore
  exact Eq.refl _

theorem result_answer (z : S2048.Idx → BitVec 32) (c : S2048.Idx → BitVec 1) (M : S8192x8192.Idx → EReal) (q : S8192.Idx → EReal)
    (gf gb : S2048x8192.Idx → EReal) (hz : ∀ j, (z j).toNat < 8192) : Answer z c M q gf gb (result (F := Ideal) z c M q gf gb) := fun p => by
  have hb := (funext (backward z M gb hz p)) ▸ first_best (noisy (F := Ideal) (normed (products (rows M (prevSym z)) (cols M (nextSym z)))) gb) p
  have hf := (funext (forward z c M q gf hz p)) ▸ first_best (noisy (F := Ideal) (spread (prevUn c) (rows M (prevSym z)) q) gf) p
  unfold result
  generalize first (F := Ideal) (noisy (F := Ideal) (normed (products (rows M (prevSym z)) (cols M (nextSym z)))) gb) = B at hb ⊢
  generalize first (F := Ideal) (noisy (F := Ideal) (spread (prevUn c) (rows M (prevSym z)) q) gf) = A at hf ⊢
  rw [prevUn_eq, nextUn_eq, ← lone_eq, ValueIdx.select_apply, ValueIdx.select_apply]
  refine ⟨fun hl => ?_, fun hl hc => ?_, fun hl hc => ?_⟩
  · rw [hl]; exact hb
  · rw [(one_or_zero _).resolve_left hl, hc]; exact hf
  · rw [(one_or_zero _).resolve_left hl, (one_or_zero _).resolve_left hc]; exact Eq.refl _

end Cert.ReferenceIdeal.Smooth

end
-- ==== Proof.lean ====
/-
  The five claims of the masked sampling step.
-/
module

public import proofs.«01_k».proof.Defs
public import Idealize.ShloMosaic.Adequacy
public import Idealize.ShloMosaic.Init
public import proofs.«01_k».proof.Proof.Gen.Kernel
public import proofs.«01_k».proof.Proof.Gen.KernelIdeal
public import proofs.«01_k».proof.Proof.Gen.ReferenceIdeal
public import proofs.«01_k».proof.Proof.Gen.Pre_symbols_in_range
public import proofs.«01_k».proof.Proof.Symbols
public import proofs.«01_k».proof.Proof.Final
public import proofs.«01_k».proof.Proof.FinalIdeal
public import proofs.«01_k».proof.Proof.RefValue

@[expose] public section

noncomputable section

namespace Cert.Proof

open Idealize.ShloMosaic Idealize.SL.Sem

/-- Some value of each element type, for the buffers the launch allocates. -/
instance bits_nonempty (e : EltTy) : Nonempty (Elt Bits e) := ⟨default⟩
instance ideal_nonempty (e : EltTy) : Nonempty (Elt Ideal e) := ⟨default⟩

theorem frame_kernel : Cert.quiescent_Kernel := fun m g hpre =>
  (θ_run Cert.Kernel.defs _ _).mono (fun _ h => ⟨fun c => (h.1 c).2, h.2⟩)
    (Cert.Kernel.Smooth.run_final (F := Bits) m g fun d => Cert.Smooth.symbol_lt _ _ _ _ _ _ (hpre d))

theorem frame_ideal : Cert.quiescent_KernelIdeal := fun m g hpre =>
  (θ_run Cert.KernelIdeal.defs _ _).mono (fun _ h => ⟨fun c => (h.1 c).2, h.2⟩)
    (Cert.KernelIdeal.Smooth.run_final (F := Ideal) m g fun d => Cert.Smooth.symbol_lt _ _ _ _ _ _ (hpre d))

/-- The reference has no semaphore. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Smooth.run_result (F := Ideal) m g)

section

open Cert.KernelIdeal.Smooth (Az Ac AM Aq Agf Agb)

/-- Both results answer the same question, which has one answer. -/
theorem same_result : Cert.algebraic_KernelIdeal_ReferenceIdeal := fun m g m' g' hpre hagree => by
  have hz : ∀ d j, (Az (F := Ideal) m d j).toNat < 8192 := fun d => Cert.Smooth.symbol_lt _ _ _ _ _ _ (hpre d)
  refine ⟨fun c => Cert.ReferenceIdeal.Smooth.result (F := Ideal) (Az m c) (Ac m c) (AM m c) (Aq m c) (Agf m c) (Agb m c), ?_, ?_⟩
  · refine (θ_run Cert.KernelIdeal.defs _ _).mono (fun r h c => ⟨?_, (h.1 c).2⟩) (Cert.KernelIdeal.Smooth.run_final (F := Ideal) m g hz)
    obtain ⟨A1, A2, hS, hv⟩ := (h.1 c).1
    exact hv.trans (Cert.KernelIdeal.Smooth.Answer.unique (Cert.KernelIdeal.Smooth.joined_answer m c (hz c) A1 A2 hS)
      (Cert.ReferenceIdeal.Smooth.result_answer _ _ _ _ _ _ (hz c)))
  · refine (θ_run Cert.ReferenceIdeal.defs _ _).mono (fun r h c => ⟨(h c).1.trans ?_, (h c).2⟩)
      (Cert.ReferenceIdeal.Smooth.run_result (F := Ideal) m' g')
    obtain ⟨h0, h1, h2, h3, h4, h5⟩ := hagree c
    rw [h0, h1, h2, h3, h4, h5]
    rfl

end

theorem claim : Cert.Claim :=
  ⟨Cert.Kernel.Gen.facts, Cert.KernelIdeal.Gen.facts, Cert.ReferenceIdeal.Gen.facts, Cert.Pre_symbols_in_range.Gen.facts,
    frame_kernel, frame_ideal, frame_reference, trivial, same_result⟩

end Cert.Proof

end
